-- ==== Defs.lean ====
def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.2 = (fun _ => 1#1)

def Pre_KernelInp (m : (ℓ : Loc Cert.KernelInp.nD Cert.KernelInp.τ Cert.KernelInp.sig) → Buf (Elt Bits) ℓ) : Prop :=
  True

def Pre_KernelInpIdeal (m : (ℓ : Loc Cert.KernelInpIdeal.nD Cert.KernelInpIdeal.τ Cert.KernelInpIdeal.sig) → Buf (Elt Ideal) ℓ) : Prop :=
  True

def Pre_KernelInpIdeal_finite_inp [hPre_finite_inp : Cert.Pre_finite_inp.Facts] (m : (ℓ : Loc Cert.KernelInpIdeal.nD Cert.KernelInpIdeal.τ Cert.KernelInpIdeal.sig) → Buf (Elt Ideal) ℓ) : Prop :=
  ∀ c : Dev Cert.KernelInpIdeal.nD,
    (Cert.Pre_finite_inp.fn (F := Ideal) (m ((c.tc : Thread Cert.KernelInpIdeal.nD Cert.KernelInpIdeal.τ).loc Cert.KernelInpIdeal.main_arg0)) (m ((c.tc : Thread Cert.KernelInpIdeal.nD Cert.KernelInpIdeal.τ).loc Cert.KernelInpIdeal.main_arg1)) (m ((c.tc : Thread Cert.KernelInpIdeal.nD Cert.KernelInpIdeal.τ).loc Cert.KernelInpIdeal.main_arg2)) (m ((c.tc : Thread Cert.KernelInpIdeal.nD Cert.KernelInpIdeal.τ).loc Cert.KernelInpIdeal.main_arg3)) (m ((c.tc : Thread Cert.KernelInpIdeal.nD Cert.KernelInpIdeal.τ).loc Cert.KernelInpIdeal.main_arg4))).1 = (fun _ => 1#1)
    ∧ (Cert.Pre_finite_inp.fn (F := Ideal) (m ((c.tc : Thread Cert.KernelInpIdeal.nD Cert.KernelInpIdeal.τ).loc Cert.KernelInpIdeal.main_arg0)) (m ((c.tc : Thread Cert.KernelInpIdeal.nD Cert.KernelInpIdeal.τ).loc Cert.KernelInpIdeal.main_arg1)) (m ((c.tc : Thread Cert.KernelInpIdeal.nD Cert.KernelInpIdeal.τ).loc Cert.KernelInpIdeal.main_arg2)) (m ((c.tc : Thread Cert.KernelInpIdeal.nD Cert.KernelInpIdeal.τ).loc Cert.KernelInpIdeal.main_arg3)) (m ((c.tc : Thread Cert.KernelInpIdeal.nD Cert.KernelInpIdeal.τ).loc Cert.KernelInpIdeal.main_arg4))).2.1 = (fun _ => 1#1)
    ∧ (Cert.Pre_finite_inp.fn (F := Ideal) (m ((c.tc : Thread Cert.KernelInpIdeal.nD Cert.KernelInpIdeal.τ).loc Cert.KernelInpIdeal.main_arg0)) (m ((c.tc : Thread Cert.KernelInpIdeal.nD Cert.KernelInpIdeal.τ).loc Cert.KernelInpIdeal.main_arg1)) (m ((c.tc : Thread Cert.KernelInpIdeal.nD Cert.KernelInpIdeal.τ).loc Cert.KernelInpIdeal.main_arg2)) (m ((c.tc : Thread Cert.KernelInpIdeal.nD Cert.KernelInpIdeal.τ).loc Cert.KernelInpIdeal.main_arg3)) (m ((c.tc : Thread Cert.KernelInpIdeal.nD Cert.KernelInpIdeal.τ).loc Cert.KernelInpIdeal.main_arg4))).2.2.1 = (fun _ => 1#1)
    ∧ (Cert.Pre_finite_inp.fn (F := Ideal) (m ((c.tc : Thread Cert.KernelInpIdeal.nD Cert.KernelInpIdeal.τ).loc Cert.KernelInpIdeal.main_arg0)) (m ((c.tc : Thread Cert.KernelInpIdeal.nD Cert.KernelInpIdeal.τ).loc Cert.KernelInpIdeal.main_arg1)) (m ((c.tc : Thread Cert.KernelInpIdeal.nD Cert.KernelInpIdeal.τ).loc Cert.KernelInpIdeal.main_arg2)) (m ((c.tc : Thread Cert.KernelInpIdeal.nD Cert.KernelInpIdeal.τ).loc Cert.KernelInpIdeal.main_arg3)) (m ((c.tc : Thread Cert.KernelInpIdeal.nD Cert.KernelInpIdeal.τ).loc Cert.KernelInpIdeal.main_arg4))).2.2.2.1 = (fun _ => 1#1)
    ∧ (Cert.Pre_finite_inp.fn (F := Ideal) (m ((c.tc : Thread Cert.KernelInpIdeal.nD Cert.KernelInpIdeal.τ).loc Cert.KernelInpIdeal.main_arg0)) (m ((c.tc : Thread Cert.KernelInpIdeal.nD Cert.KernelInpIdeal.τ).loc Cert.KernelInpIdeal.main_arg1)) (m ((c.tc : Thread Cert.KernelInpIdeal.nD Cert.KernelInpIdeal.τ).loc Cert.KernelInpIdeal.main_arg2)) (m ((c.tc : Thread Cert.KernelInpIdeal.nD Cert.KernelInpIdeal.τ).loc Cert.KernelInpIdeal.main_arg3)) (m ((c.tc : Thread Cert.KernelInpIdeal.nD Cert.KernelInpIdeal.τ).loc Cert.KernelInpIdeal.main_arg4))).2.2.2.2 = (fun _ => 1#1)

def Pre_ReferenceInpIdeal (m : (ℓ : Loc Cert.ReferenceInpIdeal.nD Cert.ReferenceInpIdeal.τ Cert.ReferenceInpIdeal.sig) → Buf (Elt Ideal) ℓ) : Prop :=
  True

def Pre_ReferenceInpIdeal_finite_inp [hPre_finite_inp : Cert.Pre_finite_inp.Facts] (m : (ℓ : Loc Cert.ReferenceInpIdeal.nD Cert.ReferenceInpIdeal.τ Cert.ReferenceInpIdeal.sig) → Buf (Elt Ideal) ℓ) : Prop :=
  ∀ c : Dev Cert.ReferenceInpIdeal.nD,
    (Cert.Pre_finite_inp.fn (F := Ideal) (m ((c.tc : Thread Cert.ReferenceInpIdeal.nD Cert.ReferenceInpIdeal.τ).loc Cert.ReferenceInpIdeal.main_arg0)) (m ((c.tc : Thread Cert.ReferenceInpIdeal.nD Cert.ReferenceInpIdeal.τ).loc Cert.ReferenceInpIdeal.main_arg1)) (m ((c.tc : Thread Cert.ReferenceInpIdeal.nD Cert.ReferenceInpIdeal.τ).loc Cert.ReferenceInpIdeal.main_arg2)) (m ((c.tc : Thread Cert.ReferenceInpIdeal.nD Cert.ReferenceInpIdeal.τ).loc Cert.ReferenceInpIdeal.main_arg3)) (m ((c.tc : Thread Cert.ReferenceInpIdeal.nD Cert.ReferenceInpIdeal.τ).loc Cert.ReferenceInpIdeal.main_arg4))).1 = (fun _ => 1#1)
    ∧ (Cert.Pre_finite_inp.fn (F := Ideal) (m ((c.tc : Thread Cert.ReferenceInpIdeal.nD Cert.ReferenceInpIdeal.τ).loc Cert.ReferenceInpIdeal.main_arg0)) (m ((c.tc : Thread Cert.ReferenceInpIdeal.nD Cert.ReferenceInpIdeal.τ).loc Cert.ReferenceInpIdeal.main_arg1)) (m ((c.tc : Thread Cert.ReferenceInpIdeal.nD Cert.ReferenceInpIdeal.τ).loc Cert.ReferenceInpIdeal.main_arg2)) (m ((c.tc : Thread Cert.ReferenceInpIdeal.nD Cert.ReferenceInpIdeal.τ).loc Cert.ReferenceInpIdeal.main_arg3)) (m ((c.tc : Thread Cert.ReferenceInpIdeal.nD Cert.ReferenceInpIdeal.τ).loc Cert.ReferenceInpIdeal.main_arg4))).2.1 = (fun _ => 1#1)
    ∧ (Cert.Pre_finite_inp.fn (F := Ideal) (m ((c.tc : Thread Cert.ReferenceInpIdeal.nD Cert.ReferenceInpIdeal.τ).loc Cert.ReferenceInpIdeal.main_arg0)) (m ((c.tc : Thread Cert.ReferenceInpIdeal.nD Cert.ReferenceInpIdeal.τ).loc Cert.ReferenceInpIdeal.main_arg1)) (m ((c.tc : Thread Cert.ReferenceInpIdeal.nD Cert.ReferenceInpIdeal.τ).loc Cert.ReferenceInpIdeal.main_arg2)) (m ((c.tc : Thread Cert.ReferenceInpIdeal.nD Cert.ReferenceInpIdeal.τ).loc Cert.ReferenceInpIdeal.main_arg3)) (m ((c.tc : Thread Cert.ReferenceInpIdeal.nD Cert.ReferenceInpIdeal.τ).loc Cert.ReferenceInpIdeal.main_arg4))).2.2.1 = (fun _ => 1#1)
    ∧ (Cert.Pre_finite_inp.fn (F := Ideal) (m ((c.tc : Thread Cert.ReferenceInpIdeal.nD Cert.ReferenceInpIdeal.τ).loc Cert.ReferenceInpIdeal.main_arg0)) (m ((c.tc : Thread Cert.ReferenceInpIdeal.nD Cert.ReferenceInpIdeal.τ).loc Cert.ReferenceInpIdeal.main_arg1)) (m ((c.tc : Thread Cert.ReferenceInpIdeal.nD Cert.ReferenceInpIdeal.τ).loc Cert.ReferenceInpIdeal.main_arg2)) (m ((c.tc : Thread Cert.ReferenceInpIdeal.nD Cert.ReferenceInpIdeal.τ).loc Cert.ReferenceInpIdeal.main_arg3)) (m ((c.tc : Thread Cert.ReferenceInpIdeal.nD Cert.ReferenceInpIdeal.τ).loc Cert.ReferenceInpIdeal.main_arg4))).2.2.2.1 = (fun _ => 1#1)
    ∧ (Cert.Pre_finite_inp.fn (F := Ideal) (m ((c.tc : Thread Cert.ReferenceInpIdeal.nD Cert.ReferenceInpIdeal.τ).loc Cert.ReferenceInpIdeal.main_arg0)) (m ((c.tc : Thread Cert.ReferenceInpIdeal.nD Cert.ReferenceInpIdeal.τ).loc Cert.ReferenceInpIdeal.main_arg1)) (m ((c.tc : Thread Cert.ReferenceInpIdeal.nD Cert.ReferenceInpIdeal.τ).loc Cert.ReferenceInpIdeal.main_arg2)) (m ((c.tc : Thread Cert.ReferenceInpIdeal.nD Cert.ReferenceInpIdeal.τ).loc Cert.ReferenceInpIdeal.main_arg3)) (m ((c.tc : Thread Cert.ReferenceInpIdeal.nD Cert.ReferenceInpIdeal.τ).loc Cert.ReferenceInpIdeal.main_arg4))).2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.2 = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_KernelOutIdeal_finite_out [hPre_finite_out : Cert.Pre_finite_out.Facts] (m : (ℓ : Loc Cert.KernelOutIdeal.nD Cert.KernelOutIdeal.τ Cert.KernelOutIdeal.sig) → Buf (Elt Ideal) ℓ) : Prop :=
  ∀ c : Dev Cert.KernelOutIdeal.nD,
    (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6))).1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6))).2.1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6))).2.2.1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6))).2.2.2.1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6))).2.2.2.2.1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6))).2.2.2.2.2.1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6))).2.2.2.2.2.2 = (fun _ => 1#1)

def Pre_ReferenceOutIdeal (m : (ℓ : Loc Cert.ReferenceOutIdeal.nD Cert.ReferenceOutIdeal.τ Cert.ReferenceOutIdeal.sig) → Buf (Elt Ideal) ℓ) : Prop :=
  True

def Pre_ReferenceOutIdeal_finite_out [hPre_finite_out : Cert.Pre_finite_out.Facts] (m : (ℓ : Loc Cert.ReferenceOutIdeal.nD Cert.ReferenceOutIdeal.τ Cert.ReferenceOutIdeal.sig) → Buf (Elt Ideal) ℓ) : Prop :=
  ∀ c : Dev Cert.ReferenceOutIdeal.nD,
    (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6))).1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6))).2.1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6))).2.2.1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6))).2.2.2.1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6))).2.2.2.2.1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6))).2.2.2.2.2.1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6))).2.2.2.2.2.2 = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1))).1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1))).2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1))).1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1))).2 = (fun _ => 1#1)

def Pre_KernelAttnf (m : (ℓ : Loc Cert.KernelAttnf.nD Cert.KernelAttnf.τ Cert.KernelAttnf.sig) → Buf (Elt Bits) ℓ) : Prop :=
  True

def Pre_KernelAttnfIdeal (m : (ℓ : Loc Cert.KernelAttnfIdeal.nD Cert.KernelAttnfIdeal.τ Cert.KernelAttnfIdeal.sig) → Buf (Elt Ideal) ℓ) : Prop :=
  True

def Pre_KernelAttnfIdeal_finite_attnf [hPre_finite_attnf : Cert.Pre_finite_attnf.Facts] (m : (ℓ : Loc Cert.KernelAttnfIdeal.nD Cert.KernelAttnfIdeal.τ Cert.KernelAttnfIdeal.sig) → Buf (Elt Ideal) ℓ) : Prop :=
  ∀ c : Dev Cert.KernelAttnfIdeal.nD,
    (Cert.Pre_finite_attnf.fn (F := Ideal) (m ((c.tc : Thread Cert.KernelAttnfIdeal.nD Cert.KernelAttnfIdeal.τ).loc Cert.KernelAttnfIdeal.main_arg0))) = (fun _ => 1#1)

def Pre_ReferenceAttnfIdeal (m : (ℓ : Loc Cert.ReferenceAttnfIdeal.nD Cert.ReferenceAttnfIdeal.τ Cert.ReferenceAttnfIdeal.sig) → Buf (Elt Ideal) ℓ) : Prop :=
  True

def Pre_ReferenceAttnfIdeal_finite_attnf [hPre_finite_attnf : Cert.Pre_finite_attnf.Facts] (m : (ℓ : Loc Cert.ReferenceAttnfIdeal.nD Cert.ReferenceAttnfIdeal.τ Cert.ReferenceAttnfIdeal.sig) → Buf (Elt Ideal) ℓ) : Prop :=
  ∀ c : Dev Cert.ReferenceAttnfIdeal.nD,
    (Cert.Pre_finite_attnf.fn (F := Ideal) (m ((c.tc : Thread Cert.ReferenceAttnfIdeal.nD Cert.ReferenceAttnfIdeal.τ).loc Cert.ReferenceAttnfIdeal.main_arg0))) = (fun _ => 1#1)

def Pre_KernelInpf (m : (ℓ : Loc Cert.KernelInpf.nD Cert.KernelInpf.τ Cert.KernelInpf.sig) → Buf (Elt Bits) ℓ) : Prop :=
  True

def Pre_KernelInpfIdeal (m : (ℓ : Loc Cert.KernelInpfIdeal.nD Cert.KernelInpfIdeal.τ Cert.KernelInpfIdeal.sig) → Buf (Elt Ideal) ℓ) : Prop :=
  True

def Pre_ReferenceInpfIdeal (m : (ℓ : Loc Cert.ReferenceInpfIdeal.nD Cert.ReferenceInpfIdeal.τ Cert.ReferenceInpfIdeal.sig) → Buf (Elt Ideal) ℓ) : Prop :=
  True

def Pre_KernelOutf (m : (ℓ : Loc Cert.KernelOutf.nD Cert.KernelOutf.τ Cert.KernelOutf.sig) → Buf (Elt Bits) ℓ) : Prop :=
  True

def Pre_KernelOutfIdeal (m : (ℓ : Loc Cert.KernelOutfIdeal.nD Cert.KernelOutfIdeal.τ Cert.KernelOutfIdeal.sig) → Buf (Elt Ideal) ℓ) : Prop :=
  True

def Pre_ReferenceOutfIdeal (m : (ℓ : Loc Cert.ReferenceOutfIdeal.nD Cert.ReferenceOutfIdeal.τ Cert.ReferenceOutfIdeal.sig) → Buf (Elt Ideal) ℓ) : Prop :=
  True

def Pre_KernelFfnf (m : (ℓ : Loc Cert.KernelFfnf.nD Cert.KernelFfnf.τ Cert.KernelFfnf.sig) → Buf (Elt Bits) ℓ) : Prop :=
  True

def Pre_KernelFfnfIdeal (m : (ℓ : Loc Cert.KernelFfnfIdeal.nD Cert.KernelFfnfIdeal.τ Cert.KernelFfnfIdeal.sig) → Buf (Elt Ideal) ℓ) : Prop :=
  True

def Pre_ReferenceFfnfIdeal (m : (ℓ : Loc Cert.ReferenceFfnfIdeal.nD Cert.ReferenceFfnfIdeal.τ Cert.ReferenceFfnfIdeal.sig) → Buf (Elt Ideal) ℓ) : Prop :=
  True

def Pre_KernelMixf (m : (ℓ : Loc Cert.KernelMixf.nD Cert.KernelMixf.τ Cert.KernelMixf.sig) → Buf (Elt Bits) ℓ) : Prop :=
  True

def Pre_KernelMixfIdeal (m : (ℓ : Loc Cert.KernelMixfIdeal.nD Cert.KernelMixfIdeal.τ Cert.KernelMixfIdeal.sig) → Buf (Elt Ideal) ℓ) : Prop :=
  True

def Pre_ReferenceMixfIdeal (m : (ℓ : Loc Cert.ReferenceMixfIdeal.nD Cert.ReferenceMixfIdeal.τ Cert.ReferenceMixfIdeal.sig) → Buf (Elt Ideal) ℓ) : Prop :=
  True

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelInp [hKernelInp : Cert.KernelInp.Facts] : Prop :=
  ∀ (m : (ℓ : Loc Cert.KernelInp.nD Cert.KernelInp.τ Cert.KernelInp.sig) → Buf (Elt Bits) ℓ) (g : Dev Cert.KernelInp.nD → PrngReg), Pre_KernelInp m →
    θ_run (Cert.KernelInp.defs (F := Bits)) (onTc (τ := Cert.KernelInp.τ) (Cert.KernelInp.main (F := Bits))) ⟨m, fun _ => 0, g⟩ (fun r => (∀ c : Dev Cert.KernelInp.nD,
      r.2.mem ((c.tc : Thread Cert.KernelInp.nD Cert.KernelInp.τ).loc Cert.KernelInp.main_arg0) = m ((c.tc : Thread Cert.KernelInp.nD Cert.KernelInp.τ).loc Cert.KernelInp.main_arg0)
      ∧ r.2.mem ((c.tc : Thread Cert.KernelInp.nD Cert.KernelInp.τ).loc Cert.KernelInp.main_arg1) = m ((c.tc : Thread Cert.KernelInp.nD Cert.KernelInp.τ).loc Cert.KernelInp.main_arg1)
      ∧ r.2.mem ((c.tc : Thread Cert.KernelInp.nD Cert.KernelInp.τ).loc Cert.KernelInp.main_arg2) = m ((c.tc : Thread Cert.KernelInp.nD Cert.KernelInp.τ).loc Cert.KernelInp.main_arg2)
      ∧ r.2.mem ((c.tc : Thread Cert.KernelInp.nD Cert.KernelInp.τ).loc Cert.KernelInp.main_arg3) = m ((c.tc : Thread Cert.KernelInp.nD Cert.KernelInp.τ).loc Cert.KernelInp.main_arg3)
      ∧ r.2.mem ((c.tc : Thread Cert.KernelInp.nD Cert.KernelInp.τ).loc Cert.KernelInp.main_arg4) = m ((c.tc : Thread Cert.KernelInp.nD Cert.KernelInp.τ).loc Cert.KernelInp.main_arg4))
      ∧ r.2.sem = fun _ => 0)

def quiescent_KernelInpIdeal [hKernelInpIdeal : Cert.KernelInpIdeal.Facts] : Prop :=
  ∀ (m : (ℓ : Loc Cert.KernelInpIdeal.nD Cert.KernelInpIdeal.τ Cert.KernelInpIdeal.sig) → Buf (Elt Ideal) ℓ) (g : Dev Cert.KernelInpIdeal.nD → PrngReg), Pre_KernelInpIdeal m →
    θ_run (Cert.KernelInpIdeal.defs (F := Ideal)) (onTc (τ := Cert.KernelInpIdeal.τ) (Cert.KernelInpIdeal.main (F := Ideal))) ⟨m, fun _ => 0, g⟩ (fun r => (∀ c : Dev Cert.KernelInpIdeal.nD,
      r.2.mem ((c.tc : Thread Cert.KernelInpIdeal.nD Cert.KernelInpIdeal.τ).loc Cert.KernelInpIdeal.main_arg0) = m ((c.tc : Thread Cert.KernelInpIdeal.nD Cert.KernelInpIdeal.τ).loc Cert.KernelInpIdeal.main_arg0)
      ∧ r.2.mem ((c.tc : Thread Cert.KernelInpIdeal.nD Cert.KernelInpIdeal.τ).loc Cert.KernelInpIdeal.main_arg1) = m ((c.tc : Thread Cert.KernelInpIdeal.nD Cert.KernelInpIdeal.τ).loc Cert.KernelInpIdeal.main_arg1)
      ∧ r.2.mem ((c.tc : Thread Cert.KernelInpIdeal.nD Cert.KernelInpIdeal.τ).loc Cert.KernelInpIdeal.main_arg2) = m ((c.tc : Thread Cert.KernelInpIdeal.nD Cert.KernelInpIdeal.τ).loc Cert.KernelInpIdeal.main_arg2)
      ∧ r.2.mem ((c.tc : Thread Cert.KernelInpIdeal.nD Cert.KernelInpIdeal.τ).loc Cert.KernelInpIdeal.main_arg3) = m ((c.tc : Thread Cert.KernelInpIdeal.nD Cert.KernelInpIdeal.τ).loc Cert.KernelInpIdeal.main_arg3)
      ∧ r.2.mem ((c.tc : Thread Cert.KernelInpIdeal.nD Cert.KernelInpIdeal.τ).loc Cert.KernelInpIdeal.main_arg4) = m ((c.tc : Thread Cert.KernelInpIdeal.nD Cert.KernelInpIdeal.τ).loc Cert.KernelInpIdeal.main_arg4))
      ∧ r.2.sem = fun _ => 0)

def quiescent_KernelInpIdeal_pre_finite_inp [hKernelInpIdeal : Cert.KernelInpIdeal.Facts] [hPre_finite_inp : Cert.Pre_finite_inp.Facts] : Prop :=
  ∀ (m : (ℓ : Loc Cert.KernelInpIdeal.nD Cert.KernelInpIdeal.τ Cert.KernelInpIdeal.sig) → Buf (Elt Ideal) ℓ) (g : Dev Cert.KernelInpIdeal.nD → PrngReg), Pre_KernelInpIdeal_finite_inp m →
    θ_run (Cert.KernelInpIdeal.defs (F := Ideal)) (onTc (τ := Cert.KernelInpIdeal.τ) (Cert.KernelInpIdeal.main (F := Ideal))) ⟨m, fun _ => 0, g⟩ (fun r => (∀ c : Dev Cert.KernelInpIdeal.nD,
      r.2.mem ((c.tc : Thread Cert.KernelInpIdeal.nD Cert.KernelInpIdeal.τ).loc Cert.KernelInpIdeal.main_arg0) = m ((c.tc : Thread Cert.KernelInpIdeal.nD Cert.KernelInpIdeal.τ).loc Cert.KernelInpIdeal.main_arg0)
      ∧ r.2.mem ((c.tc : Thread Cert.KernelInpIdeal.nD Cert.KernelInpIdeal.τ).loc Cert.KernelInpIdeal.main_arg1) = m ((c.tc : Thread Cert.KernelInpIdeal.nD Cert.KernelInpIdeal.τ).loc Cert.KernelInpIdeal.main_arg1)
      ∧ r.2.mem ((c.tc : Thread Cert.KernelInpIdeal.nD Cert.KernelInpIdeal.τ).loc Cert.KernelInpIdeal.main_arg2) = m ((c.tc : Thread Cert.KernelInpIdeal.nD Cert.KernelInpIdeal.τ).loc Cert.KernelInpIdeal.main_arg2)
      ∧ r.2.mem ((c.tc : Thread Cert.KernelInpIdeal.nD Cert.KernelInpIdeal.τ).loc Cert.KernelInpIdeal.main_arg3) = m ((c.tc : Thread Cert.KernelInpIdeal.nD Cert.KernelInpIdeal.τ).loc Cert.KernelInpIdeal.main_arg3)
      ∧ r.2.mem ((c.tc : Thread Cert.KernelInpIdeal.nD Cert.KernelInpIdeal.τ).loc Cert.KernelInpIdeal.main_arg4) = m ((c.tc : Thread Cert.KernelInpIdeal.nD Cert.KernelInpIdeal.τ).loc Cert.KernelInpIdeal.main_arg4))
      ∧ r.2.sem = fun _ => 0)

def quiescent_ReferenceInpIdeal [hReferenceInpIdeal : Cert.ReferenceInpIdeal.Facts] : Prop :=
  ∀ (m : (ℓ : Loc Cert.ReferenceInpIdeal.nD Cert.ReferenceInpIdeal.τ Cert.ReferenceInpIdeal.sig) → Buf (Elt Ideal) ℓ) (g : Dev Cert.ReferenceInpIdeal.nD → PrngReg), Pre_ReferenceInpIdeal m →
    θ_run (Cert.ReferenceInpIdeal.defs (F := Ideal)) (onTc (τ := Cert.ReferenceInpIdeal.τ) (Cert.ReferenceInpIdeal.main (F := Ideal))) ⟨m, fun _ => 0, g⟩ (fun r => (∀ c : Dev Cert.ReferenceInpIdeal.nD,
      r.2.mem ((c.tc : Thread Cert.ReferenceInpIdeal.nD Cert.ReferenceInpIdeal.τ).loc Cert.ReferenceInpIdeal.main_arg0) = m ((c.tc : Thread Cert.ReferenceInpIdeal.nD Cert.ReferenceInpIdeal.τ).loc Cert.ReferenceInpIdeal.main_arg0)
      ∧ r.2.mem ((c.tc : Thread Cert.ReferenceInpIdeal.nD Cert.ReferenceInpIdeal.τ).loc Cert.ReferenceInpIdeal.main_arg1) = m ((c.tc : Thread Cert.ReferenceInpIdeal.nD Cert.ReferenceInpIdeal.τ).loc Cert.ReferenceInpIdeal.main_arg1)
      ∧ r.2.mem ((c.tc : Thread Cert.ReferenceInpIdeal.nD Cert.ReferenceInpIdeal.τ).loc Cert.ReferenceInpIdeal.main_arg2) = m ((c.tc : Thread Cert.ReferenceInpIdeal.nD Cert.ReferenceInpIdeal.τ).loc Cert.ReferenceInpIdeal.main_arg2)
      ∧ r.2.mem ((c.tc : Thread Cert.ReferenceInpIdeal.nD Cert.ReferenceInpIdeal.τ).loc Cert.ReferenceInpIdeal.main_arg3) = m ((c.tc : Thread Cert.ReferenceInpIdeal.nD Cert.ReferenceInpIdeal.τ).loc Cert.ReferenceInpIdeal.main_arg3)
      ∧ r.2.mem ((c.tc : Thread Cert.ReferenceInpIdeal.nD Cert.ReferenceInpIdeal.τ).loc Cert.ReferenceInpIdeal.main_arg4) = m ((c.tc : Thread Cert.ReferenceInpIdeal.nD Cert.ReferenceInpIdeal.τ).loc Cert.ReferenceInpIdeal.main_arg4))
      ∧ r.2.sem = fun _ => 0)

def quiescent_ReferenceInpIdeal_pre_finite_inp [hReferenceInpIdeal : Cert.ReferenceInpIdeal.Facts] [hPre_finite_inp : Cert.Pre_finite_inp.Facts] : Prop :=
  ∀ (m : (ℓ : Loc Cert.ReferenceInpIdeal.nD Cert.ReferenceInpIdeal.τ Cert.ReferenceInpIdeal.sig) → Buf (Elt Ideal) ℓ) (g : Dev Cert.ReferenceInpIdeal.nD → PrngReg), Pre_ReferenceInpIdeal_finite_inp m →
    θ_run (Cert.ReferenceInpIdeal.defs (F := Ideal)) (onTc (τ := Cert.ReferenceInpIdeal.τ) (Cert.ReferenceInpIdeal.main (F := Ideal))) ⟨m, fun _ => 0, g⟩ (fun r => (∀ c : Dev Cert.ReferenceInpIdeal.nD,
      r.2.mem ((c.tc : Thread Cert.ReferenceInpIdeal.nD Cert.ReferenceInpIdeal.τ).loc Cert.ReferenceInpIdeal.main_arg0) = m ((c.tc : Thread Cert.ReferenceInpIdeal.nD Cert.ReferenceInpIdeal.τ).loc Cert.ReferenceInpIdeal.main_arg0)
      ∧ r.2.mem ((c.tc : Thread Cert.ReferenceInpIdeal.nD Cert.ReferenceInpIdeal.τ).loc Cert.ReferenceInpIdeal.main_arg1) = m ((c.tc : Thread Cert.ReferenceInpIdeal.nD Cert.ReferenceInpIdeal.τ).loc Cert.ReferenceInpIdeal.main_arg1)
      ∧ r.2.mem ((c.tc : Thread Cert.ReferenceInpIdeal.nD Cert.ReferenceInpIdeal.τ).loc Cert.ReferenceInpIdeal.main_arg2) = m ((c.tc : Thread Cert.ReferenceInpIdeal.nD Cert.ReferenceInpIdeal.τ).loc Cert.ReferenceInpIdeal.main_arg2)
      ∧ r.2.mem ((c.tc : Thread Cert.ReferenceInpIdeal.nD Cert.ReferenceInpIdeal.τ).loc Cert.ReferenceInpIdeal.main_arg3) = m ((c.tc : Thread Cert.ReferenceInpIdeal.nD Cert.ReferenceInpIdeal.τ).loc Cert.ReferenceInpIdeal.main_arg3)
      ∧ r.2.mem ((c.tc : Thread Cert.ReferenceInpIdeal.nD Cert.ReferenceInpIdeal.τ).loc Cert.ReferenceInpIdeal.main_arg4) = m ((c.tc : Thread Cert.ReferenceInpIdeal.nD Cert.ReferenceInpIdeal.τ).loc Cert.ReferenceInpIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_KernelOutIdeal_pre_finite_out [hKernelOutIdeal : Cert.KernelOutIdeal.Facts] [hPre_finite_out : Cert.Pre_finite_out.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal_finite_out m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_ReferenceOutIdeal_pre_finite_out [hReferenceOutIdeal : Cert.ReferenceOutIdeal.Facts] [hPre_finite_out : Cert.Pre_finite_out.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal_finite_out m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_KernelAttnf [hKernelAttnf : Cert.KernelAttnf.Facts] : Prop :=
  ∀ (m : (ℓ : Loc Cert.KernelAttnf.nD Cert.KernelAttnf.τ Cert.KernelAttnf.sig) → Buf (Elt Bits) ℓ) (g : Dev Cert.KernelAttnf.nD → PrngReg), Pre_KernelAttnf m →
    θ_run (Cert.KernelAttnf.defs (F := Bits)) (onTc (τ := Cert.KernelAttnf.τ) (Cert.KernelAttnf.main (F := Bits))) ⟨m, fun _ => 0, g⟩ (fun r => (∀ c : Dev Cert.KernelAttnf.nD,
      r.2.mem ((c.tc : Thread Cert.KernelAttnf.nD Cert.KernelAttnf.τ).loc Cert.KernelAttnf.main_arg0) = m ((c.tc : Thread Cert.KernelAttnf.nD Cert.KernelAttnf.τ).loc Cert.KernelAttnf.main_arg0))
      ∧ r.2.sem = fun _ => 0)

def quiescent_KernelAttnfIdeal [hKernelAttnfIdeal : Cert.KernelAttnfIdeal.Facts] : Prop :=
  ∀ (m : (ℓ : Loc Cert.KernelAttnfIdeal.nD Cert.KernelAttnfIdeal.τ Cert.KernelAttnfIdeal.sig) → Buf (Elt Ideal) ℓ) (g : Dev Cert.KernelAttnfIdeal.nD → PrngReg), Pre_KernelAttnfIdeal m →
    θ_run (Cert.KernelAttnfIdeal.defs (F := Ideal)) (onTc (τ := Cert.KernelAttnfIdeal.τ) (Cert.KernelAttnfIdeal.main (F := Ideal))) ⟨m, fun _ => 0, g⟩ (fun r => (∀ c : Dev Cert.KernelAttnfIdeal.nD,
      r.2.mem ((c.tc : Thread Cert.KernelAttnfIdeal.nD Cert.KernelAttnfIdeal.τ).loc Cert.KernelAttnfIdeal.main_arg0) = m ((c.tc : Thread Cert.KernelAttnfIdeal.nD Cert.KernelAttnfIdeal.τ).loc Cert.KernelAttnfIdeal.main_arg0))
      ∧ r.2.sem = fun _ => 0)

def quiescent_KernelAttnfIdeal_pre_finite_attnf [hKernelAttnfIdeal : Cert.KernelAttnfIdeal.Facts] [hPre_finite_attnf : Cert.Pre_finite_attnf.Facts] : Prop :=
  ∀ (m : (ℓ : Loc Cert.KernelAttnfIdeal.nD Cert.KernelAttnfIdeal.τ Cert.KernelAttnfIdeal.sig) → Buf (Elt Ideal) ℓ) (g : Dev Cert.KernelAttnfIdeal.nD → PrngReg), Pre_KernelAttnfIdeal_finite_attnf m →
    θ_run (Cert.KernelAttnfIdeal.defs (F := Ideal)) (onTc (τ := Cert.KernelAttnfIdeal.τ) (Cert.KernelAttnfIdeal.main (F := Ideal))) ⟨m, fun _ => 0, g⟩ (fun r => (∀ c : Dev Cert.KernelAttnfIdeal.nD,
      r.2.mem ((c.tc : Thread Cert.KernelAttnfIdeal.nD Cert.KernelAttnfIdeal.τ).loc Cert.KernelAttnfIdeal.main_arg0) = m ((c.tc : Thread Cert.KernelAttnfIdeal.nD Cert.KernelAttnfIdeal.τ).loc Cert.KernelAttnfIdeal.main_arg0))
      ∧ r.2.sem = fun _ => 0)

def quiescent_ReferenceAttnfIdeal [hReferenceAttnfIdeal : Cert.ReferenceAttnfIdeal.Facts] : Prop :=
  ∀ (m : (ℓ : Loc Cert.ReferenceAttnfIdeal.nD Cert.ReferenceAttnfIdeal.τ Cert.ReferenceAttnfIdeal.sig) → Buf (Elt Ideal) ℓ) (g : Dev Cert.ReferenceAttnfIdeal.nD → PrngReg), Pre_ReferenceAttnfIdeal m →
    θ_run (Cert.ReferenceAttnfIdeal.defs (F := Ideal)) (onTc (τ := Cert.ReferenceAttnfIdeal.τ) (Cert.ReferenceAttnfIdeal.main (F := Ideal))) ⟨m, fun _ => 0, g⟩ (fun r => (∀ c : Dev Cert.ReferenceAttnfIdeal.nD,
      r.2.mem ((c.tc : Thread Cert.ReferenceAttnfIdeal.nD Cert.ReferenceAttnfIdeal.τ).loc Cert.ReferenceAttnfIdeal.main_arg0) = m ((c.tc : Thread Cert.ReferenceAttnfIdeal.nD Cert.ReferenceAttnfIdeal.τ).loc Cert.ReferenceAttnfIdeal.main_arg0))
      ∧ r.2.sem = fun _ => 0)

def quiescent_ReferenceAttnfIdeal_pre_finite_attnf [hReferenceAttnfIdeal : Cert.ReferenceAttnfIdeal.Facts] [hPre_finite_attnf : Cert.Pre_finite_attnf.Facts] : Prop :=
  ∀ (m : (ℓ : Loc Cert.ReferenceAttnfIdeal.nD Cert.ReferenceAttnfIdeal.τ Cert.ReferenceAttnfIdeal.sig) → Buf (Elt Ideal) ℓ) (g : Dev Cert.ReferenceAttnfIdeal.nD → PrngReg), Pre_ReferenceAttnfIdeal_finite_attnf m →
    θ_run (Cert.ReferenceAttnfIdeal.defs (F := Ideal)) (onTc (τ := Cert.ReferenceAttnfIdeal.τ) (Cert.ReferenceAttnfIdeal.main (F := Ideal))) ⟨m, fun _ => 0, g⟩ (fun r => (∀ c : Dev Cert.ReferenceAttnfIdeal.nD,
      r.2.mem ((c.tc : Thread Cert.ReferenceAttnfIdeal.nD Cert.ReferenceAttnfIdeal.τ).loc Cert.ReferenceAttnfIdeal.main_arg0) = m ((c.tc : Thread Cert.ReferenceAttnfIdeal.nD Cert.ReferenceAttnfIdeal.τ).loc Cert.ReferenceAttnfIdeal.main_arg0))
      ∧ r.2.sem = fun _ => 0)

def quiescent_KernelInpf [hKernelInpf : Cert.KernelInpf.Facts] : Prop :=
  ∀ (m : (ℓ : Loc Cert.KernelInpf.nD Cert.KernelInpf.τ Cert.KernelInpf.sig) → Buf (Elt Bits) ℓ) (g : Dev Cert.KernelInpf.nD → PrngReg), Pre_KernelInpf m →
    θ_run (Cert.KernelInpf.defs (F := Bits)) (onTc (τ := Cert.KernelInpf.τ) (Cert.KernelInpf.main (F := Bits))) ⟨m, fun _ => 0, g⟩ (fun r => (∀ c : Dev Cert.KernelInpf.nD,
      r.2.mem ((c.tc : Thread Cert.KernelInpf.nD Cert.KernelInpf.τ).loc Cert.KernelInpf.main_arg0) = m ((c.tc : Thread Cert.KernelInpf.nD Cert.KernelInpf.τ).loc Cert.KernelInpf.main_arg0)
      ∧ r.2.mem ((c.tc : Thread Cert.KernelInpf.nD Cert.KernelInpf.τ).loc Cert.KernelInpf.main_arg1) = m ((c.tc : Thread Cert.KernelInpf.nD Cert.KernelInpf.τ).loc Cert.KernelInpf.main_arg1)
      ∧ r.2.mem ((c.tc : Thread Cert.KernelInpf.nD Cert.KernelInpf.τ).loc Cert.KernelInpf.main_arg2) = m ((c.tc : Thread Cert.KernelInpf.nD Cert.KernelInpf.τ).loc Cert.KernelInpf.main_arg2))
      ∧ r.2.sem = fun _ => 0)

def quiescent_KernelInpfIdeal [hKernelInpfIdeal : Cert.KernelInpfIdeal.Facts] : Prop :=
  ∀ (m : (ℓ : Loc Cert.KernelInpfIdeal.nD Cert.KernelInpfIdeal.τ Cert.KernelInpfIdeal.sig) → Buf (Elt Ideal) ℓ) (g : Dev Cert.KernelInpfIdeal.nD → PrngReg), Pre_KernelInpfIdeal m →
    θ_run (Cert.KernelInpfIdeal.defs (F := Ideal)) (onTc (τ := Cert.KernelInpfIdeal.τ) (Cert.KernelInpfIdeal.main (F := Ideal))) ⟨m, fun _ => 0, g⟩ (fun r => (∀ c : Dev Cert.KernelInpfIdeal.nD,
      r.2.mem ((c.tc : Thread Cert.KernelInpfIdeal.nD Cert.KernelInpfIdeal.τ).loc Cert.KernelInpfIdeal.main_arg0) = m ((c.tc : Thread Cert.KernelInpfIdeal.nD Cert.KernelInpfIdeal.τ).loc Cert.KernelInpfIdeal.main_arg0)
      ∧ r.2.mem ((c.tc : Thread Cert.KernelInpfIdeal.nD Cert.KernelInpfIdeal.τ).loc Cert.KernelInpfIdeal.main_arg1) = m ((c.tc : Thread Cert.KernelInpfIdeal.nD Cert.KernelInpfIdeal.τ).loc Cert.KernelInpfIdeal.main_arg1)
      ∧ r.2.mem ((c.tc : Thread Cert.KernelInpfIdeal.nD Cert.KernelInpfIdeal.τ).loc Cert.KernelInpfIdeal.main_arg2) = m ((c.tc : Thread Cert.KernelInpfIdeal.nD Cert.KernelInpfIdeal.τ).loc Cert.KernelInpfIdeal.main_arg2))
      ∧ r.2.sem = fun _ => 0)

def quiescent_ReferenceInpfIdeal [hReferenceInpfIdeal : Cert.ReferenceInpfIdeal.Facts] : Prop :=
  ∀ (m : (ℓ : Loc Cert.ReferenceInpfIdeal.nD Cert.ReferenceInpfIdeal.τ Cert.ReferenceInpfIdeal.sig) → Buf (Elt Ideal) ℓ) (g : Dev Cert.ReferenceInpfIdeal.nD → PrngReg), Pre_ReferenceInpfIdeal m →
    θ_run (Cert.ReferenceInpfIdeal.defs (F := Ideal)) (onTc (τ := Cert.ReferenceInpfIdeal.τ) (Cert.ReferenceInpfIdeal.main (F := Ideal))) ⟨m, fun _ => 0, g⟩ (fun r => (∀ c : Dev Cert.ReferenceInpfIdeal.nD,
      r.2.mem ((c.tc : Thread Cert.ReferenceInpfIdeal.nD Cert.ReferenceInpfIdeal.τ).loc Cert.ReferenceInpfIdeal.main_arg0) = m ((c.tc : Thread Cert.ReferenceInpfIdeal.nD Cert.ReferenceInpfIdeal.τ).loc Cert.ReferenceInpfIdeal.main_arg0)
      ∧ r.2.mem ((c.tc : Thread Cert.ReferenceInpfIdeal.nD Cert.ReferenceInpfIdeal.τ).loc Cert.ReferenceInpfIdeal.main_arg1) = m ((c.tc : Thread Cert.ReferenceInpfIdeal.nD Cert.ReferenceInpfIdeal.τ).loc Cert.ReferenceInpfIdeal.main_arg1)
      ∧ r.2.mem ((c.tc : Thread Cert.ReferenceInpfIdeal.nD Cert.ReferenceInpfIdeal.τ).loc Cert.ReferenceInpfIdeal.main_arg2) = m ((c.tc : Thread Cert.ReferenceInpfIdeal.nD Cert.ReferenceInpfIdeal.τ).loc Cert.ReferenceInpfIdeal.main_arg2))
      ∧ r.2.sem = fun _ => 0)

def quiescent_KernelOutf [hKernelOutf : Cert.KernelOutf.Facts] : Prop :=
  ∀ (m : (ℓ : Loc Cert.KernelOutf.nD Cert.KernelOutf.τ Cert.KernelOutf.sig) → Buf (Elt Bits) ℓ) (g : Dev Cert.KernelOutf.nD → PrngReg), Pre_KernelOutf m →
    θ_run (Cert.KernelOutf.defs (F := Bits)) (onTc (τ := Cert.KernelOutf.τ) (Cert.KernelOutf.main (F := Bits))) ⟨m, fun _ => 0, g⟩ (fun r => (∀ c : Dev Cert.KernelOutf.nD,
      r.2.mem ((c.tc : Thread Cert.KernelOutf.nD Cert.KernelOutf.τ).loc Cert.KernelOutf.main_arg0) = m ((c.tc : Thread Cert.KernelOutf.nD Cert.KernelOutf.τ).loc Cert.KernelOutf.main_arg0)
      ∧ r.2.mem ((c.tc : Thread Cert.KernelOutf.nD Cert.KernelOutf.τ).loc Cert.KernelOutf.main_arg1) = m ((c.tc : Thread Cert.KernelOutf.nD Cert.KernelOutf.τ).loc Cert.KernelOutf.main_arg1)
      ∧ r.2.mem ((c.tc : Thread Cert.KernelOutf.nD Cert.KernelOutf.τ).loc Cert.KernelOutf.main_arg2) = m ((c.tc : Thread Cert.KernelOutf.nD Cert.KernelOutf.τ).loc Cert.KernelOutf.main_arg2)
      ∧ r.2.mem ((c.tc : Thread Cert.KernelOutf.nD Cert.KernelOutf.τ).loc Cert.KernelOutf.main_arg3) = m ((c.tc : Thread Cert.KernelOutf.nD Cert.KernelOutf.τ).loc Cert.KernelOutf.main_arg3)
      ∧ r.2.mem ((c.tc : Thread Cert.KernelOutf.nD Cert.KernelOutf.τ).loc Cert.KernelOutf.main_arg4) = m ((c.tc : Thread Cert.KernelOutf.nD Cert.KernelOutf.τ).loc Cert.KernelOutf.main_arg4)
      ∧ r.2.mem ((c.tc : Thread Cert.KernelOutf.nD Cert.KernelOutf.τ).loc Cert.KernelOutf.main_arg5) = m ((c.tc : Thread Cert.KernelOutf.nD Cert.KernelOutf.τ).loc Cert.KernelOutf.main_arg5)
      ∧ r.2.mem ((c.tc : Thread Cert.KernelOutf.nD Cert.KernelOutf.τ).loc Cert.KernelOutf.main_arg6) = m ((c.tc : Thread Cert.KernelOutf.nD Cert.KernelOutf.τ).loc Cert.KernelOutf.main_arg6))
      ∧ r.2.sem = fun _ => 0)

def quiescent_KernelOutfIdeal [hKernelOutfIdeal : Cert.KernelOutfIdeal.Facts] : Prop :=
  ∀ (m : (ℓ : Loc Cert.KernelOutfIdeal.nD Cert.KernelOutfIdeal.τ Cert.KernelOutfIdeal.sig) → Buf (Elt Ideal) ℓ) (g : Dev Cert.KernelOutfIdeal.nD → PrngReg), Pre_KernelOutfIdeal m →
    θ_run (Cert.KernelOutfIdeal.defs (F := Ideal)) (onTc (τ := Cert.KernelOutfIdeal.τ) (Cert.KernelOutfIdeal.main (F := Ideal))) ⟨m, fun _ => 0, g⟩ (fun r => (∀ c : Dev Cert.KernelOutfIdeal.nD,
      r.2.mem ((c.tc : Thread Cert.KernelOutfIdeal.nD Cert.KernelOutfIdeal.τ).loc Cert.KernelOutfIdeal.main_arg0) = m ((c.tc : Thread Cert.KernelOutfIdeal.nD Cert.KernelOutfIdeal.τ).loc Cert.KernelOutfIdeal.main_arg0)
      ∧ r.2.mem ((c.tc : Thread Cert.KernelOutfIdeal.nD Cert.KernelOutfIdeal.τ).loc Cert.KernelOutfIdeal.main_arg1) = m ((c.tc : Thread Cert.KernelOutfIdeal.nD Cert.KernelOutfIdeal.τ).loc Cert.KernelOutfIdeal.main_arg1)
      ∧ r.2.mem ((c.tc : Thread Cert.KernelOutfIdeal.nD Cert.KernelOutfIdeal.τ).loc Cert.KernelOutfIdeal.main_arg2) = m ((c.tc : Thread Cert.KernelOutfIdeal.nD Cert.KernelOutfIdeal.τ).loc Cert.KernelOutfIdeal.main_arg2)
      ∧ r.2.mem ((c.tc : Thread Cert.KernelOutfIdeal.nD Cert.KernelOutfIdeal.τ).loc Cert.KernelOutfIdeal.main_arg3) = m ((c.tc : Thread Cert.KernelOutfIdeal.nD Cert.KernelOutfIdeal.τ).loc Cert.KernelOutfIdeal.main_arg3)
      ∧ r.2.mem ((c.tc : Thread Cert.KernelOutfIdeal.nD Cert.KernelOutfIdeal.τ).loc Cert.KernelOutfIdeal.main_arg4) = m ((c.tc : Thread Cert.KernelOutfIdeal.nD Cert.KernelOutfIdeal.τ).loc Cert.KernelOutfIdeal.main_arg4)
      ∧ r.2.mem ((c.tc : Thread Cert.KernelOutfIdeal.nD Cert.KernelOutfIdeal.τ).loc Cert.KernelOutfIdeal.main_arg5) = m ((c.tc : Thread Cert.KernelOutfIdeal.nD Cert.KernelOutfIdeal.τ).loc Cert.KernelOutfIdeal.main_arg5)
      ∧ r.2.mem ((c.tc : Thread Cert.KernelOutfIdeal.nD Cert.KernelOutfIdeal.τ).loc Cert.KernelOutfIdeal.main_arg6) = m ((c.tc : Thread Cert.KernelOutfIdeal.nD Cert.KernelOutfIdeal.τ).loc Cert.KernelOutfIdeal.main_arg6))
      ∧ r.2.sem = fun _ => 0)

def quiescent_ReferenceOutfIdeal [hReferenceOutfIdeal : Cert.ReferenceOutfIdeal.Facts] : Prop :=
  ∀ (m : (ℓ : Loc Cert.ReferenceOutfIdeal.nD Cert.ReferenceOutfIdeal.τ Cert.ReferenceOutfIdeal.sig) → Buf (Elt Ideal) ℓ) (g : Dev Cert.ReferenceOutfIdeal.nD → PrngReg), Pre_ReferenceOutfIdeal m →
    θ_run (Cert.ReferenceOutfIdeal.defs (F := Ideal)) (onTc (τ := Cert.ReferenceOutfIdeal.τ) (Cert.ReferenceOutfIdeal.main (F := Ideal))) ⟨m, fun _ => 0, g⟩ (fun r => (∀ c : Dev Cert.ReferenceOutfIdeal.nD,
      r.2.mem ((c.tc : Thread Cert.ReferenceOutfIdeal.nD Cert.ReferenceOutfIdeal.τ).loc Cert.ReferenceOutfIdeal.main_arg0) = m ((c.tc : Thread Cert.ReferenceOutfIdeal.nD Cert.ReferenceOutfIdeal.τ).loc Cert.ReferenceOutfIdeal.main_arg0)
      ∧ r.2.mem ((c.tc : Thread Cert.ReferenceOutfIdeal.nD Cert.ReferenceOutfIdeal.τ).loc Cert.ReferenceOutfIdeal.main_arg1) = m ((c.tc : Thread Cert.ReferenceOutfIdeal.nD Cert.ReferenceOutfIdeal.τ).loc Cert.ReferenceOutfIdeal.main_arg1)
      ∧ r.2.mem ((c.tc : Thread Cert.ReferenceOutfIdeal.nD Cert.ReferenceOutfIdeal.τ).loc Cert.ReferenceOutfIdeal.main_arg2) = m ((c.tc : Thread Cert.ReferenceOutfIdeal.nD Cert.ReferenceOutfIdeal.τ).loc Cert.ReferenceOutfIdeal.main_arg2)
      ∧ r.2.mem ((c.tc : Thread Cert.ReferenceOutfIdeal.nD Cert.ReferenceOutfIdeal.τ).loc Cert.ReferenceOutfIdeal.main_arg3) = m ((c.tc : Thread Cert.ReferenceOutfIdeal.nD Cert.ReferenceOutfIdeal.τ).loc Cert.ReferenceOutfIdeal.main_arg3)
      ∧ r.2.mem ((c.tc : Thread Cert.ReferenceOutfIdeal.nD Cert.ReferenceOutfIdeal.τ).loc Cert.ReferenceOutfIdeal.main_arg4) = m ((c.tc : Thread Cert.ReferenceOutfIdeal.nD Cert.ReferenceOutfIdeal.τ).loc Cert.ReferenceOutfIdeal.main_arg4)
      ∧ r.2.mem ((c.tc : Thread Cert.ReferenceOutfIdeal.nD Cert.ReferenceOutfIdeal.τ).loc Cert.ReferenceOutfIdeal.main_arg5) = m ((c.tc : Thread Cert.ReferenceOutfIdeal.nD Cert.ReferenceOutfIdeal.τ).loc Cert.ReferenceOutfIdeal.main_arg5)
      ∧ r.2.mem ((c.tc : Thread Cert.ReferenceOutfIdeal.nD Cert.ReferenceOutfIdeal.τ).loc Cert.ReferenceOutfIdeal.main_arg6) = m ((c.tc : Thread Cert.ReferenceOutfIdeal.nD Cert.ReferenceOutfIdeal.τ).loc Cert.ReferenceOutfIdeal.main_arg6))
      ∧ r.2.sem = fun _ => 0)

def quiescent_KernelFfnf [hKernelFfnf : Cert.KernelFfnf.Facts] : Prop :=
  ∀ (m : (ℓ : Loc Cert.KernelFfnf.nD Cert.KernelFfnf.τ Cert.KernelFfnf.sig) → Buf (Elt Bits) ℓ) (g : Dev Cert.KernelFfnf.nD → PrngReg), Pre_KernelFfnf m →
    θ_run (Cert.KernelFfnf.defs (F := Bits)) (onTc (τ := Cert.KernelFfnf.τ) (Cert.KernelFfnf.main (F := Bits))) ⟨m, fun _ => 0, g⟩ (fun r => (∀ c : Dev Cert.KernelFfnf.nD,
      r.2.mem ((c.tc : Thread Cert.KernelFfnf.nD Cert.KernelFfnf.τ).loc Cert.KernelFfnf.main_arg0) = m ((c.tc : Thread Cert.KernelFfnf.nD Cert.KernelFfnf.τ).loc Cert.KernelFfnf.main_arg0)
      ∧ r.2.mem ((c.tc : Thread Cert.KernelFfnf.nD Cert.KernelFfnf.τ).loc Cert.KernelFfnf.main_arg1) = m ((c.tc : Thread Cert.KernelFfnf.nD Cert.KernelFfnf.τ).loc Cert.KernelFfnf.main_arg1)
      ∧ r.2.mem ((c.tc : Thread Cert.KernelFfnf.nD Cert.KernelFfnf.τ).loc Cert.KernelFfnf.main_arg2) = m ((c.tc : Thread Cert.KernelFfnf.nD Cert.KernelFfnf.τ).loc Cert.KernelFfnf.main_arg2)
      ∧ r.2.mem ((c.tc : Thread Cert.KernelFfnf.nD Cert.KernelFfnf.τ).loc Cert.KernelFfnf.main_arg3) = m ((c.tc : Thread Cert.KernelFfnf.nD Cert.KernelFfnf.τ).loc Cert.KernelFfnf.main_arg3))
      ∧ r.2.sem = fun _ => 0)

def quiescent_KernelFfnfIdeal [hKernelFfnfIdeal : Cert.KernelFfnfIdeal.Facts] : Prop :=
  ∀ (m : (ℓ : Loc Cert.KernelFfnfIdeal.nD Cert.KernelFfnfIdeal.τ Cert.KernelFfnfIdeal.sig) → Buf (Elt Ideal) ℓ) (g : Dev Cert.KernelFfnfIdeal.nD → PrngReg), Pre_KernelFfnfIdeal m →
    θ_run (Cert.KernelFfnfIdeal.defs (F := Ideal)) (onTc (τ := Cert.KernelFfnfIdeal.τ) (Cert.KernelFfnfIdeal.main (F := Ideal))) ⟨m, fun _ => 0, g⟩ (fun r => (∀ c : Dev Cert.KernelFfnfIdeal.nD,
      r.2.mem ((c.tc : Thread Cert.KernelFfnfIdeal.nD Cert.KernelFfnfIdeal.τ).loc Cert.KernelFfnfIdeal.main_arg0) = m ((c.tc : Thread Cert.KernelFfnfIdeal.nD Cert.KernelFfnfIdeal.τ).loc Cert.KernelFfnfIdeal.main_arg0)
      ∧ r.2.mem ((c.tc : Thread Cert.KernelFfnfIdeal.nD Cert.KernelFfnfIdeal.τ).loc Cert.KernelFfnfIdeal.main_arg1) = m ((c.tc : Thread Cert.KernelFfnfIdeal.nD Cert.KernelFfnfIdeal.τ).loc Cert.KernelFfnfIdeal.main_arg1)
      ∧ r.2.mem ((c.tc : Thread Cert.KernelFfnfIdeal.nD Cert.KernelFfnfIdeal.τ).loc Cert.KernelFfnfIdeal.main_arg2) = m ((c.tc : Thread Cert.KernelFfnfIdeal.nD Cert.KernelFfnfIdeal.τ).loc Cert.KernelFfnfIdeal.main_arg2)
      ∧ r.2.mem ((c.tc : Thread Cert.KernelFfnfIdeal.nD Cert.KernelFfnfIdeal.τ).loc Cert.KernelFfnfIdeal.main_arg3) = m ((c.tc : Thread Cert.KernelFfnfIdeal.nD Cert.KernelFfnfIdeal.τ).loc Cert.KernelFfnfIdeal.main_arg3))
      ∧ r.2.sem = fun _ => 0)

def quiescent_ReferenceFfnfIdeal [hReferenceFfnfIdeal : Cert.ReferenceFfnfIdeal.Facts] : Prop :=
  ∀ (m : (ℓ : Loc Cert.ReferenceFfnfIdeal.nD Cert.ReferenceFfnfIdeal.τ Cert.ReferenceFfnfIdeal.sig) → Buf (Elt Ideal) ℓ) (g : Dev Cert.ReferenceFfnfIdeal.nD → PrngReg), Pre_ReferenceFfnfIdeal m →
    θ_run (Cert.ReferenceFfnfIdeal.defs (F := Ideal)) (onTc (τ := Cert.ReferenceFfnfIdeal.τ) (Cert.ReferenceFfnfIdeal.main (F := Ideal))) ⟨m, fun _ => 0, g⟩ (fun r => (∀ c : Dev Cert.ReferenceFfnfIdeal.nD,
      r.2.mem ((c.tc : Thread Cert.ReferenceFfnfIdeal.nD Cert.ReferenceFfnfIdeal.τ).loc Cert.ReferenceFfnfIdeal.main_arg0) = m ((c.tc : Thread Cert.ReferenceFfnfIdeal.nD Cert.ReferenceFfnfIdeal.τ).loc Cert.ReferenceFfnfIdeal.main_arg0)
      ∧ r.2.mem ((c.tc : Thread Cert.ReferenceFfnfIdeal.nD Cert.ReferenceFfnfIdeal.τ).loc Cert.ReferenceFfnfIdeal.main_arg1) = m ((c.tc : Thread Cert.ReferenceFfnfIdeal.nD Cert.ReferenceFfnfIdeal.τ).loc Cert.ReferenceFfnfIdeal.main_arg1)
      ∧ r.2.mem ((c.tc : Thread Cert.ReferenceFfnfIdeal.nD Cert.ReferenceFfnfIdeal.τ).loc Cert.ReferenceFfnfIdeal.main_arg2) = m ((c.tc : Thread Cert.ReferenceFfnfIdeal.nD Cert.ReferenceFfnfIdeal.τ).loc Cert.ReferenceFfnfIdeal.main_arg2)
      ∧ r.2.mem ((c.tc : Thread Cert.ReferenceFfnfIdeal.nD Cert.ReferenceFfnfIdeal.τ).loc Cert.ReferenceFfnfIdeal.main_arg3) = m ((c.tc : Thread Cert.ReferenceFfnfIdeal.nD Cert.ReferenceFfnfIdeal.τ).loc Cert.ReferenceFfnfIdeal.main_arg3))
      ∧ r.2.sem = fun _ => 0)

def quiescent_KernelMixf [hKernelMixf : Cert.KernelMixf.Facts] : Prop :=
  ∀ (m : (ℓ : Loc Cert.KernelMixf.nD Cert.KernelMixf.τ Cert.KernelMixf.sig) → Buf (Elt Bits) ℓ) (g : Dev Cert.KernelMixf.nD → PrngReg), Pre_KernelMixf m →
    θ_run (Cert.KernelMixf.defs (F := Bits)) (onTc (τ := Cert.KernelMixf.τ) (Cert.KernelMixf.main (F := Bits))) ⟨m, fun _ => 0, g⟩ (fun r => (∀ c : Dev Cert.KernelMixf.nD,
      r.2.mem ((c.tc : Thread Cert.KernelMixf.nD Cert.KernelMixf.τ).loc Cert.KernelMixf.main_arg0) = m ((c.tc : Thread Cert.KernelMixf.nD Cert.KernelMixf.τ).loc Cert.KernelMixf.main_arg0)
      ∧ r.2.mem ((c.tc : Thread Cert.KernelMixf.nD Cert.KernelMixf.τ).loc Cert.KernelMixf.main_arg1) = m ((c.tc : Thread Cert.KernelMixf.nD Cert.KernelMixf.τ).loc Cert.KernelMixf.main_arg1)
      ∧ r.2.mem ((c.tc : Thread Cert.KernelMixf.nD Cert.KernelMixf.τ).loc Cert.KernelMixf.main_arg2) = m ((c.tc : Thread Cert.KernelMixf.nD Cert.KernelMixf.τ).loc Cert.KernelMixf.main_arg2)
      ∧ r.2.mem ((c.tc : Thread Cert.KernelMixf.nD Cert.KernelMixf.τ).loc Cert.KernelMixf.main_arg3) = m ((c.tc : Thread Cert.KernelMixf.nD Cert.KernelMixf.τ).loc Cert.KernelMixf.main_arg3)
      ∧ r.2.mem ((c.tc : Thread Cert.KernelMixf.nD Cert.KernelMixf.τ).loc Cert.KernelMixf.main_arg4) = m ((c.tc : Thread Cert.KernelMixf.nD Cert.KernelMixf.τ).loc Cert.KernelMixf.main_arg4)
      ∧ r.2.mem ((c.tc : Thread Cert.KernelMixf.nD Cert.KernelMixf.τ).loc Cert.KernelMixf.main_arg5) = m ((c.tc : Thread Cert.KernelMixf.nD Cert.KernelMixf.τ).loc Cert.KernelMixf.main_arg5)
      ∧ r.2.mem ((c.tc : Thread Cert.KernelMixf.nD Cert.KernelMixf.τ).loc Cert.KernelMixf.main_arg6) = m ((c.tc : Thread Cert.KernelMixf.nD Cert.KernelMixf.τ).loc Cert.KernelMixf.main_arg6)
      ∧ r.2.mem ((c.tc : Thread Cert.KernelMixf.nD Cert.KernelMixf.τ).loc Cert.KernelMixf.main_arg7) = m ((c.tc : Thread Cert.KernelMixf.nD Cert.KernelMixf.τ).loc Cert.KernelMixf.main_arg7))
      ∧ r.2.sem = fun _ => 0)

def quiescent_KernelMixfIdeal [hKernelMixfIdeal : Cert.KernelMixfIdeal.Facts] : Prop :=
  ∀ (m : (ℓ : Loc Cert.KernelMixfIdeal.nD Cert.KernelMixfIdeal.τ Cert.KernelMixfIdeal.sig) → Buf (Elt Ideal) ℓ) (g : Dev Cert.KernelMixfIdeal.nD → PrngReg), Pre_KernelMixfIdeal m →
    θ_run (Cert.KernelMixfIdeal.defs (F := Ideal)) (onTc (τ := Cert.KernelMixfIdeal.τ) (Cert.KernelMixfIdeal.main (F := Ideal))) ⟨m, fun _ => 0, g⟩ (fun r => (∀ c : Dev Cert.KernelMixfIdeal.nD,
      r.2.mem ((c.tc : Thread Cert.KernelMixfIdeal.nD Cert.KernelMixfIdeal.τ).loc Cert.KernelMixfIdeal.main_arg0) = m ((c.tc : Thread Cert.KernelMixfIdeal.nD Cert.KernelMixfIdeal.τ).loc Cert.KernelMixfIdeal.main_arg0)
      ∧ r.2.mem ((c.tc : Thread Cert.KernelMixfIdeal.nD Cert.KernelMixfIdeal.τ).loc Cert.KernelMixfIdeal.main_arg1) = m ((c.tc : Thread Cert.KernelMixfIdeal.nD Cert.KernelMixfIdeal.τ).loc Cert.KernelMixfIdeal.main_arg1)
      ∧ r.2.mem ((c.tc : Thread Cert.KernelMixfIdeal.nD Cert.KernelMixfIdeal.τ).loc Cert.KernelMixfIdeal.main_arg2) = m ((c.tc : Thread Cert.KernelMixfIdeal.nD Cert.KernelMixfIdeal.τ).loc Cert.KernelMixfIdeal.main_arg2)
      ∧ r.2.mem ((c.tc : Thread Cert.KernelMixfIdeal.nD Cert.KernelMixfIdeal.τ).loc Cert.KernelMixfIdeal.main_arg3) = m ((c.tc : Thread Cert.KernelMixfIdeal.nD Cert.KernelMixfIdeal.τ).loc Cert.KernelMixfIdeal.main_arg3)
      ∧ r.2.mem ((c.tc : Thread Cert.KernelMixfIdeal.nD Cert.KernelMixfIdeal.τ).loc Cert.KernelMixfIdeal.main_arg4) = m ((c.tc : Thread Cert.KernelMixfIdeal.nD Cert.KernelMixfIdeal.τ).loc Cert.KernelMixfIdeal.main_arg4)
      ∧ r.2.mem ((c.tc : Thread Cert.KernelMixfIdeal.nD Cert.KernelMixfIdeal.τ).loc Cert.KernelMixfIdeal.main_arg5) = m ((c.tc : Thread Cert.KernelMixfIdeal.nD Cert.KernelMixfIdeal.τ).loc Cert.KernelMixfIdeal.main_arg5)
      ∧ r.2.mem ((c.tc : Thread Cert.KernelMixfIdeal.nD Cert.KernelMixfIdeal.τ).loc Cert.KernelMixfIdeal.main_arg6) = m ((c.tc : Thread Cert.KernelMixfIdeal.nD Cert.KernelMixfIdeal.τ).loc Cert.KernelMixfIdeal.main_arg6)
      ∧ r.2.mem ((c.tc : Thread Cert.KernelMixfIdeal.nD Cert.KernelMixfIdeal.τ).loc Cert.KernelMixfIdeal.main_arg7) = m ((c.tc : Thread Cert.KernelMixfIdeal.nD Cert.KernelMixfIdeal.τ).loc Cert.KernelMixfIdeal.main_arg7))
      ∧ r.2.sem = fun _ => 0)

def quiescent_ReferenceMixfIdeal [hReferenceMixfIdeal : Cert.ReferenceMixfIdeal.Facts] : Prop :=
  ∀ (m : (ℓ : Loc Cert.ReferenceMixfIdeal.nD Cert.ReferenceMixfIdeal.τ Cert.ReferenceMixfIdeal.sig) → Buf (Elt Ideal) ℓ) (g : Dev Cert.ReferenceMixfIdeal.nD → PrngReg), Pre_ReferenceMixfIdeal m →
    θ_run (Cert.ReferenceMixfIdeal.defs (F := Ideal)) (onTc (τ := Cert.ReferenceMixfIdeal.τ) (Cert.ReferenceMixfIdeal.main (F := Ideal))) ⟨m, fun _ => 0, g⟩ (fun r => (∀ c : Dev Cert.ReferenceMixfIdeal.nD,
      r.2.mem ((c.tc : Thread Cert.ReferenceMixfIdeal.nD Cert.ReferenceMixfIdeal.τ).loc Cert.ReferenceMixfIdeal.main_arg0) = m ((c.tc : Thread Cert.ReferenceMixfIdeal.nD Cert.ReferenceMixfIdeal.τ).loc Cert.ReferenceMixfIdeal.main_arg0)
      ∧ r.2.mem ((c.tc : Thread Cert.ReferenceMixfIdeal.nD Cert.ReferenceMixfIdeal.τ).loc Cert.ReferenceMixfIdeal.main_arg1) = m ((c.tc : Thread Cert.ReferenceMixfIdeal.nD Cert.ReferenceMixfIdeal.τ).loc Cert.ReferenceMixfIdeal.main_arg1)
      ∧ r.2.mem ((c.tc : Thread Cert.ReferenceMixfIdeal.nD Cert.ReferenceMixfIdeal.τ).loc Cert.ReferenceMixfIdeal.main_arg2) = m ((c.tc : Thread Cert.ReferenceMixfIdeal.nD Cert.ReferenceMixfIdeal.τ).loc Cert.ReferenceMixfIdeal.main_arg2)
      ∧ r.2.mem ((c.tc : Thread Cert.ReferenceMixfIdeal.nD Cert.ReferenceMixfIdeal.τ).loc Cert.ReferenceMixfIdeal.main_arg3) = m ((c.tc : Thread Cert.ReferenceMixfIdeal.nD Cert.ReferenceMixfIdeal.τ).loc Cert.ReferenceMixfIdeal.main_arg3)
      ∧ r.2.mem ((c.tc : Thread Cert.ReferenceMixfIdeal.nD Cert.ReferenceMixfIdeal.τ).loc Cert.ReferenceMixfIdeal.main_arg4) = m ((c.tc : Thread Cert.ReferenceMixfIdeal.nD Cert.ReferenceMixfIdeal.τ).loc Cert.ReferenceMixfIdeal.main_arg4)
      ∧ r.2.mem ((c.tc : Thread Cert.ReferenceMixfIdeal.nD Cert.ReferenceMixfIdeal.τ).loc Cert.ReferenceMixfIdeal.main_arg5) = m ((c.tc : Thread Cert.ReferenceMixfIdeal.nD Cert.ReferenceMixfIdeal.τ).loc Cert.ReferenceMixfIdeal.main_arg5)
      ∧ r.2.mem ((c.tc : Thread Cert.ReferenceMixfIdeal.nD Cert.ReferenceMixfIdeal.τ).loc Cert.ReferenceMixfIdeal.main_arg6) = m ((c.tc : Thread Cert.ReferenceMixfIdeal.nD Cert.ReferenceMixfIdeal.τ).loc Cert.ReferenceMixfIdeal.main_arg6)
      ∧ r.2.mem ((c.tc : Thread Cert.ReferenceMixfIdeal.nD Cert.ReferenceMixfIdeal.τ).loc Cert.ReferenceMixfIdeal.main_arg7) = m ((c.tc : Thread Cert.ReferenceMixfIdeal.nD Cert.ReferenceMixfIdeal.τ).loc Cert.ReferenceMixfIdeal.main_arg7))
      ∧ r.2.sem = fun _ => 0)

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v50) = v0 c
          ∧ r.2.mem ((c.tc : Thread Cert.ReferenceLossIdeal.nD Cert.ReferenceLossIdeal.τ).loc Cert.ReferenceLossIdeal.main_v51) = v1 c
          ∧ r.2.mem ((c.tc : Thread Cert.ReferenceLossIdeal.nD Cert.ReferenceLossIdeal.τ).loc Cert.ReferenceLossIdeal.main_v52) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelInp_KernelInpIdeal : Prop :=
  True

def algebraic_KernelInpIdeal_ReferenceInpIdeal_pre_finite_inp [hKernelInpIdeal : Cert.KernelInpIdeal.Facts] [hReferenceInpIdeal : Cert.ReferenceInpIdeal.Facts] [hPre_finite_inp : Cert.Pre_finite_inp.Facts] : Prop :=
  ∀ (m : (ℓ : Loc Cert.KernelInpIdeal.nD Cert.KernelInpIdeal.τ Cert.KernelInpIdeal.sig) → Buf (Elt Ideal) ℓ) (g : Dev Cert.KernelInpIdeal.nD → PrngReg)
    (m' : (ℓ : Loc Cert.ReferenceInpIdeal.nD Cert.ReferenceInpIdeal.τ Cert.ReferenceInpIdeal.sig) → Buf (Elt Ideal) ℓ) (g' : Dev Cert.ReferenceInpIdeal.nD → PrngReg), Pre_KernelInpIdeal_finite_inp m →
    (∀ c : Dev Cert.KernelInpIdeal.nD,
      m' ((c.tc : Thread Cert.ReferenceInpIdeal.nD Cert.ReferenceInpIdeal.τ).loc Cert.ReferenceInpIdeal.main_arg0) = m ((c.tc : Thread Cert.KernelInpIdeal.nD Cert.KernelInpIdeal.τ).loc Cert.KernelInpIdeal.main_arg0)
      ∧ m' ((c.tc : Thread Cert.ReferenceInpIdeal.nD Cert.ReferenceInpIdeal.τ).loc Cert.ReferenceInpIdeal.main_arg1) = m ((c.tc : Thread Cert.KernelInpIdeal.nD Cert.KernelInpIdeal.τ).loc Cert.KernelInpIdeal.main_arg1)
      ∧ m' ((c.tc : Thread Cert.ReferenceInpIdeal.nD Cert.ReferenceInpIdeal.τ).loc Cert.ReferenceInpIdeal.main_arg2) = m ((c.tc : Thread Cert.KernelInpIdeal.nD Cert.KernelInpIdeal.τ).loc Cert.KernelInpIdeal.main_arg2)
      ∧ m' ((c.tc : Thread Cert.ReferenceInpIdeal.nD Cert.ReferenceInpIdeal.τ).loc Cert.ReferenceInpIdeal.main_arg3) = m ((c.tc : Thread Cert.KernelInpIdeal.nD Cert.KernelInpIdeal.τ).loc Cert.KernelInpIdeal.main_arg3)
      ∧ m' ((c.tc : Thread Cert.ReferenceInpIdeal.nD Cert.ReferenceInpIdeal.τ).loc Cert.ReferenceInpIdeal.main_arg4) = m ((c.tc : Thread Cert.KernelInpIdeal.nD Cert.KernelInpIdeal.τ).loc Cert.KernelInpIdeal.main_arg4)) →
    ∃ (v0 : (c : Dev Cert.KernelInpIdeal.nD) → Buf (Elt Ideal) ((c.tc : Thread Cert.KernelInpIdeal.nD Cert.KernelInpIdeal.τ).loc Cert.KernelInpIdeal.main_v3_0)) (v1 : (c : Dev Cert.KernelInpIdeal.nD) → Buf (Elt Ideal) ((c.tc : Thread Cert.KernelInpIdeal.nD Cert.KernelInpIdeal.τ).loc Cert.KernelInpIdeal.main_v3_1)),
      θ_run (Cert.KernelInpIdeal.defs (F := Ideal)) (onTc (τ := Cert.KernelInpIdeal.τ) (Cert.KernelInpIdeal.main (F := Ideal))) ⟨m, fun _ => 0, g⟩ (fun r => ∀ c : Dev Cert.KernelInpIdeal.nD,
          r.2.mem ((c.tc : Thread Cert.KernelInpIdeal.nD Cert.KernelInpIdeal.τ).loc Cert.KernelInpIdeal.main_v3_0) = v0 c
          ∧ r.2.mem ((c.tc : Thread Cert.KernelInpIdeal.nD Cert.KernelInpIdeal.τ).loc Cert.KernelInpIdeal.main_v3_1) = v1 c
          ∧ r.2.mem ((c.tc : Thread Cert.KernelInpIdeal.nD Cert.KernelInpIdeal.τ).loc Cert.KernelInpIdeal.main_arg0) = m ((c.tc : Thread Cert.KernelInpIdeal.nD Cert.KernelInpIdeal.τ).loc Cert.KernelInpIdeal.main_arg0)
          ∧ r.2.mem ((c.tc : Thread Cert.KernelInpIdeal.nD Cert.KernelInpIdeal.τ).loc Cert.KernelInpIdeal.main_arg1) = m ((c.tc : Thread Cert.KernelInpIdeal.nD Cert.KernelInpIdeal.τ).loc Cert.KernelInpIdeal.main_arg1)
          ∧ r.2.mem ((c.tc : Thread Cert.KernelInpIdeal.nD Cert.KernelInpIdeal.τ).loc Cert.KernelInpIdeal.main_arg2) = m ((c.tc : Thread Cert.KernelInpIdeal.nD Cert.KernelInpIdeal.τ).loc Cert.KernelInpIdeal.main_arg2)
          ∧ r.2.mem ((c.tc : Thread Cert.KernelInpIdeal.nD Cert.KernelInpIdeal.τ).loc Cert.KernelInpIdeal.main_arg3) = m ((c.tc : Thread Cert.KernelInpIdeal.nD Cert.KernelInpIdeal.τ).loc Cert.KernelInpIdeal.main_arg3)
          ∧ r.2.mem ((c.tc : Thread Cert.KernelInpIdeal.nD Cert.KernelInpIdeal.τ).loc Cert.KernelInpIdeal.main_arg4) = m ((c.tc : Thread Cert.KernelInpIdeal.nD Cert.KernelInpIdeal.τ).loc Cert.KernelInpIdeal.main_arg4))
      ∧ θ_run (Cert.ReferenceInpIdeal.defs (F := Ideal)) (onTc (τ := Cert.ReferenceInpIdeal.τ) (Cert.ReferenceInpIdeal.main (F := Ideal))) ⟨m', fun _ => 0, g'⟩ (fun r => ∀ c : Dev Cert.ReferenceInpIdeal.nD,
          r.2.mem ((c.tc : Thread Cert.ReferenceInpIdeal.nD Cert.ReferenceInpIdeal.τ).loc Cert.ReferenceInpIdeal.main_v39) = v0 c
          ∧ r.2.mem ((c.tc : Thread Cert.ReferenceInpIdeal.nD Cert.ReferenceInpIdeal.τ).loc Cert.ReferenceInpIdeal.main_v40) = v1 c
          ∧ r.2.mem ((c.tc : Thread Cert.ReferenceInpIdeal.nD Cert.ReferenceInpIdeal.τ).loc Cert.ReferenceInpIdeal.main_arg0) = m' ((c.tc : Thread Cert.ReferenceInpIdeal.nD Cert.ReferenceInpIdeal.τ).loc Cert.ReferenceInpIdeal.main_arg0)
          ∧ r.2.mem ((c.tc : Thread Cert.ReferenceInpIdeal.nD Cert.ReferenceInpIdeal.τ).loc Cert.ReferenceInpIdeal.main_arg1) = m' ((c.tc : Thread Cert.ReferenceInpIdeal.nD Cert.ReferenceInpIdeal.τ).loc Cert.ReferenceInpIdeal.main_arg1)
          ∧ r.2.mem ((c.tc : Thread Cert.ReferenceInpIdeal.nD Cert.ReferenceInpIdeal.τ).loc Cert.ReferenceInpIdeal.main_arg2) = m' ((c.tc : Thread Cert.ReferenceInpIdeal.nD Cert.ReferenceInpIdeal.τ).loc Cert.ReferenceInpIdeal.main_arg2)
          ∧ r.2.mem ((c.tc : Thread Cert.ReferenceInpIdeal.nD Cert.ReferenceInpIdeal.τ).loc Cert.ReferenceInpIdeal.main_arg3) = m' ((c.tc : Thread Cert.ReferenceInpIdeal.nD Cert.ReferenceInpIdeal.τ).loc Cert.ReferenceInpIdeal.main_arg3)
          ∧ r.2.mem ((c.tc : Thread Cert.ReferenceInpIdeal.nD Cert.ReferenceInpIdeal.τ).loc Cert.ReferenceInpIdeal.main_arg4) = m' ((c.tc : Thread Cert.ReferenceInpIdeal.nD Cert.ReferenceInpIdeal.τ).loc Cert.ReferenceInpIdeal.main_arg4))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v22_0)) (v1 : (c : Dev Cert.KernelFfnIdeal.nD) → Buf (Elt Ideal) ((c.tc : Thread Cert.KernelFfnIdeal.nD Cert.KernelFfnIdeal.τ).loc Cert.KernelFfnIdeal.main_v22_1)) (v2 : (c : Dev Cert.KernelFfnIdeal.nD) → Buf (Elt Ideal) ((c.tc : Thread Cert.KernelFfnIdeal.nD Cert.KernelFfnIdeal.τ).loc Cert.KernelFfnIdeal.main_v22_2)) (v3 : (c : Dev Cert.KernelFfnIdeal.nD) → Buf (Elt Ideal) ((c.tc : Thread Cert.KernelFfnIdeal.nD Cert.KernelFfnIdeal.τ).loc Cert.KernelFfnIdeal.main_v22_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v22_0) = v0 c
          ∧ r.2.mem ((c.tc : Thread Cert.KernelFfnIdeal.nD Cert.KernelFfnIdeal.τ).loc Cert.KernelFfnIdeal.main_v22_1) = v1 c
          ∧ r.2.mem ((c.tc : Thread Cert.KernelFfnIdeal.nD Cert.KernelFfnIdeal.τ).loc Cert.KernelFfnIdeal.main_v22_2) = v2 c
          ∧ r.2.mem ((c.tc : Thread Cert.KernelFfnIdeal.nD Cert.KernelFfnIdeal.τ).loc Cert.KernelFfnIdeal.main_v22_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v52) = v0 c
          ∧ r.2.mem ((c.tc : Thread Cert.ReferenceFfnIdeal.nD Cert.ReferenceFfnIdeal.τ).loc Cert.ReferenceFfnIdeal.main_v79) = v1 c
          ∧ r.2.mem ((c.tc : Thread Cert.ReferenceFfnIdeal.nD Cert.ReferenceFfnIdeal.τ).loc Cert.ReferenceFfnIdeal.main_v80) = v2 c
          ∧ r.2.mem ((c.tc : Thread Cert.ReferenceFfnIdeal.nD Cert.ReferenceFfnIdeal.τ).loc Cert.ReferenceFfnIdeal.main_v81) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelOut_KernelOutIdeal : Prop :=
  True

def algebraic_KernelOutIdeal_ReferenceOutIdeal_pre_finite_out [hKernelOutIdeal : Cert.KernelOutIdeal.Facts] [hReferenceOutIdeal : Cert.ReferenceOutIdeal.Facts] [hPre_finite_out : Cert.Pre_finite_out.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal_finite_out m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)) (v2 : (c : Dev Cert.KernelOutIdeal.nD) → Buf (Elt Ideal) ((c.tc : Thread Cert.KernelOutIdeal.nD Cert.KernelOutIdeal.τ).loc Cert.KernelOutIdeal.main_v2_2)) (v3 : (c : Dev Cert.KernelOutIdeal.nD) → Buf (Elt Ideal) ((c.tc : Thread Cert.KernelOutIdeal.nD Cert.KernelOutIdeal.τ).loc Cert.KernelOutIdeal.main_v2_3)) (v4 : (c : Dev Cert.KernelOutIdeal.nD) → Buf (Elt Ideal) ((c.tc : Thread Cert.KernelOutIdeal.nD Cert.KernelOutIdeal.τ).loc Cert.KernelOutIdeal.main_v2_4)) (v5 : (c : Dev Cert.KernelOutIdeal.nD) → Buf (Elt Ideal) ((c.tc : Thread Cert.KernelOutIdeal.nD Cert.KernelOutIdeal.τ).loc Cert.KernelOutIdeal.main_v2_5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_v2_2) = v2 c
          ∧ r.2.mem ((c.tc : Thread Cert.KernelOutIdeal.nD Cert.KernelOutIdeal.τ).loc Cert.KernelOutIdeal.main_v2_3) = v3 c
          ∧ r.2.mem ((c.tc : Thread Cert.KernelOutIdeal.nD Cert.KernelOutIdeal.τ).loc Cert.KernelOutIdeal.main_v2_4) = v4 c
          ∧ r.2.mem ((c.tc : Thread Cert.KernelOutIdeal.nD Cert.KernelOutIdeal.τ).loc Cert.KernelOutIdeal.main_v2_5) = v5 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v125) = v0 c
          ∧ r.2.mem ((c.tc : Thread Cert.ReferenceOutIdeal.nD Cert.ReferenceOutIdeal.τ).loc Cert.ReferenceOutIdeal.main_v111) = v1 c
          ∧ r.2.mem ((c.tc : Thread Cert.ReferenceOutIdeal.nD Cert.ReferenceOutIdeal.τ).loc Cert.ReferenceOutIdeal.main_v97) = v2 c
          ∧ r.2.mem ((c.tc : Thread Cert.ReferenceOutIdeal.nD Cert.ReferenceOutIdeal.τ).loc Cert.ReferenceOutIdeal.main_v83) = v3 c
          ∧ r.2.mem ((c.tc : Thread Cert.ReferenceOutIdeal.nD Cert.ReferenceOutIdeal.τ).loc Cert.ReferenceOutIdeal.main_v126) = v4 c
          ∧ r.2.mem ((c.tc : Thread Cert.ReferenceOutIdeal.nD Cert.ReferenceOutIdeal.τ).loc Cert.ReferenceOutIdeal.main_v58) = v5 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelAttn_KernelAttnIdeal : Prop :=
  IdealRules.named_const.Statement Cert.KernelAttnIdeal.κ "cut" .f32 0xC2D00000#32 ⊥

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)) →
    ∃ (v0 : (c : Dev Cert.KernelAttnIdeal.nD) → Buf (Elt Ideal) ((c.tc : Thread Cert.KernelAttnIdeal.nD Cert.KernelAttnIdeal.τ).loc Cert.KernelAttnIdeal.main_v46_0)) (v1 : (c : Dev Cert.KernelAttnIdeal.nD) → Buf (Elt Ideal) ((c.tc : Thread Cert.KernelAttnIdeal.nD Cert.KernelAttnIdeal.τ).loc Cert.KernelAttnIdeal.main_v46_1)) (v2 : (c : Dev Cert.KernelAttnIdeal.nD) → Buf (Elt Ideal) ((c.tc : Thread Cert.KernelAttnIdeal.nD Cert.KernelAttnIdeal.τ).loc Cert.KernelAttnIdeal.main_v46_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v46_0) = v0 c
          ∧ r.2.mem ((c.tc : Thread Cert.KernelAttnIdeal.nD Cert.KernelAttnIdeal.τ).loc Cert.KernelAttnIdeal.main_v46_1) = v1 c
          ∧ r.2.mem ((c.tc : Thread Cert.KernelAttnIdeal.nD Cert.KernelAttnIdeal.τ).loc Cert.KernelAttnIdeal.main_v46_2) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v56) = v0 c
          ∧ r.2.mem ((c.tc : Thread Cert.ReferenceAttnIdeal.nD Cert.ReferenceAttnIdeal.τ).loc Cert.ReferenceAttnIdeal.main_v58) = v1 c
          ∧ r.2.mem ((c.tc : Thread Cert.ReferenceAttnIdeal.nD Cert.ReferenceAttnIdeal.τ).loc Cert.ReferenceAttnIdeal.main_v60) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1))

def preserves_KernelAttnf_KernelAttnfIdeal : Prop :=
  IdealRules.named_const.Statement Cert.KernelAttnfIdeal.κ "cut" .f32 0xC2D00000#32 ⊥

def algebraic_KernelAttnfIdeal_ReferenceAttnfIdeal_pre_finite_attnf [hKernelAttnfIdeal : Cert.KernelAttnfIdeal.Facts] [hReferenceAttnfIdeal : Cert.ReferenceAttnfIdeal.Facts] [hPre_finite_attnf : Cert.Pre_finite_attnf.Facts] : Prop :=
  ∀ (m : (ℓ : Loc Cert.KernelAttnfIdeal.nD Cert.KernelAttnfIdeal.τ Cert.KernelAttnfIdeal.sig) → Buf (Elt Ideal) ℓ) (g : Dev Cert.KernelAttnfIdeal.nD → PrngReg)
    (m' : (ℓ : Loc Cert.ReferenceAttnfIdeal.nD Cert.ReferenceAttnfIdeal.τ Cert.ReferenceAttnfIdeal.sig) → Buf (Elt Ideal) ℓ) (g' : Dev Cert.ReferenceAttnfIdeal.nD → PrngReg), Pre_KernelAttnfIdeal_finite_attnf m →
    (∀ c : Dev Cert.KernelAttnfIdeal.nD,
      m' ((c.tc : Thread Cert.ReferenceAttnfIdeal.nD Cert.ReferenceAttnfIdeal.τ).loc Cert.ReferenceAttnfIdeal.main_arg0) = m ((c.tc : Thread Cert.KernelAttnfIdeal.nD Cert.KernelAttnfIdeal.τ).loc Cert.KernelAttnfIdeal.main_arg0)) →
    ∃ (v0 : (c : Dev Cert.KernelAttnfIdeal.nD) → Buf (Elt Ideal) ((c.tc : Thread Cert.KernelAttnfIdeal.nD Cert.KernelAttnfIdeal.τ).loc Cert.KernelAttnfIdeal.main_v13)),
      θ_run (Cert.KernelAttnfIdeal.defs (F := Ideal)) (onTc (τ := Cert.KernelAttnfIdeal.τ) (Cert.KernelAttnfIdeal.main (F := Ideal))) ⟨m, fun _ => 0, g⟩ (fun r => ∀ c : Dev Cert.KernelAttnfIdeal.nD,
          r.2.mem ((c.tc : Thread Cert.KernelAttnfIdeal.nD Cert.KernelAttnfIdeal.τ).loc Cert.KernelAttnfIdeal.main_v13) = v0 c
          ∧ r.2.mem ((c.tc : Thread Cert.KernelAttnfIdeal.nD Cert.KernelAttnfIdeal.τ).loc Cert.KernelAttnfIdeal.main_arg0) = m ((c.tc : Thread Cert.KernelAttnfIdeal.nD Cert.KernelAttnfIdeal.τ).loc Cert.KernelAttnfIdeal.main_arg0))
      ∧ θ_run (Cert.ReferenceAttnfIdeal.defs (F := Ideal)) (onTc (τ := Cert.ReferenceAttnfIdeal.τ) (Cert.ReferenceAttnfIdeal.main (F := Ideal))) ⟨m', fun _ => 0, g'⟩ (fun r => ∀ c : Dev Cert.ReferenceAttnfIdeal.nD,
          r.2.mem ((c.tc : Thread Cert.ReferenceAttnfIdeal.nD Cert.ReferenceAttnfIdeal.τ).loc Cert.ReferenceAttnfIdeal.main_v26) = v0 c
          ∧ r.2.mem ((c.tc : Thread Cert.ReferenceAttnfIdeal.nD Cert.ReferenceAttnfIdeal.τ).loc Cert.ReferenceAttnfIdeal.main_arg0) = m' ((c.tc : Thread Cert.ReferenceAttnfIdeal.nD Cert.ReferenceAttnfIdeal.τ).loc Cert.ReferenceAttnfIdeal.main_arg0))

def preserves_KernelInpf_KernelInpfIdeal : Prop :=
  True

def algebraic_KernelInpfIdeal_ReferenceInpfIdeal [hKernelInpfIdeal : Cert.KernelInpfIdeal.Facts] [hReferenceInpfIdeal : Cert.ReferenceInpfIdeal.Facts] : Prop :=
  ∀ (m : (ℓ : Loc Cert.KernelInpfIdeal.nD Cert.KernelInpfIdeal.τ Cert.KernelInpfIdeal.sig) → Buf (Elt Ideal) ℓ) (g : Dev Cert.KernelInpfIdeal.nD → PrngReg)
    (m' : (ℓ : Loc Cert.ReferenceInpfIdeal.nD Cert.ReferenceInpfIdeal.τ Cert.ReferenceInpfIdeal.sig) → Buf (Elt Ideal) ℓ) (g' : Dev Cert.ReferenceInpfIdeal.nD → PrngReg), Pre_KernelInpfIdeal m →
    (∀ c : Dev Cert.KernelInpfIdeal.nD,
      m' ((c.tc : Thread Cert.ReferenceInpfIdeal.nD Cert.ReferenceInpfIdeal.τ).loc Cert.ReferenceInpfIdeal.main_arg0) = m ((c.tc : Thread Cert.KernelInpfIdeal.nD Cert.KernelInpfIdeal.τ).loc Cert.KernelInpfIdeal.main_arg0)
      ∧ m' ((c.tc : Thread Cert.ReferenceInpfIdeal.nD Cert.ReferenceInpfIdeal.τ).loc Cert.ReferenceInpfIdeal.main_arg1) = m ((c.tc : Thread Cert.KernelInpfIdeal.nD Cert.KernelInpfIdeal.τ).loc Cert.KernelInpfIdeal.main_arg1)
      ∧ m' ((c.tc : Thread Cert.ReferenceInpfIdeal.nD Cert.ReferenceInpfIdeal.τ).loc Cert.ReferenceInpfIdeal.main_arg2) = m ((c.tc : Thread Cert.KernelInpfIdeal.nD Cert.KernelInpfIdeal.τ).loc Cert.KernelInpfIdeal.main_arg2)) →
    ∃ (v0 : (c : Dev Cert.KernelInpfIdeal.nD) → Buf (Elt Ideal) ((c.tc : Thread Cert.KernelInpfIdeal.nD Cert.KernelInpfIdeal.τ).loc Cert.KernelInpfIdeal.main_v3_0)) (v1 : (c : Dev Cert.KernelInpfIdeal.nD) → Buf (Elt Ideal) ((c.tc : Thread Cert.KernelInpfIdeal.nD Cert.KernelInpfIdeal.τ).loc Cert.KernelInpfIdeal.main_v3_1)) (v2 : (c : Dev Cert.KernelInpfIdeal.nD) → Buf (Elt Ideal) ((c.tc : Thread Cert.KernelInpfIdeal.nD Cert.KernelInpfIdeal.τ).loc Cert.KernelInpfIdeal.main_v3_2)),
      θ_run (Cert.KernelInpfIdeal.defs (F := Ideal)) (onTc (τ := Cert.KernelInpfIdeal.τ) (Cert.KernelInpfIdeal.main (F := Ideal))) ⟨m, fun _ => 0, g⟩ (fun r => ∀ c : Dev Cert.KernelInpfIdeal.nD,
          r.2.mem ((c.tc : Thread Cert.KernelInpfIdeal.nD Cert.KernelInpfIdeal.τ).loc Cert.KernelInpfIdeal.main_v3_0) = v0 c
          ∧ r.2.mem ((c.tc : Thread Cert.KernelInpfIdeal.nD Cert.KernelInpfIdeal.τ).loc Cert.KernelInpfIdeal.main_v3_1) = v1 c
          ∧ r.2.mem ((c.tc : Thread Cert.KernelInpfIdeal.nD Cert.KernelInpfIdeal.τ).loc Cert.KernelInpfIdeal.main_v3_2) = v2 c
          ∧ r.2.mem ((c.tc : Thread Cert.KernelInpfIdeal.nD Cert.KernelInpfIdeal.τ).loc Cert.KernelInpfIdeal.main_arg0) = m ((c.tc : Thread Cert.KernelInpfIdeal.nD Cert.KernelInpfIdeal.τ).loc Cert.KernelInpfIdeal.main_arg0)
          ∧ r.2.mem ((c.tc : Thread Cert.KernelInpfIdeal.nD Cert.KernelInpfIdeal.τ).loc Cert.KernelInpfIdeal.main_arg1) = m ((c.tc : Thread Cert.KernelInpfIdeal.nD Cert.KernelInpfIdeal.τ).loc Cert.KernelInpfIdeal.main_arg1)
          ∧ r.2.mem ((c.tc : Thread Cert.KernelInpfIdeal.nD Cert.KernelInpfIdeal.τ).loc Cert.KernelInpfIdeal.main_arg2) = m ((c.tc : Thread Cert.KernelInpfIdeal.nD Cert.KernelInpfIdeal.τ).loc Cert.KernelInpfIdeal.main_arg2))
      ∧ θ_run (Cert.ReferenceInpfIdeal.defs (F := Ideal)) (onTc (τ := Cert.ReferenceInpfIdeal.τ) (Cert.ReferenceInpfIdeal.main (F := Ideal))) ⟨m', fun _ => 0, g'⟩ (fun r => ∀ c : Dev Cert.ReferenceInpfIdeal.nD,
          r.2.mem ((c.tc : Thread Cert.ReferenceInpfIdeal.nD Cert.ReferenceInpfIdeal.τ).loc Cert.ReferenceInpfIdeal.main_v13) = v0 c
          ∧ r.2.mem ((c.tc : Thread Cert.ReferenceInpfIdeal.nD Cert.ReferenceInpfIdeal.τ).loc Cert.ReferenceInpfIdeal.main_v21) = v1 c
          ∧ r.2.mem ((c.tc : Thread Cert.ReferenceInpfIdeal.nD Cert.ReferenceInpfIdeal.τ).loc Cert.ReferenceInpfIdeal.main_v22) = v2 c
          ∧ r.2.mem ((c.tc : Thread Cert.ReferenceInpfIdeal.nD Cert.ReferenceInpfIdeal.τ).loc Cert.ReferenceInpfIdeal.main_arg0) = m' ((c.tc : Thread Cert.ReferenceInpfIdeal.nD Cert.ReferenceInpfIdeal.τ).loc Cert.ReferenceInpfIdeal.main_arg0)
          ∧ r.2.mem ((c.tc : Thread Cert.ReferenceInpfIdeal.nD Cert.ReferenceInpfIdeal.τ).loc Cert.ReferenceInpfIdeal.main_arg1) = m' ((c.tc : Thread Cert.ReferenceInpfIdeal.nD Cert.ReferenceInpfIdeal.τ).loc Cert.ReferenceInpfIdeal.main_arg1)
          ∧ r.2.mem ((c.tc : Thread Cert.ReferenceInpfIdeal.nD Cert.ReferenceInpfIdeal.τ).loc Cert.ReferenceInpfIdeal.main_arg2) = m' ((c.tc : Thread Cert.ReferenceInpfIdeal.nD Cert.ReferenceInpfIdeal.τ).loc Cert.ReferenceInpfIdeal.main_arg2))

def preserves_KernelOutf_KernelOutfIdeal : Prop :=
  True

def algebraic_KernelOutfIdeal_ReferenceOutfIdeal [hKernelOutfIdeal : Cert.KernelOutfIdeal.Facts] [hReferenceOutfIdeal : Cert.ReferenceOutfIdeal.Facts] : Prop :=
  ∀ (m : (ℓ : Loc Cert.KernelOutfIdeal.nD Cert.KernelOutfIdeal.τ Cert.KernelOutfIdeal.sig) → Buf (Elt Ideal) ℓ) (g : Dev Cert.KernelOutfIdeal.nD → PrngReg)
    (m' : (ℓ : Loc Cert.ReferenceOutfIdeal.nD Cert.ReferenceOutfIdeal.τ Cert.ReferenceOutfIdeal.sig) → Buf (Elt Ideal) ℓ) (g' : Dev Cert.ReferenceOutfIdeal.nD → PrngReg), Pre_KernelOutfIdeal m →
    (∀ c : Dev Cert.KernelOutfIdeal.nD,
      m' ((c.tc : Thread Cert.ReferenceOutfIdeal.nD Cert.ReferenceOutfIdeal.τ).loc Cert.ReferenceOutfIdeal.main_arg0) = m ((c.tc : Thread Cert.KernelOutfIdeal.nD Cert.KernelOutfIdeal.τ).loc Cert.KernelOutfIdeal.main_arg0)
      ∧ m' ((c.tc : Thread Cert.ReferenceOutfIdeal.nD Cert.ReferenceOutfIdeal.τ).loc Cert.ReferenceOutfIdeal.main_arg1) = m ((c.tc : Thread Cert.KernelOutfIdeal.nD Cert.KernelOutfIdeal.τ).loc Cert.KernelOutfIdeal.main_arg1)
      ∧ m' ((c.tc : Thread Cert.ReferenceOutfIdeal.nD Cert.ReferenceOutfIdeal.τ).loc Cert.ReferenceOutfIdeal.main_arg2) = m ((c.tc : Thread Cert.KernelOutfIdeal.nD Cert.KernelOutfIdeal.τ).loc Cert.KernelOutfIdeal.main_arg2)
      ∧ m' ((c.tc : Thread Cert.ReferenceOutfIdeal.nD Cert.ReferenceOutfIdeal.τ).loc Cert.ReferenceOutfIdeal.main_arg3) = m ((c.tc : Thread Cert.KernelOutfIdeal.nD Cert.KernelOutfIdeal.τ).loc Cert.KernelOutfIdeal.main_arg3)
      ∧ m' ((c.tc : Thread Cert.ReferenceOutfIdeal.nD Cert.ReferenceOutfIdeal.τ).loc Cert.ReferenceOutfIdeal.main_arg4) = m ((c.tc : Thread Cert.KernelOutfIdeal.nD Cert.KernelOutfIdeal.τ).loc Cert.KernelOutfIdeal.main_arg4)
      ∧ m' ((c.tc : Thread Cert.ReferenceOutfIdeal.nD Cert.ReferenceOutfIdeal.τ).loc Cert.ReferenceOutfIdeal.main_arg5) = m ((c.tc : Thread Cert.KernelOutfIdeal.nD Cert.KernelOutfIdeal.τ).loc Cert.KernelOutfIdeal.main_arg5)
      ∧ m' ((c.tc : Thread Cert.ReferenceOutfIdeal.nD Cert.ReferenceOutfIdeal.τ).loc Cert.ReferenceOutfIdeal.main_arg6) = m ((c.tc : Thread Cert.KernelOutfIdeal.nD Cert.KernelOutfIdeal.τ).loc Cert.KernelOutfIdeal.main_arg6)) →
    ∃ (v0 : (c : Dev Cert.KernelOutfIdeal.nD) → Buf (Elt Ideal) ((c.tc : Thread Cert.KernelOutfIdeal.nD Cert.KernelOutfIdeal.τ).loc Cert.KernelOutfIdeal.main_v2)),
      θ_run (Cert.KernelOutfIdeal.defs (F := Ideal)) (onTc (τ := Cert.KernelOutfIdeal.τ) (Cert.KernelOutfIdeal.main (F := Ideal))) ⟨m, fun _ => 0, g⟩ (fun r => ∀ c : Dev Cert.KernelOutfIdeal.nD,
          r.2.mem ((c.tc : Thread Cert.KernelOutfIdeal.nD Cert.KernelOutfIdeal.τ).loc Cert.KernelOutfIdeal.main_v2) = v0 c
          ∧ r.2.mem ((c.tc : Thread Cert.KernelOutfIdeal.nD Cert.KernelOutfIdeal.τ).loc Cert.KernelOutfIdeal.main_arg0) = m ((c.tc : Thread Cert.KernelOutfIdeal.nD Cert.KernelOutfIdeal.τ).loc Cert.KernelOutfIdeal.main_arg0)
          ∧ r.2.mem ((c.tc : Thread Cert.KernelOutfIdeal.nD Cert.KernelOutfIdeal.τ).loc Cert.KernelOutfIdeal.main_arg1) = m ((c.tc : Thread Cert.KernelOutfIdeal.nD Cert.KernelOutfIdeal.τ).loc Cert.KernelOutfIdeal.main_arg1)
          ∧ r.2.mem ((c.tc : Thread Cert.KernelOutfIdeal.nD Cert.KernelOutfIdeal.τ).loc Cert.KernelOutfIdeal.main_arg2) = m ((c.tc : Thread Cert.KernelOutfIdeal.nD Cert.KernelOutfIdeal.τ).loc Cert.KernelOutfIdeal.main_arg2)
          ∧ r.2.mem ((c.tc : Thread Cert.KernelOutfIdeal.nD Cert.KernelOutfIdeal.τ).loc Cert.KernelOutfIdeal.main_arg3) = m ((c.tc : Thread Cert.KernelOutfIdeal.nD Cert.KernelOutfIdeal.τ).loc Cert.KernelOutfIdeal.main_arg3)
          ∧ r.2.mem ((c.tc : Thread Cert.KernelOutfIdeal.nD Cert.KernelOutfIdeal.τ).loc Cert.KernelOutfIdeal.main_arg4) = m ((c.tc : Thread Cert.KernelOutfIdeal.nD Cert.KernelOutfIdeal.τ).loc Cert.KernelOutfIdeal.main_arg4)
          ∧ r.2.mem ((c.tc : Thread Cert.KernelOutfIdeal.nD Cert.KernelOutfIdeal.τ).loc Cert.KernelOutfIdeal.main_arg5) = m ((c.tc : Thread Cert.KernelOutfIdeal.nD Cert.KernelOutfIdeal.τ).loc Cert.KernelOutfIdeal.main_arg5)
          ∧ r.2.mem ((c.tc : Thread Cert.KernelOutfIdeal.nD Cert.KernelOutfIdeal.τ).loc Cert.KernelOutfIdeal.main_arg6) = m ((c.tc : Thread Cert.KernelOutfIdeal.nD Cert.KernelOutfIdeal.τ).loc Cert.KernelOutfIdeal.main_arg6))
      ∧ θ_run (Cert.ReferenceOutfIdeal.defs (F := Ideal)) (onTc (τ := Cert.ReferenceOutfIdeal.τ) (Cert.ReferenceOutfIdeal.main (F := Ideal))) ⟨m', fun _ => 0, g'⟩ (fun r => ∀ c : Dev Cert.ReferenceOutfIdeal.nD,
          r.2.mem ((c.tc : Thread Cert.ReferenceOutfIdeal.nD Cert.ReferenceOutfIdeal.τ).loc Cert.ReferenceOutfIdeal.main_v45) = v0 c
          ∧ r.2.mem ((c.tc : Thread Cert.ReferenceOutfIdeal.nD Cert.ReferenceOutfIdeal.τ).loc Cert.ReferenceOutfIdeal.main_arg0) = m' ((c.tc : Thread Cert.ReferenceOutfIdeal.nD Cert.ReferenceOutfIdeal.τ).loc Cert.ReferenceOutfIdeal.main_arg0)
          ∧ r.2.mem ((c.tc : Thread Cert.ReferenceOutfIdeal.nD Cert.ReferenceOutfIdeal.τ).loc Cert.ReferenceOutfIdeal.main_arg1) = m' ((c.tc : Thread Cert.ReferenceOutfIdeal.nD Cert.ReferenceOutfIdeal.τ).loc Cert.ReferenceOutfIdeal.main_arg1)
          ∧ r.2.mem ((c.tc : Thread Cert.ReferenceOutfIdeal.nD Cert.ReferenceOutfIdeal.τ).loc Cert.ReferenceOutfIdeal.main_arg2) = m' ((c.tc : Thread Cert.ReferenceOutfIdeal.nD Cert.ReferenceOutfIdeal.τ).loc Cert.ReferenceOutfIdeal.main_arg2)
          ∧ r.2.mem ((c.tc : Thread Cert.ReferenceOutfIdeal.nD Cert.ReferenceOutfIdeal.τ).loc Cert.ReferenceOutfIdeal.main_arg3) = m' ((c.tc : Thread Cert.ReferenceOutfIdeal.nD Cert.ReferenceOutfIdeal.τ).loc Cert.ReferenceOutfIdeal.main_arg3)
          ∧ r.2.mem ((c.tc : Thread Cert.ReferenceOutfIdeal.nD Cert.ReferenceOutfIdeal.τ).loc Cert.ReferenceOutfIdeal.main_arg4) = m' ((c.tc : Thread Cert.ReferenceOutfIdeal.nD Cert.ReferenceOutfIdeal.τ).loc Cert.ReferenceOutfIdeal.main_arg4)
          ∧ r.2.mem ((c.tc : Thread Cert.ReferenceOutfIdeal.nD Cert.ReferenceOutfIdeal.τ).loc Cert.ReferenceOutfIdeal.main_arg5) = m' ((c.tc : Thread Cert.ReferenceOutfIdeal.nD Cert.ReferenceOutfIdeal.τ).loc Cert.ReferenceOutfIdeal.main_arg5)
          ∧ r.2.mem ((c.tc : Thread Cert.ReferenceOutfIdeal.nD Cert.ReferenceOutfIdeal.τ).loc Cert.ReferenceOutfIdeal.main_arg6) = m' ((c.tc : Thread Cert.ReferenceOutfIdeal.nD Cert.ReferenceOutfIdeal.τ).loc Cert.ReferenceOutfIdeal.main_arg6))

def preserves_KernelFfnf_KernelFfnfIdeal : Prop :=
  True

def algebraic_KernelFfnfIdeal_ReferenceFfnfIdeal [hKernelFfnfIdeal : Cert.KernelFfnfIdeal.Facts] [hReferenceFfnfIdeal : Cert.ReferenceFfnfIdeal.Facts] : Prop :=
  ∀ (m : (ℓ : Loc Cert.KernelFfnfIdeal.nD Cert.KernelFfnfIdeal.τ Cert.KernelFfnfIdeal.sig) → Buf (Elt Ideal) ℓ) (g : Dev Cert.KernelFfnfIdeal.nD → PrngReg)
    (m' : (ℓ : Loc Cert.ReferenceFfnfIdeal.nD Cert.ReferenceFfnfIdeal.τ Cert.ReferenceFfnfIdeal.sig) → Buf (Elt Ideal) ℓ) (g' : Dev Cert.ReferenceFfnfIdeal.nD → PrngReg), Pre_KernelFfnfIdeal m →
    (∀ c : Dev Cert.KernelFfnfIdeal.nD,
      m' ((c.tc : Thread Cert.ReferenceFfnfIdeal.nD Cert.ReferenceFfnfIdeal.τ).loc Cert.ReferenceFfnfIdeal.main_arg0) = m ((c.tc : Thread Cert.KernelFfnfIdeal.nD Cert.KernelFfnfIdeal.τ).loc Cert.KernelFfnfIdeal.main_arg0)
      ∧ m' ((c.tc : Thread Cert.ReferenceFfnfIdeal.nD Cert.ReferenceFfnfIdeal.τ).loc Cert.ReferenceFfnfIdeal.main_arg1) = m ((c.tc : Thread Cert.KernelFfnfIdeal.nD Cert.KernelFfnfIdeal.τ).loc Cert.KernelFfnfIdeal.main_arg1)
      ∧ m' ((c.tc : Thread Cert.ReferenceFfnfIdeal.nD Cert.ReferenceFfnfIdeal.τ).loc Cert.ReferenceFfnfIdeal.main_arg2) = m ((c.tc : Thread Cert.KernelFfnfIdeal.nD Cert.KernelFfnfIdeal.τ).loc Cert.KernelFfnfIdeal.main_arg2)
      ∧ m' ((c.tc : Thread Cert.ReferenceFfnfIdeal.nD Cert.ReferenceFfnfIdeal.τ).loc Cert.ReferenceFfnfIdeal.main_arg3) = m ((c.tc : Thread Cert.KernelFfnfIdeal.nD Cert.KernelFfnfIdeal.τ).loc Cert.KernelFfnfIdeal.main_arg3)) →
    ∃ (v0 : (c : Dev Cert.KernelFfnfIdeal.nD) → Buf (Elt Ideal) ((c.tc : Thread Cert.KernelFfnfIdeal.nD Cert.KernelFfnfIdeal.τ).loc Cert.KernelFfnfIdeal.main_v6_0)) (v1 : (c : Dev Cert.KernelFfnfIdeal.nD) → Buf (Elt Ideal) ((c.tc : Thread Cert.KernelFfnfIdeal.nD Cert.KernelFfnfIdeal.τ).loc Cert.KernelFfnfIdeal.main_v6_1)),
      θ_run (Cert.KernelFfnfIdeal.defs (F := Ideal)) (onTc (τ := Cert.KernelFfnfIdeal.τ) (Cert.KernelFfnfIdeal.main (F := Ideal))) ⟨m, fun _ => 0, g⟩ (fun r => ∀ c : Dev Cert.KernelFfnfIdeal.nD,
          r.2.mem ((c.tc : Thread Cert.KernelFfnfIdeal.nD Cert.KernelFfnfIdeal.τ).loc Cert.KernelFfnfIdeal.main_v6_0) = v0 c
          ∧ r.2.mem ((c.tc : Thread Cert.KernelFfnfIdeal.nD Cert.KernelFfnfIdeal.τ).loc Cert.KernelFfnfIdeal.main_v6_1) = v1 c
          ∧ r.2.mem ((c.tc : Thread Cert.KernelFfnfIdeal.nD Cert.KernelFfnfIdeal.τ).loc Cert.KernelFfnfIdeal.main_arg0) = m ((c.tc : Thread Cert.KernelFfnfIdeal.nD Cert.KernelFfnfIdeal.τ).loc Cert.KernelFfnfIdeal.main_arg0)
          ∧ r.2.mem ((c.tc : Thread Cert.KernelFfnfIdeal.nD Cert.KernelFfnfIdeal.τ).loc Cert.KernelFfnfIdeal.main_arg1) = m ((c.tc : Thread Cert.KernelFfnfIdeal.nD Cert.KernelFfnfIdeal.τ).loc Cert.KernelFfnfIdeal.main_arg1)
          ∧ r.2.mem ((c.tc : Thread Cert.KernelFfnfIdeal.nD Cert.KernelFfnfIdeal.τ).loc Cert.KernelFfnfIdeal.main_arg2) = m ((c.tc : Thread Cert.KernelFfnfIdeal.nD Cert.KernelFfnfIdeal.τ).loc Cert.KernelFfnfIdeal.main_arg2)
          ∧ r.2.mem ((c.tc : Thread Cert.KernelFfnfIdeal.nD Cert.KernelFfnfIdeal.τ).loc Cert.KernelFfnfIdeal.main_arg3) = m ((c.tc : Thread Cert.KernelFfnfIdeal.nD Cert.KernelFfnfIdeal.τ).loc Cert.KernelFfnfIdeal.main_arg3))
      ∧ θ_run (Cert.ReferenceFfnfIdeal.defs (F := Ideal)) (onTc (τ := Cert.ReferenceFfnfIdeal.τ) (Cert.ReferenceFfnfIdeal.main (F := Ideal))) ⟨m', fun _ => 0, g'⟩ (fun r => ∀ c : Dev Cert.ReferenceFfnfIdeal.nD,
          r.2.mem ((c.tc : Thread Cert.ReferenceFfnfIdeal.nD Cert.ReferenceFfnfIdeal.τ).loc Cert.ReferenceFfnfIdeal.main_v17) = v0 c
          ∧ r.2.mem ((c.tc : Thread Cert.ReferenceFfnfIdeal.nD Cert.ReferenceFfnfIdeal.τ).loc Cert.ReferenceFfnfIdeal.main_v18) = v1 c
          ∧ r.2.mem ((c.tc : Thread Cert.ReferenceFfnfIdeal.nD Cert.ReferenceFfnfIdeal.τ).loc Cert.ReferenceFfnfIdeal.main_arg0) = m' ((c.tc : Thread Cert.ReferenceFfnfIdeal.nD Cert.ReferenceFfnfIdeal.τ).loc Cert.ReferenceFfnfIdeal.main_arg0)
          ∧ r.2.mem ((c.tc : Thread Cert.ReferenceFfnfIdeal.nD Cert.ReferenceFfnfIdeal.τ).loc Cert.ReferenceFfnfIdeal.main_arg1) = m' ((c.tc : Thread Cert.ReferenceFfnfIdeal.nD Cert.ReferenceFfnfIdeal.τ).loc Cert.ReferenceFfnfIdeal.main_arg1)
          ∧ r.2.mem ((c.tc : Thread Cert.ReferenceFfnfIdeal.nD Cert.ReferenceFfnfIdeal.τ).loc Cert.ReferenceFfnfIdeal.main_arg2) = m' ((c.tc : Thread Cert.ReferenceFfnfIdeal.nD Cert.ReferenceFfnfIdeal.τ).loc Cert.ReferenceFfnfIdeal.main_arg2)
          ∧ r.2.mem ((c.tc : Thread Cert.ReferenceFfnfIdeal.nD Cert.ReferenceFfnfIdeal.τ).loc Cert.ReferenceFfnfIdeal.main_arg3) = m' ((c.tc : Thread Cert.ReferenceFfnfIdeal.nD Cert.ReferenceFfnfIdeal.τ).loc Cert.ReferenceFfnfIdeal.main_arg3))

def preserves_KernelMixf_KernelMixfIdeal : Prop :=
  True

def algebraic_KernelMixfIdeal_ReferenceMixfIdeal [hKernelMixfIdeal : Cert.KernelMixfIdeal.Facts] [hReferenceMixfIdeal : Cert.ReferenceMixfIdeal.Facts] : Prop :=
  ∀ (m : (ℓ : Loc Cert.KernelMixfIdeal.nD Cert.KernelMixfIdeal.τ Cert.KernelMixfIdeal.sig) → Buf (Elt Ideal) ℓ) (g : Dev Cert.KernelMixfIdeal.nD → PrngReg)
    (m' : (ℓ : Loc Cert.ReferenceMixfIdeal.nD Cert.ReferenceMixfIdeal.τ Cert.ReferenceMixfIdeal.sig) → Buf (Elt Ideal) ℓ) (g' : Dev Cert.ReferenceMixfIdeal.nD → PrngReg), Pre_KernelMixfIdeal m →
    (∀ c : Dev Cert.KernelMixfIdeal.nD,
      m' ((c.tc : Thread Cert.ReferenceMixfIdeal.nD Cert.ReferenceMixfIdeal.τ).loc Cert.ReferenceMixfIdeal.main_arg0) = m ((c.tc : Thread Cert.KernelMixfIdeal.nD Cert.KernelMixfIdeal.τ).loc Cert.KernelMixfIdeal.main_arg0)
      ∧ m' ((c.tc : Thread Cert.ReferenceMixfIdeal.nD Cert.ReferenceMixfIdeal.τ).loc Cert.ReferenceMixfIdeal.main_arg1) = m ((c.tc : Thread Cert.KernelMixfIdeal.nD Cert.KernelMixfIdeal.τ).loc Cert.KernelMixfIdeal.main_arg1)
      ∧ m' ((c.tc : Thread Cert.ReferenceMixfIdeal.nD Cert.ReferenceMixfIdeal.τ).loc Cert.ReferenceMixfIdeal.main_arg2) = m ((c.tc : Thread Cert.KernelMixfIdeal.nD Cert.KernelMixfIdeal.τ).loc Cert.KernelMixfIdeal.main_arg2)
      ∧ m' ((c.tc : Thread Cert.ReferenceMixfIdeal.nD Cert.ReferenceMixfIdeal.τ).loc Cert.ReferenceMixfIdeal.main_arg3) = m ((c.tc : Thread Cert.KernelMixfIdeal.nD Cert.KernelMixfIdeal.τ).loc Cert.KernelMixfIdeal.main_arg3)
      ∧ m' ((c.tc : Thread Cert.ReferenceMixfIdeal.nD Cert.ReferenceMixfIdeal.τ).loc Cert.ReferenceMixfIdeal.main_arg4) = m ((c.tc : Thread Cert.KernelMixfIdeal.nD Cert.KernelMixfIdeal.τ).loc Cert.KernelMixfIdeal.main_arg4)
      ∧ m' ((c.tc : Thread Cert.ReferenceMixfIdeal.nD Cert.ReferenceMixfIdeal.τ).loc Cert.ReferenceMixfIdeal.main_arg5) = m ((c.tc : Thread Cert.KernelMixfIdeal.nD Cert.KernelMixfIdeal.τ).loc Cert.KernelMixfIdeal.main_arg5)
      ∧ m' ((c.tc : Thread Cert.ReferenceMixfIdeal.nD Cert.ReferenceMixfIdeal.τ).loc Cert.ReferenceMixfIdeal.main_arg6) = m ((c.tc : Thread Cert.KernelMixfIdeal.nD Cert.KernelMixfIdeal.τ).loc Cert.KernelMixfIdeal.main_arg6)
      ∧ m' ((c.tc : Thread Cert.ReferenceMixfIdeal.nD Cert.ReferenceMixfIdeal.τ).loc Cert.ReferenceMixfIdeal.main_arg7) = m ((c.tc : Thread Cert.KernelMixfIdeal.nD Cert.KernelMixfIdeal.τ).loc Cert.KernelMixfIdeal.main_arg7)) →
    ∃ (v0 : (c : Dev Cert.KernelMixfIdeal.nD) → Buf (Elt Ideal) ((c.tc : Thread Cert.KernelMixfIdeal.nD Cert.KernelMixfIdeal.τ).loc Cert.KernelMixfIdeal.main_v12_0)) (v1 : (c : Dev Cert.KernelMixfIdeal.nD) → Buf (Elt Ideal) ((c.tc : Thread Cert.KernelMixfIdeal.nD Cert.KernelMixfIdeal.τ).loc Cert.KernelMixfIdeal.main_v12_1)) (v2 : (c : Dev Cert.KernelMixfIdeal.nD) → Buf (Elt Ideal) ((c.tc : Thread Cert.KernelMixfIdeal.nD Cert.KernelMixfIdeal.τ).loc Cert.KernelMixfIdeal.main_v12_2)) (v3 : (c : Dev Cert.KernelMixfIdeal.nD) → Buf (Elt Ideal) ((c.tc : Thread Cert.KernelMixfIdeal.nD Cert.KernelMixfIdeal.τ).loc Cert.KernelMixfIdeal.main_v12_3)),
      θ_run (Cert.KernelMixfIdeal.defs (F := Ideal)) (onTc (τ := Cert.KernelMixfIdeal.τ) (Cert.KernelMixfIdeal.main (F := Ideal))) ⟨m, fun _ => 0, g⟩ (fun r => ∀ c : Dev Cert.KernelMixfIdeal.nD,
          r.2.mem ((c.tc : Thread Cert.KernelMixfIdeal.nD Cert.KernelMixfIdeal.τ).loc Cert.KernelMixfIdeal.main_v12_0) = v0 c
          ∧ r.2.mem ((c.tc : Thread Cert.KernelMixfIdeal.nD Cert.KernelMixfIdeal.τ).loc Cert.KernelMixfIdeal.main_v12_1) = v1 c
          ∧ r.2.mem ((c.tc : Thread Cert.KernelMixfIdeal.nD Cert.KernelMixfIdeal.τ).loc Cert.KernelMixfIdeal.main_v12_2) = v2 c
          ∧ r.2.mem ((c.tc : Thread Cert.KernelMixfIdeal.nD Cert.KernelMixfIdeal.τ).loc Cert.KernelMixfIdeal.main_v12_3) = v3 c
          ∧ r.2.mem ((c.tc : Thread Cert.KernelMixfIdeal.nD Cert.KernelMixfIdeal.τ).loc Cert.KernelMixfIdeal.main_arg0) = m ((c.tc : Thread Cert.KernelMixfIdeal.nD Cert.KernelMixfIdeal.τ).loc Cert.KernelMixfIdeal.main_arg0)
          ∧ r.2.mem ((c.tc : Thread Cert.KernelMixfIdeal.nD Cert.KernelMixfIdeal.τ).loc Cert.KernelMixfIdeal.main_arg1) = m ((c.tc : Thread Cert.KernelMixfIdeal.nD Cert.KernelMixfIdeal.τ).loc Cert.KernelMixfIdeal.main_arg1)
          ∧ r.2.mem ((c.tc : Thread Cert.KernelMixfIdeal.nD Cert.KernelMixfIdeal.τ).loc Cert.KernelMixfIdeal.main_arg2) = m ((c.tc : Thread Cert.KernelMixfIdeal.nD Cert.KernelMixfIdeal.τ).loc Cert.KernelMixfIdeal.main_arg2)
          ∧ r.2.mem ((c.tc : Thread Cert.KernelMixfIdeal.nD Cert.KernelMixfIdeal.τ).loc Cert.KernelMixfIdeal.main_arg3) = m ((c.tc : Thread Cert.KernelMixfIdeal.nD Cert.KernelMixfIdeal.τ).loc Cert.KernelMixfIdeal.main_arg3)
          ∧ r.2.mem ((c.tc : Thread Cert.KernelMixfIdeal.nD Cert.KernelMixfIdeal.τ).loc Cert.KernelMixfIdeal.main_arg4) = m ((c.tc : Thread Cert.KernelMixfIdeal.nD Cert.KernelMixfIdeal.τ).loc Cert.KernelMixfIdeal.main_arg4)
          ∧ r.2.mem ((c.tc : Thread Cert.KernelMixfIdeal.nD Cert.KernelMixfIdeal.τ).loc Cert.KernelMixfIdeal.main_arg5) = m ((c.tc : Thread Cert.KernelMixfIdeal.nD Cert.KernelMixfIdeal.τ).loc Cert.KernelMixfIdeal.main_arg5)
          ∧ r.2.mem ((c.tc : Thread Cert.KernelMixfIdeal.nD Cert.KernelMixfIdeal.τ).loc Cert.KernelMixfIdeal.main_arg6) = m ((c.tc : Thread Cert.KernelMixfIdeal.nD Cert.KernelMixfIdeal.τ).loc Cert.KernelMixfIdeal.main_arg6)
          ∧ r.2.mem ((c.tc : Thread Cert.KernelMixfIdeal.nD Cert.KernelMixfIdeal.τ).loc Cert.KernelMixfIdeal.main_arg7) = m ((c.tc : Thread Cert.KernelMixfIdeal.nD Cert.KernelMixfIdeal.τ).loc Cert.KernelMixfIdeal.main_arg7))
      ∧ θ_run (Cert.ReferenceMixfIdeal.defs (F := Ideal)) (onTc (τ := Cert.ReferenceMixfIdeal.τ) (Cert.ReferenceMixfIdeal.main (F := Ideal))) ⟨m', fun _ => 0, g'⟩ (fun r => ∀ c : Dev Cert.ReferenceMixfIdeal.nD,
          r.2.mem ((c.tc : Thread Cert.ReferenceMixfIdeal.nD Cert.ReferenceMixfIdeal.τ).loc Cert.ReferenceMixfIdeal.main_v45) = v0 c
          ∧ r.2.mem ((c.tc : Thread Cert.ReferenceMixfIdeal.nD Cert.ReferenceMixfIdeal.τ).loc Cert.ReferenceMixfIdeal.main_v72) = v1 c
          ∧ r.2.mem ((c.tc : Thread Cert.ReferenceMixfIdeal.nD Cert.ReferenceMixfIdeal.τ).loc Cert.ReferenceMixfIdeal.main_v322) = v2 c
          ∧ r.2.mem ((c.tc : Thread Cert.ReferenceMixfIdeal.nD Cert.ReferenceMixfIdeal.τ).loc Cert.ReferenceMixfIdeal.main_v549) = v3 c
          ∧ r.2.mem ((c.tc : Thread Cert.ReferenceMixfIdeal.nD Cert.ReferenceMixfIdeal.τ).loc Cert.ReferenceMixfIdeal.main_arg0) = m' ((c.tc : Thread Cert.ReferenceMixfIdeal.nD Cert.ReferenceMixfIdeal.τ).loc Cert.ReferenceMixfIdeal.main_arg0)
          ∧ r.2.mem ((c.tc : Thread Cert.ReferenceMixfIdeal.nD Cert.ReferenceMixfIdeal.τ).loc Cert.ReferenceMixfIdeal.main_arg1) = m' ((c.tc : Thread Cert.ReferenceMixfIdeal.nD Cert.ReferenceMixfIdeal.τ).loc Cert.ReferenceMixfIdeal.main_arg1)
          ∧ r.2.mem ((c.tc : Thread Cert.ReferenceMixfIdeal.nD Cert.ReferenceMixfIdeal.τ).loc Cert.ReferenceMixfIdeal.main_arg2) = m' ((c.tc : Thread Cert.ReferenceMixfIdeal.nD Cert.ReferenceMixfIdeal.τ).loc Cert.ReferenceMixfIdeal.main_arg2)
          ∧ r.2.mem ((c.tc : Thread Cert.ReferenceMixfIdeal.nD Cert.ReferenceMixfIdeal.τ).loc Cert.ReferenceMixfIdeal.main_arg3) = m' ((c.tc : Thread Cert.ReferenceMixfIdeal.nD Cert.ReferenceMixfIdeal.τ).loc Cert.ReferenceMixfIdeal.main_arg3)
          ∧ r.2.mem ((c.tc : Thread Cert.ReferenceMixfIdeal.nD Cert.ReferenceMixfIdeal.τ).loc Cert.ReferenceMixfIdeal.main_arg4) = m' ((c.tc : Thread Cert.ReferenceMixfIdeal.nD Cert.ReferenceMixfIdeal.τ).loc Cert.ReferenceMixfIdeal.main_arg4)
          ∧ r.2.mem ((c.tc : Thread Cert.ReferenceMixfIdeal.nD Cert.ReferenceMixfIdeal.τ).loc Cert.ReferenceMixfIdeal.main_arg5) = m' ((c.tc : Thread Cert.ReferenceMixfIdeal.nD Cert.ReferenceMixfIdeal.τ).loc Cert.ReferenceMixfIdeal.main_arg5)
          ∧ r.2.mem ((c.tc : Thread Cert.ReferenceMixfIdeal.nD Cert.ReferenceMixfIdeal.τ).loc Cert.ReferenceMixfIdeal.main_arg6) = m' ((c.tc : Thread Cert.ReferenceMixfIdeal.nD Cert.ReferenceMixfIdeal.τ).loc Cert.ReferenceMixfIdeal.main_arg6)
          ∧ r.2.mem ((c.tc : Thread Cert.ReferenceMixfIdeal.nD Cert.ReferenceMixfIdeal.τ).loc Cert.ReferenceMixfIdeal.main_arg7) = m' ((c.tc : Thread Cert.ReferenceMixfIdeal.nD Cert.ReferenceMixfIdeal.τ).loc Cert.ReferenceMixfIdeal.main_arg7))

def Claim : Prop :=
  ∃ (hKernelLoss : Cert.KernelLoss.Facts) (hKernelLossIdeal : Cert.KernelLossIdeal.Facts) (hReferenceLossIdeal : Cert.ReferenceLossIdeal.Facts) (hKernelInp : Cert.KernelInp.Facts) (hKernelInpIdeal : Cert.KernelInpIdeal.Facts) (hReferenceInpIdeal : Cert.ReferenceInpIdeal.Facts) (hKernelFfn : Cert.KernelFfn.Facts) (hKernelFfnIdeal : Cert.KernelFfnIdeal.Facts) (hReferenceFfnIdeal : Cert.ReferenceFfnIdeal.Facts) (hKernelOut : Cert.KernelOut.Facts) (hKernelOutIdeal : Cert.KernelOutIdeal.Facts) (hReferenceOutIdeal : Cert.ReferenceOutIdeal.Facts) (hKernelAttn : Cert.KernelAttn.Facts) (hKernelAttnIdeal : Cert.KernelAttnIdeal.Facts) (hReferenceAttnIdeal : Cert.ReferenceAttnIdeal.Facts) (hKernelAttnf : Cert.KernelAttnf.Facts) (hKernelAttnfIdeal : Cert.KernelAttnfIdeal.Facts) (hReferenceAttnfIdeal : Cert.ReferenceAttnfIdeal.Facts) (hKernelInpf : Cert.KernelInpf.Facts) (hKernelInpfIdeal : Cert.KernelInpfIdeal.Facts) (hReferenceInpfIdeal : Cert.ReferenceInpfIdeal.Facts) (hKernelOutf : Cert.KernelOutf.Facts) (hKernelOutfIdeal : Cert.KernelOutfIdeal.Facts) (hReferenceOutfIdeal : Cert.ReferenceOutfIdeal.Facts) (hKernelFfnf : Cert.KernelFfnf.Facts) (hKernelFfnfIdeal : Cert.KernelFfnfIdeal.Facts) (hReferenceFfnfIdeal : Cert.ReferenceFfnfIdeal.Facts) (hKernelMixf : Cert.KernelMixf.Facts) (hKernelMixfIdeal : Cert.KernelMixfIdeal.Facts) (hReferenceMixfIdeal : Cert.ReferenceMixfIdeal.Facts) (hPre_finite_loss : Cert.Pre_finite_loss.Facts) (hPre_finite_inp : Cert.Pre_finite_inp.Facts) (hPre_finite_ffn : Cert.Pre_finite_ffn.Facts) (hPre_finite_out : Cert.Pre_finite_out.Facts) (hPre_finite_attn : Cert.Pre_finite_attn.Facts) (hPre_finite_attnf : Cert.Pre_finite_attnf.Facts),
    quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelInp (hKernelInp := hKernelInp)
    ∧ quiescent_KernelInpIdeal (hKernelInpIdeal := hKernelInpIdeal)
    ∧ quiescent_KernelInpIdeal_pre_finite_inp (hKernelInpIdeal := hKernelInpIdeal) (hPre_finite_inp := hPre_finite_inp)
    ∧ quiescent_ReferenceInpIdeal (hReferenceInpIdeal := hReferenceInpIdeal)
    ∧ quiescent_ReferenceInpIdeal_pre_finite_inp (hReferenceInpIdeal := hReferenceInpIdeal) (hPre_finite_inp := hPre_finite_inp)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelOut (hKernelOut := hKernelOut)
    ∧ quiescent_KernelOutIdeal (hKernelOutIdeal := hKernelOutIdeal)
    ∧ quiescent_KernelOutIdeal_pre_finite_out (hKernelOutIdeal := hKernelOutIdeal) (hPre_finite_out := hPre_finite_out)
    ∧ quiescent_ReferenceOutIdeal (hReferenceOutIdeal := hReferenceOutIdeal)
    ∧ quiescent_ReferenceOutIdeal_pre_finite_out (hReferenceOutIdeal := hReferenceOutIdeal) (hPre_finite_out := hPre_finite_out)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelAttnf (hKernelAttnf := hKernelAttnf)
    ∧ quiescent_KernelAttnfIdeal (hKernelAttnfIdeal := hKernelAttnfIdeal)
    ∧ quiescent_KernelAttnfIdeal_pre_finite_attnf (hKernelAttnfIdeal := hKernelAttnfIdeal) (hPre_finite_attnf := hPre_finite_attnf)
    ∧ quiescent_ReferenceAttnfIdeal (hReferenceAttnfIdeal := hReferenceAttnfIdeal)
    ∧ quiescent_ReferenceAttnfIdeal_pre_finite_attnf (hReferenceAttnfIdeal := hReferenceAttnfIdeal) (hPre_finite_attnf := hPre_finite_attnf)
    ∧ quiescent_KernelInpf (hKernelInpf := hKernelInpf)
    ∧ quiescent_KernelInpfIdeal (hKernelInpfIdeal := hKernelInpfIdeal)
    ∧ quiescent_ReferenceInpfIdeal (hReferenceInpfIdeal := hReferenceInpfIdeal)
    ∧ quiescent_KernelOutf (hKernelOutf := hKernelOutf)
    ∧ quiescent_KernelOutfIdeal (hKernelOutfIdeal := hKernelOutfIdeal)
    ∧ quiescent_ReferenceOutfIdeal (hReferenceOutfIdeal := hReferenceOutfIdeal)
    ∧ quiescent_KernelFfnf (hKernelFfnf := hKernelFfnf)
    ∧ quiescent_KernelFfnfIdeal (hKernelFfnfIdeal := hKernelFfnfIdeal)
    ∧ quiescent_ReferenceFfnfIdeal (hReferenceFfnfIdeal := hReferenceFfnfIdeal)
    ∧ quiescent_KernelMixf (hKernelMixf := hKernelMixf)
    ∧ quiescent_KernelMixfIdeal (hKernelMixfIdeal := hKernelMixfIdeal)
    ∧ quiescent_ReferenceMixfIdeal (hReferenceMixfIdeal := hReferenceMixfIdeal)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelInp_KernelInpIdeal
    ∧ algebraic_KernelInpIdeal_ReferenceInpIdeal_pre_finite_inp (hKernelInpIdeal := hKernelInpIdeal) (hReferenceInpIdeal := hReferenceInpIdeal) (hPre_finite_inp := hPre_finite_inp)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelOut_KernelOutIdeal
    ∧ algebraic_KernelOutIdeal_ReferenceOutIdeal_pre_finite_out (hKernelOutIdeal := hKernelOutIdeal) (hReferenceOutIdeal := hReferenceOutIdeal) (hPre_finite_out := hPre_finite_out)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelAttnf_KernelAttnfIdeal
    ∧ algebraic_KernelAttnfIdeal_ReferenceAttnfIdeal_pre_finite_attnf (hKernelAttnfIdeal := hKernelAttnfIdeal) (hReferenceAttnfIdeal := hReferenceAttnfIdeal) (hPre_finite_attnf := hPre_finite_attnf)
    ∧ preserves_KernelInpf_KernelInpfIdeal
    ∧ algebraic_KernelInpfIdeal_ReferenceInpfIdeal (hKernelInpfIdeal := hKernelInpfIdeal) (hReferenceInpfIdeal := hReferenceInpfIdeal)
    ∧ preserves_KernelOutf_KernelOutfIdeal
    ∧ algebraic_KernelOutfIdeal_ReferenceOutfIdeal (hKernelOutfIdeal := hKernelOutfIdeal) (hReferenceOutfIdeal := hReferenceOutfIdeal)
    ∧ preserves_KernelFfnf_KernelFfnfIdeal
    ∧ algebraic_KernelFfnfIdeal_ReferenceFfnfIdeal (hKernelFfnfIdeal := hKernelFfnfIdeal) (hReferenceFfnfIdeal := hReferenceFfnfIdeal)
    ∧ preserves_KernelMixf_KernelMixfIdeal
    ∧ algebraic_KernelMixfIdeal_ReferenceMixfIdeal (hKernelMixfIdeal := hKernelMixfIdeal) (hReferenceMixfIdeal := hReferenceMixfIdeal)
-- ==== Pre_finite_attn.lean ====
abbrev S16384x768 : Shape := ⟨2, ![16384, 768]⟩
abbrev S16384x256 : Shape := ⟨2, ![16384, 256]⟩
abbrev S_ : Shape := ⟨0, ![]⟩

class Facts : Prop where
  bcast_S_S16384x768 : S_.BroadcastsInDim S16384x768 (![] : Fin 0 → Fin S16384x768.rank)
  bcast_S_S16384x256 : S_.BroadcastsInDim S16384x256 (![] : Fin 0 → Fin S16384x256.rank)

variable [Facts]

def fn {F : FTy → Type} [FloatOps F] (main_arg0 : FVec F S16384x768 .f32) (main_arg1 : FVec F S16384x256 .f32) : IVec S16384x768 1 × IVec S16384x256 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  (main_v2, main_v5)
-- ==== Pre_finite_attnf.lean ====
abbrev S16384x768 : Shape := ⟨2, ![16384, 768]⟩
abbrev S_ : Shape := ⟨0, ![]⟩

class Facts : Prop where
  bcast_S_S16384x768 : S_.BroadcastsInDim S16384x768 (![] : Fin 0 → Fin S16384x768.rank)

variable [Facts]

def fn {F : FTy → Type} [FloatOps F] (main_arg0 : FVec F S16384x768 .f32) : IVec S16384x768 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  main_v2
-- ==== Pre_finite_ffn.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S16384x1024 .f32) (main_arg1 : FVec F S1024 .f32) (main_arg2 : FVec F S1024x4096 .f32) (main_arg3 : FVec F S4096x1024 .f32) (main_arg4 : FVec F S16384x1024 .f32) : IVec S16384x1024 1 × IVec S1024 1 × IVec S1024x4096 1 × IVec S4096x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_inp.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2560 : S_.BroadcastsInDim S1024x2560 (![] : Fin 0 → Fin S1024x2560.rank)
  bcast_S_S16384x2560 : S_.BroadcastsInDim S16384x2560 (![] : Fin 0 → Fin S16384x2560.rank)

variable [Facts]

def fn {F : FTy → Type} [FloatOps F] (main_arg0 : FVec F S16384x1024 .f32) (main_arg1 : FVec F S1024 .f32) (main_arg2 : FVec F S1024x2560 .f32) (main_arg3 : FVec F S16384x2560 .bf16) (main_arg4 : FVec F S16384x1024 .f32) : IVec S16384x1024 1 × IVec S1024 1 × IVec S1024x2560 1 × IVec S16384x2560 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  let main_v9 : FVec F S16384x2560 .bf16 := Host.absf main_arg3
  let main_cst_2 : FVec F S_ .bf16 := constant S_ .bf16 0x7F80#16
  let main_v10 : FVec F S16384x2560 .bf16 := broadcastInDim S16384x2560 ![] bcast_S_S16384x2560 main_cst_2
  let main_v11 : IVec S16384x2560 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_finite_loss.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024 .f32) (main_arg2 : FVec F S16384x1024 .f32) : IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_finite_out.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S16384x256 : S_.BroadcastsInDim S16384x256 (![] : Fin 0 → Fin S16384x256.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S16384x1024 1) (main_v5 : IVec S16384x256 1) (main_v8 : IVec S16384x256 1) (main_v11 : IVec S16384x256 1) (main_v14 : IVec S16384x256 1) (main_v17 : IVec S1024 1) : IVec S16384x1024 1 × IVec S16384x256 1 × IVec S16384x256 1 × IVec S16384x256 1 × IVec S16384x256 1 × IVec S1024 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S16384x1024 .f32) (main_arg1 : FVec F S16384x256 .f32) (main_arg2 : FVec F S16384x256 .f32) (main_arg3 : FVec F S16384x256 .f32) (main_arg4 : FVec F S16384x256 .f32) (main_arg5 : FVec F S1024 .f32) (main_arg6 : FVec F S1024x1024 .f32) : IVec S16384x1024 1 × IVec S16384x256 1 × IVec S16384x256 1 × IVec S16384x256 1 × IVec S16384x256 1 × IVec S1024 1 × IVec S1024x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S16384x256 .f32 := Host.absf main_arg2
  let main_cst_1 : FVec F S_ .f32 := constant S_ .f32 0x7F800000#32
  let main_v7 : FVec F S16384x256 .f32 := broadcastInDim S16384x256 ![] bcast_S_S16384x256 main_cst_1
  let main_v8 : IVec S16384x256 1 := cmpf .olt main_v6 main_v7
  let main_v9 : FVec F S16384x256 .f32 := Host.absf main_arg3
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_v12 : FVec F S16384x256 .f32 := Host.absf main_arg4
  let main_cst_3 : FVec F S_ .f32 := constant S_ .f32 0x7F800000#32
  let main_v13 : FVec F S16384x256 .f32 := broadcastInDim S16384x256 ![] bcast_S_S16384x256 main_cst_3
  let main_v14 : IVec S16384x256 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== KernelLoss.lean ====
abbrev S16384x1024 : Shape := ⟨2, ![16384, 1024]⟩
abbrev S1024 : Shape := ⟨1, ![1024]⟩
abbrev S1x1024 : Shape := ⟨2, ![1, 1024]⟩
abbrev S8x128 : Shape := ⟨2, ![8, 128]⟩
abbrev S1024x1024 : Shape := ⟨2, ![1024, 1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelInp.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S1x1024 : Shape := ⟨2, ![1, 1024]⟩
abbrev S2560x1024 : Shape := ⟨2, ![2560, 1024]⟩
abbrev S1024x1024 : Shape := ⟨2, ![1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x2560, .bf16⟩
  | .hbm, ⟨4, _⟩ => ⟨S16384x1024, .f32⟩
  | .hbm, ⟨5, _⟩ => ⟨S1x1024, .f32⟩
  | .hbm, ⟨6, _⟩ => ⟨S2560x1024, .f32⟩
  | .hbm, ⟨7, _⟩ => ⟨S2560x1024, .bf16⟩
  | .hbm, ⟨8, _⟩ => ⟨S16384x1024, .f32⟩
  | .hbm, ⟨9, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S2560x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceInpIdeal.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x2560, .bf16⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2560, .f32⟩
  | .hbm, ⟨26, _⟩ => ⟨S16384x2560, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩
abbrev S1x1024x512 : Shape := ⟨3, ![1, 1024, 512]⟩
abbrev S1024x512 : Shape := ⟨2, ![1024, 512]⟩

abbrev nBuf : Space → Nat
  | .hbm => 36
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .bf16⟩
  | .hbm, ⟨26, _⟩ => ⟨S1024x8x512, .f32⟩
  | .hbm, ⟨27, _⟩ => ⟨S8x1024x512, .f32⟩
  | .hbm, ⟨28, _⟩ => ⟨S8x1024x512, .bf16⟩
  | .hbm, ⟨29, _⟩ => ⟨S8x512x1024, .f32⟩
  | .hbm, ⟨30, _⟩ => ⟨S8x512x1024, .bf16⟩
  | .hbm, ⟨31, _⟩ => ⟨S1x1024, .f32⟩
  | .hbm, ⟨32, _⟩ => ⟨S16384x1024, .f32⟩
  | .hbm, ⟨33, _⟩ => ⟨S16384x1024, .bf16⟩
  | .hbm, ⟨34, _⟩ => ⟨S16384x4096, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x512, .bf16⟩
  | .local _ .vmem, ⟨8, _⟩ => ⟨S8x512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x4096, .bf16⟩
  | .local _ .vmem, ⟨14, _⟩ => ⟨S512x4096, .bf16⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceFfnIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .i1⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S16384x4096, .f32⟩
  | .hbm, ⟨89, _⟩ => ⟨S_, .f32⟩
  | .hbm, ⟨90, _⟩ => ⟨S16384x4096, .f32⟩
  | .hbm, ⟨91, _⟩ => ⟨S16384x4096, .f32⟩
  | .hbm, ⟨92, _⟩ => ⟨S_, .f32⟩
  | .hbm, ⟨93, _⟩ => ⟨S16384x4096, .f32⟩
  | .hbm, ⟨94, _⟩ => ⟨S16384x4096, .i1⟩
  | .hbm, ⟨95, _⟩ => ⟨S_, .f32⟩
  | .hbm, ⟨96, _⟩ => ⟨S16384x4096, .f32⟩
  | .hbm, ⟨97, _⟩ => ⟨S16384x4096, .f32⟩
  | .hbm, ⟨98, _⟩ => ⟨S16384x1024, .f32⟩
  | .hbm, ⟨99, _⟩ => ⟨S16384x4096, .f32⟩
  | .hbm, ⟨100, _⟩ => ⟨S16384x4096, .f32⟩
  | .hbm, ⟨101, _⟩ => ⟨S16384x4096, .f32⟩
  | .hbm, ⟨102, _⟩ => ⟨S16384x4096, .f32⟩
  | .hbm, ⟨103, _⟩ => ⟨S_, .f32⟩
  | .hbm, ⟨104, _⟩ => ⟨S16384x4096, .f32⟩
  | .hbm, ⟨105, _⟩ => ⟨S16384x4096, .f32⟩
  | .hbm, ⟨106, _⟩ => ⟨S16384x1024, .bf16⟩
  | .hbm, ⟨107, _⟩ => ⟨S16384x4096, .bf16⟩
  | .hbm, ⟨108, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call1_cst : Ref sig .tc := ⟨.hbm, 89, rfl⟩
abbrev main_call1_v0 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== KernelOut.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S1x1024 : Shape := ⟨2, ![1, 1024]⟩
abbrev S1024x256 : Shape := ⟨2, ![1024, 256]⟩
abbrev S1024x1 : Shape := ⟨2, ![1024, 1]⟩
abbrev S1x256 : Shape := ⟨2, ![1, 256]⟩
abbrev S256 : Shape := ⟨1, ![256]⟩

abbrev nBuf : Space → Nat
  | .hbm => 15
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024, .f32⟩
  | .hbm, ⟨6, _⟩ => ⟨S1024x1024, .f32⟩
  | .hbm, ⟨7, _⟩ => ⟨S1x1024, .f32⟩
  | .hbm, ⟨8, _⟩ => ⟨S1024x1024, .bf16⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S1x1024, .f32⟩
  | .hbm, ⟨14, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x1024, .f32⟩
  | .local _ .vmem, ⟨11, _⟩ => ⟨S1024x1024, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1x1024, .f32⟩
  | .local _ .vmem, ⟨21, _⟩ => ⟨S1024x1024, .f32⟩
  | .local _ .vmem, ⟨22, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceOutIdeal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 164
  | .vmem => 0
  | .smem => 0
  | _ => 0

abbrev hbmTy0_0 (i : Nat) : BufTy := match i % 128 with
  | 0 => ⟨S16384x1024, .f32⟩
  | 1 => ⟨S16384x256, .f32⟩
  | 2 => ⟨S16384x256, .f32⟩
  | 3 => ⟨S16384x256, .f32⟩
  | 4 => ⟨S16384x256, .f32⟩
  | 5 => ⟨S1024, .f32⟩
  | 6 => ⟨S1024x1024, .f32⟩
  | 7 => ⟨S16384x256, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x256, .f32⟩
  | 23 => ⟨S16384x256, .f32⟩
  | 24 => ⟨S16384x256, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x256, .f32⟩
  | 40 => ⟨S16384x256, .f32⟩
  | 41 => ⟨S16384x256, .f32⟩
  | 42 => ⟨S_, .f32⟩
  | 43 => ⟨S16384, .f32⟩
  | 44 => ⟨S16384x1, .f32⟩
  | 45 => ⟨S_, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x256, .f32⟩
  | 57 => ⟨S16384x256, .f32⟩
  | 58 => ⟨S16384x256, .f32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x256, .f32⟩
  | 74 => ⟨S16384x256, .f32⟩
  | 75 => ⟨S16384x1024, .f32⟩
  | 76 => ⟨S1x1024, .f32⟩
  | 77 => ⟨S16384x1024, .f32⟩
  | 78 => ⟨S16384x1024, .f32⟩
  | 79 => ⟨S16384x1024, .f32⟩
  | 80 => ⟨S1024x1024, .f32⟩
  | 81 => ⟨S1024x1024, .f32⟩
  | 82 => ⟨S16384x1024, .f32⟩
  | 83 => ⟨S16384x1024, .f32⟩
  | 84 => ⟨S_, .f32⟩
  | 85 => ⟨S1024, .f32⟩
  | 86 => ⟨S1x1024, .f32⟩
  | 87 => ⟨S16384x1024, .f32⟩
  | 88 => ⟨S16384x1024, .f32⟩
  | 89 => ⟨S_, .f32⟩
  | 90 => ⟨S1024, .f32⟩
  | 91 => ⟨S16384x256, .f32⟩
  | 92 => ⟨S16384x256, .f32⟩
  | 93 => ⟨S16384x256, .f32⟩
  | 94 => ⟨S16384x256, .f32⟩
  | 95 => ⟨S16384x256, .f32⟩
  | 96 => ⟨S_, .f32⟩
  | 97 => ⟨S16384, .f32⟩
  | 98 => ⟨S16384x1, .f32⟩
  | 99 => ⟨S16384x256, .f32⟩
  | 100 => ⟨S16384x256, .f32⟩
  | 101 => ⟨S16384x1, .f32⟩
  | 102 => ⟨S_, .f32⟩
  | 103 => ⟨S16384x1, .f32⟩
  | 104 => ⟨S16384x1, .f32⟩
  | 105 => ⟨S_, .f32⟩
  | 106 => ⟨S16384, .f32⟩
  | 107 => ⟨S16384x256, .f32⟩
  | 108 => ⟨S16384x256, .f32⟩
  | 109 => ⟨S16384x256, .f32⟩
  | 110 => ⟨S16384x256, .f32⟩
  | 111 => ⟨S16384x256, .f32⟩
  | 112 => ⟨S16384x256, .f32⟩
  | 113 => ⟨S_, .f32⟩
  | 114 => ⟨S16384, .f32⟩
  | 115 => ⟨S16384x1, .f32⟩
  | 116 => ⟨S16384x256, .f32⟩
  | 117 => ⟨S16384x256, .f32⟩
  | 118 => ⟨S16384x1, .f32⟩
  | 119 => ⟨S_, .f32⟩
  | 120 => ⟨S16384x1, .f32⟩
  | 121 => ⟨S16384x1, .f32⟩
  | 122 => ⟨S_, .f32⟩
  | 123 => ⟨S16384, .f32⟩
  | 124 => ⟨S16384x256, .f32⟩
  | 125 => ⟨S16384x256, .f32⟩
  | 126 => ⟨S16384x256, .f32⟩
  | 127 => ⟨S16384x256, .f32⟩
  | _ => ⟨S16384x1024, .f32⟩

abbrev hbmTy0_1 (i : Nat) : BufTy := match i % 128 with
  | 0 => ⟨S16384x256, .f32⟩
  | 1 => ⟨S16384x256, .f32⟩
  | 2 => ⟨S_, .f32⟩
  | 3 => ⟨S16384, .f32⟩
  | 4 => ⟨S16384x1, .f32⟩
  | 5 => ⟨S16384x256, .f32⟩
  | 6 => ⟨S16384x256, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384, .f32⟩
  | 13 => ⟨S16384x256, .f32⟩
  | 14 => ⟨S16384x256, .f32⟩
  | 15 => ⟨S16384x256, .f32⟩
  | 16 => ⟨S16384x256, .f32⟩
  | 17 => ⟨S16384x256, .f32⟩
  | 18 => ⟨S16384x256, .f32⟩
  | 19 => ⟨S_, .f32⟩
  | 20 => ⟨S16384, .f32⟩
  | 21 => ⟨S16384x1, .f32⟩
  | 22 => ⟨S16384x256, .f32⟩
  | 23 => ⟨S16384x256, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384, .f32⟩
  | 30 => ⟨S16384x256, .f32⟩
  | 31 => ⟨S16384x256, .f32⟩
  | 32 => ⟨S16384x256, .f32⟩
  | 33 => ⟨S16384x256, .f32⟩
  | 34 => ⟨S16384x256, .f32⟩
  | 35 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_cst_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_20 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_21 : Ref sig .tc := ⟨.hbm, 119, rfl⟩
abbrev main_v90 : Ref sig .tc := ⟨.hbm, 120, rfl⟩
abbrev main_v91 : Ref sig .tc := ⟨.hbm, 121, rfl⟩
abbrev main_cst_22 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_23 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_24 : Ref sig .tc := ⟨.hbm, 136, rfl⟩
abbrev main_v104 : Ref sig .tc := ⟨.hbm, 137, rfl⟩
abbrev main_v105 : Ref sig .tc := ⟨.hbm, 138, rfl⟩
abbrev main_cst_25 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_26 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_27 : Ref sig .tc := ⟨.hbm, 153, rfl⟩
abbrev main_v118 : Ref sig .tc := ⟨.hbm, 154, rfl⟩
abbrev main_v119 : Ref sig .tc := ⟨.hbm, 155, rfl⟩
abbrev main_cst_28 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩

abbrev nD : Nat := 1
abbrev τ : Topo := Topo.v7x

variable {F : FTy → Type} [FloatOps F]
-- ==== KernelAttn.lean ====
abbrev S16384x768 : Shape := ⟨2, ![16384, 768]⟩
abbrev S16384x256 : Shape := ⟨2, ![16384, 256]⟩
abbrev S_ : Shape := ⟨0, ![]⟩
abbrev S16384x4x64 : Shape := ⟨3, ![16384, 4, 64]⟩
abbrev S4x16384x16384 : Shape := ⟨3, ![4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩
abbrev S256x256 : Shape := ⟨2, ![256, 256]⟩
abbrev S2x16384x128 : Shape := ⟨3, ![2, 16384, 128]⟩
abbrev S256x128 : Shape := ⟨2, ![256, 128]⟩
abbrev S16384x128 : Shape := ⟨2, ![16384, 128]⟩
abbrev S2 : Shape := ⟨1, ![2]⟩
abbrev S1x128 : Shape := ⟨2, ![1, 128]⟩
abbrev S256 : Shape := ⟨1, ![256]⟩
abbrev S256x1 : Shape := ⟨2, ![256, 1]⟩
abbrev S1x256 : Shape := ⟨2, ![1, 256]⟩
abbrev S1x256x1 : Shape := ⟨3, ![1, 256, 1]⟩
abbrev S1 : Shape := ⟨1, ![1]⟩
abbrev S1x1x1 : Shape := ⟨3, ![1, 1, 1]⟩
abbrev S1x16384x128 : Shape := ⟨3, ![1, 16384, 128]⟩

abbrev nBuf : Space → Nat
  | .hbm => 95
  | .vmem => 16
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384x256, .f32⟩
  | .hbm, ⟨7, _⟩ => ⟨S16384x256, .f32⟩
  | .hbm, ⟨8, _⟩ => ⟨S16384x768, .f32⟩
  | .hbm, ⟨9, _⟩ => ⟨S16384x768, .bf16⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x4x64, .f32⟩
  | .hbm, ⟨14, _⟩ => ⟨S16384x4x64, .f32⟩
  | .hbm, ⟨15, _⟩ => ⟨S16384x4x64, .f32⟩
  | .hbm, ⟨16, _⟩ => ⟨S4x16384x16384, .f32⟩
  | .hbm, ⟨17, _⟩ => ⟨S_, .f32⟩
  | .hbm, ⟨18, _⟩ => ⟨S4x16384x16384, .f32⟩
  | .hbm, ⟨19, _⟩ => ⟨S4x16384x16384, .f32⟩
  | .hbm, ⟨20, _⟩ => ⟨S16384, .i32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S4x16384x16384, .f32⟩
  | .hbm, ⟨27, _⟩ => ⟨S_, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S4x16384x16384, .i1⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S4x16384x16384, .f32⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S4x16384x16384, .f32⟩
  | .hbm, ⟨41, _⟩ => ⟨S4x16384x16384, .f32⟩
  | .hbm, ⟨42, _⟩ => ⟨S4x16384x16384, .f32⟩
  | .hbm, ⟨43, _⟩ => ⟨S4x16384x16384, .f32⟩
  | .hbm, ⟨44, _⟩ => ⟨S_, .f32⟩
  | .hbm, ⟨45, _⟩ => ⟨S4x16384x16384, .f32⟩
  | .hbm, ⟨46, _⟩ => ⟨S4x16384x16384, .f32⟩
  | .hbm, ⟨47, _⟩ => ⟨S4x16384x16384, .f32⟩
  | .hbm, ⟨48, _⟩ => ⟨S4x16384x16384, .f32⟩
  | .hbm, ⟨49, _⟩ => ⟨S4x16384x16384, .i1⟩
  | .hbm, ⟨50, _⟩ => ⟨S4x16384x16384, .f32⟩
  | .hbm, ⟨51, _⟩ => ⟨S4x16384x16384, .f32⟩
  | .hbm, ⟨52, _⟩ => ⟨S4x16384x16384, .f32⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S4x16384x16384, .f32⟩
  | .hbm, ⟨57, _⟩ => ⟨S4x16384x16384, .f32⟩
  | .hbm, ⟨58, _⟩ => ⟨S4x16384x16384, .f32⟩
  | .hbm, ⟨59, _⟩ => ⟨S_, .f32⟩
  | .hbm, ⟨60, _⟩ => ⟨S_, .f32⟩
  | .hbm, ⟨61, _⟩ => ⟨S4x16384x16384, .i1⟩
  | .hbm, ⟨62, _⟩ => ⟨S4x16384x16384, .f32⟩
  | .hbm, ⟨63, _⟩ => ⟨S4x16384x16384, .f32⟩
  | .hbm, ⟨64, _⟩ => ⟨S_, .f32⟩
  | .hbm, ⟨65, _⟩ => ⟨S_, .f32⟩
  | .hbm, ⟨66, _⟩ => ⟨S4x16384x16384, .f32⟩
  | .hbm, ⟨67, _⟩ => ⟨S4x16384x16384, .f32⟩
  | .hbm, ⟨68, _⟩ => ⟨S4x16384x16384, .f32⟩
  | .hbm, ⟨69, _⟩ => ⟨S4x16384x16384, .f32⟩
  | .hbm, ⟨70, _⟩ => ⟨S_, .f32⟩
  | .hbm, ⟨71, _⟩ => ⟨S_, .f32⟩
  | .hbm, ⟨72, _⟩ => ⟨S4x16384x16384, .i1⟩
  | .hbm, ⟨73, _⟩ => ⟨S4x16384x16384, .f32⟩
  | .hbm, ⟨74, _⟩ => ⟨S4x16384x16384, .f32⟩
  | .hbm, ⟨75, _⟩ => ⟨S4x64x16384, .f32⟩
  | .hbm, ⟨76, _⟩ => ⟨S16384x4x64, .f32⟩
  | .hbm, ⟨77, _⟩ => ⟨S16384x256, .f32⟩
  | .hbm, ⟨78, _⟩ => ⟨S256x256, .i32⟩
  | .hbm, ⟨79, _⟩ => ⟨S_, .i32⟩
  | .hbm, ⟨80, _⟩ => ⟨S256x256, .i32⟩
  | .hbm, ⟨81, _⟩ => ⟨S256x256, .i32⟩
  | .hbm, ⟨82, _⟩ => ⟨S256x256, .i32⟩
  | .hbm, ⟨83, _⟩ => ⟨S256x256, .i1⟩
  | .hbm, ⟨84, _⟩ => ⟨S256x256, .bf16⟩
  | .hbm, ⟨85, _⟩ => ⟨S256x256, .i32⟩
  | .hbm, ⟨86, _⟩ => ⟨S_, .i32⟩
  | .hbm, ⟨87, _⟩ => ⟨S256x256, .i32⟩
  | .hbm, ⟨88, _⟩ => ⟨S256x256, .i32⟩
  | .hbm, ⟨89, _⟩ => ⟨S256x256, .i32⟩
  | .hbm, ⟨90, _⟩ => ⟨S256x256, .i1⟩
  | .hbm, ⟨91, _⟩ => ⟨S256x256, .bf16⟩
  | .hbm, ⟨92, _⟩ => ⟨S16384x256, .f32⟩
  | .hbm, ⟨93, _⟩ => ⟨S2x16384x128, .f32⟩
  | .hbm, ⟨94, _⟩ => ⟨S2x16384x128, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S256x128, .f32⟩
  | .local _ .vmem, ⟨13, _⟩ => ⟨S256x128, .f32⟩
  | .local _ .vmem, ⟨14, _⟩ => ⟨S16384x128, .f32⟩
  | .local _ .vmem, ⟨15, _⟩ => ⟨S16384x128, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v24 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v25 : Ref sig .tc := ⟨.hbm, 63, rfl⟩
abbrev main_call3_cst : Ref sig .tc := ⟨.hbm, 64, rfl⟩
abbrev main_call3_v0 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_2 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_c : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_3 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46_0 : Ref sig .tc := ⟨.hbm, 92, rfl⟩
abbrev main_v46_1 : Ref sig .tc := ⟨.hbm, 93, rfl⟩
abbrev main_v46_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def k0_mult1 (arg15 : BitVec 32) : BitVec 32 :=
  let c256_i32_35 : BitVec 32 := 256#32
  let v99 : BitVec 32 := Scalar.muli arg15 c256_i32_35
  v99

def k0_off1 (arg15 : BitVec 32) : Fin 2 → Nat :=
  let c256_i32_35 : BitVec 32 := 256#32
  let v99 : BitVec 32 := Scalar.muli arg15 c256_i32_35
  let v100 : BitVec 32 := v99
  let v101 : Index := Scalar.indexCast v100
  let c0_36 : Index := 0#32
  ![v101.toNat, 0]

def k0_chk1 (arg15 : BitVec 32) : Prop :=
  (256 ∣ (k0_mult1 arg15).toNat) ∧
  (∀ a, (k0_off1 arg15) a + S256x128.size a ≤ S16384x128.size a)
theorem k0_mult1_dvd : ∀ (arg15 : BitVec 32) (k0_hw1 : k0_chk1 arg15), 256 ∣ (k0_mult1 arg15).toNat := fun arg15 k0_hw1 => k0_hw1.1
theorem k0_off1_inb : ∀ (arg15 : BitVec 32) (k0_hw1 : k0_chk1 arg15), ∀ a, (k0_off1 arg15) a + S256x128.size a ≤ S16384x128.size a := fun arg15 k0_hw1 => k0_hw1.2

def k0_cond2 (i : grid0.Coords) : BitVec 1 :=
  let arg1 : BitVec 32 := BitVec.ofNat 32 (i 1).val
  let c63_i32 : BitVec 32 := 63#32
  let v96 : BitVec 1 := Scalar.cmpi .eq arg1 c63_i32
  let v97 : BitVec 32 := Scalar.extui v96
  let c0_i32_34 : BitVec 32 := 0#32
  let v98 : BitVec 1 := Scalar.cmpi .ne v97 c0_i32_34
  v98

def k0_off2 (i : grid0.Coords) : Fin 3 → Nat :=
  let arg0 : BitVec 32 := BitVec.ofNat 32 (i 0).val
  let c0_i32_36 : BitVec 32 := 0#32
  let c0_i32_37 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAttnIdeal.lean ====
variable {F : FTy → Type} [FloatOps F] [Named F]
def κ : String → Option EReal := fun
  | "cut" => some ⊥
  | _ => none
-- ==== ReferenceAttnIdeal.lean ====
abbrev S16384x768 : Shape := ⟨2, ![16384, 768]⟩
abbrev S16384x256 : Shape := ⟨2, ![16384, 256]⟩
abbrev S16384x4x64 : Shape := ⟨3, ![16384, 4, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩
abbrev S4x16384x64 : Shape := ⟨3, ![4, 16384, 64]⟩
abbrev S16384x2x128 : Shape := ⟨3, ![16384, 2, 128]⟩
abbrev S2x16384x128 : Shape := ⟨3, ![2, 16384, 128]⟩

abbrev nBuf : Space → Nat
  | .hbm => 184
  | .vmem => 0
  | .smem => 0
  | _ => 0

abbrev hbmTy0_0 (i : Nat) : BufTy := match i % 128 with
  | 0 => ⟨S16384x768, .f32⟩
  | 1 => ⟨S16384x256, .f32⟩
  | 2 => ⟨S16384x256, .f32⟩
  | 3 => ⟨S16384x256, .f32⟩
  | 4 => ⟨S16384x256, .f32⟩
  | 5 => ⟨S16384x4x64, .f32⟩
  | 6 => ⟨S16384x4x64, .f32⟩
  | 7 => ⟨S16384x4x64, .f32⟩
  | 8 => ⟨S4x16384x16384, .f32⟩
  | 9 => ⟨S_, .f32⟩
  | 10 => ⟨S4x16384x16384, .f32⟩
  | 11 => ⟨S4x16384x16384, .f32⟩
  | 12 => ⟨S16384, .i32⟩
  | 13 => ⟨S1x16384, .i32⟩
  | 14 => ⟨S16384x1, .i32⟩
  | 15 => ⟨S16384x16384, .i32⟩
  | 16 => ⟨S16384x16384, .i32⟩
  | 17 => ⟨S16384x16384, .i1⟩
  | 18 => ⟨S4x16384x16384, .f32⟩
  | 19 => ⟨S_, .f32⟩
  | 20 => ⟨S4x16384x16384, .f32⟩
  | 21 => ⟨S4x16384x16384, .f32⟩
  | 22 => ⟨S4x16384x16384, .f32⟩
  | 23 => ⟨S4x16384x16384, .f32⟩
  | 24 => ⟨S4x16384x16384, .i1⟩
  | 25 => ⟨S4x16384x16384, .f32⟩
  | 26 => ⟨S4x16384x16384, .f32⟩
  | 27 => ⟨S4x16384x16384, .f32⟩
  | 28 => ⟨S4x16384x16384, .f32⟩
  | 29 => ⟨S4x16384x16384, .f32⟩
  | 30 => ⟨S4x16384x16384, .f32⟩
  | 31 => ⟨S4x16384x16384, .f32⟩
  | 32 => ⟨S4x16384x16384, .f32⟩
  | 33 => ⟨S_, .f32⟩
  | 34 => ⟨S4x16384x16384, .f32⟩
  | 35 => ⟨S4x16384x16384, .i1⟩
  | 36 => ⟨S_, .f32⟩
  | 37 => ⟨S4x16384x16384, .f32⟩
  | 38 => ⟨S4x16384x16384, .f32⟩
  | 39 => ⟨S_, .f32⟩
  | 40 => ⟨S4x16384x16384, .f32⟩
  | 41 => ⟨S4x16384x16384, .i1⟩
  | 42 => ⟨S_, .f32⟩
  | 43 => ⟨S4x16384x16384, .f32⟩
  | 44 => ⟨S4x16384x16384, .f32⟩
  | 45 => ⟨S4x16384x16384, .f32⟩
  | 46 => ⟨S4x16384x16384, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S4x16384x16384, .f32⟩
  | 55 => ⟨S4x16384x16384, .i1⟩
  | 56 => ⟨S_, .f32⟩
  | 57 => ⟨S4x16384x16384, .f32⟩
  | 58 => ⟨S4x16384x16384, .f32⟩
  | 59 => ⟨S4x16384x16384, .f32⟩
  | 60 => ⟨S4x16384x16384, .f32⟩
  | 61 => ⟨S4x16384x16384, .f32⟩
  | 62 => ⟨S_, .f32⟩
  | 63 => ⟨S4x16384x16384, .f32⟩
  | 64 => ⟨S4x16384x16384, .f32⟩
  | 65 => ⟨S4x16384x16384, .f32⟩
  | 66 => ⟨S4x16384x16384, .f32⟩
  | 67 => ⟨S4x16384x16384, .f32⟩
  | 68 => ⟨S_, .f32⟩
  | 69 => ⟨S4x16384x16384, .f32⟩
  | 70 => ⟨S4x16384x16384, .f32⟩
  | 71 => ⟨S4x16384x16384, .f32⟩
  | 72 => ⟨S4x16384x16384, .f32⟩
  | 73 => ⟨S4x16384x16384, .i1⟩
  | 74 => ⟨S4x16384x16384, .f32⟩
  | 75 => ⟨S4x16384x16384, .f32⟩
  | 76 => ⟨S4x16384x16384, .f32⟩
  | 77 => ⟨S4x16384x16384, .f32⟩
  | 78 => ⟨S4x16384x16384, .f32⟩
  | 79 => ⟨S4x16384x16384, .f32⟩
  | 80 => ⟨S4x16384x16384, .f32⟩
  | 81 => ⟨S4x16384x16384, .f32⟩
  | 82 => ⟨S_, .f32⟩
  | 83 => ⟨S4x16384x16384, .f32⟩
  | 84 => ⟨S4x16384x16384, .i1⟩
  | 85 => ⟨S_, .f32⟩
  | 86 => ⟨S4x16384x16384, .f32⟩
  | 87 => ⟨S4x16384x16384, .f32⟩
  | 88 => ⟨S_, .f32⟩
  | 89 => ⟨S4x16384x16384, .f32⟩
  | 90 => ⟨S4x16384x16384, .i1⟩
  | 91 => ⟨S_, .f32⟩
  | 92 => ⟨S4x16384x16384, .f32⟩
  | 93 => ⟨S4x16384x16384, .f32⟩
  | 94 => ⟨S4x16384x16384, .f32⟩
  | 95 => ⟨S4x16384x16384, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S4x16384x16384, .f32⟩
  | 104 => ⟨S4x16384x16384, .i1⟩
  | 105 => ⟨S_, .f32⟩
  | 106 => ⟨S4x16384x16384, .f32⟩
  | 107 => ⟨S4x16384x16384, .f32⟩
  | 108 => ⟨S4x16384x16384, .f32⟩
  | 109 => ⟨S4x16384x16384, .f32⟩
  | 110 => ⟨S4x16384x16384, .f32⟩
  | 111 => ⟨S_, .f32⟩
  | 112 => ⟨S4x16384x16384, .f32⟩
  | 113 => ⟨S4x16384x16384, .f32⟩
  | 114 => ⟨S4x16384x16384, .f32⟩
  | 115 => ⟨S_, .f32⟩
  | 116 => ⟨S_, .f32⟩
  | 117 => ⟨S4x16384x16384, .i1⟩
  | 118 => ⟨S4x16384x16384, .f32⟩
  | 119 => ⟨S4x16384x16384, .f32⟩
  | 120 => ⟨S_, .f32⟩
  | 121 => ⟨S4x16384x16384, .f32⟩
  | 122 => ⟨S_, .f32⟩
  | 123 => ⟨S_, .f32⟩
  | 124 => ⟨S4x16384x16384, .f32⟩
  | 125 => ⟨S4x16384x16384, .f32⟩
  | 126 => ⟨S4x16384x16384, .f32⟩
  | 127 => ⟨S4x16384x16384, .f32⟩
  | _ => ⟨S16384x768, .f32⟩

abbrev hbmTy0_1 (i : Nat) : BufTy := match i % 128 with
  | 0 => ⟨S_, .f32⟩
  | 1 => ⟨S_, .f32⟩
  | 2 => ⟨S4x16384x16384, .i1⟩
  | 3 => ⟨S4x16384x16384, .f32⟩
  | 4 => ⟨S4x16384x16384, .f32⟩
  | 5 => ⟨S_, .f32⟩
  | 6 => ⟨S4x16384x16384, .f32⟩
  | 7 => ⟨S4x64x16384, .f32⟩
  | 8 => ⟨S16384x4x64, .f32⟩
  | 9 => ⟨S16384x256, .f32⟩
  | 10 => ⟨S16384x4x64, .f32⟩
  | 11 => ⟨S4x64x16384, .f32⟩
  | 12 => ⟨S4x16384x16384, .f32⟩
  | 13 => ⟨S4x64x16384, .f32⟩
  | 14 => ⟨S16384x4x64, .f32⟩
  | 15 => ⟨S_, .f32⟩
  | 16 => ⟨S4x16384x16384, .f32⟩
  | 17 => ⟨S4x16384x16384, .f32⟩
  | 18 => ⟨S4x16384x16384, .f32⟩
  | 19 => ⟨S4x16384x16384, .f32⟩
  | 20 => ⟨S_, .f32⟩
  | 21 => ⟨S_, .f32⟩
  | 22 => ⟨S4x16384x16384, .f32⟩
  | 23 => ⟨S4x16384x16384, .f32⟩
  | 24 => ⟨S_, .f32⟩
  | 25 => ⟨S4x16384x16384, .f32⟩
  | 26 => ⟨S4x16384x16384, .f32⟩
  | 27 => ⟨S4x16384x16384, .f32⟩
  | 28 => ⟨S4x16384x16384, .f32⟩
  | 29 => ⟨S4x16384x16384, .f32⟩
  | 30 => ⟨S4x16384x16384, .f32⟩
  | 31 => ⟨S4x16384x16384, .f32⟩
  | 32 => ⟨S4x16384x16384, .f32⟩
  | 33 => ⟨S4x16384x16384, .f32⟩
  | 34 => ⟨S4x16384x16384, .f32⟩
  | 35 => ⟨S_, .f32⟩
  | 36 => ⟨S4x16384x16384, .f32⟩
  | 37 => ⟨S4x16384x16384, .f32⟩
  | 38 => ⟨S4x16384x64, .f32⟩
  | 39 => ⟨S16384x4x64, .f32⟩
  | 40 => ⟨S4x16384x64, .f32⟩
  | 41 => ⟨S16384x4x64, .f32⟩
  | 42 => ⟨S16384x256, .f32⟩
  | 43 => ⟨S16384x256, .f32⟩
  | 44 => ⟨S16384x256, .f32⟩
  | 45 => ⟨S16384x768, .f32⟩
  | 46 => ⟨S16384x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S16384x2x128, .f32⟩
  | 53 => ⟨S2x16384x128, .f32⟩
  | 54 => ⟨S16384x2x128, .f32⟩
  | 55 => ⟨S2x16384x128, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_v16 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v17_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v17_2 : Ref sig .tc := ⟨.hbm, 113, rfl⟩
abbrev main_v17_0 : Ref sig .tc := ⟨.hbm, 114, rfl⟩
abbrev main_cst_0 : Ref sig .tc := ⟨.hbm, 115, rfl⟩
abbrev main_call2_v0 : Ref sig .tc := ⟨.hbm, 116, rfl⟩
abbrev main_v18_1 : Ref sig .tc := ⟨.hbm, 117, rfl⟩
abbrev main_call2_v2 : Ref sig .tc := ⟨.hbm, 118, rfl⟩
abbrev main_v18_0 : Ref sig .tc := ⟨.hbm, 119, rfl⟩
abbrev main_call2_cst : Ref sig .tc := ⟨.hbm, 120, rfl⟩
abbrev main_v18_2 : Ref sig .tc := ⟨.hbm, 121, rfl⟩
abbrev main_call3_cst : Ref sig .tc := ⟨.hbm, 122, rfl⟩
abbrev main_call3_v0 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call6_cst : Ref sig .tc := ⟨.hbm, 148, rfl⟩
abbrev main_call6_v0 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_call8_v0 : Ref sig .tc := ⟨.hbm, 155, rfl⟩
abbrev main_call8_v1 : Ref sig .tc := ⟨.hbm, 156, rfl⟩
abbrev main_v38 : Ref sig .tc := ⟨.hbm, 157, rfl⟩
abbrev main_v39 : Ref sig .tc := ⟨.hbm, 158, rfl⟩
abbrev main_call9_v0 : Ref sig .tc := ⟨.hbm, 159, rfl⟩
abbrev main_call9_v1 : Ref sig .tc := ⟨.hbm, 160, rfl⟩
abbrev main_v40 : Ref sig .tc := ⟨.hbm, 161, rfl⟩
abbrev main_v41 : Ref sig .tc := ⟨.hbm, 162, rfl⟩
abbrev main_cst_2 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_cst_3 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩

abbrev nD : Nat := 1
abbrev τ : Topo := Topo.v7x

variable {F : FTy → Type} [FloatOps F]
-- ==== KernelAttnf.lean ====
abbrev S16384x768 : Shape := ⟨2, ![16384, 768]⟩
abbrev S16384x256 : Shape := ⟨2, ![16384, 256]⟩
abbrev S_ : Shape := ⟨0, ![]⟩
abbrev S256x256 : Shape := ⟨2, ![256, 256]⟩
abbrev S1x256 : Shape := ⟨2, ![1, 256]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 17
  | .vmem => 7
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384x256, .f32⟩
  | .hbm, ⟨6, _⟩ => ⟨S16384x256, .f32⟩
  | .hbm, ⟨7, _⟩ => ⟨S16384x768, .f32⟩
  | .hbm, ⟨8, _⟩ => ⟨S16384x768, .bf16⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .bf16⟩
  | .hbm, ⟨16, _⟩ => ⟨S16384x256, .f32⟩
  | .local _ .vmem, ⟨0, _⟩ => ⟨S256x256, .bf16⟩
  | .local _ .vmem, ⟨1, _⟩ => ⟨S256x256, .bf16⟩
  | .local _ .vmem, ⟨2, _⟩ => ⟨S16384x256, .bf16⟩
  | .local _ .vmem, ⟨3, _⟩ => ⟨S16384x256, .bf16⟩
  | .local _ .vmem, ⟨4, _⟩ => ⟨S256x256, .bf16⟩
  | .local _ .vmem, ⟨5, _⟩ => ⟨S256x256, .f32⟩
  | .local _ .vmem, ⟨6, _⟩ => ⟨S256x256, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_mult1 (arg6 : BitVec 32) : BitVec 32 :=
  let c256_i32_24 : BitVec 32 := 256#32
  let v79 : BitVec 32 := Scalar.muli arg6 c256_i32_24
  v79

def k0_off1 (arg6 : BitVec 32) : Fin 2 → Nat :=
  let c256_i32_24 : BitVec 32 := 256#32
  let v79 : BitVec 32 := Scalar.muli arg6 c256_i32_24
  let v80 : BitVec 32 := v79
  let v81 : Index := Scalar.indexCast v80
  let c0_25 : Index := 0#32
  ![v81.toNat, 0]

def k0_chk1 (arg6 : BitVec 32) : Prop :=
  (256 ∣ (k0_mult1 arg6).toNat) ∧
  (∀ a, (k0_off1 arg6) a + S256x256.size a ≤ S16384x256.size a)
theorem k0_mult1_dvd : ∀ (arg6 : BitVec 32) (k0_hw1 : k0_chk1 arg6), 256 ∣ (k0_mult1 arg6).toNat := fun arg6 k0_hw1 => k0_hw1.1
theorem k0_off1_inb : ∀ (arg6 : BitVec 32) (k0_hw1 : k0_chk1 arg6), ∀ a, (k0_off1 arg6) a + S256x256.size a ≤ S16384x256.size a := fun arg6 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelAttnfIdeal.lean ====
variable {F : FTy → Type} [FloatOps F] [Named F]
def κ : String → Option EReal := fun
  | "cut" => some ⊥
  | _ => none
-- ==== ReferenceAttnfIdeal.lean ====
abbrev S16384x768 : Shape := ⟨2, ![16384, 768]⟩
abbrev S16384x256 : Shape := ⟨2, ![16384, 256]⟩
abbrev S16384x4x64 : Shape := ⟨3, ![16384, 4, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x4x64, .f32⟩
  | .hbm, ⟨5, _⟩ => ⟨S16384x4x64, .f32⟩
  | .hbm, ⟨6, _⟩ => ⟨S16384x4x64, .f32⟩
  | .hbm, ⟨7, _⟩ => ⟨S4x16384x16384, .f32⟩
  | .hbm, ⟨8, _⟩ => ⟨S_, .f32⟩
  | .hbm, ⟨9, _⟩ => ⟨S4x16384x16384, .f32⟩
  | .hbm, ⟨10, _⟩ => ⟨S4x16384x16384, .f32⟩
  | .hbm, ⟨11, _⟩ => ⟨S16384, .i32⟩
  | .hbm, ⟨12, _⟩ => ⟨S1x16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S4x16384x16384, .f32⟩
  | .hbm, ⟨18, _⟩ => ⟨S_, .f32⟩
  | .hbm, ⟨19, _⟩ => ⟨S4x16384x16384, .f32⟩
  | .hbm, ⟨20, _⟩ => ⟨S4x16384x16384, .f32⟩
  | .hbm, ⟨21, _⟩ => ⟨S4x16384x16384, .f32⟩
  | .hbm, ⟨22, _⟩ => ⟨S4x16384x16384, .f32⟩
  | .hbm, ⟨23, _⟩ => ⟨S4x16384x16384, .i1⟩
  | .hbm, ⟨24, _⟩ => ⟨S4x16384x16384, .f32⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S_, .f32⟩
  | .hbm, ⟨36, _⟩ => ⟨S4x16384x16384, .f32⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S4x16384x16384, .i1⟩
  | .hbm, ⟨41, _⟩ => ⟨S4x16384x16384, .f32⟩
  | .hbm, ⟨42, _⟩ => ⟨S4x16384x16384, .f32⟩
  | .hbm, ⟨43, _⟩ => ⟨S4x16384x16384, .f32⟩
  | .hbm, ⟨44, _⟩ => ⟨S4x16384x16384, .f32⟩
  | .hbm, ⟨45, _⟩ => ⟨S4x16384x16384, .f32⟩
  | .hbm, ⟨46, _⟩ => ⟨S4x16384x16384, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S_, .f32⟩
  | .hbm, ⟨51, _⟩ => ⟨S_, .f32⟩
  | .hbm, ⟨52, _⟩ => ⟨S4x16384x16384, .i1⟩
  | .hbm, ⟨53, _⟩ => ⟨S4x16384x16384, .f32⟩
  | .hbm, ⟨54, _⟩ => ⟨S4x16384x16384, .f32⟩
  | .hbm, ⟨55, _⟩ => ⟨S_, .f32⟩
  | .hbm, ⟨56, _⟩ => ⟨S_, .f32⟩
  | .hbm, ⟨57, _⟩ => ⟨S4x16384x16384, .f32⟩
  | .hbm, ⟨58, _⟩ => ⟨S4x16384x16384, .f32⟩
  | .hbm, ⟨59, _⟩ => ⟨S4x16384x16384, .f32⟩
  | .hbm, ⟨60, _⟩ => ⟨S4x16384x16384, .f32⟩
  | .hbm, ⟨61, _⟩ => ⟨S_, .f32⟩
  | .hbm, ⟨62, _⟩ => ⟨S_, .f32⟩
  | .hbm, ⟨63, _⟩ => ⟨S4x16384x16384, .i1⟩
  | .hbm, ⟨64, _⟩ => ⟨S4x16384x16384, .f32⟩
  | .hbm, ⟨65, _⟩ => ⟨S4x16384x16384, .f32⟩
  | .hbm, ⟨66, _⟩ => ⟨S4x64x16384, .f32⟩
  | .hbm, ⟨67, _⟩ => ⟨S16384x4x64, .f32⟩
  | .hbm, ⟨68, _⟩ => ⟨S16384x256, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v17 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v18 : Ref sig .tc := ⟨.hbm, 54, rfl⟩
abbrev main_call3_cst : Ref sig .tc := ⟨.hbm, 55, rfl⟩
abbrev main_call3_v0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩

abbrev nD : Nat := 1
abbrev τ : Topo := Topo.v7x

variable {F : FTy → Type} [FloatOps F]
-- ==== KernelInpf.lean ====
abbrev S16384x1024 : Shape := ⟨2, ![16384, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S16384x2560 : Shape := ⟨2, ![16384, 2560]⟩
abbrev S16384x768 : Shape := ⟨2, ![16384, 768]⟩
abbrev S1024x1024 : Shape := ⟨2, ![1024, 1024]⟩
abbrev S1024x768 : Shape := ⟨2, ![1024, 768]⟩
abbrev S1024x1 : Shape := ⟨2, ![1024, 1]⟩
abbrev S1024x256 : Shape := ⟨2, ![1024, 256]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S2560x1024, .f32⟩
  | .hbm, ⟨5, _⟩ => ⟨S2560x1024, .bf16⟩
  | .hbm, ⟨6, _⟩ => ⟨S16384x2560, .f32⟩
  | .hbm, ⟨7, _⟩ => ⟨S16384x768, .bf16⟩
  | .hbm, ⟨8, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x2560, .f32⟩
  | .local _ .vmem, ⟨5, _⟩ => ⟨S1024x2560, .f32⟩
  | .local _ .vmem, ⟨6, _⟩ => ⟨S1024x768, .bf16⟩
  | .local _ .vmem, ⟨7, _⟩ => ⟨S1024x768, .bf16⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceInpfIdeal.lean ====
abbrev S16384x1024 : Shape := ⟨2, ![16384, 1024]⟩
abbrev S1024 : Shape := ⟨1, ![1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S16384x768 : Shape := ⟨2, ![16384, 768]⟩
abbrev S16384x256 : Shape := ⟨2, ![16384, 256]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2560, .f32⟩
  | .hbm, ⟨20, _⟩ => ⟨S16384x768, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S16384x256, .f32⟩
  | .hbm, ⟨26, _⟩ => ⟨S16384x256, .f32⟩
  | .hbm, ⟨27, _⟩ => ⟨S16384x768, .f32⟩
  | .hbm, ⟨28, _⟩ => ⟨S16384x768, .bf16⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== KernelOutf.lean ====
abbrev S16384x256 : Shape := ⟨2, ![16384, 256]⟩
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S1024x256 : Shape := ⟨2, ![1024, 256]⟩
abbrev S1024x1 : Shape := ⟨2, ![1024, 1]⟩
abbrev S1x256 : Shape := ⟨2, ![1, 256]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024, .f32⟩
  | .hbm, ⟨6, _⟩ => ⟨S1024x1024, .f32⟩
  | .hbm, ⟨7, _⟩ => ⟨S1x1024, .f32⟩
  | .hbm, ⟨8, _⟩ => ⟨S1024x1024, .bf16⟩
  | .hbm, ⟨9, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutfIdeal.lean ====
abbrev S16384x256 : Shape := ⟨2, ![16384, 256]⟩
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024, .f32⟩
  | .hbm, ⟨6, _⟩ => ⟨S1024x1024, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x256, .f32⟩
  | .hbm, ⟨58, _⟩ => ⟨S16384x256, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== KernelFfnf.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1x1024 : Shape := ⟨2, ![1, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S8x1024x512, .bf16⟩
  | .hbm, ⟨7, _⟩ => ⟨S8x512x1024, .f32⟩
  | .hbm, ⟨8, _⟩ => ⟨S8x512x1024, .bf16⟩
  | .hbm, ⟨9, _⟩ => ⟨S1x1024, .f32⟩
  | .hbm, ⟨10, _⟩ => ⟨S16384x1024, .f32⟩
  | .hbm, ⟨11, _⟩ => ⟨S16384x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnfIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | .hbm, ⟨27, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== KernelMixf.lean ====
abbrev S16384x2560 : Shape := ⟨2, ![16384, 2560]⟩
abbrev S256 : Shape := ⟨1, ![256]⟩
abbrev S4x128x128 : Shape := ⟨3, ![4, 128, 128]⟩
abbrev S4x128 : Shape := ⟨2, ![4, 128]⟩
abbrev S3x256 : Shape := ⟨2, ![3, 256]⟩
abbrev S31x256 : Shape := ⟨2, ![31, 256]⟩
abbrev S_ : Shape := ⟨0, ![]⟩
abbrev S128x128 : Shape := ⟨2, ![128, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8x256 : Shape := ⟨2, ![8, 256]⟩
abbrev S32x256 : Shape := ⟨2, ![32, 256]⟩
abbrev S16384x256 : Shape := ⟨2, ![16384, 256]⟩
abbrev S1024x2560 : Shape := ⟨2, ![1024, 2560]⟩
abbrev S32x2560 : Shape := ⟨2, ![32, 2560]⟩
abbrev S1024x256 : Shape := ⟨2, ![1024, 256]⟩
abbrev S1056x256 : Shape := ⟨2, ![1056, 256]⟩
abbrev S8x1048x256 : Shape := ⟨3, ![8, 1048, 256]⟩
abbrev S1024x512 : Shape := ⟨2, ![1024, 512]⟩
abbrev S1024 : Shape := ⟨1, ![1024]⟩
abbrev S1024x1 : Shape := ⟨2, ![1024, 1]⟩
abbrev S1x128x128 : Shape := ⟨3, ![1, 128, 128]⟩
abbrev S1048x256 : Shape := ⟨2, ![1048, 256]⟩
abbrev S1x1048x256 : Shape := ⟨3, ![1, 1048, 256]⟩
abbrev S1040x256 : Shape := ⟨2, ![1040, 256]⟩
abbrev S1x1040x256 : Shape := ⟨3, ![1, 1040, 256]⟩
abbrev S1x32x256 : Shape := ⟨3, ![1, 32, 256]⟩

abbrev nBuf : Space → Nat
  | .hbm => 41
  | .vmem => 22
  | .smem => 0
  | _ => 0

abbrev bufTy : (tb : Table) → Fin (tcTables nBuf tb) → BufTy
  | .hbm, ⟨0, _⟩ => ⟨S16384x2560, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S3x256, .f32⟩
  | .hbm, ⟨5, _⟩ => ⟨S31x256, .f32⟩
  | .hbm, ⟨6, _⟩ => ⟨S256, .f32⟩
  | .hbm, ⟨7, _⟩ => ⟨S256, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S_, .f32⟩
  | .hbm, ⟨20, _⟩ => ⟨S_, .f32⟩
  | .hbm, ⟨21, _⟩ => ⟨S4x128x128, .i1⟩
  | .hbm, ⟨22, _⟩ => ⟨S4x128x128, .f32⟩
  | .hbm, ⟨23, _⟩ => ⟨S4x128x128, .f32⟩
  | .hbm, ⟨24, _⟩ => ⟨S4x128x128, .bf16⟩
  | .hbm, ⟨25, _⟩ => ⟨S128x4, .f32⟩
  | .hbm, ⟨26, _⟩ => ⟨S128x4x64, .f32⟩
  | .hbm, ⟨27, _⟩ => ⟨S128x256, .f32⟩
  | .hbm, ⟨28, _⟩ => ⟨S1x256, .f32⟩
  | .hbm, ⟨29, _⟩ => ⟨S_, .i32⟩
  | .hbm, ⟨30, _⟩ => ⟨S_, .f32⟩
  | .hbm, ⟨31, _⟩ => ⟨S8x256, .f32⟩
  | .hbm, ⟨32, _⟩ => ⟨S_, .i32⟩
  | .hbm, ⟨33, _⟩ => ⟨S_, .f32⟩
  | .hbm, ⟨34, _⟩ => ⟨S32x256, .f32⟩
  | .hbm, ⟨35, _⟩ => ⟨S1x256, .f32⟩
  | .hbm, ⟨36, _⟩ => ⟨S1x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .local _ .vmem, ⟨0, _⟩ => ⟨S1024x2560, .f32⟩
  | .local _ .vmem, ⟨1, _⟩ => ⟨S1024x2560, .f32⟩
  | .local _ .vmem, ⟨2, _⟩ => ⟨S32x2560, .f32⟩
  | .local _ .vmem, ⟨3, _⟩ => ⟨S32x2560, .f32⟩
  | .local _ .vmem, ⟨4, _⟩ => ⟨S1x256, .f32⟩
  | .local _ .vmem, ⟨5, _⟩ => ⟨S4x128x128, .bf16⟩
  | .local _ .vmem, ⟨6, _⟩ => ⟨S128x256, .f32⟩
  | .local _ .vmem, ⟨7, _⟩ => ⟨S8x256, .f32⟩
  | .local _ .vmem, ⟨8, _⟩ => ⟨S32x256, .f32⟩
  | .local _ .vmem, ⟨9, _⟩ => ⟨S1x256, .f32⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1056x256, .f32⟩
  | .local _ .vmem, ⟨20, _⟩ => ⟨S1056x256, .f32⟩
  | .local _ .vmem, ⟨21, _⟩ => ⟨S8x1048x256, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_call2_v0 : Ref sig .tc := ⟨.hbm, 30, rfl⟩
abbrev main_v8 : Ref sig .tc := ⟨.hbm, 31, rfl⟩
abbrev main_c_1 : Ref sig .tc := ⟨.hbm, 32, rfl⟩
abbrev main_call3_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12_0 : Ref sig .tc := ⟨.hbm, 37, rfl⟩
abbrev main_v12_1 : Ref sig .tc := ⟨.hbm, 38, rfl⟩
abbrev main_v12_2 : Ref sig .tc := ⟨.hbm, 39, rfl⟩
abbrev main_v12_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixfIdeal.lean ====
abbrev S16384x2560 : Shape := ⟨2, ![16384, 2560]⟩
abbrev S256 : Shape := ⟨1, ![256]⟩
abbrev S4x128x128 : Shape := ⟨3, ![4, 128, 128]⟩
abbrev S4x128 : Shape := ⟨2, ![4, 128]⟩
abbrev S3x256 : Shape := ⟨2, ![3, 256]⟩
abbrev S31x256 : Shape := ⟨2, ![31, 256]⟩
abbrev S16384x512 : Shape := ⟨2, ![16384, 512]⟩
abbrev S16384x768 : Shape := ⟨2, ![16384, 768]⟩
abbrev S_ : Shape := ⟨0, ![]⟩
abbrev S16384x256 : Shape := ⟨2, ![16384, 256]⟩
abbrev S16384 : Shape := ⟨1, ![16384]⟩
abbrev S16384x1 : Shape := ⟨2, ![16384, 1]⟩
abbrev S1x256 : Shape := ⟨2, ![1, 256]⟩
abbrev S128x128x4x64 : Shape := ⟨4, ![128, 128, 4, 64]⟩
abbrev S128x128 : Shape := ⟨2, ![128, 128]⟩
abbrev S4x128x64x128 : Shape := ⟨4, ![4, 128, 64, 128]⟩
abbrev S128x4 : Shape := ⟨2, ![128, 4]⟩
abbrev S128x4x1 : Shape := ⟨3, ![128, 4, 1]⟩
abbrev S1x128x4x1 : Shape := ⟨4, ![1, 128, 4, 1]⟩
abbrev S2x256 : Shape := ⟨2, ![2, 256]⟩
abbrev S16386x256 : Shape := ⟨2, ![16386, 256]⟩
abbrev S30x256 : Shape := ⟨2, ![30, 256]⟩
abbrev S16414x256 : Shape := ⟨2, ![16414, 256]⟩

abbrev nBuf : Space → Nat
  | .hbm => 596
  | .vmem => 0
  | .smem => 0
  | _ => 0

abbrev hbmTy0_0 (i : Nat) : BufTy := match i % 128 with
  | 0 => ⟨S16384x2560, .f32⟩
  | 1 => ⟨S256, .f32⟩
  | 2 => ⟨S4x128x128, .f32⟩
  | 3 => ⟨S4x128, .f32⟩
  | 4 => ⟨S3x256, .f32⟩
  | 5 => ⟨S31x256, .f32⟩
  | 6 => ⟨S256, .f32⟩
  | 7 => ⟨S256, .f32⟩
  | 8 => ⟨S16384x512, .f32⟩
  | 9 => ⟨S16384x768, .f32⟩
  | 10 => ⟨S16384x768, .f32⟩
  | 11 => ⟨S16384x512, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S16384x512, .f32⟩
  | 18 => ⟨S_, .f32⟩
  | 19 => ⟨S16384x512, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S_, .f32⟩
  | 26 => ⟨S16384x512, .f32⟩
  | 27 => ⟨S16384x512, .f32⟩
  | 28 => ⟨S16384x512, .f32⟩
  | 29 => ⟨S16384x256, .f32⟩
  | 30 => ⟨S16384x256, .f32⟩
  | 31 => ⟨S16384x256, .f32⟩
  | 32 => ⟨S_, .f32⟩
  | 33 => ⟨S16384, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S16384x256, .f32⟩
  | 43 => ⟨S16384x256, .f32⟩
  | 44 => ⟨S1x256, .f32⟩
  | 45 => ⟨S16384x256, .f32⟩
  | 46 => ⟨S16384x256, .f32⟩
  | 47 => ⟨S128x128x4x64, .f32⟩
  | 48 => ⟨S_, .i1⟩
  | 49 => ⟨S128x128, .i1⟩
  | 50 => ⟨S128x128, .i32⟩
  | 51 => ⟨S_, .i32⟩
  | 52 => ⟨S128x128, .i32⟩
  | 53 => ⟨S128x128, .i32⟩
  | 54 => ⟨S128x128, .i32⟩
  | 55 => ⟨S128x128, .i1⟩
  | 56 => ⟨S_, .i1⟩
  | 57 => ⟨S128x128, .i1⟩
  | 58 => ⟨S128x128, .i1⟩
  | 59 => ⟨S_, .f32⟩
  | 60 => ⟨S4x128x128, .f32⟩
  | 61 => ⟨S4x128x128, .i1⟩
  | 62 => ⟨S4x128x128, .f32⟩
  | 63 => ⟨S4x128x64x128, .f32⟩
  | 64 => ⟨S128x128x4x64, .f32⟩
  | 65 => ⟨S128x4, .f32⟩
  | 66 => ⟨S128x4x1, .f32⟩
  | 67 => ⟨S1x128x4x1, .f32⟩
  | 68 => ⟨S128x128x4x64, .f32⟩
  | 69 => ⟨S128x128x4x64, .f32⟩
  | 70 => ⟨S16384x256, .f32⟩
  | 71 => ⟨S16384x256, .f32⟩
  | 72 => ⟨S16384x256, .f32⟩
  | 73 => ⟨S16384x256, .f32⟩
  | 74 => ⟨S16384x256, .f32⟩
  | 75 => ⟨S16384x256, .f32⟩
  | 76 => ⟨S_, .f32⟩
  | 77 => ⟨S2x256, .f32⟩
  | 78 => ⟨S16386x256, .f32⟩
  | 79 => ⟨S1x256, .f32⟩
  | 80 => ⟨S256, .f32⟩
  | 81 => ⟨S16384x256, .f32⟩
  | 82 => ⟨S1x256, .f32⟩
  | 83 => ⟨S16384x256, .f32⟩
  | 84 => ⟨S16384x256, .f32⟩
  | 85 => ⟨S1x256, .f32⟩
  | 86 => ⟨S256, .f32⟩
  | 87 => ⟨S16384x256, .f32⟩
  | 88 => ⟨S1x256, .f32⟩
  | 89 => ⟨S16384x256, .f32⟩
  | 90 => ⟨S16384x256, .f32⟩
  | 91 => ⟨S16384x256, .f32⟩
  | 92 => ⟨S1x256, .f32⟩
  | 93 => ⟨S256, .f32⟩
  | 94 => ⟨S16384x256, .f32⟩
  | 95 => ⟨S1x256, .f32⟩
  | 96 => ⟨S16384x256, .f32⟩
  | 97 => ⟨S16384x256, .f32⟩
  | 98 => ⟨S16384x256, .f32⟩
  | 99 => ⟨S16384x256, .f32⟩
  | 100 => ⟨S16384x256, .f32⟩
  | 101 => ⟨S16384x256, .f32⟩
  | 102 => ⟨S16384x256, .f32⟩
  | 103 => ⟨S16384x256, .f32⟩
  | 104 => ⟨S_, .f32⟩
  | 105 => ⟨S16384x256, .f32⟩
  | 106 => ⟨S16384x256, .f32⟩
  | 107 => ⟨S_, .f32⟩
  | 108 => ⟨S16384x256, .f32⟩
  | 109 => ⟨S16384x256, .f32⟩
  | 110 => ⟨S16384x256, .f32⟩
  | 111 => ⟨S_, .f32⟩
  | 112 => ⟨S30x256, .f32⟩
  | 113 => ⟨S16414x256, .f32⟩
  | 114 => ⟨S1x256, .f32⟩
  | 115 => ⟨S256, .f32⟩
  | 116 => ⟨S16384x256, .f32⟩
  | 117 => ⟨S1x256, .f32⟩
  | 118 => ⟨S16384x256, .f32⟩
  | 119 => ⟨S16384x256, .f32⟩
  | 120 => ⟨S1x256, .f32⟩
  | 121 => ⟨S256, .f32⟩
  | 122 => ⟨S16384x256, .f32⟩
  | 123 => ⟨S1x256, .f32⟩
  | 124 => ⟨S16384x256, .f32⟩
  | 125 => ⟨S16384x256, .f32⟩
  | 126 => ⟨S16384x256, .f32⟩
  | 127 => ⟨S1x256, .f32⟩
  | _ => ⟨S16384x2560, .f32⟩

abbrev hbmTy0_1 (i : Nat) : BufTy := match i % 128 with
  | 0 => ⟨S256, .f32⟩
  | 1 => ⟨S16384x256, .f32⟩
  | 2 => ⟨S1x256, .f32⟩
  | 3 => ⟨S16384x256, .f32⟩
  | 4 => ⟨S16384x256, .f32⟩
  | 5 => ⟨S16384x256, .f32⟩
  | 6 => ⟨S1x256, .f32⟩
  | 7 => ⟨S256, .f32⟩
  | 8 => ⟨S16384x256, .f32⟩
  | 9 => ⟨S1x256, .f32⟩
  | 10 => ⟨S16384x256, .f32⟩
  | 11 => ⟨S16384x256, .f32⟩
  | 12 => ⟨S16384x256, .f32⟩
  | 13 => ⟨S1x256, .f32⟩
  | 14 => ⟨S256, .f32⟩
  | 15 => ⟨S16384x256, .f32⟩
  | 16 => ⟨S1x256, .f32⟩
  | 17 => ⟨S16384x256, .f32⟩
  | 18 => ⟨S16384x256, .f32⟩
  | 19 => ⟨S16384x256, .f32⟩
  | 20 => ⟨S1x256, .f32⟩
  | 21 => ⟨S256, .f32⟩
  | 22 => ⟨S16384x256, .f32⟩
  | 23 => ⟨S1x256, .f32⟩
  | 24 => ⟨S16384x256, .f32⟩
  | 25 => ⟨S16384x256, .f32⟩
  | 26 => ⟨S16384x256, .f32⟩
  | 27 => ⟨S1x256, .f32⟩
  | 28 => ⟨S256, .f32⟩
  | 29 => ⟨S16384x256, .f32⟩
  | 30 => ⟨S1x256, .f32⟩
  | 31 => ⟨S16384x256, .f32⟩
  | 32 => ⟨S16384x256, .f32⟩
  | 33 => ⟨S16384x256, .f32⟩
  | 34 => ⟨S1x256, .f32⟩
  | 35 => ⟨S256, .f32⟩
  | 36 => ⟨S16384x256, .f32⟩
  | 37 => ⟨S1x256, .f32⟩
  | 38 => ⟨S16384x256, .f32⟩
  | 39 => ⟨S16384x256, .f32⟩
  | 40 => ⟨S16384x256, .f32⟩
  | 41 => ⟨S1x256, .f32⟩
  | 42 => ⟨S256, .f32⟩
  | 43 => ⟨S16384x256, .f32⟩
  | 44 => ⟨S1x256, .f32⟩
  | 45 => ⟨S16384x256, .f32⟩
  | 46 => ⟨S16384x256, .f32⟩
  | 47 => ⟨S16384x256, .f32⟩
  | 48 => ⟨S1x256, .f32⟩
  | 49 => ⟨S256, .f32⟩
  | 50 => ⟨S16384x256, .f32⟩
  | 51 => ⟨S1x256, .f32⟩
  | 52 => ⟨S16384x256, .f32⟩
  | 53 => ⟨S16384x256, .f32⟩
  | 54 => ⟨S16384x256, .f32⟩
  | 55 => ⟨S1x256, .f32⟩
  | 56 => ⟨S256, .f32⟩
  | 57 => ⟨S16384x256, .f32⟩
  | 58 => ⟨S1x256, .f32⟩
  | 59 => ⟨S16384x256, .f32⟩
  | 60 => ⟨S16384x256, .f32⟩
  | 61 => ⟨S16384x256, .f32⟩
  | 62 => ⟨S1x256, .f32⟩
  | 63 => ⟨S256, .f32⟩
  | 64 => ⟨S16384x256, .f32⟩
  | 65 => ⟨S1x256, .f32⟩
  | 66 => ⟨S16384x256, .f32⟩
  | 67 => ⟨S16384x256, .f32⟩
  | 68 => ⟨S16384x256, .f32⟩
  | 69 => ⟨S1x256, .f32⟩
  | 70 => ⟨S256, .f32⟩
  | 71 => ⟨S16384x256, .f32⟩
  | 72 => ⟨S1x256, .f32⟩
  | 73 => ⟨S16384x256, .f32⟩
  | 74 => ⟨S16384x256, .f32⟩
  | 75 => ⟨S16384x256, .f32⟩
  | 76 => ⟨S1x256, .f32⟩
  | 77 => ⟨S256, .f32⟩
  | 78 => ⟨S16384x256, .f32⟩
  | 79 => ⟨S1x256, .f32⟩
  | 80 => ⟨S16384x256, .f32⟩
  | 81 => ⟨S16384x256, .f32⟩
  | 82 => ⟨S16384x256, .f32⟩
  | 83 => ⟨S1x256, .f32⟩
  | 84 => ⟨S256, .f32⟩
  | 85 => ⟨S16384x256, .f32⟩
  | 86 => ⟨S1x256, .f32⟩
  | 87 => ⟨S16384x256, .f32⟩
  | 88 => ⟨S16384x256, .f32⟩
  | 89 => ⟨S16384x256, .f32⟩
  | 90 => ⟨S1x256, .f32⟩
  | 91 => ⟨S256, .f32⟩
  | 92 => ⟨S16384x256, .f32⟩
  | 93 => ⟨S1x256, .f32⟩
  | 94 => ⟨S16384x256, .f32⟩
  | 95 => ⟨S16384x256, .f32⟩
  | 96 => ⟨S16384x256, .f32⟩
  | 97 => ⟨S1x256, .f32⟩
  | 98 => ⟨S256, .f32⟩
  | 99 => ⟨S16384x256, .f32⟩
  | 100 => ⟨S1x256, .f32⟩
  | 101 => ⟨S16384x256, .f32⟩
  | 102 => ⟨S16384x256, .f32⟩
  | 103 => ⟨S16384x256, .f32⟩
  | 104 => ⟨S1x256, .f32⟩
  | 105 => ⟨S256, .f32⟩
  | 106 => ⟨S16384x256, .f32⟩
  | 107 => ⟨S1x256, .f32⟩
  | 108 => ⟨S16384x256, .f32⟩
  | 109 => ⟨S16384x256, .f32⟩
  | 110 => ⟨S16384x256, .f32⟩
  | 111 => ⟨S1x256, .f32⟩
  | 112 => ⟨S256, .f32⟩
  | 113 => ⟨S16384x256, .f32⟩
  | 114 => ⟨S1x256, .f32⟩
  | 115 => ⟨S16384x256, .f32⟩
  | 116 => ⟨S16384x256, .f32⟩
  | 117 => ⟨S16384x256, .f32⟩
  | 118 => ⟨S1x256, .f32⟩
  | 119 => ⟨S256, .f32⟩
  | 120 => ⟨S16384x256, .f32⟩
  | 121 => ⟨S1x256, .f32⟩
  | 122 => ⟨S16384x256, .f32⟩
  | 123 => ⟨S16384x256, .f32⟩
  | 124 => ⟨S16384x256, .f32⟩
  | 125 => ⟨S1x256, .f32⟩
  | 126 => ⟨S256, .f32⟩
  | 127 => ⟨S16384x256, .f32⟩
  | _ => ⟨S16384x2560, .f32⟩

abbrev hbmTy0_2 (i : Nat) : BufTy := match i % 128 with
  | 0 => ⟨S1x256, .f32⟩
  | 1 => ⟨S16384x256, .f32⟩
  | 2 => ⟨S16384x256, .f32⟩
  | 3 => ⟨S16384x256, .f32⟩
  | 4 => ⟨S1x256, .f32⟩
  | 5 => ⟨S256, .f32⟩
  | 6 => ⟨S16384x256, .f32⟩
  | 7 => ⟨S1x256, .f32⟩
  | 8 => ⟨S16384x256, .f32⟩
  | 9 => ⟨S16384x256, .f32⟩
  | 10 => ⟨S16384x256, .f32⟩
  | 11 => ⟨S1x256, .f32⟩
  | 12 => ⟨S256, .f32⟩
  | 13 => ⟨S16384x256, .f32⟩
  | 14 => ⟨S1x256, .f32⟩
  | 15 => ⟨S16384x256, .f32⟩
  | 16 => ⟨S16384x256, .f32⟩
  | 17 => ⟨S16384x256, .f32⟩
  | 18 => ⟨S1x256, .f32⟩
  | 19 => ⟨S256, .f32⟩
  | 20 => ⟨S16384x256, .f32⟩
  | 21 => ⟨S1x256, .f32⟩
  | 22 => ⟨S16384x256, .f32⟩
  | 23 => ⟨S16384x256, .f32⟩
  | 24 => ⟨S16384x256, .f32⟩
  | 25 => ⟨S1x256, .f32⟩
  | 26 => ⟨S256, .f32⟩
  | 27 => ⟨S16384x256, .f32⟩
  | 28 => ⟨S1x256, .f32⟩
  | 29 => ⟨S16384x256, .f32⟩
  | 30 => ⟨S16384x256, .f32⟩
  | 31 => ⟨S16384x256, .f32⟩
  | 32 => ⟨S1x256, .f32⟩
  | 33 => ⟨S256, .f32⟩
  | 34 => ⟨S16384x256, .f32⟩
  | 35 => ⟨S1x256, .f32⟩
  | 36 => ⟨S16384x256, .f32⟩
  | 37 => ⟨S16384x256, .f32⟩
  | 38 => ⟨S16384x256, .f32⟩
  | 39 => ⟨S1x256, .f32⟩
  | 40 => ⟨S256, .f32⟩
  | 41 => ⟨S16384x256, .f32⟩
  | 42 => ⟨S1x256, .f32⟩
  | 43 => ⟨S16384x256, .f32⟩
  | 44 => ⟨S16384x256, .f32⟩
  | 45 => ⟨S16384x256, .f32⟩
  | 46 => ⟨S1x256, .f32⟩
  | 47 => ⟨S256, .f32⟩
  | 48 => ⟨S16384x256, .f32⟩
  | 49 => ⟨S1x256, .f32⟩
  | 50 => ⟨S16384x256, .f32⟩
  | 51 => ⟨S16384x256, .f32⟩
  | 52 => ⟨S16384x256, .f32⟩
  | 53 => ⟨S1x256, .f32⟩
  | 54 => ⟨S256, .f32⟩
  | 55 => ⟨S16384x256, .f32⟩
  | 56 => ⟨S1x256, .f32⟩
  | 57 => ⟨S16384x256, .f32⟩
  | 58 => ⟨S16384x256, .f32⟩
  | 59 => ⟨S16384x256, .f32⟩
  | 60 => ⟨S1x256, .f32⟩
  | 61 => ⟨S256, .f32⟩
  | 62 => ⟨S16384x256, .f32⟩
  | 63 => ⟨S1x256, .f32⟩
  | 64 => ⟨S16384x256, .f32⟩
  | 65 => ⟨S16384x256, .f32⟩
  | 66 => ⟨S16384x256, .f32⟩
  | 67 => ⟨S1x256, .f32⟩
  | 68 => ⟨S256, .f32⟩
  | 69 => ⟨S16384x256, .f32⟩
  | 70 => ⟨S1x256, .f32⟩
  | 71 => ⟨S16384x256, .f32⟩
  | 72 => ⟨S16384x256, .f32⟩
  | 73 => ⟨S16384x256, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S16384x256, .f32⟩
  | 81 => ⟨S16384x256, .f32⟩
  | 82 => ⟨S16384x256, .f32⟩
  | 83 => ⟨S_, .f32⟩
  | 84 => ⟨S16384, .f32⟩
  | 85 => ⟨S16384x1, .f32⟩
  | 86 => ⟨S_, .f32⟩
  | 87 => ⟨S16384x1, .f32⟩
  | 88 => ⟨S16384x1, .f32⟩
  | 89 => ⟨S_, .f32⟩
  | 90 => ⟨S16384x1, .f32⟩
  | 91 => ⟨S16384x1, .f32⟩
  | 92 => ⟨S16384x1, .f32⟩
  | 93 => ⟨S16384x256, .f32⟩
  | 94 => ⟨S16384x256, .f32⟩
  | 95 => ⟨S1x256, .f32⟩
  | 96 => ⟨S16384x256, .f32⟩
  | 97 => ⟨S16384x256, .f32⟩
  | 98 => ⟨S1x256, .f32⟩
  | 99 => ⟨S16384x256, .f32⟩
  | 100 => ⟨S16384x256, .f32⟩
  | 101 => ⟨S16384x256, .f32⟩
  | 102 => ⟨S16384x256, .f32⟩
  | 103 => ⟨S_, .f32⟩
  | 104 => ⟨S16384x256, .f32⟩
  | 105 => ⟨S16384x256, .f32⟩
  | 106 => ⟨S_, .f32⟩
  | 107 => ⟨S16384x256, .f32⟩
  | 108 => ⟨S16384x256, .f32⟩
  | 109 => ⟨S16384x256, .f32⟩
  | 110 => ⟨S16384x256, .f32⟩
  | 111 => ⟨S16384x256, .f32⟩
  | 112 => ⟨S16384x256, .f32⟩
  | 113 => ⟨S16384x256, .f32⟩
  | 114 => ⟨S_, .f32⟩
  | 115 => ⟨S16384x256, .f32⟩
  | 116 => ⟨S16384x256, .f32⟩
  | 117 => ⟨S_, .f32⟩
  | 118 => ⟨S16384x256, .f32⟩
  | 119 => ⟨S16384x256, .f32⟩
  | 120 => ⟨S16384x256, .f32⟩
  | 121 => ⟨S_, .f32⟩
  | 122 => ⟨S30x256, .f32⟩
  | 123 => ⟨S16414x256, .f32⟩
  | 124 => ⟨S1x256, .f32⟩
  | 125 => ⟨S256, .f32⟩
  | 126 => ⟨S16384x256, .f32⟩
  | 127 => ⟨S1x256, .f32⟩
  | _ => ⟨S16384x2560, .f32⟩

abbrev hbmTy0_3 (i : Nat) : BufTy := match i % 128 with
  | 0 => ⟨S16384x256, .f32⟩
  | 1 => ⟨S16384x256, .f32⟩
  | 2 => ⟨S1x256, .f32⟩
  | 3 => ⟨S256, .f32⟩
  | 4 => ⟨S16384x256, .f32⟩
  | 5 => ⟨S1x256, .f32⟩
  | 6 => ⟨S16384x256, .f32⟩
  | 7 => ⟨S16384x256, .f32⟩
  | 8 => ⟨S16384x256, .f32⟩
  | 9 => ⟨S1x256, .f32⟩
  | 10 => ⟨S256, .f32⟩
  | 11 => ⟨S16384x256, .f32⟩
  | 12 => ⟨S1x256, .f32⟩
  | 13 => ⟨S16384x256, .f32⟩
  | 14 => ⟨S16384x256, .f32⟩
  | 15 => ⟨S16384x256, .f32⟩
  | 16 => ⟨S1x256, .f32⟩
  | 17 => ⟨S256, .f32⟩
  | 18 => ⟨S16384x256, .f32⟩
  | 19 => ⟨S1x256, .f32⟩
  | 20 => ⟨S16384x256, .f32⟩
  | 21 => ⟨S16384x256, .f32⟩
  | 22 => ⟨S16384x256, .f32⟩
  | 23 => ⟨S1x256, .f32⟩
  | 24 => ⟨S256, .f32⟩
  | 25 => ⟨S16384x256, .f32⟩
  | 26 => ⟨S1x256, .f32⟩
  | 27 => ⟨S16384x256, .f32⟩
  | 28 => ⟨S16384x256, .f32⟩
  | 29 => ⟨S16384x256, .f32⟩
  | 30 => ⟨S1x256, .f32⟩
  | 31 => ⟨S256, .f32⟩
  | 32 => ⟨S16384x256, .f32⟩
  | 33 => ⟨S1x256, .f32⟩
  | 34 => ⟨S16384x256, .f32⟩
  | 35 => ⟨S16384x256, .f32⟩
  | 36 => ⟨S16384x256, .f32⟩
  | 37 => ⟨S1x256, .f32⟩
  | 38 => ⟨S256, .f32⟩
  | 39 => ⟨S16384x256, .f32⟩
  | 40 => ⟨S1x256, .f32⟩
  | 41 => ⟨S16384x256, .f32⟩
  | 42 => ⟨S16384x256, .f32⟩
  | 43 => ⟨S16384x256, .f32⟩
  | 44 => ⟨S1x256, .f32⟩
  | 45 => ⟨S256, .f32⟩
  | 46 => ⟨S16384x256, .f32⟩
  | 47 => ⟨S1x256, .f32⟩
  | 48 => ⟨S16384x256, .f32⟩
  | 49 => ⟨S16384x256, .f32⟩
  | 50 => ⟨S16384x256, .f32⟩
  | 51 => ⟨S1x256, .f32⟩
  | 52 => ⟨S256, .f32⟩
  | 53 => ⟨S16384x256, .f32⟩
  | 54 => ⟨S1x256, .f32⟩
  | 55 => ⟨S16384x256, .f32⟩
  | 56 => ⟨S16384x256, .f32⟩
  | 57 => ⟨S16384x256, .f32⟩
  | 58 => ⟨S1x256, .f32⟩
  | 59 => ⟨S256, .f32⟩
  | 60 => ⟨S16384x256, .f32⟩
  | 61 => ⟨S1x256, .f32⟩
  | 62 => ⟨S16384x256, .f32⟩
  | 63 => ⟨S16384x256, .f32⟩
  | 64 => ⟨S16384x256, .f32⟩
  | 65 => ⟨S1x256, .f32⟩
  | 66 => ⟨S256, .f32⟩
  | 67 => ⟨S16384x256, .f32⟩
  | 68 => ⟨S1x256, .f32⟩
  | 69 => ⟨S16384x256, .f32⟩
  | 70 => ⟨S16384x256, .f32⟩
  | 71 => ⟨S16384x256, .f32⟩
  | 72 => ⟨S1x256, .f32⟩
  | 73 => ⟨S256, .f32⟩
  | 74 => ⟨S16384x256, .f32⟩
  | 75 => ⟨S1x256, .f32⟩
  | 76 => ⟨S16384x256, .f32⟩
  | 77 => ⟨S16384x256, .f32⟩
  | 78 => ⟨S16384x256, .f32⟩
  | 79 => ⟨S1x256, .f32⟩
  | 80 => ⟨S256, .f32⟩
  | 81 => ⟨S16384x256, .f32⟩
  | 82 => ⟨S1x256, .f32⟩
  | 83 => ⟨S16384x256, .f32⟩
  | 84 => ⟨S16384x256, .f32⟩
  | 85 => ⟨S16384x256, .f32⟩
  | 86 => ⟨S1x256, .f32⟩
  | 87 => ⟨S256, .f32⟩
  | 88 => ⟨S16384x256, .f32⟩
  | 89 => ⟨S1x256, .f32⟩
  | 90 => ⟨S16384x256, .f32⟩
  | 91 => ⟨S16384x256, .f32⟩
  | 92 => ⟨S16384x256, .f32⟩
  | 93 => ⟨S1x256, .f32⟩
  | 94 => ⟨S256, .f32⟩
  | 95 => ⟨S16384x256, .f32⟩
  | 96 => ⟨S1x256, .f32⟩
  | 97 => ⟨S16384x256, .f32⟩
  | 98 => ⟨S16384x256, .f32⟩
  | 99 => ⟨S16384x256, .f32⟩
  | 100 => ⟨S1x256, .f32⟩
  | 101 => ⟨S256, .f32⟩
  | 102 => ⟨S16384x256, .f32⟩
  | 103 => ⟨S1x256, .f32⟩
  | 104 => ⟨S16384x256, .f32⟩
  | 105 => ⟨S16384x256, .f32⟩
  | 106 => ⟨S16384x256, .f32⟩
  | 107 => ⟨S1x256, .f32⟩
  | 108 => ⟨S256, .f32⟩
  | 109 => ⟨S16384x256, .f32⟩
  | 110 => ⟨S1x256, .f32⟩
  | 111 => ⟨S16384x256, .f32⟩
  | 112 => ⟨S16384x256, .f32⟩
  | 113 => ⟨S16384x256, .f32⟩
  | 114 => ⟨S1x256, .f32⟩
  | 115 => ⟨S256, .f32⟩
  | 116 => ⟨S16384x256, .f32⟩
  | 117 => ⟨S1x256, .f32⟩
  | 118 => ⟨S16384x256, .f32⟩
  | 119 => ⟨S16384x256, .f32⟩
  | 120 => ⟨S16384x256, .f32⟩
  | 121 => ⟨S1x256, .f32⟩
  | 122 => ⟨S256, .f32⟩
  | 123 => ⟨S16384x256, .f32⟩
  | 124 => ⟨S1x256, .f32⟩
  | 125 => ⟨S16384x256, .f32⟩
  | 126 => ⟨S16384x256, .f32⟩
  | 127 => ⟨S16384x256, .f32⟩
  | _ => ⟨S16384x2560, .f32⟩

abbrev hbmTy0_4 (i : Nat) : BufTy := match i % 128 with
  | 0 => ⟨S1x256, .f32⟩
  | 1 => ⟨S256, .f32⟩
  | 2 => ⟨S16384x256, .f32⟩
  | 3 => ⟨S1x256, .f32⟩
  | 4 => ⟨S16384x256, .f32⟩
  | 5 => ⟨S16384x256, .f32⟩
  | 6 => ⟨S16384x256, .f32⟩
  | 7 => ⟨S1x256, .f32⟩
  | 8 => ⟨S256, .f32⟩
  | 9 => ⟨S16384x256, .f32⟩
  | 10 => ⟨S1x256, .f32⟩
  | 11 => ⟨S16384x256, .f32⟩
  | 12 => ⟨S16384x256, .f32⟩
  | 13 => ⟨S16384x256, .f32⟩
  | 14 => ⟨S1x256, .f32⟩
  | 15 => ⟨S256, .f32⟩
  | 16 => ⟨S16384x256, .f32⟩
  | 17 => ⟨S1x256, .f32⟩
  | 18 => ⟨S16384x256, .f32⟩
  | 19 => ⟨S16384x256, .f32⟩
  | 20 => ⟨S16384x256, .f32⟩
  | 21 => ⟨S1x256, .f32⟩
  | 22 => ⟨S256, .f32⟩
  | 23 => ⟨S16384x256, .f32⟩
  | 24 => ⟨S1x256, .f32⟩
  | 25 => ⟨S16384x256, .f32⟩
  | 26 => ⟨S16384x256, .f32⟩
  | 27 => ⟨S16384x256, .f32⟩
  | 28 => ⟨S1x256, .f32⟩
  | 29 => ⟨S256, .f32⟩
  | 30 => ⟨S16384x256, .f32⟩
  | 31 => ⟨S1x256, .f32⟩
  | 32 => ⟨S16384x256, .f32⟩
  | 33 => ⟨S16384x256, .f32⟩
  | 34 => ⟨S16384x256, .f32⟩
  | 35 => ⟨S1x256, .f32⟩
  | 36 => ⟨S256, .f32⟩
  | 37 => ⟨S16384x256, .f32⟩
  | 38 => ⟨S1x256, .f32⟩
  | 39 => ⟨S16384x256, .f32⟩
  | 40 => ⟨S16384x256, .f32⟩
  | 41 => ⟨S16384x256, .f32⟩
  | 42 => ⟨S1x256, .f32⟩
  | 43 => ⟨S256, .f32⟩
  | 44 => ⟨S16384x256, .f32⟩
  | 45 => ⟨S1x256, .f32⟩
  | 46 => ⟨S16384x256, .f32⟩
  | 47 => ⟨S16384x256, .f32⟩
  | 48 => ⟨S16384x256, .f32⟩
  | 49 => ⟨S1x256, .f32⟩
  | 50 => ⟨S256, .f32⟩
  | 51 => ⟨S16384x256, .f32⟩
  | 52 => ⟨S1x256, .f32⟩
  | 53 => ⟨S16384x256, .f32⟩
  | 54 => ⟨S16384x256, .f32⟩
  | 55 => ⟨S16384x256, .f32⟩
  | 56 => ⟨S1x256, .f32⟩
  | 57 => ⟨S256, .f32⟩
  | 58 => ⟨S16384x256, .f32⟩
  | 59 => ⟨S1x256, .f32⟩
  | 60 => ⟨S16384x256, .f32⟩
  | 61 => ⟨S16384x256, .f32⟩
  | 62 => ⟨S16384x256, .f32⟩
  | 63 => ⟨S1x256, .f32⟩
  | 64 => ⟨S256, .f32⟩
  | 65 => ⟨S16384x256, .f32⟩
  | 66 => ⟨S1x256, .f32⟩
  | 67 => ⟨S16384x256, .f32⟩
  | 68 => ⟨S16384x256, .f32⟩
  | 69 => ⟨S16384x256, .f32⟩
  | 70 => ⟨S1x256, .f32⟩
  | 71 => ⟨S256, .f32⟩
  | 72 => ⟨S16384x256, .f32⟩
  | 73 => ⟨S1x256, .f32⟩
  | 74 => ⟨S16384x256, .f32⟩
  | 75 => ⟨S16384x256, .f32⟩
  | 76 => ⟨S16384x256, .f32⟩
  | 77 => ⟨S1x256, .f32⟩
  | 78 => ⟨S256, .f32⟩
  | 79 => ⟨S16384x256, .f32⟩
  | 80 => ⟨S1x256, .f32⟩
  | 81 => ⟨S16384x256, .f32⟩
  | 82 => ⟨S16384x256, .f32⟩
  | 83 => ⟨S16384x256, .f32⟩
  | _ => ⟨S16384x2560, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_0 : Ref sig .tc := ⟨.hbm, 56, rfl⟩
abbrev main_call0_v5 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_call1_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_8 : Ref sig .tc := ⟨.hbm, 104, rfl⟩
abbrev main_v77 : Ref sig .tc := ⟨.hbm, 105, rfl⟩
abbrev main_v78 : Ref sig .tc := ⟨.hbm, 106, rfl⟩
abbrev main_cst_9 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_10 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_cst_11 : Ref sig .tc := ⟨.hbm, 330, rfl⟩
abbrev main_v300 : Ref sig .tc := ⟨.hbm, 331, rfl⟩
abbrev main_v301 : Ref sig .tc := ⟨.hbm, 332, rfl⟩
abbrev main_cst_12 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_cst_13 : Ref sig .tc := ⟨.hbm, 339, rfl⟩
abbrev main_v307 : Ref sig .tc := ⟨.hbm, 340, rfl⟩
abbrev main_v308 : Ref sig .tc := ⟨.hbm, 341, rfl⟩
abbrev main_cst_14 : Ref sig .tc := ⟨.hbm, 342, rfl⟩
abbrev main_v309 : Ref sig .tc := ⟨.hbm, 343, rfl⟩
abbrev main_v310 : Ref sig .tc := ⟨.hbm, 344, rfl⟩
abbrev main_cst_15 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_call2_v0 : Ref sig .tc := ⟨.hbm, 357, rfl⟩
abbrev main_call2_v1 : Ref sig .tc := ⟨.hbm, 358, rfl⟩
abbrev main_call2_cst : Ref sig .tc := ⟨.hbm, 359, rfl⟩
abbrev main_call2_v2 : Ref sig .tc := ⟨.hbm, 360, rfl⟩
abbrev main_call2_v3 : Ref sig .tc := ⟨.hbm, 361, rfl⟩
abbrev main_call2_cst_0 : Ref sig .tc := ⟨.hbm, 362, rfl⟩
abbrev main_call2_v4 : Ref sig .tc := ⟨.hbm, 363, rfl⟩
abbrev main_call2_v5 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_cst_16 : Ref sig .tc := ⟨.hbm, 370, rfl⟩
abbrev main_v327 : Ref sig .tc := ⟨.hbm, 371, rfl⟩
abbrev main_v328 : Ref sig .tc := ⟨.hbm, 372, rfl⟩
abbrev main_cst_17 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_cst_18 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_v397 : Ref sig .tc := ⟨.hbm, 443, rfl⟩
abbrev main_v398 : Ref sig .tc := ⟨.hbm, 444, rfl⟩
abbrev main_v399 : Ref sig .tc := ⟨.hbm, 445, rfl⟩
abbrev main_v400 : Ref sig .tc := ⟨.hbm, 446, rfl⟩
abbrev main_v401 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_v406 : Ref sig .tc := ⟨.hbm, 452, rfl⟩
abbrev main_v407 : Ref sig .tc := ⟨.hbm, 453, rfl⟩
abbrev main_v408 : Ref sig .tc := ⟨.hbm, 454, rfl⟩
abbrev main_v409 : Ref sig .tc := ⟨.hbm, 455, rfl⟩
abbrev main_v410 : Ref sig .tc := ⟨.hbm, 456, rfl⟩
abbrev main_v411 : Ref sig .tc := ⟨.hbm, 457, rfl⟩
abbrev main_v412 : Ref sig .tc := ⟨.hbm, 458, rfl⟩
abbrev main_v413 : Ref sig .tc := ⟨.hbm, 459, rfl⟩
abbrev main_v414 : Ref sig .tc := ⟨.hbm, 460, rfl⟩
abbrev main_v415 : Ref sig .tc := ⟨.hbm, 461, rfl⟩
abbrev main_v416 : Ref sig .tc := ⟨.hbm, 462, rfl⟩
abbrev main_v417 : Ref sig .tc := ⟨.hbm, 463, rfl⟩
abbrev main_v418 : Ref sig .tc := ⟨.hbm, 464, rfl⟩
abbrev main_v419 : Ref sig .tc := ⟨.hbm, 465, rfl⟩
abbrev main_v420 : Ref sig .tc := ⟨.hbm, 466, rfl⟩
abbrev main_v421 : Ref sig .tc := ⟨.hbm, 467, rfl⟩
abbrev main_v422 : Ref sig .tc := ⟨.hbm, 468, rfl⟩
abbrev main_v423 : Ref sig .tc := ⟨.hbm, 469, rfl⟩
abbrev main_v424 : Ref sig .tc := ⟨.hbm, 470, rfl⟩
abbrev main_v425 : Ref sig .tc := ⟨.hbm, 471, rfl⟩
abbrev main_v426 : Ref sig .tc := ⟨.hbm, 472, rfl⟩
abbrev main_v427 : Ref sig .tc := ⟨.hbm, 473, rfl⟩
abbrev main_v428 : Ref sig .tc := ⟨.hbm, 474, rfl⟩
abbrev main_v429 : Ref sig .tc := ⟨.hbm, 475, rfl⟩
abbrev main_v430 : Ref sig .tc := ⟨.hbm, 476, rfl⟩
abbrev main_v431 : Ref sig .tc := ⟨.hbm, 477, rfl⟩
abbrev main_v432 : Ref sig .tc := ⟨.hbm, 478, rfl⟩
abbrev main_v433 : Ref sig .tc := ⟨.hbm, 479, rfl⟩
abbrev main_v434 : Ref sig .tc := ⟨.hbm, 480, rfl⟩
abbrev main_v435 : Ref sig .tc := ⟨.hbm, 481, rfl⟩
abbrev main_v436 : Ref sig .tc := ⟨.hbm, 482, rfl⟩
abbrev main_v437 : Ref sig .tc := ⟨.hbm, 483, rfl⟩
abbrev main_v438 : Ref sig .tc := ⟨.hbm, 484, rfl⟩
abbrev main_v439 : Ref sig .tc := ⟨.hbm, 485, rfl⟩
abbrev main_v440 : Ref sig .tc := ⟨.hbm, 486, rfl⟩
abbrev main_v441 : Ref sig .tc := ⟨.hbm, 487, rfl⟩
abbrev main_v442 : Ref sig .tc := ⟨.hbm, 488, rfl⟩
abbrev main_v443 : Ref sig .tc := ⟨.hbm, 489, rfl⟩
abbrev main_v444 : Ref sig .tc := ⟨.hbm, 490, rfl⟩
abbrev main_v445 : Ref sig .tc := ⟨.hbm, 491, rfl⟩
abbrev main_v446 : Ref sig .tc := ⟨.hbm, 492, rfl⟩
abbrev main_v447 : Ref sig .tc := ⟨.hbm, 493, rfl⟩
abbrev main_v448 : Ref sig .tc := ⟨.hbm, 494, rfl⟩
abbrev main_v449 : Ref sig .tc := ⟨.hbm, 495, rfl⟩
abbrev main_v450 : Ref sig .tc := ⟨.hbm, 496, rfl⟩
abbrev main_v451 : Ref sig .tc := ⟨.hbm, 497, rfl⟩
abbrev main_v452 : Ref sig .tc := ⟨.hbm, 498, rfl⟩
abbrev main_v453 : Ref sig .tc := ⟨.hbm, 499, rfl⟩
abbrev main_v454 : Ref sig .tc := ⟨.hbm, 500, rfl⟩
abbrev main_v455 : Ref sig .tc := ⟨.hbm, 501, rfl⟩
abbrev main_v456 : Ref sig .tc := ⟨.hbm, 502, rfl⟩
abbrev main_v457 : Ref sig .tc := ⟨.hbm, 503, rfl⟩
abbrev main_v458 : Ref sig .tc := ⟨.hbm, 504, rfl⟩
abbrev main_v459 : Ref sig .tc := ⟨.hbm, 505, rfl⟩
abbrev main_v460 : Ref sig .tc := ⟨.hbm, 506, rfl⟩
abbrev main_v461 : Ref sig .tc := ⟨.hbm, 507, rfl⟩
abbrev main_v462 : Ref sig .tc := ⟨.hbm, 508, rfl⟩
abbrev main_v463 : Ref sig .tc := ⟨.hbm, 509, rfl⟩
abbrev main_v464 : Ref sig .tc := ⟨.hbm, 510, rfl⟩
abbrev main_v465 : Ref sig .tc := ⟨.hbm, 511, rfl⟩
abbrev main_v466 : Ref sig .tc := ⟨.hbm, 512, rfl⟩
abbrev main_v467 : Ref sig .tc := ⟨.hbm, 513, rfl⟩
abbrev main_v468 : Ref sig .tc := ⟨.hbm, 514, rfl⟩
abbrev main_v469 : Ref sig .tc := ⟨.hbm, 515, rfl⟩
abbrev main_v470 : Ref sig .tc := ⟨.hbm, 516, rfl⟩
abbrev main_v471 : Ref sig .tc := ⟨.hbm, 517, rfl⟩
abbrev main_v472 : Ref sig .tc := ⟨.hbm, 518, rfl⟩
abbrev main_v473 : Ref sig .tc := ⟨.hbm, 519, rfl⟩
abbrev main_v474 : Ref sig .tc := ⟨.hbm, 520, rfl⟩
abbrev main_v475 : Ref sig .tc := ⟨.hbm, 521, rfl⟩
abbrev main_v476 : Ref sig .tc := ⟨.hbm, 522, rfl⟩
abbrev main_v477 : Ref sig .tc := ⟨.hbm, 523, rfl⟩
abbrev main_v478 : Ref sig .tc := ⟨.hbm, 524, rfl⟩
abbrev main_v479 : Ref sig .tc := ⟨.hbm, 525, rfl⟩
abbrev main_v480 : Ref sig .tc := ⟨.hbm, 526, rfl⟩
abbrev main_v481 : Ref sig .tc := ⟨.hbm, 527, rfl⟩
abbrev main_v482 : Ref sig .tc := ⟨.hbm, 528, rfl⟩
abbrev main_v483 : Ref sig .tc := ⟨.hbm, 529, rfl⟩
abbrev main_v484 : Ref sig .tc := ⟨.hbm, 530, rfl⟩
abbrev main_v485 : Ref sig .tc := ⟨.hbm, 531, rfl⟩
abbrev main_v486 : Ref sig .tc := ⟨.hbm, 532, rfl⟩
abbrev main_v487 : Ref sig .tc := ⟨.hbm, 533, rfl⟩
abbrev main_v488 : Ref sig .tc := ⟨.hbm, 534, rfl⟩
abbrev main_v489 : Ref sig .tc := ⟨.hbm, 535, rfl⟩
abbrev main_v490 : Ref sig .tc := ⟨.hbm, 536, rfl⟩
abbrev main_v491 : Ref sig .tc := ⟨.hbm, 537, rfl⟩
abbrev main_v492 : Ref sig .tc := ⟨.hbm, 538, rfl⟩
abbrev main_v493 : Ref sig .tc := ⟨.hbm, 539, rfl⟩
abbrev main_v494 : Ref sig .tc := ⟨.hbm, 540, rfl⟩
abbrev main_v495 : Ref sig .tc := ⟨.hbm, 541, rfl⟩
abbrev main_v496 : Ref sig .tc := ⟨.hbm, 542, rfl⟩
abbrev main_v497 : Ref sig .tc := ⟨.hbm, 543, rfl⟩
abbrev main_v498 : Ref sig .tc := ⟨.hbm, 544, rfl⟩
abbrev main_v499 : Ref sig .tc := ⟨.hbm, 545, rfl⟩
abbrev main_v500 : Ref sig .tc := ⟨.hbm, 546, rfl⟩
abbrev main_v501 : Ref sig .tc := ⟨.hbm, 547, rfl⟩
abbrev main_v502 : Ref sig .tc := ⟨.hbm, 548, rfl⟩
abbrev main_v503 : Ref sig .tc := ⟨.hbm, 549, rfl⟩
abbrev main_v504 : Ref sig .tc := ⟨.hbm, 550, rfl⟩
abbrev main_v505 : Ref sig .tc := ⟨.hbm, 551, rfl⟩
abbrev main_v506 : Ref sig .tc := ⟨.hbm, 552, rfl⟩
abbrev main_v507 : Ref sig .tc := ⟨.hbm, 553, rfl⟩
abbrev main_v508 : Ref sig .tc := ⟨.hbm, 554, rfl⟩
abbrev main_v509 : Ref sig .tc := ⟨.hbm, 555, rfl⟩
abbrev main_v510 : Ref sig .tc := ⟨.hbm, 556, rfl⟩
abbrev main_v511 : Ref sig .tc := ⟨.hbm, 557, rfl⟩
abbrev main_v512 : Ref sig .tc := ⟨.hbm, 558, rfl⟩
abbrev main_v513 : Ref sig .tc := ⟨.hbm, 559, rfl⟩
abbrev main_v514 : Ref sig .tc := ⟨.hbm, 560, rfl⟩
abbrev main_v515 : Ref sig .tc := ⟨.hbm, 561, rfl⟩
abbrev main_v516 : Ref sig .tc := ⟨.hbm, 562, rfl⟩
abbrev main_v517 : Ref sig .tc := ⟨.hbm, 563, rfl⟩
abbrev main_v518 : Ref sig .tc := ⟨.hbm, 564, rfl⟩
abbrev main_v519 : Ref sig .tc := ⟨.hbm, 565, rfl⟩
abbrev main_v520 : Ref sig .tc := ⟨.hbm, 566, rfl⟩
abbrev main_v521 : Ref sig .tc := ⟨.hbm, 567, rfl⟩
abbrev main_v522 : Ref sig .tc := ⟨.hbm, 568, rfl⟩
abbrev main_v523 : Ref sig .tc := ⟨.hbm, 569, rfl⟩
abbrev main_v524 : Ref sig .tc := ⟨.hbm, 570, rfl⟩
abbrev main_v525 : Ref sig .tc := ⟨.hbm, 571, rfl⟩
abbrev main_v526 : Ref sig .tc := ⟨.hbm, 572, rfl⟩
abbrev main_v527 : Ref sig .tc := ⟨.hbm, 573, rfl⟩
abbrev main_v528 : Ref sig .tc := ⟨.hbm, 574, rfl⟩
abbrev main_v529 : Ref sig .tc := ⟨.hbm, 575, rfl⟩
abbrev main_v530 : Ref sig .tc := ⟨.hbm, 576, rfl⟩
abbrev main_v531 : Ref sig .tc := ⟨.hbm, 577, rfl⟩
abbrev main_v532 : Ref sig .tc := ⟨.hbm, 578, rfl⟩
abbrev main_v533 : Ref sig .tc := ⟨.hbm, 579, rfl⟩
abbrev main_v534 : Ref sig .tc := ⟨.hbm, 580, rfl⟩
abbrev main_v535 : Ref sig .tc := ⟨.hbm, 581, rfl⟩
abbrev main_v536 : Ref sig .tc := ⟨.hbm, 582, rfl⟩
abbrev main_v537 : Ref sig .tc := ⟨.hbm, 583, rfl⟩
abbrev main_v538 : Ref sig .tc := ⟨.hbm, 584, rfl⟩
abbrev main_v539 : Ref sig .tc := ⟨.hbm, 585, rfl⟩
abbrev main_v540 : Ref sig .tc := ⟨.hbm, 586, rfl⟩
abbrev main_v541 : Ref sig .tc := ⟨.hbm, 587, rfl⟩
abbrev main_v542 : Ref sig .tc := ⟨.hbm, 588, rfl⟩
abbrev main_v543 : Ref sig .tc := ⟨.hbm, 589, rfl⟩
abbrev main_v544 : Ref sig .tc := ⟨.hbm, 590, rfl⟩
abbrev main_v545 : Ref sig .tc := ⟨.hbm, 591, rfl⟩
abbrev main_v546 : Ref sig .tc := ⟨.hbm, 592, rfl⟩
abbrev main_v547 : Ref sig .tc := ⟨.hbm, 593, rfl⟩
abbrev main_v548 : Ref sig .tc := ⟨.hbm, 594, rfl⟩
abbrev main_v549 : Ref sig .tc := ⟨.hbm, 595, rfl⟩

abbrev nD : Nat := 1
abbrev τ : Topo := Topo.v7x

variable {F : FTy → Type} [FloatOps F]
-- ==== Proof.RealKit.lean ====
/- Extended reals that are real numbers: the operations of the ideal model carry real operands to real results, and the
   constants of the step are real numbers. After these rewritings both sides of a value claim are equations between reals. -/
module

public import Idealize.ShloMosaic.Lib.Pointwise
public import Idealize.ShloMosaic.PureOps.Ideal.Laws
public import Mathlib.Tactic.FieldSimp
public import Mathlib.Tactic.Positivity
public import Mathlib.Tactic.LinearCombination

@[expose] public section

noncomputable section

open Idealize.ShloMosaic

namespace Cert.RealKit

/-! ## Operations on real operands -/

theorem add_coe (a b : ℝ) : (a : EReal) + b = ((a + b : ℝ) : EReal) := (EReal.coe_add a b).symm
theorem sub_coe (a b : ℝ) : (a : EReal) - b = ((a - b : ℝ) : EReal) := (EReal.coe_sub a b).symm
theorem mul_coe (a b : ℝ) : (a : EReal) * b = ((a * b : ℝ) : EReal) := (EReal.coe_mul a b).symm
theorem neg_coe (a : ℝ) : -(a : EReal) = ((-a : ℝ) : EReal) := (EReal.coe_neg a).symm

theorem div_coe (a b : ℝ) (h : b ≠ 0) : Ideal.div (a : EReal) b = ((a / b : ℝ) : EReal) := by
  rw [Ideal.div_coe h, mul_coe, one_div, div_eq_mul_inv]

theorem sum_coe {ι : Type} [Fintype ι] (f : ι → ℝ) : ∑ k, ((f k : ℝ) : EReal) = ((∑ k, f k : ℝ) : EReal) := by
  classical
  refine Finset.induction_on (motive := fun s => ∑ k ∈ s, ((f k : ℝ) : EReal) = ((∑ k ∈ s, f k : ℝ) : EReal)) _ (by simp) ?_
  intro a s ha ih
  rw [Finset.sum_insert ha, Finset.sum_insert ha, ih, add_coe]

theorem rsqrt_coe (a : ℝ) (h : 0 < a) : Ideal.rsqrt (a : EReal) = (((Real.sqrt a)⁻¹ : ℝ) : EReal) := by
  rw [Ideal.rsqrt_coe, if_neg (not_lt.mpr h.le), if_neg h.ne']

theorem max_coe (a b : ℝ) : max (a : EReal) b = ((max a b : ℝ) : EReal) := by
  rcases le_total a b with h | h
  · rw [max_eq_right h, max_eq_right (EReal.coe_le_coe_iff.mpr h)]
  · rw [max_eq_left h, max_eq_left (EReal.coe_le_coe_iff.mpr h)]

/-! ## Finite arguments -/

theorem cInf : Ideal.ofBits .f32 0x7F800000#32 = ⊤ := by simp [Ideal.ofBits, Ideal.ieee]
theorem cInf16 : Ideal.ofBits .bf16 0x7F80#16 = ⊤ := by simp [Ideal.ofBits, Ideal.ieee]

/-- What the preconditions say of one element: its absolute value is below the infinity. -/
theorem exists_real {x : EReal} (h : Ideal.cmp .olt (max x (-x)) ⊤ = 1#1) : ∃ a : ℝ, x = a := by
  induction x with
  | bot => simp [Ideal.cmp] at h
  | top => simp [Ideal.cmp] at h
  | coe a => exact ⟨a, rfl⟩

/-- An array whose mask of finite elements is all ones is the array of its real values. -/
theorem exists_reals {S : Shape} {φ : FTy} (x inf : FVec Ideal S φ) (hinf : ∀ i, inf i = (⊤ : EReal))
    (h : cmpf .olt (Host.absf x) inf = fun _ => 1#1) : ∃ a : S.Idx → ℝ, ∀ i, x i = ((a i : ℝ) : EReal) := by
  have e : ∀ i, ∃ a : ℝ, (x i : EReal) = a := fun i => exists_real (by
    rw [← hinf i]; exact congrFun h i)
  exact ⟨fun i => (e i).choose, fun i => (e i).choose_spec⟩

/-! ## Sums over blocks of rows -/

/-- A sum over all rows is the sum over the blocks of the sums over a block's rows. -/
theorem sum_rows {A : Type*} [AddCommMonoid A] {N n M : ℕ} (row : Fin N → Fin n → Fin M) (hrow : ∀ t a, (row t a).val = t.val * n + a.val) (hM : N * n = M)
    (f : Fin M → A) : ∑ t, ∑ a, f (row t a) = ∑ r, f r := by
  subst hM
  rw [← Fintype.sum_prod_type']
  refine Fintype.sum_equiv finProdFinEquiv _ _ fun x => ?_
  congr 1
  apply Fin.ext
  rw [hrow, finProdFinEquiv_apply_val]
  ring

/-! ## Constants -/

theorem c0 : Ideal.ofBits .f32 0x00000000#32 = ((0 : ℝ) : EReal) := by simp [Ideal.ofBits, Ideal.ieee]
theorem c1 : Ideal.ofBits .f32 0x3F800000#32 = ((1 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cNegHalf : Ideal.ofBits .f32 0xBF000000#32 = ((-1 / 2 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c8 : Ideal.ofBits .f32 0x3E000000#32 = ((1 / 8 : ℝ) : EReal) := by
  simp [Ideal.ofBits, Ideal.ieee, -EReal.coe_mul]; norm_num
theorem c1024 : Ideal.ofBits .f32 0x44800000#32 = ((1024 : ℝ) : EReal) := by
  simp [Ideal.ofBits, Ideal.ieee, -EReal.coe_mul]; norm_num
theorem cInv1024 : Ideal.ofBits .f32 0x3A800000#32 = ((1 / 1024 : ℝ) : EReal) := by
  simp [Ideal.ofBits, Ideal.ieee, -EReal.coe_mul]; norm_num

/-- The small number under the norms' roots, as its binary32 word says it. -/
def eps : ℝ := 8796093 / 8796093022208

theorem eps_pos : 0 < eps := by unfold eps; norm_num

theorem cEps : Ideal.ofBits .f32 0x358637BD#32 = ((eps : ℝ) : EReal) := by
  simp [Ideal.ofBits, Ideal.ieee, -EReal.coe_mul, eps]; norm_num

/-! ## The root mean square norm and its gradient -/

variable {ι : Type} [Fintype ι]

/-- The mean square of a row of `n` numbers, with the small number added. -/
def msq (n : ℝ) (x : ι → ℝ) : ℝ := (∑ k, x k * x k) / n + eps

/-- The reciprocal root mean square of a row. -/
def rms (n : ℝ) (x : ι → ℝ) : ℝ := (Real.sqrt (msq n x))⁻¹

theorem msq_pos {n : ℝ} (hn : 0 < n) (x : ι → ℝ) : 0 < msq n x :=
  add_pos_of_nonneg_of_pos (div_nonneg (Finset.sum_nonneg fun k _ => mul_self_nonneg _) hn.le) eps_pos

theorem rms_mul_self {n : ℝ} (hn : 0 < n) (x : ι → ℝ) : rms n x * rms n x = (msq n x)⁻¹ := by
  unfold rms
  rw [← mul_inv, Real.mul_self_sqrt (msq_pos hn x).le]

/-- The projected form of the norm's gradient along `d`. -/
def normBack (n : ℝ) (x d : ι → ℝ) (l : ι) : ℝ := rms n x * (d l - x l * rms n x * ((∑ k, d k * (x k * rms n x)) / n))

/-- The gradient of `x ↦ x / rms x` along `d`, as the two halves of the square's derivative give it, is the projected form. -/
theorem norm_back {n : ℝ} (hn : 0 < n) (x d : ι → ℝ) (l : ι) :
    d l * rms n x + x l * ((∑ k, x k * d k) * (-1 / 2 * (rms n x / msq n x)) / n) + (∑ k, x k * d k) * (-1 / 2 * (rms n x / msq n x)) / n * x l
    = rms n x * (d l - x l * rms n x * ((∑ k, d k * (x k * rms n x)) / n)) := by
  have h1 : ∑ k, d k * (x k * rms n x) = (∑ k, x k * d k) * rms n x := by
    rw [Finset.sum_mul]; exact Finset.sum_congr rfl fun k _ => by ring
  have h2 := rms_mul_self hn x
  rw [h1, div_eq_mul_inv (rms n x) (msq n x), ← h2]
  ring

end Cert.RealKit

end
-- ==== Proof.LossMath.lean ====
/- The real functions that the loss head's kernel and its reference both compute: the final norm's output against the target,
   the loss, and the gradients with respect to the rows and to the gain. -/
module

public import proofs.«01_k».proof.Proof.RealKit

@[expose] public section

noncomputable section

namespace Cert.LossMath

open Cert.RealKit

variable (X T : Fin 16384 → Fin 1024 → ℝ) (g : Fin 1024 → ℝ)

/-- The output's error at one element. -/
def err (r : Fin 16384) (l : Fin 1024) : ℝ := X r l * rms 1024 (X r) * g l - T r l

/-- The loss's gradient with respect to the output. -/
def dy (r : Fin 16384) (l : Fin 1024) : ℝ := err X T g r l * (1 / 1024)

/-- The gradient with respect to the rows. -/
def dx (r : Fin 16384) (l : Fin 1024) : ℝ :=
  rms 1024 (X r) * (dy X T g r l * g l - X r l * rms 1024 (X r) * ((∑ k, dy X T g r k * g k * (X r k * rms 1024 (X r))) / 1024))

/-- One row's share of the gradient with respect to the gain. -/
def dgRow (r : Fin 16384) (l : Fin 1024) : ℝ := dy X T g r l * (X r l * rms 1024 (X r))

/-- One row's share of the loss. -/
def lossRow (r : Fin 16384) : ℝ := (∑ k, err X T g r k * err X T g r k) / 1024

end Cert.LossMath

end
-- ==== Proof.LossKernel.lean ====
/- What the loss head's kernel leaves in its three result arrays, at finite arguments. -/
module

public import proofs.«01_k».proof.Proof.LossMath
public import proofs.«01_k».proof.Proof.Gen.KernelLossIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossKernel

open Cert.KernelLossIdeal Cert.KernelLossIdeal.Gen Cert.RealKit Cert.LossMath

variable (m : (ℓ : Loc nD τ sig) → Buf (Elt Ideal) ℓ) (c : Dev nD)

theorem idx : ∀ t : Fin cfg0.N, (win0_0.index t = ![t.val, 0] ∧ win0_1.index t = ![0, 0] ∧ win0_2.index t = ![t.val, 0]
    ∧ win0_3.index t = ![t.val, 0] ∧ win0_4.index t = ![0, 0] ∧ win0_5.index t = ![0, 0]) ∧ t.val < 16 :=
  (by decide +kernel : ∀ t : Fin grid0.N, _)

/-- The row of the array at row `a` of point `t`'s block. -/
def row (t : Fin cfg0.N) (a : Fin 1024) : Fin 16384 := ⟨t.val * 1024 + a.val, by have := (idx t).2; omega⟩

theorem sum_points (f : Fin 16384 → ℝ) : ∑ t, ∑ a, f (row t a) = ∑ r, f r :=
  sum_rows row (fun _ _ => rfl) (by rw [show cfg0.N = 16 from N_0]) f

variable (X T : Fin 16384 → Fin 1024 → ℝ) (g : Fin 1024 → ℝ)

/-- The kernel's arguments are the real arrays `X`, `g` and `T`. -/
structure Args : Prop where
  x : ∀ r l, m ((c : Thread nD τ).loc main_arg0) (ix2 r l) = ((X r l : ℝ) : EReal)
  g : ∀ l, m ((c : Thread nD τ).loc main_arg1) (ix1 l) = ((g l : ℝ) : EReal)
  t : ∀ r l, m ((c : Thread nD τ).loc main_arg2) (ix2 r l) = ((T r l : ℝ) : EReal)

variable {m c X T g} (h : Args m c X T g)
include h

theorem blk0 (t : Fin cfg0.N) (a l : Fin 1024) : iblk m c 0 t (ix2 a l) = ((X (row t a) l : ℝ) : EReal) := by
  rw [← h.x]; blk_ext [iblk, V, idx t, row]

theorem blk1 (t : Fin cfg0.N) (z : Fin 1) (l : Fin 1024) : iblk m c 1 t (ix2 z l) = ((g l : ℝ) : EReal) := by
  rw [← h.g]; blk_simp [iblk, idx t]; entry_read; pointwise; blk_ext [idx t]

theorem blk2 (t : Fin cfg0.N) (a l : Fin 1024) : iblk m c 2 t (ix2 a l) = ((T (row t a) l : ℝ) : EReal) := by
  rw [← h.t]; blk_ext [iblk, V, idx t, row]

theorem pay5 (t : Fin cfg0.N) (a : Fin 1024) (z : Fin 1) :
    k0_pay5 (F := Ideal) (iblk m c 0 t) (ix2 a z) = ((rms 1024 (X (row t a)) : ℝ) : EReal) := by
  pointwise [k0_pay5]
  simp only [blk0 h, c1024, cEps, mul_coe, sum_coe]
  rw [div_coe _ _ (by norm_num), add_coe, ← msq, rsqrt_coe _ (msq_pos (by norm_num) _)]
  rfl

theorem pay6 (t : Fin cfg0.N) (a l : Fin 1024) :
    k0_pay6 (F := Ideal) (iblk m c 0 t) (ix2 a l) = ((X (row t a) l * rms 1024 (X (row t a)) : ℝ) : EReal) := by
  pointwise [k0_pay6]
  simp only [pay5 h, blk0 h, mul_coe]

theorem pay7 (t : Fin cfg0.N) (a l : Fin 1024) :
    k0_pay7 (F := Ideal) (iblk m c 0 t) (iblk m c 1 t) (iblk m c 2 t) (ix2 a l) = ((err X T g (row t a) l : ℝ) : EReal) := by
  pointwise [k0_pay7]
  simp only [pay6 h, blk1 h, blk2 h, mul_coe, sub_coe]
  rfl

theorem pay9 (t : Fin cfg0.N) (a l : Fin 1024) :
    k0_pay9 (F := Ideal) (iblk m c 0 t) (iblk m c 1 t) (iblk m c 2 t) (ix2 a l) = ((dy X T g (row t a) l : ℝ) : EReal) := by
  pointwise [k0_pay9]
  simp only [pay7 h, cInv1024, mul_coe]
  rfl

theorem pay2 (t : Fin cfg0.N) (a l : Fin 1024) :
    k0_pay2 (F := Ideal) (k0_pay5 (iblk m c 0 t)) (k0_pay6 (iblk m c 0 t)) (k0_pay9 (iblk m c 0 t) (iblk m c 1 t) (iblk m c 2 t))
      (iblk m c 1 t) (ix2 a l) = ((dx X T g (row t a) l : ℝ) : EReal) := by
  pointwise [k0_pay2]
  simp only [pay5 h, pay6 h, pay9 h, blk1 h, c1024, mul_coe, sum_coe]
  rw [div_coe _ _ (by norm_num), mul_coe, sub_coe, mul_coe]
  rfl

/-- The rows' gradient. -/
theorem final3 : (dats m 0 c).arrAt 3 (cfgs 0).N = fun i => ((dx X T g (i 0) (i 1) : ℝ) : EReal) := by
  refine (dats m 0 c).arrAt_eq_of_covers 3 _ (by decide +kernel) fun t _ y => ?_
  blk_simp
  rw [after0_3]
  have hp : (outsAt0 m c t.val t.isLt).1 = k0_pay2 (k0_pay5 (iblk m c 0 t)) (k0_pay6 (iblk m c 0 t))
      (k0_pay9 (iblk m c 0 t) (iblk m c 1 t) (iblk m c 2 t)) (iblk m c 1 t) := by
    by_cases h0 : t.val % 16 = 0
    · rw [outsAt0_A m c t h0]; frame_out
    · rw [outsAt0_B m c t h0]; frame_out
  rw [hp]
  idx_vars y
  refine (pay2 h t y0 y1).trans ?_
  rw [show (((View.whole main_v1_0).slice (win0_3.rect t)).emb (ix2 y0 y1) : S16384x1024.Idx) = ix2 (row t y0) y1 by
    blk_ext [idx t, row]]
  rfl

/-- What a point adds to the gain's gradient. -/
theorem pay1 (t : Fin cfg0.N) (acc : FVec Ideal S1x1024 .f32) (j : S1x1024.Idx) :
    k0_pay1 (F := Ideal) (k0_pay6 (iblk m c 0 t)) (k0_pay9 (iblk m c 0 t) (iblk m c 1 t) (iblk m c 2 t)) acc j
      = acc j + ((∑ a, dgRow X T g (row t a) (j 1) : ℝ) : EReal) := by
  idx_vars j
  pointwise [k0_pay1]
  simp only [pay6 h, pay9 h, mul_coe, sum_coe]
  rfl

/-- What a point adds to the loss. -/
theorem pay8 (t : Fin cfg0.N) (acc : FVec Ideal S8x128 .f32) (j : S8x128.Idx) :
    k0_pay8 (F := Ideal) (iblk m c 0 t) (iblk m c 1 t) (iblk m c 2 t) acc j
      = acc j + ((∑ a, 1 / 2 * lossRow X T g (row t a) : ℝ) : EReal) := by
  idx_vars j
  pointwise [k0_pay8]
  simp only [pay7 h, cHalf, c1024, mul_coe, sum_coe, div_coe _ _ (show (1024 : ℝ) ≠ 0 by norm_num), Finset.mul_sum,
    Finset.univ_unique, Finset.sum_singleton]
  rfl

/-- The gain's gradient. -/
theorem final4 : (dats m 0 c).arrAt 4 (cfgs 0).N = fun i => ((∑ r, dgRow X T g r (i 1) : ℝ) : EReal) := by
  refine (dats m 0 c).arrAt_eq_of_after_last 4 t0_15 (by decide +kernel) _ fun j => ?_
  blk_simp
  rw [after0_4, Pipeline.eq_sum_fin_of_reset_step_apply_last (fun n h => (outsAt0 m c n h).2.1) 16 (fun _ => 0)
    (fun t j => ((∑ a, dgRow X T g (row t a) (j 1) : ℝ) : EReal))
    (fun t h0 j => by rw [outsAt0_A m c t h0]; frame_out; rw [pay1 h]; congr 1; pointwise [k0_pay3])
    (fun t h0 j => by rw [outsAt0_B m c t h0]; frame_out; rw [pay1 h])
    (le_of_eq N_0) t0_15 rfl _, zero_add, sum_coe]
  exact congrArg _ (sum_points fun r => dgRow X T g r (j 1))

/-- The loss, in every element of its block. -/
theorem final5 : (dats m 0 c).arrAt 5 (cfgs 0).N = fun _ => ((∑ r, 1 / 2 * lossRow X T g r : ℝ) : EReal) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0)
    (fun t _ => ((∑ a, 1 / 2 * lossRow X T g (row t a) : ℝ) : EReal))
    (fun t h0 j => by rw [outsAt0_A m c t h0]; frame_out; rw [pay8 h]; congr 1; pointwise [k0_pay4])
    (fun t h0 j => by rw [outsAt0_B m c t h0]; frame_out; rw [pay8 h])
    (le_of_eq N_0) t0_15 rfl _, zero_add, sum_coe]
  exact congrArg _ (sum_points fun r => 1 / 2 * lossRow X T g r)

end Cert.LossKernel
-- ==== Proof.LossRef.lean ====
/- What the loss head's reference computes, at finite arguments: the differentiated norm and loss, read operation by operation. -/
module

public import proofs.«01_k».proof.Proof.LossMath
public import proofs.«01_k».proof.Proof.Gen.ReferenceLossIdeal.Read
public import Idealize.ShloMosaic.Lib.Claim

@[expose] public section

set_option maxRecDepth 16384

noncomputable section

open Idealize.ShloMosaic Idealize.SL.Sem

namespace Cert.LossRef

open Cert.ReferenceLossIdeal Cert.ReferenceLossIdeal.Gen Cert.ReferenceLossIdeal.Read Cert.RealKit Cert.LossMath

variable {x0 x2 : (⟨S16384x1024, .f32⟩ : BufTy).Contents (Elt Ideal)} {x1 : (⟨S1024, .f32⟩ : BufTy).Contents (Elt Ideal)}
variable {X T : Fin 16384 → Fin 1024 → ℝ} {g : Fin 1024 → ℝ}
variable (hX : ∀ r l, x0 (ix2 r l) = ((X r l : ℝ) : EReal)) (hg : ∀ l, x1 (ix1 l) = ((g l : ℝ) : EReal))
  (hT : ∀ r l, x2 (ix2 r l) = ((T r l : ℝ) : EReal))

include hX in
theorem v6 (r : Fin 16384) (z : Fin 1) : val_main_v6 (F := Ideal) x0 (ix2 r z) = ((msq 1024 (X r) : ℝ) : EReal) := by
  pointwise [val_main_v6, val_main_v5, val_main_v4, val_main_v3, val_main_v2, val_main_v1, val_main_v0, val_main_cst,
    val_main_cst_0, val_main_cst_1]
  simp only [hX, c1024, cEps, mul_coe, sum_coe]
  rw [div_coe _ _ (by norm_num), add_coe]
  rfl

include hX in
theorem v7 (r : Fin 16384) (z : Fin 1) : val_main_v7 (F := Ideal) x0 (ix2 r z) = ((rms 1024 (X r) : ℝ) : EReal) := by
  pointwise [val_main_v7]
  rw [v6 hX, rsqrt_coe _ (msq_pos (by norm_num) _)]
  rfl

include hX in
theorem v8 (r : Fin 16384) (z : Fin 1) :
    val_main_v8 (F := Ideal) x0 (ix2 r z) = ((rms 1024 (X r) / msq 1024 (X r) : ℝ) : EReal) := by
  pointwise [val_main_v8]
  rw [v6 hX, v7 hX, div_coe _ _ (msq_pos (by norm_num) _).ne']

include hX hg hT

theorem v16 (r : Fin 16384) (l : Fin 1024) : val_main_v16 (F := Ideal) x0 x1 x2 (ix2 r l) = ((err X T g r l : ℝ) : EReal) := by
  pointwise [val_main_v16, val_main_v15, val_main_v14, val_main_v13, val_main_v12, val_main_v11]
  simp only [hX, hg, hT, v7 hX, mul_coe, sub_coe]
  rfl

theorem v30 (r : Fin 16384) (l : Fin 1024) : val_main_v30 (F := Ideal) x0 x1 x2 (ix2 r l) = ((dy X T g r l : ℝ) : EReal) := by
  pointwise [val_main_v30, val_main_v29, val_main_v28, val_main_v27, val_main_v26, val_main_v25, val_main_v19, val_main_v18,
    val_main_cst_3, val_main_cst_8, val_main_cst_9, val_main_cst_10]
  simp only [v16 hX hg hT, cHalf, c1, c2, c1024, mul_coe, div_coe _ _ (show (1024 : ℝ) ≠ 0 by norm_num)]
  congr 1
  unfold dy
  ring

theorem v35 (r : Fin 16384) (l : Fin 1024) :
    val_main_v35 (F := Ideal) x0 x1 x2 (ix2 r l) = ((dy X T g r l * g l : ℝ) : EReal) := by
  pointwise [val_main_v35, val_main_v34, val_main_v13]
  simp only [v30 hX hg hT, hg, mul_coe]

/-- The rows' gradient. -/
theorem v50 (r : Fin 16384) (l : Fin 1024) : val_main_v50 (F := Ideal) x0 x1 x2 (ix2 r l) = ((dx X T g r l : ℝ) : EReal) := by
  pointwise [val_main_v50, val_main_v49, val_main_v48, val_main_v47, val_main_v46, val_main_v45, val_main_v44, val_main_v43,
    val_main_v42, val_main_v41, val_main_v40, val_main_v39, val_main_v38, val_main_v37, val_main_v10, val_main_v9,
    val_main_cst_2, val_main_cst_13, val_main_cst_14, val_main_cst_15]
  simp only [Finset.univ_unique, Finset.sum_singleton, v35 hX hg hT, v7 hX, v8 hX, hX, cNegHalf, c1024, mul_coe, sum_coe,
    div_coe _ _ (show (1024 : ℝ) ≠ 0 by norm_num), add_coe]
  congr 1
  exact norm_back (by norm_num) (X r) (fun k => dy X T g r k * g k) l

/-- The gain's gradient. -/
theorem v51 (z : Fin 1) (l : Fin 1024) :
    val_main_v51 (F := Ideal) x0 x1 x2 (ix2 z l) = ((∑ r, dgRow X T g r l : ℝ) : EReal) := by
  pointwise [val_main_v51, val_main_v36, val_main_v33, val_main_v32, val_main_v31, val_main_v12, val_main_v11, val_main_cst_11,
    val_main_cst_12]
  simp only [Finset.univ_unique, Finset.sum_singleton, hX, v7 hX, v30 hX hg hT, mul_coe, sum_coe]
  exact congrArg _ (Finset.sum_congr rfl fun r _ => mul_comm _ _)

/-- The loss. -/
theorem v52 (a : Fin 8) (b : Fin 128) :
    val_main_v52 (F := Ideal) x0 x1 x2 (ix2 a b) = ((∑ r, 1 / 2 * lossRow X T g r : ℝ) : EReal) := by
  pointwise [val_main_v52, val_main_v24, val_main_v23, val_main_v22, val_main_v21, val_main_v20, val_main_v17, val_main_cst_4,
    val_main_cst_5, val_main_cst_6, val_main_cst_7]
  simp only [v16 hX hg hT, cHalf, c1024, mul_coe, sum_coe, div_coe _ _ (show (1024 : ℝ) ≠ 0 by norm_num), Finset.mul_sum]
  rfl

end Cert.LossRef
-- ==== Proof.LossClaim.lean ====
/- The loss head's claims: both programs' frames, and that the kernel's three results are the reference's at finite arguments. -/
module

public import proofs.«01_k».proof.Defs
public import proofs.«01_k».proof.Proof.LossKernel
public import proofs.«01_k».proof.Proof.LossRef
public import proofs.«01_k».proof.Proof.Gen.KernelLoss.Frame
public import proofs.«01_k».proof.Proof.Gen.Pre_finite_loss

@[expose] public section

set_option maxRecDepth 16384

noncomputable section

open Idealize.ShloMosaic Idealize.ShloMosaic.TcCoe Idealize.SL.Sem

namespace Cert.LossClaim

open Cert.RealKit

/-- Finite arguments are real arrays. -/
theorem args {m : (ℓ : Loc Cert.KernelLossIdeal.nD Cert.KernelLossIdeal.τ Cert.KernelLossIdeal.sig) → Buf (Elt Ideal) ℓ}
    (h : Pre_KernelLossIdeal_finite_loss m) (c : Dev Cert.KernelLossIdeal.nD) :
    ∃ (X T : Fin 16384 → Fin 1024 → ℝ) (g : Fin 1024 → ℝ), Cert.LossKernel.Args m c X T g := by
  obtain ⟨h0, h1, h2⟩ := h c
  obtain ⟨X, hX⟩ := exists_reals _ _ (fun _ => cInf) h0
  obtain ⟨g, hg⟩ := exists_reals _ _ (fun _ => cInf) h1
  obtain ⟨T, hT⟩ := exists_reals _ _ (fun _ => cInf) h2
  exact ⟨fun r l => X (ix2 r l), fun r l => T (ix2 r l), fun l => g (ix1 l), fun _ _ => hX _, fun _ => hg _, fun _ _ => hT _⟩

theorem kernel : quiescent_KernelLoss := fun m g _ => Cert.KernelLoss.Gen.frame m g
theorem kernelIdeal : quiescent_KernelLossIdeal := fun m g _ => Cert.KernelLossIdeal.Gen.frame m g
theorem kernelIdeal_pre : quiescent_KernelLossIdeal_pre_finite_loss := fun m g _ => Cert.KernelLossIdeal.Gen.frame m g
theorem reference : quiescent_ReferenceLossIdeal := fun m g _ =>
  (θ_run Cert.ReferenceLossIdeal.defs _ _).mono (fun r h => ⟨fun c => (h c).2.2.2, sem_eq_zero_of_no_sems rfl _⟩)
    (Cert.ReferenceLossIdeal.Value.run m g)
theorem reference_pre : quiescent_ReferenceLossIdeal_pre_finite_loss := fun m g _ => reference m g trivial

theorem algebraic : algebraic_KernelLossIdeal_ReferenceLossIdeal_pre_finite_loss := by
  intro m g m' g' hpre hagree
  refine ⟨_, _, _, Cert.KernelLossIdeal.Value.run_blocks m g,
    (θ_run Cert.ReferenceLossIdeal.defs _ _).mono (fun r h c => ?_) (Cert.ReferenceLossIdeal.Value.run m' g')⟩
  obtain ⟨X, T, gn, ha⟩ := args hpre c
  obtain ⟨e0, e1, e2⟩ := hagree c
  refine ⟨(h c).1.trans ?_, (h c).2.1.trans ?_, (h c).2.2.1.trans ?_, (h c).2.2.2⟩
  · rw [Cert.ReferenceLossIdeal.Read.val_main_v50_eq, e0, e1, e2]
    refine Eq.trans ?_ (Cert.LossKernel.final3 ha).symm
    funext i
    idx_vars i
    exact Cert.LossRef.v50 ha.x ha.g ha.t _ _
  · refine (Cert.ReferenceLossIdeal.Read.val_main_v51_eq _ _ _).trans ?_
    rw [e0, e1, e2]
    refine Eq.trans ?_ (Cert.LossKernel.final4 ha).symm
    funext i
    idx_vars i
    exact Cert.LossRef.v51 ha.x ha.g ha.t _ _
  · refine (Cert.ReferenceLossIdeal.Read.val_main_v52_eq _ _ _).trans ?_
    rw [e0, e1, e2]
    refine Eq.trans ?_ (Cert.LossKernel.final5 ha).symm
    funext i
    idx_vars i
    exact Cert.LossRef.v52 ha.x ha.g ha.t _ _

end Cert.LossClaim
-- ==== Proof.InpMath.lean ====
/- The real functions that the input projection's backward kernel and its reference both compute: the gradient that reaches the
   norm's output, and from it the gradients of the rows and of the gain. -/
module

public import proofs.«01_k».proof.Proof.RealKit

@[expose] public section

noncomputable section

namespace Cert.InpMath

open Cert.RealKit

variable (X D : Fin 16384 → Fin 1024 → ℝ) (g : Fin 1024 → ℝ) (W : Fin 1024 → Fin 2560 → ℝ) (Z : Fin 16384 → Fin 2560 → ℝ)

/-- The gradient at the norm's output. -/
def dh (r : Fin 16384) (l : Fin 1024) : ℝ := ∑ j, Z r j * W l j

/-- The gradient of the rows, the residual's own added. -/
def dx (r : Fin 16384) (l : Fin 1024) : ℝ := D r l + normBack 1024 (X r) (fun k => dh W Z r k * g k) l

/-- One row's share of the gain's gradient. -/
def dgRow (r : Fin 16384) (l : Fin 1024) : ℝ := dh W Z r l * (X r l * rms 1024 (X r))

end Cert.InpMath

end
-- ==== Proof.InpKernel.lean ====
/- What the input projection's backward kernel leaves in its two result arrays, at finite arguments. -/
module

public import proofs.«01_k».proof.Proof.InpMath
public import proofs.«01_k».proof.Proof.Gen.KernelInpIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InpKernel

open Cert.KernelInpIdeal Cert.KernelInpIdeal.Gen Cert.RealKit Cert.InpMath

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0])
    ∧ t.val < 16 :=
  (by decide +kernel : ∀ t : Fin grid0.N, _)

/-- The row of the array at row `a` of point `t`'s block. -/
def row (t : Fin cfg0.N) (a : Fin 1024) : Fin 16384 := ⟨t.val * 1024 + a.val, by have := (idx t).2; omega⟩

theorem sum_points (f : Fin 16384 → ℝ) : ∑ t, ∑ a, f (row t a) = ∑ r, f r :=
  sum_rows row (fun _ _ => rfl) (by rw [show cfg0.N = 16 from N_0]) f

variable (X D : Fin 16384 → Fin 1024 → ℝ) (g : Fin 1024 → ℝ) (W : Fin 1024 → Fin 2560 → ℝ) (Z : Fin 16384 → Fin 2560 → ℝ)

/-- The kernel's arguments are the real arrays `X`, `g`, `W`, `Z` and `D`. -/
structure Args : Prop where
  x : ∀ r l, m ((c : Thread nD τ).loc main_arg0) (ix2 r l) = ((X r l : ℝ) : EReal)
  g : ∀ l, m ((c : Thread nD τ).loc main_arg1) (ix1 l) = ((g l : ℝ) : EReal)
  w : ∀ l j, m ((c : Thread nD τ).loc main_arg2) (ix2 l j) = ((W l j : ℝ) : EReal)
  z : ∀ r j, m ((c : Thread nD τ).loc main_arg3) (ix2 r j) = ((Z r j : ℝ) : EReal)
  d : ∀ r l, m ((c : Thread nD τ).loc main_arg4) (ix2 r l) = ((D r l : ℝ) : EReal)

variable {m c X D g W Z} (h : Args m c X D g W Z)
include h

theorem blk0 (t : Fin cfg0.N) (a l : Fin 1024) : iblk m c 0 t (ix2 a l) = ((X (row t a) l : ℝ) : EReal) := by
  rw [← h.x]; blk_ext [iblk, V, idx t, row]

theorem blk1 (t : Fin cfg0.N) (a : Fin 1024) (j : Fin 2560) :
    iblk m c 1 t (ix2 a j) = ((Z (row t a) j : ℝ) : EReal) := by
  rw [← h.z]; blk_ext [iblk, V, idx t, row]

theorem blk2 (t : Fin cfg0.N) (a l : Fin 1024) : iblk m c 2 t (ix2 a l) = ((D (row t a) l : ℝ) : EReal) := by
  rw [← h.d]; blk_ext [iblk, V, idx t, row]

theorem blk3 (t : Fin cfg0.N) (z : Fin 1) (l : Fin 1024) : iblk m c 3 t (ix2 z l) = ((g l : ℝ) : EReal) := by
  rw [← h.g]; blk_simp [iblk, idx t]; entry_read; pointwise; blk_ext [idx t]

theorem blk4 (t : Fin cfg0.N) (j : Fin 2560) (l : Fin 1024) : iblk m c 4 t (ix2 j l) = ((W l j : ℝ) : EReal) := by
  rw [← h.w]; blk_simp [iblk, idx t]; entry_read; pointwise; blk_ext [idx t]

theorem pay3 (t : Fin cfg0.N) (a : Fin 1024) (z : Fin 1) :
    k0_pay3 (F := Ideal) (iblk m c 0 t) (ix2 a z) = ((rms 1024 (X (row t a)) : ℝ) : EReal) := by
  pointwise [k0_pay3]
  simp only [blk0 h, c1024, cEps, mul_coe, sum_coe]
  rw [div_coe _ _ (by norm_num), add_coe, ← msq, rsqrt_coe _ (msq_pos (by norm_num) _)]
  rfl

theorem pay4 (t : Fin cfg0.N) (a l : Fin 1024) :
    k0_pay4 (F := Ideal) (iblk m c 0 t) (ix2 a l) = ((X (row t a) l * rms 1024 (X (row t a)) : ℝ) : EReal) := by
  pointwise [k0_pay4]
  simp only [pay3 h, blk0 h, mul_coe]

theorem pay5 (t : Fin cfg0.N) (a l : Fin 1024) :
    k0_pay5 (F := Ideal) (iblk m c 1 t) (iblk m c 4 t) (ix2 a l) = ((dh W Z (row t a) l : ℝ) : EReal) := by
  pointwise [k0_pay5]
  simp only [blk1 h, blk4 h, mul_coe, sum_coe]
  rfl

theorem pay7 (t : Fin cfg0.N) (a l : Fin 1024) :
    k0_pay7 (F := Ideal) (iblk m c 1 t) (iblk m c 4 t) (iblk m c 3 t) (ix2 a l)
      = ((dh W Z (row t a) l * g l : ℝ) : EReal) := by
  pointwise [k0_pay7]
  simp only [pay5 h, blk3 h, mul_coe]

theorem pay1 (t : Fin cfg0.N) (a l : Fin 1024) :
    k0_pay1 (F := Ideal) (k0_pay3 (iblk m c 0 t)) (k0_pay4 (iblk m c 0 t)) (iblk m c 2 t)
      (k0_pay7 (iblk m c 1 t) (iblk m c 4 t) (iblk m c 3 t))
      (k0_pay8 (iblk m c 0 t) (iblk m c 1 t) (iblk m c 4 t) (iblk m c 3 t)) k0_pay9 (ix2 a l)
      = ((dx X D g W Z (row t a) l : ℝ) : EReal) := by
  pointwise [k0_pay1, k0_pay8, k0_pay9]
  simp only [pay3 h, pay4 h, pay7 h, blk2 h, c1024, mul_coe, sum_coe]
  rw [div_coe _ _ (by norm_num), mul_coe, sub_coe, mul_coe, add_coe]
  rfl

/-- The rows' gradient. -/
theorem final5 : (dats m 0 c).arrAt 5 (cfgs 0).N = fun i => ((dx X D g W Z (i 0) (i 1) : ℝ) : EReal) := by
  refine (dats m 0 c).arrAt_eq_of_covers 5 _ (by decide +kernel) fun t _ y => ?_
  blk_simp
  rw [after0_5]
  have hp : (outsAt0 m c t.val t.isLt).1 = k0_pay1 (F := Ideal) (k0_pay3 (iblk m c 0 t)) (k0_pay4 (iblk m c 0 t)) (iblk m c 2 t)
      (k0_pay7 (iblk m c 1 t) (iblk m c 4 t) (iblk m c 3 t))
      (k0_pay8 (iblk m c 0 t) (iblk m c 1 t) (iblk m c 4 t) (iblk m c 3 t)) k0_pay9 := by
    by_cases h0 : t.val % 16 = 0
    · rw [outsAt0_A m c t h0]; frame_out
    · rw [outsAt0_B m c t h0]; frame_out
  rw [hp]
  idx_vars y
  refine (pay1 h t y0 y1).trans ?_
  rw [show (((View.whole main_v3_0).slice (win0_5.rect t)).emb (ix2 y0 y1) : S16384x1024.Idx) = ix2 (row t y0) y1 by
    blk_ext [idx t, row]]
  rfl

/-- What a point adds to the gain's gradient. -/
theorem pay6 (t : Fin cfg0.N) (acc : FVec Ideal S1x1024 .f32) (j : S1x1024.Idx) :
    k0_pay6 (F := Ideal) (iblk m c 0 t) (iblk m c 1 t) (iblk m c 4 t) acc j
      = acc j + ((∑ a, dgRow X W Z (row t a) (j 1) : ℝ) : EReal) := by
  idx_vars j
  pointwise [k0_pay6]
  simp only [pay4 h, pay5 h, mul_coe, sum_coe]
  rfl

/-- The gain's gradient. -/
theorem final6 : (dats m 0 c).arrAt 6 (cfgs 0).N = fun i => ((∑ r, dgRow X W Z r (i 1) : ℝ) : EReal) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => ((∑ a, dgRow X W Z (row t a) (j 1) : ℝ) : EReal))
    (fun t h0 j => by rw [outsAt0_A m c t h0]; frame_out; rw [pay6 h]; congr 1; pointwise [k0_pay2])
    (fun t h0 j => by rw [outsAt0_B m c t h0]; frame_out; rw [pay6 h])
    (le_of_eq N_0) t0_15 rfl _, zero_add, sum_coe]
  exact congrArg _ (sum_points fun r => dgRow X W Z r (j 1))

end Cert.InpKernel
-- ==== Proof.InpRef.lean ====
/- What the input projection's reference computes, at finite arguments: the differentiated norm and product, read operation by
   operation. -/
module

public import proofs.«01_k».proof.Proof.InpMath
public import proofs.«01_k».proof.Proof.Gen.ReferenceInpIdeal.Read
public import Idealize.ShloMosaic.Lib.Claim

@[expose] public section

set_option maxRecDepth 16384

noncomputable section

open Idealize.ShloMosaic Idealize.SL.Sem

namespace Cert.InpRef

open Cert.ReferenceInpIdeal Cert.ReferenceInpIdeal.Gen Cert.ReferenceInpIdeal.Read Cert.RealKit Cert.InpMath

variable {x0 x4 : (⟨S16384x1024, .f32⟩ : BufTy).Contents (Elt Ideal)} {x1 : (⟨S1024, .f32⟩ : BufTy).Contents (Elt Ideal)}
variable {x2 : (⟨S1024x2560, .f32⟩ : BufTy).Contents (Elt Ideal)} {x3 : (⟨S16384x2560, .bf16⟩ : BufTy).Contents (Elt Ideal)}
variable {X D : Fin 16384 → Fin 1024 → ℝ} {g : Fin 1024 → ℝ} {W : Fin 1024 → Fin 2560 → ℝ} {Z : Fin 16384 → Fin 2560 → ℝ}
variable (hX : ∀ r l, x0 (ix2 r l) = ((X r l : ℝ) : EReal)) (hg : ∀ l, x1 (ix1 l) = ((g l : ℝ) : EReal))
  (hW : ∀ l j, x2 (ix2 l j) = ((W l j : ℝ) : EReal)) (hZ : ∀ r j, x3 (ix2 r j) = ((Z r j : ℝ) : EReal))
  (hD : ∀ r l, x4 (ix2 r l) = ((D r l : ℝ) : EReal))

include hX in
theorem v6 (r : Fin 16384) (z : Fin 1) : val_main_v6 (F := Ideal) x0 (ix2 r z) = ((msq 1024 (X r) : ℝ) : EReal) := by
  pointwise [val_main_v6, val_main_v5, val_main_v4, val_main_v3, val_main_v2, val_main_v1, val_main_v0, val_main_cst,
    val_main_cst_0, val_main_cst_1]
  simp only [hX, c1024, cEps, mul_coe, sum_coe]
  rw [div_coe _ _ (by norm_num), add_coe]
  rfl

include hX in
theorem v7 (r : Fin 16384) (z : Fin 1) : val_main_v7 (F := Ideal) x0 (ix2 r z) = ((rms 1024 (X r) : ℝ) : EReal) := by
  pointwise [val_main_v7]
  rw [v6 hX, rsqrt_coe _ (msq_pos (by norm_num) _)]
  rfl

include hX in
theorem v8 (r : Fin 16384) (z : Fin 1) :
    val_main_v8 (F := Ideal) x0 (ix2 r z) = ((rms 1024 (X r) / msq 1024 (X r) : ℝ) : EReal) := by
  pointwise [val_main_v8]
  rw [v6 hX, v7 hX, div_coe _ _ (msq_pos (by norm_num) _).ne']

include hW hZ in
theorem v18 (r : Fin 16384) (l : Fin 1024) : val_main_v18 (F := Ideal) x2 x3 (ix2 r l) = ((dh W Z r l : ℝ) : EReal) := by
  pointwise [val_main_v18, val_main_v17]
  simp only [hW, hZ, mul_coe, sum_coe]
  rfl

include hg hW hZ in
theorem v23 (r : Fin 16384) (l : Fin 1024) :
    val_main_v23 (F := Ideal) x1 x2 x3 (ix2 r l) = ((dh W Z r l * g l : ℝ) : EReal) := by
  pointwise [val_main_v23, val_main_v22, val_main_v13]
  simp only [v18 hW hZ, hg, mul_coe]

include hX hg hW hZ hD in
/-- The rows' gradient. -/
theorem v39 (r : Fin 16384) (l : Fin 1024) :
    val_main_v39 (F := Ideal) x0 x1 x2 x3 x4 (ix2 r l) = ((dx X D g W Z r l : ℝ) : EReal) := by
  pointwise [val_main_v39, val_main_v38, val_main_v37, val_main_v36, val_main_v35, val_main_v34, val_main_v33, val_main_v32,
    val_main_v31, val_main_v30, val_main_v29, val_main_v28, val_main_v27, val_main_v26, val_main_v25, val_main_v10, val_main_v9,
    val_main_cst_2, val_main_cst_5, val_main_cst_6, val_main_cst_7]
  simp only [Finset.univ_unique, Finset.sum_singleton, v23 hg hW hZ, v7 hX, v8 hX, hX, hD, cNegHalf, c1024, mul_coe, sum_coe,
    div_coe _ _ (show (1024 : ℝ) ≠ 0 by norm_num), add_coe]
  congr 1
  have e := norm_back (n := 1024) (by norm_num) (X r) (fun k => dh W Z r k * g k) l
  unfold dx normBack
  linear_combination e

include hX hW hZ in
/-- The gain's gradient. -/
theorem v40 (z : Fin 1) (l : Fin 1024) :
    val_main_v40 (F := Ideal) x0 x2 x3 (ix2 z l) = ((∑ r, dgRow X W Z r l : ℝ) : EReal) := by
  pointwise [val_main_v40, val_main_v24, val_main_v21, val_main_v20, val_main_v19, val_main_v12, val_main_v11, val_main_cst_3,
    val_main_cst_4]
  simp only [Finset.univ_unique, Finset.sum_singleton, hX, v7 hX, v18 hW hZ, mul_coe, sum_coe]
  exact congrArg _ (Finset.sum_congr rfl fun r _ => mul_comm _ _)

end Cert.InpRef
-- ==== Proof.InpClaim.lean ====
/- The input projection's claims: both programs' frames, and that the kernel's two results are the reference's at finite
   arguments. -/
module

public import proofs.«01_k».proof.Defs
public import proofs.«01_k».proof.Proof.InpKernel
public import proofs.«01_k».proof.Proof.InpRef
public import proofs.«01_k».proof.Proof.Gen.KernelInp.Frame
public import proofs.«01_k».proof.Proof.Gen.Pre_finite_inp

@[expose] public section

set_option maxRecDepth 16384

noncomputable section

open Idealize.ShloMosaic Idealize.ShloMosaic.TcCoe Idealize.SL.Sem

namespace Cert.InpClaim

open Cert.RealKit

/-- Finite arguments are real arrays. -/
theorem args {m : (ℓ : Loc Cert.KernelInpIdeal.nD Cert.KernelInpIdeal.τ Cert.KernelInpIdeal.sig) → Buf (Elt Ideal) ℓ}
    (h : Pre_KernelInpIdeal_finite_inp m) (c : Dev Cert.KernelInpIdeal.nD) : ∃ (X D : Fin 16384 → Fin 1024 → ℝ)
      (g : Fin 1024 → ℝ) (W : Fin 1024 → Fin 2560 → ℝ) (Z : Fin 16384 → Fin 2560 → ℝ), Cert.InpKernel.Args m c X D g W Z := by
  obtain ⟨h0, h1, h2, h3, h4⟩ := h c
  obtain ⟨X, hX⟩ := exists_reals _ _ (fun _ => cInf) h0
  obtain ⟨g, hg⟩ := exists_reals _ _ (fun _ => cInf) h1
  obtain ⟨W, hW⟩ := exists_reals _ _ (fun _ => cInf) h2
  obtain ⟨Z, hZ⟩ := exists_reals _ _ (fun _ => cInf16) h3
  obtain ⟨D, hD⟩ := exists_reals _ _ (fun _ => cInf) h4
  exact ⟨fun r l => X (ix2 r l), fun r l => D (ix2 r l), fun l => g (ix1 l), fun l j => W (ix2 l j), fun r j => Z (ix2 r j),
    fun _ _ => hX _, fun _ => hg _, fun _ _ => hW _, fun _ _ => hZ _, fun _ _ => hD _⟩

theorem kernel : quiescent_KernelInp := fun m g _ => Cert.KernelInp.Gen.frame m g
theorem kernelIdeal : quiescent_KernelInpIdeal := fun m g _ => Cert.KernelInpIdeal.Gen.frame m g
theorem kernelIdeal_pre : quiescent_KernelInpIdeal_pre_finite_inp := fun m g _ => Cert.KernelInpIdeal.Gen.frame m g
theorem reference : quiescent_ReferenceInpIdeal := fun m g _ =>
  (θ_run Cert.ReferenceInpIdeal.defs _ _).mono (fun r h => ⟨fun c => (h c).2.2, sem_eq_zero_of_no_sems rfl _⟩)
    (Cert.ReferenceInpIdeal.Value.run m g)
theorem reference_pre : quiescent_ReferenceInpIdeal_pre_finite_inp := fun m g _ => reference m g trivial

theorem algebraic : algebraic_KernelInpIdeal_ReferenceInpIdeal_pre_finite_inp := by
  intro m g m' g' hpre hagree
  refine ⟨_, _, Cert.KernelInpIdeal.Value.run_blocks m g,
    (θ_run Cert.ReferenceInpIdeal.defs _ _).mono (fun r h c => ?_) (Cert.ReferenceInpIdeal.Value.run m' g')⟩
  obtain ⟨X, D, gn, W, Z, ha⟩ := args hpre c
  obtain ⟨e0, e1, e2, e3, e4⟩ := hagree c
  refine ⟨(h c).1.trans ?_, (h c).2.1.trans ?_, (h c).2.2⟩
  · rw [Cert.ReferenceInpIdeal.Read.val_main_v39_eq, e0, e1, e2, e3, e4]
    refine Eq.trans ?_ (Cert.InpKernel.final5 ha).symm
    funext i
    idx_vars i
    exact Cert.InpRef.v39 ha.x ha.g ha.w ha.z ha.d _ _
  · refine (Cert.ReferenceInpIdeal.Read.val_main_v40_eq _ _ _).trans ?_
    rw [e0, e2, e3]
    refine Eq.trans ?_ (Cert.InpKernel.final6 ha).symm
    funext i
    idx_vars i
    exact Cert.InpRef.v40 ha.x ha.w ha.z _ _

end Cert.InpClaim
-- ==== Proof.FfnMath.lean ====
/- The real functions that the feed-forward block's backward kernel and its reference both compute: the squared ReLU's gradient,
   and behind the product with the first weight the norm's. -/
module

public import proofs.«01_k».proof.Proof.RealKit

@[expose] public section

noncomputable section

namespace Cert.FfnMath

open Cert.RealKit

variable (X C : Fin 16384 → Fin 1024 → ℝ) (g : Fin 1024 → ℝ) (U : Fin 1024 → Fin 4096 → ℝ) (W : Fin 4096 → Fin 1024 → ℝ)

/-- The norm's output. -/
def hn (r : Fin 16384) (l : Fin 1024) : ℝ := X r l * rms 1024 (X r) * g l

/-- The hidden layer before the ReLU. -/
def pre (r : Fin 16384) (f : Fin 4096) : ℝ := ∑ l, hn X g r l * U l f

/-- The gradient of the hidden layer before the ReLU. -/
def dpre (r : Fin 16384) (f : Fin 4096) : ℝ := (∑ k, C r k * W f k) * (2 * max (pre X g U r f) 0)

/-- The gradient at the norm's output. -/
def dh (r : Fin 16384) (l : Fin 1024) : ℝ := ∑ f, dpre X C g U W r f * U l f

/-- The gradient of the rows, the residual's own added. -/
def dx (r : Fin 16384) (l : Fin 1024) : ℝ := C r l + normBack 1024 (X r) (fun k => dh X C g U W r k * g k) l

/-- One row's share of the gain's gradient. -/
def dgRow (r : Fin 16384) (l : Fin 1024) : ℝ := dh X C g U W r l * (X r l * rms 1024 (X r))

end Cert.FfnMath

end
-- ==== Proof.FfnKernel.lean ====
/- What the feed-forward block's backward kernel leaves in its four result arrays, at finite arguments. -/
module

public import proofs.«01_k».proof.Proof.FfnMath
public import proofs.«01_k».proof.Proof.Gen.KernelFfnIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnKernel

open Cert.KernelFfnIdeal Cert.KernelFfnIdeal.Gen Cert.RealKit Cert.FfnMath

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0]
    ∧ win0_3.index t = ![0, 0] ∧ win0_4.index t = ![0, 0, 0] ∧ win0_5.index t = ![0, 0, 0] ∧ win0_6.index t = ![t.val, 0]
    ∧ win0_7.index t = ![t.val, 0] ∧ win0_8.index t = ![t.val, 0] ∧ win0_9.index t = ![0, 0]) ∧ t.val < 32 :=
  (by decide +kernel : ∀ t : Fin grid0.N, _)

/-- The row of the array at row `a` of point `t`'s block. -/
def row (t : Fin cfg0.N) (a : Fin 512) : Fin 16384 := ⟨t.val * 512 + a.val, by have := (idx t).2; omega⟩

/-- The hidden unit at place `j` of block `d`. -/
def unit (d : Fin 8) (j : Fin 512) : Fin 4096 := ⟨d.val * 512 + j.val, by omega⟩

theorem sum_points (f : Fin 16384 → ℝ) : ∑ t, ∑ a, f (row t a) = ∑ r, f r :=
  sum_rows row (fun _ _ => rfl) (by rw [show cfg0.N = 32 from N_0]) f

variable (X C : Fin 16384 → Fin 1024 → ℝ) (g : Fin 1024 → ℝ) (U : Fin 1024 → Fin 4096 → ℝ) (W : Fin 4096 → Fin 1024 → ℝ)

/-- The kernel's arguments are the real arrays `X`, `g`, `U`, `W` and `C`. -/
structure Args : Prop where
  x : ∀ r l, m ((c : Thread nD τ).loc main_arg0) (ix2 r l) = ((X r l : ℝ) : EReal)
  g : ∀ l, m ((c : Thread nD τ).loc main_arg1) (ix1 l) = ((g l : ℝ) : EReal)
  u : ∀ l f, m ((c : Thread nD τ).loc main_arg2) (ix2 l f) = ((U l f : ℝ) : EReal)
  w : ∀ f l, m ((c : Thread nD τ).loc main_arg3) (ix2 f l) = ((W f l : ℝ) : EReal)
  c : ∀ r l, m ((c : Thread nD τ).loc main_arg4) (ix2 r l) = ((C r l : ℝ) : EReal)

variable {m c X C g U W} (h : Args m c X C g U W)
include h

theorem blk0 (t : Fin cfg0.N) (a : Fin 512) (l : Fin 1024) : iblk m c 0 t (ix2 a l) = ((X (row t a) l : ℝ) : EReal) := by
  rw [← h.x]; blk_ext [iblk, V, idx t, row]

theorem blk2 (t : Fin cfg0.N) (a : Fin 512) (l : Fin 1024) : iblk m c 2 t (ix2 a l) = ((C (row t a) l : ℝ) : EReal) := by
  rw [← h.c]; blk_ext [iblk, V, idx t, row]

theorem blk3 (t : Fin cfg0.N) (z : Fin 1) (l : Fin 1024) : iblk m c 3 t (ix2 z l) = ((g l : ℝ) : EReal) := by
  rw [← h.g]; blk_simp [iblk, idx t]; simp only [V, hostOps0, hostOps0_1, hostOps0_2, List.flatten_cons, List.flatten_nil, List.cons_append,
    List.nil_append, List.append_nil]; entry_read; pointwise; blk_ext [idx t]

theorem blk4 (t : Fin cfg0.N) (d : Fin 8) (l : Fin 1024) (j : Fin 512) :
    iblk m c 4 t (ix3 d l j) = ((U l (unit d j) : ℝ) : EReal) := by
  rw [← h.u]; blk_simp [iblk, idx t]; simp only [V, hostOps0, hostOps0_1, hostOps0_2, List.flatten_cons, List.flatten_nil, List.cons_append,
    List.nil_append, List.append_nil]; entry_read; pointwise; blk_ext [idx t, unit]

theorem blk5 (t : Fin cfg0.N) (d : Fin 8) (j : Fin 512) (l : Fin 1024) :
    iblk m c 5 t (ix3 d j l) = ((W (unit d j) l : ℝ) : EReal) := by
  rw [← h.w]; blk_simp [iblk, idx t]; simp only [V, hostOps0, hostOps0_1, hostOps0_2, List.flatten_cons, List.flatten_nil, List.cons_append,
    List.nil_append, List.append_nil]; entry_read; pointwise; blk_ext [idx t, unit]

/-- The hidden layer the forward lines saved. -/
theorem vact (r : Fin 16384) (f : Fin 4096) : V m c main_v15 (ix2 r f) = ((max (pre X g U r f) 0 : ℝ) : EReal) := by
  have ex : ∀ r l, m (c, Proc.tc.devRef main_arg0) (ix2 r l) = ((X r l : ℝ) : EReal) := h.x
  have eg : ∀ l, m (c, Proc.tc.devRef main_arg1) (ix1 l) = ((g l : ℝ) : EReal) := h.g
  have eu : ∀ l f, m (c, Proc.tc.devRef main_arg2) (ix2 l f) = ((U l f : ℝ) : EReal) := h.u
  simp only [V, hostOps0, hostOps0_1, hostOps0_2, List.flatten_cons, List.flatten_nil, List.cons_append, List.nil_append, List.append_nil]
  entry_read
  simp only [StableHlo.TRef.ofBuf, StableHlo.TRef.toBuf, cast_cast, cast_eq]
  pointwise
  have er : Ideal.rsqrt (Ideal.div ((∑ k, X r k * X r k : ℝ) : EReal) ((1024 : ℝ) : EReal) + ((eps : ℝ) : EReal))
      = ((rms 1024 (X r) : ℝ) : EReal) := by
    rw [div_coe _ _ (by norm_num), add_coe, ← msq, rsqrt_coe _ (msq_pos (by norm_num) _), rms]
  simp only [ex, eg, eu, c0, c1024, cEps, mul_coe, sum_coe, er]
  exact max_coe _ _

theorem blk1 (t : Fin cfg0.N) (a : Fin 512) (f : Fin 4096) :
    iblk m c 1 t (ix2 a f) = ((max (pre X g U (row t a) f) 0 : ℝ) : EReal) := by
  rw [← vact h]; blk_ext [iblk, idx t, row]

/-- Block `d` of the hidden layer's columns, loaded by itself. -/
theorem ld1 (t : Fin cfg0.N) (d : Fin 8) (off : Fin 2 → ℕ) (inb) (ho : off = ![0, d.val * 512]) (a j : Fin 512) :
    View.ld (iblk m c 1 t) (Rect.unit off ![512, 512] inb) (ix2 a j) = ((max (pre X g U (row t a) (unit d j)) 0 : ℝ) : EReal) := by
  rw [View.ld_unit_apply_of _ _ _ _ _ (ix2 a (unit d j)) (by subst ho; intro b; fin_cases b <;> simp [unit] <;> rfl), blk1 h]

/-- Block `d` of the first weight, loaded by itself. -/
theorem ld4 (t : Fin cfg0.N) (d : Fin 8) (off : Fin 3 → ℕ) (inb) (ho : off = ![d.val, 0, 0]) (z : Fin 1) (l : Fin 1024) (j : Fin 512) :
    View.ld (iblk m c 4 t) (Rect.unit off ![1, 1024, 512] inb) (ix3 z l j) = ((U l (unit d j) : ℝ) : EReal) := by
  rw [View.ld_unit_apply_of _ _ _ _ _ (ix3 d l j) (by subst ho; intro b; fin_cases b <;> simp [Subsingleton.elim z 0] <;> rfl), blk4 h]

/-- Block `d` of the second weight, loaded by itself. -/
theorem ld5 (t : Fin cfg0.N) (d : Fin 8) (off : Fin 3 → ℕ) (inb) (ho : off = ![d.val, 0, 0]) (z : Fin 1) (j : Fin 512) (l : Fin 1024) :
    View.ld (iblk m c 5 t) (Rect.unit off ![1, 512, 1024] inb) (ix3 z j l) = ((W (unit d j) l : ℝ) : EReal) := by
  rw [View.ld_unit_apply_of _ _ _ _ _ (ix3 d j l) (by subst ho; intro b; fin_cases b <;> simp [Subsingleton.elim z 0] <;> rfl), blk5 h]

theorem pay6 (t : Fin cfg0.N) (a : Fin 512) (k : Fin 1024) :
    k0_pay6 (F := Ideal) (iblk m c 2 t) (ix2 a k) = ((C (row t a) k : ℝ) : EReal) := by
  pointwise [k0_pay6]
  exact blk2 h t a k

/-- One block of the hidden layer's gradient. -/
theorem pay9 (t : Fin cfg0.N) (d : Fin 8) (A : Vec Ideal S512x512 .bf16) (Wd : Vec Ideal S1x512x1024 .bf16)
    (hA : ∀ a j, A (ix2 a j) = ((max (pre X g U (row t a) (unit d j)) 0 : ℝ) : EReal))
    (hW : ∀ z j l, Wd (ix3 z j l) = ((W (unit d j) l : ℝ) : EReal)) (a j : Fin 512) :
    k0_pay9 (F := Ideal) (k0_pay6 (iblk m c 2 t)) A Wd (ix2 a j) = ((dpre X C g U W (row t a) (unit d j) : ℝ) : EReal) := by
  pointwise [k0_pay9]
  simp only [pay6 h, hA, hW, c2, mul_coe, sum_coe]
  rfl

/-- One block's share of the gradient at the norm's output. -/
def part (X C : Fin 16384 → Fin 1024 → ℝ) (g : Fin 1024 → ℝ) (U : Fin 1024 → Fin 4096 → ℝ) (W : Fin 4096 → Fin 1024 → ℝ)
    (r : Fin 16384) (l : Fin 1024) (d : Fin 8) : ℝ := ∑ j, dpre X C g U W r (unit d j) * U l (unit d j)

omit h in
theorem sum_parts (r : Fin 16384) (l : Fin 1024) : ∑ d, part X C g U W r l d = dh X C g U W r l :=
  sum_rows unit (fun _ _ => rfl) (by norm_num) fun f => dpre X C g U W r f * U l f

/-- Two blocks added to the gradient at the norm's output. -/
theorem pay10 (t : Fin cfg0.N) (d e : Fin 8) (acc : FVec Ideal S512x1024 .f32) (D : FVec Ideal S512x512 .bf16)
    (Ud : Vec Ideal S1x1024x512 .bf16) (A : Vec Ideal S512x512 .bf16) (We : Vec Ideal S1x512x1024 .bf16) (Ue : Vec Ideal S1x1024x512 .bf16)
    (hD : ∀ a j, D (ix2 a j) = ((dpre X C g U W (row t a) (unit d j) : ℝ) : EReal))
    (hU : ∀ z l j, Ud (ix3 z l j) = ((U l (unit d j) : ℝ) : EReal))
    (hA : ∀ a j, A (ix2 a j) = ((max (pre X g U (row t a) (unit e j)) 0 : ℝ) : EReal))
    (hW : ∀ z j l, We (ix3 z j l) = ((W (unit e j) l : ℝ) : EReal))
    (hV : ∀ z l j, Ue (ix3 z l j) = ((U l (unit e j) : ℝ) : EReal)) (a : Fin 512) (l : Fin 1024) :
    k0_pay10 (F := Ideal) (k0_pay6 (iblk m c 2 t)) acc D Ud A We Ue (ix2 a l)
      = acc (ix2 a l) + ((part X C g U W (row t a) l d : ℝ) : EReal) + ((part X C g U W (row t a) l e : ℝ) : EReal) := by
  pointwise [k0_pay10]
  simp only [pay9 h t e A We hA hW, hD, hU, hV, mul_coe, sum_coe]
  rfl

section
omit h
theorem e11 : @k0_pay11 Ideal _ = k0_pay9 := rfl
theorem e12 : @k0_pay12 Ideal _ = k0_pay9 := rfl
theorem e14 : @k0_pay14 Ideal _ = k0_pay9 := rfl
theorem e15 : @k0_pay15 Ideal _ = k0_pay9 := rfl
theorem e17 : @k0_pay17 Ideal _ = k0_pay9 := rfl
theorem e19 : @k0_pay19 Ideal _ = k0_pay9 := rfl
theorem e13 : @k0_pay13 Ideal _ = k0_pay10 := rfl
theorem e16 : @k0_pay16 Ideal _ = k0_pay10 := rfl
theorem e8 (x A W) : @k0_pay8 Ideal _ x A W = k0_pay9 (k0_pay6 x) A W := rfl
theorem e20 (x acc D U A W V) : @k0_pay20 Ideal _ x acc D (k0_pay18 U) A W V = k0_pay10 x acc D U A W V := rfl
end

omit h in
/-- The gradient at the norm's output, summed block by block. -/
def DH (m : (ℓ : Loc nD τ sig) → Buf (Elt Ideal) ℓ) (c : Dev nD) (t : Fin cfg0.N) : FVec Ideal S512x1024 .f32 :=
  k0_pay20 (k0_pay6 (iblk m c 2 t))
    (k0_pay16 (k0_pay6 (iblk m c 2 t))
        (k0_pay13 (k0_pay6 (iblk m c 2 t))
          (k0_pay10 (k0_pay6 (iblk m c 2 t)) k0_pay7
            (k0_pay8 (iblk m c 2 t) (View.ld (iblk m c 1 t) (Rect.unit ![0, 0] ![512, 512] inb_S512x4096_S512x512_0_0))
              (View.ld (iblk m c 5 t) (Rect.unit ![0, 0, 0] ![1, 512, 1024] inb_S8x512x1024_S1x512x1024_0_0_0)))
            (View.ld (iblk m c 4 t) (Rect.unit ![0, 0, 0] ![1, 1024, 512] inb_S8x1024x512_S1x1024x512_0_0_0))
            (View.ld (iblk m c 1 t) (Rect.unit ![0, 512] ![512, 512] inb_S512x4096_S512x512_0_512))
            (View.ld (iblk m c 5 t) (Rect.unit ![1, 0, 0] ![1, 512, 1024] inb_S8x512x1024_S1x512x1024_1_0_0))
            (View.ld (iblk m c 4 t) (Rect.unit ![1, 0, 0] ![1, 1024, 512] inb_S8x1024x512_S1x1024x512_1_0_0)))
          (k0_pay11 (k0_pay6 (iblk m c 2 t))
            (View.ld (iblk m c 1 t) (Rect.unit ![0, 1024] ![512, 512] inb_S512x4096_S512x512_0_1024))
            (View.ld (iblk m c 5 t) (Rect.unit ![2, 0, 0] ![1, 512, 1024] inb_S8x512x1024_S1x512x1024_2_0_0)))
          (View.ld (iblk m c 4 t) (Rect.unit ![2, 0, 0] ![1, 1024, 512] inb_S8x1024x512_S1x1024x512_2_0_0))
          (View.ld (iblk m c 1 t) (Rect.unit ![0, 1536] ![512, 512] inb_S512x4096_S512x512_0_1536))
          (View.ld (iblk m c 5 t) (Rect.unit ![3, 0, 0] ![1, 512, 1024] inb_S8x512x1024_S1x512x1024_3_0_0))
          (View.ld (iblk m c 4 t) (Rect.unit ![3, 0, 0] ![1, 1024, 512] inb_S8x1024x512_S1x1024x512_3_0_0)))
        (k0_pay14 (k0_pay6 (iblk m c 2 t))
          (View.ld (iblk m c 1 t) (Rect.unit ![0, 2048] ![512, 512] inb_S512x4096_S512x512_0_2048))
          (View.ld (iblk m c 5 t) (Rect.unit ![4, 0, 0] ![1, 512, 1024] inb_S8x512x1024_S1x512x1024_4_0_0)))
        (View.ld (iblk m c 4 t) (Rect.unit ![4, 0, 0] ![1, 1024, 512] inb_S8x1024x512_S1x1024x512_4_0_0))
        (View.ld (iblk m c 1 t) (Rect.unit ![0, 2560] ![512, 512] inb_S512x4096_S512x512_0_2560))
        (View.ld (iblk m c 5 t) (Rect.unit ![5, 0, 0] ![1, 512, 1024] inb_S8x512x1024_S1x512x1024_5_0_0))
        (View.ld (iblk m c 4 t) (Rect.unit ![5, 0, 0] ![1, 1024, 512] inb_S8x1024x512_S1x1024x512_5_0_0)))
      (k0_pay17 (k0_pay6 (iblk m c 2 t))
        (View.ld (iblk m c 1 t) (Rect.unit ![0, 3072] ![512, 512] inb_S512x4096_S512x512_0_3072))
        (View.ld (iblk m c 5 t) (Rect.unit ![6, 0, 0] ![1, 512, 1024] inb_S8x512x1024_S1x512x1024_6_0_0)))
      (k0_pay18 (View.ld (iblk m c 4 t) (Rect.unit ![6, 0, 0] ![1, 1024, 512] inb_S8x1024x512_S1x1024x512_6_0_0)))
      (View.ld (iblk m c 1 t) (Rect.unit ![0, 3584] ![512, 512] inb_S512x4096_S512x512_0_3584))
      (View.ld (iblk m c 5 t) (Rect.unit ![7, 0, 0] ![1, 512, 1024] inb_S8x512x1024_S1x512x1024_7_0_0))
      (View.ld (iblk m c 4 t) (Rect.unit ![7, 0, 0] ![1, 1024, 512] inb_S8x1024x512_S1x1024x512_7_0_0))

theorem DH_apply (t : Fin cfg0.N) (a : Fin 512) (l : Fin 1024) :
    DH m c t (ix2 a l) = ((dh X C g U W (row t a) l : ℝ) : EReal) := by
  have z : (k0_pay7 : FVec Ideal S512x1024 .f32) (ix2 a l) = ((0 : ℝ) : EReal) := by
    pointwise [k0_pay7]; rfl
  unfold DH
  rw [e20, e16, e13, e11, e14, e17, e8]
  rw [pay10 h t 6 7 _ _ _ _ _ _ (pay9 h t 6 _ _ (ld1 h t 6 ![0, 3072] _ rfl) (ld5 h t 6 ![6, 0, 0] _ rfl))
    (ld4 h t 6 ![6, 0, 0] _ rfl) (ld1 h t 7 ![0, 3584] _ rfl)
    (ld5 h t 7 ![7, 0, 0] _ rfl) (ld4 h t 7 ![7, 0, 0] _ rfl)]
  rw [pay10 h t 4 5 _ _ _ _ _ _ (pay9 h t 4 _ _ (ld1 h t 4 ![0, 2048] _ rfl) (ld5 h t 4 ![4, 0, 0] _ rfl))
    (ld4 h t 4 ![4, 0, 0] _ rfl) (ld1 h t 5 ![0, 2560] _ rfl)
    (ld5 h t 5 ![5, 0, 0] _ rfl) (ld4 h t 5 ![5, 0, 0] _ rfl)]
  rw [pay10 h t 2 3 _ _ _ _ _ _ (pay9 h t 2 _ _ (ld1 h t 2 ![0, 1024] _ rfl) (ld5 h t 2 ![2, 0, 0] _ rfl))
    (ld4 h t 2 ![2, 0, 0] _ rfl) (ld1 h t 3 ![0, 1536] _ rfl)
    (ld5 h t 3 ![3, 0, 0] _ rfl) (ld4 h t 3 ![3, 0, 0] _ rfl)]
  rw [pay10 h t 0 1 _ _ _ _ _ _ (pay9 h t 0 _ _ (ld1 h t 0 ![0, 0] _ rfl) (ld5 h t 0 ![0, 0, 0] _ rfl))
    (ld4 h t 0 ![0, 0, 0] _ rfl) (ld1 h t 1 ![0, 512] _ rfl)
    (ld5 h t 1 ![1, 0, 0] _ rfl) (ld4 h t 1 ![1, 0, 0] _ rfl)]
  rw [z, ← sum_parts, Fin.sum_univ_eight]
  simp only [add_coe, zero_add]

theorem pay3 (t : Fin cfg0.N) (a : Fin 512) (z : Fin 1) :
    k0_pay3 (F := Ideal) (iblk m c 0 t) (ix2 a z) = ((rms 1024 (X (row t a)) : ℝ) : EReal) := by
  pointwise [k0_pay3]
  simp only [blk0 h, c1024, cEps, mul_coe, sum_coe]
  rw [div_coe _ _ (by norm_num), add_coe, ← msq, rsqrt_coe _ (msq_pos (by norm_num) _)]
  rfl

theorem pay4 (t : Fin cfg0.N) (a : Fin 512) (l : Fin 1024) :
    k0_pay4 (F := Ideal) (iblk m c 0 t) (ix2 a l) = ((X (row t a) l * rms 1024 (X (row t a)) : ℝ) : EReal) := by
  pointwise [k0_pay4]
  simp only [pay3 h, blk0 h, mul_coe]

theorem pay5 (t : Fin cfg0.N) (a : Fin 512) (l : Fin 1024) :
    k0_pay5 (F := Ideal) (iblk m c 0 t) (iblk m c 3 t) (ix2 a l) = ((hn X g (row t a) l : ℝ) : EReal) := by
  pointwise [k0_pay5]
  simp only [pay4 h, blk3 h, mul_coe]
  rfl

section
variable (t : Fin cfg0.N) {x : FVec Ideal S512x1024 .bf16} {acc : FVec Ideal S512x1024 .f32} {D : FVec Ideal S512x512 .bf16}
  {U6 : FVec Ideal S1024x512 .bf16} {A : Vec Ideal S512x512 .bf16} {W7 : Vec Ideal S1x512x1024 .bf16} {U7 : Vec Ideal S1x1024x512 .bf16}
  (hQ : ∀ a l, k0_pay20 (F := Ideal) x acc D U6 A W7 U7 (ix2 a l) = ((dh X C g U W (row t a) l : ℝ) : EReal))
include hQ

/-- What a point adds to the gain's gradient. -/
theorem pay21 (dg : FVec Ideal S1x1024 .f32) (j : S1x1024.Idx) :
    k0_pay21 (F := Ideal) (k0_pay4 (iblk m c 0 t)) x acc D U6 A W7 U7 dg j
      = dg j + ((∑ a, dgRow X C g U W (row t a) (j 1) : ℝ) : EReal) := by
  idx_vars j
  pointwise [k0_pay21]
  simp only [hQ, pay4 h, mul_coe, sum_coe]
  rfl

theorem pay22 (a : Fin 512) (l : Fin 1024) :
    k0_pay22 (F := Ideal) x acc D U6 A W7 U7 (iblk m c 3 t) (ix2 a l) = ((dh X C g U W (row t a) l * g l : ℝ) : EReal) := by
  pointwise [k0_pay22]
  simp only [hQ, blk3 h, mul_coe]

theorem pay1 (a : Fin 512) (l : Fin 1024) :
    k0_pay1 (F := Ideal) (k0_pay3 (iblk m c 0 t)) (iblk m c 2 t) (k0_pay22 x acc D U6 A W7 U7 (iblk m c 3 t))
      (k0_pay23 (k0_pay4 (iblk m c 0 t)) x acc D U6 A W7 U7 (iblk m c 3 t)) (ix2 a l)
      = ((dx X C g U W (row t a) l : ℝ) : EReal) := by
  pointwise [k0_pay1, k0_pay23]
  simp only [pay22 h t hQ, pay3 h, pay4 h, blk2 h, c1024, mul_coe, sum_coe]
  rw [div_coe _ _ (by norm_num), mul_coe, sub_coe, mul_coe, add_coe]
  rfl
end

/-- The rows' gradient. -/
theorem final6 : (dats m 0 c).arrAt 6 (cfgs 0).N = fun i => ((dx X C g U W (i 0) (i 1) : ℝ) : EReal) := by
  refine (dats m 0 c).arrAt_eq_of_covers 6 _ (by decide +kernel) fun t _ y => ?_
  blk_simp
  rw [after0_6]
  idx_vars y
  have hp : (outsAt0 m c t.val t.isLt).1 (ix2 y0 y1) = ((dx X C g U W (row t y0) y1 : ℝ) : EReal) := by
    by_cases h0 : t.val % 32 = 0
    · rw [outsAt0_A m c t h0]; frame_out; exact pay1 h t (DH_apply h t) y0 y1
    · rw [outsAt0_B m c t h0]; frame_out; exact pay1 h t (DH_apply h t) y0 y1
  rw [hp]
  rw [show (((View.whole main_v22_0).slice (win0_6.rect t)).emb (ix2 y0 y1) : S16384x1024.Idx) = ix2 (row t y0) y1 by
    blk_ext [idx t, row]]
  rfl

/-- The norm's output. -/
theorem final7 : (dats m 0 c).arrAt 7 (cfgs 0).N = fun i => ((hn X g (i 0) (i 1) : ℝ) : EReal) := by
  refine (dats m 0 c).arrAt_eq_of_covers 7 _ (by decide +kernel) fun t _ y => ?_
  blk_simp
  rw [after0_7]
  idx_vars y
  have hp : (outsAt0 m c t.val t.isLt).2.1 (ix2 y0 y1) = ((hn X g (row t y0) y1 : ℝ) : EReal) := by
    by_cases h0 : t.val % 32 = 0
    · rw [outsAt0_A m c t h0]; frame_out; exact pay5 h t y0 y1
    · rw [outsAt0_B m c t h0]; frame_out; exact pay5 h t y0 y1
  rw [hp]
  rw [show (((View.whole main_v22_1).slice (win0_7.rect t)).emb (ix2 y0 y1) : S16384x1024.Idx) = ix2 (row t y0) y1 by
    blk_ext [idx t, row]]
  rfl

/-- One block of the hidden layer's gradient, at the place the block has in the array. -/
theorem tile (t : Fin cfg0.N) (d : Fin 8) {A : Vec Ideal S512x512 .bf16} {Wd : Vec Ideal S1x512x1024 .bf16}
    (hA : ∀ a j, A (ix2 a j) = ((max (pre X g U (row t a) (unit d j)) 0 : ℝ) : EReal))
    (hW : ∀ z j l, Wd (ix3 z j l) = ((W (unit d j) l : ℝ) : EReal)) (x : S512x512.Idx) (a : Fin 512) (f : Fin 4096)
    (ha : a.val = (x 0).val) (hf : f.val = d.val * 512 + (x 1).val) :
    k0_pay9 (F := Ideal) (k0_pay6 (iblk m c 2 t)) A Wd x = ((dpre X C g U W (row t a) f : ℝ) : EReal) := by
  idx_vars x
  rw [pay9 h t d A Wd hA hW, show a = x0 from Fin.ext ha, show f = unit d x1 from Fin.ext hf]

/-- The gradient of the hidden layer. -/
theorem final8 : (dats m 0 c).arrAt 8 (cfgs 0).N = fun i => ((dpre X C g U W (i 0) (i 1) : ℝ) : EReal) := by
  refine (dats m 0 c).arrAt_eq_of_covers 8 _ (by decide +kernel) fun t _ y => ?_
  blk_simp
  rw [after0_8]
  have hp : (outsAt0 m c t.val t.isLt).2.2.1 y = ((dpre X C g U W (row t (y 0)) (y 1) : ℝ) : EReal) := by
    have k := h
    by_cases hk : t.val % 32 = 0
    · rw [outsAt0_A m c t hk]; frame_out
      canon_tiles y h
      case piece0 => exact tile k t 7 (ld1 k t 7 ![0, 3584] _ rfl) (ld5 k t 7 ![7, 0, 0] _ rfl) y _ _ h0 h1
      case piece1 => exact tile k t 6 (ld1 k t 6 ![0, 3072] _ rfl) (ld5 k t 6 ![6, 0, 0] _ rfl) y _ _ h0 h1
      case piece2 => exact tile k t 5 (ld1 k t 5 ![0, 2560] _ rfl) (ld5 k t 5 ![5, 0, 0] _ rfl) y _ _ h0 h1
      case piece3 => exact tile k t 4 (ld1 k t 4 ![0, 2048] _ rfl) (ld5 k t 4 ![4, 0, 0] _ rfl) y _ _ h0 h1
      case piece4 => exact tile k t 3 (ld1 k t 3 ![0, 1536] _ rfl) (ld5 k t 3 ![3, 0, 0] _ rfl) y _ _ h0 h1
      case piece5 => exact tile k t 2 (ld1 k t 2 ![0, 1024] _ rfl) (ld5 k t 2 ![2, 0, 0] _ rfl) y _ _ h0 h1
      case piece6 => exact tile k t 1 (ld1 k t 1 ![0, 512] _ rfl) (ld5 k t 1 ![1, 0, 0] _ rfl) y _ _ h0 h1
      case piece7 => exact tile k t 0 (ld1 k t 0 ![0, 0] _ rfl) (ld5 k t 0 ![0, 0, 0] _ rfl) y _ _ h0 (h1.trans (by simp))
    · rw [outsAt0_B m c t hk]; frame_out
      canon_tiles y h
      case piece0 => exact tile k t 7 (ld1 k t 7 ![0, 3584] _ rfl) (ld5 k t 7 ![7, 0, 0] _ rfl) y _ _ h0 h1
      case piece1 => exact tile k t 6 (ld1 k t 6 ![0, 3072] _ rfl) (ld5 k t 6 ![6, 0, 0] _ rfl) y _ _ h0 h1
      case piece2 => exact tile k t 5 (ld1 k t 5 ![0, 2560] _ rfl) (ld5 k t 5 ![5, 0, 0] _ rfl) y _ _ h0 h1
      case piece3 => exact tile k t 4 (ld1 k t 4 ![0, 2048] _ rfl) (ld5 k t 4 ![4, 0, 0] _ rfl) y _ _ h0 h1
      case piece4 => exact tile k t 3 (ld1 k t 3 ![0, 1536] _ rfl) (ld5 k t 3 ![3, 0, 0] _ rfl) y _ _ h0 h1
      case piece5 => exact tile k t 2 (ld1 k t 2 ![0, 1024] _ rfl) (ld5 k t 2 ![2, 0, 0] _ rfl) y _ _ h0 h1
      case piece6 => exact tile k t 1 (ld1 k t 1 ![0, 512] _ rfl) (ld5 k t 1 ![1, 0, 0] _ rfl) y _ _ h0 h1
      case piece7 => exact tile k t 0 (ld1 k t 0 ![0, 0] _ rfl) (ld5 k t 0 ![0, 0, 0] _ rfl) y _ _ h0 (h1.trans (by simp))
  rw [hp]
  idx_vars y
  rw [show (((View.whole main_v22_2).slice (win0_8.rect t)).emb (ix2 y0 y1) : S16384x4096.Idx) = ix2 (row t y0) y1 by
    blk_ext [idx t, row]]
  rfl

omit h in
/-- The grid's last point. -/
def lastPt : Fin cfg0.N := ⟨31, by rw [show cfg0.N = 32 from N_0]; norm_num⟩

/-- The gain's gradient. -/
theorem final9 : (dats m 0 c).arrAt 9 (cfgs 0).N = fun i => ((∑ r, dgRow X C g U W r (i 1) : ℝ) : EReal) := by
  refine (dats m 0 c).arrAt_eq_of_after_last 9 lastPt (by decide +kernel) _ fun j => ?_
  blk_simp
  rw [after0_9, Pipeline.eq_sum_fin_of_reset_step_apply_last (fun n h => (outsAt0 m c n h).2.2.2) 32 (fun _ => 0)
    (fun t j => ((∑ a, dgRow X C g U W (row t a) (j 1) : ℝ) : EReal))
    (fun t h0 j => by
      rw [outsAt0_A m c t h0]; frame_out; refine (pay21 h t (DH_apply h t) _ j).trans ?_; congr 1; pointwise [k0_pay2])
    (fun t h0 j => by rw [outsAt0_B m c t h0]; frame_out; exact pay21 h t (DH_apply h t) _ j)
    (le_of_eq N_0) lastPt rfl _, zero_add, sum_coe]
  exact congrArg _ (sum_points fun r => dgRow X C g U W r (j 1))

end Cert.FfnKernel
-- ==== Proof.FfnRef.lean ====
/- What the results of the feed-forward reference are, at finite arguments. -/
module

public import proofs.«01_k».proof.Proof.FfnMath
public import proofs.«01_k».proof.Proof.Gen.ReferenceFfnIdeal.Read
public import Idealize.ShloMosaic.Lib.Claim

@[expose] public section

set_option maxRecDepth 16384

noncomputable section

open Idealize.ShloMosaic Idealize.SL.Sem

namespace Cert.FfnRef

open Cert.ReferenceFfnIdeal Cert.ReferenceFfnIdeal.Gen Cert.ReferenceFfnIdeal.Read Cert.RealKit Cert.FfnMath

variable {x0 x4 : (⟨S16384x1024, .f32⟩ : BufTy).Contents (Elt Ideal)} {x1 : (⟨S1024, .f32⟩ : BufTy).Contents (Elt Ideal)}
variable {x2 : (⟨S1024x4096, .f32⟩ : BufTy).Contents (Elt Ideal)} {x3 : (⟨S4096x1024, .f32⟩ : BufTy).Contents (Elt Ideal)}
variable {X C : Fin 16384 → Fin 1024 → ℝ} {g : Fin 1024 → ℝ} {U : Fin 1024 → Fin 4096 → ℝ} {W : Fin 4096 → Fin 1024 → ℝ}
variable (hX : ∀ r l, x0 (ix2 r l) = ((X r l : ℝ) : EReal)) (hg : ∀ l, x1 (ix1 l) = ((g l : ℝ) : EReal))
  (hU : ∀ l f, x2 (ix2 l f) = ((U l f : ℝ) : EReal)) (hW : ∀ f l, x3 (ix2 f l) = ((W f l : ℝ) : EReal))
  (hC : ∀ r l, x4 (ix2 r l) = ((C r l : ℝ) : EReal))

/-- The square of the ReLU, differentiated. -/
theorem relu2 (p s : ℝ) : (if 0 < p then max p 0 * s + s * max p 0 else 0) = s * (2 * max p 0) := by
  split_ifs with hp
  · ring
  · rw [max_eq_right (not_lt.mp hp)]; ring

include hX in
theorem v6 (r : Fin 16384) (z : Fin 1) : val_main_v6 (F := Ideal) x0 (ix2 r z) = ((msq 1024 (X r) : ℝ) : EReal) := by
  pointwise [val_main_v6, val_main_v5, val_main_v4, val_main_v3, val_main_v2, val_main_v1, val_main_v0, val_main_cst, val_main_cst_0, val_main_cst_1]
  simp only [hX, c1024, cEps, mul_coe, sum_coe]
  rw [div_coe _ _ (by norm_num), add_coe]
  rfl

include hX in
theorem v7 (r : Fin 16384) (z : Fin 1) : val_main_v7 (F := Ideal) x0 (ix2 r z) = ((rms 1024 (X r) : ℝ) : EReal) := by
  pointwise [val_main_v7]
  rw [v6 hX, rsqrt_coe _ (msq_pos (by norm_num) _)]
  rfl

include hX hg in
theorem v15 (r : Fin 16384) (l : Fin 1024) : val_main_v15 (F := Ideal) x0 x1 (ix2 r l) = ((hn X g r l : ℝ) : EReal) := by
  pointwise [val_main_v15, val_main_v14, val_main_v13, val_main_v12, val_main_v11]
  simp only [v7 hX, hX, hg, mul_coe]
  rfl

include hX hg hU in
theorem v16 (r : Fin 16384) (f : Fin 4096) : val_main_v16 (F := Ideal) x0 x1 x2 (ix2 r f) = ((pre X g U r f : ℝ) : EReal) := by
  pointwise [val_main_v16]
  simp only [v15 hX hg, hU, mul_coe, sum_coe]
  rfl

include hX hg hU in
theorem v17 (r : Fin 16384) (f : Fin 4096) :
    val_main_v17 (F := Ideal) x0 x1 x2 (ix2 r f) = ((max (pre X g U r f) 0 : ℝ) : EReal) := by
  pointwise [val_main_v17, val_main_call0_v0, val_main_call0_cst]
  simp only [v16 hX hg hU, c0]
  exact max_coe _ _

include hW hC in
theorem v25 (r : Fin 16384) (f : Fin 4096) :
    val_main_v25 (F := Ideal) x3 x4 (ix2 r f) = ((∑ k, C r k * W f k : ℝ) : EReal) := by
  pointwise [val_main_v25, val_main_v24]
  simp only [hC, hW, mul_coe, sum_coe]

include hX hg hU hW hC in
theorem v30 (r : Fin 16384) (f : Fin 4096) :
    val_main_v30 (F := Ideal) x0 x1 x2 x3 x4 (ix2 r f) = ((dpre X C g U W r f : ℝ) : EReal) := by
  pointwise [val_main_v30, val_main_v29, val_main_v28, val_main_v27, val_main_v26, val_main_v19, val_main_v18, val_main_cst_3, val_main_cst_5]
  simp only [v16 hX hg hU, v17 hX hg hU, v25 hW hC, c0, mul_coe, add_coe]
  refine Eq.trans ?_ (congrArg _ (relu2 (pre X g U r f) (∑ k, C r k * W f k)))
  split_ifs <;> simp_all

include hX in
theorem v59 (r : Fin 16384) (z : Fin 1) : val_main_v59 (F := Ideal) x0 (ix2 r z) = ((msq 1024 (X r) : ℝ) : EReal) := by
  pointwise [val_main_v59, val_main_v58, val_main_v57, val_main_v56, val_main_v55, val_main_v54, val_main_v53, val_main_cst_11, val_main_cst_12, val_main_cst_13]
  simp only [hX, c1024, cEps, mul_coe, sum_coe]
  rw [div_coe _ _ (by norm_num), add_coe]
  rfl

include hX in
theorem v60 (r : Fin 16384) (z : Fin 1) : val_main_v60 (F := Ideal) x0 (ix2 r z) = ((rms 1024 (X r) : ℝ) : EReal) := by
  pointwise [val_main_v60]
  rw [v59 hX, rsqrt_coe _ (msq_pos (by norm_num) _)]
  rfl

include hX hg in
theorem v65 (r : Fin 16384) (l : Fin 1024) : val_main_v65 (F := Ideal) x0 x1 (ix2 r l) = ((hn X g r l : ℝ) : EReal) := by
  pointwise [val_main_v65, val_main_v64, val_main_v63, val_main_v62, val_main_v61]
  simp only [v60 hX, hX, hg, mul_coe]
  rfl

include hX hg hU in
theorem v66 (r : Fin 16384) (f : Fin 4096) : val_main_v66 (F := Ideal) x0 x1 x2 (ix2 r f) = ((pre X g U r f : ℝ) : EReal) := by
  pointwise [val_main_v66]
  simp only [v65 hX hg, hU, mul_coe, sum_coe]
  rfl

include hX hg hU in
theorem v67 (r : Fin 16384) (f : Fin 4096) :
    val_main_v67 (F := Ideal) x0 x1 x2 (ix2 r f) = ((max (pre X g U r f) 0 : ℝ) : EReal) := by
  pointwise [val_main_v67, val_main_call1_v0, val_main_call1_cst]
  simp only [v66 hX hg hU, c0]
  exact max_coe _ _

include hW hC in
theorem v73 (r : Fin 16384) (f : Fin 4096) :
    val_main_v73 (F := Ideal) x3 x4 (ix2 r f) = ((∑ k, C r k * W f k : ℝ) : EReal) := by
  pointwise [val_main_v73]
  simp only [hC, hW, mul_coe, sum_coe]

include hX hg hU hW hC in
theorem v78 (r : Fin 16384) (f : Fin 4096) :
    val_main_v78 (F := Ideal) x0 x1 x2 x3 x4 (ix2 r f) = ((dpre X C g U W r f : ℝ) : EReal) := by
  pointwise [val_main_v78, val_main_v77, val_main_v76, val_main_v75, val_main_v74, val_main_v69, val_main_v68, val_main_cst_14, val_main_cst_16]
  simp only [v66 hX hg hU, v67 hX hg hU, v73 hW hC, c0, mul_coe, add_coe]
  refine Eq.trans ?_ (congrArg _ (relu2 (pre X g U r f) (∑ k, C r k * W f k)))
  split_ifs <;> simp_all

include hX in
theorem v8 (r : Fin 16384) (z : Fin 1) :
    val_main_v8 (F := Ideal) x0 (ix2 r z) = ((rms 1024 (X r) / msq 1024 (X r) : ℝ) : EReal) := by
  pointwise [val_main_v8]
  rw [v6 hX, v7 hX, div_coe _ _ (msq_pos (by norm_num) _).ne']

include hX hg hU hW hC in
theorem v31 (r : Fin 16384) (l : Fin 1024) :
    val_main_v31 (F := Ideal) x0 x1 x2 x3 x4 (ix2 r l) = ((dh X C g U W r l : ℝ) : EReal) := by
  pointwise [val_main_v31]
  simp only [v30 hX hg hU hW hC, hU, mul_coe, sum_coe]
  rfl

include hX hg hU hW hC in
theorem v36 (r : Fin 16384) (l : Fin 1024) :
    val_main_v36 (F := Ideal) x0 x1 x2 x3 x4 (ix2 r l) = ((dh X C g U W r l * g l : ℝ) : EReal) := by
  pointwise [val_main_v36, val_main_v35, val_main_v13]
  simp only [v31 hX hg hU hW hC, hg, mul_coe]

include hX hg hU hW hC in
/-- The rows' gradient. -/
theorem v52 (r : Fin 16384) (l : Fin 1024) :
    val_main_v52 (F := Ideal) x0 x1 x2 x3 x4 (ix2 r l) = ((dx X C g U W r l : ℝ) : EReal) := by
  pointwise [val_main_v52, val_main_v51, val_main_v50, val_main_v49, val_main_v48, val_main_v47, val_main_v46, val_main_v45, val_main_v44, val_main_v43, val_main_v42, val_main_v41, val_main_v40, val_main_v39, val_main_v38, val_main_v10, val_main_v9, val_main_cst_2, val_main_cst_8, val_main_cst_9, val_main_cst_10]
  simp only [Finset.univ_unique, Finset.sum_singleton, v36 hX hg hU hW hC, v7 hX, v8 hX, hX, hC, cNegHalf, c1024, mul_coe, sum_coe,
    div_coe _ _ (show (1024 : ℝ) ≠ 0 by norm_num), add_coe]
  congr 1
  have e := norm_back (n := 1024) (by norm_num) (X r) (fun k => dh X C g U W r k * g k) l
  unfold dx normBack
  linear_combination e

include hX hg in
/-- The norm's output. -/
theorem v79 (r : Fin 16384) (l : Fin 1024) : val_main_v79 (F := Ideal) x0 x1 (ix2 r l) = ((hn X g r l : ℝ) : EReal) := by
  pointwise [val_main_v79]
  exact v65 hX hg r l

include hX hg hU hW hC in
/-- The gradient of the hidden layer. -/
theorem v80 (r : Fin 16384) (f : Fin 4096) :
    val_main_v80 (F := Ideal) x0 x1 x2 x3 x4 (ix2 r f) = ((dpre X C g U W r f : ℝ) : EReal) := by
  pointwise [val_main_v80]
  exact v78 hX hg hU hW hC r f

include hX hg hU hW hC in
/-- The gain's gradient. -/
theorem v81 (z : Fin 1) (l : Fin 1024) :
    val_main_v81 (F := Ideal) x0 x1 x2 x3 x4 (ix2 z l) = ((∑ r, dgRow X C g U W r l : ℝ) : EReal) := by
  pointwise [val_main_v81, val_main_v37, val_main_v34, val_main_v33, val_main_v32, val_main_v12, val_main_v11, val_main_cst_6, val_main_cst_7]
  simp only [Finset.univ_unique, Finset.sum_singleton, hX, v7 hX, v31 hX hg hU hW hC, mul_coe, sum_coe]
  exact congrArg _ (Finset.sum_congr rfl fun r _ => mul_comm _ _)

end Cert.FfnRef
-- ==== Proof.FfnClaim.lean ====
/- The feed-forward pair: its frames and its equality at finite arguments. -/
module

public import proofs.«01_k».proof.Defs
public import proofs.«01_k».proof.Proof.FfnKernel
public import proofs.«01_k».proof.Proof.FfnRef
public import proofs.«01_k».proof.Proof.Gen.KernelFfn.Frame
public import proofs.«01_k».proof.Proof.Gen.Pre_finite_ffn

@[expose] public section

set_option maxRecDepth 16384

noncomputable section

open Idealize.ShloMosaic Idealize.ShloMosaic.TcCoe Idealize.SL.Sem

namespace Cert.FfnClaim

open Cert.RealKit

/-- Finite arguments are real arrays. -/
theorem args {m : (ℓ : Loc Cert.KernelFfnIdeal.nD Cert.KernelFfnIdeal.τ Cert.KernelFfnIdeal.sig) → Buf (Elt Ideal) ℓ}
    (h : Pre_KernelFfnIdeal_finite_ffn m) (c : Dev Cert.KernelFfnIdeal.nD) : ∃ (X C : Fin 16384 → Fin 1024 → ℝ)
      (g : Fin 1024 → ℝ) (U : Fin 1024 → Fin 4096 → ℝ) (W : Fin 4096 → Fin 1024 → ℝ), Cert.FfnKernel.Args m c X C g U W := by
  obtain ⟨h0, h1, h2, h3, h4⟩ := h c
  obtain ⟨X, hX⟩ := exists_reals _ _ (fun _ => cInf) h0
  obtain ⟨g, hg⟩ := exists_reals _ _ (fun _ => cInf) h1
  obtain ⟨U, hU⟩ := exists_reals _ _ (fun _ => cInf) h2
  obtain ⟨W, hW⟩ := exists_reals _ _ (fun _ => cInf) h3
  obtain ⟨C, hC⟩ := exists_reals _ _ (fun _ => cInf) h4
  exact ⟨fun r l => X (ix2 r l), fun r l => C (ix2 r l), fun l => g (ix1 l), fun l j => U (ix2 l j), fun r j => W (ix2 r j),
    fun _ _ => hX _, fun _ => hg _, fun _ _ => hU _, fun _ _ => hW _, fun _ _ => hC _⟩

theorem kernel : quiescent_KernelFfn := fun m g _ => Cert.KernelFfn.Gen.frame m g
theorem kernelIdeal : quiescent_KernelFfnIdeal := fun m g _ => Cert.KernelFfnIdeal.Gen.frame m g
theorem kernelIdeal_pre : quiescent_KernelFfnIdeal_pre_finite_ffn := fun m g _ => Cert.KernelFfnIdeal.Gen.frame m g
theorem reference : quiescent_ReferenceFfnIdeal := fun m g _ =>
  (θ_run Cert.ReferenceFfnIdeal.defs _ _).mono (fun r h => ⟨fun c => (h c).2.2.2.2, sem_eq_zero_of_no_sems rfl _⟩)
    (Cert.ReferenceFfnIdeal.Value.run m g)
theorem reference_pre : quiescent_ReferenceFfnIdeal_pre_finite_ffn := fun m g _ => reference m g trivial

theorem algebraic : algebraic_KernelFfnIdeal_ReferenceFfnIdeal_pre_finite_ffn := by
  intro m g m' g' hpre hagree
  refine ⟨_, _, _, _, Cert.KernelFfnIdeal.Value.run_blocks m g,
    (θ_run Cert.ReferenceFfnIdeal.defs _ _).mono (fun r h c => ?_) (Cert.ReferenceFfnIdeal.Value.run m' g')⟩
  obtain ⟨X, C, gn, U, W, ha⟩ := args hpre c
  obtain ⟨e0, e1, e2, e3, e4⟩ := hagree c
  refine ⟨(h c).1.trans ?_, (h c).2.1.trans ?_, (h c).2.2.1.trans ?_, (h c).2.2.2.1.trans ?_, (h c).2.2.2.2⟩
  · rw [Cert.ReferenceFfnIdeal.Read.val_main_v52_eq, e0, e1, e2, e3, e4]
    refine Eq.trans ?_ (Cert.FfnKernel.final6 ha).symm
    funext i
    idx_vars i
    exact Cert.FfnRef.v52 ha.x ha.g ha.u ha.w ha.c _ _
  · refine (Cert.ReferenceFfnIdeal.Read.val_main_v79_eq _ _).trans ?_
    rw [e0, e1]
    refine Eq.trans ?_ (Cert.FfnKernel.final7 ha).symm
    funext i
    idx_vars i
    exact Cert.FfnRef.v79 ha.x ha.g _ _
  · refine (Cert.ReferenceFfnIdeal.Read.val_main_v80_eq _ _ _ _ _).trans ?_
    rw [e0, e1, e2, e3, e4]
    refine Eq.trans ?_ (Cert.FfnKernel.final8 ha).symm
    funext i
    idx_vars i
    exact Cert.FfnRef.v80 ha.x ha.g ha.u ha.w ha.c _ _
  · rw [Cert.ReferenceFfnIdeal.Read.val_main_v81_eq, e0, e1, e2, e3, e4]
    refine Eq.trans ?_ (Cert.FfnKernel.final9 ha).symm
    funext i
    idx_vars i
    exact Cert.FfnRef.v81 ha.x ha.g ha.u ha.w ha.c _ _

end Cert.FfnClaim
-- ==== Proof.OutMath.lean ====
/- The gradient of the mixing layer's output projection over the reals. -/
module

public import proofs.«01_k».proof.Proof.RealKit

@[expose] public section

noncomputable section

namespace Cert.OutMath

open Cert.RealKit

/-- The column of lane `j` of group `p`. -/
def col (p : Fin 4) (j : Fin 256) : Fin 1024 := ⟨p.val * 256 + j.val, by omega⟩

/-- The group of a column. -/
def grp (e : Fin 1024) : Fin 4 := ⟨e.val / 256, by omega⟩

/-- The lane of a column within its group. -/
def lane (e : Fin 1024) : Fin 256 := ⟨e.val % 256, by omega⟩

theorem grp_col (p : Fin 4) (j : Fin 256) : grp (col p j) = p := Fin.ext (by simp only [grp, col]; omega)

theorem lane_col (p : Fin 4) (j : Fin 256) : lane (col p j) = j := Fin.ext (by simp only [lane, col]; omega)

theorem col_grp_lane (e : Fin 1024) : col (grp e) (lane e) = e := Fin.ext (by simp only [grp, lane, col]; omega)

variable (C : Fin 16384 → Fin 1024 → ℝ) (Y : Fin 4 → Fin 16384 → Fin 256 → ℝ) (g : Fin 1024 → ℝ) (W : Fin 1024 → Fin 1024 → ℝ)

/-- The gradient at the normalised, scaled rows. -/
def dyn (r : Fin 16384) (e : Fin 1024) : ℝ := ∑ k, C r k * W e k

/-- A group's normalised rows. -/
def xn (p : Fin 4) (r : Fin 16384) (j : Fin 256) : ℝ := Y p r j * rms 256 (Y p r)

/-- The gradient of a group's rows. -/
def dy (p : Fin 4) (r : Fin 16384) (j : Fin 256) : ℝ := normBack 256 (Y p r) (fun k => dyn C W r (col p k) * g (col p k)) j

/-- One row's share of the gain's gradient. -/
def dgRow (r : Fin 16384) (e : Fin 1024) : ℝ := dyn C W r e * xn Y (grp e) r (lane e)

/-- The normalised, scaled rows. -/
def yn (r : Fin 16384) (e : Fin 1024) : ℝ := xn Y (grp e) r (lane e) * g e

/-- One row's share of the projection's gradient. -/
def dwRow (r : Fin 16384) (e d : Fin 1024) : ℝ := yn Y g r e * C r d

end Cert.OutMath

end
-- ==== Proof.StoreKit.lean ====
/- Reading a list of stores one store at a time. -/
module

public import Idealize.ShloMosaic.Lib.Pipeline.ValueKit

@[expose] public section

noncomputable section

open Idealize.ShloMosaic

namespace Cert.StoreKit

variable {Val : EltTy → Type} [∀ e, Nonempty (Val e)] {S : Shape} {e : EltTy}

/-- What a list of stores holds at an index, decided at the newest store: either the index lies in its rectangle, and its
    payload counts there, or it lies outside along some axis, and the earlier stores count. -/
theorem canon_newest {off size : Fin S.rank → Nat} {inb : ∀ a, off a + size a ≤ S.size a}
    {w : (⟨S.rank, size⟩ : Shape).Idx → Val e} {L : List (View.Piece Val S e)} (i : S.Idx) {v : Val e}
    (hit : ∀ x : (⟨S.rank, size⟩ : Shape).Idx, (∀ a, (i a).val = off a + (x a).val) → w x = v)
    (miss : (∃ a, (i a).val < off a ∨ off a + size a ≤ (i a).val) → View.canon L i = v) :
    View.canon ((⟨Rect.unit off size inb, w⟩ : View.Piece Val S e) :: L) i = v := by
  by_cases hm : i ∈ (Rect.unit off size inb).set
  · have hb := Rect.mem_set_unit.mp hm
    let x : (⟨S.rank, size⟩ : Shape).Idx := fun a => ⟨(i a).val - off a, by have := hb a; show _ < size a; omega⟩
    have hx : (Rect.unit off size inb).emb x = i := by
      funext a
      refine Fin.ext ?_
      rw [Rect.emb_apply]
      show off a + 1 * ((i a).val - off a) = (i a).val
      have := hb a
      omega
    have hv := View.canon_cons_emb (Val := Val) (Rect.unit off size inb) w L x
    rw [hx] at hv
    refine hv.trans (hit x fun a => ?_)
    show (i a).val = off a + ((i a).val - off a)
    have := hb a
    omega
  · refine (View.canon_cons_of_not_mem _ L hm).trans (miss ?_)
    rw [Rect.mem_set_unit] at hm
    push Not at hm
    obtain ⟨a, ha⟩ := hm
    exact ⟨a, by by_cases h : (i a).val < off a; exacts [.inl h, .inr (ha (by omega))]⟩

/-- The same for a band of whole columns of a matrix. -/
theorem canon_cols {R C o n : ℕ} {inb} {w : (⟨2, ![R, n]⟩ : Shape).Idx → Val e} {L : List (View.Piece Val ⟨2, ![R, C]⟩ e)}
    {a : Fin R} {j : Fin C} {v : Val e} (hit : ∀ x : Fin n, j.val = o + x.val → w (ix2 a x) = v)
    (miss : j.val < o ∨ o + n ≤ j.val → View.canon L (ix2 a j) = v) :
    View.canon ((⟨Rect.unit ![0, o] ![R, n] inb, w⟩ : View.Piece Val ⟨2, ![R, C]⟩ e) :: L) (ix2 a j) = v := by
  refine canon_newest (ix2 a j) (fun x hx => ?_) fun ⟨b, hb⟩ => ?_
  · have h0 : a.val = 0 + (x 0).val := hx 0
    have h1 : j.val = o + (x 1).val := hx 1
    have e : x = ix2 a (x 1) := by
      funext b
      fin_cases b
      · exact Fin.ext (by show (x 0).val = a.val; omega)
      · rfl
    rw [e]
    exact hit (x 1) h1
  · have ha := a.isLt
    fin_cases b
    · have : a.val < 0 ∨ 0 + R ≤ a.val := hb
      omega
    · exact miss hb

end Cert.StoreKit
-- ==== Proof.OutKernel.lean ====
/- What the output projection's backward kernel leaves in its six result arrays, at finite arguments. -/
module

public import proofs.«01_k».proof.Proof.OutMath
public import proofs.«01_k».proof.Proof.StoreKit
public import proofs.«01_k».proof.Proof.Gen.KernelOutIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutKernel

open Cert.KernelOutIdeal Cert.KernelOutIdeal.Gen Cert.RealKit Cert.OutMath Cert.StoreKit

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0]) ∧ t.val < 16 :=
  (by decide +kernel : ∀ t : Fin grid0.N, _)

/-- The row of the array at row `a` of point `t`'s block. -/
def row (t : Fin cfg0.N) (a : Fin 1024) : Fin 16384 := ⟨t.val * 1024 + a.val, by have := (idx t).2; omega⟩

theorem sum_points (f : Fin 16384 → ℝ) : ∑ t, ∑ a, f (row t a) = ∑ r, f r :=
  sum_rows row (fun _ _ => rfl) (by rw [show cfg0.N = 16 from N_0]) f

variable (C : Fin 16384 → Fin 1024 → ℝ) (Y : Fin 4 → Fin 16384 → Fin 256 → ℝ) (g : Fin 1024 → ℝ) (W : Fin 1024 → Fin 1024 → ℝ)

/-- The kernel's arguments are the real arrays `C`, `Y 0` to `Y 3`, `g` and `W`. -/
structure Args : Prop where
  ct : ∀ r l, m ((c : Thread nD τ).loc main_arg0) (ix2 r l) = ((C r l : ℝ) : EReal)
  y0 : ∀ r j, m ((c : Thread nD τ).loc main_arg1) (ix2 r j) = ((Y 0 r j : ℝ) : EReal)
  y1 : ∀ r j, m ((c : Thread nD τ).loc main_arg2) (ix2 r j) = ((Y 1 r j : ℝ) : EReal)
  y2 : ∀ r j, m ((c : Thread nD τ).loc main_arg3) (ix2 r j) = ((Y 2 r j : ℝ) : EReal)
  y3 : ∀ r j, m ((c : Thread nD τ).loc main_arg4) (ix2 r j) = ((Y 3 r j : ℝ) : EReal)
  gain : ∀ l, m ((c : Thread nD τ).loc main_arg5) (ix1 l) = ((g l : ℝ) : EReal)
  w : ∀ e d, m ((c : Thread nD τ).loc main_arg6) (ix2 e d) = ((W e d : ℝ) : EReal)

variable {m c C Y g W} (h : Args m c C Y g W)
include h

theorem blk0 (t : Fin cfg0.N) (a : Fin 1024) (l : Fin 1024) : iblk m c 0 t (ix2 a l) = ((C (row t a) l : ℝ) : EReal) := by
  rw [← h.ct]; blk_ext [iblk, V, idx t, row]

theorem blk1 (t : Fin cfg0.N) (a : Fin 1024) (j : Fin 256) : iblk m c 1 t (ix2 a j) = ((Y 0 (row t a) j : ℝ) : EReal) := by
  rw [← h.y0]; blk_ext [iblk, V, idx t, row]

theorem blk2 (t : Fin cfg0.N) (a : Fin 1024) (j : Fin 256) : iblk m c 2 t (ix2 a j) = ((Y 1 (row t a) j : ℝ) : EReal) := by
  rw [← h.y1]; blk_ext [iblk, V, idx t, row]

theorem blk3 (t : Fin cfg0.N) (a : Fin 1024) (j : Fin 256) : iblk m c 3 t (ix2 a j) = ((Y 2 (row t a) j : ℝ) : EReal) := by
  rw [← h.y2]; blk_ext [iblk, V, idx t, row]

theorem blk4 (t : Fin cfg0.N) (a : Fin 1024) (j : Fin 256) : iblk m c 4 t (ix2 a j) = ((Y 3 (row t a) j : ℝ) : EReal) := by
  rw [← h.y3]; blk_ext [iblk, V, idx t, row]

theorem blk5 (t : Fin cfg0.N) (z : Fin 1) (l : Fin 1024) : iblk m c 5 t (ix2 z l) = ((g l : ℝ) : EReal) := by
  rw [← h.gain]; blk_simp [iblk, idx t]; entry_read; pointwise; blk_ext [idx t]

theorem blk6 (t : Fin cfg0.N) (e d : Fin 1024) : iblk m c 6 t (ix2 e d) = ((W e d : ℝ) : EReal) := by
  rw [← h.w]; blk_simp [iblk, idx t]; entry_read; pointwise; blk_ext [idx t]

/-- A group's columns of the gain, loaded by themselves. -/
theorem ld5 (t : Fin cfg0.N) (p : Fin 4) (off : Fin 2 → ℕ) (inb) (ho : off = ![0, p.val * 256]) (z : Fin 1) (j : Fin 256) :
    View.ld (iblk m c 5 t) (Rect.unit off ![1, 256] inb) (ix2 z j) = ((g (col p j) : ℝ) : EReal) := by
  rw [View.ld_unit_apply_of _ _ _ _ _ (ix2 z (col p j)) (by subst ho; intro b; fin_cases b <;> simp [col] <;> rfl), blk5 h]

theorem pay6 (t : Fin cfg0.N) (a e : Fin 1024) :
    k0_pay6 (F := Ideal) (iblk m c 0 t) (iblk m c 6 t) (ix2 a e) = ((dyn C W (row t a) e : ℝ) : EReal) := by
  pointwise [k0_pay6, k0_pay5]
  simp only [blk0 h, blk6 h, mul_coe, sum_coe]
  rfl

section
omit h

/-- A load of a rectangle of what was stored reads the stores at its place. -/
theorem readCov_at {Val : EltTy → Type} [∀ e, Nonempty (Val e)] {sg : RefSig} {κ : Kind} {sp : Space} {s : Shape} {e : EltTy}
    (v : View sg κ sp s e) (L : List (View.Piece Val s e)) {off sz : Fin s.rank → ℕ} (inb) (x : (Rect.unit off sz inb).shape.Idx)
    (i : s.Idx) (hi : ∀ a, (i a).val = off a + (x a).val) :
    v.readCov L (Rect.unit off sz inb).toLoadRect x = View.canon L i := by
  rw [View.readCov_eq_canon']
  refine congrArg _ (funext fun a => Fin.ext ?_)
  rw [hi]
  simp [Rect.unit, Rect.toLoadRect, LoadRect.idx]

variable {t : Fin cfg0.N} {p : Fin 4} {y : Vec Ideal S1024x256 .f32} {G : Vec Ideal S1x256 .f32} {D : FVec Ideal S1024x1024 .f32}
  (hy : ∀ a j, y (ix2 a j) = ((Y p (row t a) j : ℝ) : EReal)) (hG : ∀ z j, G (ix2 z j) = ((g (col p j) : ℝ) : EReal))
  {Dp : FVec Ideal S1024x256 .f32} (hD : ∀ a j, Dp (ix2 a j) = ((dyn C W (row t a) (col p j) : ℝ) : EReal))

include hy in
theorem pay7 (a : Fin 1024) (z : Fin 1) : k0_pay7 (F := Ideal) y (ix2 a z) = ((rms 256 (Y p (row t a)) : ℝ) : EReal) := by
  pointwise [k0_pay7]
  simp only [hy, c256, cEps, mul_coe, sum_coe]
  rw [div_coe _ _ (by norm_num), add_coe, ← msq, rsqrt_coe _ (msq_pos (by norm_num) _)]
  rfl

include hy in
theorem pay8 (a : Fin 1024) (j : Fin 256) : k0_pay8 (F := Ideal) y (ix2 a j) = ((xn Y p (row t a) j : ℝ) : EReal) := by
  pointwise [k0_pay8]
  simp only [pay7 hy, hy, mul_coe]
  rfl

include hy hG in
theorem pay11 (a : Fin 1024) (j : Fin 256) : k0_pay11 (F := Ideal) y G (ix2 a j) = ((yn Y g (row t a) (col p j) : ℝ) : EReal) := by
  pointwise [k0_pay11, k0_pay9]
  simp only [pay8 hy, hG, mul_coe, yn, grp_col, lane_col]

include hy hG hD in
/-- The gradient of a group's rows. -/
theorem pay13 (a : Fin 1024) (j : Fin 256) :
    k0_pay13 (F := Ideal) (k0_pay7 y) (k0_pay8 y) (k0_pay9 G) Dp (ix2 a j) = ((dy C Y g W p (row t a) j : ℝ) : EReal) := by
  pointwise [k0_pay13, k0_pay9]
  simp only [pay7 hy, pay8 hy, hG, hD, c256, mul_coe, sum_coe]
  rw [div_coe _ _ (by norm_num), mul_coe, sub_coe, mul_coe]
  rfl
end

/-- A group's columns of the gradient at the scaled rows. -/
theorem pay10 (t : Fin cfg0.N) (a : Fin 1024) (j : Fin 256) :
    k0_pay10 (F := Ideal) (iblk m c 0 t) (iblk m c 6 t) (ix2 a j) = ((dyn C W (row t a) (col 0 j) : ℝ) : EReal) := by
  pointwise [k0_pay10]
  rw [pay6 h]
  exact congrArg (fun e => ((dyn C W (row t a) e : ℝ) : EReal)) (Fin.ext (by simp [col]))

theorem pay17 (t : Fin cfg0.N) (a : Fin 1024) (j : Fin 256) :
    k0_pay17 (F := Ideal) (k0_pay6 (iblk m c 0 t) (iblk m c 6 t)) (ix2 a j) = ((dyn C W (row t a) (col 1 j) : ℝ) : EReal) := by
  pointwise [k0_pay17]
  rw [pay6 h]
  rfl

theorem pay24 (t : Fin cfg0.N) (a : Fin 1024) (j : Fin 256) :
    k0_pay24 (F := Ideal) (k0_pay6 (iblk m c 0 t) (iblk m c 6 t)) (ix2 a j) = ((dyn C W (row t a) (col 2 j) : ℝ) : EReal) := by
  pointwise [k0_pay24]
  rw [pay6 h]
  rfl

theorem pay31 (t : Fin cfg0.N) (a : Fin 1024) (j : Fin 256) :
    k0_pay31 (F := Ideal) (k0_pay6 (iblk m c 0 t) (iblk m c 6 t)) (ix2 a j) = ((dyn C W (row t a) (col 3 j) : ℝ) : EReal) := by
  pointwise [k0_pay31]
  rw [pay6 h]
  rfl

/-- The gradient of group 0's rows. -/
theorem final7 : (dats m 0 c).arrAt 7 (cfgs 0).N = fun i => ((dy C Y g W 0 (i 0) (i 1) : ℝ) : EReal) := by
  refine (dats m 0 c).arrAt_eq_of_covers 7 _ (by decide +kernel) fun t _ y => ?_
  blk_simp
  rw [after0_7]
  idx_vars y
  have hp : (outsAt0 m c t.val t.isLt).1 (ix2 y0 y1) = ((dy C Y g W 0 (row t y0) y1 : ℝ) : EReal) := by
    by_cases h0 : t.val % 16 = 0
    · rw [outsAt0_A m c t h0]; frame_out; exact pay13 (blk1 h t) (ld5 h t 0 ![0, 0] _ rfl) (pay10 h t) y0 y1
    · rw [outsAt0_B m c t h0]; frame_out; exact pay13 (blk1 h t) (ld5 h t 0 ![0, 0] _ rfl) (pay10 h t) y0 y1
  rw [hp]
  rw [show (((View.whole main_v2_0).slice (win0_7.rect t)).emb (ix2 y0 y1) : S16384x256.Idx) = ix2 (row t y0) y1 by
    blk_ext [idx t, row]]
  rfl

/-- The gradient of group 1's rows. -/
theorem final8 : (dats m 0 c).arrAt 8 (cfgs 0).N = fun i => ((dy C Y g W 1 (i 0) (i 1) : ℝ) : EReal) := by
  refine (dats m 0 c).arrAt_eq_of_covers 8 _ (by decide +kernel) fun t _ y => ?_
  blk_simp
  rw [after0_8]
  idx_vars y
  have hp : (outsAt0 m c t.val t.isLt).2.1 (ix2 y0 y1) = ((dy C Y g W 1 (row t y0) y1 : ℝ) : EReal) := by
    by_cases h0 : t.val % 16 = 0
    · rw [outsAt0_A m c t h0]; frame_out; exact pay13 (blk2 h t) (ld5 h t 1 ![0, 256] _ rfl) (pay17 h t) y0 y1
    · rw [outsAt0_B m c t h0]; frame_out; exact pay13 (blk2 h t) (ld5 h t 1 ![0, 256] _ rfl) (pay17 h t) y0 y1
  rw [hp]
  rw [show (((View.whole main_v2_1).slice (win0_8.rect t)).emb (ix2 y0 y1) : S16384x256.Idx) = ix2 (row t y0) y1 by
    blk_ext [idx t, row]]
  rfl

/-- The gradient of group 2's rows. -/
theorem final9 : (dats m 0 c).arrAt 9 (cfgs 0).N = fun i => ((dy C Y g W 2 (i 0) (i 1) : ℝ) : EReal) := by
  refine (dats m 0 c).arrAt_eq_of_covers 9 _ (by decide +kernel) fun t _ y => ?_
  blk_simp
  rw [after0_9]
  idx_vars y
  have hp : (outsAt0 m c t.val t.isLt).2.2.1 (ix2 y0 y1) = ((dy C Y g W 2 (row t y0) y1 : ℝ) : EReal) := by
    by_cases h0 : t.val % 16 = 0
    · rw [outsAt0_A m c t h0]; frame_out; exact pay13 (blk3 h t) (ld5 h t 2 ![0, 512] _ rfl) (pay24 h t) y0 y1
    · rw [outsAt0_B m c t h0]; frame_out; exact pay13 (blk3 h t) (ld5 h t 2 ![0, 512] _ rfl) (pay24 h t) y0 y1
  rw [hp]
  rw [show (((View.whole main_v2_2).slice (win0_9.rect t)).emb (ix2 y0 y1) : S16384x256.Idx) = ix2 (row t y0) y1 by
    blk_ext [idx t, row]]
  rfl

/-- The gradient of group 3's rows. -/
theorem final10 : (dats m 0 c).arrAt 10 (cfgs 0).N = fun i => ((dy C Y g W 3 (i 0) (i 1) : ℝ) : EReal) := by
  refine (dats m 0 c).arrAt_eq_of_covers 10 _ (by decide +kernel) fun t _ y => ?_
  blk_simp
  rw [after0_10]
  idx_vars y
  have hp : (outsAt0 m c t.val t.isLt).2.2.2.1 (ix2 y0 y1) = ((dy C Y g W 3 (row t y0) y1 : ℝ) : EReal) := by
    by_cases h0 : t.val % 16 = 0
    · rw [outsAt0_A m c t h0]; frame_out; exact pay13 (blk4 h t) (ld5 h t 3 ![0, 768] _ rfl) (pay31 h t) y0 y1
    · rw [outsAt0_B m c t h0]; frame_out; exact pay13 (blk4 h t) (ld5 h t 3 ![0, 768] _ rfl) (pay31 h t) y0 y1
  rw [hp]
  rw [show (((View.whole main_v2_3).slice (win0_10.rect t)).emb (ix2 y0 y1) : S16384x256.Idx) = ix2 (row t y0) y1 by
    blk_ext [idx t, row]]
  rfl

section
omit h
theorem e15 : @k0_pay15 Ideal _ = k0_pay8 := rfl
theorem e22 : @k0_pay22 Ideal _ = k0_pay8 := rfl
theorem e29 : @k0_pay29 Ideal _ = k0_pay8 := rfl
end

/-- What a point adds to the gain's gradient at group 0's columns. -/
theorem pay12 (t : Fin cfg0.N) (acc : Vec Ideal S1x256 .f32) (x : S1x256.Idx) (f : Fin 1024) (hf : f.val = 0 + (x 1).val) :
    k0_pay12 (F := Ideal) (iblk m c 0 t) (iblk m c 6 t) (iblk m c 1 t) acc x = acc x + ((∑ a, dgRow C Y W (row t a) f : ℝ) : EReal) := by
  idx_vars x
  obtain rfl : f = col 0 x1 := Fin.ext (hf.trans (by simp [col]))
  pointwise [k0_pay12]
  simp only [pay10 h, pay8 (blk1 h t), mul_coe, sum_coe, dgRow, grp_col, lane_col]

/-- What a point adds to the gain's gradient at group 1's columns. -/
theorem pay19 (t : Fin cfg0.N) (acc : Vec Ideal S1x256 .f32) (x : S1x256.Idx) (f : Fin 1024) (hf : f.val = 256 + (x 1).val) :
    k0_pay19 (F := Ideal) (k0_pay6 (iblk m c 0 t) (iblk m c 6 t)) (iblk m c 2 t) acc x = acc x + ((∑ a, dgRow C Y W (row t a) f : ℝ) : EReal) := by
  idx_vars x
  obtain rfl : f = col 1 x1 := Fin.ext (hf.trans (by simp [col]))
  pointwise [k0_pay19]
  simp only [e15, pay17 h, pay8 (blk2 h t), mul_coe, sum_coe, dgRow, grp_col, lane_col]

/-- What a point adds to the gain's gradient at group 2's columns. -/
theorem pay26 (t : Fin cfg0.N) (acc : Vec Ideal S1x256 .f32) (x : S1x256.Idx) (f : Fin 1024) (hf : f.val = 512 + (x 1).val) :
    k0_pay26 (F := Ideal) (k0_pay6 (iblk m c 0 t) (iblk m c 6 t)) (iblk m c 3 t) acc x = acc x + ((∑ a, dgRow C Y W (row t a) f : ℝ) : EReal) := by
  idx_vars x
  obtain rfl : f = col 2 x1 := Fin.ext (hf.trans (by simp [col]))
  pointwise [k0_pay26]
  simp only [e22, pay24 h, pay8 (blk3 h t), mul_coe, sum_coe, dgRow, grp_col, lane_col]

/-- What a point adds to the gain's gradient at group 3's columns. -/
theorem pay33 (t : Fin cfg0.N) (acc : Vec Ideal S1x256 .f32) (x : S1x256.Idx) (f : Fin 1024) (hf : f.val = 768 + (x 1).val) :
    k0_pay33 (F := Ideal) (k0_pay6 (iblk m c 0 t) (iblk m c 6 t)) (iblk m c 4 t) acc x = acc x + ((∑ a, dgRow C Y W (row t a) f : ℝ) : EReal) := by
  idx_vars x
  obtain rfl : f = col 3 x1 := Fin.ext (hf.trans (by simp [col]))
  pointwise [k0_pay33]
  simp only [e29, pay31 h, pay8 (blk4 h t), mul_coe, sum_coe, dgRow, grp_col, lane_col]

/-- What a point adds to the projection's gradient. -/
theorem pay2 (t : Fin cfg0.N) (acc : FVec Ideal S1024x1024 .f32) (yv : Vec Ideal S1024x1024 .bf16)
    (hy : ∀ a e, yv (ix2 a e) = ((yn Y g (row t a) e : ℝ) : EReal)) (j : S1024x1024.Idx) :
    k0_pay2 (F := Ideal) (k0_pay5 (iblk m c 0 t)) acc yv j
      = acc j + ((∑ a, dwRow C Y g (row t a) (j 0) (j 1) : ℝ) : EReal) := by
  idx_vars j
  pointwise [k0_pay2, k0_pay5]
  simp only [hy, blk0 h, mul_coe, sum_coe]
  rfl

section
omit h

/-- A store of 256 columns that misses a column leaves what the earlier stores held there. -/
theorem cols_miss {o : ℕ} {inb} {w : (⟨2, ![1, 256]⟩ : Shape).Idx → EReal} {L : List (View.Piece (Elt Ideal) S1x1024 .f32)} (j : S1x1024.Idx)
    (hj : (j 1).val < o ∨ o + 256 ≤ (j 1).val) :
    View.canon ((⟨Rect.unit ![0, o] ![1, 256] inb, w⟩ : View.Piece (Elt Ideal) S1x1024 .f32) :: L) j = View.canon L j :=
  canon_newest j (fun x hx => by
    have h1 : (j 1).val = o + (x 1).val := hx 1
    have h2 : (x 1).val < 256 := (x 1).isLt
    omega) fun _ => rfl

/-- The block of zeros the first point stores. -/
theorem zeros {inb} (j : S1x1024.Idx) :
    View.canon [(⟨Rect.unit ![0, 0] ![1, 1024] inb, k0_pay3 (F := Ideal)⟩ : View.Piece (Elt Ideal) S1x1024 .f32)] j = (0 : EReal) := by
  refine canon_newest j (fun x _ => by idx_vars x; pointwise [k0_pay3]) fun ⟨a, ha⟩ => ?_
  have h0 : (j 0).val < 1 := (j 0).isLt
  have h1 : (j 1).val < 1024 := (j 1).isLt
  fin_cases a
  · have : (j 0).val < 0 ∨ 0 + 1 ≤ (j 0).val := ha
    omega
  · have : (j 1).val < 0 ∨ 0 + 1024 ≤ (j 1).val := ha
    omega
end

/-- What the first point leaves in the gain's gradient. -/
theorem first11 (t : Fin cfg0.N) (h0 : t.val % 16 = 0) (j : S1x1024.Idx) :
    (outsAt0 m c t.val t.isLt).2.2.2.2.1 j = 0 + ((∑ a, dgRow C Y W (row t a) (j 1) : ℝ) : EReal) := by
  rw [outsAt0_A m c t h0]
  frame_out
  refine canon_newest j (fun x hx => ?_) (fun n3 => canon_newest j (fun x hx => ?_) (fun n2 => canon_newest j (fun x hx => ?_)
    (fun n1 => canon_newest j (fun x hx => ?_) (fun n0 => ?_))))
  · have b : (j 1).val = 768 + (x 1).val := hx 1
    refine (pay33 h t _ x _ b).trans (congrArg (· + _) ((readCov_at _ _ _ x j hx).trans ?_))
    rw [cols_miss j (by omega), cols_miss j (by omega), cols_miss j (by omega), zeros]
  · have b : (j 1).val = 512 + (x 1).val := hx 1
    have b' : (x 1).val < 256 := (x 1).isLt
    refine (pay26 h t _ x _ b).trans (congrArg (· + _) ((readCov_at _ _ _ x j hx).trans ?_))
    rw [cols_miss j (by omega), cols_miss j (by omega), zeros]
  · have b : (j 1).val = 256 + (x 1).val := hx 1
    refine (pay19 h t _ x _ b).trans (congrArg (· + _) ((readCov_at _ _ _ x j hx).trans ?_))
    rw [cols_miss j (by omega), zeros]
  · refine (pay12 h t _ x _ (hx 1)).trans (congrArg (· + _) ((readCov_at _ _ _ x j hx).trans ?_))
    rw [zeros]
  · exfalso
    have o : ∀ k, (∃ a, (j a).val < ![0, k] a ∨ ![0, k] a + ![1, 256] a ≤ (j a).val) → (j 1).val < k ∨ k + 256 ≤ (j 1).val := by
      rintro k ⟨a, ha⟩
      have z0 : (j 0).val < 1 := (j 0).isLt
      fin_cases a
      · have : (j 0).val < 0 ∨ 0 + 1 ≤ (j 0).val := ha
        omega
      · exact ha
    have := o _ n0
    have := o _ n1
    have := o _ n2
    have := o _ n3
    have : (j 1).val < 1024 := (j 1).isLt
    omega

/-- What a later point leaves in the gain's gradient. -/
theorem next11 (t : Fin cfg0.N) (h0 : ¬t.val % 16 = 0) (j : S1x1024.Idx) :
    (outsAt0 m c t.val t.isLt).2.2.2.2.1 j = (outsAt0 m c (t.val - 1) (Nat.lt_of_le_of_lt (Nat.sub_le _ _) t.isLt)).2.2.2.2.1 j
      + ((∑ a, dgRow C Y W (row t a) (j 1) : ℝ) : EReal) := by
  rw [outsAt0_B m c t h0]
  frame_out
  generalize (outsAt0 m c (t.val - 1) _).2.2.2.2.1 = old
  refine canon_newest j (fun x hx => ?_) (fun n3 => canon_newest j (fun x hx => ?_) (fun n2 => canon_newest j (fun x hx => ?_)
    (fun n1 => canon_newest j (fun x hx => ?_) (fun n0 => ?_))))
  · exact (pay33 h t _ x _ (hx 1)).trans (congrArg (· + _) (View.ld_unit_apply_of _ _ _ _ _ j hx))
  · exact (pay26 h t _ x _ (hx 1)).trans (congrArg (· + _) (View.ld_unit_apply_of _ _ _ _ _ j hx))
  · exact (pay19 h t _ x _ (hx 1)).trans (congrArg (· + _) (View.ld_unit_apply_of _ _ _ _ _ j hx))
  · exact (pay12 h t _ x _ (hx 1)).trans (congrArg (· + _) (View.ld_unit_apply_of _ _ _ _ _ j hx))
  · exfalso
    have o : ∀ k, (∃ a, (j a).val < ![0, k] a ∨ ![0, k] a + ![1, 256] a ≤ (j a).val) → (j 1).val < k ∨ k + 256 ≤ (j 1).val := by
      rintro k ⟨a, ha⟩
      have z0 : (j 0).val < 1 := (j 0).isLt
      fin_cases a
      · have : (j 0).val < 0 ∨ 0 + 1 ≤ (j 0).val := ha
        omega
      · exact ha
    have := o _ n0
    have := o _ n1
    have := o _ n2
    have := o _ n3
    have : (j 1).val < 1024 := (j 1).isLt
    omega

/-- The gain's gradient. -/
theorem final11 : (dats m 0 c).arrAt 11 (cfgs 0).N = fun i => ((∑ r, dgRow C Y W r (i 1) : ℝ) : EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0)
    (fun t j => ((∑ a, dgRow C Y W (row t a) (j 1) : ℝ) : EReal)) (fun t h0 j => first11 h t h0 j) (fun t h0 j => next11 h t h0 j)
    (le_of_eq N_0) t0_15 rfl _, zero_add, sum_coe]
  exact congrArg _ (sum_points fun r => dgRow C Y W r (j 1))

/-- The scaled rows the four column stores of the scratch hold. -/
theorem scratch (t : Fin cfg0.N) (a e : Fin 1024) :
    View.canon
      [(⟨Rect.unit ![0, 768] ![1024, 256] inb_S1024x1024_S1024x256_0_768,
          k0_pay32 (F := Ideal) (iblk m c 4 t) (View.ld (iblk m c 5 t) (Rect.unit ![0, 768] ![1, 256] inb_S1x1024_S1x256_0_768))⟩ :
          View.Piece (Elt Ideal) S1024x1024 .bf16),
        ⟨Rect.unit ![0, 512] ![1024, 256] inb_S1024x1024_S1024x256_0_512,
          k0_pay25 (F := Ideal) (iblk m c 3 t) (View.ld (iblk m c 5 t) (Rect.unit ![0, 512] ![1, 256] inb_S1x1024_S1x256_0_512))⟩,
        ⟨Rect.unit ![0, 256] ![1024, 256] inb_S1024x1024_S1024x256_0_256,
          k0_pay18 (F := Ideal) (iblk m c 2 t) (View.ld (iblk m c 5 t) (Rect.unit ![0, 256] ![1, 256] inb_S1x1024_S1x256_0_256))⟩,
        ⟨Rect.unit ![0, 0] ![1024, 256] inb_S1024x1024_S1024x256_0_0,
          k0_pay11 (F := Ideal) (iblk m c 1 t) (View.ld (iblk m c 5 t) (Rect.unit ![0, 0] ![1, 256] inb_S1x1024_S1x256_0_0))⟩]
      (ix2 a e) = ((yn Y g (row t a) e : ℝ) : EReal) := by
  have key : ∀ (p : Fin 4) (o : ℕ), o = p.val * 256 → ∀ x : S1024x256.Idx,
      (∀ b, ((ix2 a e : S1024x1024.Idx) b).val = (![0, o] : Fin 2 → ℕ) b + (x b).val) → x = ix2 a (x 1) ∧ e = col p (x 1) := by
    rintro p o rfl x hx
    refine ⟨funext fun b => ?_, Fin.ext ?_⟩
    · fin_cases b
      · refine Fin.ext ?_
        have : a.val = 0 + (x 0).val := hx 0
        show (x 0).val = a.val
        omega
      · rfl
    · have : e.val = p.val * 256 + (x 1).val := hx 1
      simp only [col]
      omega
  refine canon_newest _ (fun x hx => ?_) (fun n3 => canon_newest _ (fun x hx => ?_) (fun n2 => canon_newest _ (fun x hx => ?_)
    (fun n1 => canon_newest _ (fun x hx => ?_) (fun n0 => ?_))))
  · obtain ⟨hx, he⟩ := key 3 768 rfl x hx
    rw [hx, he]
    exact pay11 (blk4 h t) (ld5 h t 3 ![0, 768] _ rfl) a _
  · obtain ⟨hx, he⟩ := key 2 512 rfl x hx
    rw [hx, he]
    exact pay11 (blk3 h t) (ld5 h t 2 ![0, 512] _ rfl) a _
  · obtain ⟨hx, he⟩ := key 1 256 rfl x hx
    rw [hx, he]
    exact pay11 (blk2 h t) (ld5 h t 1 ![0, 256] _ rfl) a _
  · obtain ⟨hx, he⟩ := key 0 0 rfl x hx
    rw [hx, he]
    exact pay11 (blk1 h t) (ld5 h t 0 ![0, 0] _ rfl) a _
  · exfalso
    have o : ∀ k, (∃ b, ((ix2 a e : S1024x1024.Idx) b).val < (![0, k] : Fin 2 → ℕ) b ∨
        (![0, k] : Fin 2 → ℕ) b + (![1024, 256] : Fin 2 → ℕ) b ≤ ((ix2 a e : S1024x1024.Idx) b).val) → e.val < k ∨ k + 256 ≤ e.val := by
      rintro k ⟨b, hb⟩
      have z0 := a.isLt
      fin_cases b
      · have : a.val < 0 ∨ 0 + 1024 ≤ a.val := hb
        omega
      · exact hb
    have := o _ n0
    have := o _ n1
    have := o _ n2
    have := o _ n3
    have := e.isLt
    omega

/-- What the first point leaves in the projection's gradient. -/
theorem first12 (t : Fin cfg0.N) (h0 : t.val % 16 = 0) (j : S1024x1024.Idx) :
    (outsAt0 m c t.val t.isLt).2.2.2.2.2 j = 0 + ((∑ a, dwRow C Y g (row t a) (j 0) (j 1) : ℝ) : EReal) := by
  rw [outsAt0_A m c t h0]
  frame_out
  refine (pay2 h t _ _ (fun a e => ?_) j).trans (congrArg (· + _) ?_)
  · exact (readCov_at _ _ _ _ (ix2 a e) (by intro b; fin_cases b <;> exact (Nat.zero_add _).symm)).trans (scratch h t a e)
  · idx_vars j
    pointwise [k0_pay4]

/-- What a later point leaves in the projection's gradient. -/
theorem next12 (t : Fin cfg0.N) (h0 : ¬t.val % 16 = 0) (j : S1024x1024.Idx) :
    (outsAt0 m c t.val t.isLt).2.2.2.2.2 j = (outsAt0 m c (t.val - 1) (Nat.lt_of_le_of_lt (Nat.sub_le _ _) t.isLt)).2.2.2.2.2 j
      + ((∑ a, dwRow C Y g (row t a) (j 0) (j 1) : ℝ) : EReal) := by
  rw [outsAt0_B m c t h0]
  frame_out
  exact pay2 h t _ _ (fun a e => (readCov_at _ _ _ _ (ix2 a e) (by intro b; fin_cases b <;> exact (Nat.zero_add _).symm)).trans (scratch h t a e)) j

/-- The projection's gradient. -/
theorem final12 : (dats m 0 c).arrAt 12 (cfgs 0).N = fun i => ((∑ r, dwRow C Y g r (i 0) (i 1) : ℝ) : EReal) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0)
    (fun t j => ((∑ a, dwRow C Y g (row t a) (j 0) (j 1) : ℝ) : EReal)) (fun t h0 j => first12 h t h0 j) (fun t h0 j => next12 h t h0 j)
    (le_of_eq N_0) t0_15 rfl _, zero_add, sum_coe]
  exact congrArg _ (sum_points fun r => dwRow C Y g r (j 0) (j 1))

end Cert.OutKernel
-- ==== Proof.OutRef.lean ====
/- What the output projection's reference computes, at finite arguments: four differentiated norms side by side and the product,
   read operation by operation. -/
module

public import proofs.«01_k».proof.Proof.OutMath
public import proofs.«01_k».proof.Proof.Gen.ReferenceOutIdeal.Read
public import Idealize.ShloMosaic.Lib.Claim

@[expose] public section

set_option maxRecDepth 16384

noncomputable section

open Idealize.ShloMosaic Idealize.SL.Sem

namespace Cert.OutRef

open Cert.ReferenceOutIdeal Cert.ReferenceOutIdeal.Gen Cert.ReferenceOutIdeal.Read Cert.RealKit Cert.OutMath

section
variable {y : (⟨S16384x256, .f32⟩ : BufTy).Contents (Elt Ideal)} {V : Fin 16384 → Fin 256 → ℝ}
variable (hy : ∀ r j, y (ix2 r j) = ((V r j : ℝ) : EReal))

include hy in
theorem v6 (r : Fin 16384) (z : Fin 1) : val_main_v6 (F := Ideal) y (ix2 r z) = ((msq 256 (V r) : ℝ) : EReal) := by
  pointwise [val_main_v6, val_main_v5, val_main_v4, val_main_v3, val_main_v2, val_main_v1, val_main_v0, val_main_cst,
    val_main_cst_0, val_main_cst_1]
  simp only [hy, c256, cEps, mul_coe, sum_coe]
  rw [div_coe _ _ (by norm_num), add_coe]
  rfl

include hy in
theorem v7 (r : Fin 16384) (z : Fin 1) : val_main_v7 (F := Ideal) y (ix2 r z) = ((rms 256 (V r) : ℝ) : EReal) := by
  pointwise [val_main_v7]
  rw [v6 hy, rsqrt_coe _ (msq_pos (by norm_num) _)]
  rfl

include hy in
theorem v10 (r : Fin 16384) (z : Fin 1) :
    val_main_v10 (F := Ideal) y (ix2 r z) = ((-1 / 2 * (rms 256 (V r) / msq 256 (V r)) : ℝ) : EReal) := by
  pointwise [val_main_v10, val_main_v9, val_main_v8, val_main_cst_2]
  rw [v6 hy, v7 hy, div_coe _ _ (msq_pos (by norm_num) _).ne', cNegHalf, mul_coe]

include hy in
theorem v12 (r : Fin 16384) (j : Fin 256) : val_main_v12 (F := Ideal) y (ix2 r j) = ((V r j * rms 256 (V r) : ℝ) : EReal) := by
  pointwise [val_main_v12, val_main_v11]
  rw [v7 hy, hy, mul_coe]
end

theorem e20 : @val_main_v20 Ideal _ = val_main_v7 := rfl
theorem e33 : @val_main_v33 Ideal _ = val_main_v7 := rfl
theorem e46 : @val_main_v46 Ideal _ = val_main_v7 := rfl
theorem e23 : @val_main_v23 Ideal _ = val_main_v10 := rfl
theorem e36 : @val_main_v36 Ideal _ = val_main_v10 := rfl
theorem e49 : @val_main_v49 Ideal _ = val_main_v10 := rfl
theorem e25 : @val_main_v25 Ideal _ = val_main_v12 := rfl
theorem e38 : @val_main_v38 Ideal _ = val_main_v12 := rfl
theorem e51 : @val_main_v51 Ideal _ = val_main_v12 := rfl

variable {x0 : (⟨S16384x1024, .f32⟩ : BufTy).Contents (Elt Ideal)} {x1 x2 x3 x4 : (⟨S16384x256, .f32⟩ : BufTy).Contents (Elt Ideal)}
variable {x5 : (⟨S1024, .f32⟩ : BufTy).Contents (Elt Ideal)} {x6 : (⟨S1024x1024, .f32⟩ : BufTy).Contents (Elt Ideal)}
variable {C : Fin 16384 → Fin 1024 → ℝ} {Y : Fin 4 → Fin 16384 → Fin 256 → ℝ} {g : Fin 1024 → ℝ} {W : Fin 1024 → Fin 1024 → ℝ}
variable (hC : ∀ r l, x0 (ix2 r l) = ((C r l : ℝ) : EReal)) (h1 : ∀ r j, x1 (ix2 r j) = ((Y 0 r j : ℝ) : EReal))
  (h2 : ∀ r j, x2 (ix2 r j) = ((Y 1 r j : ℝ) : EReal)) (h3 : ∀ r j, x3 (ix2 r j) = ((Y 2 r j : ℝ) : EReal))
  (h4 : ∀ r j, x4 (ix2 r j) = ((Y 3 r j : ℝ) : EReal)) (hg : ∀ l, x5 (ix1 l) = ((g l : ℝ) : EReal))
  (hW : ∀ e d, x6 (ix2 e d) = ((W e d : ℝ) : EReal))

include h1 h2 h3 h4 in
/-- The four normalised groups side by side. -/
theorem v52 (r : Fin 16384) (e : Fin 1024) :
    val_main_v52 (F := Ideal) x1 x2 x3 x4 (ix2 r e) = ((xn Y (grp e) r (lane e) : ℝ) : EReal) := by
  pointwise [val_main_v52]
  have key : ∀ (y : (⟨S16384x256, .f32⟩ : BufTy).Contents (Elt Ideal)) (p : Fin 4) (hy : ∀ r j, y (ix2 r j) = ((Y p r j : ℝ) : EReal))
      (k : Fin 256), e.val = p.val * 256 + k.val → val_main_v12 (F := Ideal) y (ix2 r k) = ((xn Y (grp e) r (lane e) : ℝ) : EReal) := by
    intro y p hy k hk
    obtain rfl : e = col p k := Fin.ext hk
    rw [v12 hy, grp_col, lane_col, xn]
  rw [e25, e38, e51]
  by_cases a : e.val < 256
  · rw [dif_pos a]
    exact key x1 0 h1 ⟨e.val, a⟩ (by simp)
  rw [dif_neg a]
  by_cases b : e.val - 256 < 256
  · rw [dif_pos b]
    exact key x2 1 h2 ⟨e.val - 256, b⟩ (by show e.val = 1 * 256 + (e.val - 256); omega)
  rw [dif_neg b]
  by_cases d : e.val - 256 - 256 < 256
  · rw [dif_pos d]
    exact key x3 2 h3 ⟨e.val - 256 - 256, d⟩ (by show e.val = 2 * 256 + (e.val - 256 - 256); omega)
  rw [dif_neg d]
  exact key x4 3 h4 ⟨e.val - 256 - 256 - 256, by omega⟩ (by show e.val = 3 * 256 + (e.val - 256 - 256 - 256); omega)

include hC hW in
theorem v59 (r : Fin 16384) (e : Fin 1024) : val_main_v59 (F := Ideal) x0 x6 (ix2 r e) = ((dyn C W r e : ℝ) : EReal) := by
  pointwise [val_main_v59]
  simp only [hC, hW, mul_coe, sum_coe]
  rfl

include hC hg hW in
theorem v64 (r : Fin 16384) (e : Fin 1024) : val_main_v64 (F := Ideal) x0 x5 x6 (ix2 r e) = ((dyn C W r e * g e : ℝ) : EReal) := by
  pointwise [val_main_v64, val_main_v63, val_main_v53]
  rw [v59 hC hW, hg, mul_coe]

include hC hg hW in
theorem v66 (r : Fin 16384) (j : Fin 256) :
    val_main_v66 (F := Ideal) x0 x5 x6 (ix2 r j) = ((dyn C W r (col 0 j) * g (col 0 j) : ℝ) : EReal) := by
  pointwise [val_main_v66]
  refine (v64 hC hg hW r _).trans (congrArg (fun e => ((dyn C W r e * g e : ℝ) : EReal)) (Fin.ext ?_))
  simp [col, add_comm]

include hC hg hW in
theorem v67 (r : Fin 16384) (j : Fin 256) :
    val_main_v67 (F := Ideal) x0 x5 x6 (ix2 r j) = ((dyn C W r (col 1 j) * g (col 1 j) : ℝ) : EReal) := by
  pointwise [val_main_v67]
  refine (v64 hC hg hW r _).trans (congrArg (fun e => ((dyn C W r e * g e : ℝ) : EReal)) (Fin.ext ?_))
  simp [col, add_comm]

include hC hg hW in
theorem v68 (r : Fin 16384) (j : Fin 256) :
    val_main_v68 (F := Ideal) x0 x5 x6 (ix2 r j) = ((dyn C W r (col 2 j) * g (col 2 j) : ℝ) : EReal) := by
  pointwise [val_main_v68]
  refine (v64 hC hg hW r _).trans (congrArg (fun e => ((dyn C W r e * g e : ℝ) : EReal)) (Fin.ext ?_))
  simp [col, add_comm]

include hC hg hW in
theorem v69 (r : Fin 16384) (j : Fin 256) :
    val_main_v69 (F := Ideal) x0 x5 x6 (ix2 r j) = ((dyn C W r (col 3 j) * g (col 3 j) : ℝ) : EReal) := by
  pointwise [val_main_v69]
  refine (v64 hC hg hW r _).trans (congrArg (fun e => ((dyn C W r e * g e : ℝ) : EReal)) (Fin.ext ?_))
  simp [col, add_comm]

/-- The differentiated norm as the reference writes it. -/
theorem back (x s : Fin 256 → ℝ) (j : Fin 256) :
    s j * rms 256 x + x j * ((∑ k, x k * s k) * (-1 / 2 * (rms 256 x / msq 256 x)) / 256)
      + (∑ k, x k * s k) * (-1 / 2 * (rms 256 x / msq 256 x)) / 256 * x j = normBack 256 x s j := by
  have e := norm_back (n := 256) (by norm_num) x s j
  unfold normBack
  linear_combination e

include hC h1 h2 h3 h4 hW in
/-- The gain's gradient. -/
theorem v126 (z : Fin 1) (e : Fin 1024) :
    val_main_v126 (F := Ideal) x0 x1 x2 x3 x4 x6 (ix2 z e) = ((∑ r, dgRow C Y W r e : ℝ) : EReal) := by
  pointwise [val_main_v126, val_main_v65, val_main_v62, val_main_v61, val_main_v60, val_main_cst_15, val_main_cst_16]
  simp only [Finset.univ_unique, Finset.sum_singleton, v52 h1 h2 h3 h4, v59 hC hW, mul_coe, sum_coe]
  exact congrArg _ (Finset.sum_congr rfl fun r _ => mul_comm _ _)

include hC h1 h2 h3 h4 hg in
/-- The projection's gradient. -/
theorem v58 (e d : Fin 1024) :
    val_main_v58 (F := Ideal) x0 x1 x2 x3 x4 x5 (ix2 e d) = ((∑ r, dwRow C Y g r e d : ℝ) : EReal) := by
  pointwise [val_main_v58, val_main_v57, val_main_v55, val_main_v54, val_main_v53]
  simp only [v52 h1 h2 h3 h4, hg, hC, mul_coe, sum_coe]
  exact congrArg _ (Finset.sum_congr rfl fun r _ => mul_comm _ _)

include hC h4 hg hW in
/-- The gradient of group 3's rows. -/
theorem v83 (r : Fin 16384) (j : Fin 256) :
    val_main_v83 (F := Ideal) x0 x4 x5 x6 (ix2 r j) = ((dy C Y g W 3 r j : ℝ) : EReal) := by
  pointwise [val_main_v83, val_main_v82, val_main_v81, val_main_v80, val_main_v79, val_main_v78, val_main_v77, val_main_v76, val_main_v75, val_main_v74, val_main_v73, val_main_v72, val_main_v71, val_main_v70, val_main_cst_17, val_main_cst_18, val_main_cst_19]
  simp only [Finset.univ_unique, Finset.sum_singleton, e46, e49, v7 h4, v10 h4, v69 hC hg hW, h4, c256, mul_coe, sum_coe,
    div_coe _ _ (show (256 : ℝ) ≠ 0 by norm_num), add_coe]
  exact congrArg _ (back (Y 3 r) (fun k => dyn C W r (col 3 k) * g (col 3 k)) j)

include hC h3 hg hW in
/-- The gradient of group 2's rows. -/
theorem v97 (r : Fin 16384) (j : Fin 256) :
    val_main_v97 (F := Ideal) x0 x3 x5 x6 (ix2 r j) = ((dy C Y g W 2 r j : ℝ) : EReal) := by
  pointwise [val_main_v97, val_main_v96, val_main_v95, val_main_v94, val_main_v93, val_main_v92, val_main_v91, val_main_v90, val_main_v89, val_main_v88, val_main_v87, val_main_v86, val_main_v85, val_main_v84, val_main_cst_20, val_main_cst_21, val_main_cst_22]
  simp only [Finset.univ_unique, Finset.sum_singleton, e33, e36, v7 h3, v10 h3, v68 hC hg hW, h3, c256, mul_coe, sum_coe,
    div_coe _ _ (show (256 : ℝ) ≠ 0 by norm_num), add_coe]
  exact congrArg _ (back (Y 2 r) (fun k => dyn C W r (col 2 k) * g (col 2 k)) j)

include hC h2 hg hW in
/-- The gradient of group 1's rows. -/
theorem v111 (r : Fin 16384) (j : Fin 256) :
    val_main_v111 (F := Ideal) x0 x2 x5 x6 (ix2 r j) = ((dy C Y g W 1 r j : ℝ) : EReal) := by
  pointwise [val_main_v111, val_main_v110, val_main_v109, val_main_v108, val_main_v107, val_main_v106, val_main_v105, val_main_v104, val_main_v103, val_main_v102, val_main_v101, val_main_v100, val_main_v99, val_main_v98, val_main_cst_23, val_main_cst_24, val_main_cst_25]
  simp only [Finset.univ_unique, Finset.sum_singleton, e20, e23, v7 h2, v10 h2, v67 hC hg hW, h2, c256, mul_coe, sum_coe,
    div_coe _ _ (show (256 : ℝ) ≠ 0 by norm_num), add_coe]
  exact congrArg _ (back (Y 1 r) (fun k => dyn C W r (col 1 k) * g (col 1 k)) j)

include hC h1 hg hW in
/-- The gradient of group 0's rows. -/
theorem v125 (r : Fin 16384) (j : Fin 256) :
    val_main_v125 (F := Ideal) x0 x1 x5 x6 (ix2 r j) = ((dy C Y g W 0 r j : ℝ) : EReal) := by
  pointwise [val_main_v125, val_main_v124, val_main_v123, val_main_v122, val_main_v121, val_main_v120, val_main_v119, val_main_v118, val_main_v117, val_main_v116, val_main_v115, val_main_v114, val_main_v113, val_main_v112, val_main_cst_26, val_main_cst_27, val_main_cst_28]
  simp only [Finset.univ_unique, Finset.sum_singleton, v7 h1, v10 h1, v66 hC hg hW, h1, c256, mul_coe, sum_coe,
    div_coe _ _ (show (256 : ℝ) ≠ 0 by norm_num), add_coe]
  exact congrArg _ (back (Y 0 r) (fun k => dyn C W r (col 0 k) * g (col 0 k)) j)

end Cert.OutRef

end
-- ==== Proof.OutClaim.lean ====
/- The output projection's pair: its frames and its equality at finite arguments. -/
module

public import proofs.«01_k».proof.Defs
public import proofs.«01_k».proof.Proof.OutKernel
public import proofs.«01_k».proof.Proof.OutRef
public import proofs.«01_k».proof.Proof.Gen.KernelOut.Frame
public import proofs.«01_k».proof.Proof.Gen.Pre_finite_out

@[expose] public section

set_option maxRecDepth 16384

noncomputable section

open Idealize.ShloMosaic Idealize.ShloMosaic.TcCoe Idealize.SL.Sem

namespace Cert.OutClaim

open Cert.RealKit

/-- Finite arguments are real arrays. -/
theorem args {m : (ℓ : Loc Cert.KernelOutIdeal.nD Cert.KernelOutIdeal.τ Cert.KernelOutIdeal.sig) → Buf (Elt Ideal) ℓ}
    (h : Pre_KernelOutIdeal_finite_out m) (c : Dev Cert.KernelOutIdeal.nD) : ∃ (C : Fin 16384 → Fin 1024 → ℝ)
      (Y : Fin 4 → Fin 16384 → Fin 256 → ℝ) (g : Fin 1024 → ℝ) (W : Fin 1024 → Fin 1024 → ℝ), Cert.OutKernel.Args m c C Y g W := by
  obtain ⟨h0, h1, h2, h3, h4, h5, h6⟩ := h c
  obtain ⟨C, hC⟩ := exists_reals _ _ (fun _ => cInf) h0
  obtain ⟨Ya, ha⟩ := exists_reals _ _ (fun _ => cInf) h1
  obtain ⟨Yb, hb⟩ := exists_reals _ _ (fun _ => cInf) h2
  obtain ⟨Yc, hc⟩ := exists_reals _ _ (fun _ => cInf) h3
  obtain ⟨Yd, hd⟩ := exists_reals _ _ (fun _ => cInf) h4
  obtain ⟨g, hg⟩ := exists_reals _ _ (fun _ => cInf) h5
  obtain ⟨W, hW⟩ := exists_reals _ _ (fun _ => cInf) h6
  exact ⟨fun r l => C (ix2 r l), ![fun r j => Ya (ix2 r j), fun r j => Yb (ix2 r j), fun r j => Yc (ix2 r j), fun r j => Yd (ix2 r j)],
    fun l => g (ix1 l), fun e d => W (ix2 e d), fun _ _ => hC _, fun _ _ => ha _, fun _ _ => hb _, fun _ _ => hc _, fun _ _ => hd _,
    fun _ => hg _, fun _ _ => hW _⟩

theorem kernel : quiescent_KernelOut := fun m g _ => Cert.KernelOut.Gen.frame m g
theorem kernelIdeal : quiescent_KernelOutIdeal := fun m g _ => Cert.KernelOutIdeal.Gen.frame m g
theorem kernelIdeal_pre : quiescent_KernelOutIdeal_pre_finite_out := fun m g _ => Cert.KernelOutIdeal.Gen.frame m g
theorem reference : quiescent_ReferenceOutIdeal := fun m g _ =>
  (θ_run Cert.ReferenceOutIdeal.defs _ _).mono (fun r h => ⟨fun c => (h c).2.2.2.2.2.2, sem_eq_zero_of_no_sems rfl _⟩)
    (Cert.ReferenceOutIdeal.Value.run m g)
theorem reference_pre : quiescent_ReferenceOutIdeal_pre_finite_out := fun m g _ => reference m g trivial

theorem algebraic : algebraic_KernelOutIdeal_ReferenceOutIdeal_pre_finite_out := by
  intro m g m' g' hpre hagree
  refine ⟨_, _, _, _, _, _, Cert.KernelOutIdeal.Value.run_blocks m g,
    (θ_run Cert.ReferenceOutIdeal.defs _ _).mono (fun r h c => ?_) (Cert.ReferenceOutIdeal.Value.run m' g')⟩
  obtain ⟨C, Y, gn, W, ha⟩ := args hpre c
  obtain ⟨e0, e1, e2, e3, e4, e5, e6⟩ := hagree c
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩
  · rw [Cert.ReferenceOutIdeal.Read.val_main_v125_eq, e0, e1, e5, e6]
    refine Eq.trans ?_ (Cert.OutKernel.final7 ha).symm
    funext i
    idx_vars i
    exact Cert.OutRef.v125 ha.ct ha.y0 ha.gain ha.w _ _
  · rw [Cert.ReferenceOutIdeal.Read.val_main_v111_eq, e0, e2, e5, e6]
    refine Eq.trans ?_ (Cert.OutKernel.final8 ha).symm
    funext i
    idx_vars i
    exact Cert.OutRef.v111 ha.ct ha.y1 ha.gain ha.w _ _
  · rw [Cert.ReferenceOutIdeal.Read.val_main_v97_eq, e0, e3, e5, e6]
    refine Eq.trans ?_ (Cert.OutKernel.final9 ha).symm
    funext i
    idx_vars i
    exact Cert.OutRef.v97 ha.ct ha.y2 ha.gain ha.w _ _
  · rw [Cert.ReferenceOutIdeal.Read.val_main_v83_eq, e0, e4, e5, e6]
    refine Eq.trans ?_ (Cert.OutKernel.final10 ha).symm
    funext i
    idx_vars i
    exact Cert.OutRef.v83 ha.ct ha.y3 ha.gain ha.w _ _
  · refine (Cert.ReferenceOutIdeal.Read.val_main_v126_eq _ _ _ _ _ _).trans ?_
    rw [e0, e1, e2, e3, e4, e6]
    refine Eq.trans ?_ (Cert.OutKernel.final11 ha).symm
    funext i
    idx_vars i
    exact Cert.OutRef.v126 ha.ct ha.y0 ha.y1 ha.y2 ha.y3 ha.w _ _
  · refine (Cert.ReferenceOutIdeal.Read.val_main_v58_eq _ _ _ _ _ _).trans ?_
    rw [e0, e1, e2, e3, e4, e5]
    refine Eq.trans ?_ (Cert.OutKernel.final12 ha).symm
    funext i
    idx_vars i
    exact Cert.OutRef.v58 ha.ct ha.y0 ha.y1 ha.y2 ha.y3 ha.gain _ _

end Cert.OutClaim
-- ==== Proof.AttnRun.lean ====
module

public import proofs.«01_k».proof.Proof.Gen.KernelAttnIdeal.Launch
public import proofs.«01_k».proof.Proof.Gen.KernelAttnIdeal.Skeleton
public import proofs.«01_k».proof.Proof.Gen.KernelAttnIdeal.Points
public import Idealize.ShloMosaic.Lib.Pipeline.FrameBody
public import Idealize.ShloMosaic.Lib.Tactic

@[expose] public section

noncomputable section

/-! The walk of the attention's backward call over the key tiles: what one trip does to the values it carries and
    to the two accumulators, and the loop as a recursion on the trips still to run. -/

namespace Cert.AttnRun

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The loop's recursion is bounded by the trips still to run. -/
abbrev 𝒱₀ : Variants := Variants.nat

/-- What the walk reads and never changes: the query tile's values by head, and the key and value columns. -/
structure Fixed (F : FTy → Type) where
  i : grid0.Coords
  keys : Vec F S16384x128 .bf16
  vals : Vec F S16384x128 .bf16
  upper : Vec F S256x256 .bf16
  upperEq : Vec F S256x256 .bf16
  q0 : FVec F S256x128 .bf16
  q1 : FVec F S256x128 .bf16
  d0 : FVec F S256x128 .bf16
  d1 : FVec F S256x128 .bf16
  tot0 : FVec F S256x1 .f32
  tot1 : FVec F S256x1 .f32
  lane0 : IVec S1x128 1
  lane1 : IVec S1x128 1

/-- What a trip hands to the next: the flag, the query gradient's tile, the two running sums of each head, and the
    accumulators of the keys' and the values' gradients. -/
structure Carry (F : FTy → Type) where
  alive : BitVec 32
  acc : FVec F S256x128 .f32
  c0 : FVec F S256x1 .f32
  c1 : FVec F S256x1 .f32
  n0 : FVec F S256x1 .f32
  n1 : FVec F S256x1 .f32
  dk : Vec F S16384x128 .f32
  dv : Vec F S16384x128 .f32

/-- The key tile's rectangle. -/
abbrev rK (kb : BitVec 32) (h : k0_chk1 kb) : Rect S16384x128 :=
  Rect.unit (s := S16384x128) (k0_off1 kb) S256x128.size (k0_off1_inb kb h)

/-- The triangle's rectangle. -/
abbrev rU : Rect S256x256 := Rect.unit (s := S256x256) ![0, 0] S256x256.size inb_S256x256_S256x256_0_0

/-- The bound of the walk's running sums: the name of the rounded threshold. -/
abbrev cut : F .f32 := Named.named κ "cut" 0xC2D00000#32

section Trip

variable (p : Fixed F) (kb : BitVec 32) (h : k0_chk1 kb) (s : Carry F)

/-- The query tile's number. -/
abbrev Fixed.qi (p : Fixed F) : BitVec 32 := BitVec.ofNat 32 (p.i 1).val
abbrev keyTile : Vec F S256x128 .bf16 := View.ld p.keys (rK kb h)
abbrev valTile : Vec F S256x128 .bf16 := View.ld p.vals (rK kb h)
abbrev tri : Vec F S256x256 .bf16 := View.ld p.upper rU
abbrev triEq : Vec F S256x256 .bf16 := View.ld p.upperEq rU
abbrev causal : IVec S256x256 1 := k0_pay23 kb p.qi

/-- The first head: its weights, its weighted products, what it adds to the key gradient, its new sums. -/
def weights0 : FVec F S256x256 .bf16 :=
  k0_pay33 s.c0 (causal p kb) (k0_pay28 p.q0 (keyTile p kb h)) (k0_pay30 p.q0 kb p.qi (keyTile p kb h)) (k0_pay31 p.q0 kb p.qi (keyTile p kb h)) (k0_pay32 (tri p)) (tri p)
def gw0 : FVec F S256x256 .f32 :=
  k0_pay34 p.d0 s.c0 (k0_pay22 (valTile p kb h)) (causal p kb) (k0_pay28 p.q0 (keyTile p kb h)) (k0_pay30 p.q0 kb p.qi (keyTile p kb h)) (k0_pay31 p.q0 kb p.qi (keyTile p kb h)) (k0_pay32 (tri p)) (tri p)
def acc0 : FVec F S256x128 .f32 :=
  k0_pay36 p.d0 p.tot0 p.lane0 s.acc s.c0 s.n0 (k0_pay21 (keyTile p kb h)) (k0_pay22 (valTile p kb h)) (causal p kb) (k0_pay28 p.q0 (keyTile p kb h)) (k0_pay30 p.q0 kb p.qi (keyTile p kb h)) (k0_pay31 p.q0 kb p.qi (keyTile p kb h)) (k0_pay32 (tri p)) (tri p) (triEq p) (triEq p)
def dk0 : FVec F S256x128 .f32 :=
  k0_pay38 (k0_pay24 (F := F)) (k0_pay37 p.q0 p.d0 p.tot0 s.c0 s.n0 (k0_pay22 (valTile p kb h)) (causal p kb) (k0_pay28 p.q0 (keyTile p kb h)) (k0_pay30 p.q0 kb p.qi (keyTile p kb h)) (k0_pay31 p.q0 kb p.qi (keyTile p kb h)) (k0_pay32 (tri p)) (tri p) (triEq p) (triEq p))
def dv0 : FVec F S256x128 .f32 := k0_pay39 p.d0 (k0_pay25 (F := F)) (weights0 p kb h s)
def sumC0 : FVec F S256x1 .f32 := k0_pay40 s.c0 (k0_pay29 p.q0 kb p.qi (keyTile p kb h))
def sumN0 : FVec F S256x1 .f32 := k0_pay41 s.n0 (gw0 p kb h s)

/-- The second head, on top of the first. -/
def lb1 : FVec F S256x256 .f32 := k0_pay44 p.q1 (k0_pay21 (keyTile p kb h))
def lom1 : FVec F S256x256 .f32 := k0_pay45 p.q1 (k0_pay21 (keyTile p kb h)) (causal p kb)
def expo1 : FVec F S256x256 .f32 := k0_pay46 p.q1 s.c1 (k0_pay21 (keyTile p kb h)) (causal p kb) (tri p) (tri p)
def acc1 : FVec F S256x128 .f32 :=
  k0_pay51 p.d1 p.tot1 p.lane1 s.n1 (k0_pay21 (keyTile p kb h)) (k0_pay22 (valTile p kb h)) (causal p kb) (acc0 p kb h s) (lb1 p kb h) (expo1 p kb h s) (k0_pay47 (F := F)) (triEq p) (triEq p)
def dk1 : FVec F S256x128 .f32 :=
  k0_pay52 p.q1 p.d1 p.tot1 s.n1 (k0_pay22 (valTile p kb h)) (causal p kb) (dk0 p kb h s) (lb1 p kb h) (expo1 p kb h s) (k0_pay47 (F := F)) (triEq p) (triEq p)
def dv1 : FVec F S256x128 .f32 := k0_pay53 p.d1 (causal p kb) (dv0 p kb h s) (expo1 p kb h s) (k0_pay47 (F := F))
def sumC1 : FVec F S256x1 .f32 := k0_pay54 s.c1 (lom1 p kb h)
def sumN1 : FVec F S256x1 .f32 := k0_pay55 p.d1 s.n1 (k0_pay22 (valTile p kb h)) (causal p kb) (expo1 p kb h s) (k0_pay47 (F := F))

/-- The keys' accumulator after the trip: the tile overwritten with what it held plus both heads' part. -/
def putK (d : Vec F S16384x128 .f32) (w : FVec F S256x128 .f32) : Vec F S16384x128 .f32 :=
  ((Memref.whole cc0_scratch0).access (rK kb h) : View sig .tc _ _ _).write (Elt F) d w Finset.univ
def putV (d : Vec F S16384x128 .f32) (w : FVec F S256x128 .f32) : Vec F S16384x128 .f32 :=
  ((Memref.whole cc0_scratch1).access (rK kb h) : View sig .tc _ _ _).write (Elt F) d w Finset.univ

/-- One trip. -/
def trip : Carry F where
  alive := Scalar.extui (Scalar.cmpf .ogt (k0_pay3 (sumC0 p kb h s) (sumC1 p kb h s)) cut)
  acc := acc1 p kb h s
  c0 := sumC0 p kb h s
  c1 := sumC1 p kb h s
  n0 := sumN0 p kb h s
  n1 := sumN1 p kb h s
  dk := putK kb h s.dk (k0_pay1 (dk1 p kb h s) (View.ld s.dk (rK kb h)))
  dv := putV kb h s.dv (k0_pay2 (dv1 p kb h s) (View.ld s.dv (rK kb h)))

end Trip

/-- The tile's number on the trip with `k` more to run. -/
abbrev kbOf (k : ℕ) : BitVec 32 := BitVec.ofNat 32 k

theorem chk_of_lt : ∀ k < 64, k0_chk1 (kbOf k) := by decide +kernel

/-- The walk with `k` trips still to run: it stops where the flag is down. -/
def walk (p : Fixed F) : ℕ → Carry F → Carry F
  | 0, s => s
  | k + 1, s => if hk : k < 64 then
      if Scalar.cmpi .sgt s.alive 0#32 = 1#1 then walk p k (trip p (kbOf k) (chk_of_lt k hk) s) else s
    else s

/-- The counter before the trip with `k` more after it. -/
abbrev ctr (k : ℕ) : BitVec 32 := Scalar.subi (BitVec.ofNat 32 k) 1#32
theorem ctr_succ : ∀ k < 64, ctr (k + 1) = kbOf k := by decide +kernel
theorem ctr_test : ∀ k < 64, Scalar.cmpi .sge (kbOf k) 0#32 = 1#1 := by decide +kernel
theorem andi_one : ∀ a : BitVec 1, Scalar.andi 1#1 a = a := by decide
theorem andi_zero : ∀ a : BitVec 1, Scalar.andi 0#1 a = 0#1 := by decide

section Label

variable (c : Dev nD) (o : Fixed F)
  (arg3 : Memref sig .tc .vmem S16384x128 .bf16) (harg3 : arg3.IsWhole) (arg4 : Memref sig .tc .vmem S16384x128 .bf16) (harg4 : arg4.IsWhole)
  (arg7 : Memref sig .tc .vmem S256x256 .bf16) (harg7 : arg7.IsWhole) (arg8 : Memref sig .tc .vmem S256x256 .bf16) (harg8 : arg8.IsWhole)
  (g3 : Buf (Elt F) (arg3.view.loc (c : Thread nD τ))) (g4 : Buf (Elt F) (arg4.view.loc (c : Thread nD τ)))
  (g7 : Buf (Elt F) (arg7.view.loc (c : Thread nD τ))) (g8 : Buf (Elt F) (arg8.view.loc (c : Thread nD τ)))

/-- The values the walk reads, its four arrays read out of their buffers. -/
abbrev fixedOf : Fixed F :=
  { o with keys := arg3.view.read (Elt F) g3, vals := arg4.view.read (Elt F) g4, upper := arg7.view.read (Elt F) g7,
           upperEq := arg8.view.read (Elt F) g8 }

/-- What the walk holds: its four inputs whole, and the two accumulators. -/
def held (dk dv : Vec F S16384x128 .f32) : sProp 𝕄 :=
  iprop((arg3.view.loc (c : Thread nD τ) ↦[arg3.view.set]{fullShare} g3) ∗ (arg4.view.loc (c : Thread nD τ) ↦[arg4.view.set]{fullShare} g4)
    ∗ (arg7.view.loc (c : Thread nD τ) ↦[arg7.view.set]{fullShare} g7) ∗ (arg8.view.loc (c : Thread nD τ) ↦[arg8.view.set]{fullShare} g8)
    ∗ ((Memref.whole cc0_scratch0).view.loc (c : Thread nD τ) ↦{fullShare} dk) ∗ ((Memref.whole cc0_scratch1).view.loc (c : Thread nD τ) ↦{fullShare} dv))

/-- The loop's seven values. -/
abbrev Res (F : FTy → Type) : Type :=
  BitVec 32 × BitVec 32 × FVec F S256x128 .f32 × FVec F S256x1 .f32 × FVec F S256x1 .f32 × FVec F S256x1 .f32 × FVec F S256x1 .f32

/-- The loop's specification with `k` trips to run: it returns the gradient tile the walk ends with. -/
def spec (k : ℕ) (s : Carry F) : sWPT 𝕄 (Res F) := do
  sWPT.consume (held c arg3 arg4 arg7 arg8 g3 g4 g7 g8 s.dk s.dv)
  let r ← sWPT.arbitrary
  sWPT.assume (r.2.2.1 = (walk (fixedOf c o arg3 arg4 arg7 arg8 g3 g4 g7 g8) k s).acc)
  sWPT.produce (held c arg3 arg4 arg7 arg8 g3 g4 g7 g8 (walk (fixedOf c o arg3 arg4 arg7 arg8 g3 g4 g7 g8) k s).dk (walk (fixedOf c o arg3 arg4 arg7 arg8 g3 g4 g7 g8) k s).dv)
  pure r

theorem spec_apply (k : ℕ) (s : Carry F) (K : Res F → sProp 𝕄) :
    spec c o arg3 arg4 arg7 arg8 g3 g4 g7 g8 k s K
      = iprop(held c arg3 arg4 arg7 arg8 g3 g4 g7 g8 s.dk s.dv ∗ ∀ r : Res F, ⌜r.2.2.1 = (walk (fixedOf c o arg3 arg4 arg7 arg8 g3 g4 g7 g8) k s).acc⌝ -∗
          (held c arg3 arg4 arg7 arg8 g3 g4 g7 g8 (walk (fixedOf c o arg3 arg4 arg7 arg8 g3 g4 g7 g8) k s).dk (walk (fixedOf c o arg3 arg4 arg7 arg8 g3 g4 g7 g8) k s).dv -∗ K r)) := rfl

/-- The loop on the carried values. -/
abbrev args (kb : BitVec 32) (s : Carry F) : Cc0While1 F :=
  ⟨o.i, arg3, harg3, arg4, harg4, o.q0, arg7, harg7, o.d0, o.tot0, arg8, harg8, o.lane0, o.q1, o.d1, o.tot1, o.lane1,
    Memref.whole cc0_scratch0, Memref.isWhole_whole _, Memref.whole cc0_scratch1, Memref.isWhole_whole _, kb, s.alive, s.acc, s.c0, s.c1, s.n0, s.n1⟩

theorem spec_le (E : Set ℕ) : ∀ k ≤ 64, ∀ (s : Carry F) K, spec c o arg3 arg4 arg7 arg8 g3 g4 g7 g8 k s K
      ⊢ wp frame (wpE (defs₀ (F := F)) 𝒱₀ (c : Thread nD τ) (some k)) E
          (defs₀ (F := F) .tc 1 (args o arg3 harg3 arg4 harg4 arg7 harg7 arg8 harg8 (ctr k) s)) K := by
  intro k
  induction k with
  | zero =>
    intro _ s K
    rw [spec_apply]
    show _ ⊢ wp frame (wpE (defs₀ (F := F)) 𝒱₀ (c : Thread nD τ) (some 0)) E
      (cc0_while1 o.i arg3 harg3 arg4 harg4 o.q0 arg7 harg7 o.d0 o.tot0 arg8 harg8 o.lane0 o.q1 o.d1 o.tot1 o.lane1
        (Memref.whole cc0_scratch0) (Memref.isWhole_whole _) (Memref.whole cc0_scratch1) (Memref.isWhole_whole _) (ctr 0) s.alive s.acc s.c0 s.c1 s.n0 s.n1) K
    simp only [cc0_while1_eq_skeleton]; unfold cc0_while1_skel
    have htest : ¬Scalar.andi (Scalar.cmpi .sge (ctr 0) 0#32) (Scalar.cmpi .sgt s.alive 0#32) = 1#1 := by
      rw [show Scalar.cmpi .sge (ctr 0) 0#32 = 0#1 from by decide, andi_zero]; decide
    simp only [htest, ↓reduceIte, Prog.pure_eq_ret]
    iintro ⟨H, Hk⟩
    rw [wp_ret]; imodintro
    iapply Hk
    · ipureintro; rfl
    · simp only [walk]; iexact H
  | succ k ih =>
    intro hk s K
    have hk64 : k < 64 := hk
    rw [spec_apply]
    show _ ⊢ wp frame (wpE (defs₀ (F := F)) 𝒱₀ (c : Thread nD τ) (some (k + 1))) E
      (cc0_while1 o.i arg3 harg3 arg4 harg4 o.q0 arg7 harg7 o.d0 o.tot0 arg8 harg8 o.lane0 o.q1 o.d1 o.tot1 o.lane1
        (Memref.whole cc0_scratch0) (Memref.isWhole_whole _) (Memref.whole cc0_scratch1) (Memref.isWhole_whole _) (ctr (k + 1)) s.alive s.acc s.c0 s.c1 s.n0 s.n1) K
    rw [ctr_succ k hk64]
    simp only [cc0_while1_eq_skeleton]; unfold cc0_while1_skel
    by_cases ha : Scalar.cmpi .sgt s.alive 0#32 = 1#1
    · have htest : Scalar.andi (Scalar.cmpi .sge (kbOf k) 0#32) (Scalar.cmpi .sgt s.alive 0#32) = 1#1 := by
        rw [ctr_test k hk64, andi_one, ha]
      have hchk := chk_of_lt k hk64
      have hw : walk (fixedOf c o arg3 arg4 arg7 arg8 g3 g4 g7 g8) (k + 1) s = walk (fixedOf c o arg3 arg4 arg7 arg8 g3 g4 g7 g8) k (trip (fixedOf c o arg3 arg4 arg7 arg8 g3 g4 g7 g8) (kbOf k) hchk s) := by
        rw [walk, dif_pos hk64, if_pos ha]
      rw [hw]
      simp only [htest, ↓reduceIte, k0_part3_eq_skeleton, k0_part4_eq_skeleton, k0_part5_eq_skeleton, k0_part6_eq_skeleton]
      unfold held
      iintro ⟨⟨Hkeys, Hvals, Hup, Hue, Hdk, Hdv⟩, Hk⟩
      sl_exec
      iapply (wp_call_spec 𝒱₀ (c : Thread nD τ) (some (k + 1)) E (spec c o arg3 arg4 arg7 arg8 g3 g4 g7 g8 k (trip (fixedOf c o arg3 arg4 arg7 arg8 g3 g4 g7 g8) (kbOf k) hchk s)) k
        (fun u hu => by cases hu; exact Nat.lt_succ_self k) (ih (by omega) (trip (fixedOf c o arg3 arg4 arg7 arg8 g3 g4 g7 g8) (kbOf k) hchk s)))
      rw [spec_apply]; unfold held
      isplitl [Hkeys Hvals Hup Hue Hdk Hdv]
      · isplitl [Hkeys]; · iexact Hkeys
        isplitl [Hvals]; · iexact Hvals
        isplitl [Hup]; · iexact Hup
        isplitl [Hue]; · iexact Hue
        isplitl [Hdk]; · iexact Hdk
        iexact Hdv
      iintro %r %hr ⟨Hkeys, Hvals, Hup, Hue, Hdk, Hdv⟩
      rw [wp_ret]; imodintro
      iapply Hk
      · ipureintro; exact hr
      · isplitl [Hkeys]; · iexact Hkeys
        isplitl [Hvals]; · iexact Hvals
        isplitl [Hup]; · iexact Hup
        isplitl [Hue]; · iexact Hue
        isplitl [Hdk]; · iexact Hdk
        iexact Hdv
    · have htest : ¬Scalar.andi (Scalar.cmpi .sge (kbOf k) 0#32) (Scalar.cmpi .sgt s.alive 0#32) = 1#1 := by
        rw [ctr_test k hk64, andi_one]; exact ha
      have hw : walk (fixedOf c o arg3 arg4 arg7 arg8 g3 g4 g7 g8) (k + 1) s = s := by rw [walk, dif_pos hk64, if_neg ha]
      rw [hw]
      simp only [htest, ↓reduceIte, Prog.pure_eq_ret]
      iintro ⟨H, Hk⟩
      rw [wp_ret]; imodintro
      iapply Hk
      · ipureintro; rfl
      · iexact H

end Label

end Cert.AttnRun
-- ==== Proof.AttnBody.lean ====
module

public import proofs.«01_k».proof.Proof.AttnRun

@[expose] public section

noncomputable section

/-! The attention's backward body at one grid point: the query tile's values, the walk, the copies out. -/

namespace Cert.AttnRun

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A tile read whole. -/
abbrev rT : Rect S256x128 := Rect.unit (s := S256x128) ![0, 0] S256x128.size inb_S256x128_S256x128_0_0

/-- The values the walk reads at one point, from the blocks. -/
def fixedAt (i : grid0.Coords) (x0 : Vec F S256x128 .bf16) (x1 x2 : Vec F S16384x128 .bf16) (x3 x4 : Vec F S256x128 .f32)
    (x5 x6 : Vec F S256x256 .bf16) : Fixed F where
  i := i
  keys := x1
  vals := x2
  upper := x5
  upperEq := x6
  q0 := k0_pay13 (k0_pay6 (View.ld x0 rT)) (k0_pay10)
  q1 := k0_pay17 (k0_pay6 (View.ld x0 rT)) (k0_pay9)
  d0 := k0_pay14 (k0_pay7 (View.ld x3 rT)) (k0_pay10)
  d1 := k0_pay18 (k0_pay7 (View.ld x3 rT)) (k0_pay9)
  tot0 := k0_pay12 (k0_pay8 (View.ld x3 rT) (View.ld x4 rT)) (Scalar.ofBits .f32 0x00000000#32) k0_pay11
  tot1 := k0_pay16 (k0_pay8 (View.ld x3 rT) (View.ld x4 rT)) (k0_pay9)
  lane0 := k0_pay10
  lane1 := k0_pay15 (k0_pay9)

/-- The values the walk starts with, the accumulators as they stand. -/
def startAt (dk dv : Vec F S16384x128 .f32) : Carry F where
  alive := 1#32
  acc := k0_pay19 (F := F)
  c0 := k0_pay20 (F := F)
  c1 := k0_pay20 (F := F)
  n0 := k0_pay20 (F := F)
  n1 := k0_pay20 (F := F)
  dk := dk
  dv := dv

/-- The accumulators as the walk finds them: cleared on the first query tile. -/
def entryK (i : grid0.Coords) (dk : Vec F S16384x128 .f32) : Vec F S16384x128 .f32 := if (i 1).val = 0 then k0_pay4 (F := F) else dk
def entryV (i : grid0.Coords) (dv : Vec F S16384x128 .f32) : Vec F S16384x128 .f32 := if (i 1).val = 0 then k0_pay5 (F := F) else dv

/-- The walk of one point. -/
def walkAt (p : Fixed F) (dk dv : Vec F S16384x128 .f32) : Carry F :=
  walk p ((p.i 1).val + 1) (startAt (entryK p.i dk) (entryV p.i dv))

/-- The first key tile of the walk, as the body computes it. -/
def kbInit (i : grid0.Coords) : BitVec 32 :=
  let v76 := Scalar.subi (Scalar.muli (Scalar.addi (BitVec.ofNat 32 (i 1).val) 1#32) 256#32) 1#32
  let v77 := Scalar.divsi v76 256#32
  let v82 := Scalar.subi (Scalar.extui (Scalar.cmpi .sgt v76 0#32)) (Scalar.extui (Scalar.cmpi .slt v76 0#32) : BitVec 32)
  Scalar.select
    (Scalar.andi (Scalar.cmpi .ne v82 (Scalar.subi (Scalar.extui (Scalar.cmpi .sgt 256#32 0#32)) (Scalar.extui (Scalar.cmpi .slt 256#32 0#32) : BitVec 32)))
      (Scalar.cmpi .ne (Scalar.remsi v76 256#32) 0#32))
    (Scalar.subi v77 1#32) v77

theorem kbInit_eq : ∀ i : grid0.Coords, kbInit i = ctr ((i 1).val + 1) := by decide +kernel

theorem clear_k (d w : Vec F S16384x128 .f32) (inb) :
    (Memref.whole cc0_scratch0 : Memref sig .tc .vmem S16384x128 .f32).view.writes (Elt F) d
      [⟨Rect.unit (s := S16384x128) ![0, 0] S16384x128.size inb, w⟩] = w :=
  Memref.write_access_unit_zero_univ (Elt F) cc0_scratch0 (off := ![0, 0]) (funext fun a => by fin_cases a <;> rfl) inb d w

theorem clear_v (d w : Vec F S16384x128 .f32) (inb) :
    (Memref.whole cc0_scratch1 : Memref sig .tc .vmem S16384x128 .f32).view.writes (Elt F) d
      [⟨Rect.unit (s := S16384x128) ![0, 0] S16384x128.size inb, w⟩] = w :=
  Memref.write_access_unit_zero_univ (Elt F) cc0_scratch1 (off := ![0, 0]) (funext fun a => by fin_cases a <;> rfl) inb d w

abbrev cFirst (i : grid0.Coords) : Prop :=
  Scalar.cmpi .ne (Scalar.extui (Scalar.cmpi .eq (BitVec.ofNat 32 (i 1).val) 0#32) : BitVec 32) 0#32 = 1#1

theorem cFirst_iff : ∀ i : grid0.Coords, cFirst i ↔ (i 1).val = 0 := by decide +kernel
theorem cLast_iff : ∀ i : grid0.Coords, k0_cond2 i = 1#1 ↔ (i 1).val = 63 := by decide +kernel

abbrev hb1 : Memref sig .tc .hbm S2x16384x128 .f32 := Memref.whole main_v46_1
abbrev hb2 : Memref sig .tc .hbm S2x16384x128 .f32 := Memref.whole main_v46_2
abbrev sc0 : Memref sig .tc .vmem S16384x128 .f32 := Memref.whole cc0_scratch0
abbrev sc1 : Memref sig .tc .vmem S16384x128 .f32 := Memref.whole cc0_scratch1

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The copy of one accumulator into its row of the result. -/
def rowK (i : grid0.Coords) (h : k0_cond2 i = 1#1) (y : Vec F S2x16384x128 .f32) (d : Vec F S16384x128 .f32) : Vec F S2x16384x128 .f32 :=
  View.write (Elt F) ((hb1.slice (Rect.unit (s := S2x16384x128) (k0_off2 i) S1x16384x128.size (k0_off2_inb i h)) (fun _ => rfl)).squeeze
    S16384x128 squeezes_S1x16384x128_S16384x128).view y d Finset.univ
def rowV (i : grid0.Coords) (h : k0_cond2 i = 1#1) (y : Vec F S2x16384x128 .f32) (d : Vec F S16384x128 .f32) : Vec F S2x16384x128 .f32 :=
  View.write (Elt F) ((hb2.slice (Rect.unit (s := S2x16384x128) (k0_off2 i) S1x16384x128.size (k0_off2_inb i h)) (fun _ => rfl)).squeeze
    S16384x128 squeezes_S1x16384x128_S16384x128).view y d Finset.univ

open Classical in
/-- The two results after a point: on the last query tile their row is the accumulator. -/
def outK (i : grid0.Coords) (y : Vec F S2x16384x128 .f32) (d : Vec F S16384x128 .f32) : Vec F S2x16384x128 .f32 :=
  if h : k0_cond2 i = 1#1 then rowK i h y d else y
open Classical in
def outV (i : grid0.Coords) (y : Vec F S2x16384x128 .f32) (d : Vec F S16384x128 .f32) : Vec F S2x16384x128 .f32 :=
  if h : k0_cond2 i = 1#1 then rowV i h y d else y

theorem walkAt_first (p : Fixed F) (dk dv : Vec F S16384x128 .f32) (h : cFirst p.i) :
    walkAt p dk dv = walk p ((p.i 1).val + 1) (startAt (k0_pay4 (F := F)) (k0_pay5 (F := F))) := by
  unfold walkAt entryK entryV
  rw [if_pos ((cFirst_iff _).mp h), if_pos ((cFirst_iff _).mp h)]

theorem walkAt_later (p : Fixed F) (dk dv : Vec F S16384x128 .f32) (h : ¬ cFirst p.i) :
    walkAt p dk dv = walk p ((p.i 1).val + 1) (startAt dk dv) := by
  unfold walkAt entryK entryV
  rw [if_neg (fun e => h ((cFirst_iff _).mpr e)), if_neg (fun e => h ((cFirst_iff _).mpr e))]

theorem read_tile {v : View sig .tc .vmem S256x128 .f32} (f : v.ty.Contents (Elt F)) (w : Vec F S256x128 .f32) (inb) :
    v.read (Elt F) (v.writes (Elt F) f [⟨Rect.unit (s := S256x128) ![0, 0] S256x128.size inb, w⟩]) = w := by
  have h : ∀ (off : Fin S256x128.rank → ℕ) (ho : off = fun _ => 0) (inb),
      v.read (Elt F) (v.writes (Elt F) f [⟨Rect.unit (s := S256x128) off S256x128.size inb, w⟩]) = w := by
    intro off ho inb; subst ho; exact View.read_writes_whole v f w
  exact h _ (funext fun a => by fin_cases a <;> rfl) _

section Body

variable (c : Dev nD) (i : grid0.Coords)
  (arg2 : Memref sig .tc .vmem S256x128 .bf16) (harg2 : arg2.IsWhole)
  (arg3 : Memref sig .tc .vmem S16384x128 .bf16) (harg3 : arg3.IsWhole) (arg4 : Memref sig .tc .vmem S16384x128 .bf16) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x256 .bf16) (harg7 : arg7.IsWhole) (arg8 : Memref sig .tc .vmem S256x256 .bf16) (harg8 : arg8.IsWhole)
  (arg9 : Memref sig .tc .vmem S256x128 .f32) (harg9 : arg9.IsWhole)
  (x0 : Vec F S256x128 .bf16) (x1 x2 : Vec F S16384x128 .bf16) (x3 x4 : Vec F S256x128 .f32)
  (x5 x6 : Vec F S256x256 .bf16)
  (dk dv : Vec F S16384x128 .f32) (y1 y2 : Vec F S2x16384x128 .f32)

/-- What a point leaves. -/
def leaves : sProp 𝕄 :=
  iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare (walkAt (fixedAt i x0 x1 x2 x3 x4 x5 x6) dk dv).acc
      ∗ hbPt c sc0 (walkAt (fixedAt i x0 x1 x2 x3 x4 x5 x6) dk dv).dk ∗ hbPt c sc1 (walkAt (fixedAt i x0 x1 x2 x3 x4 x5 x6) dk dv).dv
      ∗ semVal ((c : Thread nD τ), SemLoc.dma 14) 0 ∗ semVal ((c : Thread nD τ), SemLoc.dma 15) 0
      ∗ hbPt c hb1 (outK i y1 (walkAt (fixedAt i x0 x1 x2 x3 x4 x5 x6) dk dv).dk)
      ∗ hbPt c hb2 (outV i y2 (walkAt (fixedAt i x0 x1 x2 x3 x4 x5 x6) dk dv).dv) ∗ ∃ W, owes (c : Thread nD τ) 0 W)

set_option maxHeartbeats 8000000 in
/-- The body at one point. -/
theorem body_runs (W : Waits sig Unit) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ (∃ d, owns (c : Thread nD τ) arg9 fullShare d)
      ∗ hbPt c sc0 dk ∗ hbPt c sc1 dv ∗ semVal ((c : Thread nD τ), SemLoc.dma 14) 0 ∗ semVal ((c : Thread nD τ), SemLoc.dma 15) 0
      ∗ hbPt c hb1 y1 ∗ hbPt c hb2 y2 ∗ owes (c : Thread nD τ) 0 W
      ∗ (leaves c i arg2 arg3 arg4 arg5 arg6 arg7 arg8 arg9 x0 x1 x2 x3 x4 x5 x6 dk dv y1 y2 -∗ K ⟨⟩))
    ⊢ wp frame (wpE (defs₀ (F := F)) 𝒱₀ c none) Set.univ (cc0_attn_bwd i arg2 harg2 arg3 harg3 arg4 harg4 arg5 harg5 arg6 harg6 arg7 harg7 arg8 harg8 arg9 harg9
        (Memref.whole main_v46_1) (Memref.isWhole_whole _) (Memref.whole main_v46_2) (Memref.isWhole_whole _)
        (Memref.whole cc0_scratch0) (Memref.isWhole_whole _) (Memref.whole cc0_scratch1) (Memref.isWhole_whole _) cc0_scratch2) K := by
  simp only [cc0_attn_bwd_eq_skeleton]; unfold cc0_attn_bwd_skel
  simp only [k0_part1_eq_skeleton, k0_part2_eq_skeleton]
  unfold leaves
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hdk, Hdv, Hs0, Hs1, Hy1, Hy2, HW, HK⟩
  subst hf0 hf1 hf2 hf3 hf4 hf5 hf6
  have hT := fun s K => spec_le c (fixedAt i (arg2.view.read (Elt F) f0) (arg3.view.read (Elt F) f1) (arg4.view.read (Elt F) f2)
    (arg5.view.read (Elt F) f3) (arg6.view.read (Elt F) f4) (arg7.view.read (Elt F) f5) (arg8.view.read (Elt F) f6))
    arg3 harg3 arg4 harg4 arg7 harg7 arg8 harg8 f1 f2 f5 f6 Set.univ ((i 1).val + 1) (i 1).isLt s K
  rw [← kbInit_eq] at hT
  have hcase : (cFirst i ∧ ¬ k0_cond2 i = 1#1) ∨ (¬ cFirst i ∧ ¬ k0_cond2 i = 1#1) ∨ (¬ cFirst i ∧ k0_cond2 i = 1#1) := by
    by_cases hf : cFirst i
    · refine Or.inl ⟨hf, fun hl => ?_⟩
      have h0 := (cFirst_iff i).mp hf
      have h1 := (cLast_iff i).mp hl
      omega
    · by_cases hl : k0_cond2 i = 1#1
      · exact Or.inr (Or.inr ⟨hf, hl⟩)
      · exact Or.inr (Or.inl ⟨hf, hl⟩)
  rcases hcase with ⟨hf, hl⟩ | ⟨hf, hl⟩ | ⟨hf, hl⟩
  all_goals
    first
      | rw [walkAt_first _ dk dv (show cFirst (fixedAt i (arg2.view.read (Elt F) f0) (arg3.view.read (Elt F) f1) (arg4.view.read (Elt F) f2)
          (arg5.view.read (Elt F) f3) (arg6.view.read (Elt F) f4) (arg7.view.read (Elt F) f5) (arg8.view.read (Elt F) f6)).i from hf)]
      | rw [walkAt_later _ dk dv (show ¬ cFirst (fixedAt i (arg2.view.read (Elt F) f0) (arg3.view.read (Elt F) f1) (arg4.view.read (Elt F) f2)
          (arg5.view.read (Elt F) f3) (arg6.view.read (Elt F) f4) (arg7.view.read (Elt F) f5) (arg8.view.read (Elt F) f6)).i from hf)]
    unfold outK outV
    first
      | rw [dif_pos hl, dif_pos hl]
      | rw [dif_neg hl, dif_neg hl]
    sl_exec (disch := first | sl_exact hf | sl_exact hl)
    try rw [clear_k, clear_v]
    iapply (wp_call_spec 𝒱₀ (c : Thread nD τ) none Set.univ _ ((i 1).val + 1) (fun u hu => nomatch hu) (hT (startAt _ _)))
    rw [spec_apply]; unfold held
    isplitl [H1 H2 H5 H6 Hdk Hdv]
    · isplitl [H1]; · iexact H1
      isplitl [H2]; · iexact H2
      isplitl [H5]; · iexact H5
      isplitl [H6]; · iexact H6
      isplitl [Hdk]; · iexact Hdk
      iexact Hdv
    iintro %r %hr ⟨H1, H2, H5, H6, Hdk, Hdv⟩
    sl_exec (disch := first | sl_exact hf | sl_exact hl)
    rw [hr]
    sl_step
    iapply HK
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr; rotate_left; · iexact H7
      ipureintro; exact read_tile _ _ _
    isplitl [Hdk]; · iexact Hdk
    isplitl [Hdv]; · iexact Hdv
    isplitl [Hs0]; · iexact Hs0
    isplitl [Hs1]; · iexact Hs1
    isplitl [Hy1]; · iexact Hy1
    isplitl [Hy2]; · iexact Hy2
    iexists _; iexact HW

end Body

end Cert.AttnRun
-- ==== Proof.AttnLaunch.lean ====
module

public import proofs.«01_k».proof.Proof.AttnBody
public import proofs.«01_k».proof.Proof.Gen.KernelAttnIdeal.Launch
public import proofs.«01_k».proof.Proof.Gen.KernelAttnIdeal.Points
public import Idealize.ShloMosaic.Lib.Pipeline.FrameBody
public import Idealize.ShloMosaic.Lib.Pipeline.FrameValue
public import Idealize.ShloMosaic.Lib.Ring
public import Idealize.ShloMosaic.Lib.Claim

@[expose] public section

set_option maxRecDepth 16384

noncomputable section

/-! The attention's backward launch: what the accumulators and results hold point by point, and the run. -/

namespace Cert.AttnRun

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The buffers of a device when the launch begins. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 800000 in
theorem hmain (𝒱 : Variants) : Pipeline.HMain (Ix := Unit) (Name := ℕ) (U := Pipeline.UD sig nD τ) (Lvl := ℕ) cfgs 0 defs₀ 𝒱 m (main (F := F)) (V m) :=
  Pipeline.hmain_prefixes cfgs 0 defs₀ 𝒱 m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- A window's block at a point. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the accumulators and the two results hold -/

/-- The accumulators and the two results copied from them. -/
structure Mem (F : FTy → Type) where
  dk : Vec F S16384x128 .f32
  dv : Vec F S16384x128 .f32
  y1 : Vec F S2x16384x128 .f32
  y2 : Vec F S2x16384x128 .f32

/-- The values of one point. -/
def fixAt (c : Dev nD) (t : Fin (cfg0 (F := F)).N) : Fixed F :=
  fixedAt (grid0.coords t) (iblk m c 0 t) (iblk m c 1 t) (iblk m c 2 t) (iblk m c 3 t) (iblk m c 4 t) (iblk m c 5 t) (iblk m c 6 t)

/-- One point. -/
def memStep (p : Fixed F) (s : Mem F) : Mem F where
  dk := (walkAt p s.dk s.dv).dk
  dv := (walkAt p s.dk s.dv).dv
  y1 := outK p.i s.y1 (walkAt p s.dk s.dv).dk
  y2 := outV p.i s.y2 (walkAt p s.dk s.dv).dv

/-- Before point `n`. -/
def memAt (c : Dev nD) : ℕ → Mem F
  | 0 => ⟨k0_pay4 (F := F), k0_pay5 (F := F), V m c main_v46_1, V m c main_v46_2⟩
  | n + 1 => if h : n < (cfg0 (F := F)).N then memStep (fixAt m c ⟨n, h⟩) (memAt c n) else memAt c n

theorem memAt_succ (c : Dev nD) (t : Fin (cfg0 (F := F)).N) : memAt m c (t.val + 1) = memStep (fixAt m c t) (memAt m c t.val) :=
  dif_pos t.isLt

/-- The query tile's result. -/
def dqAt (c : Dev nD) (t : Fin (cfg0 (F := F)).N) : Vec F S256x128 .f32 :=
  (walkAt (fixAt m c t) (memAt m c t.val).dk (memAt m c t.val).dv).acc

/-- Before the first point the accumulators hold anything: that point clears them. -/
theorem walkAt_start (p : Fixed F) (h : (p.i 1).val = 0) (dk dv dk' dv' : Vec F S16384x128 .f32) : walkAt p dk dv = walkAt p dk' dv' := by
  unfold walkAt entryK entryV
  rw [if_pos h, if_pos h, if_pos h, if_pos h]

/-! ## The invariant and the proof data -/

abbrev osem : Fin 2 → SemLoc sig := fun j => (![SemLoc.dma 14, SemLoc.dma 15] : Fin 2 → SemLoc sig) j
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 14) 0 ∗ semVal ((c : Thread nD τ), SemLoc.dma 15) 0) := by
  rw [Pipeline.ownSems0_eq_of_list c osem [0, 1] (by decide) (by decide)]; rfl

def readRefs : Finset (Ref sig .tc) := {}
theorem readRefs_sub : readRefs ⊆ Pipeline.restRefs sig spec0 := by decide
def outRefs : Finset (Ref sig .tc) := {main_v46_1, main_v46_2}
theorem outRefs_sub : outRefs ⊆ Pipeline.restRefs sig spec0 \ readRefs := by decide

theorem readRefs_eq (c : Dev nD) :
    (bigSep readRefs (fun b => ((c : Thread nD τ).loc b) ↦{fullShare} V m c b) : sProp 𝕄) = iprop(emp) := by
  rw [BI.bigSep_eq_bigSepL_of_eq [] (by decide) (by decide)]; rfl

theorem routed_eq (c : Dev nD) (W : (b : Ref sig .tc) → Buf (Elt F) ((c : Thread nD τ).loc b)) :
    (Pipeline.routed outRefs c W : sProp 𝕄) = iprop(hbPt c hb1 (W main_v46_1) ∗ hbPt c hb2 (W main_v46_2)) := by
  unfold Pipeline.routed; rw [BI.bigSep_eq_bigSepL_of_eq [main_v46_1, main_v46_2] (by decide) (by decide)]; rfl

/-- The launch's own invariant, conjunct by conjunct. -/
theorem launch_eq (c : Dev nD) (G : (c : Dev nD) → (b : Ref sig .tc) → Buf (Elt F) ((c : Thread nD τ).loc b)) :
    (Pipeline.ΦDRG osem spec0 readRefs outRefs (V m) G c : sProp 𝕄)
      = iprop(((∃ d, hbPt c sc0 d) ∗ (∃ d, hbPt c sc1 d)) ∗ (∃ r, prngReg c r)
        ∗ (semVal ((c : Thread nD τ), SemLoc.dma 14) 0 ∗ semVal ((c : Thread nD τ), SemLoc.dma 15) 0) ∗ emp
        ∗ (hbPt c hb1 (G c main_v46_1) ∗ hbPt c hb2 (G c main_v46_2))) := by
  rw [Pipeline.ΦDRG_eq, scopedRest0_eq, osem_eq, readRefs_eq, routed_eq]

/-- The invariant before point `n`. -/
def Inv (c : Dev nD) (n : ℕ) : sProp 𝕄 :=
  iprop((∃ dk dv, ⌜n ≠ 0 → dk = (memAt m c n).dk ∧ dv = (memAt m c n).dv⌝ ∗ hbPt c sc0 dk ∗ hbPt c sc1 dv) ∗ (∃ r, prngReg c r)
    ∗ (semVal ((c : Thread nD τ), SemLoc.dma 14) 0 ∗ semVal ((c : Thread nD τ), SemLoc.dma 15) 0)
    ∗ (hbPt c hb1 (memAt m c n).y1 ∗ hbPt c hb2 (memAt m c n).y2))

def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨_ + 8, h⟩ => absurd h (Nat.not_lt.2 (Nat.le_add_left _ _))
  Φ t := Inv m c t.val
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats] <;> rfl
theorem after_1 (c : Dev nD) (t : Fin (cfg0 (F := F)).N) : (dats m 0 c).after 1 t = iblk m c 1 t := by dsimp only [dats] <;> rfl
theorem after_2 (c : Dev nD) (t : Fin (cfg0 (F := F)).N) : (dats m 0 c).after 2 t = iblk m c 2 t := by dsimp only [dats] <;> rfl
theorem after_3 (c : Dev nD) (t : Fin (cfg0 (F := F)).N) : (dats m 0 c).after 3 t = iblk m c 3 t := by dsimp only [dats] <;> rfl
theorem after_4 (c : Dev nD) (t : Fin (cfg0 (F := F)).N) : (dats m 0 c).after 4 t = iblk m c 4 t := by dsimp only [dats] <;> rfl
theorem after_5 (c : Dev nD) (t : Fin (cfg0 (F := F)).N) : (dats m 0 c).after 5 t = iblk m c 5 t := by dsimp only [dats] <;> rfl
theorem after_6 (c : Dev nD) (t : Fin (cfg0 (F := F)).N) : (dats m 0 c).after 6 t = iblk m c 6 t := by dsimp only [dats] <;> rfl
theorem after_7 (c : Dev nD) (t : Fin (cfg0 (F := F)).N) : (dats m 0 c).after 7 t = dqAt m c t := by dsimp only [dats] <;> rfl
theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d
theorem before_4 (c : Dev nD) (t : Fin (cfg0 (F := F)).N) (d) : (dats m 0 c).before 4 t d = iblk m c 4 t :=
  before_4_of m (dats m 0 c) (A_eq m c 4) (after_4 m c) t d
theorem before_5 (c : Dev nD) (t : Fin (cfg0 (F := F)).N) (d) : (dats m 0 c).before 5 t d = iblk m c 5 t :=
  before_5_of m (dats m 0 c) (A_eq m c 5) (after_5 m c) t d
theorem before_6 (c : Dev nD) (t : Fin (cfg0 (F := F)).N) (d) : (dats m 0 c).before 6 t d = iblk m c 6 t :=
  before_6_of m (dats m 0 c) (A_eq m c 6) (after_6 m c) t d

theorem Inv_castSucc (c : Dev nD) (t : Fin (cfg0 (F := F)).N) : (dats m 0 c).Φ t.castSucc = Inv m c t.val := by
  dsimp only [dats]; rw [Fin.val_castSucc]

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6]
  rw [show (dats m 0 c).Φ t.succ = Inv m c (t.val + 1) from rfl, Inv_castSucc,
    after_0, after_1, after_2, after_3, after_4, after_5, after_6, after_7]
  unfold Dat.owesAt Pipeline.owesWithin
  rw [show (dats m 0 c).owed t.castSucc = 0 from rfl, show (dats m 0 c).owed t.succ = 0 from rfl]
  unfold Inv
  iintro ⟨⟨⟨%dk, %dv, %hdd, Hdk, Hdv⟩, Hg, ⟨Hs0, Hs1⟩, ⟨Hy1, Hy2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  have hw : walkAt (fixAt m c t) (memAt m c t.val).dk (memAt m c t.val).dv = walkAt (fixAt m c t) dk dv := by
    by_cases h0 : t.val = 0
    · refine walkAt_start _ ?_ _ _ _ _
      show (grid0.coords t 1).val = 0
      rw [show (grid0.coords t 1).val = t.val / 1 % 64 from Pipeline.Grid.coords_val (G := grid0) t 1 (by decide) rfl, h0]
    · obtain ⟨e1, e2⟩ := hdd h0
      rw [e1, e2]
  iapply body_runs c (grid0.coords t) _ _ _ _ _ _ _ _ _ _ _ _ _ _ _ _ (iblk m c 0 t) (iblk m c 1 t) (iblk m c 2 t) (iblk m c 3 t) (iblk m c 4 t)
    (iblk m c 5 t) (iblk m c 6 t) dk dv (memAt m c t.val).y1 (memAt m c t.val).y2 W
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hdk]; · iexact Hdk
  isplitl [Hdv]; · iexact Hdv
  isplitl [Hs0]; · iexact Hs0
  isplitl [Hs1]; · iexact Hs1
  isplitl [Hy1]; · iexact Hy1
  isplitl [Hy2]; · iexact Hy2
  isplitl [HW]; · iexact HW
  unfold leaves
  rw [show fixedAt (grid0.coords t) (iblk m c 0 t) (iblk m c 1 t) (iblk m c 2 t) (iblk m c 3 t) (iblk m c 4 t) (iblk m c 5 t) (iblk m c 6 t) = fixAt m c t from rfl,
    ← hw]
  iintro ⟨H0, H1, H2, H3, H4, H5, H6, H7, Hdk, Hdv, Hs0, Hs1, Hy1, Hy2, ⟨%W', HW⟩⟩
  rw [memAt_succ]
  isplitl [Hdk Hdv Hg Hs0 Hs1 Hy1 Hy2]
  · isplitl [Hdk Hdv]
    · iexists _; iexists _
      isplitr; rotate_left
      · isplitl [Hdk]; · iexact Hdk
        iexact Hdv
      ipureintro; exact fun _ => ⟨rfl, rfl⟩
    isplitl [Hg]; · iexact Hg
    isplitl [Hs0 Hs1]
    · isplitl [Hs0]; · iexact Hs0
      iexact Hs1
    isplitl [Hy1]; · iexact Hy1
    iexact Hy2
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs_row]
  exact triple_restated (sound_body m c t) rfl .rfl fun _ => .rfl

/-- The two results after the launch. -/
def finals (c : Dev nD) : (b : Ref sig .tc) → Buf (Elt F) ((c : Thread nD τ).loc b) :=
  Function.update (Function.update (V m c) main_v46_1 (memAt m c (cfg0 (F := F)).N).y1) main_v46_2 (memAt m c (cfg0 (F := F)).N).y2

theorem finals_1 (c : Dev nD) : finals m c main_v46_1 = (memAt m c (cfg0 (F := F)).N).y1 := by
  unfold finals
  rw [Function.update_of_ne (by decide), Function.update_self]

theorem finals_2 (c : Dev nD) : finals m c main_v46_2 = (memAt m c (cfg0 (F := F)).N).y2 := by
  unfold finals
  rw [Function.update_self]

theorem enters (c : Dev nD) : Pipeline.ΦDRG osem spec0 readRefs outRefs (V m) (V m) c ⊢ (dats m 0 c).Φ 0 := by
  rw [show (dats m 0 c).Φ 0 = Inv m c 0 from rfl, launch_eq]
  unfold Inv
  iintro ⟨⟨⟨%dk, Hdk⟩, ⟨%dv, Hdv⟩⟩, Hg, Hs, -, Hy⟩
  isplitl [Hdk Hdv]
  · iexists dk; iexists dv
    isplitr
    · ipureintro; exact fun h => absurd rfl h
    isplitl [Hdk]; · iexact Hdk
    iexact Hdv
  isplitl [Hg]; · iexact Hg
  isplitl [Hs]; · iexact Hs
  iexact Hy

theorem exits (c : Dev nD) : (dats m 0 c).Φ (Fin.last (cfg0 (F := F)).N) ⊢ Pipeline.ΦDRG osem spec0 readRefs outRefs (V m) (finals m) c := by
  rw [show (dats m 0 c).Φ (Fin.last (cfg0 (F := F)).N) = Inv m c (cfg0 (F := F)).N from rfl, launch_eq, finals_1, finals_2]
  unfold Inv
  iintro ⟨⟨%dk, %dv, -, Hdk, Hdv⟩, Hg, Hs, Hy⟩
  isplitl [Hdk Hdv]
  · isplitl [Hdk]
    · iexists dk; iexact Hdk
    iexists dv; iexact Hdv
  isplitl [Hg]; · iexact Hg
  isplitl [Hs]; · iexact Hs
  isplitr; · iempintro
  iexact Hy

set_option backward.isDefEq.respectTransparency.types false in
theorem run : θ_run defs (onTc (τ := τ) (main (F := F))) (s₀ m ρ)
    (fun r => (Pipeline.FramePostRG cfgs (dats m) 0 outRefs (V m) (finals m)) r ∧ r.2.sem = fun _ => 0) :=
  Pipeline.θ_run_frame_dmaRG_shared (Q' := _) cfgs (dats m) (0 : Fin 1) launch₀0 osem defs₀ 𝒱₀ osem_facts readRefs outRefs readRefs_sub outRefs_sub m ρ main
    (hbody := fun c => (body_obligation m c).loose) (hq := fun _ _ _ => rfl)
    (howed := fun _ _ => rfl) (V := V m) (hmain := hmain m 𝒱₀) (hA := A_eq m) (G := finals m)
    (hin := enters m) (hout := exits m)

theorem arg0_rest : main_arg0 ∈ Pipeline.restRefs sig spec0 \ outRefs := by decide

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1.toR c).2 main_arg0 arg0_rest).trans (V_arg0 m c),
     ((h.1.toR c).1 3).trans (((dats m 0 c).arrAt_in 3 rfl _).trans ((A_eq m c 3).trans (V_arg1 m c)))⟩, h.2⟩) (run m ρ)

end Cert.AttnRun

end
-- ==== Proof.AttnFrame.lean ====
module

public import proofs.«01_k».proof.Proof.AttnLaunch
public import proofs.«01_k».proof.Proof.AttnBitsLaunch
public import proofs.«01_k».proof.Defs

@[expose] public section

set_option maxRecDepth 65536

noncomputable section

/-! The frames of the attention's backward call. -/

namespace Cert.AttnClaim

open Idealize.ShloMosaic Idealize.ShloMosaic.TcCoe
open Idealize.SL Idealize.SL.Sem

theorem kernelIdeal : Cert.quiescent_KernelAttnIdeal := fun m g _ => Cert.AttnRun.frame_run m g

theorem kernelIdeal_pre [hPre_finite_attn : Cert.Pre_finite_attn.Facts] : Cert.quiescent_KernelAttnIdeal_pre_finite_attn := fun m g _ => Cert.AttnRun.frame_run m g

theorem kernel : Cert.quiescent_KernelAttn := fun m g _ => Cert.AttnBits.frame_run (F := Bits) m g

end Cert.AttnClaim

end
-- ==== Proof.AttnMath.lean ====
/- The stick-breaking attention's gradient over the reals, for one head: positions are natural numbers, sums run over
   ranges of positions. -/
module

public import proofs.«01_k».proof.Proof.RealKit

@[expose] public section

noncomputable section

namespace Cert.AttnMath

open Cert.RealKit Finset

/-- The logarithm of the logistic function. -/
def lsig (x : ℝ) : ℝ := min x 0 - Real.log (1 + Real.exp (-|x|))

theorem one_add_exp_pos (x : ℝ) : 0 < 1 + Real.exp x := by positivity

/-- The logistic function of `x` and of `-x` sum to one. -/
theorem exp_lsig_add (x : ℝ) : Real.exp (lsig x) + Real.exp (lsig (-x)) = 1 := by
  unfold lsig
  have h := one_add_exp_pos (-|x|)
  rw [abs_neg, Real.exp_sub, Real.exp_sub, Real.exp_log h, ← add_div, div_eq_one_iff_eq h.ne']
  rcases le_total x 0 with hx | hx
  · rw [min_eq_left hx, min_eq_right (by linarith), abs_of_nonpos hx, neg_neg, Real.exp_zero]; ring
  · rw [min_eq_right hx, min_eq_left (by linarith), abs_of_nonneg hx, Real.exp_zero]

/-! ## Sums over a tile of positions -/

section Tiles

variable (f : ℕ → ℝ) (n N : ℕ) (h : 256 * n + 256 ≤ N)

theorem sum_tile_from (a : ℕ) (ha : a ≤ 256) :
    ∑ i : Fin 256, f (256 * n + i.val) * (if a ≤ i.val then 1 else 0) = ∑ i ∈ Ico (256 * n + a) (256 * n + 256), f i := by
  rw [Fin.sum_univ_eq_sum_range (fun i => f (256 * n + i) * (if a ≤ i then 1 else 0)) 256, Finset.range_eq_Ico,
    ← Finset.sum_Ico_consecutive _ (Nat.zero_le a) ha, Finset.sum_eq_zero (s := Ico 0 a), zero_add, Finset.sum_Ico_eq_sum_range,
    Finset.sum_Ico_eq_sum_range]
  · rw [show 256 * n + 256 - (256 * n + a) = 256 - a by omega]
    exact Finset.sum_congr rfl fun i _ => by rw [if_pos (by omega), mul_one, Nat.add_assoc]
  · intro i hi
    rw [if_neg (by have := Finset.mem_Ico.mp hi; omega), mul_zero]

include h in
theorem later_tile (j : Fin 256) :
    ∑ i ∈ Ico (256 * (n + 1)) N, f i + ∑ i : Fin 256, f (256 * n + i.val) * (if j.val < i.val then 1 else 0)
      = ∑ i ∈ Ico (256 * n + j.val + 1) N, f i := by
  have e := sum_tile_from f n (j.val + 1) (by omega)
  simp only [Nat.succ_le_iff] at e
  rw [e, add_comm, show 256 * n + (j.val + 1) = 256 * n + j.val + 1 by omega, show 256 * (n + 1) = 256 * n + 256 by ring,
    Finset.sum_Ico_consecutive _ (by omega) h]

include h in
theorem whole_tile : ∑ i ∈ Ico (256 * (n + 1)) N, f i + ∑ i : Fin 256, f (256 * n + i.val) = ∑ i ∈ Ico (256 * n) N, f i := by
  have e := sum_tile_from f n 0 (by omega)
  simp only [Nat.zero_le, if_true, mul_one, add_zero] at e
  rw [e, add_comm, show 256 * (n + 1) = 256 * n + 256 by ring, Finset.sum_Ico_consecutive _ (by omega) h]

include h in
theorem earlier_tile (j : Fin 256) :
    ∑ i ∈ range N, f i - ∑ i ∈ Ico (256 * (n + 1)) N, f i - ∑ i : Fin 256, f (256 * n + i.val) * (if j.val ≤ i.val then 1 else 0)
      = ∑ i ∈ range (256 * n + j.val), f i := by
  rw [sum_tile_from f n j.val (by omega), show 256 * (n + 1) = 256 * n + 256 by ring]
  have e1 := Finset.sum_Ico_consecutive f (show 256 * n + j.val ≤ 256 * n + 256 by omega) h
  have e2 := Finset.sum_range_add_sum_Ico f (show 256 * n + j.val ≤ N by omega)
  linarith

end Tiles

/-! ## One head -/

/-- The number of positions. -/
abbrev N : ℕ := 16384

section HeadDefs

variable (x y : ℕ → ℕ → ℝ)

/-- The logarithm of what a key leaves of the stick. -/
def left (i j : ℕ) : ℝ := if j < i then lsig (-x i j) else 0

/-- The weight of key `j` for query `i`. -/
def wgt (i j : ℕ) : ℝ := if j < i then Real.exp (lsig (x i j) + ∑ l ∈ Ico (j + 1) N, left x i l) else 0

/-- The weight times its cotangent `y`. -/
def gw (i j : ℕ) : ℝ := y i j * wgt x i j

/-- The gradient of the logit. -/
def dlog (i j : ℕ) : ℝ := if j < i then gw x y i j - Real.exp (lsig (x i j)) * (gw x y i j + ∑ l ∈ range j, gw x y i l) else 0

variable {x y} {i j : ℕ}

theorem left_zero (h : ¬j < i) : left x i j = 0 := if_neg h
theorem wgt_zero (h : ¬j < i) : wgt x i j = 0 := if_neg h
theorem gw_zero (h : ¬j < i) : gw x y i j = 0 := by rw [gw, wgt_zero h, mul_zero]
theorem dlog_zero (h : ¬j < i) : dlog x y i j = 0 := if_neg h

end HeadDefs

end Cert.AttnMath

end
-- ==== Proof.AttnHead.lean ====
/- One head's part of a trip of the attention's backward walk, on real blocks: the payloads of both heads are the same
   functions, read here at an index. -/
module

public import proofs.«01_k».proof.Proof.AttnMath
public import proofs.«01_k».proof.Proof.AttnRun
public import Idealize.ShloMosaic.Lib.Pipeline.ValueKit

@[expose] public section

set_option maxRecDepth 16384

noncomputable section

open Idealize.ShloMosaic Idealize.ShloMosaic.TcCoe Idealize.SL.Sem

namespace Cert.AttnHead

open Cert.KernelAttnIdeal Cert.KernelAttnIdeal.Gen Cert.RealKit Cert.AttnMath

theorem min_coe (a b : ℝ) : min (a : EReal) b = ((min a b : ℝ) : EReal) := by
  rcases le_total a b with h | h
  · rw [min_eq_left h, min_eq_left (EReal.coe_le_coe_iff.mpr h)]
  · rw [min_eq_right h, min_eq_right (EReal.coe_le_coe_iff.mpr h)]

theorem abs_coe (a : ℝ) : max (a : EReal) (-(a : EReal)) = ((|a| : ℝ) : EReal) := by
  rw [neg_coe, max_coe]; rfl

theorem log_coe_pos (a : ℝ) (h : 0 < a) : Ideal.log (a : EReal) = ((Real.log a : ℝ) : EReal) := by
  rw [Ideal.log_coe, if_neg (not_le.mpr h)]

open Classical in
/-- A flag as a word of one bit. -/
abbrev bit (p : Prop) : BitVec 1 := if p then 1#1 else 0#1

open Classical in
/-- A number where a flag is up, zero elsewhere. -/
def pick (p : Prop) (a : ℝ) : ℝ := if p then a else 0

open Classical in
theorem select_bit (p : Prop) (a b : ℝ) : (if bit p = 1#1 then (a : EReal) else (b : EReal)) = ((if p then a else b : ℝ) : EReal) := by
  unfold bit; by_cases h : p <;> simp [h]

section
variable {qv dv : FVec Ideal S256x128 .bf16} {kt vt : FVec Ideal S256x128 .bf16} {cz : IVec S256x256 1}
  {cv nv tv : FVec Ideal S256x1 .f32} {uv ev : Vec Ideal S256x256 .bf16}
  {q d k v : Fin 256 → Fin 128 → ℝ} {P : Fin 256 → Fin 256 → Prop} {c n t : Fin 256 → ℝ}

/-- The logit of a query row and a key row. -/
def lg (q k : Fin 256 → Fin 128 → ℝ) (r j : Fin 256) : ℝ := ∑ l, q r l * k j l

theorem pay42 (hq : ∀ r l, qv (ix2 r l) = ((q r l : ℝ) : EReal)) (hk : ∀ r l, kt (ix2 r l) = ((k r l : ℝ) : EReal)) (r j : Fin 256) :
    k0_pay42 (F := Ideal) qv kt (ix2 r j) = ((lg q k r j : ℝ) : EReal) := by
  pointwise [k0_pay42]
  simp only [hq, hk, mul_coe, sum_coe]
  rfl

theorem pay43 (hq : ∀ r l, qv (ix2 r l) = ((q r l : ℝ) : EReal)) (hk : ∀ r l, kt (ix2 r l) = ((k r l : ℝ) : EReal)) (r j : Fin 256) :
    k0_pay43 (F := Ideal) qv kt (ix2 r j) = ((Real.log (1 + Real.exp (-|lg q k r j|)) : ℝ) : EReal) := by
  have h := pay42 hq hk r j
  pointwise [k0_pay43]
  generalize k0_pay42 qv kt = y at h ⊢
  rw [h]
  show Ideal.log (1 + Ideal.exp (0 - max ((lg q k r j : ℝ) : EReal) (-((lg q k r j : ℝ) : EReal)))) = _
  rw [abs_coe, zero_sub, neg_coe, Ideal.exp_coe, ← EReal.coe_one, add_coe, log_coe_pos _ (one_add_exp_pos _)]

theorem pay44 (hq : ∀ r l, qv (ix2 r l) = ((q r l : ℝ) : EReal)) (hk : ∀ r l, kt (ix2 r l) = ((k r l : ℝ) : EReal)) (r j : Fin 256) :
    k0_pay44 (F := Ideal) qv kt (ix2 r j) = ((lsig (lg q k r j) : ℝ) : EReal) := by
  have h := pay42 hq hk r j
  have h2 := pay43 hq hk r j
  pointwise [k0_pay44]
  generalize k0_pay42 qv kt = y at h ⊢
  generalize k0_pay43 qv kt = y2 at h2 ⊢
  rw [h, h2, ← EReal.coe_zero, min_coe, sub_coe]
  rfl

open Classical in
/-- The logarithm of one minus the weight's factor, where the key comes before the query. -/
def lom (P : Fin 256 → Fin 256 → Prop) (q k : Fin 256 → Fin 128 → ℝ) (r j : Fin 256) : ℝ := if P r j then lsig (-lg q k r j) else 0

open Classical in
theorem pay45 (hq : ∀ r l, qv (ix2 r l) = ((q r l : ℝ) : EReal)) (hk : ∀ r l, kt (ix2 r l) = ((k r l : ℝ) : EReal))
    (hc : ∀ r j, cz (ix2 r j) = bit (P r j)) (r j : Fin 256) :
    k0_pay45 (F := Ideal) qv kt cz (ix2 r j) = ((lom P q k r j : ℝ) : EReal) := by
  have h := pay42 hq hk r j
  have h2 := pay43 hq hk r j
  pointwise [k0_pay45]
  generalize k0_pay42 qv kt = y at h ⊢
  generalize k0_pay43 qv kt = y2 at h2 ⊢
  rw [h, h2, ← EReal.coe_zero, max_coe, sub_coe, sub_coe, hc]
  refine (select_bit _ _ _).trans (congrArg _ ?_)
  unfold lom lsig
  rw [abs_neg, show min (-lg q k r j) 0 = 0 - max (lg q k r j) 0 by
    rcases le_total (lg q k r j) 0 with h | h
    · rw [max_eq_right h, min_eq_right (by linarith)]; ring
    · rw [max_eq_left h, min_eq_left (by linarith)]; ring]

/-- The running sum of the logarithms over the later keys. -/
def stick (P : Fin 256 → Fin 256 → Prop) (q k : Fin 256 → Fin 128 → ℝ) (c : Fin 256 → ℝ) (r j : Fin 256) : ℝ :=
  c r + ∑ i : Fin 256, lom P q k r i * (if j.val < i.val then 1 else 0)

open Classical in
theorem pay46 (hq : ∀ r l, qv (ix2 r l) = ((q r l : ℝ) : EReal)) (hk : ∀ r l, kt (ix2 r l) = ((k r l : ℝ) : EReal))
    (hc : ∀ r j, cz (ix2 r j) = bit (P r j)) (hcv : ∀ r z, cv (ix2 r z) = ((c r : ℝ) : EReal))
    (hu : ∀ i j : Fin 256, uv (ix2 i j) = (((if j.val < i.val then 1 else 0 : ℝ)) : EReal)) (r j : Fin 256) :
    k0_pay46 (F := Ideal) qv cv kt cz uv uv (ix2 r j) = ((Real.exp (lsig (lg q k r j) + stick P q k c r j) : ℝ) : EReal) := by
  have h := pay44 hq hk r j
  have h2 := pay45 hq hk hc
  pointwise [k0_pay46]
  generalize k0_pay44 qv kt = y at h ⊢
  generalize k0_pay45 qv kt cz = y2 at h2 ⊢
  simp only [h, h2, hcv, hu, mul_coe, sub_coe, sum_coe, add_coe, sub_self, zero_mul, Finset.sum_const_zero, add_zero]
  exact Ideal.exp_coe _

theorem pay47 (r j : Fin 256) : k0_pay47 (F := Ideal) (ix2 r j) = ((0 : ℝ) : EReal) := by
  pointwise [k0_pay47]
  exact EReal.coe_zero.symm

open Classical in
/-- The weight of a key. -/
def wt (P : Fin 256 → Fin 256 → Prop) (q k : Fin 256 → Fin 128 → ℝ) (c : Fin 256 → ℝ) (r j : Fin 256) : ℝ :=
  if P r j then Real.exp (lsig (lg q k r j) + stick P q k c r j) else 0

variable {xv zv : FVec Ideal S256x256 .f32} {x : Fin 256 → Fin 256 → ℝ} {w : Fin 256 → Fin 256 → ℝ}

open Classical in
theorem pay48 (hc : ∀ r j, cz (ix2 r j) = bit (P r j)) (hx : ∀ r j, xv (ix2 r j) = ((x r j : ℝ) : EReal)) (r j : Fin 256) :
    k0_pay48 (F := Ideal) cz xv (k0_pay47 (F := Ideal)) (ix2 r j) = ((pick (P r j) (x r j) : ℝ) : EReal) := by
  have h := pay47 r j
  pointwise [k0_pay48]
  generalize k0_pay47 (F := Ideal) = y at h ⊢
  rw [h, hx, hc]
  exact select_bit _ _ _

open Classical in
theorem pay49 (hd : ∀ r l, dv (ix2 r l) = ((d r l : ℝ) : EReal)) (hv : ∀ r l, vt (ix2 r l) = ((v r l : ℝ) : EReal))
    (hc : ∀ r j, cz (ix2 r j) = bit (P r j)) (hx : ∀ r j, xv (ix2 r j) = ((x r j : ℝ) : EReal)) (r j : Fin 256) :
    k0_pay49 (F := Ideal) dv vt cz xv (k0_pay47 (F := Ideal)) (ix2 r j) = ((lg d v r j * pick (P r j) (x r j) : ℝ) : EReal) := by
  have h := pay48 hc hx r j
  pointwise [k0_pay49]
  generalize k0_pay48 cz xv (k0_pay47 (F := Ideal)) = y at h ⊢
  rw [h]
  simp only [hd, hv, mul_coe, sum_coe]
  rfl

open Classical in
/-- The gradient of a logit, from the weighted products `g` of the row and the sum of those of the keys not later. -/
def back (P : Fin 256 → Fin 256 → Prop) (e g : Fin 256 → Fin 256 → ℝ) (t n : Fin 256 → ℝ) (r j : Fin 256) : ℝ :=
  if P r j then g r j - Real.exp (e r j) * (g r j + (t r - n r - ∑ i : Fin 256, g r i * (if j.val ≤ i.val then 1 else 0))) else 0

variable {lv : FVec Ideal S256x256 .f32} {e : Fin 256 → Fin 256 → ℝ}

open Classical in
theorem pay50 (hd : ∀ r l, dv (ix2 r l) = ((d r l : ℝ) : EReal)) (hv : ∀ r l, vt (ix2 r l) = ((v r l : ℝ) : EReal))
    (hc : ∀ r j, cz (ix2 r j) = bit (P r j)) (hx : ∀ r j, xv (ix2 r j) = ((x r j : ℝ) : EReal))
    (ht : ∀ r z, tv (ix2 r z) = ((t r : ℝ) : EReal)) (hn : ∀ r z, nv (ix2 r z) = ((n r : ℝ) : EReal))
    (hl : ∀ r j, lv (ix2 r j) = ((e r j : ℝ) : EReal))
    (hu : ∀ i j : Fin 256, ev (ix2 i j) = (((if j.val ≤ i.val then 1 else 0 : ℝ)) : EReal)) (r j : Fin 256) :
    k0_pay50 (F := Ideal) dv tv nv vt cz lv xv (k0_pay47 (F := Ideal)) ev ev (ix2 r j)
      = ((back P e (fun r j => lg d v r j * pick (P r j) (x r j)) t n r j : ℝ) : EReal) := by
  have h := pay49 hd hv hc hx
  pointwise [k0_pay50]
  generalize k0_pay49 dv vt cz xv (k0_pay47 (F := Ideal)) = y at h ⊢
  simp only [h, hl, ht, hn, hu, hc, mul_coe, sub_coe, sum_coe, add_coe, sub_self, zero_mul, Finset.sum_const_zero, sub_zero, Ideal.exp_coe]
  rw [← EReal.coe_zero]
  exact select_bit _ _ _

variable {bv : IVec S1x128 1} {av : FVec Ideal S256x128 .f32} {Ln : Fin 128 → Prop} {a : Fin 256 → Fin 128 → ℝ} {b : Fin 256 → Fin 256 → ℝ}

open Classical in
theorem pay51 (hb : ∀ r j, k0_pay50 (F := Ideal) dv tv nv vt cz lv xv (k0_pay47 (F := Ideal)) ev ev (ix2 r j) = ((b r j : ℝ) : EReal))
    (hbv : ∀ z l, bv (ix2 z l) = bit (Ln l)) (ha : ∀ r l, av (ix2 r l) = ((a r l : ℝ) : EReal))
    (hk : ∀ r l, kt (ix2 r l) = ((k r l : ℝ) : EReal)) (r : Fin 256) (l : Fin 128) :
    k0_pay51 (F := Ideal) dv tv bv nv kt vt cz av lv xv (k0_pay47 (F := Ideal)) ev ev (ix2 r l)
      = ((a r l + ∑ j : Fin 256, b r j * pick (Ln l) (k j l) : ℝ) : EReal) := by
  pointwise [k0_pay51]
  generalize k0_pay50 dv tv nv vt cz lv xv (k0_pay47 (F := Ideal)) ev ev = y at hb ⊢
  have e : ∀ x : Fin 256, Scalar.select (bv (ix2 0 l)) (kt (ix2 x l)) (((0#32).toInt : ℝ) : EReal) = ((pick (Ln l) (k x l) : ℝ) : EReal) := by
    intro x
    rw [hbv, hk, show (((0#32).toInt : ℝ) : EReal) = ((0 : ℝ) : EReal) by simp]
    exact select_bit _ _ _
  rw [ha]
  simp only [hb]
  refine (congrArg _ (Finset.sum_congr rfl fun x _ => congrArg _ (e x))).trans ?_
  simp only [mul_coe, sum_coe, add_coe]

open Classical in
theorem pay52 (hb : ∀ r j, k0_pay50 (F := Ideal) dv tv nv vt cz lv xv (k0_pay47 (F := Ideal)) ev ev (ix2 r j) = ((b r j : ℝ) : EReal))
    (ha : ∀ r l, av (ix2 r l) = ((a r l : ℝ) : EReal)) (hq : ∀ r l, qv (ix2 r l) = ((q r l : ℝ) : EReal)) (j : Fin 256) (l : Fin 128) :
    k0_pay52 (F := Ideal) qv dv tv nv vt cz av lv xv (k0_pay47 (F := Ideal)) ev ev (ix2 j l)
      = ((a j l + ∑ r : Fin 256, b r j * q r l : ℝ) : EReal) := by
  pointwise [k0_pay52]
  generalize k0_pay50 dv tv nv vt cz lv xv (k0_pay47 (F := Ideal)) ev ev = y at hb ⊢
  simp only [hb, ha, hq, mul_coe, sum_coe, add_coe]

open Classical in
theorem pay53 (hc : ∀ r j, cz (ix2 r j) = bit (P r j)) (hx : ∀ r j, xv (ix2 r j) = ((x r j : ℝ) : EReal))
    (ha : ∀ r l, av (ix2 r l) = ((a r l : ℝ) : EReal)) (hd : ∀ r l, dv (ix2 r l) = ((d r l : ℝ) : EReal)) (j : Fin 256) (l : Fin 128) :
    k0_pay53 (F := Ideal) dv cz av xv (k0_pay47 (F := Ideal)) (ix2 j l)
      = ((a j l + ∑ r : Fin 256, pick (P r j) (x r j) * d r l : ℝ) : EReal) := by
  have h := pay48 hc hx
  pointwise [k0_pay53]
  generalize k0_pay48 cz xv (k0_pay47 (F := Ideal)) = y at h ⊢
  simp only [h, ha, hd, mul_coe, sum_coe, add_coe]

theorem pay54 (hc : ∀ r z, cv (ix2 r z) = ((c r : ℝ) : EReal)) (hx : ∀ r j, xv (ix2 r j) = ((x r j : ℝ) : EReal)) (r : Fin 256) (z : Fin 1) :
    k0_pay54 (F := Ideal) cv xv (ix2 r z) = ((c r + ∑ j, x r j : ℝ) : EReal) := by
  pointwise [k0_pay54]
  simp only [hc, hx, sum_coe, add_coe]

open Classical in
theorem pay55 (hd : ∀ r l, dv (ix2 r l) = ((d r l : ℝ) : EReal)) (hv : ∀ r l, vt (ix2 r l) = ((v r l : ℝ) : EReal))
    (hc : ∀ r j, cz (ix2 r j) = bit (P r j)) (hx : ∀ r j, xv (ix2 r j) = ((x r j : ℝ) : EReal))
    (hn : ∀ r z, nv (ix2 r z) = ((n r : ℝ) : EReal)) (r : Fin 256) (z : Fin 1) :
    k0_pay55 (F := Ideal) dv nv vt cz xv (k0_pay47 (F := Ideal)) (ix2 r z)
      = ((n r + ∑ j, lg d v r j * pick (P r j) (x r j) : ℝ) : EReal) := by
  have h := pay49 hd hv hc hx
  pointwise [k0_pay55]
  generalize k0_pay49 dv vt cz xv (k0_pay47 (F := Ideal)) = y at h ⊢
  simp only [h, hn, sum_coe, add_coe]

end

/-! ## The values of a query tile -/

section Tile

variable {x : Vec Ideal S256x128 .bf16} {y z : Vec Ideal S256x128 .f32} {q d o : Fin 256 → Fin 128 → ℝ}

open Classical in
theorem lane0 (s : Fin 1) (l : Fin 128) : k0_pay10 (ix2 s l) = bit (l.val < 64) := by
  have h : ∀ l : Fin 128, k0_pay10 (ix2 0 l) = if l.val < 64 then 1#1 else 0#1 := by decide +kernel
  rw [Subsingleton.elim s 0, h]; unfold bit; congr

open Classical in
theorem lane1 (s : Fin 1) (l : Fin 128) : k0_pay15 k0_pay9 (ix2 s l) = bit (¬l.val < 64) := by
  have h : ∀ l : Fin 128, k0_pay15 k0_pay9 (ix2 0 l) = if ¬l.val < 64 then 1#1 else 0#1 := by decide +kernel
  rw [Subsingleton.elim s 0, h]; unfold bit; congr

variable {Ln : Fin 128 → Prop}

open Classical in
theorem pick_bit {b : BitVec 1} {p : Prop} (h : b = bit p) {u w : EReal} {a : ℝ} (hu : u = (a : EReal)) (hw : w = ((0 : ℝ) : EReal)) :
    Scalar.select b u w = ((pick p a : ℝ) : EReal) := by
  rw [h, hu, hw]; exact select_bit _ _ _

theorem zero_word : ((((0#32).toInt : ℤ) : ℝ) : EReal) = ((0 : ℝ) : EReal) := by simp

theorem pay13 (hx : ∀ r l, x (ix2 r l) = ((q r l : ℝ) : EReal)) (r : Fin 256) (l : Fin 128) :
    k0_pay13 (F := Ideal) (k0_pay6 x) k0_pay10 (ix2 r l) = ((pick (l.val < 64) (q r l) : ℝ) : EReal) := by
  have h := lane0 0 l
  pointwise [k0_pay13, k0_pay6]
  generalize k0_pay10 = b at h ⊢
  exact pick_bit h (hx r l) zero_word

theorem pay17 (hx : ∀ r l, x (ix2 r l) = ((q r l : ℝ) : EReal)) (r : Fin 256) (l : Fin 128) :
    k0_pay17 (F := Ideal) (k0_pay6 x) k0_pay9 (ix2 r l) = ((pick (¬l.val < 64) (q r l) : ℝ) : EReal) := by
  have h := lane1 0 l
  pointwise [k0_pay17, k0_pay6]
  generalize k0_pay15 k0_pay9 = b at h ⊢
  exact pick_bit h (hx r l) zero_word

theorem pay14 (hy : ∀ r l, y (ix2 r l) = ((d r l : ℝ) : EReal)) (r : Fin 256) (l : Fin 128) :
    k0_pay14 (F := Ideal) (k0_pay7 y) k0_pay10 (ix2 r l) = ((pick (l.val < 64) (d r l) : ℝ) : EReal) := by
  have h := lane0 0 l
  pointwise [k0_pay14, k0_pay7]
  generalize k0_pay10 = b at h ⊢
  exact pick_bit h (hy r l) zero_word

theorem pay18 (hy : ∀ r l, y (ix2 r l) = ((d r l : ℝ) : EReal)) (r : Fin 256) (l : Fin 128) :
    k0_pay18 (F := Ideal) (k0_pay7 y) k0_pay9 (ix2 r l) = ((pick (¬l.val < 64) (d r l) : ℝ) : EReal) := by
  have h := lane1 0 l
  pointwise [k0_pay18, k0_pay7]
  generalize k0_pay15 k0_pay9 = b at h ⊢
  exact pick_bit h (hy r l) zero_word

theorem pay12 (hy : ∀ r l, y (ix2 r l) = ((d r l : ℝ) : EReal)) (hz : ∀ r l, z (ix2 r l) = ((o r l : ℝ) : EReal)) (r : Fin 256) (s : Fin 1) :
    k0_pay12 (F := Ideal) (k0_pay8 y z) (Scalar.ofBits .f32 0x00000000#32) k0_pay11 (ix2 r s)
      = ((∑ l : Fin 128, pick (l.val < 64) (d r l * o r l) : ℝ) : EReal) := by
  have h := lane0 0
  pointwise [k0_pay12, k0_pay8, k0_pay7, k0_pay11]
  generalize k0_pay10 = b at h ⊢
  rw [← sum_coe]
  exact Finset.sum_congr rfl fun l _ => pick_bit (h l) (by rw [hy, hz, mul_coe]) EReal.coe_zero.symm

theorem pay16 (hy : ∀ r l, y (ix2 r l) = ((d r l : ℝ) : EReal)) (hz : ∀ r l, z (ix2 r l) = ((o r l : ℝ) : EReal)) (r : Fin 256) (s : Fin 1) :
    k0_pay16 (F := Ideal) (k0_pay8 y z) k0_pay9 (ix2 r s)
      = ((∑ l : Fin 128, pick (¬l.val < 64) (d r l * o r l) : ℝ) : EReal) := by
  have h := lane1 0
  pointwise [k0_pay16, k0_pay8, k0_pay7]
  generalize k0_pay15 k0_pay9 = b at h ⊢
  rw [← sum_coe]
  exact Finset.sum_congr rfl fun l _ => pick_bit (h l) (by rw [hy, hz, mul_coe]) EReal.coe_zero.symm

end Tile

theorem place (n j : ℕ) : IntOp.addi (Scalar.muli (BitVec.ofNat 32 n) 256#32) (BitVec.ofNat 32 j) = BitVec.ofNat 32 (256 * n + j) := by
  show BitVec.ofNat 32 n * BitVec.ofNat 32 256 + BitVec.ofNat 32 j = _
  rw [← BitVec.ofNat_mul, ← BitVec.ofNat_add, Nat.mul_comm]

open Classical in
theorem slt_words (a b : ℕ) (ha : a < 32768) (hb : b < 32768) :
    IntOp.cmpi CmpIPredicate.slt (BitVec.ofNat 32 a) (BitVec.ofNat 32 b) = bit (a < b) := by
  show BitVec.ofBool (BitVec.slt (BitVec.ofNat 32 a) (BitVec.ofNat 32 b)) = _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  unfold bit
  by_cases h : a < b
  · rw [if_pos h, decide_eq_true (by exact_mod_cast h)]; rfl
  · rw [if_neg h, decide_eq_false (by exact_mod_cast h)]; rfl

theorem causal_at (kb qi : ℕ) (hk : kb < 64) (hq : qi < 64) (r j : Fin 256) :
    k0_pay23 (BitVec.ofNat 32 kb) (BitVec.ofNat 32 qi) (ix2 r j) = bit (256 * kb + j.val < 256 * qi + r.val) := by
  pointwise [k0_pay23]
  rw [place, place]
  exact slt_words _ _ (by omega) (by omega)

theorem pay1_at {av bv : FVec Ideal S256x128 .f32} {a b : ℝ} {r : Fin 256} {l : Fin 128} (ha : av (ix2 r l) = (a : EReal)) (hb : bv (ix2 r l) = (b : EReal)) :
    k0_pay1 (F := Ideal) av bv (ix2 r l) = ((b + a : ℝ) : EReal) := by
  pointwise [k0_pay1]
  rw [ha, hb, add_coe]

theorem pay2_at {av bv : FVec Ideal S256x128 .f32} {a b : ℝ} {r : Fin 256} {l : Fin 128} (ha : av (ix2 r l) = (a : EReal)) (hb : bv (ix2 r l) = (b : EReal)) :
    k0_pay2 (F := Ideal) av bv (ix2 r l) = ((b + a : ℝ) : EReal) := by
  pointwise [k0_pay2]
  rw [ha, hb, add_coe]

/-- The threshold named minus infinity is no threshold: the walk's flag stays up on real sums. -/
theorem alive_at {uv wv : FVec Ideal S256x1 .f32} {u w : Fin 256 → ℝ} (hu : ∀ r z, uv (ix2 r z) = ((u r : ℝ) : EReal))
    (hw : ∀ r z, wv (ix2 r z) = ((w r : ℝ) : EReal)) :
    Scalar.cmpi .sgt (Scalar.extui (Scalar.cmpf .ogt (k0_pay3 (F := Ideal) uv wv) (AttnRun.cut (F := Ideal))) : BitVec 32) 0#32 = 1#1 := by
  have h : (⊥ : EReal) < k0_pay3 (F := Ideal) uv wv := by
    pointwise [k0_pay3]
    refine (Finset.lt_fold_max _).mpr (Or.inr ⟨(0, 0), Finset.mem_univ _, ?_⟩)
    rw [hu, hw, max_coe]
    exact EReal.bot_lt_coe _
  have e : AttnRun.cut (F := Ideal) = (⊥ : EReal) := rfl
  have : Scalar.cmpf .ogt (k0_pay3 (F := Ideal) uv wv) (AttnRun.cut (F := Ideal)) = 1#1 := by
    rw [e]
    show Ideal.cmp .ogt (k0_pay3 (F := Ideal) uv wv) ⊥ = 1#1
    simp [Ideal.cmp, h]
  rw [this]
  decide

end Cert.AttnHead

end
-- ==== Proof.AttnWalk.lean ====
/- The attention's backward walk on real blocks: after the trips down to key tile `n` the carried values are the sums over the
   keys from that tile on. -/
module

public import proofs.«01_k».proof.Proof.AttnHead
public import proofs.«01_k».proof.Proof.AttnBody

@[expose] public section

set_option maxRecDepth 16384

noncomputable section

open Idealize.ShloMosaic Idealize.ShloMosaic.TcCoe Idealize.SL.Sem

namespace Cert.AttnWalk

open Cert.KernelAttnIdeal Cert.KernelAttnIdeal.Gen Cert.RealKit Cert.AttnMath Cert.AttnHead Cert.AttnRun
open Finset (Ico range)

/-- The product of a query-side row and a key-side row over one head's lanes. -/
def prod (M : Fin 128 → Prop) (A B : ℕ → Fin 128 → ℝ) (i j : ℕ) : ℝ := ∑ l : Fin 128, pick (M l) (A i l) * B j l

/-- A tile's rows of one head, its rows of all lanes, and its flags. -/
abbrev headRows (M : Fin 128 → Prop) (A : ℕ → Fin 128 → ℝ) (n : ℕ) : Fin 256 → Fin 128 → ℝ := fun r l => pick (M l) (A (256 * n + r.val) l)
abbrev rows (A : ℕ → Fin 128 → ℝ) (n : ℕ) : Fin 256 → Fin 128 → ℝ := fun r l => A (256 * n + r.val) l
abbrev before (qi kb : ℕ) : Fin 256 → Fin 256 → Prop := fun r j => 256 * kb + j.val < 256 * qi + r.val

section Real

variable {qi kb : ℕ} (hkb : kb < 64) {M : Fin 128 → Prop} {Q K V D : ℕ → Fin 128 → ℝ}

theorem lom_eq (r j : Fin 256) : lom (before qi kb) (headRows M Q qi) (rows K kb) r j = left (prod M Q K) (256 * qi + r.val) (256 * kb + j.val) := by
  unfold lom left
  by_cases h : 256 * kb + j.val < 256 * qi + r.val
  · rw [if_pos h, if_pos h]; rfl
  · rw [if_neg h, if_neg h]

include hkb in
theorem stick_eq (r j : Fin 256) :
    stick (before qi kb) (headRows M Q qi) (rows K kb) (fun r => ∑ l ∈ Ico (256 * (kb + 1)) N, left (prod M Q K) (256 * qi + r.val) l) r j
      = ∑ l ∈ Ico (256 * kb + j.val + 1) N, left (prod M Q K) (256 * qi + r.val) l := by
  unfold stick
  simp only [lom_eq]
  exact later_tile (left (prod M Q K) (256 * qi + r.val)) kb N (show 256 * kb + 256 ≤ 16384 by omega) j

include hkb in
open Classical in
theorem wgt_eq (r j : Fin 256) :
    pick (before qi kb r j) (Real.exp (lsig (lg (headRows M Q qi) (rows K kb) r j) + stick (before qi kb) (headRows M Q qi) (rows K kb) (fun r => ∑ l ∈ Ico (256 * (kb + 1)) N, left (prod M Q K) (256 * qi + r.val) l) r j))
      = wgt (prod M Q K) (256 * qi + r.val) (256 * kb + j.val) := by
  rw [stick_eq hkb]
  unfold wgt pick
  by_cases h : 256 * kb + j.val < 256 * qi + r.val
  · rw [if_pos h, if_pos h]; rfl
  · rw [if_neg h, if_neg h]

include hkb in
open Classical in
theorem gw_eq (r j : Fin 256) :
    lg (headRows M D qi) (rows V kb) r j * pick (before qi kb r j) (Real.exp (lsig (lg (headRows M Q qi) (rows K kb) r j) + stick (before qi kb) (headRows M Q qi) (rows K kb) (fun r => ∑ l ∈ Ico (256 * (kb + 1)) N, left (prod M Q K) (256 * qi + r.val) l) r j))
      = gw (prod M Q K) (prod M D V) (256 * qi + r.val) (256 * kb + j.val) := by
  rw [wgt_eq hkb]; rfl

include hkb in
theorem dlog_eq (r j : Fin 256) :
    back (before qi kb) (fun r j => lsig (lg (headRows M Q qi) (rows K kb) r j)) (fun r j => gw (prod M Q K) (prod M D V) (256 * qi + r.val) (256 * kb + j.val))
        (fun r => ∑ l ∈ range N, gw (prod M Q K) (prod M D V) (256 * qi + r.val) l) (fun r => ∑ l ∈ Ico (256 * (kb + 1)) N, gw (prod M Q K) (prod M D V) (256 * qi + r.val) l) r j
      = dlog (prod M Q K) (prod M D V) (256 * qi + r.val) (256 * kb + j.val) := by
  unfold back dlog
  rw [earlier_tile (gw (prod M Q K) (prod M D V) (256 * qi + r.val)) kb N (show 256 * kb + 256 ≤ 16384 by omega) j]
  by_cases h : 256 * kb + j.val < 256 * qi + r.val
  · rw [if_pos h, if_pos h]; rfl
  · rw [if_neg h, if_neg h]

end Real

/-- One head's inputs of a trip: the query tile `qi`, the key tile `kb`, the sums over the later tiles. -/
structure Ins (M : Fin 128 → Prop) (Q K V D : ℕ → Fin 128 → ℝ) (qi kb : ℕ) (qv dv kt vt : FVec Ideal S256x128 .bf16) (cz : IVec S256x256 1)
    (uv ev : Vec Ideal S256x256 .bf16) (tv cv nv : FVec Ideal S256x1 .f32) : Prop where
  hkb : kb < 64
  hq : ∀ r l, qv (ix2 r l) = ((headRows M Q qi r l : ℝ) : EReal)
  hd : ∀ r l, dv (ix2 r l) = ((headRows M D qi r l : ℝ) : EReal)
  hk : ∀ r l, kt (ix2 r l) = ((rows K kb r l : ℝ) : EReal)
  hv : ∀ r l, vt (ix2 r l) = ((rows V kb r l : ℝ) : EReal)
  hc : ∀ r j, cz (ix2 r j) = bit (before qi kb r j)
  hu : ∀ i j : Fin 256, uv (ix2 i j) = (((if j.val < i.val then 1 else 0 : ℝ)) : EReal)
  he : ∀ i j : Fin 256, ev (ix2 i j) = (((if j.val ≤ i.val then 1 else 0 : ℝ)) : EReal)
  ht : ∀ r z, tv (ix2 r z) = ((∑ l ∈ range N, gw (prod M Q K) (prod M D V) (256 * qi + r.val) l : ℝ) : EReal)
  hcs : ∀ r z, cv (ix2 r z) = ((∑ l ∈ Ico (256 * (kb + 1)) N, left (prod M Q K) (256 * qi + r.val) l : ℝ) : EReal)
  hns : ∀ r z, nv (ix2 r z) = ((∑ l ∈ Ico (256 * (kb + 1)) N, gw (prod M Q K) (prod M D V) (256 * qi + r.val) l : ℝ) : EReal)

namespace Ins

variable {M : Fin 128 → Prop} {Q K V D : ℕ → Fin 128 → ℝ} {qi kb : ℕ} {qv dv kt vt : FVec Ideal S256x128 .bf16} {cz : IVec S256x256 1}
    {uv ev : Vec Ideal S256x256 .bf16} {tv cv nv : FVec Ideal S256x1 .f32} (h : Ins M Q K V D qi kb qv dv kt vt cz uv ev tv cv nv)
include h

/-- The weights before the flags. -/
abbrev ex (M : Fin 128 → Prop) (Q K : ℕ → Fin 128 → ℝ) (qi kb : ℕ) (r j : Fin 256) : ℝ :=
  Real.exp (lsig (lg (headRows M Q qi) (rows K kb) r j)
    + stick (before qi kb) (headRows M Q qi) (rows K kb) (fun r => ∑ l ∈ Ico (256 * (kb + 1)) N, left (prod M Q K) (256 * qi + r.val) l) r j)

theorem expo (r j : Fin 256) : k0_pay46 (F := Ideal) qv cv kt cz uv uv (ix2 r j) = ((ex M Q K qi kb r j : ℝ) : EReal) :=
  pay46 h.hq h.hk h.hc h.hcs h.hu r j

theorem dl (r j : Fin 256) :
    k0_pay50 (F := Ideal) dv tv nv vt cz (k0_pay44 (F := Ideal) qv kt) (k0_pay46 (F := Ideal) qv cv kt cz uv uv) (k0_pay47 (F := Ideal)) ev ev (ix2 r j)
      = ((dlog (prod M Q K) (prod M D V) (256 * qi + r.val) (256 * kb + j.val) : ℝ) : EReal) := by
  rw [pay50 h.hd h.hv h.hc h.expo h.ht h.hns (pay44 h.hq h.hk) h.he r j]
  refine congrArg _ ?_
  rw [← dlog_eq h.hkb r j]
  exact congrArg (fun g => back _ _ g _ _ r j) (funext fun r => funext fun j => gw_eq h.hkb r j)

theorem acc {bv : IVec S1x128 1} {av : FVec Ideal S256x128 .f32} {a : Fin 256 → Fin 128 → ℝ} (hbv : ∀ z l, bv (ix2 z l) = bit (M l))
    (ha : ∀ r l, av (ix2 r l) = ((a r l : ℝ) : EReal)) (r : Fin 256) (l : Fin 128) :
    k0_pay51 (F := Ideal) dv tv bv nv kt vt cz av (k0_pay44 (F := Ideal) qv kt) (k0_pay46 (F := Ideal) qv cv kt cz uv uv) (k0_pay47 (F := Ideal)) ev ev (ix2 r l)
      = ((a r l + ∑ j : Fin 256, dlog (prod M Q K) (prod M D V) (256 * qi + r.val) (256 * kb + j.val) * pick (M l) (K (256 * kb + j.val) l) : ℝ) : EReal) :=
  pay51 h.dl hbv ha h.hk r l

theorem dks {av : FVec Ideal S256x128 .f32} {a : Fin 256 → Fin 128 → ℝ}
    (ha : ∀ r l, av (ix2 r l) = ((a r l : ℝ) : EReal)) (j : Fin 256) (l : Fin 128) :
    k0_pay52 (F := Ideal) qv dv tv nv vt cz av (k0_pay44 (F := Ideal) qv kt) (k0_pay46 (F := Ideal) qv cv kt cz uv uv) (k0_pay47 (F := Ideal)) ev ev (ix2 j l)
      = ((a j l + ∑ r : Fin 256, dlog (prod M Q K) (prod M D V) (256 * qi + r.val) (256 * kb + j.val) * pick (M l) (Q (256 * qi + r.val) l) : ℝ) : EReal) :=
  pay52 h.dl ha h.hq j l

theorem dvs {av : FVec Ideal S256x128 .f32} {a : Fin 256 → Fin 128 → ℝ}
    (ha : ∀ r l, av (ix2 r l) = ((a r l : ℝ) : EReal)) (j : Fin 256) (l : Fin 128) :
    k0_pay53 (F := Ideal) dv cz av (k0_pay46 (F := Ideal) qv cv kt cz uv uv) (k0_pay47 (F := Ideal)) (ix2 j l)
      = ((a j l + ∑ r : Fin 256, wgt (prod M Q K) (256 * qi + r.val) (256 * kb + j.val) * pick (M l) (D (256 * qi + r.val) l) : ℝ) : EReal) := by
  rw [pay53 h.hc h.expo ha h.hd j l]
  refine congrArg _ (congrArg _ (Finset.sum_congr rfl fun r _ => ?_))
  exact congrArg (· * _) (wgt_eq h.hkb r j)

theorem sumC (r : Fin 256) (z : Fin 1) : k0_pay54 (F := Ideal) cv (k0_pay45 (F := Ideal) qv kt cz) (ix2 r z)
    = ((∑ l ∈ Ico (256 * kb) N, left (prod M Q K) (256 * qi + r.val) l : ℝ) : EReal) := by
  rw [pay54 h.hcs (pay45 h.hq h.hk h.hc) r z]
  refine congrArg _ ?_
  simp only [lom_eq]
  exact whole_tile (left (prod M Q K) (256 * qi + r.val)) kb N (show 256 * kb + 256 ≤ 16384 by have := h.hkb; omega)

theorem sumN (r : Fin 256) (z : Fin 1) :
    k0_pay55 (F := Ideal) dv nv vt cz (k0_pay46 (F := Ideal) qv cv kt cz uv uv) (k0_pay47 (F := Ideal)) (ix2 r z)
    = ((∑ l ∈ Ico (256 * kb) N, gw (prod M Q K) (prod M D V) (256 * qi + r.val) l : ℝ) : EReal) := by
  rw [pay55 h.hd h.hv h.hc h.expo h.hns r z]
  refine congrArg _ ?_
  refine (congrArg _ (Finset.sum_congr rfl fun j _ => gw_eq h.hkb r j)).trans ?_
  exact whole_tile (gw (prod M Q K) (prod M D V) (256 * qi + r.val)) kb N (show 256 * kb + 256 ≤ 16384 by have := h.hkb; omega)

end Ins

/-! ## A trip in the form of one head twice -/

section Same
variable (p : Fixed Ideal) (kb : BitVec 32) (h : k0_chk1 kb) (s : Carry Ideal)

/-- The first head's weights before the flags. -/
abbrev expo0 : FVec Ideal S256x256 .f32 := k0_pay46 p.q0 s.c0 (k0_pay21 (keyTile p kb h)) (causal p kb) (tri p) (tri p)
abbrev lb0 : FVec Ideal S256x256 .f32 := k0_pay44 p.q0 (k0_pay21 (keyTile p kb h))

theorem acc0_eq : acc0 p kb h s = k0_pay51 p.d0 p.tot0 p.lane0 s.n0 (k0_pay21 (keyTile p kb h)) (k0_pay22 (valTile p kb h)) (causal p kb) s.acc (lb0 p kb h) (expo0 p kb h s) (k0_pay47 (F := Ideal)) (triEq p) (triEq p) := rfl
theorem dk0_eq : dk0 p kb h s = k0_pay52 p.q0 p.d0 p.tot0 s.n0 (k0_pay22 (valTile p kb h)) (causal p kb) (k0_pay24 (F := Ideal)) (lb0 p kb h) (expo0 p kb h s) (k0_pay47 (F := Ideal)) (triEq p) (triEq p) := rfl
theorem dv0_eq : dv0 p kb h s = k0_pay53 p.d0 (causal p kb) (k0_pay25 (F := Ideal)) (expo0 p kb h s) (k0_pay47 (F := Ideal)) := rfl
theorem sumC0_eq : sumC0 p kb h s = k0_pay54 s.c0 (k0_pay45 p.q0 (k0_pay21 (keyTile p kb h)) (causal p kb)) := rfl
theorem sumN0_eq : sumN0 p kb h s = k0_pay55 p.d0 s.n0 (k0_pay22 (valTile p kb h)) (causal p kb) (expo0 p kb h s) (k0_pay47 (F := Ideal)) := rfl

end Same

end Cert.AttnWalk

end
-- ==== Proof.AttnTrip.lean ====
/- The whole walk of one query tile on real blocks: the sums it carries, trip by trip, and what it ends with. -/
module

public import proofs.«01_k».proof.Proof.AttnWalk
public import Idealize.ShloMosaic.Lib.WritesUnit

@[expose] public section

set_option maxRecDepth 16384

noncomputable section

open Idealize.ShloMosaic Idealize.ShloMosaic.TcCoe Idealize.SL.Sem

namespace Cert.AttnTrip

open Cert.KernelAttnIdeal Cert.KernelAttnIdeal.Gen Cert.RealKit Cert.AttnMath Cert.AttnHead Cert.AttnRun Cert.AttnWalk
open Finset (Ico range)

theorem off_eq : ∀ n < 64, k0_off1 (kbOf n) = ![256 * n, 0] := by decide +kernel

/-- A position of the key tile `n`. -/
def at256 (n : ℕ) (hn : n < 64) (r : Fin 256) : Fin 16384 := ⟨256 * n + r.val, by omega⟩

section Tile

variable {n : ℕ} (hn : n < 64)

theorem ld_tile {e : EltTy} (f : Vec Ideal S16384x128 e) (r : Fin 256) (l : Fin 128) :
    View.ld f (rK (kbOf n) (chk_of_lt n hn)) (ix2 r l) = f (ix2 (at256 n hn r) l) := by
  have key : ∀ (off : Fin S16384x128.rank → ℕ) (ho : off = ![256 * n, 0]) (inb),
      View.ld f (Rect.unit (s := S16384x128) off S256x128.size inb) (ix2 r l) = f (ix2 (at256 n hn r) l) := by
    intro off ho inb
    exact View.ld_unit_apply_of _ _ _ _ _ (ix2 (at256 n hn r) l) (by subst ho; intro b; fin_cases b <;> simp [at256] <;> rfl)
  exact key _ (off_eq n hn) _

theorem putK_in (d : Vec Ideal S16384x128 .f32) (w : FVec Ideal S256x128 .f32) (r : Fin 256) (l : Fin 128) :
    putK (kbOf n) (chk_of_lt n hn) d w (ix2 (at256 n hn r) l) = w (ix2 r l) :=
  View.read_writes_cons_unit_of_mem (View.whole cc0_scratch0) d (k0_off1_inb (kbOf n) (chk_of_lt n hn)) w [] (ix2 (at256 n hn r) l) (ix2 r l) (off_eq n hn)
    (by intro b; fin_cases b <;> simp [at256] <;> rfl)

theorem putK_out (d : Vec Ideal S16384x128 .f32) (w : FVec Ideal S256x128 .f32) (j : Fin 16384) (l : Fin 128)
    (hj : j.val < 256 * n ∨ 256 * n + 256 ≤ j.val) : putK (kbOf n) (chk_of_lt n hn) d w (ix2 j l) = d (ix2 j l) :=
  View.read_writes_cons_unit_of_not_mem (View.whole cc0_scratch0) d (k0_off1_inb (kbOf n) (chk_of_lt n hn)) w [] (ix2 j l) (off_eq n hn) 0 hj

theorem putV_in (d : Vec Ideal S16384x128 .f32) (w : FVec Ideal S256x128 .f32) (r : Fin 256) (l : Fin 128) :
    putV (kbOf n) (chk_of_lt n hn) d w (ix2 (at256 n hn r) l) = w (ix2 r l) :=
  View.read_writes_cons_unit_of_mem (View.whole cc0_scratch1) d (k0_off1_inb (kbOf n) (chk_of_lt n hn)) w [] (ix2 (at256 n hn r) l) (ix2 r l) (off_eq n hn)
    (by intro b; fin_cases b <;> simp [at256] <;> rfl)

theorem putV_out (d : Vec Ideal S16384x128 .f32) (w : FVec Ideal S256x128 .f32) (j : Fin 16384) (l : Fin 128)
    (hj : j.val < 256 * n ∨ 256 * n + 256 ≤ j.val) : putV (kbOf n) (chk_of_lt n hn) d w (ix2 j l) = d (ix2 j l) :=
  View.read_writes_cons_unit_of_not_mem (View.whole cc0_scratch1) d (k0_off1_inb (kbOf n) (chk_of_lt n hn)) w [] (ix2 j l) (off_eq n hn) 0 hj

end Tile

theorem out_of {n j : ℕ} (h : ¬(256 * n ≤ j ∧ j < 256 * n + 256)) : j < 256 * n ∨ 256 * n + 256 ≤ j := by omega
theorem from_iff {n j : ℕ} (h : ¬(256 * n ≤ j ∧ j < 256 * n + 256)) : 256 * (n + 1) ≤ j ↔ 256 * n ≤ j := by omega
theorem not_next {n j : ℕ} (h : j < 256 * n + 256) : ¬256 * (n + 1) ≤ j := by omega
theorem ex_at {n : ℕ} (hn : n < 64) {j : Fin 16384} (h : 256 * n ≤ j.val ∧ j.val < 256 * n + 256) : ∃ r, j = at256 n hn r :=
  ⟨⟨j.val - 256 * n, by omega⟩, Fin.ext (by show j.val = 256 * n + (j.val - 256 * n); omega)⟩

/-- The lanes of the first head of the pair and those of the second. -/
abbrev M0 : Fin 128 → Prop := fun l => l.val < 64
abbrev M1 : Fin 128 → Prop := fun l => ¬l.val < 64

section Sums

variable (Q K V D : ℕ → Fin 128 → ℝ)

abbrev dl (M : Fin 128 → Prop) : ℕ → ℕ → ℝ := dlog (prod M Q K) (prod M D V)
abbrev wt (M : Fin 128 → Prop) : ℕ → ℕ → ℝ := wgt (prod M Q K)

/-- What the query tile `qi` adds to the key gradient at `j` and to the value gradient at `j`, by both heads. -/
def dkOf (qi j : ℕ) (l : Fin 128) : ℝ :=
  ∑ r : Fin 256, dl Q K V D M0 (256 * qi + r.val) j * pick (M0 l) (Q (256 * qi + r.val) l)
    + ∑ r : Fin 256, dl Q K V D M1 (256 * qi + r.val) j * pick (M1 l) (Q (256 * qi + r.val) l)
def dvOf (qi j : ℕ) (l : Fin 128) : ℝ :=
  ∑ r : Fin 256, wt Q K M0 (256 * qi + r.val) j * pick (M0 l) (D (256 * qi + r.val) l)
    + ∑ r : Fin 256, wt Q K M1 (256 * qi + r.val) j * pick (M1 l) (D (256 * qi + r.val) l)
/-- The query gradient at `i` from the keys from `a` on. -/
def dqOf (a i : ℕ) (l : Fin 128) : ℝ :=
  ∑ j ∈ Ico a N, dl Q K V D M0 i j * pick (M0 l) (K j l) + ∑ j ∈ Ico a N, dl Q K V D M1 i j * pick (M1 l) (K j l)

/-- The values the walk of query tile `qi` reads, on real blocks. -/
structure Tile (p : Fixed Ideal) (qi : ℕ) : Prop where
  hqi : qi < 64
  hi : (p.i 1).val = qi
  hk : ∀ (j : Fin 16384) l, p.keys (ix2 j l) = ((K j.val l : ℝ) : EReal)
  hv : ∀ (j : Fin 16384) l, p.vals (ix2 j l) = ((V j.val l : ℝ) : EReal)
  hu : ∀ i j : Fin 256, p.upper (ix2 i j) = (((if j.val < i.val then 1 else 0 : ℝ)) : EReal)
  he : ∀ i j : Fin 256, p.upperEq (ix2 i j) = (((if j.val ≤ i.val then 1 else 0 : ℝ)) : EReal)
  hq0 : ∀ r l, p.q0 (ix2 r l) = ((headRows M0 Q qi r l : ℝ) : EReal)
  hq1 : ∀ r l, p.q1 (ix2 r l) = ((headRows M1 Q qi r l : ℝ) : EReal)
  hd0 : ∀ r l, p.d0 (ix2 r l) = ((headRows M0 D qi r l : ℝ) : EReal)
  hd1 : ∀ r l, p.d1 (ix2 r l) = ((headRows M1 D qi r l : ℝ) : EReal)
  ht0 : ∀ r z, p.tot0 (ix2 r z) = ((∑ l ∈ range N, gw (prod M0 Q K) (prod M0 D V) (256 * qi + r.val) l : ℝ) : EReal)
  ht1 : ∀ r z, p.tot1 (ix2 r z) = ((∑ l ∈ range N, gw (prod M1 Q K) (prod M1 D V) (256 * qi + r.val) l : ℝ) : EReal)
  hl0 : ∀ z l, p.lane0 (ix2 z l) = bit (M0 l)
  hl1 : ∀ z l, p.lane1 (ix2 z l) = bit (M1 l)

/-- The carried values after the trips down to key tile `n`; the accumulators held `bk` and `bv` before the walk. -/
structure Good (qi : ℕ) (bk bv : ℕ → Fin 128 → ℝ) (n : ℕ) (s : Carry Ideal) : Prop where
  ha : Scalar.cmpi .sgt s.alive 0#32 = 1#1
  hacc : ∀ (r : Fin 256) l, s.acc (ix2 r l) = ((dqOf Q K V D (256 * n) (256 * qi + r.val) l : ℝ) : EReal)
  hc0 : ∀ r z, s.c0 (ix2 r z) = ((∑ l ∈ Ico (256 * n) N, left (prod M0 Q K) (256 * qi + r.val) l : ℝ) : EReal)
  hc1 : ∀ r z, s.c1 (ix2 r z) = ((∑ l ∈ Ico (256 * n) N, left (prod M1 Q K) (256 * qi + r.val) l : ℝ) : EReal)
  hn0 : ∀ r z, s.n0 (ix2 r z) = ((∑ l ∈ Ico (256 * n) N, gw (prod M0 Q K) (prod M0 D V) (256 * qi + r.val) l : ℝ) : EReal)
  hn1 : ∀ r z, s.n1 (ix2 r z) = ((∑ l ∈ Ico (256 * n) N, gw (prod M1 Q K) (prod M1 D V) (256 * qi + r.val) l : ℝ) : EReal)
  hdk : ∀ (j : Fin 16384) l, s.dk (ix2 j l) = ((bk j.val l + (if 256 * n ≤ j.val then dkOf Q K V D qi j.val l else 0) : ℝ) : EReal)
  hdv : ∀ (j : Fin 16384) l, s.dv (ix2 j l) = ((bv j.val l + (if 256 * n ≤ j.val then dvOf Q K D qi j.val l else 0) : ℝ) : EReal)

end Sums

section Trip

variable {Q K V D : ℕ → Fin 128 → ℝ} {p : Fixed Ideal} {qi : ℕ} (tp : Tile Q K V D p qi) {bk bv : ℕ → Fin 128 → ℝ}
  {n : ℕ} (hn : n < 64) {s : Carry Ideal} (gs : Good Q K V D qi bk bv (n + 1) s)

theorem pay21 (x : Vec Ideal S256x128 .bf16) (r : Fin 256) (l : Fin 128) : k0_pay21 (F := Ideal) x (ix2 r l) = x (ix2 r l) := by
  pointwise [k0_pay21]
theorem pay22 (x : Vec Ideal S256x128 .bf16) (r : Fin 256) (l : Fin 128) : k0_pay22 (F := Ideal) x (ix2 r l) = x (ix2 r l) := by
  pointwise [k0_pay22]

include tp hn in
theorem causal_tile (r j : Fin 256) : causal p (kbOf n) (ix2 r j) = bit (before qi n r j) := by
  have h := causal_at n qi hn tp.hqi r j
  unfold causal Fixed.qi
  rw [tp.hi]; exact h

include tp in
theorem key_tile (r : Fin 256) (l : Fin 128) : k0_pay21 (F := Ideal) (keyTile p (kbOf n) (chk_of_lt n hn)) (ix2 r l) = ((rows K n r l : ℝ) : EReal) :=
  (pay21 _ r l).trans
    ((ld_tile hn p.keys r l).trans (tp.hk _ l))

include tp in
theorem val_tile (r : Fin 256) (l : Fin 128) : k0_pay22 (F := Ideal) (valTile p (kbOf n) (chk_of_lt n hn)) (ix2 r l) = ((rows V n r l : ℝ) : EReal) :=
  (pay22 _ r l).trans
    ((ld_tile hn p.vals r l).trans (tp.hv _ l))

theorem tri_eq (p : Fixed Ideal) : tri p = p.upper := View.ld_unit_zero (funext fun b => by fin_cases b <;> rfl) _ _
theorem triEq_eq (p : Fixed Ideal) : triEq p = p.upperEq := View.ld_unit_zero (funext fun b => by fin_cases b <;> rfl) _ _

include tp gs in
theorem ins0 : Ins M0 Q K V D qi n p.q0 p.d0 (k0_pay21 (F := Ideal) (keyTile p (kbOf n) (chk_of_lt n hn)))
    (k0_pay22 (F := Ideal) (valTile p (kbOf n) (chk_of_lt n hn))) (causal p (kbOf n)) (tri p) (triEq p) p.tot0 s.c0 s.n0 where
  hkb := hn
  hq := tp.hq0
  hd := tp.hd0
  hk := key_tile tp hn
  hv := val_tile tp hn
  hc := causal_tile tp hn
  hu := by rw [tri_eq]; exact tp.hu
  he := by rw [triEq_eq]; exact tp.he
  ht := tp.ht0
  hcs := gs.hc0
  hns := gs.hn0

include tp gs in
theorem ins1 : Ins M1 Q K V D qi n p.q1 p.d1 (k0_pay21 (F := Ideal) (keyTile p (kbOf n) (chk_of_lt n hn)))
    (k0_pay22 (F := Ideal) (valTile p (kbOf n) (chk_of_lt n hn))) (causal p (kbOf n)) (tri p) (triEq p) p.tot1 s.c1 s.n1 where
  hkb := hn
  hq := tp.hq1
  hd := tp.hd1
  hk := key_tile tp hn
  hv := val_tile tp hn
  hc := causal_tile tp hn
  hu := by rw [tri_eq]; exact tp.hu
  he := by rw [triEq_eq]; exact tp.he
  ht := tp.ht1
  hcs := gs.hc1
  hns := gs.hn1

theorem pay24 (r : Fin 256) (l : Fin 128) : k0_pay24 (F := Ideal) (ix2 r l) = ((0 : ℝ) : EReal) := by
  pointwise [k0_pay24]
  exact EReal.coe_zero.symm
theorem pay25 (r : Fin 256) (l : Fin 128) : k0_pay25 (F := Ideal) (ix2 r l) = ((0 : ℝ) : EReal) := by
  pointwise [k0_pay25]
  exact EReal.coe_zero.symm

theorem trip_dk : (trip p (kbOf n) (chk_of_lt n hn) s).dk
    = putK (kbOf n) (chk_of_lt n hn) s.dk (k0_pay1 (dk1 p (kbOf n) (chk_of_lt n hn) s) (View.ld s.dk (rK (kbOf n) (chk_of_lt n hn)))) := rfl
theorem trip_dv : (trip p (kbOf n) (chk_of_lt n hn) s).dv
    = putV (kbOf n) (chk_of_lt n hn) s.dv (k0_pay2 (dv1 p (kbOf n) (chk_of_lt n hn) s) (View.ld s.dv (rK (kbOf n) (chk_of_lt n hn)))) := rfl

include tp gs in
set_option maxHeartbeats 800000 in
/-- A trip takes the sums over the keys from tile `n + 1` on to those from tile `n` on. -/
theorem trip_good : Good Q K V D qi bk bv n (trip p (kbOf n) (chk_of_lt n hn) s) := by
  have i0 := ins0 tp hn gs
  have i1 := ins1 tp hn gs
  have hN : 256 * n + 256 ≤ N := show 256 * n + 256 ≤ 16384 by omega
  have hC0 : ∀ r z, sumC0 p (kbOf n) (chk_of_lt n hn) s (ix2 r z) = _ := fun r z => i0.sumC r z
  have hC1 : ∀ r z, sumC1 p (kbOf n) (chk_of_lt n hn) s (ix2 r z) = _ := fun r z => i1.sumC r z
  have hA0 : ∀ r l, acc0 p (kbOf n) (chk_of_lt n hn) s (ix2 r l) = _ := fun r l => i0.acc tp.hl0 gs.hacc r l
  have hA1 : ∀ r l, acc1 p (kbOf n) (chk_of_lt n hn) s (ix2 r l) = _ := fun r l => i1.acc tp.hl1 hA0 r l
  have hK0 : ∀ j l, dk0 p (kbOf n) (chk_of_lt n hn) s (ix2 j l) = _ := fun j l => i0.dks pay24 j l
  have hK1 : ∀ j l, dk1 p (kbOf n) (chk_of_lt n hn) s (ix2 j l) = _ := fun j l => i1.dks hK0 j l
  have hV0 : ∀ j l, dv0 p (kbOf n) (chk_of_lt n hn) s (ix2 j l) = _ := fun j l => i0.dvs pay25 j l
  have hV1 : ∀ j l, dv1 p (kbOf n) (chk_of_lt n hn) s (ix2 j l) = _ := fun j l => i1.dvs hV0 j l
  refine ⟨?_, ?_, hC0, hC1, fun r z => i0.sumN r z, fun r z => i1.sumN r z, ?_, ?_⟩
  · exact alive_at hC0 hC1
  · intro r l
    refine (hA1 r l).trans (congrArg _ ?_)
    unfold dqOf
    rw [← whole_tile (fun j => dl Q K V D M0 (256 * qi + r.val) j * pick (M0 l) (K j l)) n N hN,
      ← whole_tile (fun j => dl Q K V D M1 (256 * qi + r.val) j * pick (M1 l) (K j l)) n N hN]
    ring
  · intro j l
    by_cases hj : 256 * n ≤ j.val ∧ j.val < 256 * n + 256
    · obtain ⟨r, rfl⟩ : ∃ r, j = at256 n hn r := ex_at hn hj
      refine (putK_in hn _ _ r l).trans ((pay1_at (hK1 r l) ((ld_tile hn _ r l).trans (gs.hdk _ l))).trans (congrArg _ ?_))
      rw [if_pos hj.1, if_neg (not_next hj.2), zero_add, add_zero]
      rfl
    · rw [trip_dk hn, putK_out hn _ _ j l (out_of hj), gs.hdk j l]
      simp only [from_iff hj]
  · intro j l
    by_cases hj : 256 * n ≤ j.val ∧ j.val < 256 * n + 256
    · obtain ⟨r, rfl⟩ : ∃ r, j = at256 n hn r := ex_at hn hj
      refine (putV_in hn _ _ r l).trans ((pay2_at (hV1 r l) ((ld_tile hn _ r l).trans (gs.hdv _ l))).trans (congrArg _ ?_))
      rw [if_pos hj.1, if_neg (not_next hj.2), zero_add, add_zero]
      rfl
    · rw [trip_dv hn, putV_out hn _ _ j l (out_of hj), gs.hdv j l]
      simp only [from_iff hj]

end Trip

section Walk

variable {Q K V D : ℕ → Fin 128 → ℝ} {p : Fixed Ideal} {qi : ℕ} (tp : Tile Q K V D p qi) {bk bv : ℕ → Fin 128 → ℝ}
include tp

theorem walk_good : ∀ n ≤ 64, ∀ s : Carry Ideal, Good Q K V D qi bk bv n s → Good Q K V D qi bk bv 0 (walk p n s) := by
  intro n
  induction n with
  | zero => intro _ s gs; exact gs
  | succ n ih =>
    intro hn s gs
    have h64 : n < 64 := by omega
    rw [walk, dif_pos h64, if_pos gs.ha]
    exact ih (by omega) _ (trip_good tp h64 gs)

omit tp in
theorem not_before {i j : ℕ} {r : Fin 256} (h : 256 * (i + 1) ≤ j) : ¬j < 256 * i + r.val := by omega

/-- Before the first trip: no key from tile `qi + 1` on comes before a query of tile `qi`. -/
theorem start_good {dk dv : Vec Ideal S16384x128 .f32} (hk : ∀ (j : Fin 16384) l, dk (ix2 j l) = ((bk j.val l : ℝ) : EReal))
    (hv : ∀ (j : Fin 16384) l, dv (ix2 j l) = ((bv j.val l : ℝ) : EReal)) : Good Q K V D qi bk bv (qi + 1) (startAt dk dv) := by
  have hz : ∀ (f : ℕ → ℕ → ℝ) (r : Fin 256), (∀ i j, ¬j < i → f i j = 0) → ∑ l ∈ Ico (256 * (qi + 1)) N, f (256 * qi + r.val) l = 0 := fun f r hf =>
    Finset.sum_eq_zero fun l hl => hf _ _ (not_before (Finset.mem_Ico.mp hl).1)
  have hm : ∀ (f : ℕ → ℕ → ℝ) (g : ℕ → ℝ) (r : Fin 256), (∀ i j, ¬j < i → f i j = 0) → ∑ l ∈ Ico (256 * (qi + 1)) N, f (256 * qi + r.val) l * g l = 0 := fun f g r hf =>
    Finset.sum_eq_zero fun l hl => by rw [hf _ _ (not_before (Finset.mem_Ico.mp hl).1), zero_mul]
  have h19 : ∀ (r : Fin 256) (l : Fin 128), k0_pay19 (F := Ideal) (ix2 r l) = ((0 : ℝ) : EReal) := by
    intro r l; pointwise [k0_pay19]; exact EReal.coe_zero.symm
  have h20 : ∀ (r : Fin 256) (z : Fin 1), k0_pay20 (F := Ideal) (ix2 r z) = ((0 : ℝ) : EReal) := by
    intro r z; pointwise [k0_pay20]; exact EReal.coe_zero.symm
  refine ⟨show Scalar.cmpi .sgt (1#32) 0#32 = 1#1 by decide, ?_, ?_, ?_, ?_, ?_, ?_, ?_⟩
  · intro r l
    refine (h19 r l).trans (congrArg _ ?_)
    unfold dqOf
    rw [hm _ _ r fun i j h => dlog_zero h, hm _ _ r fun i j h => dlog_zero h, add_zero]
  · intro r z; exact (h20 r z).trans (congrArg _ (hz _ r fun i j h => left_zero h).symm)
  · intro r z; exact (h20 r z).trans (congrArg _ (hz _ r fun i j h => left_zero h).symm)
  · intro r z; exact (h20 r z).trans (congrArg _ (hz _ r fun i j h => gw_zero h).symm)
  · intro r z; exact (h20 r z).trans (congrArg _ (hz _ r fun i j h => gw_zero h).symm)
  · intro j l
    refine (hk j l).trans (congrArg _ ?_)
    by_cases h : 256 * (qi + 1) ≤ j.val
    · rw [if_pos h, dkOf, Finset.sum_eq_zero, Finset.sum_eq_zero, add_zero, add_zero]
      · intro r _; rw [dl, dlog_zero (not_before h), zero_mul]
      · intro r _; rw [dl, dlog_zero (not_before h), zero_mul]
    · rw [if_neg h, add_zero]
  · intro j l
    refine (hv j l).trans (congrArg _ ?_)
    by_cases h : 256 * (qi + 1) ≤ j.val
    · rw [if_pos h, dvOf, Finset.sum_eq_zero, Finset.sum_eq_zero, add_zero, add_zero]
      · intro r _; rw [wt, wgt_zero (not_before h), zero_mul]
      · intro r _; rw [wt, wgt_zero (not_before h), zero_mul]
    · rw [if_neg h, add_zero]

end Walk

end Cert.AttnTrip

end
-- ==== Proof.AttnHost.lean ====
/- The arrays the host prepares for the attention's backward launch, read at an index. -/
module

public import proofs.«01_k».proof.Proof.AttnHead
public import proofs.«01_k».proof.Proof.AttnLaunch
public import proofs.«01_k».proof.Proof.RealKit
public import proofs.«01_k».proof.Proof.Gen.ReferenceAttnIdeal.Read
public import Idealize.ShloMosaic.Lib.Claim

@[expose] public section

set_option maxRecDepth 16384

noncomputable section

open Idealize.ShloMosaic Idealize.ShloMosaic.TcCoe Idealize.SL.Sem

namespace Cert.AttnHost

open Cert.KernelAttnIdeal Cert.KernelAttnIdeal.Gen Cert.RealKit Cert.AttnRun

variable (m : (ℓ : Loc nD τ sig) → Buf (Elt Ideal) ℓ) (c : Dev nD)

theorem ge_words (a b : ℕ) (ha : a < 32768) (hb : b < 32768) :
    IntOp.cmpi CmpIPredicate.sge (BitVec.ofNat 32 a) (BitVec.ofNat 32 b) = if b ≤ a then 1#1 else 0#1 := by
  show BitVec.ofBool (BitVec.sle (BitVec.ofNat 32 b) (BitVec.ofNat 32 a)) = _
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  by_cases h : b ≤ a
  · rw [if_pos h, decide_eq_true (by exact_mod_cast h)]; rfl
  · rw [if_neg h, decide_eq_false (by exact_mod_cast h)]; rfl

theorem tri_bit_eq (i j : Fin 256) : IntOp.cmpi CmpIPredicate.sge (IntOp.addi (BitVec.ofNat 32 i.val) 0#32) (BitVec.ofNat 32 j.val) = if j.val ≤ i.val then 1#1 else 0#1 := by
  rw [show IntOp.addi (BitVec.ofNat 32 i.val) 0#32 = BitVec.ofNat 32 i.val from BitVec.add_zero _, ge_words _ _ (by omega) (by omega)]

theorem before_zero : ∀ j : Fin 256, IntOp.cmpi CmpIPredicate.sge (IntOp.addi (BitVec.ofNat 32 0) 4294967295#32) (BitVec.ofNat 32 j.val) = 0#1 := by decide +kernel
theorem sub_one : ∀ i : Fin 256, i.val ≠ 0 → IntOp.addi (BitVec.ofNat 32 i.val) 4294967295#32 = BitVec.ofNat 32 (i.val - 1) := by decide +kernel

theorem tri_bit (i j : Fin 256) : IntOp.cmpi CmpIPredicate.sge (IntOp.addi (BitVec.ofNat 32 i.val) 4294967295#32) (BitVec.ofNat 32 j.val) = if j.val < i.val then 1#1 else 0#1 := by
  by_cases h : i.val = 0
  · rw [h, before_zero, if_neg (by omega)]
  · rw [sub_one i h, ge_words _ _ (by omega) (by omega)]
    have e : j.val ≤ i.val - 1 ↔ j.val < i.val := by omega
    simp only [e]

theorem of_bit (p : Prop) [Decidable p] : (FloatOps.uitofp (F := Ideal) FTy.bf16 (if p then 1#1 else 0#1) : EReal) = (((if p then 1 else 0 : ℝ)) : EReal) := by
  by_cases h : p
  · rw [if_pos h, if_pos h]; show (((1#1 : BitVec 1).toNat : ℝ) : EReal) = _; simp
  · rw [if_neg h, if_neg h]; show (((0#1 : BitVec 1).toNat : ℝ) : EReal) = _; simp

theorem v39 (i j : Fin 256) : V m c main_v39 (ix2 i j) = (((if j.val < i.val then 1 else 0 : ℝ)) : EReal) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  pointwise
  rw [tri_bit]
  exact of_bit _

theorem v45 (i j : Fin 256) : V m c main_v45 (ix2 i j) = (((if j.val ≤ i.val then 1 else 0 : ℝ)) : EReal) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  pointwise
  rw [tri_bit_eq]
  exact of_bit _

theorem v6_first : V m c main_v6 = StableHlo.after hostOps0 (fun b => m (c, b)) main_v6 := by
  have e : List.flatten [hostOps0 (F := Ideal), hostOps0_1, hostOps0_2, hostOps0_3, hostOps0_4, hostOps0_5, hostOps0_6, hostOps0_7, hostOps0_8, hostOps0_9]
      = hostOps0 ++ List.flatten [hostOps0_1, hostOps0_2, hostOps0_3, hostOps0_4, hostOps0_5, hostOps0_6, hostOps0_7, hostOps0_8, hostOps0_9] := rfl
  unfold V
  rw [e, StableHlo.after_append]
  refine StableHlo.after_of_forall_not_mem (b := Proc.devRef .tc main_v6) _ _ (List.forall_iff_forall_mem.mp ?_)
  simp only [hostOps0, hostOps0_1, hostOps0_2, hostOps0_3, hostOps0_4, hostOps0_5, hostOps0_6, hostOps0_7, hostOps0_8, hostOps0_9, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)

/-- The scaled queries, the keys and the values side by side. -/
def qkv (x : FVec Ideal S16384x768 .f32) : FVec Ideal S16384x768 .bf16 :=
  truncf .bf16 (concatenate S16384x768 1
    [⟨S16384x256, mulf (extractStridedSlice S16384x256 ![0, 0] x slices_S16384x768_S16384x256_0_0) (broadcastInDim S16384x256 ![] bcast_S_S16384x256 (constant S_ .f32 0x3E000000#32))⟩,
     ⟨S16384x256, extractStridedSlice S16384x256 ![0, 256] x slices_S16384x768_S16384x256_0_256⟩,
     ⟨S16384x256, extractStridedSlice S16384x256 ![0, 512] x slices_S16384x768_S16384x256_0_512⟩] concatenates_S16384x256_S16384x256_S16384x256_S16384x768_d1) bitsLt_bf16_f32

theorem v6 : V m c main_v6 = qkv (m ((c : Thread nD τ).loc main_arg0)) := by
  rw [v6_first]
  rfl

theorem qkv_at {x : FVec Ideal S16384x768 .f32} {Z : Fin 16384 → Fin 768 → ℝ} (h : ∀ i j, x (ix2 i j) = ((Z i j : ℝ) : EReal)) (i : Fin 16384) (j : Fin 768) :
    qkv x (ix2 i j) = (((if j.val < 256 then Z i j * (1 / 8) else Z i j : ℝ)) : EReal) := by
  unfold qkv
  pointwise
  by_cases h0 : j.val < 256
  · rw [dif_pos h0, if_pos h0, h, c8]; exact mul_coe _ _
  · rw [dif_neg h0, if_neg h0]
    by_cases h1 : j.val - 256 < 256
    · rw [dif_pos h1, h]; exact congrArg (fun l => ((Z i l : ℝ) : EReal)) (Fin.ext (by show 256 + (j.val - 256) = j.val; omega))
    · rw [dif_neg h1, h]; exact congrArg (fun l => ((Z i l : ℝ) : EReal)) (Fin.ext (by show 512 + (j.val - 256 - 256) = j.val; omega))

theorem v33 : V m c main_v33 = Cert.ReferenceAttnIdeal.Read.val_main_v26 (F := Ideal) (m ((c : Thread nD τ).loc main_arg0)) := by
  simp only [V, hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  simp only [StableHlo.TRef.ofBuf, StableHlo.TRef.toBuf, cast_cast, cast_eq]
  rfl

end Cert.AttnHost

end
-- ==== Proof.AttnKernel.lean ====
/- What the attention's backward kernel leaves in its three result arrays, at real arguments. -/
module

public import proofs.«01_k».proof.Proof.AttnTrip
public import proofs.«01_k».proof.Proof.AttnHost

@[expose] public section

set_option maxRecDepth 16384

noncomputable section

open Idealize.ShloMosaic Idealize.ShloMosaic.TcCoe Idealize.SL.Sem
open Idealize.ShloMosaic.Pipeline (Dat)

namespace Cert.AttnKernel

open Cert.KernelAttnIdeal Cert.KernelAttnIdeal.Gen Cert.RealKit Cert.AttnMath Cert.AttnHead Cert.AttnRun Cert.AttnWalk Cert.AttnTrip
open Finset (Ico range)

/-- A real array read at numbers. -/
def num {a b : ℕ} (f : Fin a → Fin b → ℝ) (i j : ℕ) : ℝ := if h : i < a ∧ j < b then f ⟨i, h.1⟩ ⟨j, h.2⟩ else 0

theorem num_at {a b : ℕ} (f : Fin a → Fin b → ℝ) (i : Fin a) (j : Fin b) {i' j' : ℕ} (hi : i' = i.val) (hj : j' = j.val) : num f i' j' = f i j := by
  subst hi hj
  exact dif_pos ⟨i.isLt, j.isLt⟩

section Arrays

variable (Z : Fin 16384 → Fin 768 → ℝ) (C : Fin 16384 → Fin 256 → ℝ) (hp : ℕ)

/-- The scaled queries, the keys, the values and the output's cotangent of the pair `hp` of heads. -/
def qs (i : ℕ) (l : Fin 128) : ℝ := num Z i (128 * hp + l.val) * (1 / 8)
def ks (j : ℕ) (l : Fin 128) : ℝ := num Z j (256 + 128 * hp + l.val)
def vs (j : ℕ) (l : Fin 128) : ℝ := num Z j (512 + 128 * hp + l.val)
def ds (i : ℕ) (l : Fin 128) : ℝ := num C i (128 * hp + l.val)

open Classical in
/-- The attention's output. -/
def os (i : ℕ) (l : Fin 128) : ℝ :=
  ∑ j ∈ range N, (if l.val < 64 then wt (qs Z hp) (ks Z hp) M0 i j else wt (qs Z hp) (ks Z hp) M1 i j) * vs Z hp j l

theorem tot_eq (M : Fin 128 → Prop) {o : Fin 128 → ℝ} (i : ℕ)
    (ho : ∀ l, M l → o l = ∑ j ∈ range N, wt (qs Z hp) (ks Z hp) M i j * vs Z hp j l) :
    ∑ l : Fin 128, pick (M l) (ds C hp i l * o l)
      = ∑ j ∈ range N, gw (prod M (qs Z hp) (ks Z hp)) (prod M (ds C hp) (vs Z hp)) i j := by
  have e : ∀ l, pick (M l) (ds C hp i l * o l) = ∑ j ∈ range N, pick (M l) (ds C hp i l) * vs Z hp j l * wt (qs Z hp) (ks Z hp) M i j := by
    intro l
    unfold pick
    by_cases h : M l
    · rw [if_pos h, if_pos h, ho l h, Finset.mul_sum]
      exact Finset.sum_congr rfl fun j _ => by ring
    · rw [if_neg h, if_neg h]
      exact (Finset.sum_eq_zero fun j _ => by ring).symm
  rw [Finset.sum_congr rfl fun l _ => e l, Finset.sum_comm]
  refine Finset.sum_congr rfl fun j _ => ?_
  rw [← Finset.sum_mul]
  rfl

theorem tot0 (i : ℕ) : ∑ l : Fin 128, pick (l.val < 64) (ds C hp i l * os Z hp i l)
    = ∑ j ∈ range N, gw (prod M0 (qs Z hp) (ks Z hp)) (prod M0 (ds C hp) (vs Z hp)) i j :=
  tot_eq Z C hp M0 i fun l h => Finset.sum_congr rfl fun j _ => by rw [if_pos h]

theorem tot1 (i : ℕ) : ∑ l : Fin 128, pick (¬l.val < 64) (ds C hp i l * os Z hp i l)
    = ∑ j ∈ range N, gw (prod M1 (qs Z hp) (ks Z hp)) (prod M1 (ds C hp) (vs Z hp)) i j :=
  tot_eq Z C hp M1 i fun l h => Finset.sum_congr rfl fun j _ => by rw [if_neg h]

end Arrays

variable (m : (ℓ : Loc nD τ sig) → Buf (Elt Ideal) ℓ) (c : Dev nD)

theorem idx : ∀ t : Fin (cfg0 (F := Ideal)).N, (win0_0.index t = ![t.val % 64, t.val / 64] ∧ win0_1.index t = ![0, 2 + t.val / 64] ∧ win0_2.index t = ![0, 4 + t.val / 64]
    ∧ win0_3.index t = ![t.val % 64, t.val / 64] ∧ win0_4.index t = ![t.val % 64, t.val / 64] ∧ win0_5.index t = ![0, 0] ∧ win0_6.index t = ![0, 0]
    ∧ win0_7.index t = ![t.val % 64, t.val / 64]) ∧ t.val < 128 :=
  (by decide +kernel : ∀ t : Fin grid0.N, _)

theorem crd : ∀ t : Fin (cfg0 (F := Ideal)).N, (grid0.coords t 0).val = t.val / 64 ∧ (grid0.coords t 1).val = t.val % 64 :=
  (by decide +kernel : ∀ t : Fin grid0.N, _)

def row (t : Fin (cfg0 (F := Ideal)).N) (a : Fin 256) : Fin 16384 := ⟨t.val % 64 * 256 + a.val, by omega⟩
def col (t : Fin (cfg0 (F := Ideal)).N) (l : Fin 128) : Fin 256 := ⟨t.val / 64 * 128 + l.val, by have := (idx t).2; omega⟩
def wide (t : Fin (cfg0 (F := Ideal)).N) (n : ℕ) (hn : n ≤ 4) (l : Fin 128) : Fin 768 := ⟨(n + t.val / 64) * 128 + l.val, by have := (idx t).2; omega⟩

variable (Z : Fin 16384 → Fin 768 → ℝ) (C : Fin 16384 → Fin 256 → ℝ)

/-- The kernel's arguments and the attention's output, computed on the host, are real arrays. -/
structure Args : Prop where
  z : ∀ i j, m ((c : Thread nD τ).loc main_arg0) (ix2 i j) = ((Z i j : ℝ) : EReal)
  ct : ∀ i j, m ((c : Thread nD τ).loc main_arg1) (ix2 i j) = ((C i j : ℝ) : EReal)
  o : ∀ (i : Fin 16384) (hp : ℕ) (hh : hp < 2) (l : Fin 128), V m c main_v33 (ix2 i ⟨hp * 128 + l.val, by omega⟩) = ((os Z hp i.val l : ℝ) : EReal)

variable {m c Z C} (h : Args m c Z C) (t : Fin (cfg0 (F := Ideal)).N)
include h

theorem blk0 (a : Fin 256) (l : Fin 128) : iblk m c 0 t (ix2 a l) = ((qs Z (t.val / 64) (256 * (t.val % 64) + a.val) l : ℝ) : EReal) := by
  have hl := (idx t).2
  have e : iblk m c 0 t (ix2 a l) = V m c main_v6 (ix2 (row t a) (wide t 0 (by omega) l)) := by blk_ext [iblk, idx t, row, wide]
  rw [e, AttnHost.v6, AttnHost.qkv_at h.z, if_pos (by show (0 + t.val / 64) * 128 + l.val < 256; omega), qs,
    num_at Z (row t a) (wide t 0 (by omega) l) (by show _ = t.val % 64 * 256 + a.val; omega) (by show _ = (0 + t.val / 64) * 128 + l.val; omega)]

theorem blk1 (j : Fin 16384) (l : Fin 128) : iblk m c 1 t (ix2 j l) = ((ks Z (t.val / 64) j.val l : ℝ) : EReal) := by
  have hl := (idx t).2
  have e : iblk m c 1 t (ix2 j l) = V m c main_v6 (ix2 j (wide t 2 (by omega) l)) := by blk_ext [iblk, idx t, row, wide]
  rw [e, AttnHost.v6, AttnHost.qkv_at h.z, if_neg (by show ¬(2 + t.val / 64) * 128 + l.val < 256; omega), ks,
    num_at Z j (wide t 2 (by omega) l) rfl (by show _ = (2 + t.val / 64) * 128 + l.val; omega)]

theorem blk2 (j : Fin 16384) (l : Fin 128) : iblk m c 2 t (ix2 j l) = ((vs Z (t.val / 64) j.val l : ℝ) : EReal) := by
  have hl := (idx t).2
  have e : iblk m c 2 t (ix2 j l) = V m c main_v6 (ix2 j (wide t 4 (by omega) l)) := by blk_ext [iblk, idx t, row, wide]
  rw [e, AttnHost.v6, AttnHost.qkv_at h.z, if_neg (by show ¬(4 + t.val / 64) * 128 + l.val < 256; omega), vs,
    num_at Z j (wide t 4 (by omega) l) rfl (by show _ = (4 + t.val / 64) * 128 + l.val; omega)]

theorem blk3 (a : Fin 256) (l : Fin 128) : iblk m c 3 t (ix2 a l) = ((ds C (t.val / 64) (256 * (t.val % 64) + a.val) l : ℝ) : EReal) := by
  have e : iblk m c 3 t (ix2 a l) = V m c main_arg1 (ix2 (row t a) (col t l)) := by blk_ext [iblk, idx t, row, col]
  rw [e, V_arg1, h.ct, ds, num_at C (row t a) (col t l) (by show _ = t.val % 64 * 256 + a.val; omega) (by show _ = t.val / 64 * 128 + l.val; omega)]

theorem blk4 (a : Fin 256) (l : Fin 128) : iblk m c 4 t (ix2 a l) = ((os Z (t.val / 64) (256 * (t.val % 64) + a.val) l : ℝ) : EReal) := by
  have hl := (idx t).2
  have e : ∀ f : Vec Ideal S16384x256 .f32, (((cfg0 (F := Ideal)).win 4).blk t).view.read (Elt Ideal) f (ix2 a l) = f (ix2 (row t a) (col t l)) := by
    intro f; blk_ext [idx t, row, col]
  refine (e (V m c main_v33)).trans ?_
  refine (h.o (row t a) (t.val / 64) (by omega) l).trans ?_
  rw [show (row t a).val = 256 * (t.val % 64) + a.val by show t.val % 64 * 256 + a.val = _; omega]

omit h in
theorem blk5 (i j : Fin 256) : iblk m c 5 t (ix2 i j) = (((if j.val < i.val then 1 else 0 : ℝ)) : EReal) := by
  have e : ∀ f : Vec Ideal S256x256 .bf16, (((cfg0 (F := Ideal)).win 5).blk t).view.read (Elt Ideal) f (ix2 i j) = f (ix2 i j) := by
    intro f; blk_ext [idx t]
  exact (e (V m c main_v39)).trans (AttnHost.v39 m c i j)

omit h in
theorem blk6 (i j : Fin 256) : iblk m c 6 t (ix2 i j) = (((if j.val ≤ i.val then 1 else 0 : ℝ)) : EReal) := by
  have e : ∀ f : Vec Ideal S256x256 .bf16, (((cfg0 (F := Ideal)).win 6).blk t).view.read (Elt Ideal) f (ix2 i j) = f (ix2 i j) := by
    intro f; blk_ext [idx t]
  exact (e (V m c main_v45)).trans (AttnHost.v45 m c i j)

omit h in
theorem ld_rT {e : EltTy} (x : Vec Ideal S256x128 e) : View.ld x rT = x := View.ld_unit_zero (funext fun b => by fin_cases b <;> rfl) _ _

omit h in
theorem tile_of {Q K W D O : ℕ → Fin 128 → ℝ} {qi : ℕ} {i : grid0.Coords} {x0 : Vec Ideal S256x128 .bf16} {x1 x2 : Vec Ideal S16384x128 .bf16} {x3 x4 : Vec Ideal S256x128 .f32}
    {x5 x6 : Vec Ideal S256x256 .bf16} (hq : qi < 64) (hi : (i 1).val = qi)
    (h0 : ∀ (r : Fin 256) l, x0 (ix2 r l) = ((Q (256 * qi + r.val) l : ℝ) : EReal)) (h1 : ∀ (j : Fin 16384) l, x1 (ix2 j l) = ((K j.val l : ℝ) : EReal))
    (h2 : ∀ (j : Fin 16384) l, x2 (ix2 j l) = ((W j.val l : ℝ) : EReal)) (h3 : ∀ (r : Fin 256) l, x3 (ix2 r l) = ((D (256 * qi + r.val) l : ℝ) : EReal))
    (h4 : ∀ (r : Fin 256) l, x4 (ix2 r l) = ((O (256 * qi + r.val) l : ℝ) : EReal))
    (h5 : ∀ i j : Fin 256, x5 (ix2 i j) = (((if j.val < i.val then 1 else 0 : ℝ)) : EReal))
    (h6 : ∀ i j : Fin 256, x6 (ix2 i j) = (((if j.val ≤ i.val then 1 else 0 : ℝ)) : EReal))
    (t0 : ∀ i, ∑ l : Fin 128, pick (l.val < 64) (D i l * O i l) = ∑ j ∈ range N, gw (prod M0 Q K) (prod M0 D W) i j)
    (t1 : ∀ i, ∑ l : Fin 128, pick (¬l.val < 64) (D i l * O i l) = ∑ j ∈ range N, gw (prod M1 Q K) (prod M1 D W) i j) :
    Tile Q K W D (fixedAt i x0 x1 x2 x3 x4 x5 x6) qi := by
  have e0 := ld_rT x0
  have e3 := ld_rT x3
  have e4 := ld_rT x4
  unfold fixedAt
  rw [e0, e3, e4]
  exact {
    hqi := hq
    hi := hi
    hk := h1
    hv := h2
    hu := h5
    he := h6
    hq0 := pay13 h0
    hq1 := pay17 h0
    hd0 := pay14 h3
    hd1 := pay18 h3
    ht0 := fun r z => (pay12 h3 h4 r z).trans (congrArg _ (t0 _))
    ht1 := fun r z => (pay16 h3 h4 r z).trans (congrArg _ (t1 _))
    hl0 := lane0
    hl1 := lane1 }

/-- The point's values. -/
theorem tile : Tile (qs Z (t.val / 64)) (ks Z (t.val / 64)) (vs Z (t.val / 64)) (ds C (t.val / 64)) (fixAt m c t) (t.val % 64) :=
  tile_of (by omega) (crd t).2 (blk0 h t) (blk1 h t) (blk2 h t) (blk3 h t) (blk4 h t) (blk5 t) (blk6 t) (tot0 Z C _) (tot1 Z C _)

end Cert.AttnKernel

end
-- ==== Proof.AttnMem.lean ====
/- The accumulators and the result arrays of the attention's backward kernel, point by point, at real arguments. -/
module

public import proofs.«01_k».proof.Proof.AttnKernel

@[expose] public section

set_option maxRecDepth 16384

noncomputable section

open Idealize.ShloMosaic Idealize.ShloMosaic.TcCoe Idealize.SL.Sem
open Idealize.ShloMosaic.Pipeline (Dat)

namespace Cert.AttnMem

open Cert.KernelAttnIdeal Cert.KernelAttnIdeal.Gen Cert.RealKit Cert.AttnMath Cert.AttnHead Cert.AttnRun Cert.AttnWalk Cert.AttnTrip Cert.AttnKernel
open Finset (Ico range)

theorem slab (g : Vec Ideal S1x16384x128 .f32) (hc : S1x16384x128.ShapeCasts S16384x128) (j : Fin 16384) (l : Fin 128) :
    shapeCast S16384x128 g hc (ix2 j l) = g (ix3 0 j l) := by
  pointwise

/-- An accumulator copied into the row at `off`. -/
def putRow1 (off : Fin 3 → ℕ) (inb : ∀ x, off x + S1x16384x128.size x ≤ S2x16384x128.size x) (y : Vec Ideal S2x16384x128 .f32) (d : Vec Ideal S16384x128 .f32) : Vec Ideal S2x16384x128 .f32 :=
  View.write (Elt Ideal) ((hb1.slice (Rect.unit (s := S2x16384x128) off S1x16384x128.size inb) (fun _ => rfl)).squeeze S16384x128 squeezes_S1x16384x128_S16384x128).view y d Finset.univ

/-- An accumulator copied into the row at `off`. -/
def putRow2 (off : Fin 3 → ℕ) (inb : ∀ x, off x + S1x16384x128.size x ≤ S2x16384x128.size x) (y : Vec Ideal S2x16384x128 .f32) (d : Vec Ideal S16384x128 .f32) : Vec Ideal S2x16384x128 .f32 :=
  View.write (Elt Ideal) ((hb2.slice (Rect.unit (s := S2x16384x128) off S1x16384x128.size inb) (fun _ => rfl)).squeeze S16384x128 squeezes_S1x16384x128_S16384x128).view y d Finset.univ

section Row

variable (a : Fin 2) {off : Fin 3 → ℕ} (ho : off = ![a.val, 0, 0]) (inb : ∀ x, off x + S1x16384x128.size x ≤ S2x16384x128.size x)
include ho

theorem read_row1 (f : Vec Ideal S2x16384x128 .f32) (j : Fin 16384) (l : Fin 128) : ((hb1.slice (Rect.unit (s := S2x16384x128) off S1x16384x128.size inb) (fun _ => rfl)).squeeze S16384x128 squeezes_S1x16384x128_S16384x128).view.read (Elt Ideal) f (ix2 j l) = f (ix3 a j l) := by
  subst ho
  refine (congrFun (Memref.read_squeeze_slice hb1 _ (fun _ => rfl) squeezes_S1x16384x128_S16384x128 (show S1x16384x128.ShapeCasts S16384x128 by decide) f) (ix2 j l)).trans
    ((slab _ _ j l).trans ?_)
  exact View.ld_unit_apply_of f ![a.val, 0, 0] S1x16384x128.size inb (ix3 0 j l) (ix3 a j l) (by intro b; fin_cases b <;> simp <;> rfl)

theorem row_in1 (y : Vec Ideal S2x16384x128 .f32) (d : Vec Ideal S16384x128 .f32) (j : Fin 16384) (l : Fin 128) :
    putRow1 off inb y d (ix3 a j l) = d (ix2 j l) := by
  rw [← read_row1 a ho inb (putRow1 off inb y d) j l]
  unfold putRow1
  rw [View.read_write_univ]

theorem row_out1 (y : Vec Ideal S2x16384x128 .f32) (d : Vec Ideal S16384x128 .f32) (b : Fin 2) (hb : b ≠ a) (j : Fin 16384) (l : Fin 128) :
    putRow1 off inb y d (ix3 b j l) = y (ix3 b j l) := by
  unfold putRow1
  refine View.write_of_not_mem (v := ((hb1.slice (Rect.unit (s := S2x16384x128) off S1x16384x128.size inb) (fun _ => rfl)).squeeze S16384x128 squeezes_S1x16384x128_S16384x128).view) y d Finset.univ (i := ix3 b j l) fun hm => hb ?_
  obtain ⟨x, -, hx⟩ := Finset.mem_map.mp hm
  idx_vars x
  have e := read_row1 a ho inb (fun i => (((i 0).val : ℝ) : EReal)) x0 x1
  have e' : (((b.val : ℕ) : ℝ) : EReal) = (((a.val : ℕ) : ℝ) : EReal) := (congrArg (fun i : S2x16384x128.Idx => (((i 0).val : ℝ) : EReal)) hx.symm).trans e
  exact Fin.ext (by exact_mod_cast e')

theorem read_row2 (f : Vec Ideal S2x16384x128 .f32) (j : Fin 16384) (l : Fin 128) : ((hb2.slice (Rect.unit (s := S2x16384x128) off S1x16384x128.size inb) (fun _ => rfl)).squeeze S16384x128 squeezes_S1x16384x128_S16384x128).view.read (Elt Ideal) f (ix2 j l) = f (ix3 a j l) := by
  subst ho
  refine (congrFun (Memref.read_squeeze_slice hb2 _ (fun _ => rfl) squeezes_S1x16384x128_S16384x128 (show S1x16384x128.ShapeCasts S16384x128 by decide) f) (ix2 j l)).trans
    ((slab _ _ j l).trans ?_)
  exact View.ld_unit_apply_of f ![a.val, 0, 0] S1x16384x128.size inb (ix3 0 j l) (ix3 a j l) (by intro b; fin_cases b <;> simp <;> rfl)

theorem row_in2 (y : Vec Ideal S2x16384x128 .f32) (d : Vec Ideal S16384x128 .f32) (j : Fin 16384) (l : Fin 128) :
    putRow2 off inb y d (ix3 a j l) = d (ix2 j l) := by
  rw [← read_row2 a ho inb (putRow2 off inb y d) j l]
  unfold putRow2
  rw [View.read_write_univ]

theorem row_out2 (y : Vec Ideal S2x16384x128 .f32) (d : Vec Ideal S16384x128 .f32) (b : Fin 2) (hb : b ≠ a) (j : Fin 16384) (l : Fin 128) :
    putRow2 off inb y d (ix3 b j l) = y (ix3 b j l) := by
  unfold putRow2
  refine View.write_of_not_mem (v := ((hb2.slice (Rect.unit (s := S2x16384x128) off S1x16384x128.size inb) (fun _ => rfl)).squeeze S16384x128 squeezes_S1x16384x128_S16384x128).view) y d Finset.univ (i := ix3 b j l) fun hm => hb ?_
  obtain ⟨x, -, hx⟩ := Finset.mem_map.mp hm
  idx_vars x
  have e := read_row2 a ho inb (fun i => (((i 0).val : ℝ) : EReal)) x0 x1
  have e' : (((b.val : ℕ) : ℝ) : EReal) = (((a.val : ℕ) : ℝ) : EReal) := (congrArg (fun i : S2x16384x128.Idx => (((i 0).val : ℝ) : EReal)) hx.symm).trans e
  exact Fin.ext (by exact_mod_cast e')

end Row

theorem off2_eq (i : grid0.Coords) : k0_off2 i = ![(⟨(i 0).val, (i 0).isLt⟩ : Fin 2).val, 0, 0] := by
  have h : ∀ i : grid0.Coords, k0_off2 i = ![(i 0).val, 0, 0] := by decide +kernel
  exact h i

theorem pay4 (j : Fin 16384) (l : Fin 128) : k0_pay4 (F := Ideal) (ix2 j l) = ((0 : ℝ) : EReal) := by
  pointwise [k0_pay4]; exact EReal.coe_zero.symm
theorem pay5 (j : Fin 16384) (l : Fin 128) : k0_pay5 (F := Ideal) (ix2 j l) = ((0 : ℝ) : EReal) := by
  pointwise [k0_pay5]; exact EReal.coe_zero.symm

/-- The keys' gradient after `n` query tiles. -/
def dkSum (Z : Fin 16384 → Fin 768 → ℝ) (C : Fin 16384 → Fin 256 → ℝ) (hp n j : ℕ) (l : Fin 128) : ℝ :=
  ∑ q ∈ range n, dkOf (qs Z hp) (ks Z hp) (vs Z hp) (ds C hp) q j l

/-- The values' gradient after `n` query tiles. -/
def dvSum (Z : Fin 16384 → Fin 768 → ℝ) (C : Fin 16384 → Fin 256 → ℝ) (hp n j : ℕ) (l : Fin 128) : ℝ :=
  ∑ q ∈ range n, dvOf (qs Z hp) (ks Z hp) (ds C hp) q j l

section Points

variable {m : (ℓ : Loc nD τ sig) → Buf (Elt Ideal) ℓ} {c : Dev nD} {Z : Fin 16384 → Fin 768 → ℝ} {C : Fin 16384 → Fin 256 → ℝ} (h : Args m c Z C)

/-- What a point's walk leaves. -/
abbrev Done (Z : Fin 16384 → Fin 768 → ℝ) (C : Fin 16384 → Fin 256 → ℝ) (hp qi : ℕ) (s : Carry Ideal) : Prop :=
  Good (qs Z hp) (ks Z hp) (vs Z hp) (ds C hp) qi (dkSum Z C hp qi) (dvSum Z C hp qi) 0 s

omit h in
theorem done_dk {hp qi : ℕ} {s : Carry Ideal} (d : Done Z C hp qi s) (j : Fin 16384) (l : Fin 128) :
    s.dk (ix2 j l) = ((dkSum Z C hp (qi + 1) j.val l : ℝ) : EReal) := by
  rw [d.hdk j l, if_pos (by omega), dkSum, dkSum, Finset.sum_range_succ]

omit h in
theorem done_dv {hp qi : ℕ} {s : Carry Ideal} (d : Done Z C hp qi s) (j : Fin 16384) (l : Fin 128) :
    s.dv (ix2 j l) = ((dvSum Z C hp (qi + 1) j.val l : ℝ) : EReal) := by
  rw [d.hdv j l, if_pos (by omega), dvSum, dvSum, Finset.sum_range_succ]

omit h in
theorem done_of {p : Fixed Ideal} {hp qi : ℕ} (tp : Tile (qs Z hp) (ks Z hp) (vs Z hp) (ds C hp) p qi) {dk dv : Vec Ideal S16384x128 .f32}
    (hk : qi ≠ 0 → ∀ (j : Fin 16384) (l : Fin 128), dk (ix2 j l) = ((dkSum Z C hp qi j.val l : ℝ) : EReal))
    (hv : qi ≠ 0 → ∀ (j : Fin 16384) (l : Fin 128), dv (ix2 j l) = ((dvSum Z C hp qi j.val l : ℝ) : EReal)) : Done Z C hp qi (walkAt p dk dv) := by
  have hq := tp.hqi
  have hi := tp.hi
  unfold walkAt
  rw [hi]
  refine walk_good tp (qi + 1) (by omega) _ (start_good tp ?_ ?_)
  · intro j l
    unfold entryK
    by_cases h0 : qi = 0
    · rw [if_pos (by omega), pay4, h0]; rfl
    · rw [if_neg (by omega), hk h0]
  · intro j l
    unfold entryV
    by_cases h0 : qi = 0
    · rw [if_pos (by omega), pay5, h0]; rfl
    · rw [if_neg (by omega), hv h0]

include h in
theorem walk_at : ∀ (n : ℕ) (hn : n < (cfg0 (F := Ideal)).N),
    Done Z C (n / 64) (n % 64) (walkAt (fixAt m c ⟨n, hn⟩) (memAt m c n).dk (memAt m c n).dv) := by
  intro n
  induction n with
  | zero => exact fun hn => done_of (tile h ⟨0, hn⟩) (fun h0 => absurd rfl h0) (fun h0 => absurd rfl h0)
  | succ n ih =>
    intro hn
    have hn' : n < (cfg0 (F := Ideal)).N := by omega
    have g := ih hn'
    have e := memAt_succ m c ⟨n, hn'⟩
    refine done_of (tile h ⟨n + 1, hn⟩) (fun h0 j l => ?_) (fun h0 j l => ?_)
    · replace h0 : (n + 1) % 64 ≠ 0 := h0
      have e1 : (n + 1) / 64 = n / 64 := by omega
      have e2 : (n + 1) % 64 = n % 64 + 1 := by omega
      show (memAt m c (n + 1)).dk (ix2 j l) = ((dkSum Z C ((n + 1) / 64) ((n + 1) % 64) j.val l : ℝ) : EReal)
      rw [e1, e2]
      exact (congrFun (congrArg Mem.dk e) (ix2 j l)).trans (done_dk g j l)
    · replace h0 : (n + 1) % 64 ≠ 0 := h0
      have e1 : (n + 1) / 64 = n / 64 := by omega
      have e2 : (n + 1) % 64 = n % 64 + 1 := by omega
      show (memAt m c (n + 1)).dv (ix2 j l) = ((dvSum Z C ((n + 1) / 64) ((n + 1) % 64) j.val l : ℝ) : EReal)
      rw [e1, e2]
      exact (congrFun (congrArg Mem.dv e) (ix2 j l)).trans (done_dv g j l)

theorem outK_last {i : grid0.Coords} (hl : (i 1).val = 63) (y : Vec Ideal S2x16384x128 .f32) (d : Vec Ideal S16384x128 .f32) :
    ∃ inb, outK i y d = putRow1 (k0_off2 i) inb y d :=
  ⟨k0_off2_inb i ((cLast_iff i).mpr hl), (dif_pos ((cLast_iff i).mpr hl)).trans rfl⟩

theorem outV_last {i : grid0.Coords} (hl : (i 1).val = 63) (y : Vec Ideal S2x16384x128 .f32) (d : Vec Ideal S16384x128 .f32) :
    ∃ inb, outV i y d = putRow2 (k0_off2 i) inb y d :=
  ⟨k0_off2_inb i ((cLast_iff i).mpr hl), (dif_pos ((cLast_iff i).mpr hl)).trans rfl⟩

include h in
theorem rows1 : ∀ n ≤ (cfg0 (F := Ideal)).N, ∀ b : Fin 2, 64 * b.val + 64 ≤ n → ∀ (j : Fin 16384) (l : Fin 128),
    (memAt m c n).y1 (ix3 b j l) = ((dkSum Z C b.val 64 j.val l : ℝ) : EReal) := by
  intro n
  induction n with
  | zero => intro _ b hb; omega
  | succ n ih =>
    intro hn b hb j l
    have hn' : n < (cfg0 (F := Ideal)).N := by omega
    have g := walk_at h n hn'
    have hc := crd ⟨n, hn'⟩
    refine (congrFun (congrArg Mem.y1 (memAt_succ m c ⟨n, hn'⟩)) (ix3 b j l)).trans ?_
    show outK (grid0.coords ⟨n, hn'⟩) (memAt m c n).y1 (walkAt (fixAt m c ⟨n, hn'⟩) (memAt m c n).dk (memAt m c n).dv).dk (ix3 b j l) = _
    by_cases hl : n % 64 = 63
    · obtain ⟨inb, e⟩ := outK_last (hc.2.trans hl) (memAt m c n).y1 (walkAt (fixAt m c ⟨n, hn'⟩) (memAt m c n).dk (memAt m c n).dv).dk
      rw [e]
      by_cases hb' : b.val = n / 64
      · have hbe : b = ⟨(grid0.coords ⟨n, hn'⟩ 0).val, (grid0.coords ⟨n, hn'⟩ 0).isLt⟩ := Fin.ext (hb'.trans hc.1.symm)
        have r := row_in1 ⟨(grid0.coords ⟨n, hn'⟩ 0).val, (grid0.coords ⟨n, hn'⟩ 0).isLt⟩ (off2_eq _) inb (memAt m c n).y1 (walkAt (fixAt m c ⟨n, hn'⟩) (memAt m c n).dk (memAt m c n).dv).dk j l
        rw [← hbe] at r
        refine r.trans ((done_dk g j l).trans ?_)
        rw [hl, hb']
      · refine (row_out1 ⟨(grid0.coords ⟨n, hn'⟩ 0).val, (grid0.coords ⟨n, hn'⟩ 0).isLt⟩ (off2_eq _) inb _ _ b (fun hbe => hb' ((congrArg Fin.val hbe).trans hc.1)) j l).trans ?_
        exact ih (by omega) b (by omega) j l
    · rw [show outK (grid0.coords ⟨n, hn'⟩) (memAt m c n).y1 (walkAt (fixAt m c ⟨n, hn'⟩) (memAt m c n).dk (memAt m c n).dv).dk = (memAt m c n).y1 from
        dif_neg fun hh => hl (hc.2.symm.trans ((cLast_iff _).mp hh))]
      exact ih (by omega) b (by omega) j l

include h in
theorem rows2 : ∀ n ≤ (cfg0 (F := Ideal)).N, ∀ b : Fin 2, 64 * b.val + 64 ≤ n → ∀ (j : Fin 16384) (l : Fin 128),
    (memAt m c n).y2 (ix3 b j l) = ((dvSum Z C b.val 64 j.val l : ℝ) : EReal) := by
  intro n
  induction n with
  | zero => intro _ b hb; omega
  | succ n ih =>
    intro hn b hb j l
    have hn' : n < (cfg0 (F := Ideal)).N := by omega
    have g := walk_at h n hn'
    have hc := crd ⟨n, hn'⟩
    refine (congrFun (congrArg Mem.y2 (memAt_succ m c ⟨n, hn'⟩)) (ix3 b j l)).trans ?_
    show outV (grid0.coords ⟨n, hn'⟩) (memAt m c n).y2 (walkAt (fixAt m c ⟨n, hn'⟩) (memAt m c n).dk (memAt m c n).dv).dv (ix3 b j l) = _
    by_cases hl : n % 64 = 63
    · obtain ⟨inb, e⟩ := outV_last (hc.2.trans hl) (memAt m c n).y2 (walkAt (fixAt m c ⟨n, hn'⟩) (memAt m c n).dk (memAt m c n).dv).dv
      rw [e]
      by_cases hb' : b.val = n / 64
      · have hbe : b = ⟨(grid0.coords ⟨n, hn'⟩ 0).val, (grid0.coords ⟨n, hn'⟩ 0).isLt⟩ := Fin.ext (hb'.trans hc.1.symm)
        have r := row_in2 ⟨(grid0.coords ⟨n, hn'⟩ 0).val, (grid0.coords ⟨n, hn'⟩ 0).isLt⟩ (off2_eq _) inb (memAt m c n).y2 (walkAt (fixAt m c ⟨n, hn'⟩) (memAt m c n).dk (memAt m c n).dv).dv j l
        rw [← hbe] at r
        refine r.trans ((done_dv g j l).trans ?_)
        rw [hl, hb']
      · refine (row_out2 ⟨(grid0.coords ⟨n, hn'⟩ 0).val, (grid0.coords ⟨n, hn'⟩ 0).isLt⟩ (off2_eq _) inb _ _ b (fun hbe => hb' ((congrArg Fin.val hbe).trans hc.1)) j l).trans ?_
        exact ih (by omega) b (by omega) j l
    · rw [show outV (grid0.coords ⟨n, hn'⟩) (memAt m c n).y2 (walkAt (fixAt m c ⟨n, hn'⟩) (memAt m c n).dk (memAt m c n).dv).dv = (memAt m c n).y2 from
        dif_neg fun hh => hl (hc.2.symm.trans ((cLast_iff _).mp hh))]
      exact ih (by omega) b (by omega) j l

/-- The queries' gradient, the queries scaled. -/
def dqFull (Z : Fin 16384 → Fin 768 → ℝ) (C : Fin 16384 → Fin 256 → ℝ) (i : Fin 16384) (f : Fin 256) : ℝ :=
  dqOf (qs Z (f.val / 128)) (ks Z (f.val / 128)) (vs Z (f.val / 128)) (ds C (f.val / 128)) 0 i.val ⟨f.val % 128, Nat.mod_lt _ (by norm_num)⟩

omit h in
theorem dqFull_at (i : Fin 16384) (f : Fin 256) (l : Fin 128) (hp r : ℕ) (hf : f.val = hp * 128 + l.val) (hi : i.val = r) :
    dqFull Z C i f = dqOf (qs Z hp) (ks Z hp) (vs Z hp) (ds C hp) 0 r l := by
  have e1 : f.val / 128 = hp := by omega
  have e2 : (⟨f.val % 128, Nat.mod_lt _ (by norm_num)⟩ : Fin 128) = l := Fin.ext (by show f.val % 128 = _; omega)
  rw [dqFull, e1, e2, hi]

include h in
theorem final7 : (dats m 0 c).arrAt 7 (cfgs (F := Ideal) 0).N = fun i => ((dqFull Z C (i 0) (i 1) : ℝ) : EReal) := by
  refine (dats m 0 c).arrAt_eq_of_covers 7 _ (by decide +kernel) fun t _ y => ?_
  blk_simp
  rw [after_7]
  idx_vars y
  have hp : dqAt m c t (ix2 y0 y1) = ((dqFull Z C (row t y0) (col t y1) : ℝ) : EReal) :=
    ((walk_at h t.val t.isLt).hacc y0 y1).trans (congrArg _ (dqFull_at _ _ y1 _ _ rfl (by show t.val % 64 * 256 + y0.val = _; omega)).symm)
  rw [hp]
  rw [show (((View.whole main_v46_0).slice (win0_7.rect t)).emb (ix2 y0 y1) : S16384x256.Idx) = ix2 (row t y0) (col t y1) by
    blk_ext [idx t, row, col]]
  rfl

end Points

end Cert.AttnMem

end
-- ==== Proof.RunSum.lean ====
/- Running sums along the last axis of an array of three axes, at real values. -/
module

public import proofs.«01_k».proof.Proof.RealKit

@[expose] public section

noncomputable section

open Idealize.ShloMosaic

namespace Cert.RunSum

open Cert.RealKit Finset

/-- A fold that adds a real term at each position. -/
theorem fold_real {M : ℕ} (g : Fin M → ℝ) (e : EReal → Fin M → EReal) (he : ∀ (r : ℝ) n, e (r : EReal) n = ((r + g n : ℝ) : EReal)) :
    (List.finRange M).foldl e ((0 : ℝ) : EReal) = ((∑ n, g n : ℝ) : EReal) := by
  have hl : ∀ (L : List (Fin M)) (r : ℝ), L.foldl e (r : EReal) = ((r + (L.map g).sum : ℝ) : EReal) := by
    intro L
    induction L with
    | nil => intro r; simp
    | cons a L ih =>
      intro r
      rw [List.foldl_cons, he, ih, List.map_cons, List.sum_cons, add_assoc]
  rw [hl, zero_add, Fin.sum_univ_def]

section Row

variable {A B K K1 : ℕ} (hK : K1 + 1 = K)

/-- The window: one row of the last axis. -/
abbrev W (K : ℕ) : Shape := ⟨3, ![1, 1, K]⟩

theorem numel_W : (W K).numel = K := by
  show ∏ a : Fin 3, (![1, 1, K] : Fin 3 → ℕ) a = K
  rw [Fin.prod_univ_three]
  show 1 * 1 * K = K
  omega

theorem pos0 (n : Fin (W K).numel) : ((W K).rowMajor.symm n 0).val = 0 := by
  have h : ((W K).rowMajor.symm n 0).val < 1 := ((W K).rowMajor.symm n 0).isLt
  omega
theorem pos1 (n : Fin (W K).numel) : ((W K).rowMajor.symm n 1).val = 0 := by
  have h : ((W K).rowMajor.symm n 1).val < 1 := ((W K).rowMajor.symm n 1).isLt
  omega
theorem pos2 (n : Fin (W K).numel) : ((W K).rowMajor.symm n 2).val = n.val := by
  have e : ((W K).rowMajor ((W K).rowMajor.symm n)).val = n.val := by rw [Equiv.apply_symm_apply]
  have h : ((W K).rowMajor ((W K).rowMajor.symm n)).val
    = (((W K).rowMajor.symm n 0).val * 1 + ((W K).rowMajor.symm n 1).val) * K + ((W K).rowMajor.symm n 2).val := Shape.rowMajor_val_three _
  rw [e, pos0, pos1] at h
  omega

variable (x : (⟨3, ![A, B, K]⟩ : Shape).Idx → EReal) (init : (⟨0, ![]⟩ : Shape).Idx → EReal) (hi : ∀ i, init i = ((0 : ℝ) : EReal)) (f : ℕ → ℝ) (a : Fin A) (b : Fin B)
  (hx : ∀ l : Fin K, x (ix3 a b l) = ((f l.val : ℝ) : EReal)) (hu : 0 < (⟨0, ![]⟩ : Shape).numel) (j : Fin K)

include hK hi hx in
/-- Each position's sum with all later ones. -/
theorem suffix (h : (⟨3, ![A, B, K]⟩ : Shape).ReduceWindows (![1, 1, K] : Fin 3 → ℕ) ![1, 1, 1] ![0, 0, 0] ![0, 0, K1] ⟨3, ![A, B, K]⟩) :
    Host.reduceWindow (· + ·) (![1, 1, K] : Fin 3 → ℕ) ![1, 1, 1] ![0, 0, 0] ![0, 0, K1] x init h hu (ix3 a b j) = ((∑ l ∈ Ico j.val K, f l : ℝ) : EReal) := by
  unfold Host.reduceWindow
  dsimp only
  rw [hi]
  refine (fold_real (fun n => if j.val + n.val < K then f (j.val + n.val) else 0) _ fun r n => ?_).trans ?_
  · have h0 := pos0 n
    have h1 := pos1 n
    have h2 := pos2 n
    by_cases hin : j.val + n.val < K
    · rw [dif_pos (by
        intro c
        fin_cases c
        · show 0 ≤ _ ∧ a.val * 1 + ((W K).rowMajor.symm n 0).val - 0 < A
          rw [h0]; have := a.isLt; omega
        · show 0 ≤ _ ∧ b.val * 1 + ((W K).rowMajor.symm n 1).val - 0 < B
          rw [h1]; have := b.isLt; omega
        · show 0 ≤ _ ∧ j.val * 1 + ((W K).rowMajor.symm n 2).val - 0 < K
          rw [h2]; omega), if_pos hin, ← add_coe]
      congr 1
      refine (congrArg x (funext fun c => Fin.ext ?_)).trans (hx ⟨j.val + n.val, hin⟩)
      fin_cases c
      · show a.val * 1 + ((W K).rowMajor.symm n 0).val - 0 = a.val
        rw [h0]; omega
      · show b.val * 1 + ((W K).rowMajor.symm n 1).val - 0 = b.val
        rw [h1]; omega
      · show j.val * 1 + ((W K).rowMajor.symm n 2).val - 0 = j.val + n.val
        rw [h2]; omega
    · rw [dif_neg (fun hc => hin (by
        have := (hc 2).2
        change j.val * 1 + ((W K).rowMajor.symm n 2).val - 0 < K at this
        rw [h2] at this; omega)), if_neg hin, add_coe]
  · congr 1
    rw [Finset.sum_range (fun n => if j.val + n < K then f (j.val + n) else 0) |>.symm, numel_W, ← Finset.sum_filter, Finset.sum_Ico_eq_sum_range]
    refine Finset.sum_congr ?_ fun _ _ => rfl
    ext n
    simp only [Finset.mem_filter, Finset.mem_range]
    omega

include hK hi hx in
/-- Each position's sum with all earlier ones. -/
theorem preceding (h : (⟨3, ![A, B, K]⟩ : Shape).ReduceWindows (![1, 1, K] : Fin 3 → ℕ) ![1, 1, 1] ![0, 0, K1] ![0, 0, 0] ⟨3, ![A, B, K]⟩) :
    Host.reduceWindow (· + ·) (![1, 1, K] : Fin 3 → ℕ) ![1, 1, 1] ![0, 0, K1] ![0, 0, 0] x init h hu (ix3 a b j) = ((∑ l ∈ range (j.val + 1), f l : ℝ) : EReal) := by
  unfold Host.reduceWindow
  dsimp only
  rw [hi]
  refine (fold_real (fun n => if K1 ≤ j.val + n.val then f (j.val + n.val - K1) else 0) _ fun r n => ?_).trans ?_
  · have h0 := pos0 n
    have h1 := pos1 n
    have h2 := pos2 n
    have hn : n.val < K := lt_of_lt_of_eq n.isLt numel_W
    have hj := j.isLt
    by_cases hin : K1 ≤ j.val + n.val
    · rw [dif_pos (by
        intro c
        fin_cases c
        · show 0 ≤ _ ∧ a.val * 1 + ((W K).rowMajor.symm n 0).val - 0 < A
          rw [h0]; have := a.isLt; omega
        · show 0 ≤ _ ∧ b.val * 1 + ((W K).rowMajor.symm n 1).val - 0 < B
          rw [h1]; have := b.isLt; omega
        · show K1 ≤ j.val * 1 + ((W K).rowMajor.symm n 2).val ∧ j.val * 1 + ((W K).rowMajor.symm n 2).val - K1 < K
          rw [h2]; omega), if_pos hin, ← add_coe]
      congr 1
      refine (congrArg x (funext fun c => Fin.ext ?_)).trans (hx ⟨j.val + n.val - K1, by omega⟩)
      fin_cases c
      · show a.val * 1 + ((W K).rowMajor.symm n 0).val - 0 = a.val
        rw [h0]; omega
      · show b.val * 1 + ((W K).rowMajor.symm n 1).val - 0 = b.val
        rw [h1]; omega
      · show j.val * 1 + ((W K).rowMajor.symm n 2).val - K1 = j.val + n.val - K1
        rw [h2]; omega
    · rw [dif_neg (fun hc => hin (by
        have := (hc 2).1
        change K1 ≤ j.val * 1 + ((W K).rowMajor.symm n 2).val at this
        rw [h2] at this; omega)), if_neg hin, add_coe]
  · congr 1
    rw [Finset.sum_range (fun n => if K1 ≤ j.val + n then f (j.val + n - K1) else 0) |>.symm, numel_W, ← Finset.sum_filter]
    have hj := j.isLt
    refine Finset.sum_bij' (fun n _ => j.val + n - K1) (fun l _ => l + K1 - j.val) ?_ ?_ ?_ ?_ ?_
    all_goals intro n hn; simp only [Finset.mem_filter, Finset.mem_range] at hn ⊢
    all_goals first | omega | skip

include hK hi hx in
theorem suffix_add (h : (⟨3, ![A, B, K]⟩ : Shape).ReduceWindows (![1, 1, K] : Fin 3 → ℕ) ![1, 1, 1] ![0, 0, 0] ![0, 0, K1] ⟨3, ![A, B, K]⟩) :
    Host.reduceWindowAdd (F := Ideal) (φ := .f32) (![1, 1, K] : Fin 3 → ℕ) ![1, 1, 1] ![0, 0, 0] ![0, 0, K1] x init h hu (ix3 a b j) = ((∑ l ∈ Ico j.val K, f l : ℝ) : EReal) :=
  suffix hK x (fun _ => init (Shape.Idx.first hu)) (fun _ => hi _) f a b hx (by decide) j h

include hK hi hx in
theorem preceding_add (h : (⟨3, ![A, B, K]⟩ : Shape).ReduceWindows (![1, 1, K] : Fin 3 → ℕ) ![1, 1, 1] ![0, 0, K1] ![0, 0, 0] ⟨3, ![A, B, K]⟩) :
    Host.reduceWindowAdd (F := Ideal) (φ := .f32) (![1, 1, K] : Fin 3 → ℕ) ![1, 1, 1] ![0, 0, K1] ![0, 0, 0] x init h hu (ix3 a b j) = ((∑ l ∈ range (j.val + 1), f l : ℝ) : EReal) :=
  preceding hK x (fun _ => init (Shape.Idx.first hu)) (fun _ => hi _) f a b hx (by decide) j h

end Row

end Cert.RunSum

end
-- ==== Proof.AttnRef.lean ====
/- The stages of the attention gradient's reference, at real arguments. -/
module

public import proofs.«01_k».proof.Proof.AttnMem
public import proofs.«01_k».proof.Proof.RunSum
public import proofs.«01_k».proof.Proof.Gen.ReferenceAttnIdeal.Read
public import Idealize.ShloMosaic.Lib.Claim

@[expose] public section

set_option maxRecDepth 16384

noncomputable section

open Idealize.ShloMosaic Idealize.ShloMosaic.TcCoe Idealize.SL.Sem

namespace Cert.AttnRef

open Cert.ReferenceAttnIdeal Cert.ReferenceAttnIdeal.Read Cert.RealKit Cert.AttnMath Cert.AttnKernel
open Cert.AttnHead (bit pick)
open Finset (Ico range)

section Stages

variable (Z : Fin 16384 → Fin 768 → ℝ) (C : Fin 16384 → Fin 256 → ℝ)

/-- The queries, keys, values and cotangent of head `H`. -/
def hq (H i : ℕ) (d : Fin 64) : ℝ := num Z i (64 * H + d.val)
def hk (H i : ℕ) (d : Fin 64) : ℝ := num Z i (256 + 64 * H + d.val)
def hv (H i : ℕ) (d : Fin 64) : ℝ := num Z i (512 + 64 * H + d.val)
def hc (H i : ℕ) (d : Fin 64) : ℝ := num C i (64 * H + d.val)

/-- The logits, and the weights' cotangent. -/
def lgt (H i j : ℕ) : ℝ := (∑ d, hq Z H i d * hk Z H j d) * (1 / 8)
def cot (H i j : ℕ) : ℝ := ∑ d, hc C H i d * hv Z H j d

variable {Z C} {x0 : Vec Ideal S16384x768 .f32} {x1 : Vec Ideal S16384x256 .f32} (hz : ∀ i j, x0 (ix2 i j) = ((Z i j : ℝ) : EReal)) (hx : ∀ i j, x1 (ix2 i j) = ((C i j : ℝ) : EReal))
  (H : Fin 4) (i j : Fin 16384) (d : Fin 64)

include hz in
theorem v3 : val_main_v3 (F := Ideal) x0 (ix3 i H d) = ((hq Z H.val i.val d : ℝ) : EReal) := by
  pointwise [val_main_v3, val_main_v0]
  exact (hz i ⟨H.val * 64 + d.val, by omega⟩).trans (congrArg _ (num_at Z i _ rfl (by show 64 * H.val + d.val = H.val * 64 + d.val; omega)).symm)

include hz in
theorem v4 : val_main_v4 (F := Ideal) x0 (ix3 i H d) = ((hk Z H.val i.val d : ℝ) : EReal) := by
  pointwise [val_main_v4, val_main_v1]
  exact (hz i ⟨256 + (H.val * 64 + d.val), by omega⟩).trans (congrArg _ (num_at Z i _ rfl (by show 256 + 64 * H.val + d.val = 256 + (H.val * 64 + d.val); omega)).symm)

include hz in
theorem v5 : val_main_v5 (F := Ideal) x0 (ix3 i H d) = ((hv Z H.val i.val d : ℝ) : EReal) := by
  pointwise [val_main_v5, val_main_v2]
  exact (hz i ⟨512 + (H.val * 64 + d.val), by omega⟩).trans (congrArg _ (num_at Z i _ rfl (by show 512 + 64 * H.val + d.val = 512 + (H.val * 64 + d.val); omega)).symm)

include hz in
theorem v8 : val_main_v8 (F := Ideal) x0 (ix3 H i j) = ((lgt Z H.val i.val j.val : ℝ) : EReal) := by
  pointwise [val_main_v8, val_main_v7, val_main_v6, val_main_cst]
  simp only [v3 hz, v4 hz, mul_coe, sum_coe, RealKit.c8]
  rfl

theorem v14 : val_main_v14 (F := Ideal) (ix2 i j) = bit (j.val < i.val) := by
  pointwise [val_main_v14, val_main_v13, val_main_v12, val_main_v11, val_main_v10, val_main_v9]
  exact AttnHead.slt_words _ _ (by omega) (by omega)

/-- The softplus of `t`, as the host computes it. -/
theorem softplus (t : ℝ) : (if (t : EReal) ≠ (t : EReal) then (t : EReal)
    else max (t : EReal) 0 + Ideal.log1p (Ideal.exp (-FloatOps.absf (F := Ideal) (φ := .f32) (t : EReal)))) = ((-lsig (-t) : ℝ) : EReal) := by
  rw [if_neg (fun h => h rfl)]
  have ha : FloatOps.absf (F := Ideal) (φ := .f32) (t : EReal) = ((|t| : ℝ) : EReal) := AttnHead.abs_coe t
  rw [ha, neg_coe, Ideal.exp_coe, ← EReal.coe_zero, max_coe]
  unfold Ideal.log1p
  rw [← EReal.coe_one, add_coe, AttnHead.log_coe_pos _ (one_add_exp_pos _), add_coe]
  refine congrArg _ ?_
  unfold lsig
  rw [abs_neg, show min (-t) 0 = -max t 0 by
    rcases le_total t 0 with h | h
    · rw [max_eq_right h, min_eq_right (by linarith), neg_zero]
    · rw [max_eq_left h, min_eq_left (by linarith)]]
  ring

theorem not_inf (t : ℝ) (u : EReal) : (if (t : EReal) = Ideal.ofBits .f32 0x7F800000#32 then u else (t : EReal)) = (t : EReal) := by
  rw [cInf, if_neg (EReal.coe_ne_top t)]

/-- The logarithm of the logistic function of `-t` from that of `t`. -/
theorem lsig_sub (t : ℝ) : -t - -lsig t = lsig (-t) := by
  unfold lsig
  rw [abs_neg, show min (-t) 0 = min t 0 - t by
    rcases le_total t 0 with h | h
    · rw [min_eq_left h, min_eq_right (by linarith)]; ring
    · rw [min_eq_right h, min_eq_left (by linarith)]; ring]
  ring

open Classical in
/-- A masked value. -/
theorem masked (p : Prop) (a : ℝ) (u : EReal) (hu : u = ((0 : ℝ) : EReal)) : Scalar.select (bit p) (a : EReal) u = ((if p then a else 0 : ℝ) : EReal) := by
  subst hu
  exact AttnHead.select_bit p a 0

theorem cz : id (constant (F := Ideal) S_ FTy.f32 0#32) ix0 = ((0 : ℝ) : EReal) := c0

include hz in
theorem sp0 : val_main_call0_v1_0 (F := Ideal) x0 (ix3 H i j) = ((-lsig (lgt Z H.val i.val j.val) : ℝ) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [v8 hz, neg_coe]
  exact (softplus _).trans (by rw [neg_neg])

include hz in
theorem sp1 : val_main_call1_v1_0 (F := Ideal) x0 (ix3 H i j) = ((-lsig (-lgt Z H.val i.val j.val) : ℝ) : EReal) := by
  pointwise [val_main_call1_v1_0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v16]
  rw [v8 hz, neg_coe, neg_coe]
  exact (softplus _).trans (by rw [neg_neg])

include hz in
theorem v15_0 : val_main_v15_0 (F := Ideal) x0 (ix3 H i j) = ((lsig (lgt Z H.val i.val j.val) : ℝ) : EReal) := by
  pointwise [val_main_v15_0]
  rw [sp0 hz, neg_coe, neg_neg]

include hz in
theorem v17_0 : val_main_v17_0 (F := Ideal) x0 (ix3 H i j) = ((lsig (-lgt Z H.val i.val j.val) : ℝ) : EReal) := by
  pointwise [val_main_v17_0]
  rw [sp1 hz, neg_coe, neg_neg]

include hz in
theorem v15_1 : val_main_v15_1 (F := Ideal) x0 (ix3 H i j) = ((Real.exp (lsig (-lgt Z H.val i.val j.val)) : ℝ) : EReal) := by
  pointwise [val_main_v15_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_v0, val_main_call0_call0_cst_0, val_main_call0_call0_cst_1, val_main_call0_call0_cst_2, val_main_call0_call0_cst_3]
  rw [v8 hz, sp0 hz, neg_coe, not_inf, not_inf, sub_coe, lsig_sub]; rfl

include hz in
theorem v17_1 : val_main_v17_1 (F := Ideal) x0 (ix3 H i j) = ((Real.exp (lsig (lgt Z H.val i.val j.val)) : ℝ) : EReal) := by
  pointwise [val_main_v17_1, val_main_call1_call0_v21, val_main_call1_call0_v20, val_main_call1_call0_v19, val_main_call1_call0_v18, val_main_call1_call0_v17, val_main_call1_call0_v16, val_main_call1_call0_v15, val_main_call1_call0_v14, val_main_call1_call0_v13, val_main_call1_v0, val_main_call1_call0_cst_0, val_main_call1_call0_cst_1, val_main_call1_call0_cst_2, val_main_call1_call0_cst_3, val_main_v16]
  rw [v8 hz, sp1 hz, neg_coe, neg_coe, not_inf, not_inf, sub_coe, lsig_sub, neg_neg]; rfl

include hz in
theorem v18_0 : val_main_v18_0 (F := Ideal) x0 (ix3 H i j) = ((left (lgt Z H.val) i.val j.val : ℝ) : EReal) := by
  pointwise [val_main_v18_0, val_main_v18_1, val_main_call2_v2, val_main_call2_v0, val_main_cst_0]
  rw [v14, v17_0 hz]
  exact (masked _ _ _ cz).trans (congrArg _ (by congr))

include hz in
theorem v19 : val_main_v19 (F := Ideal) x0 (ix3 H i j) = ((∑ l ∈ Ico j.val N, left (lgt Z H.val) i.val l : ℝ) : EReal) := by
  unfold val_main_v19
  have hl := fun l => v18_0 hz H i l
  generalize val_main_v18_0 (F := Ideal) x0 = y at hl ⊢
  exact RunSum.suffix_add (A := 4) (B := 16384) (K := 16384) (K1 := 16383) rfl y (val_main_call3_v0 (F := Ideal)) (fun _ => c0) (fun l => left (lgt Z H.val) i.val l) H i hl _ j _

include hz in
theorem v22 : val_main_v22 (F := Ideal) x0 (ix3 H i j) = ((Real.exp (lsig (lgt Z H.val i.val j.val) + ∑ l ∈ Ico (j.val + 1) N, left (lgt Z H.val) i.val l) : ℝ) : EReal) := by
  pointwise [val_main_v22, val_main_v21, val_main_v20]
  rw [v15_0 hz, v19 hz, v18_0 hz, sub_coe, add_coe, Ideal.exp_coe]
  rw [Finset.sum_eq_sum_Ico_succ_bot j.isLt, add_sub_cancel_left]

include hz in
theorem v23_0 : val_main_v23_0 (F := Ideal) x0 (ix3 H i j) = ((wgt (lgt Z H.val) i.val j.val : ℝ) : EReal) := by
  pointwise [val_main_v23_0, val_main_v23_1, val_main_call4_v2, val_main_call4_v0, val_main_cst_1]
  rw [v14, v22 hz]
  exact (masked _ _ _ cz).trans (congrArg _ (by congr))

include hz in
theorem v26 (f : Fin 256) : val_main_v26 (F := Ideal) x0 (ix2 i f) = ((∑ j : Fin 16384, wgt (lgt Z (f.val / 64)) i.val j.val * num Z j.val (512 + f.val) : ℝ) : EReal) := by
  pointwise [val_main_v26, val_main_v25, val_main_v24]
  have e := fun j : Fin 16384 => v5 hz ⟨f.val / 64, by omega⟩ j ⟨f.val % 64, Nat.mod_lt _ (by norm_num)⟩
  have e2 := fun j : Fin 16384 => v23_0 hz ⟨f.val / 64, by omega⟩ i j
  refine (Finset.sum_congr rfl fun j _ => congrArg₂ (· * ·) (e j) (e2 j)).trans ?_
  simp only [mul_coe, sum_coe]
  refine congrArg _ (Finset.sum_congr rfl fun j _ => ?_)
  rw [mul_comm, hv]
  congr 2
  show 512 + 64 * (f.val / 64) + f.val % 64 = _
  omega

include hx in
theorem v28 : val_main_v28 (F := Ideal) x1 (ix3 H d i) = ((hc C H.val i.val d : ℝ) : EReal) := by
  pointwise [val_main_v28, val_main_v27]
  exact (hx i ⟨H.val * 64 + d.val, by omega⟩).trans (congrArg _ (num_at C i _ rfl (by show 64 * H.val + d.val = H.val * 64 + d.val; omega)).symm)

include hz hx in
theorem v29 : val_main_v29 (F := Ideal) x0 x1 (ix3 H i j) = ((cot Z C H.val i.val j.val : ℝ) : EReal) := by
  pointwise [val_main_v29]
  simp only [v28 hx, v5 hz, mul_coe, sum_coe]
  rfl

include hz hx in
theorem v33 : val_main_v33 (F := Ideal) x0 x1 (ix3 H i j) = ((gw (lgt Z H.val) (cot Z C H.val) i.val j.val : ℝ) : EReal) := by
  pointwise [val_main_v33, val_main_v32, val_main_v23_1, val_main_call5_v0, val_main_call5_cst]
  rw [v14, v29 hz hx, v22 hz, mul_coe]
  refine (masked _ _ _ EReal.coe_zero.symm).trans (congrArg _ ?_)
  rw [gw, wgt]
  by_cases h : j.val < i.val
  · rw [if_pos h, if_pos h]
  · rw [if_neg h, if_neg h, mul_zero]

include hz hx in
theorem v35 : val_main_v35 (F := Ideal) x0 x1 (ix3 H i j) = ((∑ l ∈ range (j.val + 1), gw (lgt Z H.val) (cot Z C H.val) i.val l : ℝ) : EReal) := by
  unfold val_main_v35
  have hl := fun l => v33 hz hx H i l
  generalize val_main_v33 (F := Ideal) x0 x1 = y at hl ⊢
  exact RunSum.preceding_add (A := 4) (B := 16384) (K := 16384) (K1 := 16383) rfl y (val_main_call6_v0 (F := Ideal)) (fun _ => c0) (fun l => gw (lgt Z H.val) (cot Z C H.val) i.val l) H i hl _ j _

include hz hx in
theorem v37 : val_main_v37 (F := Ideal) x0 x1 (ix3 H i j) = ((if j.val < i.val then ∑ l ∈ range j.val, gw (lgt Z H.val) (cot Z C H.val) i.val l else 0 : ℝ) : EReal) := by
  pointwise [val_main_v37, val_main_v36, val_main_v34, val_main_v18_1, val_main_call7_v0, val_main_call7_cst]
  rw [v14, v35 hz hx, v33 hz hx, neg_coe, add_coe, Finset.sum_range_succ, neg_add_eq_sub, add_sub_cancel_right]
  exact (masked _ _ _ EReal.coe_zero.symm).trans (congrArg _ (by congr))

include hz hx in
theorem v43 : val_main_v43 (F := Ideal) x0 x1 (ix3 H i j) = ((dlog (lgt Z H.val) (cot Z C H.val) i.val j.val * (1 / 8) : ℝ) : EReal) := by
  pointwise [val_main_v43, val_main_v42, val_main_cst_2, val_main_v41, val_main_v40, val_main_v39, val_main_v38, val_main_call8_v0, val_main_call8_v1, val_main_call9_v0, val_main_call9_v1]
  rw [v37 hz hx, v33 hz hx, v17_1 hz, v15_1 hz, RealKit.c8]
  simp only [neg_coe, mul_coe, add_coe]
  refine congrArg _ ?_
  have e := exp_lsig_add (lgt Z H.val i.val j.val)
  rw [dlog]
  by_cases h : j.val < i.val
  · rw [if_pos h, if_pos h, show Real.exp (lsig (-lgt Z H.val i.val j.val)) = 1 - Real.exp (lsig (lgt Z H.val i.val j.val)) by linarith]
    ring
  · rw [if_neg h, if_neg h, gw_zero h]; ring

include hz hx in
/-- The first result: the queries' gradient, the queries scaled. -/
theorem v56 (f : Fin 256) : val_main_v56 (F := Ideal) x0 x1 (ix2 i f) = ((∑ j : Fin 16384, dlog (lgt Z (f.val / 64)) (cot Z C (f.val / 64)) i.val j.val * num Z j.val (256 + f.val) : ℝ) : EReal) := by
  pointwise [val_main_v56, val_main_v55, val_main_cst_3, val_main_v52, val_main_v51, val_main_v50, val_main_v47, val_main_v46]
  have e := fun j : Fin 16384 => v43 hz hx ⟨f.val / 64, by omega⟩ i j
  have e2 := fun j : Fin 16384 => v4 hz ⟨f.val / 64, by omega⟩ j ⟨f.val % 64, Nat.mod_lt _ (by norm_num)⟩
  refine (congrArg₂ Ideal.div ((Finset.sum_congr rfl fun j _ => (congrArg₂ (· * ·) (e j) (e2 j)).trans (mul_coe _ _)).trans (sum_coe _)) RealKit.c8).trans ?_
  rw [div_coe _ _ (by norm_num), Finset.sum_div]
  refine congrArg _ (Finset.sum_congr rfl fun j _ => ?_)
  rw [hk, show 256 + 64 * (f.val / 64) + f.val % 64 = 256 + f.val by omega]
  ring

include hz hx in
/-- The second result: the keys' gradient, the heads in pairs. -/
theorem v58 (b : Fin 2) (l : Fin 128) : val_main_v58 (F := Ideal) x0 x1 (ix3 b j l) = ((∑ i : Fin 16384, dlog (lgt Z (2 * b.val + l.val / 64)) (cot Z C (2 * b.val + l.val / 64)) i.val j.val * (num Z i.val (128 * b.val + l.val) * (1 / 8)) : ℝ) : EReal) := by
  pointwise [val_main_v58, val_main_v57, val_main_v53, val_main_v51, val_main_v49, val_main_v45, val_main_v44]
  rw [dif_pos (by omega)]
  have e := fun i : Fin 16384 => v43 hz hx ⟨(b.val * 128 + l.val) / 64, by omega⟩ i j
  have e2 := fun i : Fin 16384 => v3 hz ⟨(b.val * 128 + l.val) / 64, by omega⟩ i ⟨(b.val * 128 + l.val) % 64, Nat.mod_lt _ (by norm_num)⟩
  refine ((Finset.sum_congr rfl fun j _ => (congrArg₂ (· * ·) (e j) (e2 j)).trans (mul_coe _ _)).trans (sum_coe _)).trans ?_
  refine congrArg _ (Finset.sum_congr rfl fun i _ => ?_)
  dsimp only
  rw [hq, show 64 * ((b.val * 128 + l.val) / 64) + (b.val * 128 + l.val) % 64 = 128 * b.val + l.val by omega, show (b.val * 128 + l.val) / 64 = 2 * b.val + l.val / 64 by omega]
  ring

include hz hx in
/-- The third result: the values' gradient, the heads in pairs. -/
theorem v60 (b : Fin 2) (l : Fin 128) : val_main_v60 (F := Ideal) x0 x1 (ix3 b j l) = ((∑ i : Fin 16384, wgt (lgt Z (2 * b.val + l.val / 64)) i.val j.val * num C i.val (128 * b.val + l.val) : ℝ) : EReal) := by
  pointwise [val_main_v60, val_main_v59, val_main_v54, val_main_v51, val_main_v48, val_main_v31, val_main_v30]
  rw [dif_neg (by omega), dif_neg (by omega)]
  have e := fun i : Fin 16384 => v28 hx ⟨(512 + (b.val * 128 + l.val) - 256 - 256) / 64, by omega⟩ i ⟨(512 + (b.val * 128 + l.val) - 256 - 256) % 64, Nat.mod_lt _ (by norm_num)⟩
  have e2 := fun i : Fin 16384 => v23_0 hz ⟨(512 + (b.val * 128 + l.val) - 256 - 256) / 64, by omega⟩ i j
  refine ((Finset.sum_congr rfl fun j _ => (congrArg₂ (· * ·) (e j) (e2 j)).trans (mul_coe _ _)).trans (sum_coe _)).trans ?_
  refine congrArg _ (Finset.sum_congr rfl fun i _ => ?_)
  dsimp only
  rw [hc, show 64 * ((512 + (b.val * 128 + l.val) - 256 - 256) / 64) + (512 + (b.val * 128 + l.val) - 256 - 256) % 64 = 128 * b.val + l.val by omega,
    show (512 + (b.val * 128 + l.val) - 256 - 256) / 64 = 2 * b.val + l.val / 64 by omega]
  ring

end Stages

end Cert.AttnRef

end
-- ==== Proof.AttnSums.lean ====
/- The kernel's sums by tiles and pairs of heads, as sums over the positions of each head. -/
module

public import proofs.«01_k».proof.Proof.AttnRef

@[expose] public section

set_option maxRecDepth 16384

noncomputable section

open Idealize.ShloMosaic Idealize.ShloMosaic.TcCoe Idealize.SL.Sem

namespace Cert.AttnSums

open Cert.RealKit Cert.AttnMath Cert.AttnKernel Cert.AttnRef Cert.AttnTrip Cert.AttnWalk Cert.AttnMem
open Cert.AttnHead (pick)
open Finset (Ico range)

theorem half0 (f : Fin 128 → ℝ) : ∑ l : Fin 128, pick (l.val < 64) (f l) = ∑ d : Fin 64, f ⟨d.val, by omega⟩ := by
  rw [show (∑ l : Fin 128, pick (l.val < 64) (f l)) = ∑ l : Fin (64 + 64), pick (l.val < 64) (f l) from rfl, Fin.sum_univ_add]
  have h1 : ∀ d : Fin 64, pick ((Fin.castAdd 64 d).val < 64) (f (Fin.castAdd 64 d)) = f ⟨d.val, by omega⟩ := fun d => if_pos d.isLt
  have h2 : ∀ d : Fin 64, pick ((Fin.natAdd 64 d).val < 64) (f (Fin.natAdd 64 d)) = 0 := fun d => if_neg (by show ¬64 + d.val < 64; omega)
  rw [Finset.sum_congr rfl fun d _ => h1 d, Finset.sum_congr rfl fun d _ => h2 d, Finset.sum_const_zero, add_zero]

theorem half1 (f : Fin 128 → ℝ) : ∑ l : Fin 128, pick (¬l.val < 64) (f l) = ∑ d : Fin 64, f ⟨64 + d.val, by omega⟩ := by
  rw [show (∑ l : Fin 128, pick (¬l.val < 64) (f l)) = ∑ l : Fin (64 + 64), pick (¬l.val < 64) (f l) from rfl, Fin.sum_univ_add]
  have h1 : ∀ d : Fin 64, pick (¬(Fin.castAdd 64 d).val < 64) (f (Fin.castAdd 64 d)) = 0 := fun d => if_neg (not_not.mpr d.isLt)
  have h2 : ∀ d : Fin 64, pick (¬(Fin.natAdd 64 d).val < 64) (f (Fin.natAdd 64 d)) = f ⟨64 + d.val, by omega⟩ := fun d => if_pos (by show ¬64 + d.val < 64; omega)
  rw [Finset.sum_congr rfl fun d _ => h1 d, Finset.sum_congr rfl fun d _ => h2 d, Finset.sum_const_zero, zero_add]

theorem pick_mul (p : Prop) (a b : ℝ) : pick p a * b = pick p (a * b) := by
  unfold pick; by_cases h : p
  · rw [if_pos h, if_pos h]
  · rw [if_neg h, if_neg h, zero_mul]

theorem mul_pick (p : Prop) (a b : ℝ) : a * pick p b = pick p (a * b) := by rw [mul_comm, pick_mul, mul_comm]

variable (Z : Fin 16384 → Fin 768 → ℝ) (C : Fin 16384 → Fin 256 → ℝ) (hp : ℕ)

theorem lgt0 : prod M0 (qs Z hp) (ks Z hp) = lgt Z (2 * hp) := by
  funext i j
  unfold prod
  simp only [pick_mul]
  refine (half0 fun l => qs Z hp i l * ks Z hp j l).trans ?_
  rw [lgt, Finset.sum_mul]
  refine Finset.sum_congr rfl fun d _ => ?_
  rw [qs, ks, hq, hk, show 64 * (2 * hp) = 128 * hp by omega]
  ring

theorem lgt1 : prod M1 (qs Z hp) (ks Z hp) = lgt Z (2 * hp + 1) := by
  funext i j
  unfold prod
  simp only [pick_mul]
  refine (half1 fun l => qs Z hp i l * ks Z hp j l).trans ?_
  rw [lgt, Finset.sum_mul]
  refine Finset.sum_congr rfl fun d _ => ?_
  rw [qs, ks, hq, hk, show 64 * (2 * hp + 1) + d.val = 128 * hp + (64 + d.val) by omega, show 256 + 64 * (2 * hp + 1) + d.val = 256 + 128 * hp + (64 + d.val) by omega]
  ring

theorem cot0 : prod M0 (ds C hp) (vs Z hp) = cot Z C (2 * hp) := by
  funext i j
  unfold prod
  simp only [pick_mul]
  refine (half0 fun l => ds C hp i l * vs Z hp j l).trans ?_
  rw [cot]
  refine Finset.sum_congr rfl fun d _ => ?_
  rw [ds, vs, hc, hv, show 64 * (2 * hp) = 128 * hp by omega]

theorem cot1 : prod M1 (ds C hp) (vs Z hp) = cot Z C (2 * hp + 1) := by
  funext i j
  unfold prod
  simp only [pick_mul]
  refine (half1 fun l => ds C hp i l * vs Z hp j l).trans ?_
  rw [cot]
  refine Finset.sum_congr rfl fun d _ => ?_
  rw [ds, vs, hc, hv, show 64 * (2 * hp + 1) + d.val = 128 * hp + (64 + d.val) by omega, show 512 + 64 * (2 * hp + 1) + d.val = 512 + 128 * hp + (64 + d.val) by omega]

/-- Of two heads' terms a lane keeps its own head's. -/
theorem own (g : ℕ → ℕ → ℝ) (l : Fin 128) (a : ℕ → ℝ) (S : Finset ℕ) :
    ∑ i ∈ S, g (2 * hp) i * pick (M0 l) (a i) + ∑ i ∈ S, g (2 * hp + 1) i * pick (M1 l) (a i) = ∑ i ∈ S, g (2 * hp + l.val / 64) i * a i := by
  rw [← Finset.sum_add_distrib]
  refine Finset.sum_congr rfl fun i _ => ?_
  by_cases h : l.val < 64
  · rw [show l.val / 64 = 0 by omega, pick, pick, if_pos h, if_neg (not_not.mpr h), mul_zero, add_zero, add_zero]
  · rw [show l.val / 64 = 1 by omega, pick, pick, if_neg h, if_pos h, mul_zero, zero_add]

/-- The tiles' rows are all rows. -/
theorem tiles (g : ℕ → ℝ) (n : ℕ) : ∑ q ∈ range n, ∑ r : Fin 256, g (256 * q + r.val) = ∑ i ∈ range (256 * n), g i := by
  induction n with
  | zero => rfl
  | succ n ih => rw [Finset.sum_range_succ, ih, Nat.mul_succ, Finset.sum_range_add, Finset.sum_range (fun x => g (256 * n + x))]

theorem all_rows (g : ℕ → ℝ) : ∑ i ∈ range N, g i = ∑ i : Fin 16384, g i.val := Finset.sum_range g

theorem dq_eq (i : Fin 16384) (f : Fin 256) :
    dqFull Z C i f = ∑ j : Fin 16384, dlog (lgt Z (f.val / 64)) (cot Z C (f.val / 64)) i.val j.val * num Z j.val (256 + f.val) := by
  rw [dqFull, dqOf, dl, dl, lgt0, lgt1, cot0, cot1]
  refine (own (f.val / 128) (fun H j => dlog (lgt Z H) (cot Z C H) i.val j) ⟨f.val % 128, Nat.mod_lt _ (by norm_num)⟩ (fun j => ks Z (f.val / 128) j ⟨f.val % 128, Nat.mod_lt _ (by norm_num)⟩) (Ico 0 N)).trans ?_
  rw [← Finset.range_eq_Ico, all_rows]
  refine Finset.sum_congr rfl fun j _ => ?_
  dsimp only
  rw [ks, show 2 * (f.val / 128) + f.val % 128 / 64 = f.val / 64 by omega]
  dsimp only
  rw [show 256 + 128 * (f.val / 128) + f.val % 128 = 256 + f.val by omega]

theorem dk_eq (j : ℕ) (l : Fin 128) :
    dkSum Z C hp 64 j l = ∑ i : Fin 16384, dlog (lgt Z (2 * hp + l.val / 64)) (cot Z C (2 * hp + l.val / 64)) i.val j * (num Z i.val (128 * hp + l.val) * (1 / 8)) := by
  unfold dkSum dkOf dl
  rw [lgt0, lgt1, cot0, cot1, Finset.sum_add_distrib, tiles (fun i => dlog (lgt Z (2 * hp)) (cot Z C (2 * hp)) i j * pick (M0 l) (qs Z hp i l)),
    tiles (fun i => dlog (lgt Z (2 * hp + 1)) (cot Z C (2 * hp + 1)) i j * pick (M1 l) (qs Z hp i l))]
  refine (own hp (fun H i => dlog (lgt Z H) (cot Z C H) i j) l (fun i => qs Z hp i l) (range N)).trans ?_
  rw [all_rows]
  rfl

theorem dv_eq (j : ℕ) (l : Fin 128) :
    dvSum Z C hp 64 j l = ∑ i : Fin 16384, wgt (lgt Z (2 * hp + l.val / 64)) i.val j * num C i.val (128 * hp + l.val) := by
  unfold dvSum dvOf AttnTrip.wt
  rw [lgt0, lgt1, Finset.sum_add_distrib, tiles (fun i => wgt (lgt Z (2 * hp)) i j * pick (M0 l) (ds C hp i l)),
    tiles (fun i => wgt (lgt Z (2 * hp + 1)) i j * pick (M1 l) (ds C hp i l))]
  refine (own hp (fun H i => wgt (lgt Z H) i j) l (fun i => ds C hp i l) (range N)).trans ?_
  rw [all_rows]
  rfl

/-- The attention's output, by head. -/
theorem os_eq (i : ℕ) (l : Fin 128) (f : ℕ) (hf : f = 128 * hp + l.val) :
    os Z hp i l = ∑ j : Fin 16384, wgt (lgt Z (f / 64)) i j.val * num Z j.val (512 + f) := by
  subst hf
  rw [os, ← all_rows (fun j => wgt (lgt Z ((128 * hp + l.val) / 64)) i j * num Z j (512 + (128 * hp + l.val)))]
  refine Finset.sum_congr rfl fun j _ => ?_
  unfold AttnTrip.wt
  rw [lgt0, lgt1, vs, show 512 + 128 * hp + l.val = 512 + (128 * hp + l.val) by omega]
  by_cases h : l.val < 64
  · rw [if_pos h, show (128 * hp + l.val) / 64 = 2 * hp by omega]
  · rw [if_neg h, show (128 * hp + l.val) / 64 = 2 * hp + 1 by omega]

end Cert.AttnSums

end
-- ==== Proof.AttnClaim.lean ====
/- The attention gradient's pair: its equality at finite arguments. -/
module

public import proofs.«01_k».proof.Proof.AttnFrame
public import proofs.«01_k».proof.Proof.AttnSums
public import proofs.«01_k».proof.Proof.Gen.Pre_finite_attn

@[expose] public section

set_option maxRecDepth 16384

noncomputable section

open Idealize.ShloMosaic Idealize.ShloMosaic.TcCoe Idealize.SL.Sem

namespace Cert.AttnClaim

open Cert.RealKit Cert.AttnKernel

/-- Finite arguments are real arrays. -/
theorem args {m : (ℓ : Loc Cert.KernelAttnIdeal.nD Cert.KernelAttnIdeal.τ Cert.KernelAttnIdeal.sig) → Buf (Elt Ideal) ℓ}
    (h : Pre_KernelAttnIdeal_finite_attn m) (c : Dev Cert.KernelAttnIdeal.nD) : ∃ (Z : Fin 16384 → Fin 768 → ℝ) (C : Fin 16384 → Fin 256 → ℝ), Args m c Z C := by
  obtain ⟨h0, h1⟩ := h c
  obtain ⟨Z, hZ⟩ := exists_reals _ _ (fun _ => cInf) h0
  obtain ⟨C, hC⟩ := exists_reals _ _ (fun _ => cInf) h1
  refine ⟨fun i j => Z (ix2 i j), fun i j => C (ix2 i j), fun _ _ => hZ _, fun _ _ => hC _, fun i hp hh l => ?_⟩
  rw [AttnHost.v33]
  refine (AttnRef.v26 (Z := fun i j => Z (ix2 i j)) (fun _ _ => hZ _) i ⟨hp * 128 + l.val, by omega⟩).trans (congrArg _ ?_)
  exact (AttnSums.os_eq _ hp i.val l _ (by show hp * 128 + l.val = _; omega)).symm

theorem reference : quiescent_ReferenceAttnIdeal := fun m g _ =>
  (θ_run Cert.ReferenceAttnIdeal.defs _ _).mono (fun r h => ⟨fun c => (h c).2.2.2, sem_eq_zero_of_no_sems rfl _⟩)
    (Cert.ReferenceAttnIdeal.Value.run m g)
theorem reference_pre : quiescent_ReferenceAttnIdeal_pre_finite_attn := fun m g _ => reference m g trivial

theorem preserves : preserves_KernelAttn_KernelAttnIdeal :=
  IdealRules.named_const.statement _ _ _ _ _ rfl

/-- The three results the kernel leaves. -/
theorem results (m : (ℓ : Loc Cert.KernelAttnIdeal.nD Cert.KernelAttnIdeal.τ Cert.KernelAttnIdeal.sig) → Buf (Elt Ideal) ℓ)
    (g : Dev Cert.KernelAttnIdeal.nD → PrngReg) :
    θ_run (Cert.KernelAttnIdeal.defs (F := Ideal)) (onTc (τ := Cert.KernelAttnIdeal.τ) (Cert.KernelAttnIdeal.main (F := Ideal))) ⟨m, fun _ => 0, g⟩
      (fun r => ∀ c : Dev Cert.KernelAttnIdeal.nD,
        r.2.mem ((c.tc : Thread Cert.KernelAttnIdeal.nD Cert.KernelAttnIdeal.τ).loc Cert.KernelAttnIdeal.main_v46_0) = (AttnRun.dats m 0 c).arrAt 7 (Cert.KernelAttnIdeal.cfgs (F := Ideal) 0).N
        ∧ r.2.mem ((c.tc : Thread Cert.KernelAttnIdeal.nD Cert.KernelAttnIdeal.τ).loc Cert.KernelAttnIdeal.main_v46_1) = (AttnRun.memAt m c (Cert.KernelAttnIdeal.cfg0 (F := Ideal)).N).y1
        ∧ r.2.mem ((c.tc : Thread Cert.KernelAttnIdeal.nD Cert.KernelAttnIdeal.τ).loc Cert.KernelAttnIdeal.main_v46_2) = (AttnRun.memAt m c (Cert.KernelAttnIdeal.cfg0 (F := Ideal)).N).y2
        ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
        ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)) :=
  (θ_run Cert.KernelAttnIdeal.defs _ _).mono (fun r h c =>
    ⟨(h.1.toR c).1 7, (h.1.2 c _ (by decide)).trans (AttnRun.finals_1 m c), (h.1.2 c _ (by decide)).trans (AttnRun.finals_2 m c),
     ((h.1.toR c).2 _ AttnRun.arg0_rest).trans (AttnRun.V_arg0 m c),
     ((h.1.toR c).1 3).trans (((AttnRun.dats m 0 c).arrAt_in 3 rfl _).trans ((AttnRun.A_eq m c 3).trans (AttnRun.V_arg1 m c)))⟩) (AttnRun.run m g)

theorem algebraic : algebraic_KernelAttnIdeal_ReferenceAttnIdeal_pre_finite_attn := by
  intro m g m' g' hpre hagree
  refine ⟨_, _, _, results m g,
    (θ_run Cert.ReferenceAttnIdeal.defs _ _).mono (fun r h c => ?_) (Cert.ReferenceAttnIdeal.Value.run m' g')⟩
  obtain ⟨Z, C, ha⟩ := args hpre c
  obtain ⟨e0, e1⟩ := hagree c
  refine ⟨(h c).1.trans ?_, (h c).2.1.trans ?_, (h c).2.2.1.trans ?_, (h c).2.2.2⟩
  · rw [Cert.ReferenceAttnIdeal.Read.val_main_v56_eq, show StableHlo.launchContents m' c (Proc.devRef .tc Cert.ReferenceAttnIdeal.main_arg0) = _ from e0,
      show StableHlo.launchContents m' c (Proc.devRef .tc Cert.ReferenceAttnIdeal.main_arg1) = _ from e1]
    refine Eq.trans ?_ (AttnMem.final7 ha).symm
    funext i
    idx_vars i
    exact (AttnRef.v56 ha.z ha.ct i0 i1).trans (congrArg _ (AttnSums.dq_eq Z C i0 i1).symm)
  · rw [Cert.ReferenceAttnIdeal.Read.val_main_v58_eq, show StableHlo.launchContents m' c (Proc.devRef .tc Cert.ReferenceAttnIdeal.main_arg0) = _ from e0,
      show StableHlo.launchContents m' c (Proc.devRef .tc Cert.ReferenceAttnIdeal.main_arg1) = _ from e1]
    funext i
    idx_vars i
    exact (AttnRef.v58 ha.z ha.ct i1 i0 i2).trans ((congrArg _ (AttnSums.dk_eq Z C i0.val i1.val i2).symm).trans (AttnMem.rows1 ha _ le_rfl i0 (by show 64 * i0.val + 64 ≤ 128; omega) i1 i2).symm)
  · rw [Cert.ReferenceAttnIdeal.Read.val_main_v60_eq, show StableHlo.launchContents m' c (Proc.devRef .tc Cert.ReferenceAttnIdeal.main_arg0) = _ from e0,
      show StableHlo.launchContents m' c (Proc.devRef .tc Cert.ReferenceAttnIdeal.main_arg1) = _ from e1]
    funext i
    idx_vars i
    exact (AttnRef.v60 ha.z ha.ct i1 i0 i2).trans ((congrArg _ (AttnSums.dv_eq Z C i0.val i1.val i2).symm).trans (AttnMem.rows2 ha _ le_rfl i0 (by show 64 * i0.val + 64 ≤ 128; omega) i1 i2).symm)

end Cert.AttnClaim

end
-- ==== Proof.AttnfRun.lean ====
module

public import proofs.«01_k».proof.Proof.Gen.KernelAttnfIdeal.Launch
public import proofs.«01_k».proof.Proof.Gen.KernelAttnfIdeal.Skeleton
public import proofs.«01_k».proof.Proof.Gen.KernelAttnfIdeal.Points
public import Idealize.ShloMosaic.Lib.Pipeline.FrameBody
public import Idealize.ShloMosaic.Lib.Tactic

@[expose] public section

noncomputable section

/-! The walk of the attention's forward call over the key tiles: four heads side by side, each adding its weighted
    values to one tile of the result. -/

namespace Cert.AttnfRun

open Cert.KernelAttnfIdeal Cert.KernelAttnfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop's recursion is bounded by the trips still to run. -/
abbrev 𝒱₀ : Variants := Variants.nat

/-- What the walk reads: the four heads' queries, the keys and the values. -/
structure Fixed (F : FTy → Type) where
  i : grid0.Coords
  keys : Vec F S16384x256 .bf16
  vals : Vec F S16384x256 .bf16
  upper : Vec F S256x256 .bf16
  lanes : IVec S1x256 32
  q0 : FVec F S256x256 .bf16
  q1 : FVec F S256x256 .bf16
  q2 : FVec F S256x256 .bf16
  q3 : FVec F S256x256 .bf16

/-- What a trip hands to the next: the flag, the result's tile, each head's running sum. -/
structure Carry (F : FTy → Type) where
  alive : BitVec 32
  acc : FVec F S256x256 .f32
  c0 : FVec F S256x1 .f32
  c1 : FVec F S256x1 .f32
  c2 : FVec F S256x1 .f32
  c3 : FVec F S256x1 .f32

/-- The key tile's rectangle. -/
abbrev rK (kb : BitVec 32) (h : k0_chk1 kb) : Rect S16384x256 :=
  Rect.unit (s := S16384x256) (k0_off1 kb) S256x256.size (k0_off1_inb kb h)

/-- A square tile read whole. -/
abbrev rU : Rect S256x256 := Rect.unit (s := S256x256) ![0, 0] S256x256.size inb_S256x256_S256x256_0_0

/-- The bound of the running sums: the name of the rounded threshold. -/
abbrev cut : F .f32 := Named.named κ "cut" 0xC2D00000#32

section Trip

variable (p : Fixed F) (kb : BitVec 32) (h : k0_chk1 kb) (s : Carry F)

/-- The query tile's number. -/
abbrev Fixed.qi (p : Fixed F) : BitVec 32 := BitVec.ofNat 32 (p.i 0).val
abbrev keyTile : Vec F S256x256 .bf16 := View.ld p.keys (rK kb h)
abbrev valTile : Vec F S256x256 .bf16 := View.ld p.vals (rK kb h)
abbrev tri : Vec F S256x256 .bf16 := View.ld p.upper rU
abbrev causal : IVec S256x256 1 := k0_pay13 kb p.qi
abbrev zero : F .f32 := Scalar.ofBits .f32 0x00000000#32

/-- The result's tile after each head, and each head's new sum. -/
def acc0 : FVec F S256x256 .f32 :=
  k0_pay21 p.lanes s.acc (k0_pay12 (valTile p kb h)) (causal p kb) (k0_pay16 p.q0 (keyTile p kb h)) (k0_pay19 p.q0 kb p.qi (keyTile p kb h))
    (k0_pay20 p.q0 kb s.c0 p.qi (keyTile p kb h) (tri p)) (tri p)
def sum0 : FVec F S256x1 .f32 := k0_pay22 s.c0 (k0_pay17 p.q0 kb p.qi (keyTile p kb h))
def acc1 : FVec F S256x256 .f32 :=
  k0_pay29 p.lanes s.c1 (k0_pay12 (valTile p kb h)) (causal p kb) (acc0 p kb h s) (k0_pay25 p.q1 (k0_pay11 (keyTile p kb h)))
    (k0_pay27 p.q1 (k0_pay11 (keyTile p kb h)) (causal p kb)) (k0_pay28 p.q1 (k0_pay11 (keyTile p kb h)) (causal p kb)) (tri p) (tri p)
def sum1 : FVec F S256x1 .f32 := k0_pay30 s.c1 (k0_pay26 p.q1 (k0_pay11 (keyTile p kb h)) (causal p kb))
def acc2 : FVec F S256x256 .f32 :=
  k0_pay35 p.lanes s.c2 (k0_pay12 (valTile p kb h)) (causal p kb) (acc1 p kb h s) (k0_pay33 p.q2 (k0_pay11 (keyTile p kb h)))
    (k0_pay34 p.q2 (k0_pay11 (keyTile p kb h)) (causal p kb)) (tri p) (tri p)
def sum2 : FVec F S256x1 .f32 := k0_pay36 s.c2 (k0_pay34 p.q2 (k0_pay11 (keyTile p kb h)) (causal p kb))
def acc3 : FVec F S256x256 .f32 :=
  k0_pay42 p.lanes s.c3 (k0_pay12 (valTile p kb h)) (causal p kb) (acc2 p kb h s) (k0_pay38 p.q3 (k0_pay11 (keyTile p kb h)))
    (k0_pay39 p.q3 (k0_pay11 (keyTile p kb h))) (k0_pay40 p.q3 (k0_pay11 (keyTile p kb h))) (zero (F := F)) (tri p) (tri p)
def sum3 : FVec F S256x1 .f32 :=
  k0_pay43 s.c3 (causal p kb) (k0_pay38 p.q3 (k0_pay11 (keyTile p kb h))) (k0_pay40 p.q3 (k0_pay11 (keyTile p kb h))) (zero (F := F))
/-- The largest of the four heads' sums over the rows. -/
def top : F .f32 :=
  k0_pay44 s.c3 (causal p kb) (sum0 p kb h s) (sum1 p kb h s) (sum2 p kb h s) (k0_pay38 p.q3 (k0_pay11 (keyTile p kb h)))
    (k0_pay40 p.q3 (k0_pay11 (keyTile p kb h))) (zero (F := F))

/-- One trip. -/
def trip : Carry F where
  alive := Scalar.extui (Scalar.cmpf .ogt (top p kb h s) cut)
  acc := acc3 p kb h s
  c0 := sum0 p kb h s
  c1 := sum1 p kb h s
  c2 := sum2 p kb h s
  c3 := sum3 p kb h s

end Trip

/-- The tile's number on the trip with `k` more to run, and the counter before it. -/
abbrev kbOf (k : ℕ) : BitVec 32 := BitVec.ofNat 32 k
abbrev ctr (k : ℕ) : BitVec 32 := Scalar.subi (BitVec.ofNat 32 k) 1#32

theorem chk_of_lt : ∀ k < 64, k0_chk1 (kbOf k) := by decide +kernel
theorem ctr_succ : ∀ k < 64, ctr (k + 1) = kbOf k := by decide +kernel
theorem ctr_test : ∀ k < 64, Scalar.cmpi .sge (kbOf k) 0#32 = 1#1 := by decide +kernel
theorem andi_one : ∀ a : BitVec 1, Scalar.andi 1#1 a = a := by decide
theorem andi_zero : ∀ a : BitVec 1, Scalar.andi 0#1 a = 0#1 := by decide

/-- The walk with `k` trips still to run: it stops where the flag is down. -/
def walk (p : Fixed F) : ℕ → Carry F → Carry F
  | 0, s => s
  | k + 1, s => if hk : k < 64 then
      if Scalar.cmpi .sgt s.alive 0#32 = 1#1 then walk p k (trip p (kbOf k) (chk_of_lt k hk) s) else s
    else s

section Label

variable (c : Dev nD) (o : Fixed F)
  (arg2 : Memref sig .tc .vmem S16384x256 .bf16) (harg2 : arg2.IsWhole) (arg3 : Memref sig .tc .vmem S16384x256 .bf16) (harg3 : arg3.IsWhole)
  (arg4 : Memref sig .tc .vmem S256x256 .bf16) (harg4 : arg4.IsWhole)
  (g2 : Buf (Elt F) (arg2.view.loc (c : Thread nD τ))) (g3 : Buf (Elt F) (arg3.view.loc (c : Thread nD τ)))
  (g4 : Buf (Elt F) (arg4.view.loc (c : Thread nD τ)))

/-- The values the walk reads, its three arrays read out of their buffers. -/
abbrev fixedOf : Fixed F :=
  { o with keys := arg2.view.read (Elt F) g2, vals := arg3.view.read (Elt F) g3, upper := arg4.view.read (Elt F) g4 }

/-- What the walk holds: its three inputs whole. -/
def held : sProp 𝕄 :=
  iprop((arg2.view.loc (c : Thread nD τ) ↦[arg2.view.set]{fullShare} g2) ∗ (arg3.view.loc (c : Thread nD τ) ↦[arg3.view.set]{fullShare} g3)
    ∗ (arg4.view.loc (c : Thread nD τ) ↦[arg4.view.set]{fullShare} g4))

/-- The loop's seven values. -/
abbrev Res (F : FTy → Type) : Type :=
  BitVec 32 × BitVec 32 × FVec F S256x256 .f32 × FVec F S256x1 .f32 × FVec F S256x1 .f32 × FVec F S256x1 .f32 × FVec F S256x1 .f32

/-- The loop with `k` trips to run returns the tile the walk ends with. -/
def spec (k : ℕ) (s : Carry F) : sWPT 𝕄 (Res F) := do
  sWPT.consume (held c arg2 arg3 arg4 g2 g3 g4)
  let r ← sWPT.arbitrary
  sWPT.assume (r.2.2.1 = (walk (fixedOf c o arg2 arg3 arg4 g2 g3 g4) k s).acc)
  sWPT.produce (held c arg2 arg3 arg4 g2 g3 g4)
  pure r

theorem spec_apply (k : ℕ) (s : Carry F) (K : Res F → sProp 𝕄) :
    spec c o arg2 arg3 arg4 g2 g3 g4 k s K
      = iprop(held c arg2 arg3 arg4 g2 g3 g4 ∗ ∀ r : Res F, ⌜r.2.2.1 = (walk (fixedOf c o arg2 arg3 arg4 g2 g3 g4) k s).acc⌝ -∗
          (held c arg2 arg3 arg4 g2 g3 g4 -∗ K r)) := rfl

/-- The loop on the carried values. -/
abbrev args (kb : BitVec 32) (s : Carry F) : Cc0While1 F :=
  ⟨o.i, arg2, harg2, arg3, harg3, o.q0, arg4, harg4, o.lanes, o.q1, o.q2, o.q3, kb, s.alive, s.acc, s.c0, s.c1, s.c2, s.c3⟩

theorem spec_le (E : Set ℕ) : ∀ k ≤ 64, ∀ (s : Carry F) K, spec c o arg2 arg3 arg4 g2 g3 g4 k s K
      ⊢ wp frame (wpE (defs₀ (F := F)) 𝒱₀ (c : Thread nD τ) (some k)) E
          (defs₀ (F := F) .tc 1 (args o arg2 harg2 arg3 harg3 arg4 harg4 (ctr k) s)) K := by
  intro k
  induction k with
  | zero =>
    intro _ s K
    rw [spec_apply]
    show _ ⊢ wp frame (wpE (defs₀ (F := F)) 𝒱₀ (c : Thread nD τ) (some 0)) E
      (cc0_while1 o.i arg2 harg2 arg3 harg3 o.q0 arg4 harg4 o.lanes o.q1 o.q2 o.q3 (ctr 0) s.alive s.acc s.c0 s.c1 s.c2 s.c3) K
    simp only [cc0_while1_eq_skeleton]; unfold cc0_while1_skel
    have htest : ¬Scalar.andi (Scalar.cmpi .sge (ctr 0) 0#32) (Scalar.cmpi .sgt s.alive 0#32) = 1#1 := by
      rw [show Scalar.cmpi .sge (ctr 0) 0#32 = 0#1 from by decide, andi_zero]; decide
    simp only [htest, ↓reduceIte, Prog.pure_eq_ret]
    iintro ⟨H, Hk⟩
    rw [wp_ret]; imodintro
    iapply Hk
    · ipureintro; rfl
    · iexact H
  | succ k ih =>
    intro hk s K
    have hk64 : k < 64 := hk
    rw [spec_apply]
    show _ ⊢ wp frame (wpE (defs₀ (F := F)) 𝒱₀ (c : Thread nD τ) (some (k + 1))) E
      (cc0_while1 o.i arg2 harg2 arg3 harg3 o.q0 arg4 harg4 o.lanes o.q1 o.q2 o.q3 (ctr (k + 1)) s.alive s.acc s.c0 s.c1 s.c2 s.c3) K
    rw [ctr_succ k hk64]
    simp only [cc0_while1_eq_skeleton]; unfold cc0_while1_skel
    by_cases ha : Scalar.cmpi .sgt s.alive 0#32 = 1#1
    · have htest : Scalar.andi (Scalar.cmpi .sge (kbOf k) 0#32) (Scalar.cmpi .sgt s.alive 0#32) = 1#1 := by
        rw [ctr_test k hk64, andi_one, ha]
      have hchk := chk_of_lt k hk64
      have hw : walk (fixedOf c o arg2 arg3 arg4 g2 g3 g4) (k + 1) s
          = walk (fixedOf c o arg2 arg3 arg4 g2 g3 g4) k (trip (fixedOf c o arg2 arg3 arg4 g2 g3 g4) (kbOf k) hchk s) := by
        rw [walk, dif_pos hk64, if_pos ha]
      rw [hw]
      simp only [htest, ↓reduceIte, k0_part2_eq_skeleton, k0_part3_eq_skeleton, k0_part4_eq_skeleton, k0_part5_eq_skeleton, k0_part6_eq_skeleton]
      unfold held
      iintro ⟨⟨Hkeys, Hvals, Hup⟩, Hk⟩
      sl_exec
      iapply (wp_call_spec 𝒱₀ (c : Thread nD τ) (some (k + 1)) E (spec c o arg2 arg3 arg4 g2 g3 g4 k (trip (fixedOf c o arg2 arg3 arg4 g2 g3 g4) (kbOf k) hchk s)) k
        (fun u hu => by cases hu; exact Nat.lt_succ_self k) (ih (by omega) (trip (fixedOf c o arg2 arg3 arg4 g2 g3 g4) (kbOf k) hchk s)))
      rw [spec_apply]; unfold held
      isplitl [Hkeys Hvals Hup]
      · isplitl [Hkeys]; · iexact Hkeys
        isplitl [Hvals]; · iexact Hvals
        iexact Hup
      iintro %r %hr ⟨Hkeys, Hvals, Hup⟩
      rw [wp_ret]; imodintro
      iapply Hk
      · ipureintro; exact hr
      · isplitl [Hkeys]; · iexact Hkeys
        isplitl [Hvals]; · iexact Hvals
        iexact Hup
    · have htest : ¬Scalar.andi (Scalar.cmpi .sge (kbOf k) 0#32) (Scalar.cmpi .sgt s.alive 0#32) = 1#1 := by
        rw [ctr_test k hk64, andi_one]; exact ha
      have hw : walk (fixedOf c o arg2 arg3 arg4 g2 g3 g4) (k + 1) s = s := by rw [walk, dif_pos hk64, if_neg ha]
      rw [hw]
      simp only [htest, ↓reduceIte, Prog.pure_eq_ret]
      iintro ⟨H, Hk⟩
      rw [wp_ret]; imodintro
      iapply Hk
      · ipureintro; rfl
      · iexact H

end Label

end Cert.AttnfRun
-- ==== Proof.AttnfBody.lean ====
module

public import proofs.«01_k».proof.Proof.AttnfRun

@[expose] public section

noncomputable section

/-! The attention's forward body at one grid point: the query tile split by head, the walk, the store. -/

namespace Cert.AttnfRun

open Cert.KernelAttnfIdeal Cert.KernelAttnfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The values the walk reads at one point, from the blocks. -/
def fixedAt (i : grid0.Coords) (x0 : Vec F S256x256 .bf16) (x1 x2 : Vec F S16384x256 .bf16) (x3 : Vec F S256x256 .bf16) : Fixed F where
  i := i
  keys := x1
  vals := x2
  upper := x3
  lanes := k0_pay6
  q0 := k0_pay7 (View.ld x0 rU)
  q1 := k0_pay8 (View.ld x0 rU)
  q2 := k0_pay1 (k0_pay5 (View.ld x0 rU)) k0_pay9 (k0_pay10 (F := F))
  q3 := k0_pay2 (k0_pay5 (View.ld x0 rU)) k0_pay6

/-- The values the walk starts with. -/
def start : Carry F where
  alive := 1#32
  acc := k0_pay3 (F := F)
  c0 := k0_pay4 (F := F)
  c1 := k0_pay4 (F := F)
  c2 := k0_pay4 (F := F)
  c3 := k0_pay4 (F := F)

/-- The walk of one point. -/
def walkAt (p : Fixed F) : Carry F := walk p ((p.i 0).val + 1) start

/-- The first key tile of the walk, as the body computes it. -/
def kbInit (i : grid0.Coords) : BitVec 32 :=
  let n := Scalar.subi (Scalar.muli (Scalar.addi (BitVec.ofNat 32 (i 0).val) 1#32) 256#32) 1#32
  let q := Scalar.divsi n 256#32
  let sg := Scalar.subi (Scalar.extui (Scalar.cmpi .sgt n 0#32)) (Scalar.extui (Scalar.cmpi .slt n 0#32) : BitVec 32)
  Scalar.select
    (Scalar.andi (Scalar.cmpi .ne sg (Scalar.subi (Scalar.extui (Scalar.cmpi .sgt 256#32 0#32)) (Scalar.extui (Scalar.cmpi .slt 256#32 0#32) : BitVec 32)))
      (Scalar.cmpi .ne (Scalar.remsi n 256#32) 0#32))
    (Scalar.subi q 1#32) q

theorem kbInit_eq : ∀ i : grid0.Coords, kbInit i = ctr ((i 0).val + 1) := by decide +kernel

theorem read_tile {v : View sig .tc .vmem S256x256 .f32} (f : v.ty.Contents (Elt F)) (w : Vec F S256x256 .f32) (inb) :
    v.read (Elt F) (v.writes (Elt F) f [⟨Rect.unit (s := S256x256) ![0, 0] S256x256.size inb, w⟩]) = w := by
  have h : ∀ (off : Fin S256x256.rank → ℕ) (ho : off = fun _ => 0) (inb),
      v.read (Elt F) (v.writes (Elt F) f [⟨Rect.unit (s := S256x256) off S256x256.size inb, w⟩]) = w := by
    intro off ho inb; subst ho; exact View.read_writes_whole v f w
  exact h _ (funext fun a => by fin_cases a <;> rfl) _

section Body

variable (c : Dev nD) (i : grid0.Coords)
  (arg1 : Memref sig .tc .vmem S256x256 .bf16) (harg1 : arg1.IsWhole)
  (arg2 : Memref sig .tc .vmem S16384x256 .bf16) (harg2 : arg2.IsWhole) (arg3 : Memref sig .tc .vmem S16384x256 .bf16) (harg3 : arg3.IsWhole)
  (arg4 : Memref sig .tc .vmem S256x256 .bf16) (harg4 : arg4.IsWhole) (arg5 : Memref sig .tc .vmem S256x256 .f32) (harg5 : arg5.IsWhole)
  (x0 : Vec F S256x256 .bf16) (x1 x2 : Vec F S16384x256 .bf16) (x3 : Vec F S256x256 .bf16)

/-- What a point leaves. -/
def leaves : sProp 𝕄 :=
  iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare (walkAt (fixedAt i x0 x1 x2 x3)).acc)

set_option maxHeartbeats 4000000 in
/-- The body at one point. -/
theorem body_runs (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ (∃ d, owns (c : Thread nD τ) arg5 fullShare d)
      ∗ (leaves c i arg1 arg2 arg3 arg4 arg5 x0 x1 x2 x3 -∗ K ⟨⟩))
    ⊢ wp frame (wpE (defs₀ (F := F)) 𝒱₀ c none) Set.univ (cc0_attn_fwd i arg1 harg1 arg2 harg2 arg3 harg3 arg4 harg4 arg5 harg5) K := by
  simp only [cc0_attn_fwd_eq_skeleton]; unfold cc0_attn_fwd_skel
  simp only [k0_part1_eq_skeleton]
  unfold leaves
  unfold owns
  iintro ⟨⟨%f0, %hf0, H0⟩, ⟨%f1, %hf1, H1⟩, ⟨%f2, %hf2, H2⟩, ⟨%f3, %hf3, H3⟩, ⟨%d4, %f4, -, H4⟩, HK⟩
  subst hf0 hf1 hf2 hf3
  have hT := fun s K => spec_le c (fixedAt i (arg1.view.read (Elt F) f0) (arg2.view.read (Elt F) f1) (arg3.view.read (Elt F) f2)
    (arg4.view.read (Elt F) f3)) arg2 harg2 arg3 harg3 arg4 harg4 f1 f2 f3 Set.univ ((i 0).val + 1) (i 0).isLt s K
  rw [← kbInit_eq] at hT
  sl_exec
  iapply (wp_call_spec 𝒱₀ (c : Thread nD τ) none Set.univ _ ((i 0).val + 1) (fun u hu => nomatch hu) (hT start))
  rw [spec_apply]; unfold held
  isplitl [H1 H2 H3]
  · isplitl [H1]; · iexact H1
    isplitl [H2]; · iexact H2
    iexact H3
  iintro %r %hr ⟨H1, H2, H3⟩
  sl_exec
  rw [hr]
  sl_step
  iapply HK
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; rotate_left; · iexact H4
  ipureintro; exact read_tile _ _ _

end Body

end Cert.AttnfRun
-- ==== Proof.AttnfHead.lean ====
/- One head's part of a trip of the attention's forward walk, on real blocks. -/
module

public import proofs.«01_k».proof.Proof.AttnHead
public import proofs.«01_k».proof.Proof.AttnfBody

@[expose] public section

set_option maxRecDepth 16384

noncomputable section

open Idealize.ShloMosaic Idealize.ShloMosaic.TcCoe Idealize.SL.Sem

namespace Cert.AttnfHead

open Cert.KernelAttnfIdeal Cert.KernelAttnfIdeal.Gen Cert.RealKit Cert.AttnMath Cert.AttnfRun
open Cert.AttnHead (bit pick select_bit pick_bit place slt_words min_coe abs_coe log_coe_pos zero_word)
open Finset (Ico range)

/-- A head's lanes of a tile, zero on the other lanes. -/
def own (b : IVec S1x256 1) (x : FVec Ideal S256x256 .bf16) : FVec Ideal S256x256 .bf16 :=
  select (broadcastTo S256x256 (shapeCast S1x256 b shapeCasts_S1x256_S1x256) broadcasts_S1x256_S256x256) x (broadcast S256x256 (Scalar.sitofp .bf16 0#32))

/-- A head's weights of a tile: the flagged exponential of its logarithm plus those of the later keys. -/
def weights (cv : FVec Ideal S256x1 .f32) (cz : IVec S256x256 1) (lb lom : FVec Ideal S256x256 .f32) (u : FVec Ideal S256x256 .bf16) : FVec Ideal S256x256 .f32 :=
  select cz (exp (addf lb (addf (addf (broadcastTo S256x256 cv broadcasts_S256x1_S256x256)
      (matmul dot_S256x256_S256x256_S256x256_1_0_0_1_n_n none (truncf .bf16 lom bitsLt_bf16_f32) (shapeCast S256x256 u shapeCasts_S256x256_S256x256) (constant S256x256 .f32 0x00000000#32)))
    (matmul dot_S256x256_S256x256_S256x256_1_0_0_1_n_n none (truncf .bf16 (subf lom (extf .f32 (truncf .bf16 lom bitsLt_bf16_f32) bitsLt_bf16_f32)) bitsLt_bf16_f32)
      (shapeCast S256x256 u shapeCasts_S256x256_S256x256) (constant S256x256 .f32 0x00000000#32))))) (broadcast S256x256 (Scalar.ofBits .f32 0x00000000#32))

/-- The result's tile after a head. -/
def add (b : IVec S1x256 1) (cv : FVec Ideal S256x1 .f32) (vt : FVec Ideal S256x256 .bf16) (cz : IVec S256x256 1) (av lb lom : FVec Ideal S256x256 .f32)
    (u : FVec Ideal S256x256 .bf16) : FVec Ideal S256x256 .f32 :=
  addf av (matmul dot_S256x256_S256x256_S256x256_1_0_0_1_n_n none (truncf .bf16 (weights cv cz lb lom u) bitsLt_bf16_f32) (own b vt) (constant S256x256 .f32 0x00000000#32))

/-- The lanes of head `h`. -/
abbrev lane (v : IVec S1x256 32) (h : BitVec 32) : IVec S1x256 1 := cmpi .eq v (broadcast S1x256 h)

/-! ## The four heads are one -/

section Same
variable (p : Fixed Ideal) (kb : BitVec 32) (h : k0_chk1 kb) (s : Carry Ideal)

abbrev lb (q : FVec Ideal S256x256 .bf16) : FVec Ideal S256x256 .f32 := k0_pay33 q (k0_pay11 (keyTile p kb h))
abbrev lom (q : FVec Ideal S256x256 .bf16) : FVec Ideal S256x256 .f32 := k0_pay34 q (k0_pay11 (keyTile p kb h)) (causal p kb)
abbrev step (n : BitVec 32) (q : FVec Ideal S256x256 .bf16) (cv : FVec Ideal S256x1 .f32) (av : FVec Ideal S256x256 .f32) : FVec Ideal S256x256 .f32 :=
  add (lane p.lanes n) cv (k0_pay12 (valTile p kb h)) (causal p kb) av (lb p kb h q) (lom p kb h q) (tri p)
abbrev next (q : FVec Ideal S256x256 .bf16) (cv : FVec Ideal S256x1 .f32) : FVec Ideal S256x1 .f32 := k0_pay36 cv (lom p kb h q)

theorem acc0_eq : acc0 p kb h s = step p kb h 0#32 p.q0 s.c0 s.acc := rfl
theorem acc1_eq : acc1 p kb h s = step p kb h 1#32 p.q1 s.c1 (acc0 p kb h s) := rfl
theorem acc2_eq : acc2 p kb h s = step p kb h 2#32 p.q2 s.c2 (acc1 p kb h s) := rfl
theorem acc3_eq : acc3 p kb h s = step p kb h 3#32 p.q3 s.c3 (acc2 p kb h s) := rfl
theorem sum0_eq : sum0 p kb h s = next p kb h p.q0 s.c0 := rfl
theorem sum1_eq : sum1 p kb h s = next p kb h p.q1 s.c1 := rfl
theorem sum2_eq : sum2 p kb h s = next p kb h p.q2 s.c2 := rfl
theorem sum3_eq : sum3 p kb h s = next p kb h p.q3 s.c3 := rfl
theorem q0_eq (x : Vec Ideal S256x256 .bf16) : k0_pay7 (F := Ideal) x = own (lane k0_pay6 0#32) (k0_pay5 x) := rfl
theorem q1_eq (x : Vec Ideal S256x256 .bf16) : k0_pay8 (F := Ideal) x = own (lane k0_pay6 1#32) (k0_pay5 x) := rfl
theorem q2_eq (x : Vec Ideal S256x256 .bf16) : k0_pay1 (F := Ideal) (k0_pay5 x) k0_pay9 k0_pay10 = own (lane k0_pay6 2#32) (k0_pay5 x) := rfl
theorem q3_eq (x : Vec Ideal S256x256 .bf16) : k0_pay2 (F := Ideal) (k0_pay5 x) k0_pay6 = own (lane k0_pay6 3#32) (k0_pay5 x) := rfl

end Same

/-! ## Read at an index -/

open Classical in
theorem lane_at : ∀ n < 4, ∀ (z : Fin 1) (l : Fin 256), lane k0_pay6 (BitVec.ofNat 32 n) (ix2 z l) = bit (l.val / 64 = n) := by
  have h : ∀ n < 4, ∀ l : Fin 256, lane k0_pay6 (BitVec.ofNat 32 n) (ix2 0 l) = if l.val / 64 = n then 1#1 else 0#1 := by decide +kernel
  intro n hn z l
  rw [Subsingleton.elim z 0, h n hn]; unfold bit; congr

theorem causal_at (kb qi : ℕ) (hk : kb < 64) (hq : qi < 64) (r j : Fin 256) :
    k0_pay13 (BitVec.ofNat 32 kb) (BitVec.ofNat 32 qi) (ix2 r j) = bit (256 * kb + j.val < 256 * qi + r.val) := by
  pointwise [k0_pay13]
  rw [place, place]
  exact slt_words _ _ (by omega) (by omega)

open Classical in
theorem own_at {b : IVec S1x256 1} {Ln : Fin 256 → Prop} (hb : ∀ z l, b (ix2 z l) = bit (Ln l)) {x : FVec Ideal S256x256 .bf16} {a : Fin 256 → Fin 256 → ℝ}
    (hx : ∀ r l, x (ix2 r l) = ((a r l : ℝ) : EReal)) (r l : Fin 256) : own b x (ix2 r l) = ((pick (Ln l) (a r l) : ℝ) : EReal) := by
  pointwise [own]
  exact pick_bit (hb 0 l) (hx r l) zero_word

section
variable {qv kt vt : FVec Ideal S256x256 .bf16} {cz : IVec S256x256 1} {cv : FVec Ideal S256x1 .f32} {u : FVec Ideal S256x256 .bf16}
  {q k : Fin 256 → Fin 256 → ℝ} {x : ℕ → ℕ → ℝ} {qi kb : ℕ}

theorem logit (hq : ∀ r l, qv (ix2 r l) = ((q r l : ℝ) : EReal)) (hk : ∀ r l, kt (ix2 r l) = ((k r l : ℝ) : EReal)) (r j : Fin 256) :
    k0_pay31 (F := Ideal) qv kt (ix2 r j) = ((∑ l, q r l * k j l : ℝ) : EReal) := by
  pointwise [k0_pay31]
  simp only [hq, hk, mul_coe, sum_coe]

variable (hx : ∀ r j : Fin 256, k0_pay31 (F := Ideal) qv kt (ix2 r j) = ((x (256 * qi + r.val) (256 * kb + j.val) : ℝ) : EReal))
include hx

theorem pay32 (r j : Fin 256) :
    k0_pay32 (F := Ideal) qv kt (ix2 r j) = ((Real.log (1 + Real.exp (-|x (256 * qi + r.val) (256 * kb + j.val)|)) : ℝ) : EReal) := by
  have h := hx r j
  pointwise [k0_pay32]
  generalize k0_pay31 qv kt = y at h ⊢
  rw [h]
  generalize x (256 * qi + r.val) (256 * kb + j.val) = a
  show Ideal.log (1 + Ideal.exp (0 - max (a : EReal) (-(a : EReal)))) = _
  rw [abs_coe, zero_sub, neg_coe, Ideal.exp_coe, ← EReal.coe_one, add_coe, log_coe_pos _ (one_add_exp_pos _)]

theorem pay33 (r j : Fin 256) : k0_pay33 (F := Ideal) qv kt (ix2 r j) = ((lsig (x (256 * qi + r.val) (256 * kb + j.val)) : ℝ) : EReal) := by
  have h := hx r j
  have h2 := pay32 hx r j
  pointwise [k0_pay33]
  generalize k0_pay31 qv kt = y at h ⊢
  generalize k0_pay32 qv kt = y2 at h2 ⊢
  rw [h, h2, ← EReal.coe_zero, min_coe, sub_coe]
  rfl

variable (hc : ∀ r j : Fin 256, cz (ix2 r j) = bit (256 * kb + j.val < 256 * qi + r.val))
include hc

open Classical in
theorem pay34 (r j : Fin 256) : k0_pay34 (F := Ideal) qv kt cz (ix2 r j) = ((left x (256 * qi + r.val) (256 * kb + j.val) : ℝ) : EReal) := by
  have h := hx r j
  have h2 := pay32 hx r j
  pointwise [k0_pay34]
  generalize k0_pay31 qv kt = y at h ⊢
  generalize k0_pay32 qv kt = y2 at h2 ⊢
  rw [h, h2, ← EReal.coe_zero, max_coe, sub_coe, sub_coe, hc]
  refine (select_bit _ _ _).trans (congrArg _ ?_)
  unfold left lsig
  generalize x (256 * qi + r.val) (256 * kb + j.val) = a
  rw [abs_neg, show min (-a) 0 = 0 - max a 0 by
    rcases le_total a 0 with h | h
    · rw [max_eq_right h, min_eq_right (by linarith)]; ring
    · rw [max_eq_left h, min_eq_left (by linarith)]; ring]
  congr

variable (hkb : kb < 64)
  (hcv : ∀ (r : Fin 256) z, cv (ix2 r z) = ((∑ l ∈ Ico (256 * (kb + 1)) N, left x (256 * qi + r.val) l : ℝ) : EReal))
include hkb hcv

theorem next_at (r : Fin 256) (z : Fin 1) :
    k0_pay36 (F := Ideal) cv (k0_pay34 qv kt cz) (ix2 r z) = ((∑ l ∈ Ico (256 * kb) N, left x (256 * qi + r.val) l : ℝ) : EReal) := by
  have h := pay34 hx hc
  pointwise [k0_pay36]
  generalize k0_pay34 qv kt cz = y at h ⊢
  simp only [hcv, h, sum_coe, add_coe]
  exact congrArg _ (whole_tile (left x (256 * qi + r.val)) kb N (show 256 * kb + 256 ≤ 16384 by omega))

variable (hu : ∀ i j : Fin 256, u (ix2 i j) = (((if j.val < i.val then 1 else 0 : ℝ)) : EReal))
include hu

open Classical in
theorem weights_at (r j : Fin 256) :
    weights cv cz (k0_pay33 qv kt) (k0_pay34 qv kt cz) u (ix2 r j) = ((wgt x (256 * qi + r.val) (256 * kb + j.val) : ℝ) : EReal) := by
  have h := pay33 hx
  have h2 := pay34 hx hc
  pointwise [weights]
  generalize k0_pay33 qv kt = y at h ⊢
  generalize k0_pay34 qv kt cz = y2 at h2 ⊢
  simp only [h, h2, hcv, hu, mul_coe, sub_coe, sum_coe, add_coe, sub_self, zero_mul, Finset.sum_const_zero, add_zero, hc]
  rw [later_tile (left x (256 * qi + r.val)) kb N (show 256 * kb + 256 ≤ 16384 by omega) j, Ideal.exp_coe, ← EReal.coe_zero]
  refine (select_bit _ _ _).trans (congrArg _ ?_)
  unfold wgt
  congr

open Classical in
theorem add_at {b : IVec S1x256 1} {Ln : Fin 256 → Prop} (hb : ∀ z l, b (ix2 z l) = bit (Ln l)) {v a : Fin 256 → Fin 256 → ℝ} {av : FVec Ideal S256x256 .f32}
    (hv : ∀ r l, vt (ix2 r l) = ((v r l : ℝ) : EReal)) (ha : ∀ r l, av (ix2 r l) = ((a r l : ℝ) : EReal)) (r l : Fin 256) :
    add b cv vt cz av (k0_pay33 qv kt) (k0_pay34 qv kt cz) u (ix2 r l)
      = ((a r l + ∑ j : Fin 256, wgt x (256 * qi + r.val) (256 * kb + j.val) * pick (Ln l) (v j l) : ℝ) : EReal) := by
  have h := weights_at hx hc hkb hcv hu
  have h2 := own_at hb hv
  pointwise [add]
  generalize weights cv cz (k0_pay33 qv kt) (k0_pay34 qv kt cz) u = y at h ⊢
  generalize own b vt = y2 at h2 ⊢
  simp only [h, h2, ha, mul_coe, sum_coe, add_coe]

end

/-- The threshold named minus infinity is no threshold: the walk's flag stays up on real sums. -/
theorem alive_at (p : Fixed Ideal) (kb : BitVec 32) (hk : k0_chk1 kb) (s : Carry Ideal) {c0 : Fin 256 → ℝ}
    (h0 : ∀ r z, sum0 p kb hk s (ix2 r z) = ((c0 r : ℝ) : EReal)) :
    Scalar.cmpi .sgt (trip p kb hk s).alive 0#32 = 1#1 := by
  have h : (⊥ : EReal) < top p kb hk s := by
    unfold top
    generalize sum0 p kb hk s = y0 at h0 ⊢
    pointwise [k0_pay44]
    refine (Finset.lt_fold_max _).mpr (Or.inr ⟨(0, 0), Finset.mem_univ _, ?_⟩)
    rw [h0]
    exact lt_of_lt_of_le (EReal.bot_lt_coe _) ((le_max_left _ _).trans ((le_max_left _ _).trans (le_max_left _ _)))
  have e : (cut : Ideal .f32) = (⊥ : EReal) := rfl
  show Scalar.cmpi .sgt (Scalar.extui (Scalar.cmpf .ogt (top p kb hk s) cut) : BitVec 32) 0#32 = 1#1
  have : Scalar.cmpf .ogt (top p kb hk s) (cut (F := Ideal)) = 1#1 := by
    rw [e]
    show Ideal.cmp .ogt (top p kb hk s) ⊥ = 1#1
    simp [Ideal.cmp, h]
  rw [this]
  decide

end Cert.AttnfHead

end
-- ==== Proof.AttnfLaunch.lean ====
module

public import proofs.«01_k».proof.Proof.AttnfBody
public import Idealize.ShloMosaic.Lib.Pipeline.FrameValue
public import Idealize.ShloMosaic.Lib.Claim

@[expose] public section

set_option maxRecDepth 16384

noncomputable section

/-! The attention's forward launch: each point's tile of the result, and the run. -/

namespace Cert.AttnfRun

open Cert.KernelAttnfIdeal Cert.KernelAttnfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of a device when the launch begins. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
theorem hmain (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main [hostOps0] (by simp only [List.Forall]; exact hostOps0_sub)
    (by simp only [List.Forall]; exact hostOps0_fresh) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- A window's block at a point. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The values of one point, and its tile of the result. -/
def fixAt (c : Dev nD) (t : Fin (cfg0 (F := F)).N) : Fixed F :=
  fixedAt (grid0.coords t) (iblk m c 0 t) (iblk m c 1 t) (iblk m c 2 t) (iblk m c 3 t)
def tileAt (c : Dev nD) (t : Fin (cfg0 (F := F)).N) : Vec F S256x256 .f32 := (walkAt (fixAt m c t)).acc

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t
    | ⟨_ + 5, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem before_0 (c : Dev nD) (t : Fin (cfg0 (F := F)).N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin (cfg0 (F := F)).N) (d) : (dats m 0 c).before 3 t d = iblk m c 3 t :=
  ((dats m 0 c).before_in_eq_fetched 3 rfl (fun _ => rfl) (fun _ _ _ => rfl) (fun _ => rfl) t d).trans rfl

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 2000000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl, show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = (walkAt (fixedAt (grid0.coords t) (iblk m c 0 t) (iblk m c 1 t) (iblk m c 2 t) (iblk m c 3 t))).acc from rfl]
  iintro ⟨HΦ, HW, ⟨%d0, H0⟩, ⟨%d1, H1⟩, ⟨%d2, H2⟩, ⟨%d3, H3⟩, ⟨%d4, H4⟩⟩
  iapply body_runs c (grid0.coords t) _ _ _ _ _ _ _ _ _ _ (iblk m c 0 t) (iblk m c 1 t) (iblk m c 2 t) (iblk m c 3 t)
  isplitl [H0]; · iexact H0
  isplitl [H1]; · iexact H1
  isplitl [H2]; · iexact H2
  isplitl [H3]; · iexact H3
  isplitl [H4]; · iexists _; iexact H4
  unfold leaves
  iintro ⟨H0, H1, H2, H3, H4⟩
  isplitl [HΦ]; · iexact HΦ
  isplitl [HW]; · iexact HW
  isplitl [H0]; · iexact H0
  isplitl [H1]; · iexact H1
  isplitl [H2]; · iexact H2
  isplitl [H3]; · iexact H3
  iexact H4

theorem defs_row (t : Fin (cfg0 (F := F)).N) :
    (defs₀ (F := F)) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs_row]
  exact triple_restated (sound_body m c t) rfl .rfl fun _ => .rfl

set_option backward.isDefEq.respectTransparency.types false in
theorem run : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

theorem arg0_rest : main_arg0 ∈ Pipeline.restRefs sig spec0 := by decide

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 arg0_rest).trans (V_arg0 m c), h.2⟩) (run m ρ)

end Cert.AttnfRun

end
-- ==== Proof.AttnfTrip.lean ====
/- The whole forward walk of one query tile on real blocks, and what the kernel leaves in its result array. -/
module

public import proofs.«01_k».proof.Proof.AttnfHead
public import proofs.«01_k».proof.Proof.AttnfLaunch
public import proofs.«01_k».proof.Proof.AttnSums

@[expose] public section

set_option maxRecDepth 16384

noncomputable section

open Idealize.ShloMosaic Idealize.ShloMosaic.TcCoe Idealize.SL.Sem
open Idealize.ShloMosaic.Pipeline (Dat)

namespace Cert.AttnfTrip

open Cert.KernelAttnfIdeal Cert.KernelAttnfIdeal.Gen Cert.RealKit Cert.AttnMath Cert.AttnfRun Cert.AttnfHead
open Cert.AttnHead (bit pick)
open Cert.AttnTrip (at256 not_before)
open Cert.AttnKernel (num num_at)
open Cert.AttnRef (lgt hq hk)
open Finset (Ico range)

theorem off_eq : ∀ n < 64, k0_off1 (kbOf n) = ![256 * n, 0] := by decide +kernel

theorem ld_tile {n : ℕ} (hn : n < 64) (f : Vec Ideal S16384x256 .bf16) (r l : Fin 256) :
    View.ld f (rK (kbOf n) (chk_of_lt n hn)) (ix2 r l) = f (ix2 (at256 n hn r) l) := by
  have key : ∀ (off : Fin S16384x256.rank → ℕ) (ho : off = ![256 * n, 0]) (inb),
      View.ld f (Rect.unit (s := S16384x256) off S256x256.size inb) (ix2 r l) = f (ix2 (at256 n hn r) l) := by
    intro off ho inb
    exact View.ld_unit_apply_of _ _ _ _ _ (ix2 (at256 n hn r) l) (by subst ho; intro b; fin_cases b <;> simp [at256] <;> rfl)
  exact key _ (off_eq n hn) _

theorem ld_rU {e : EltTy} (x : Vec Ideal S256x256 e) : View.ld x rU = x := View.ld_unit_zero (funext fun b => by fin_cases b <;> rfl) _ _

section Sums

variable (Q K V : ℕ → Fin 256 → ℝ)

/-- The logits of head `H`, and the sums of a row of the result over the keys from `a` on. -/
def lg (H i j : ℕ) : ℝ := ∑ l : Fin 256, pick (l.val / 64 = H) (Q i l) * K j l
def outOf (a i : ℕ) (l : Fin 256) : ℝ := ∑ j ∈ Ico a N, wgt (lg Q K (l.val / 64)) i j * V j l
def leftOf (H a i : ℕ) : ℝ := ∑ j ∈ Ico a N, left (lg Q K H) i j

/-- What the walk of query tile `qi` reads, on real blocks. -/
structure Tile (p : Fixed Ideal) (qi : ℕ) : Prop where
  hqi : qi < 64
  hi : (p.i 0).val = qi
  hk : ∀ (j : Fin 16384) l, p.keys (ix2 j l) = ((K j.val l : ℝ) : EReal)
  hv : ∀ (j : Fin 16384) l, p.vals (ix2 j l) = ((V j.val l : ℝ) : EReal)
  hu : ∀ i j : Fin 256, p.upper (ix2 i j) = (((if j.val < i.val then 1 else 0 : ℝ)) : EReal)
  hl : p.lanes = k0_pay6
  hq0 : ∀ (r l : Fin 256), p.q0 (ix2 r l) = ((pick (l.val / 64 = 0) (Q (256 * qi + r.val) l) : ℝ) : EReal)
  hq1 : ∀ (r l : Fin 256), p.q1 (ix2 r l) = ((pick (l.val / 64 = 1) (Q (256 * qi + r.val) l) : ℝ) : EReal)
  hq2 : ∀ (r l : Fin 256), p.q2 (ix2 r l) = ((pick (l.val / 64 = 2) (Q (256 * qi + r.val) l) : ℝ) : EReal)
  hq3 : ∀ (r l : Fin 256), p.q3 (ix2 r l) = ((pick (l.val / 64 = 3) (Q (256 * qi + r.val) l) : ℝ) : EReal)

/-- The carried values after the trips down to key tile `n`. -/
structure Good (qi n : ℕ) (s : Carry Ideal) : Prop where
  ha : Scalar.cmpi .sgt s.alive 0#32 = 1#1
  hacc : ∀ r l : Fin 256, s.acc (ix2 r l) = ((outOf Q K V (256 * n) (256 * qi + r.val) l : ℝ) : EReal)
  hc0 : ∀ (r : Fin 256) z, s.c0 (ix2 r z) = ((leftOf Q K 0 (256 * n) (256 * qi + r.val) : ℝ) : EReal)
  hc1 : ∀ (r : Fin 256) z, s.c1 (ix2 r z) = ((leftOf Q K 1 (256 * n) (256 * qi + r.val) : ℝ) : EReal)
  hc2 : ∀ (r : Fin 256) z, s.c2 (ix2 r z) = ((leftOf Q K 2 (256 * n) (256 * qi + r.val) : ℝ) : EReal)
  hc3 : ∀ (r : Fin 256) z, s.c3 (ix2 r z) = ((leftOf Q K 3 (256 * n) (256 * qi + r.val) : ℝ) : EReal)

/-- A lane takes its own head's sum. -/
theorem four (g : ℕ → ℕ → ℝ) (v : Fin 256 → ℝ) (b : ℕ → ℕ) (a : ℝ) (l : Fin 256) :
    a + ∑ j : Fin 256, g 0 (b j.val) * pick (l.val / 64 = 0) (v j) + ∑ j : Fin 256, g 1 (b j.val) * pick (l.val / 64 = 1) (v j)
        + ∑ j : Fin 256, g 2 (b j.val) * pick (l.val / 64 = 2) (v j) + ∑ j : Fin 256, g 3 (b j.val) * pick (l.val / 64 = 3) (v j)
      = a + ∑ j : Fin 256, g (l.val / 64) (b j.val) * v j := by
  have hl : l.val / 64 = 0 ∨ l.val / 64 = 1 ∨ l.val / 64 = 2 ∨ l.val / 64 = 3 := by omega
  rcases hl with e | e | e | e <;> rw [e] <;> simp [pick]

end Sums

section Trip

variable {Q K V : ℕ → Fin 256 → ℝ} {p : Fixed Ideal} {qi : ℕ} (tp : Tile Q K V p qi) {n : ℕ} (hn : n < 64) {s : Carry Ideal} (gs : Good Q K V qi (n + 1) s)

theorem pay11 (x : Vec Ideal S256x256 .bf16) (r l : Fin 256) : k0_pay11 (F := Ideal) x (ix2 r l) = x (ix2 r l) := by
  pointwise [k0_pay11]
theorem pay12 (x : Vec Ideal S256x256 .bf16) (r l : Fin 256) : k0_pay12 (F := Ideal) x (ix2 r l) = x (ix2 r l) := by
  pointwise [k0_pay12]
theorem pay5 (x : Vec Ideal S256x256 .bf16) (r l : Fin 256) : k0_pay5 (F := Ideal) x (ix2 r l) = x (ix2 r l) := by
  pointwise [k0_pay5]

include tp hn

theorem causal_tile (r j : Fin 256) : causal p (kbOf n) (ix2 r j) = bit (256 * n + j.val < 256 * qi + r.val) := by
  have h := causal_at n qi hn tp.hqi r j
  unfold causal Fixed.qi
  rw [tp.hi]; exact h

theorem key_tile (r l : Fin 256) : k0_pay11 (F := Ideal) (keyTile p (kbOf n) (chk_of_lt n hn)) (ix2 r l) = ((K (256 * n + r.val) l : ℝ) : EReal) :=
  (pay11 _ r l).trans ((ld_tile hn p.keys r l).trans (tp.hk _ l))

theorem val_tile (r l : Fin 256) : k0_pay12 (F := Ideal) (valTile p (kbOf n) (chk_of_lt n hn)) (ix2 r l) = ((V (256 * n + r.val) l : ℝ) : EReal) :=
  (pay12 _ r l).trans ((ld_tile hn p.vals r l).trans (tp.hv _ l))

theorem tri_tile (i j : Fin 256) : tri p (ix2 i j) = (((if j.val < i.val then 1 else 0 : ℝ)) : EReal) := by
  rw [show tri p = p.upper from ld_rU _]; exact tp.hu i j

variable {H : ℕ} (hH : H < 4) {qv : FVec Ideal S256x256 .bf16} (hqv : ∀ (r l : Fin 256), qv (ix2 r l) = ((pick (l.val / 64 = H) (Q (256 * qi + r.val) l) : ℝ) : EReal))
include hqv

theorem head_logit (r j : Fin 256) : k0_pay31 (F := Ideal) qv (k0_pay11 (keyTile p (kbOf n) (chk_of_lt n hn))) (ix2 r j)
    = ((lg Q K H (256 * qi + r.val) (256 * n + j.val) : ℝ) : EReal) :=
  logit hqv (key_tile tp hn) r j

variable {cv : FVec Ideal S256x1 .f32} (hcv : ∀ (r : Fin 256) z, cv (ix2 r z) = ((leftOf Q K H (256 * (n + 1)) (256 * qi + r.val) : ℝ) : EReal))
include hcv

theorem head_next (r : Fin 256) (z : Fin 1) : next p (kbOf n) (chk_of_lt n hn) qv cv (ix2 r z) = ((leftOf Q K H (256 * n) (256 * qi + r.val) : ℝ) : EReal) :=
  next_at (head_logit tp hn hqv) (causal_tile tp hn) hn hcv r z

include hH in
theorem head_step {av : FVec Ideal S256x256 .f32} {a : Fin 256 → Fin 256 → ℝ} (ha : ∀ r l, av (ix2 r l) = ((a r l : ℝ) : EReal)) (r l : Fin 256) :
    step p (kbOf n) (chk_of_lt n hn) (BitVec.ofNat 32 H) qv cv av (ix2 r l)
      = ((a r l + ∑ j : Fin 256, wgt (lg Q K H) (256 * qi + r.val) (256 * n + j.val) * pick (l.val / 64 = H) (V (256 * n + j.val) l) : ℝ) : EReal) := by
  have hb : ∀ (z : Fin 1) (l : Fin 256), lane p.lanes (BitVec.ofNat 32 H) (ix2 z l) = bit (l.val / 64 = H) := fun z l => by rw [tp.hl]; exact lane_at H hH z l
  exact add_at (head_logit tp hn hqv) (causal_tile tp hn) hn hcv (tri_tile tp hn) hb (val_tile tp hn) ha r l

end Trip

section Walk

variable {Q K V : ℕ → Fin 256 → ℝ} {p : Fixed Ideal} {qi : ℕ} (tp : Tile Q K V p qi)
include tp

/-- A trip takes the sums over the keys from tile `n + 1` on to those from tile `n` on. -/
theorem trip_good {n : ℕ} (hn : n < 64) {s : Carry Ideal} (gs : Good Q K V qi (n + 1) s) :
    Good Q K V qi n (trip p (kbOf n) (chk_of_lt n hn) s) := by
  have hN : 256 * n + 256 ≤ N := show 256 * n + 256 ≤ 16384 by omega
  have hC0 : ∀ r z, sum0 p (kbOf n) (chk_of_lt n hn) s (ix2 r z) = _ := fun r z => head_next tp hn tp.hq0 gs.hc0 r z
  have hA0 : ∀ r l, acc0 p (kbOf n) (chk_of_lt n hn) s (ix2 r l) = _ := fun r l => head_step tp hn (by norm_num) tp.hq0 gs.hc0 gs.hacc r l
  have hA1 : ∀ r l, acc1 p (kbOf n) (chk_of_lt n hn) s (ix2 r l) = _ := fun r l => head_step tp hn (by norm_num) tp.hq1 gs.hc1 hA0 r l
  have hA2 : ∀ r l, acc2 p (kbOf n) (chk_of_lt n hn) s (ix2 r l) = _ := fun r l => head_step tp hn (by norm_num) tp.hq2 gs.hc2 hA1 r l
  have hA3 : ∀ r l, acc3 p (kbOf n) (chk_of_lt n hn) s (ix2 r l) = _ := fun r l => head_step tp hn (by norm_num) tp.hq3 gs.hc3 hA2 r l
  refine ⟨alive_at p _ _ s hC0, fun r l => (hA3 r l).trans (congrArg _ ?_), hC0, fun r z => head_next tp hn tp.hq1 gs.hc1 r z,
    fun r z => head_next tp hn tp.hq2 gs.hc2 r z, fun r z => head_next tp hn tp.hq3 gs.hc3 r z⟩
  refine (four (fun H => wgt (lg Q K H) (256 * qi + r.val)) (fun j => V (256 * n + j.val) l) (fun j => 256 * n + j) _ l).trans ?_
  unfold outOf
  rw [← whole_tile (fun j => wgt (lg Q K (l.val / 64)) (256 * qi + r.val) j * V j l) n N hN]

theorem walk_good : ∀ n ≤ 64, ∀ s : Carry Ideal, Good Q K V qi n s → Good Q K V qi 0 (walk p n s) := by
  intro n
  induction n with
  | zero => intro _ s gs; exact gs
  | succ n ih =>
    intro hn s gs
    have h64 : n < 64 := by omega
    rw [walk, dif_pos h64, if_pos gs.ha]
    exact ih (by omega) _ (trip_good tp h64 gs)

omit tp in
/-- Before the first trip: no key from tile `qi + 1` on comes before a query of tile `qi`. -/
theorem start_good : Good Q K V qi (qi + 1) (start (F := Ideal)) := by
  have h3 : ∀ (r l : Fin 256), k0_pay3 (F := Ideal) (ix2 r l) = ((0 : ℝ) : EReal) := by
    intro r l; pointwise [k0_pay3]; exact EReal.coe_zero.symm
  have h4 : ∀ (r : Fin 256) (z : Fin 1), k0_pay4 (F := Ideal) (ix2 r z) = ((0 : ℝ) : EReal) := by
    intro r z; pointwise [k0_pay4]; exact EReal.coe_zero.symm
  have hz : ∀ (H : ℕ) (r : Fin 256), 0 = leftOf Q K H (256 * (qi + 1)) (256 * qi + r.val) := fun H r =>
    (Finset.sum_eq_zero fun l hl => left_zero (not_before (Finset.mem_Ico.mp hl).1)).symm
  refine ⟨show Scalar.cmpi .sgt (1#32) 0#32 = 1#1 by decide, fun r l => (h3 r l).trans (congrArg _ ?_), fun r z => (h4 r z).trans (congrArg _ (hz 0 r)),
    fun r z => (h4 r z).trans (congrArg _ (hz 1 r)), fun r z => (h4 r z).trans (congrArg _ (hz 2 r)), fun r z => (h4 r z).trans (congrArg _ (hz 3 r))⟩
  exact (Finset.sum_eq_zero fun j hj => by rw [wgt_zero (not_before (Finset.mem_Ico.mp hj).1), zero_mul]).symm

theorem walk_at (r l : Fin 256) : (walkAt p).acc (ix2 r l) = ((outOf Q K V 0 (256 * qi + r.val) l : ℝ) : EReal) := by
  unfold walkAt
  rw [tp.hi]
  exact (walk_good tp (qi + 1) (by have := tp.hqi; omega) _ start_good).hacc r l

end Walk

/-! ## The launch -/

variable (m : (ℓ : Loc nD τ sig) → Buf (Elt Ideal) ℓ) (c : Dev nD)

theorem idx : ∀ t : Fin (cfg0 (F := Ideal)).N, (win0_0.index t = ![t.val, 0] ∧ win0_1.index t = ![0, 1] ∧ win0_2.index t = ![0, 2]
    ∧ win0_3.index t = ![0, 0] ∧ win0_4.index t = ![t.val, 0]) ∧ t.val < 64 ∧ (grid0.coords t 0).val = t.val :=
  (by decide +kernel : ∀ t : Fin grid0.N, _)

theorem v6 : V m c main_v6 = AttnHost.qkv (m ((c : Thread nD τ).loc main_arg0)) := rfl

theorem v12 (i j : Fin 256) : V m c main_v12 (ix2 i j) = (((if j.val < i.val then 1 else 0 : ℝ)) : EReal) := by
  simp only [V, hostOps0, List.flatten_cons, List.flatten_nil, List.cons_append, List.nil_append, List.append_nil]
  entry_read
  pointwise
  rw [AttnHost.tri_bit]
  exact AttnHost.of_bit _

variable (Z : Fin 16384 → Fin 768 → ℝ)

/-- The scaled queries, the keys and the values. -/
def qs (i : ℕ) (l : Fin 256) : ℝ := num Z i l.val * (1 / 8)
def ks (j : ℕ) (l : Fin 256) : ℝ := num Z j (256 + l.val)
def vs (j : ℕ) (l : Fin 256) : ℝ := num Z j (512 + l.val)

/-- The sum over a head's lanes. -/
theorem head_sum (f : ℕ → ℝ) (H : ℕ) (hH : H < 4) : ∑ l : Fin 256, pick (l.val / 64 = H) (f l.val) = ∑ d : Fin 64, f (64 * H + d.val) := by
  rw [← Equiv.sum_comp (finProdFinEquiv (m := 4) (n := 64)) (fun l : Fin (4 * 64) => pick (l.val / 64 = H) (f l.val)), Fintype.sum_prod_type]
  have e : ∀ (h : Fin 4) (d : Fin 64), (finProdFinEquiv (h, d)).val = d.val + 64 * h.val := fun _ _ => rfl
  rw [Finset.sum_eq_single (⟨H, hH⟩ : Fin 4)]
  · refine Finset.sum_congr rfl fun d _ => ?_
    rw [e, pick, if_pos (by show (d.val + 64 * H) / 64 = H; omega), add_comm]
  · intro h _ hne
    refine Finset.sum_eq_zero fun d _ => ?_
    rw [e, pick, if_neg]
    intro h2
    exact hne (Fin.ext (by show h.val = H; omega))
  · intro h; exact absurd (Finset.mem_univ _) h

theorem lg_eq (H : ℕ) (hH : H < 4) : lg (qs Z) (ks Z) H = lgt Z H := by
  funext i j
  unfold lg
  simp only [AttnSums.pick_mul, qs, ks]
  refine (head_sum (fun l => num Z i l * (1 / 8) * num Z j (256 + l)) H hH).trans ?_
  rw [lgt, Finset.sum_mul]
  refine Finset.sum_congr rfl fun d _ => ?_
  rw [hq, hk, show 256 + 64 * H + d.val = 256 + (64 * H + d.val) by omega]
  ring

variable {m c Z} (h : ∀ i j, m ((c : Thread nD τ).loc main_arg0) (ix2 i j) = ((Z i j : ℝ) : EReal)) (t : Fin (cfg0 (F := Ideal)).N)

def row (t : Fin (cfg0 (F := Ideal)).N) (a : Fin 256) : Fin 16384 := ⟨t.val * 256 + a.val, by have := (idx t).2.1; omega⟩
def wide (n : ℕ) (hn : n ≤ 2) (l : Fin 256) : Fin 768 := ⟨n * 256 + l.val, by omega⟩

include h

theorem blk0 (a l : Fin 256) : iblk m c 0 t (ix2 a l) = ((qs Z (256 * t.val + a.val) l : ℝ) : EReal) := by
  have e : iblk m c 0 t (ix2 a l) = V m c main_v6 (ix2 (row t a) (wide 0 (by omega) l)) := by blk_ext [iblk, idx t, row, wide]
  rw [e, v6, AttnHost.qkv_at h, if_pos (by show 0 * 256 + l.val < 256; omega), qs,
    num_at Z (row t a) (wide 0 (by omega) l) (by show _ = t.val * 256 + a.val; omega) (by show _ = 0 * 256 + l.val; omega)]

theorem blk1 (j : Fin 16384) (l : Fin 256) : iblk m c 1 t (ix2 j l) = ((ks Z j.val l : ℝ) : EReal) := by
  have e : iblk m c 1 t (ix2 j l) = V m c main_v6 (ix2 j (wide 1 (by omega) l)) := by blk_ext [iblk, idx t, row, wide]
  rw [e, v6, AttnHost.qkv_at h, if_neg (by show ¬1 * 256 + l.val < 256; omega), ks,
    num_at Z j (wide 1 (by omega) l) rfl (by show _ = 1 * 256 + l.val; omega)]

theorem blk2 (j : Fin 16384) (l : Fin 256) : iblk m c 2 t (ix2 j l) = ((vs Z j.val l : ℝ) : EReal) := by
  have e : iblk m c 2 t (ix2 j l) = V m c main_v6 (ix2 j (wide 2 (by omega) l)) := by blk_ext [iblk, idx t, row, wide]
  rw [e, v6, AttnHost.qkv_at h, if_neg (by show ¬2 * 256 + l.val < 256; omega), vs,
    num_at Z j (wide 2 (by omega) l) rfl (by show _ = 2 * 256 + l.val; omega)]

omit h in
theorem blk3 (i j : Fin 256) : iblk m c 3 t (ix2 i j) = (((if j.val < i.val then 1 else 0 : ℝ)) : EReal) := by
  have e : ∀ f : Vec Ideal S256x256 .bf16, (((cfg0 (F := Ideal)).win 3).blk t).view.read (Elt Ideal) f (ix2 i j) = f (ix2 i j) := by
    intro f; blk_ext [idx t]
  exact (e (V m c main_v12)).trans (v12 m c i j)

omit h in
theorem tile_of {Q K W : ℕ → Fin 256 → ℝ} {qi : ℕ} {i : grid0.Coords} {x0 x3 : Vec Ideal S256x256 .bf16} {x1 x2 : Vec Ideal S16384x256 .bf16} (hqi : qi < 64) (hi : (i 0).val = qi)
    (h0 : ∀ r l : Fin 256, x0 (ix2 r l) = ((Q (256 * qi + r.val) l : ℝ) : EReal)) (h1 : ∀ (j : Fin 16384) l, x1 (ix2 j l) = ((K j.val l : ℝ) : EReal))
    (h2 : ∀ (j : Fin 16384) l, x2 (ix2 j l) = ((W j.val l : ℝ) : EReal)) (h3 : ∀ i j : Fin 256, x3 (ix2 i j) = (((if j.val < i.val then 1 else 0 : ℝ)) : EReal)) :
    Tile Q K W (fixedAt i x0 x1 x2 x3) qi := by
  have e0 := ld_rU x0
  have h5 : ∀ r l : Fin 256, k0_pay5 (F := Ideal) x0 (ix2 r l) = ((Q (256 * qi + r.val) l : ℝ) : EReal) := fun r l => (pay5 x0 r l).trans (h0 r l)
  unfold fixedAt
  rw [e0]
  exact {
    hqi := hqi
    hi := hi
    hk := h1
    hv := h2
    hu := h3
    hl := rfl
    hq0 := fun r l => (congrFun (q0_eq x0) _).trans (own_at (lane_at 0 (by norm_num)) h5 r l)
    hq1 := fun r l => (congrFun (q1_eq x0) _).trans (own_at (lane_at 1 (by norm_num)) h5 r l)
    hq2 := fun r l => (congrFun (q2_eq x0) _).trans (own_at (lane_at 2 (by norm_num)) h5 r l)
    hq3 := fun r l => (congrFun (q3_eq x0) _).trans (own_at (lane_at 3 (by norm_num)) h5 r l) }

theorem tile : Tile (qs Z) (ks Z) (vs Z) (fixAt m c t) t.val :=
  tile_of (idx t).2.1 (idx t).2.2 (blk0 h t) (blk1 h t) (blk2 h t) (blk3 t)

/-- The attention's result. -/
def full (Z : Fin 16384 → Fin 768 → ℝ) (i : Fin 16384) (f : Fin 256) : ℝ :=
  ∑ j : Fin 16384, wgt (lgt Z (f.val / 64)) i.val j.val * num Z j.val (512 + f.val)

omit h in
theorem full_eq (i : Fin 16384) (f : Fin 256) {i' : ℕ} (hi : i' = i.val) : outOf (qs Z) (ks Z) (vs Z) 0 i' f = full Z i f := by
  subst hi
  rw [outOf, full, ← AttnSums.all_rows (fun j => wgt (lgt Z (f.val / 64)) i.val j * num Z j (512 + f.val)), Finset.range_eq_Ico, lg_eq Z _ (by omega)]
  rfl

theorem final : (dats m 0 c).arrAt 4 (cfgs (F := Ideal) 0).N = fun i => ((full Z (i 0) (i 1) : ℝ) : EReal) := by
  refine (dats m 0 c).arrAt_eq_of_covers 4 _ (by decide +kernel) fun t _ y => ?_
  blk_simp
  rw [show (dats m 0 c).after 4 t = tileAt m c t from rfl]
  idx_vars y
  have hp : tileAt m c t (ix2 y0 y1) = ((full Z (row t y0) y1 : ℝ) : EReal) :=
    (walk_at (tile h t) y0 y1).trans (congrArg _ (full_eq (row t y0) y1 (by show _ = t.val * 256 + y0.val; omega)))
  rw [hp]
  rw [show (((View.whole main_v13).slice (win0_4.rect t)).emb (ix2 y0 y1) : S16384x256.Idx) = ix2 (row t y0) y1 by
    blk_ext [idx t, row]]
  rfl

end Cert.AttnfTrip

end
-- ==== Proof.AttnfClaim.lean ====
/- The attention's forward pair: its frames and its equality at finite arguments. -/
module

public import proofs.«01_k».proof.Proof.AttnfTrip
public import proofs.«01_k».proof.Proof.AttnfBitsLaunch
public import proofs.«01_k».proof.Proof.Gen.ReferenceAttnfIdeal.Run
public import proofs.«01_k».proof.Proof.Gen.ReferenceAttnfIdeal.Read
public import proofs.«01_k».proof.Proof.Gen.Pre_finite_attnf
public import proofs.«01_k».proof.Defs

@[expose] public section

set_option maxRecDepth 65536

noncomputable section

open Idealize.ShloMosaic Idealize.ShloMosaic.TcCoe Idealize.SL Idealize.SL.Sem

namespace Cert.AttnfClaim

open Cert.RealKit

theorem kernelIdeal : Cert.quiescent_KernelAttnfIdeal := fun m g _ => Cert.AttnfRun.frame_run m g
theorem kernelIdeal_pre : Cert.quiescent_KernelAttnfIdeal_pre_finite_attnf := fun m g _ => Cert.AttnfRun.frame_run m g
theorem kernel : Cert.quiescent_KernelAttnf := fun m g _ => Cert.AttnfBits.frame_run (F := Bits) m g

theorem reference : quiescent_ReferenceAttnfIdeal := fun m g _ =>
  (θ_run Cert.ReferenceAttnfIdeal.defs _ _).mono (fun r h => ⟨fun c => (h c).2, sem_eq_zero_of_no_sems rfl _⟩)
    (Cert.ReferenceAttnfIdeal.Value.run m g)
theorem reference_pre : quiescent_ReferenceAttnfIdeal_pre_finite_attnf := fun m g _ => reference m g trivial

theorem preserves : preserves_KernelAttnf_KernelAttnfIdeal :=
  IdealRules.named_const.statement _ _ _ _ _ rfl

/-- The two pairs' references compute the attention alike. -/
theorem same (x : FVec Ideal Cert.ReferenceAttnfIdeal.S16384x768 .f32) :
    Cert.ReferenceAttnfIdeal.Read.val_main_v26 (F := Ideal) x = Cert.ReferenceAttnIdeal.Read.val_main_v26 (F := Ideal) x := rfl

theorem algebraic : algebraic_KernelAttnfIdeal_ReferenceAttnfIdeal_pre_finite_attnf := by
  intro m g m' g' hpre hagree
  refine ⟨fun c => (AttnfRun.dats m 0 c).arrAt 4 (Cert.KernelAttnfIdeal.cfgs (F := Ideal) 0).N,
    (θ_run Cert.KernelAttnfIdeal.defs _ _).mono (fun r h c => ⟨(h.1 c).1 4, ((h.1 c).2 _ AttnfRun.arg0_rest).trans (AttnfRun.V_arg0 m c)⟩) (AttnfRun.run m g),
    (θ_run Cert.ReferenceAttnfIdeal.defs _ _).mono (fun r h c => ?_) (Cert.ReferenceAttnfIdeal.Value.run m' g')⟩
  obtain ⟨Z, hZ⟩ := exists_reals _ _ (fun _ => cInf) (hpre c)
  refine ⟨(h c).1.trans ?_, (h c).2⟩
  rw [Cert.ReferenceAttnfIdeal.Read.val_main_v26_eq, show m' ((c.tc : Thread Cert.ReferenceAttnfIdeal.nD Cert.ReferenceAttnfIdeal.τ).loc Cert.ReferenceAttnfIdeal.main_arg0) = _ from hagree c, same]
  refine Eq.trans ?_ (AttnfTrip.final (Z := fun i j => Z (ix2 i j)) fun _ _ => hZ _).symm
  funext i
  idx_vars i
  exact AttnRef.v26 (Z := fun i j => Z (ix2 i j)) (fun _ _ => hZ _) i0 i1

end Cert.AttnfClaim

end
-- ==== Proof.FwdMath.lean ====
/- The functions that the forward calls and their references compute, over the extended reals: nothing here needs a finite argument. -/
module

public import proofs.«01_k».proof.Proof.OutMath

@[expose] public section

noncomputable section

open Idealize.ShloMosaic

namespace Cert.FwdMath

/-- The reciprocal root of a row's mean square, `d` the printed divisor. -/
def scale {n : ℕ} (d : EReal) (x : Fin n → EReal) : EReal :=
  Ideal.rsqrt (Ideal.div (∑ k, x k * x k) d + Ideal.ofBits .f32 0x358637BD#32)

/-- The norm of a row of 1024, scaled by the gain. -/
def hn (X : Fin 16384 → Fin 1024 → EReal) (g : Fin 1024 → EReal) (r : Fin 16384) (l : Fin 1024) : EReal :=
  X r l * scale (Ideal.ofBits .f32 0x44800000#32) (X r) * g l

/-- The norm of a group's row of 256. -/
def xn (Y : Fin 4 → Fin 16384 → Fin 256 → EReal) (p : Fin 4) (r : Fin 16384) (j : Fin 256) : EReal :=
  Y p r j * scale (Ideal.ofBits .f32 0x43800000#32) (Y p r)

end Cert.FwdMath

end
-- ==== Proof.InpfKernel.lean ====
/- What the input projection's forward kernel leaves in its three result arrays. -/
module

public import proofs.«01_k».proof.Proof.FwdMath
public import proofs.«01_k».proof.Proof.StoreKit
public import proofs.«01_k».proof.Proof.Gen.KernelInpfIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InpfMath

variable (X : Fin 16384 → Fin 1024 → EReal) (g : Fin 1024 → EReal) (W : Fin 1024 → Fin 2560 → EReal)

/-- The projected rows. -/
def zz (r : Fin 16384) (j : Fin 2560) : EReal := ∑ l, Cert.FwdMath.hn X g r l * W l j

/-- The projection's column in the queries, keys and values' column `j`. -/
def qcol (j : Fin 768) : Fin 2560 := ⟨1280 + j.val, by omega⟩

/-- Queries, keys and values side by side, the queries scaled. -/
def qkv (r : Fin 16384) (j : Fin 768) : EReal := if j.val < 256 then zz X g W r (qcol j) * Ideal.ofBits .f32 0x3E000000#32 else zz X g W r (qcol j)

end Cert.InpfMath

namespace Cert.InpfKernel

open Cert.KernelInpfIdeal Cert.KernelInpfIdeal.Gen Cert.RealKit Cert.InpfMath Cert.FwdMath

variable (m : (ℓ : Loc nD τ sig) → Buf (Elt Ideal) ℓ) (c : Dev nD)

theorem idx : ∀ t : Fin cfg0.N, (win0_0.index t = ![t.val, 0] ∧ win0_1.index t = ![0, 0] ∧ win0_2.index t = ![0, 0]
    ∧ win0_3.index t = ![t.val, 0] ∧ win0_4.index t = ![t.val, 0] ∧ win0_5.index t = ![t.val, 0]) ∧ t.val < 16 :=
  (by decide +kernel : ∀ t : Fin grid0.N, _)

/-- The row of the array at row `a` of point `t`'s block. -/
def row (t : Fin cfg0.N) (a : Fin 1024) : Fin 16384 := ⟨t.val * 1024 + a.val, by have := (idx t).2; omega⟩

variable (X : Fin 16384 → Fin 1024 → EReal) (g : Fin 1024 → EReal) (W : Fin 1024 → Fin 2560 → EReal)

/-- The kernel's arguments are the arrays `X`, `g` and `W`. -/
structure Args : Prop where
  x : ∀ r l, m ((c : Thread nD τ).loc main_arg0) (ix2 r l) = (X r l)
  g : ∀ l, m ((c : Thread nD τ).loc main_arg1) (ix1 l) = (g l)
  w : ∀ l j, m ((c : Thread nD τ).loc main_arg2) (ix2 l j) = (W l j)

variable {m c X g W} (h : Args m c X g W)
include h

theorem blk0 (t : Fin cfg0.N) (a l : Fin 1024) : iblk m c 0 t (ix2 a l) = (X (row t a) l) := by
  rw [← h.x]; blk_ext [iblk, V, idx t, row]

theorem blk1 (t : Fin cfg0.N) (z : Fin 1) (l : Fin 1024) : iblk m c 1 t (ix2 z l) = (g l) := by
  rw [← h.g]; blk_simp [iblk, idx t]; entry_read; pointwise; blk_ext [idx t]

theorem blk2 (t : Fin cfg0.N) (j : Fin 2560) (l : Fin 1024) : iblk m c 2 t (ix2 j l) = (W l j) := by
  rw [← h.w]; blk_simp [iblk, idx t]; entry_read; pointwise; blk_ext [idx t]

theorem pay1 (t : Fin cfg0.N) (a l : Fin 1024) :
    k0_pay1 (F := Ideal) (iblk m c 0 t) (iblk m c 1 t) (ix2 a l) = (hn X g (row t a) l) := by
  pointwise [k0_pay1]
  simp only [blk0 h, blk1 h]
  rfl

theorem pay2 (t : Fin cfg0.N) (a : Fin 1024) (j : Fin 2560) :
    k0_pay2 (F := Ideal) (iblk m c 0 t) (iblk m c 1 t) (iblk m c 2 t) (ix2 a j) = (zz X g W (row t a) j) := by
  pointwise [k0_pay2]
  simp only [pay1 h, blk2 h]
  rfl

theorem pay3 (t : Fin cfg0.N) (a : Fin 1024) (j : Fin 256) (e : Fin 768) (he : e.val = j.val) :
    k0_pay3 (F := Ideal) (iblk m c 0 t) (iblk m c 1 t) (iblk m c 2 t) (ix2 a j) = (qkv X g W (row t a) e) := by
  pointwise [k0_pay3]
  have hh := pay2 h t a
  generalize k0_pay2 (F := Ideal) (iblk m c 0 t) (iblk m c 1 t) (iblk m c 2 t) = y at hh ⊢
  rw [qkv, if_pos (by omega), ← hh]
  congr 2
  funext b; fin_cases b <;> apply Fin.ext <;> simp [qcol, he]

theorem pay4 (t : Fin cfg0.N) (a : Fin 1024) (j : Fin 512) (e : Fin 768) (he : e.val = 256 + j.val) :
    k0_pay4 (F := Ideal) (iblk m c 0 t) (iblk m c 1 t) (iblk m c 2 t) (ix2 a j) = (qkv X g W (row t a) e) := by
  pointwise [k0_pay4]
  have hh := pay2 h t a
  generalize k0_pay2 (F := Ideal) (iblk m c 0 t) (iblk m c 1 t) (iblk m c 2 t) = y at hh ⊢
  rw [qkv, if_neg (by omega), ← hh]
  congr 1
  funext b; fin_cases b <;> apply Fin.ext <;> simp [qcol, he]; omega

/-- The projected rows' array. -/
theorem final3 : (dats m 0 c).arrAt 3 (cfgs 0).N = fun i => (zz X g W (i 0) (i 1)) := by
  refine (dats m 0 c).arrAt_eq_of_covers 3 _ (by decide +kernel) fun t _ y => ?_
  blk_simp
  rw [after0_3]
  idx_vars y
  have hp : (outsAt0 m c t).1 (ix2 y0 y1) = (zz X g W (row t y0) y1) := by
    unfold outsAt0; frame_out; exact pay2 h t y0 y1
  rw [hp]
  rw [show (((View.whole main_v3_0).slice (win0_3.rect t)).emb (ix2 y0 y1) : S16384x2560.Idx) = ix2 (row t y0) y1 by
    blk_ext [idx t, row]]
  rfl

/-- The queries, keys and values' array. -/
theorem final4 : (dats m 0 c).arrAt 4 (cfgs 0).N = fun i => (qkv X g W (i 0) (i 1)) := by
  refine (dats m 0 c).arrAt_eq_of_covers 4 _ (by decide +kernel) fun t _ y => ?_
  blk_simp
  rw [after0_4]
  idx_vars y
  have hp : (outsAt0 m c t).2.1 (ix2 y0 y1) = (qkv X g W (row t y0) y1) := by
    unfold outsAt0
    frame_out
    refine Cert.StoreKit.canon_cols (fun x hx => pay4 h t y0 x y1 hx) fun n1 => ?_
    refine Cert.StoreKit.canon_cols (fun x hx => pay3 h t y0 x y1 (by omega)) fun n0 => ?_
    omega
  rw [hp]
  rw [show (((View.whole main_v3_1).slice (win0_4.rect t)).emb (ix2 y0 y1) : S16384x768.Idx) = ix2 (row t y0) y1 by
    blk_ext [idx t, row]]
  rfl

/-- The normalised rows' array. -/
theorem final5 : (dats m 0 c).arrAt 5 (cfgs 0).N = fun i => (hn X g (i 0) (i 1)) := by
  refine (dats m 0 c).arrAt_eq_of_covers 5 _ (by decide +kernel) fun t _ y => ?_
  blk_simp
  rw [after0_5]
  idx_vars y
  have hp : (outsAt0 m c t).2.2 (ix2 y0 y1) = (hn X g (row t y0) y1) := by
    unfold outsAt0; frame_out; exact pay1 h t y0 y1
  rw [hp]
  rw [show (((View.whole main_v3_2).slice (win0_5.rect t)).emb (ix2 y0 y1) : S16384x1024.Idx) = ix2 (row t y0) y1 by
    blk_ext [idx t, row]]
  rfl

end Cert.InpfKernel
-- ==== Proof.InpfRef.lean ====
/- What the input projection's forward reference computes, read operation by operation. -/
module

public import proofs.«01_k».proof.Proof.InpfKernel
public import proofs.«01_k».proof.Proof.Gen.ReferenceInpfIdeal.Read
public import Idealize.ShloMosaic.Lib.Claim

@[expose] public section

set_option maxRecDepth 16384

noncomputable section

open Idealize.ShloMosaic Idealize.SL.Sem

namespace Cert.InpfRef

open Cert.ReferenceInpfIdeal Cert.ReferenceInpfIdeal.Gen Cert.ReferenceInpfIdeal.Read Cert.RealKit Cert.InpfMath Cert.FwdMath

variable {x0 : (⟨S16384x1024, .f32⟩ : BufTy).Contents (Elt Ideal)} {x1 : (⟨S1024, .f32⟩ : BufTy).Contents (Elt Ideal)}
variable {x2 : (⟨S1024x2560, .f32⟩ : BufTy).Contents (Elt Ideal)}
variable {X : Fin 16384 → Fin 1024 → EReal} {g : Fin 1024 → EReal} {W : Fin 1024 → Fin 2560 → EReal}
variable (hX : ∀ r l, x0 (ix2 r l) = (X r l)) (hg : ∀ l, x1 (ix1 l) = (g l))
  (hW : ∀ l j, x2 (ix2 l j) = (W l j))

include hX in
theorem v7 (r : Fin 16384) (z : Fin 1) : val_main_v7 (F := Ideal) x0 (ix2 r z) = scale (Ideal.ofBits .f32 0x44800000#32) (X r) := by
  pointwise [val_main_v7, val_main_v6, val_main_v5, val_main_v4, val_main_v3, val_main_v2, val_main_v1, val_main_v0,
    val_main_cst, val_main_cst_0, val_main_cst_1]
  simp only [hX]
  rfl

include hX hg in
theorem v12 (r : Fin 16384) (l : Fin 1024) : val_main_v12 (F := Ideal) x0 x1 (ix2 r l) = (hn X g r l) := by
  pointwise [val_main_v12, val_main_v11, val_main_v10, val_main_v9, val_main_v8]
  simp only [v7 hX, hX, hg]
  rfl

include hX hg in
/-- The normalised rows. -/
theorem v22 (r : Fin 16384) (l : Fin 1024) : val_main_v22 (F := Ideal) x0 x1 (ix2 r l) = (hn X g r l) := by
  pointwise [val_main_v22]
  exact v12 hX hg r l

include hX hg hW in
/-- The projected rows. -/
theorem v13 (r : Fin 16384) (j : Fin 2560) :
    val_main_v13 (F := Ideal) x0 x1 x2 (ix2 r j) = (zz X g W r j) := by
  pointwise [val_main_v13]
  simp only [v12 hX hg, hW]
  rfl

include hX hg hW in
theorem v14 (r : Fin 16384) (j : Fin 768) :
    val_main_v14 (F := Ideal) x0 x1 x2 (ix2 r j) = (zz X g W r (qcol j)) := by
  pointwise [val_main_v14]
  rw [← v13 hX hg hW]
  congr 1

include hX hg hW in
/-- Queries, keys and values side by side. -/
theorem v21 (r : Fin 16384) (j : Fin 768) :
    val_main_v21 (F := Ideal) x0 x1 x2 (ix2 r j) = (qkv X g W r j) := by
  pointwise [val_main_v21, val_main_v20, val_main_v19, val_main_v18, val_main_v17, val_main_v16, val_main_v15, val_main_cst_2]
  unfold qkv
  by_cases h0 : j.val < 256
  · rw [dif_pos h0, if_pos h0, ← v14 hX hg hW]
  rw [dif_neg h0, if_neg h0, ← v14 hX hg hW]
  by_cases h1 : j.val - 256 < 256
  · rw [dif_pos h1]
    congr 1
    funext b; fin_cases b <;> apply Fin.ext <;> simp; omega
  · rw [dif_neg h1]
    congr 1
    funext b; fin_cases b <;> apply Fin.ext <;> simp; omega

end Cert.InpfRef
-- ==== Proof.InpfClaim.lean ====
/- The input projection's forward claims: both programs' frames, and that the kernel's three results are the reference's. -/
module

public import proofs.«01_k».proof.Defs
public import proofs.«01_k».proof.Proof.InpfKernel
public import proofs.«01_k».proof.Proof.InpfRef
public import proofs.«01_k».proof.Proof.Gen.ReferenceInpfIdeal.Run
public import proofs.«01_k».proof.Proof.Gen.KernelInpf.Frame

@[expose] public section

set_option maxRecDepth 16384

noncomputable section

open Idealize.ShloMosaic Idealize.ShloMosaic.TcCoe Idealize.SL.Sem

namespace Cert.InpfClaim

open Cert.RealKit

/-- The argument arrays, entry by entry. -/
theorem args (m : (ℓ : Loc Cert.KernelInpfIdeal.nD Cert.KernelInpfIdeal.τ Cert.KernelInpfIdeal.sig) → Buf (Elt Ideal) ℓ)
    (c : Dev Cert.KernelInpfIdeal.nD) : ∃ (X : Fin 16384 → Fin 1024 → EReal) (g : Fin 1024 → EReal)
      (W : Fin 1024 → Fin 2560 → EReal), Cert.InpfKernel.Args m c X g W :=
  ⟨_, _, _, fun _ _ => rfl, fun _ => rfl, fun _ _ => rfl⟩

theorem kernel : quiescent_KernelInpf := fun m g _ => Cert.KernelInpf.Gen.frame m g
theorem kernelIdeal : quiescent_KernelInpfIdeal := fun m g _ => Cert.KernelInpfIdeal.Gen.frame m g
theorem reference : quiescent_ReferenceInpfIdeal := fun m g _ =>
  (θ_run Cert.ReferenceInpfIdeal.defs _ _).mono (fun r h => ⟨fun c => (h c).2.2.2, sem_eq_zero_of_no_sems rfl _⟩)
    (Cert.ReferenceInpfIdeal.Value.run m g)

theorem algebraic : algebraic_KernelInpfIdeal_ReferenceInpfIdeal := by
  intro m g m' g' _ hagree
  refine ⟨_, _, _, Cert.KernelInpfIdeal.Value.run_blocks m g,
    (θ_run Cert.ReferenceInpfIdeal.defs _ _).mono (fun r h c => ?_) (Cert.ReferenceInpfIdeal.Value.run m' g')⟩
  obtain ⟨X, gn, W, ha⟩ := args m c
  obtain ⟨e0, e1, e2⟩ := hagree c
  refine ⟨(h c).1.trans ?_, (h c).2.1.trans ?_, (h c).2.2.1.trans ?_, (h c).2.2.2⟩
  · rw [Cert.ReferenceInpfIdeal.Read.val_main_v13_eq, e0, e1, e2]
    refine Eq.trans ?_ (Cert.InpfKernel.final3 ha).symm
    funext i
    idx_vars i
    exact Cert.InpfRef.v13 ha.x ha.g ha.w _ _
  · rw [Cert.ReferenceInpfIdeal.Read.val_main_v21_eq, e0, e1, e2]
    refine Eq.trans ?_ (Cert.InpfKernel.final4 ha).symm
    funext i
    idx_vars i
    exact Cert.InpfRef.v21 ha.x ha.g ha.w _ _
  · rw [Cert.ReferenceInpfIdeal.Read.val_main_v22_eq, e0, e1]
    refine Eq.trans ?_ (Cert.InpfKernel.final5 ha).symm
    funext i
    idx_vars i
    exact Cert.InpfRef.v22 ha.x ha.g _ _

end Cert.InpfClaim
-- ==== Proof.OutfKernel.lean ====
/- What the output projection's forward kernel leaves in its result array. -/
module

public import proofs.«01_k».proof.Proof.FwdMath
public import proofs.«01_k».proof.Proof.Gen.KernelOutfIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutfMath

/-- The normalised, scaled rows. -/
def yn (Y : Fin 4 → Fin 16384 → Fin 256 → EReal) (g : Fin 1024 → EReal) (r : Fin 16384) (e : Fin 1024) : EReal :=
  Cert.FwdMath.xn Y (Cert.OutMath.grp e) r (Cert.OutMath.lane e) * g e

open Cert.RealKit
open Cert.OutMath (col grp lane grp_col lane_col)
open Cert.FwdMath

variable (X : Fin 16384 → Fin 1024 → EReal) (Y : Fin 4 → Fin 16384 → Fin 256 → EReal) (g : Fin 1024 → EReal) (W : Fin 1024 → Fin 1024 → EReal)

/-- The layer's result. -/
def out (r : Fin 16384) (l : Fin 1024) : EReal := X r l + ∑ e, yn Y g r e * W e l

/-- One group's share of the product. -/
def part (r : Fin 16384) (l : Fin 1024) (p : Fin 4) : EReal := ∑ j, yn Y g r (col p j) * W (col p j) l

theorem sum_parts (r : Fin 16384) (l : Fin 1024) : X r l + ∑ p, part Y g W r l p = out X Y g W r l :=
  congrArg (X r l + ·) (sum_rows col (fun _ _ => rfl) (by norm_num) fun e => yn Y g r e * W e l)

end Cert.OutfMath

namespace Cert.OutfKernel

open Cert.KernelOutfIdeal Cert.KernelOutfIdeal.Gen Cert.RealKit Cert.FwdMath Cert.OutfMath
open Cert.OutMath (col grp lane grp_col lane_col)

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0]) ∧ t.val < 16 :=
  (by decide +kernel : ∀ t : Fin grid0.N, _)

/-- The row of the array at row `a` of point `t`'s block. -/
def row (t : Fin cfg0.N) (a : Fin 1024) : Fin 16384 := ⟨t.val * 1024 + a.val, by have := (idx t).2; omega⟩

variable (X : Fin 16384 → Fin 1024 → EReal) (Y : Fin 4 → Fin 16384 → Fin 256 → EReal) (g : Fin 1024 → EReal) (W : Fin 1024 → Fin 1024 → EReal)

/-- The kernel's arguments are the arrays `Y 0` to `Y 3`, `X`, `g` and `W`. -/
structure Args : Prop where
  y0 : ∀ r j, m ((c : Thread nD τ).loc main_arg0) (ix2 r j) = (Y 0 r j)
  y1 : ∀ r j, m ((c : Thread nD τ).loc main_arg1) (ix2 r j) = (Y 1 r j)
  y2 : ∀ r j, m ((c : Thread nD τ).loc main_arg2) (ix2 r j) = (Y 2 r j)
  y3 : ∀ r j, m ((c : Thread nD τ).loc main_arg3) (ix2 r j) = (Y 3 r j)
  x : ∀ r l, m ((c : Thread nD τ).loc main_arg4) (ix2 r l) = (X r l)
  gain : ∀ l, m ((c : Thread nD τ).loc main_arg5) (ix1 l) = (g l)
  w : ∀ e d, m ((c : Thread nD τ).loc main_arg6) (ix2 e d) = (W e d)

variable {m c X Y g W}

section
variable {t : Fin cfg0.N} {p : Fin 4} {y : Vec Ideal S1024x256 .f32} {G : Vec Ideal S1x256 .f32}
  (hy : ∀ a j, y (ix2 a j) = (Y p (row t a) j)) (hG : ∀ z j, G (ix2 z j) = (g (col p j)))

include hy hG in
/-- A group's normalised, scaled rows. -/
theorem pay3 (a : Fin 1024) (j : Fin 256) :
    k0_pay3 (F := Ideal) y G (ix2 a j) = (yn Y g (row t a) (col p j)) := by
  pointwise [k0_pay3]
  simp only [hy, hG]
  rw [yn, grp_col, lane_col]
  rfl

variable {Wp : Vec Ideal S256x1024 .bf16} (hW : ∀ j l, Wp (ix2 j l) = (W (col p j) l))
  {A : FVec Ideal S1024x1024 .f32} {a l : Fin 1024} {v : EReal} (hA : A (ix2 a l) = (v))

include hy hG hW hA in
/-- A group's share of the product added. -/
theorem pay1 : k0_pay1 (F := Ideal) A (k0_pay3 y G) Wp (ix2 a l) = (v + part Y g W (row t a) l p) := by
  have hd := pay3 hy hG
  pointwise [k0_pay1]
  generalize k0_pay3 (F := Ideal) y G = n at hd ⊢
  simp only [hd, hW, hA]
  rfl
end

theorem e2 (x y G W) : @k0_pay2 Ideal _ x y G W = k0_pay1 x (k0_pay3 y G) W := rfl
theorem e4 (A N V y G W) : @k0_pay4 Ideal _ A N V y G W = k0_pay1 (k0_pay1 A N V) (k0_pay3 y G) W := rfl
theorem e5 : @k0_pay5 Ideal _ = k0_pay3 := rfl

variable (h : Args m c X Y g W)
include h

theorem blk0 (t : Fin cfg0.N) (a : Fin 1024) (j : Fin 256) : iblk m c 0 t (ix2 a j) = (Y 0 (row t a) j) := by
  rw [← h.y0]; blk_ext [iblk, V, idx t, row]

theorem blk1 (t : Fin cfg0.N) (a : Fin 1024) (j : Fin 256) : iblk m c 1 t (ix2 a j) = (Y 1 (row t a) j) := by
  rw [← h.y1]; blk_ext [iblk, V, idx t, row]

theorem blk2 (t : Fin cfg0.N) (a : Fin 1024) (j : Fin 256) : iblk m c 2 t (ix2 a j) = (Y 2 (row t a) j) := by
  rw [← h.y2]; blk_ext [iblk, V, idx t, row]

theorem blk3 (t : Fin cfg0.N) (a : Fin 1024) (j : Fin 256) : iblk m c 3 t (ix2 a j) = (Y 3 (row t a) j) := by
  rw [← h.y3]; blk_ext [iblk, V, idx t, row]

theorem blk4 (t : Fin cfg0.N) (a l : Fin 1024) : iblk m c 4 t (ix2 a l) = (X (row t a) l) := by
  rw [← h.x]; blk_ext [iblk, V, idx t, row]

theorem blk5 (t : Fin cfg0.N) (z : Fin 1) (l : Fin 1024) : iblk m c 5 t (ix2 z l) = (g l) := by
  rw [← h.gain]; blk_simp [iblk, idx t]; entry_read; pointwise; blk_ext [idx t]

theorem blk6 (t : Fin cfg0.N) (e d : Fin 1024) : iblk m c 6 t (ix2 e d) = (W e d) := by
  rw [← h.w]; blk_simp [iblk, idx t]; entry_read; pointwise; blk_ext [idx t]

/-- A group's columns of the gain, loaded by themselves. -/
theorem ld5 (t : Fin cfg0.N) (p : Fin 4) (off : Fin 2 → ℕ) (inb) (ho : off = ![0, p.val * 256]) (z : Fin 1) (j : Fin 256) :
    View.ld (iblk m c 5 t) (Rect.unit off ![1, 256] inb) (ix2 z j) = (g (col p j)) := by
  rw [View.ld_unit_apply_of _ _ _ _ _ (ix2 z (col p j)) (by subst ho; intro b; fin_cases b <;> simp [col] <;> rfl), blk5 h]

/-- A group's rows of the weight, loaded by themselves. -/
theorem ld6 (t : Fin cfg0.N) (p : Fin 4) (off : Fin 2 → ℕ) (inb) (ho : off = ![p.val * 256, 0]) (j : Fin 256) (l : Fin 1024) :
    View.ld (iblk m c 6 t) (Rect.unit off ![256, 1024] inb) (ix2 j l) = (W (col p j) l) := by
  rw [View.ld_unit_apply_of _ _ _ _ _ (ix2 (col p j) l) (by subst ho; intro b; fin_cases b <;> simp [col] <;> rfl), blk6 h]

/-- The result's array. -/
theorem final7 : (dats m 0 c).arrAt 7 (cfgs 0).N = fun i => (out X Y g W (i 0) (i 1)) := by
  refine (dats m 0 c).arrAt_eq_of_covers 7 _ (by decide +kernel) fun t _ y => ?_
  blk_simp
  rw [after0_7]
  idx_vars y
  have hp : out0_7 (iblk m c 0 t) (iblk m c 1 t) (iblk m c 2 t) (iblk m c 3 t) (iblk m c 4 t) (iblk m c 5 t) (iblk m c 6 t) (ix2 y0 y1)
      = (out X Y g W (row t y0) y1) := by
    unfold out0_7
    frame_out
    simp only [e2, e4, e5]
    refine (pay1 (blk3 h t) (ld5 h t 3 ![0, 768] _ rfl) (ld6 h t 3 ![768, 0] _ rfl)
      (pay1 (blk2 h t) (ld5 h t 2 ![0, 512] _ rfl) (ld6 h t 2 ![512, 0] _ rfl)
        (pay1 (blk1 h t) (ld5 h t 1 ![0, 256] _ rfl) (ld6 h t 1 ![256, 0] _ rfl)
          (pay1 (blk0 h t) (ld5 h t 0 ![0, 0] _ rfl) (ld6 h t 0 ![0, 0] _ rfl) (blk4 h t y0 y1))))).trans ?_
    rw [← sum_parts, Fin.sum_univ_four]
    simp only [add_assoc]
  rw [hp]
  rw [show (((View.whole main_v2).slice (win0_7.rect t)).emb (ix2 y0 y1) : S16384x1024.Idx) = ix2 (row t y0) y1 by
    blk_ext [idx t, row]]
  rfl

end Cert.OutfKernel
-- ==== Proof.OutfClaim.lean ====
/- The output projection's forward claims: what its reference computes, both programs' frames, and that the kernel's result is the
   reference's. -/
module

public import proofs.«01_k».proof.Defs
public import proofs.«01_k».proof.Proof.OutfKernel
public import proofs.«01_k».proof.Proof.Gen.ReferenceOutfIdeal.Read
public import proofs.«01_k».proof.Proof.Gen.ReferenceOutfIdeal.Run
public import proofs.«01_k».proof.Proof.Gen.KernelOutf.Frame

@[expose] public section

set_option maxRecDepth 16384

noncomputable section

open Idealize.ShloMosaic Idealize.ShloMosaic.TcCoe Idealize.SL.Sem

namespace Cert.OutfRef

open Cert.ReferenceOutfIdeal Cert.ReferenceOutfIdeal.Gen Cert.ReferenceOutfIdeal.Read Cert.RealKit Cert.FwdMath Cert.OutfMath
open Cert.OutMath (col grp lane grp_col lane_col)

theorem v9 {y : (⟨S16384x256, .f32⟩ : BufTy).Contents (Elt Ideal)} {V : Fin 16384 → Fin 256 → EReal}
    (hy : ∀ r j, y (ix2 r j) = (V r j)) (r : Fin 16384) (j : Fin 256) :
    val_main_v9 (F := Ideal) y (ix2 r j) = (V r j * scale (Ideal.ofBits .f32 0x43800000#32) (V r)) := by
  pointwise [val_main_v9, val_main_v8, val_main_v7, val_main_v6, val_main_v5, val_main_v4, val_main_v3, val_main_v2, val_main_v1,
    val_main_v0, val_main_cst, val_main_cst_0, val_main_cst_1]
  simp only [hy]
  rfl

theorem e19 : @val_main_v19 Ideal _ = val_main_v9 := rfl
theorem e29 : @val_main_v29 Ideal _ = val_main_v9 := rfl
theorem e39 : @val_main_v39 Ideal _ = val_main_v9 := rfl

variable {x0 x1 x2 x3 : (⟨S16384x256, .f32⟩ : BufTy).Contents (Elt Ideal)} {x4 : (⟨S16384x1024, .f32⟩ : BufTy).Contents (Elt Ideal)}
variable {x5 : (⟨S1024, .f32⟩ : BufTy).Contents (Elt Ideal)} {x6 : (⟨S1024x1024, .f32⟩ : BufTy).Contents (Elt Ideal)}
variable {X : Fin 16384 → Fin 1024 → EReal} {Y : Fin 4 → Fin 16384 → Fin 256 → EReal} {g : Fin 1024 → EReal} {W : Fin 1024 → Fin 1024 → EReal}
variable (h0 : ∀ r j, x0 (ix2 r j) = (Y 0 r j)) (h1 : ∀ r j, x1 (ix2 r j) = (Y 1 r j))
  (h2 : ∀ r j, x2 (ix2 r j) = (Y 2 r j)) (h3 : ∀ r j, x3 (ix2 r j) = (Y 3 r j))
  (hX : ∀ r l, x4 (ix2 r l) = (X r l)) (hg : ∀ l, x5 (ix1 l) = (g l))
  (hW : ∀ e d, x6 (ix2 e d) = (W e d))

include h0 h1 h2 h3 in
/-- The four normalised groups side by side, each column in the group that holds it. -/
theorem v40 (r : Fin 16384) (e : Fin 1024) :
    val_main_v40 (F := Ideal) x0 x1 x2 x3 (ix2 r e) = (xn Y (grp e) r (lane e)) := by
  pointwise [val_main_v40]
  rw [e19, e29, e39]
  have key : ∀ (y : (⟨S16384x256, .f32⟩ : BufTy).Contents (Elt Ideal)) (p : Fin 4) (hy : ∀ r j, y (ix2 r j) = (Y p r j))
      (k : Fin 256), e.val = p.val * 256 + k.val → val_main_v9 (F := Ideal) y (ix2 r k) = (xn Y (grp e) r (lane e)) := by
    intro y p hy k hk
    obtain rfl : e = col p k := Fin.ext hk
    rw [v9 hy, grp_col, lane_col, xn]
  rcases Nat.lt_or_ge e.val 256 with a | a
  · exact (dif_pos a).trans (key x0 0 h0 ⟨e.val, a⟩ (by simp))
  refine (dif_neg (by omega)).trans ?_
  rcases Nat.lt_or_ge (e.val - 256) 256 with b | b
  · exact (dif_pos b).trans (key x1 1 h1 ⟨e.val - 256, b⟩ (by show e.val = 1 * 256 + (e.val - 256); omega))
  refine (dif_neg (by omega)).trans ?_
  rcases Nat.lt_or_ge (e.val - 256 - 256) 256 with d | d
  · exact (dif_pos d).trans (key x2 2 h2 ⟨e.val - 256 - 256, d⟩ (by show e.val = 2 * 256 + (e.val - 256 - 256); omega))
  refine (dif_neg (by omega)).trans ?_
  exact key x3 3 h3 ⟨e.val - 256 - 256 - 256, by omega⟩ (by show e.val = 3 * 256 + (e.val - 256 - 256 - 256); omega)

include h0 h1 h2 h3 hX hg hW in
/-- The layer's result. -/
theorem v45 (r : Fin 16384) (l : Fin 1024) :
    val_main_v45 (F := Ideal) x0 x1 x2 x3 x4 x5 x6 (ix2 r l) = (out X Y g W r l) := by
  pointwise [val_main_v45, val_main_v44, val_main_v43, val_main_v42, val_main_v41]
  simp only [v40 h0 h1 h2 h3, hX, hg, hW]
  rfl

end Cert.OutfRef

namespace Cert.OutfClaim

open Cert.RealKit

/-- The argument arrays, entry by entry. -/
theorem args (m : (ℓ : Loc Cert.KernelOutfIdeal.nD Cert.KernelOutfIdeal.τ Cert.KernelOutfIdeal.sig) → Buf (Elt Ideal) ℓ)
    (c : Dev Cert.KernelOutfIdeal.nD) : ∃ (X : Fin 16384 → Fin 1024 → EReal) (Y : Fin 4 → Fin 16384 → Fin 256 → EReal)
      (g : Fin 1024 → EReal) (W : Fin 1024 → Fin 1024 → EReal), Cert.OutfKernel.Args m c X Y g W :=
  ⟨_, ![fun r j => m ((c.tc : Thread Cert.KernelOutfIdeal.nD Cert.KernelOutfIdeal.τ).loc Cert.KernelOutfIdeal.main_arg0) (ix2 r j),
    fun r j => m ((c.tc : Thread Cert.KernelOutfIdeal.nD Cert.KernelOutfIdeal.τ).loc Cert.KernelOutfIdeal.main_arg1) (ix2 r j),
    fun r j => m ((c.tc : Thread Cert.KernelOutfIdeal.nD Cert.KernelOutfIdeal.τ).loc Cert.KernelOutfIdeal.main_arg2) (ix2 r j),
    fun r j => m ((c.tc : Thread Cert.KernelOutfIdeal.nD Cert.KernelOutfIdeal.τ).loc Cert.KernelOutfIdeal.main_arg3) (ix2 r j)], _, _,
    fun _ _ => rfl, fun _ _ => rfl, fun _ _ => rfl, fun _ _ => rfl, fun _ _ => rfl, fun _ => rfl, fun _ _ => rfl⟩

theorem kernel : quiescent_KernelOutf := fun m g _ => Cert.KernelOutf.Gen.frame m g
theorem kernelIdeal : quiescent_KernelOutfIdeal := fun m g _ => Cert.KernelOutfIdeal.Gen.frame m g
theorem reference : quiescent_ReferenceOutfIdeal := fun m g _ =>
  (θ_run Cert.ReferenceOutfIdeal.defs _ _).mono (fun r h => ⟨fun c => (h c).2, sem_eq_zero_of_no_sems rfl _⟩)
    (Cert.ReferenceOutfIdeal.Value.run m g)

theorem algebraic : algebraic_KernelOutfIdeal_ReferenceOutfIdeal := by
  intro m g m' g' _ hagree
  refine ⟨_, Cert.KernelOutfIdeal.Value.run_blocks m g,
    (θ_run Cert.ReferenceOutfIdeal.defs _ _).mono (fun r h c => ?_) (Cert.ReferenceOutfIdeal.Value.run m' g')⟩
  obtain ⟨X, Y, gn, W, ha⟩ := args m c
  obtain ⟨e0, e1, e2, e3, e4, e5, e6⟩ := hagree c
  refine ⟨(h c).1.trans ?_, (h c).2⟩
  rw [Cert.ReferenceOutfIdeal.Read.val_main_v45_eq, e0, e1, e2, e3, e4, e5, e6]
  refine Eq.trans ?_ (Cert.OutfKernel.final7 ha).symm
  funext i
  idx_vars i
  exact Cert.OutfRef.v45 ha.y0 ha.y1 ha.y2 ha.y3 ha.x ha.gain ha.w _ _

end Cert.OutfClaim
-- ==== Proof.FfnfKernel.lean ====
/- What the feed-forward block's forward kernel leaves in its two result arrays. -/
module

public import proofs.«01_k».proof.Proof.FwdMath
public import proofs.«01_k».proof.Proof.StoreKit
public import proofs.«01_k».proof.Proof.Gen.KernelFfnfIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnfMath

open Cert.RealKit Cert.FwdMath

variable (X : Fin 16384 → Fin 1024 → EReal) (g : Fin 1024 → EReal) (U : Fin 1024 → Fin 4096 → EReal) (W : Fin 4096 → Fin 1024 → EReal)

/-- The hidden layer before the ReLU. -/
def pre (r : Fin 16384) (f : Fin 4096) : EReal := ∑ l, hn X g r l * U l f

/-- The hidden layer. -/
def act (r : Fin 16384) (f : Fin 4096) : EReal := max (pre X g U r f) 0

/-- The block's result. -/
def out (r : Fin 16384) (l : Fin 1024) : EReal := X r l + ∑ f, act X g U r f * act X g U r f * W f l

/-- The hidden unit at place `j` of block `d`. -/
def place (d : Fin 8) (j : Fin 512) : Fin 4096 := ⟨d.val * 512 + j.val, by omega⟩

/-- One block's share of the second product. -/
def part (r : Fin 16384) (l : Fin 1024) (d : Fin 8) : EReal :=
  ∑ j, act X g U r (place d j) * act X g U r (place d j) * W (place d j) l

theorem sum_parts (r : Fin 16384) (l : Fin 1024) : X r l + ∑ d, part X g U W r l d = out X g U W r l :=
  congrArg (X r l + ·) (sum_rows place (fun _ _ => rfl) (by norm_num) fun f => act X g U r f * act X g U r f * W f l)

end Cert.FfnfMath

namespace Cert.FfnfKernel

open Cert.KernelFfnfIdeal Cert.KernelFfnfIdeal.Gen Cert.RealKit Cert.FwdMath Cert.FfnfMath

variable (m : (ℓ : Loc nD τ sig) → Buf (Elt Ideal) ℓ) (c : Dev nD)

theorem idx : ∀ t : Fin cfg0.N, (win0_0.index t = ![t.val, 0] ∧ win0_1.index t = ![0, 0] ∧ win0_2.index t = ![0, 0, 0]
    ∧ win0_3.index t = ![0, 0, 0] ∧ win0_4.index t = ![t.val, 0] ∧ win0_5.index t = ![t.val, 0]) ∧ t.val < 32 :=
  (by decide +kernel : ∀ t : Fin grid0.N, _)

/-- The row of the array at row `a` of point `t`'s block. -/
def row (t : Fin cfg0.N) (a : Fin 512) : Fin 16384 := ⟨t.val * 512 + a.val, by have := (idx t).2; omega⟩

variable (X : Fin 16384 → Fin 1024 → EReal) (g : Fin 1024 → EReal) (U : Fin 1024 → Fin 4096 → EReal) (W : Fin 4096 → Fin 1024 → EReal)

/-- The kernel's arguments are the arrays `X`, `g`, `U` and `W`. -/
structure Args : Prop where
  x : ∀ r l, m ((c : Thread nD τ).loc main_arg0) (ix2 r l) = (X r l)
  g : ∀ l, m ((c : Thread nD τ).loc main_arg1) (ix1 l) = (g l)
  u : ∀ l f, m ((c : Thread nD τ).loc main_arg2) (ix2 l f) = (U l f)
  w : ∀ f l, m ((c : Thread nD τ).loc main_arg3) (ix2 f l) = (W f l)

variable {m c X g U W} (h : Args m c X g U W)
include h

theorem blk0 (t : Fin cfg0.N) (a : Fin 512) (l : Fin 1024) : iblk m c 0 t (ix2 a l) = (X (row t a) l) := by
  rw [← h.x]; blk_ext [iblk, V, idx t, row]

theorem blk1 (t : Fin cfg0.N) (z : Fin 1) (l : Fin 1024) : iblk m c 1 t (ix2 z l) = (g l) := by
  rw [← h.g]; blk_simp [iblk, idx t]; entry_read; pointwise; blk_ext [idx t]

theorem blk2 (t : Fin cfg0.N) (d : Fin 8) (l : Fin 1024) (j : Fin 512) :
    iblk m c 2 t (ix3 d l j) = (U l (place d j)) := by
  rw [← h.u]; blk_simp [iblk, idx t]; entry_read; pointwise; blk_ext [idx t, place]

theorem blk3 (t : Fin cfg0.N) (d : Fin 8) (j : Fin 512) (l : Fin 1024) :
    iblk m c 3 t (ix3 d j l) = (W (place d j) l) := by
  rw [← h.w]; blk_simp [iblk, idx t]; entry_read; pointwise; blk_ext [idx t, place]

/-- Block `d` of the first weight, loaded by itself. -/
theorem ld2 (t : Fin cfg0.N) (d : Fin 8) (off : Fin 3 → ℕ) (inb) (ho : off = ![d.val, 0, 0]) (z : Fin 1) (l : Fin 1024) (j : Fin 512) :
    View.ld (iblk m c 2 t) (Rect.unit off ![1, 1024, 512] inb) (ix3 z l j) = (U l (place d j)) := by
  rw [View.ld_unit_apply_of _ _ _ _ _ (ix3 d l j) (by subst ho; intro b; fin_cases b <;> simp [Subsingleton.elim z 0] <;> rfl), blk2 h]

/-- Block `d` of the second weight, loaded by itself. -/
theorem ld3 (t : Fin cfg0.N) (d : Fin 8) (off : Fin 3 → ℕ) (inb) (ho : off = ![d.val, 0, 0]) (z : Fin 1) (j : Fin 512) (l : Fin 1024) :
    View.ld (iblk m c 3 t) (Rect.unit off ![1, 512, 1024] inb) (ix3 z j l) = (W (place d j) l) := by
  rw [View.ld_unit_apply_of _ _ _ _ _ (ix3 d j l) (by subst ho; intro b; fin_cases b <;> simp [Subsingleton.elim z 0] <;> rfl), blk3 h]

theorem pay6 (t : Fin cfg0.N) (a : Fin 512) (l : Fin 1024) :
    k0_pay6 (F := Ideal) (iblk m c 0 t) (iblk m c 1 t) (ix2 a l) = (hn X g (row t a) l) := by
  pointwise [k0_pay6]
  simp only [blk0 h, blk1 h]
  rfl

omit h

section
variable {t : Fin cfg0.N} {H : FVec Ideal S512x1024 .bf16} (hH : ∀ a l, H (ix2 a l) = (hn X g (row t a) l))
include hH

/-- A block of the hidden layer. -/
theorem pay12 {d : Fin 8} {Ud : Vec Ideal S1x1024x512 .bf16} (hU : ∀ z l j, Ud (ix3 z l j) = (U l (place d j)))
    (a j : Fin 512) : k0_pay12 (F := Ideal) H Ud (ix2 a j) = (act X g U (row t a) (place d j)) := by
  pointwise [k0_pay12]
  simp only [hH, hU]
  rfl

theorem pay13 {d : Fin 8} {Ud : Vec Ideal S1x1024x512 .bf16} (hU : ∀ z l j, Ud (ix3 z l j) = (U l (place d j)))
    (a j : Fin 512) : k0_pay13 (F := Ideal) H Ud (ix2 a j) = (act X g U (row t a) (place d j)) := by
  pointwise [k0_pay13]
  exact pay12 hH hU a j
end

theorem e3 : @k0_pay3 Ideal _ = k0_pay12 := rfl
theorem e15 : @k0_pay15 Ideal _ = k0_pay12 := rfl
theorem e18 : @k0_pay18 Ideal _ = k0_pay12 := rfl
theorem e20 : @k0_pay20 Ideal _ = k0_pay12 := rfl
theorem e7 (x g U) : @k0_pay7 Ideal _ x g U = k0_pay12 (k0_pay6 x g) U := rfl
theorem e10 (x g U) : @k0_pay10 Ideal _ x g U = k0_pay12 (k0_pay6 x g) U := rfl
theorem e8 (x g U) : @k0_pay8 Ideal _ x g U = k0_pay13 (k0_pay6 x g) U := rfl
theorem e11 (x g U) : @k0_pay11 Ideal _ x g U = k0_pay13 (k0_pay6 x g) U := rfl
theorem e16 : @k0_pay16 Ideal _ = k0_pay13 := rfl
theorem e19 : @k0_pay19 Ideal _ = k0_pay13 := rfl
theorem e21 : @k0_pay21 Ideal _ = k0_pay13 := rfl
theorem e4 : @k0_pay4 Ideal _ = k0_pay13 := rfl
theorem e1 (H U) : @k0_pay1 Ideal _ H (k0_pay23 U) (constant S512x512 .f32 0x00000000#32) = k0_pay12 H U := rfl
theorem e2 (H U) : @k0_pay2 Ideal _ H (k0_pay23 U) (constant S512x512 .f32 0x00000000#32) = k0_pay13 H U := rfl

section
variable {t : Fin cfg0.N} {H : FVec Ideal S512x1024 .bf16} (hH : ∀ a l, H (ix2 a l) = (hn X g (row t a) l))
variable {d e f : Fin 8} {Ud Ue Uf : Vec Ideal S1x1024x512 .bf16} {Wd We Wf : Vec Ideal S1x512x1024 .bf16}
  (hUd : ∀ z l j, Ud (ix3 z l j) = (U l (place d j))) (hUe : ∀ z l j, Ue (ix3 z l j) = (U l (place e j)))
  (hUf : ∀ z l j, Uf (ix3 z l j) = (U l (place f j)))
  (hWd : ∀ z j l, Wd (ix3 z j l) = (W (place d j) l)) (hWe : ∀ z j l, We (ix3 z j l) = (W (place e j) l))
  (hWf : ∀ z j l, Wf (ix3 z j l) = (W (place f j) l))
variable {A : FVec Ideal S512x1024 .f32} {a : Fin 512} {l : Fin 1024} {v : EReal} (hA : A (ix2 a l) = (v))

include hH hUd hUe hWd hWe hA in
theorem pay14 : k0_pay14 (F := Ideal) H A (k0_pay12 H Ud) Wd Ue We (ix2 a l)
    = (v + part X g U W (row t a) l d + part X g U W (row t a) l e) := by
  have hd := pay12 hH hUd
  have he := pay12 hH hUe
  pointwise [k0_pay14]
  generalize k0_pay12 (F := Ideal) H Ud = yd at hd ⊢
  generalize k0_pay12 (F := Ideal) H Ue = ye at he ⊢
  simp only [hd, he, hWd, hWe, hA]
  rfl

include hH hUd hUe hUf hWd hWe hWf hA in
theorem pay22 : k0_pay22 (F := Ideal) H A (k0_pay17 H Ud) Wd Ue We Uf Wf (ix2 a l)
    = (v + part X g U W (row t a) l d + part X g U W (row t a) l e + part X g U W (row t a) l f) := by
  have hd := pay12 hH hUd
  have he := pay12 hH hUe
  have hf := pay12 hH hUf
  pointwise [k0_pay22, k0_pay17]
  simp only [e15, e18, e20]
  generalize k0_pay12 (F := Ideal) H Ud = yd at hd ⊢
  generalize k0_pay12 (F := Ideal) H Ue = ye at he ⊢
  generalize k0_pay12 (F := Ideal) H Uf = yf at hf ⊢
  simp only [hd, he, hf, hWd, hWe, hWf, hA]
  rfl

include hH hUd hUe hWd hWe hA in
theorem pay5 : k0_pay5 (F := Ideal) H A (k0_pay23 Ud) (constant S512x512 .f32 0x00000000#32) Wd Ue We (ix2 a l)
    = (v + part X g U W (row t a) l d + part X g U W (row t a) l e) := by
  have hd := pay12 hH hUd
  have he := pay12 hH hUe
  pointwise [k0_pay5]
  simp only [e1, e3]
  generalize k0_pay12 (F := Ideal) H Ud = yd at hd ⊢
  generalize k0_pay12 (F := Ideal) H Ue = ye at he ⊢
  simp only [hd, he, hWd, hWe, hA]
  rfl
end

include h in
theorem pay9 (t : Fin cfg0.N) {d : Fin 8} {Ud : Vec Ideal S1x1024x512 .bf16} {Wd : Vec Ideal S1x512x1024 .bf16}
    (hUd : ∀ z l j, Ud (ix3 z l j) = (U l (place d j)))
    (hWd : ∀ z j l, Wd (ix3 z j l) = (W (place d j) l)) (a : Fin 512) (l : Fin 1024) :
    k0_pay9 (F := Ideal) (iblk m c 0 t) (iblk m c 1 t) Ud Wd (ix2 a l)
      = (X (row t a) l + part X g U W (row t a) l d) := by
  have hd := pay12 (pay6 h t) hUd
  have hb := blk0 h t a l
  pointwise [k0_pay9]
  simp only [e7]
  generalize k0_pay12 (F := Ideal) (k0_pay6 (iblk m c 0 t) (iblk m c 1 t)) Ud = yd at hd ⊢
  simp only [hd, hb, hWd]
  rfl

include h

/-- The result's array. -/
theorem final4 : (dats m 0 c).arrAt 4 (cfgs 0).N = fun i => (out X g U W (i 0) (i 1)) := by
  refine (dats m 0 c).arrAt_eq_of_covers 4 _ (by decide +kernel) fun t _ y => ?_
  blk_simp
  rw [after0_4]
  idx_vars y
  have hp : out0_4 (iblk m c 0 t) (iblk m c 1 t) (iblk m c 2 t) (iblk m c 3 t) (ix2 y0 y1) = (out X g U W (row t y0) y1) := by
    have p6 := pay6 h t
    unfold_out out0_4
    frame_out
    simp only [e10]
    refine (pay5 p6 (ld2 h t 6 ![6, 0, 0] _ rfl) (ld2 h t 7 ![7, 0, 0] _ rfl) (ld3 h t 6 ![6, 0, 0] _ rfl) (ld3 h t 7 ![7, 0, 0] _ rfl)
      (pay22 p6 (ld2 h t 3 ![3, 0, 0] _ rfl) (ld2 h t 4 ![4, 0, 0] _ rfl) (ld2 h t 5 ![5, 0, 0] _ rfl)
        (ld3 h t 3 ![3, 0, 0] _ rfl) (ld3 h t 4 ![4, 0, 0] _ rfl) (ld3 h t 5 ![5, 0, 0] _ rfl)
        (pay14 p6 (ld2 h t 1 ![1, 0, 0] _ rfl) (ld2 h t 2 ![2, 0, 0] _ rfl) (ld3 h t 1 ![1, 0, 0] _ rfl) (ld3 h t 2 ![2, 0, 0] _ rfl)
          (pay9 h t (ld2 h t 0 ![0, 0, 0] _ rfl) (ld3 h t 0 ![0, 0, 0] _ rfl) y0 y1)))).trans ?_
    rw [← sum_parts, Fin.sum_univ_eight]
    simp only [add_assoc]
  rw [hp]
  rw [show (((View.whole main_v6_0).slice (win0_4.rect t)).emb (ix2 y0 y1) : S16384x1024.Idx) = ix2 (row t y0) y1 by
    blk_ext [idx t, row]]
  rfl

/-- The hidden layer's array. -/
theorem final5 : (dats m 0 c).arrAt 5 (cfgs 0).N = fun i => (act X g U (i 0) (i 1)) := by
  refine (dats m 0 c).arrAt_eq_of_covers 5 _ (by decide +kernel) fun t _ y => ?_
  blk_simp
  rw [after0_5]
  idx_vars y
  have hp : out0_5 (iblk m c 0 t) (iblk m c 1 t) (iblk m c 2 t) (iblk m c 3 t) (ix2 y0 y1) = (act X g U (row t y0) y1) := by
    have p6 := pay6 h t
    have key : ∀ (d : Fin 8) (off inb) (ho : off = ![d.val, 0, 0]) (x : Fin 512), y1.val = d.val * 512 + x.val →
        k0_pay13 (F := Ideal) (k0_pay6 (iblk m c 0 t) (iblk m c 1 t))
          (View.ld (iblk m c 2 t) (Rect.unit off ![1, 1024, 512] inb)) (ix2 y0 x) = (act X g U (row t y0) y1) := by
      intro d off inb ho x hx
      obtain rfl : y1 = place d x := Fin.ext hx
      exact pay13 p6 (ld2 h t d off inb ho) y0 x
    unfold_out out0_5
    frame_out
    refine Cert.StoreKit.canon_cols (key 7 _ _ rfl) fun n7 => ?_
    refine Cert.StoreKit.canon_cols (key 6 _ _ rfl) fun n6 => ?_
    refine Cert.StoreKit.canon_cols (key 5 _ _ rfl) fun n5 => ?_
    refine Cert.StoreKit.canon_cols (key 4 _ _ rfl) fun n4 => ?_
    refine Cert.StoreKit.canon_cols (key 3 _ _ rfl) fun n3 => ?_
    refine Cert.StoreKit.canon_cols (key 2 _ _ rfl) fun n2 => ?_
    refine Cert.StoreKit.canon_cols (key 1 _ _ rfl) fun n1 => ?_
    refine Cert.StoreKit.canon_cols (fun x hx => key 0 _ _ rfl x (by simpa using hx)) fun n0 => ?_
    have := y1.isLt
    omega
  rw [hp]
  rw [show (((View.whole main_v6_1).slice (win0_5.rect t)).emb (ix2 y0 y1) : S16384x4096.Idx) = ix2 (row t y0) y1 by
    blk_ext [idx t, row]]
  rfl

end Cert.FfnfKernel
-- ==== Proof.FfnfClaim.lean ====
/- The feed-forward block's forward claims: what its reference computes, both programs' frames, and that the kernel's two results are
   the reference's. -/
module

public import proofs.«01_k».proof.Defs
public import proofs.«01_k».proof.Proof.FfnfKernel
public import proofs.«01_k».proof.Proof.Gen.ReferenceFfnfIdeal.Read
public import proofs.«01_k».proof.Proof.Gen.ReferenceFfnfIdeal.Run
public import proofs.«01_k».proof.Proof.Gen.KernelFfnf.Frame

@[expose] public section

set_option maxRecDepth 16384

noncomputable section

open Idealize.ShloMosaic Idealize.ShloMosaic.TcCoe Idealize.SL.Sem

namespace Cert.FfnfRef

open Cert.ReferenceFfnfIdeal Cert.ReferenceFfnfIdeal.Gen Cert.ReferenceFfnfIdeal.Read Cert.RealKit Cert.FwdMath Cert.FfnfMath

variable {x0 : (⟨S16384x1024, .f32⟩ : BufTy).Contents (Elt Ideal)} {x1 : (⟨S1024, .f32⟩ : BufTy).Contents (Elt Ideal)}
variable {x2 : (⟨S1024x4096, .f32⟩ : BufTy).Contents (Elt Ideal)} {x3 : (⟨S4096x1024, .f32⟩ : BufTy).Contents (Elt Ideal)}
variable {X : Fin 16384 → Fin 1024 → EReal} {g : Fin 1024 → EReal} {U : Fin 1024 → Fin 4096 → EReal} {W : Fin 4096 → Fin 1024 → EReal}
variable (hX : ∀ r l, x0 (ix2 r l) = (X r l)) (hg : ∀ l, x1 (ix1 l) = (g l))
  (hU : ∀ l f, x2 (ix2 l f) = (U l f)) (hW : ∀ f l, x3 (ix2 f l) = (W f l))

include hX in
theorem v7 (r : Fin 16384) (z : Fin 1) : val_main_v7 (F := Ideal) x0 (ix2 r z) = scale (Ideal.ofBits .f32 0x44800000#32) (X r) := by
  pointwise [val_main_v7, val_main_v6, val_main_v5, val_main_v4, val_main_v3, val_main_v2, val_main_v1, val_main_v0,
    val_main_cst, val_main_cst_0, val_main_cst_1]
  simp only [hX]
  rfl

include hX hg hU in
theorem v13 (r : Fin 16384) (f : Fin 4096) : val_main_v13 (F := Ideal) x0 x1 x2 (ix2 r f) = (pre X g U r f) := by
  pointwise [val_main_v13, val_main_v12, val_main_v11, val_main_v10, val_main_v9, val_main_v8]
  simp only [v7 hX, hX, hg, hU]
  rfl

include hX hg hU in
theorem v14 (r : Fin 16384) (f : Fin 4096) : val_main_v14 (F := Ideal) x0 x1 x2 (ix2 r f) = (act X g U r f) := by
  pointwise [val_main_v14, val_main_call0_v0, val_main_call0_cst]
  rw [v13 hX hg hU]
  rfl

include hX hg hU in
/-- The hidden layer. -/
theorem v18 (r : Fin 16384) (f : Fin 4096) : val_main_v18 (F := Ideal) x0 x1 x2 (ix2 r f) = (act X g U r f) := by
  pointwise [val_main_v18]
  exact v14 hX hg hU r f

include hX hg hU hW in
/-- The block's result. -/
theorem v17 (r : Fin 16384) (l : Fin 1024) :
    val_main_v17 (F := Ideal) x0 x1 x2 x3 (ix2 r l) = (out X g U W r l) := by
  pointwise [val_main_v17, val_main_v16, val_main_v15]
  simp only [v14 hX hg hU, hX, hW]
  rfl

end Cert.FfnfRef

namespace Cert.FfnfClaim

open Cert.RealKit

/-- The argument arrays, entry by entry. -/
theorem args (m : (ℓ : Loc Cert.KernelFfnfIdeal.nD Cert.KernelFfnfIdeal.τ Cert.KernelFfnfIdeal.sig) → Buf (Elt Ideal) ℓ)
    (c : Dev Cert.KernelFfnfIdeal.nD) : ∃ (X : Fin 16384 → Fin 1024 → EReal) (g : Fin 1024 → EReal)
      (U : Fin 1024 → Fin 4096 → EReal) (W : Fin 4096 → Fin 1024 → EReal), Cert.FfnfKernel.Args m c X g U W :=
  ⟨_, _, _, _, fun _ _ => rfl, fun _ => rfl, fun _ _ => rfl, fun _ _ => rfl⟩

theorem kernel : quiescent_KernelFfnf := fun m g _ => Cert.KernelFfnf.Gen.frame m g
theorem kernelIdeal : quiescent_KernelFfnfIdeal := fun m g _ => Cert.KernelFfnfIdeal.Gen.frame m g
theorem reference : quiescent_ReferenceFfnfIdeal := fun m g _ =>
  (θ_run Cert.ReferenceFfnfIdeal.defs _ _).mono (fun r h => ⟨fun c => (h c).2.2, sem_eq_zero_of_no_sems rfl _⟩)
    (Cert.ReferenceFfnfIdeal.Value.run m g)

theorem algebraic : algebraic_KernelFfnfIdeal_ReferenceFfnfIdeal := by
  intro m g m' g' _ hagree
  refine ⟨_, _, Cert.KernelFfnfIdeal.Value.run_blocks m g,
    (θ_run Cert.ReferenceFfnfIdeal.defs _ _).mono (fun r h c => ?_) (Cert.ReferenceFfnfIdeal.Value.run m' g')⟩
  obtain ⟨X, gn, U, W, ha⟩ := args m c
  obtain ⟨e0, e1, e2, e3⟩ := hagree c
  refine ⟨(h c).1.trans ?_, (h c).2.1.trans ?_, (h c).2.2⟩
  · rw [Cert.ReferenceFfnfIdeal.Read.val_main_v17_eq, e0, e1, e2, e3]
    refine Eq.trans ?_ (Cert.FfnfKernel.final4 ha).symm
    funext i
    idx_vars i
    exact Cert.FfnfRef.v17 ha.x ha.g ha.u ha.w _ _
  · rw [Cert.ReferenceFfnfIdeal.Read.val_main_v18_eq, e0, e1, e2]
    refine Eq.trans ?_ (Cert.FfnfKernel.final5 ha).symm
    funext i
    idx_vars i
    exact Cert.FfnfRef.v18 ha.x ha.g ha.u _ _

end Cert.FfnfClaim
-- ==== Proof.MixfMath.lean ====
/- The functions that the mixers' forward call and its reference compute, over the extended reals: nothing here needs a finite argument. -/
module

public import proofs.«01_k».proof.Proof.FwdMath

@[expose] public section

noncomputable section

open Idealize.ShloMosaic

namespace Cert.MixfMath

open Cert.FwdMath

/-- One. -/
def one : EReal := 1

/-- The tanh form of the Gaussian unit. -/
def gelu (x : EReal) : EReal :=
  x * (Ideal.ofBits .f32 0x3F000000#32 * (one + Ideal.tanh (Ideal.ofBits .f32 0x3F4C422A#32 * (x + Ideal.ofBits .f32 0x3D372713#32 * (x * x * x)))))

/-- The logistic function. -/
def sigm (x : EReal) : EReal := Ideal.div one (one + Ideal.exp (-x))

/-- A column of the rows, 32 rows of zeros before the first. -/
def pad (f : Fin 16384 → Fin 256 → EReal) (i : ℕ) (j : Fin 256) : EReal :=
  if h : 32 ≤ i ∧ i - 32 < 16384 then f ⟨i - 32, h.2⟩ j else 0

theorem pad_lt (f : Fin 16384 → Fin 256 → EReal) {i : ℕ} (h : i < 32) (j) : pad f i j = 0 := dif_neg (by omega)

theorem pad_at (f : Fin 16384 → Fin 256 → EReal) {i : ℕ} (r : Fin 16384) (h : i = r.val + 32) (j) : pad f i j = f r j := by
  subst h
  exact (dif_pos ⟨by omega, by omega⟩).trans (congrArg (f · j) (Fin.ext (by show r.val + 32 - 32 = r.val; omega)))

/-- The causal convolution of `K` taps, column by column. -/
def conv {K : ℕ} (w : Fin K → Fin 256 → EReal) (f : Fin 16384 → Fin 256 → EReal) (r : Fin 16384) (j : Fin 256) : EReal :=
  ∑ k : Fin K, w k j * pad f (k.val + r.val + (33 - K)) j

section
variable (Z : Fin 16384 → Fin 2560 → EReal)

/-- The column of a band of 256. -/
def band (p : Fin 10) (j : Fin 256) : Fin 2560 := ⟨p.val * 256 + j.val, by omega⟩

/-- The gated half. -/
def vn (v : Fin 256 → EReal) (r : Fin 16384) (j : Fin 256) : EReal :=
  gelu (Z r (band 1 j)) * scale (Ideal.ofBits .f32 0x43800000#32) (fun k => gelu (Z r (band 1 k))) * v j

/-- The head of a column. -/
def hd (j : Fin 256) : Fin 4 := ⟨j.val / 64, by omega⟩

/-- A row's place in its chunk, and a row of that chunk. -/
def place (r : Fin 16384) : Fin 128 := ⟨r.val % 128, by omega⟩
def mate (r : Fin 16384) (s : Fin 128) : Fin 16384 := ⟨r.val / 128 * 128 + s.val, by omega⟩

/-- The gating unit's result: the mixing of a chunk's rows, head by head. -/
def ya (v : Fin 256 → EReal) (W : Fin 4 → Fin 128 → Fin 128 → EReal) (B : Fin 4 → Fin 128 → EReal) (r : Fin 16384) (j : Fin 256) : EReal :=
  gelu (Z r (band 0 j)) * ((∑ s, W (hd j) (place r) s * vn Z v (mate r s) j) + B (hd j) (place r))

/-- The short convolution's argument and result. -/
def pb (r : Fin 16384) (j : Fin 256) : EReal := Z r (band 3 j) * Z r (band 4 j)
def yb (A : Fin 3 → Fin 256 → EReal) (r : Fin 16384) (j : Fin 256) : EReal := Z r (band 2 j) * conv A (pb Z) r j

/-- The long convolution's argument and result. -/
def hb (r : Fin 16384) (j : Fin 256) : EReal := Z r (band 8 j) * sigm (Z r (band 9 j))
def cc (C : Fin 31 → Fin 256 → EReal) (r : Fin 16384) (j : Fin 256) : EReal := conv C (hb Z) r j

/-- A row less its mean. -/
def cen (c : Fin 256 → EReal) (j : Fin 256) : EReal := c j - Ideal.div (∑ k, c k) (Ideal.ofBits .f32 0x43800000#32)

/-- The layer norm of a row, and its product with its own logistic. -/
def lnorm (c n b : Fin 256 → EReal) (j : Fin 256) : EReal :=
  cen c j * scale (Ideal.ofBits .f32 0x43800000#32) (cen c) * n j + b j
def yd (C : Fin 31 → Fin 256 → EReal) (n b : Fin 256 → EReal) (r : Fin 16384) (j : Fin 256) : EReal :=
  lnorm (cc Z C r) n b j * sigm (lnorm (cc Z C r) n b j)

end

end Cert.MixfMath

end
-- ==== Proof.MixfKernel.lean ====
/- What the mixing layer's forward kernel leaves in its result arrays. -/
module

public import proofs.«01_k».proof.Proof.MixfMath
public import proofs.«01_k».proof.Proof.StoreKit
public import proofs.«01_k».proof.Proof.Gen.KernelMixfIdeal.Value
public import proofs.«01_k».proof.Proof.Gen.ReferenceMixfIdeal.Read
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MixfKernel

open Cert.KernelMixfIdeal Cert.KernelMixfIdeal.Gen Cert.RealKit Cert.FwdMath Cert.MixfMath

variable (m : (ℓ : Loc nD τ sig) → Buf (Elt Ideal) ℓ) (c : Dev nD)

theorem idx : ∀ t : Fin cfg0.N, (win0_0.index t = ![t.val, 0] ∧ win0_1.index t = ![32 * t.val - 1, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0]) ∧ t.val < 16 :=
  (by decide +kernel : ∀ t : Fin grid0.N, _)

/-- The row of the array at row `a` of point `t`'s block, and at row `a` of the 32 rows before it. -/
def row (t : Fin cfg0.N) (a : Fin 1024) : Fin 16384 := ⟨t.val * 1024 + a.val, by have := (idx t).2; omega⟩
def prev (t : Fin cfg0.N) (a : Fin 32) : Fin 16384 := ⟨(32 * t.val - 1) * 32 + a.val, by have := (idx t).2; omega⟩

variable (Z : Fin 16384 → Fin 2560 → EReal) (v n b : Fin 256 → EReal) (W : Fin 4 → Fin 128 → Fin 128 → EReal) (B : Fin 4 → Fin 128 → EReal)
  (A : Fin 3 → Fin 256 → EReal) (C : Fin 31 → Fin 256 → EReal)

/-- The kernel's arguments, entry by entry. -/
structure Args : Prop where
  z : ∀ r j, m ((c : Thread nD τ).loc main_arg0) (ix2 r j) = Z r j
  v : ∀ j, m ((c : Thread nD τ).loc main_arg1) (ix1 j) = v j
  w : ∀ h i s, Cert.ReferenceMixfIdeal.Read.val_main_v36 (F := Ideal) (m ((c : Thread nD τ).loc main_arg2)) (ix3 h i s) = W h i s
  bs : ∀ h i, m ((c : Thread nD τ).loc main_arg3) (ix2 h i) = B h i
  a : ∀ k j, m ((c : Thread nD τ).loc main_arg4) (ix2 k j) = A k j
  cv : ∀ k j, m ((c : Thread nD τ).loc main_arg5) (ix2 k j) = C k j
  n : ∀ j, m ((c : Thread nD τ).loc main_arg6) (ix1 j) = n j
  lb : ∀ j, m ((c : Thread nD τ).loc main_arg7) (ix1 j) = b j

variable {m c Z v n b W B A C}
variable (h : Args m c Z v n b W B A C)
include h

theorem blk0 (t : Fin cfg0.N) (a : Fin 1024) (j : Fin 2560) : iblk m c 0 t (ix2 a j) = Z (row t a) j := by
  rw [← h.z]; blk_ext [iblk, V, idx t, row]

theorem blk1 (t : Fin cfg0.N) (a : Fin 32) (j : Fin 2560) : iblk m c 1 t (ix2 a j) = Z (prev t a) j := by
  rw [← h.z]; blk_ext [iblk, V, idx t, prev]

theorem v7 (z : Fin 1) (j : Fin 256) : V m c main_v7 (ix2 z j) = v j := by
  rw [← h.v]
  simp only [V, hostOps0, hostOps0_1, hostOps0_2, hostOps0_3, hostOps0_4, hostOps0_5, hostOps0_6, hostOps0_7, hostOps0_8, List.flatten_cons,
    List.flatten_nil, List.append_nil, List.cons_append, List.nil_append]
  entry_read
  pointwise

theorem blk2 (t : Fin cfg0.N) (z : Fin 1) (j : Fin 256) : iblk m c 2 t (ix2 z j) = v j := by
  rw [← v7 h z]; blk_ext [iblk, idx t]

theorem v3 (p : Fin 4) (i s : Fin 128) : V m c main_v3 (ix3 p i s) = W p i s := by
  rw [← h.w]
  simp only [V, hostOps0, hostOps0_1, hostOps0_2, hostOps0_3, hostOps0_4, hostOps0_5, hostOps0_6, hostOps0_7, hostOps0_8, List.flatten_cons,
    List.flatten_nil, List.append_nil, List.cons_append, List.nil_append]
  entry_read
  rfl

theorem blk3 (t : Fin cfg0.N) (p : Fin 4) (i s : Fin 128) : iblk m c 3 t (ix3 p i s) = W p i s := by
  rw [← v3 h]; blk_ext [iblk, idx t]

theorem v6 (i : Fin 128) (j : Fin 256) : V m c main_v6 (ix2 i j) = B (hd j) i := by
  rw [← h.bs]
  simp only [V, hostOps0, hostOps0_1, hostOps0_2, hostOps0_3, hostOps0_4, hostOps0_5, hostOps0_6, hostOps0_7, hostOps0_8, List.flatten_cons,
    List.flatten_nil, List.append_nil, List.cons_append, List.nil_append]
  entry_read
  pointwise
  rfl

theorem blk4 (t : Fin cfg0.N) (i : Fin 128) (j : Fin 256) : iblk m c 4 t (ix2 i j) = B (hd j) i := by
  rw [← v6 h]; blk_ext [iblk, idx t]

theorem v8 (k : Fin 3) (j : Fin 256) : V m c main_v8 (ix2 (Fin.castLE (by decide) k) j) = A k j := by
  rw [← h.a]
  simp only [V, hostOps0, hostOps0_1, hostOps0_2, hostOps0_3, hostOps0_4, hostOps0_5, hostOps0_6, hostOps0_7, hostOps0_8, List.flatten_cons,
    List.flatten_nil, List.append_nil, List.cons_append, List.nil_append]
  entry_read
  show Idealize.ShloMosaic.pad S8x256 ![0, 0] ![5, 0] ![0, 0] (m (c, Proc.tc.devRef main_arg4)) (sitofp (F := Ideal) .f32 (constantI S_ 32 0#32)) pads_S3x256_S8x256_050_000 h_S_ _ = _
  refine (pad_apply_of_inside _ _ _ _ _ _ _ _ (ix2 k j) ?_).trans rfl
  intro a
  fin_cases a
  · show k.val = 0 + k.val * 1
    omega
  · show j.val = 0 + j.val * 1
    omega

theorem blk5 (t : Fin cfg0.N) (k : Fin 3) (j : Fin 256) : iblk m c 5 t (ix2 (Fin.castLE (by decide) k) j) = A k j := by
  rw [← v8 h]; blk_ext [iblk, idx t]

theorem v9 (k : Fin 31) (j : Fin 256) : V m c main_v9 (ix2 (Fin.castLE (by decide) k) j) = C k j := by
  rw [← h.cv]
  simp only [V, hostOps0, hostOps0_1, hostOps0_2, hostOps0_3, hostOps0_4, hostOps0_5, hostOps0_6, hostOps0_7, hostOps0_8, List.flatten_cons,
    List.flatten_nil, List.append_nil, List.cons_append, List.nil_append]
  entry_read
  show Idealize.ShloMosaic.pad S32x256 ![0, 0] ![1, 0] ![0, 0] (m (c, Proc.tc.devRef main_arg5)) (sitofp (F := Ideal) .f32 (constantI S_ 32 0#32)) pads_S31x256_S32x256_010_000 h_S_ _ = _
  refine (pad_apply_of_inside _ _ _ _ _ _ _ _ (ix2 k j) ?_).trans rfl
  intro a
  fin_cases a
  · show k.val = 0 + k.val * 1
    omega
  · show j.val = 0 + j.val * 1
    omega

theorem blk6 (t : Fin cfg0.N) (k : Fin 31) (j : Fin 256) : iblk m c 6 t (ix2 (Fin.castLE (by decide) k) j) = C k j := by
  rw [← v9 h]; blk_ext [iblk, idx t]

theorem v10 (z : Fin 1) (j : Fin 256) : V m c main_v10 (ix2 z j) = n j := by
  rw [← h.n]
  simp only [V, hostOps0, hostOps0_1, hostOps0_2, hostOps0_3, hostOps0_4, hostOps0_5, hostOps0_6, hostOps0_7, hostOps0_8, List.flatten_cons,
    List.flatten_nil, List.append_nil, List.cons_append, List.nil_append]
  entry_read
  pointwise

theorem blk7 (t : Fin cfg0.N) (z : Fin 1) (j : Fin 256) : iblk m c 7 t (ix2 z j) = n j := by
  rw [← v10 h z]; blk_ext [iblk, idx t]

theorem v11 (z : Fin 1) (j : Fin 256) : V m c main_v11 (ix2 z j) = b j := by
  rw [← h.lb]
  simp only [V, hostOps0, hostOps0_1, hostOps0_2, hostOps0_3, hostOps0_4, hostOps0_5, hostOps0_6, hostOps0_7, hostOps0_8, List.flatten_cons,
    List.flatten_nil, List.append_nil, List.cons_append, List.nil_append]
  entry_read
  pointwise

theorem blk8 (t : Fin cfg0.N) (z : Fin 1) (j : Fin 256) : iblk m c 8 t (ix2 z j) = b j := by
  rw [← v11 h z]; blk_ext [iblk, idx t]

omit h in
/-- A load of a rectangle of what was stored reads the stores at its place. -/
theorem cov_at {Val : EltTy → Type} [∀ e, Nonempty (Val e)] {sg : RefSig} {κ : Kind} {sp : Space} {s : Shape} {e : EltTy}
    {v : View sg κ sp s e} {L : List (View.Piece Val s e)} {off sz : Fin s.rank → ℕ} {inb} {x : (Rect.unit off sz inb).shape.Idx}
    (i : s.Idx) (hi : ∀ a, (i a).val = off a + (x a).val) :
    v.readCov L (Rect.unit off sz inb).toLoadRect x = View.canon L i := by
  rw [View.readCov_eq_canon']
  refine congrArg _ (funext fun a => Fin.ext ?_)
  rw [hi]
  simp [Rect.unit, Rect.toLoadRect, LoadRect.idx]

omit h in
/-- The same for whole rows of a matrix. -/
theorem cov_rows {sg : RefSig} {κ : Kind} {sp : Space} (v : View sg κ sp S1056x256 .f32) (L : List (View.Piece (Elt Ideal) S1056x256 .f32)) {n o : ℕ}
    (inb) (a : Fin n) (j : Fin 256) (k : Fin 1056) (hk : k.val = o + a.val) :
    v.readCov L (Rect.unit (s := S1056x256) ![o, 0] ![n, 256] inb).toLoadRect (ix2 a j) = View.canon L (ix2 k j) :=
  cov_at (ix2 k j) fun b => by
    fin_cases b
    · exact hk
    · exact (Nat.zero_add _).symm

omit h in
/-- One after the first point, zero at it. -/
theorem keep (t : Fin cfg0.N) : (k0_pay2 (F := Ideal) (grid0.coords t) : EReal) = if t.val = 0 then 0 else 1 := by
  have e : ∀ t : Fin cfg0.N, Scalar.extui (Scalar.cmpi .sgt (BitVec.ofNat 32 ((grid0.coords t) 0).val) 0#32) = if t.val = 0 then 0#32 else 1#32 :=
    (by decide +kernel : ∀ t : Fin grid0.N, _)
  show Scalar.sitofp (F := Ideal) .f32 (Scalar.extui (Scalar.cmpi .sgt (BitVec.ofNat 32 ((grid0.coords t) 0).val) 0#32)) = _
  rw [e]
  by_cases h : t.val = 0
  · rw [if_pos h, if_pos h]; show (((0#32 : BitVec 32).toInt : ℝ) : EReal) = _; simp
  · rw [if_neg h, if_neg h]; show (((1#32 : BitVec 32).toInt : ℝ) : EReal) = _; simp

omit h in
/-- The rows before a block, kept or turned to zeros. -/
theorem halo (f : Fin 16384 → Fin 256 → EReal) (t : Fin cfg0.N) (a : Fin 32) (j : Fin 256) :
    f (prev t a) j * k0_pay2 (F := Ideal) (grid0.coords t) = MixfMath.pad f (t.val * 1024 + a.val) j := by
  rw [keep]
  by_cases h : t.val = 0
  · rw [if_pos h, mul_zero, pad_lt f (by omega)]
  · rw [if_neg h, mul_one, pad_at f (prev t a) (by show t.val * 1024 + a.val = (32 * t.val - 1) * 32 + a.val + 32; omega)]

omit h in
theorem inner (f : Fin 16384 → Fin 256 → EReal) (t : Fin cfg0.N) (a : Fin 1024) (j : Fin 256) :
    f (row t a) j = MixfMath.pad f (t.val * 1024 + (32 + a.val)) j :=
  (pad_at f (row t a) (by show t.val * 1024 + (32 + a.val) = t.val * 1024 + a.val + 32; omega) j).symm

omit h in
/-- A block with the rows before it, as its two stores leave it. -/
theorem two {f : Fin 16384 → Fin 256 → EReal} {t : Fin cfg0.N} {i1 i2} {x : FVec Ideal S1024x256 .f32} {y : FVec Ideal S32x256 .f32}
    (hx : ∀ a j, x (ix2 a j) = f (row t a) j) (hy : ∀ a j, y (ix2 a j) = f (prev t a) j * k0_pay2 (F := Ideal) (grid0.coords t))
    (i : Fin 1056) (j : Fin 256) :
    View.canon (Val := Elt Ideal) (s := S1056x256) (e := .f32) [⟨Rect.unit ![32, 0] ![1024, 256] i1, x⟩, ⟨Rect.unit ![0, 0] ![32, 256] i2, y⟩] (ix2 i j)
      = MixfMath.pad f (t.val * 1024 + i.val) j := by
  refine Cert.StoreKit.canon_newest _ (fun u hu => ?_) fun ⟨b, hb⟩ => Cert.StoreKit.canon_newest _ (fun u hu => ?_) fun ⟨d, hd⟩ => ?_
  · have h0 : i.val = 32 + (u 0).val := hu 0
    have h1 : j.val = 0 + (u 1).val := hu 1
    obtain rfl : j = u 1 := Fin.ext (by omega)
    rw [h0]
    refine Eq.trans ?_ ((hx (u 0) (u 1)).trans (inner f t (u 0) (u 1)))
    exact congrArg x (funext fun a => by fin_cases a <;> rfl)
  · have h0 : i.val = 0 + (u 0).val := hu 0
    have h1 : j.val = 0 + (u 1).val := hu 1
    obtain rfl : j = u 1 := Fin.ext (by omega)
    rw [h0, Nat.zero_add]
    refine Eq.trans ?_ ((hy (u 0) (u 1)).trans (halo f t (u 0) (u 1)))
    exact congrArg y (funext fun a => by fin_cases a <;> rfl)
  · exfalso
    have hj := j.isLt
    have hi := i.isLt
    fin_cases b
    · have b' : i.val < 32 ∨ 32 + 1024 ≤ i.val := hb
      fin_cases d
      · have d' : i.val < 0 ∨ 0 + 32 ≤ i.val := hd
        omega
      · have d' : j.val < 0 ∨ 0 + 256 ≤ j.val := hd
        omega
    · have b' : j.val < 0 ∨ 0 + 256 ≤ j.val := hb
      omega

/-- A band of the block, and of the rows before it. -/
theorem band0 (t : Fin cfg0.N) (p : Fin 10) (off : Fin 2 → ℕ) (inb) (ho : off = ![0, p.val * 256]) (a : Fin 1024) (j : Fin 256) :
    View.ld (iblk m c 0 t) (Rect.unit off ![1024, 256] inb) (ix2 a j) = Z (row t a) (band p j) := by
  rw [View.ld_unit_apply_of _ _ _ _ _ (ix2 a (band p j)) (by subst ho; intro b; fin_cases b <;> simp [band] <;> rfl), blk0 h]

theorem band1 (t : Fin cfg0.N) (p : Fin 10) (off : Fin 2 → ℕ) (inb) (ho : off = ![0, p.val * 256]) (a : Fin 32) (j : Fin 256) :
    View.ld (iblk m c 1 t) (Rect.unit off ![32, 256] inb) (ix2 a j) = Z (prev t a) (band p j) := by
  rw [View.ld_unit_apply_of _ _ _ _ _ (ix2 a (band p j)) (by subst ho; intro b; fin_cases b <;> simp [band] <;> rfl), blk1 h]

/-- A tap's weights. -/
theorem tapA (t : Fin cfg0.N) (k : Fin 3) (off : Fin 2 → ℕ) (inb) (ho : off = ![k.val, 0]) (z : Fin 1) (j : Fin 256) :
    View.ld (iblk m c 5 t) (Rect.unit off ![1, 256] inb) (ix2 z j) = A k j := by
  rw [View.ld_unit_apply_of _ _ _ _ _ (ix2 (Fin.castLE (by decide) k) j) (by subst ho; intro b; fin_cases b <;> simp <;> rfl), blk5 h]

theorem tapC (t : Fin cfg0.N) (k : Fin 31) (off : Fin 2 → ℕ) (inb) (ho : off = ![k.val, 0]) (z : Fin 1) (j : Fin 256) :
    View.ld (iblk m c 6 t) (Rect.unit off ![1, 256] inb) (ix2 z j) = C k j := by
  rw [View.ld_unit_apply_of _ _ _ _ _ (ix2 (Fin.castLE (by decide) k) j) (by subst ho; intro b; fin_cases b <;> simp <;> rfl), blk6 h]

omit h in
theorem pay52 {p w2 w0 q0 w1 q1 zz} {a : Fin 1024} {j : Fin 256} {z0 a0 a1 a2 p0 p1 p2 : EReal} (h0 : zz (ix2 a j) = z0)
    (h1 : w2 (ix2 0 j) = a2) (h2 : p (ix2 a j) = p2) (h3 : w0 (ix2 0 j) = a0) (h4 : q0 (ix2 a j) = p0) (h5 : w1 (ix2 0 j) = a1)
    (h6 : q1 (ix2 a j) = p1) : k0_pay52 (F := Ideal) p w2 w0 q0 w1 q1 zz (ix2 a j) = z0 * (a0 * p0 + a1 * p1 + a2 * p2) := by
  pointwise [k0_pay52]
  rw [h0, h1, h2, h3, h4, h5, h6, add_assoc, add_comm]

omit h in
theorem pay49 {t : Fin cfg0.N} {x y : Vec Ideal S1024x256 .f32} (hx : ∀ a j, x (ix2 a j) = Z (row t a) (band 3 j))
    (hy : ∀ a j, y (ix2 a j) = Z (row t a) (band 4 j)) (a : Fin 1024) (j : Fin 256) : k0_pay49 (F := Ideal) x y (ix2 a j) = pb Z (row t a) j := by
  pointwise [k0_pay49]
  rw [hx, hy]
  rfl

omit h in
theorem pay51 {x : FVec Ideal S1024x256 .f32} {f : Fin 1024 → Fin 256 → EReal} (hx : ∀ a j, x (ix2 a j) = f a j) (a : Fin 1024) (j : Fin 256) :
    k0_pay51 (F := Ideal) x (ix2 a j) = f a j := by
  pointwise [k0_pay51]
  exact hx a j

omit h in
theorem pay50 {t : Fin cfg0.N} {x y : Vec Ideal S32x256 .f32} {k : Ideal .f32} (hx : ∀ a j, x (ix2 a j) = Z (prev t a) (band 3 j))
    (hy : ∀ a j, y (ix2 a j) = Z (prev t a) (band 4 j)) (a : Fin 32) (j : Fin 256) :
    k0_pay50 (F := Ideal) k x y (ix2 a j) = pb Z (prev t a) j * k := by
  pointwise [k0_pay50]
  rw [hx, hy]
  rfl

omit h in
theorem pay54 {t : Fin cfg0.N} {x y : Vec Ideal S1024x256 .f32} (hx : ∀ a j, x (ix2 a j) = Z (row t a) (band 8 j))
    (hy : ∀ a j, y (ix2 a j) = Z (row t a) (band 9 j)) (a : Fin 1024) (j : Fin 256) : k0_pay54 (F := Ideal) x y (ix2 a j) = hb Z (row t a) j := by
  pointwise [k0_pay54]
  rw [hx, hy, zero_sub]
  rfl

omit h in
theorem pay53 {t : Fin cfg0.N} {x y : Vec Ideal S32x256 .f32} {k : Ideal .f32} (hx : ∀ a j, x (ix2 a j) = Z (prev t a) (band 8 j))
    (hy : ∀ a j, y (ix2 a j) = Z (prev t a) (band 9 j)) (a : Fin 32) (j : Fin 256) :
    k0_pay53 (F := Ideal) k x y (Scalar.ofBits .f32 0x00000000#32) (ix2 a j) = hb Z (prev t a) j * k := by
  pointwise [k0_pay53]
  rw [hx, hy, zero_sub]
  rfl

/-- The short convolution's block. -/
theorem out10 (t : Fin cfg0.N) (a : Fin 1024) (j : Fin 256) : (outsAt0 m c t).2.1 (ix2 a j) = yb Z A (row t a) j := by
  unfold outsAt0
  frame_out
  have hp := pay49 (band0 h t 3 ![0, 768] inb_S1024x2560_S1024x256_0_768 rfl) (band0 h t 4 ![0, 1024] inb_S1024x2560_S1024x256_0_1024 rfl)
  have hh := pay50 (k := k0_pay2 (F := Ideal) (grid0.coords t)) (band1 h t 3 ![0, 768] inb_S32x2560_S32x256_0_768 rfl) (band1 h t 4 ![0, 1024] inb_S32x2560_S32x256_0_1024 rfl)
  refine (pay52 (band0 h t 2 ![0, 512] _ rfl a j) (tapA h t 2 ![2, 0] _ rfl 0 j) (hp a j) (tapA h t 0 ![0, 0] _ rfl 0 j)
    ((cov_rows _ _ _ a j ⟨30 + a.val, by omega⟩ rfl).trans (two (pay51 hp) hh _ _)) (tapA h t 1 ![1, 0] _ rfl 0 j)
    ((cov_rows _ _ _ a j ⟨31 + a.val, by omega⟩ rfl).trans (two (pay51 hp) hh _ _))).trans ?_
  unfold yb conv
  simp only [Fin.sum_univ_castSucc, Fin.sum_univ_zero, Fin.val_castSucc, Fin.val_last, zero_add]
  rw [inner (pb Z) t a j, show (row t a).val + (33 - 3) = t.val * 1024 + (30 + a.val) by show t.val * 1024 + a.val + 30 = _; omega,
    show 1 + (row t a).val + (33 - 3) = t.val * 1024 + (31 + a.val) by show 1 + (t.val * 1024 + a.val) + 30 = _; omega,
    show 2 + (row t a).val + (33 - 3) = t.val * 1024 + (32 + a.val) by show 2 + (t.val * 1024 + a.val) + 30 = _; omega]
  rfl

omit h in
/-- A band of rows above everything not yet read, or the bands below it. -/
theorem rows_down {o n : ℕ} {inb} {w : FVec Ideal ⟨2, ![n, 256]⟩ .f32} {L : List (View.Piece (Elt Ideal) S1024x256 .f32)} {a : Fin 1024} {j : Fin 256}
    {y : EReal} (ha : a.val < o + n) (hit : ∀ x : Fin n, a.val = o + x.val → w (ix2 x j) = y) (miss : a.val < o → View.canon L (ix2 a j) = y) :
    View.canon ((⟨Rect.unit (s := S1024x256) ![o, 0] ![n, 256] inb, w⟩ : View.Piece (Elt Ideal) S1024x256 .f32) :: L) (ix2 a j) = y := by
  refine Cert.StoreKit.canon_newest _ (fun u hu => ?_) fun ⟨b, hb⟩ => ?_
  · have h0 : a.val = o + (u 0).val := hu 0
    have h1 : j.val = 0 + (u 1).val := hu 1
    rw [← hit (u 0) h0]
    refine congrArg w (funext fun b => ?_)
    fin_cases b
    · rfl
    · exact Fin.ext (by show (u 1).val = j.val; omega)
  · have hj := j.isLt
    fin_cases b
    · have : a.val < o ∨ o + n ≤ a.val := hb
      exact miss (by omega)
    · have : j.val < 0 ∨ 0 + 256 ≤ j.val := hb
      omega

end Cert.MixfKernel

end
-- ==== Proof.MixfGate.lean ====
/- The mixing layer's spatial gating, band by band. -/
module

public import proofs.«01_k».proof.Proof.MixfKernel
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.MixfKernel

open Cert.KernelMixfIdeal Cert.KernelMixfIdeal.Gen Cert.RealKit Cert.FwdMath Cert.MixfMath

variable {m : (ℓ : Loc nD τ sig) → Buf (Elt Ideal) ℓ} {c : Dev nD}
variable {Z : Fin 16384 → Fin 2560 → EReal} {v n b : Fin 256 → EReal} {W : Fin 4 → Fin 128 → Fin 128 → EReal} {B : Fin 4 → Fin 128 → EReal}
  {A : Fin 3 → Fin 256 → EReal} {C : Fin 31 → Fin 256 → EReal}
variable (h : Args m c Z v n b W B A C)
include h

omit h in
/-- The lanes of a head. -/
theorem lane : ∀ (j : Fin 256) (k : Fin 4), k0_pay3 (ix2 0 j) = BitVec.ofNat 32 k.val ↔ hd j = k := by decide +kernel

theorem ld3 (t : Fin cfg0.N) (k : Fin 4) (off : Fin 3 → ℕ) (inb) (ho : off = ![k.val, 0, 0]) (z : Fin 1) (i s : Fin 128) :
    View.ld (iblk m c 3 t) (Rect.unit off ![1, 128, 128] inb) (ix3 z i s) = W k i s := by
  rw [View.ld_unit_apply_of _ _ _ _ _ (ix3 k i s) (by subst ho; intro b; fin_cases b <;> simp <;> rfl), blk3 h]

theorem ld0 (t : Fin cfg0.N) (p : Fin 2) (inb) (a : Fin 1024) (j : Fin 256) (i : Fin 512) (hi : i.val = p.val * 256 + j.val) :
    View.ld (iblk m c 0 t) (Rect.unit ![0, 0] ![1024, 512] inb) (ix2 a i) = Z (row t a) (band (Fin.castLE (by decide) p) j) := by
  rw [View.ld_unit_apply_of _ _ _ _ _ (ix2 a (band (Fin.castLE (by decide) p) j)) (by
    intro b; fin_cases b
    · exact (Nat.zero_add _).symm
    · show p.val * 256 + j.val = 0 + i.val; omega), blk0 h]

omit h in
/-- The unit's two halves. -/
theorem pay4 {x : Vec Ideal S1024x512 .f32} (a : Fin 1024) (i : Fin 512) : k0_pay4 (F := Ideal) x (ix2 a i) = gelu (x (ix2 a i)) := by
  pointwise [k0_pay4]
  simp only [gelu, mul_assoc]
  rw [mul_left_comm]
  rfl

theorem pay5 (t : Fin cfg0.N) (inb) (a : Fin 1024) (j : Fin 256) :
    k0_pay5 (F := Ideal) (View.ld (iblk m c 0 t) (Rect.unit ![0, 0] ![1024, 512] inb)) (ix2 a j) = gelu (Z (row t a) (band 0 j)) := by
  pointwise [k0_pay5]
  exact (pay4 a _).trans (congrArg gelu (ld0 h t 0 inb a j _ (by show _ = 0 * 256 + j.val; simp)))

theorem pay6 (t : Fin cfg0.N) (inb) (a : Fin 1024) (j : Fin 256) :
    k0_pay6 (F := Ideal) (View.ld (iblk m c 0 t) (Rect.unit ![0, 0] ![1024, 512] inb)) (ix2 a j) = gelu (Z (row t a) (band 1 j)) := by
  pointwise [k0_pay6]
  exact (pay4 a _).trans (congrArg gelu (ld0 h t 1 inb a j _ (by show _ = 1 * 256 + j.val; simp)))

theorem pay7 (t : Fin cfg0.N) (inb) (a : Fin 1024) (j : Fin 256) :
    k0_pay7 (F := Ideal) (View.ld (iblk m c 0 t) (Rect.unit ![0, 0] ![1024, 512] inb)) (ix2 a j)
      = gelu (Z (row t a) (band 1 j)) * gelu (Z (row t a) (band 1 j)) := by
  pointwise [k0_pay7]
  rw [pay6 h]

omit h in
theorem pay8 {t : Fin cfg0.N} {x y : FVec Ideal S1024x256 .f32} {g : Vec Ideal S1x256 .f32} (hx : ∀ a j, x (ix2 a j) = gelu (Z (row t a) (band 1 j)))
    (hy : ∀ a j, y (ix2 a j) = gelu (Z (row t a) (band 1 j)) * gelu (Z (row t a) (band 1 j))) (hg : ∀ j, g (ix2 0 j) = v j)
    (a : Fin 1024) (j : Fin 256) : k0_pay8 (F := Ideal) x y g (ix2 a j) = vn Z v (row t a) j := by
  pointwise [k0_pay8]
  simp only [hx, hy, hg]
  rfl

omit h in
/-- One head's mixing, added. -/
theorem gate {acc : FVec Ideal S128x256 .f32} {w : Vec Ideal S1x128x128 .bf16} {y : FVec Ideal S1024x256 .bf16} {o : ℕ} {k : Fin 4} {q : BitVec 32}
    {h1 h2 h3 h4} {t : Fin cfg0.N} {x : Fin 128} {j : Fin 256} {p : EReal} (ho : o + 128 ≤ 1024) (hq : q = BitVec.ofNat 32 k.val)
    (hacc : acc (ix2 x j) = p) (hw : ∀ s, w (ix3 0 x s) = W k x s) (hy : ∀ a j, y (ix2 a j) = vn Z v (row t a) j) :
    addf (F := Ideal) acc (matmul (F := Ideal) (φ₁ := .bf16) dot_S128x128_S128x256_S128x256_1_0_0_1_n_n none (shapeCast (α := Ideal .bf16) S128x128 w h1)
      (select (broadcastTo S128x256 (shapeCast S1x256 (cmpi .eq k0_pay3 (broadcast S1x256 q)) h2) h3)
        (extractStridedSlice S128x256 ![o, 0] y h4) (broadcast S128x256 (Scalar.sitofp (F := Ideal) .bf16 0#32)))
      (constant S128x256 .f32 0x00000000#32)) (ix2 x j)
      = p + if hd j = k then ∑ s : Fin 128, W k x s * vn Z v (row t ⟨o + s.val, by omega⟩) j else 0 := by
  pointwise
  have e := lane j k
  rw [← hq] at e
  simp only [hacc, hw, hy]
  congr 1
  by_cases hk : hd j = k
  · rw [if_pos hk, e.2 hk]
    simp [Scalar.select, IntOp.cmpi]
  · rw [if_neg hk]
    have e' : k0_pay3 (ix2 0 j) ≠ q := fun u => hk (e.1 u)
    simp [Scalar.select, IntOp.cmpi, beq_eq_false_iff_ne.2 e']

omit h in
theorem heads (b : EReal) (g : Fin 4 → EReal) (q : Fin 4) :
    b + (if q = 0 then g 0 else 0) + (if q = 1 then g 1 else 0) + (if q = 2 then g 2 else 0) + (if q = 3 then g 3 else 0) = g q + b := by
  fin_cases q <;> simp [add_comm]

omit h in
theorem base {y : Vec Ideal S128x256 .f32} {h1} (x : Fin 128) (j : Fin 256) : shapeCast (α := Ideal .f32) S128x256 y h1 (ix2 x j) = y (ix2 x j) := by
  pointwise

omit h in
/-- The gate's product. -/
theorem half {u : FVec Ideal S1024x256 .f32} {acc : FVec Ideal S128x256 .f32} {o : ℕ} {h1} {t : Fin cfg0.N} {x : Fin 128} {j : Fin 256} {p : EReal}
    (ho : o + 128 ≤ 1024) (hu : ∀ a j, u (ix2 a j) = gelu (Z (row t a) (band 0 j))) (hacc : acc (ix2 x j) = p) :
    mulf (F := Ideal) (extractStridedSlice S128x256 ![o, 0] u h1) acc (ix2 x j) = gelu (Z (row t ⟨o + x.val, by omega⟩) (band 0 j)) * p := by
  pointwise
  rw [hacc, hu]

omit h in
theorem chunk {o : ℕ} {t : Fin cfg0.N} {a : Fin 1024} {x : Fin 128} {j : Fin 256} (ho : o + 128 ≤ 1024) (hm : o % 128 = 0) (ha : a.val = o + x.val) :
    gelu (Z (row t ⟨o + x.val, by omega⟩) (band 0 j)) * (B (hd j) x
      + (if hd j = 0 then ∑ s : Fin 128, W 0 x s * vn Z v (row t ⟨o + s.val, by omega⟩) j else 0)
      + (if hd j = 1 then ∑ s : Fin 128, W 1 x s * vn Z v (row t ⟨o + s.val, by omega⟩) j else 0)
      + (if hd j = 2 then ∑ s : Fin 128, W 2 x s * vn Z v (row t ⟨o + s.val, by omega⟩) j else 0)
      + (if hd j = 3 then ∑ s : Fin 128, W 3 x s * vn Z v (row t ⟨o + s.val, by omega⟩) j else 0)) = ya Z v W B (row t a) j := by
  rw [show row t a = row t ⟨o + x.val, by omega⟩ from congrArg (row t) (Fin.ext ha)]
  rw [heads (B (hd j) x) (fun k => ∑ s : Fin 128, W k x s * vn Z v (row t ⟨o + s.val, by omega⟩) j) (hd j)]
  have hp : place (row t ⟨o + x.val, by omega⟩) = x := Fin.ext (by show (t.val * 1024 + (o + x.val)) % 128 = x.val; omega)
  have hmt : ∀ s : Fin 128, mate (row t ⟨o + x.val, by omega⟩) s = row t ⟨o + s.val, by omega⟩ := fun s =>
    Fin.ext (by show (t.val * 1024 + (o + x.val)) / 128 * 128 + s.val = t.val * 1024 + (o + s.val); omega)
  unfold ya
  rw [hp]
  simp only [hmt]

set_option maxHeartbeats 4000000 in
/-- The gating unit's block. -/
theorem out9 (t : Fin cfg0.N) (a : Fin 1024) (j : Fin 256) : (outsAt0 m c t).1 (ix2 a j) = ya Z v W B (row t a) j := by
  unfold outsAt0
  frame_out
  have hu := pay5 h t inb_S1024x2560_S1024x512_0_0
  have hv := pay8 (pay6 h t inb_S1024x2560_S1024x512_0_0) (pay7 h t inb_S1024x2560_S1024x512_0_0) (blk2 h t 0)
  have ha : a.val < 896 + 128 := a.isLt
  iterate 8
    refine rows_down ha (fun x hx => ?_) fun hb => ?_
    · refine Eq.trans ?_ (chunk (by decide) (by decide) hx)
      refine half (h1 := by decide) (by decide) hu ?_
      refine gate (k := 3) (h1 := shapeCasts_S1x128x128_S128x128) (h2 := shapeCasts_S1x256_S1x256) (h3 := broadcasts_S1x256_S128x256) (h4 := by decide)
        (by decide) rfl ?_ (ld3 h t 3 _ _ rfl 0 x) hv
      refine gate (k := 2) (h1 := shapeCasts_S1x128x128_S128x128) (h2 := shapeCasts_S1x256_S1x256) (h3 := broadcasts_S1x256_S128x256) (h4 := by decide)
        (by decide) rfl ?_ (ld3 h t 2 _ _ rfl 0 x) hv
      refine gate (k := 1) (h1 := shapeCasts_S1x128x128_S128x128) (h2 := shapeCasts_S1x256_S1x256) (h3 := broadcasts_S1x256_S128x256) (h4 := by decide)
        (by decide) rfl ?_ (ld3 h t 1 _ _ rfl 0 x) hv
      refine gate (k := 0) (h1 := shapeCasts_S1x128x128_S128x128) (h2 := shapeCasts_S1x256_S1x256) (h3 := broadcasts_S1x256_S128x256) (h4 := by decide)
        (by decide) rfl ?_ (ld3 h t 0 _ _ rfl 0 x) hv
      exact (base (h1 := shapeCasts_S128x256_S128x256) x j).trans (blk4 h t x j)
    clear ha
    have ha := hb
    clear hb
  exact absurd ha (Nat.not_lt_zero _)

end Cert.MixfKernel

end
-- ==== Proof.MixfConv.lean ====
/- The mixing layer's long convolution, from its shifted copies. -/
module

public import proofs.«01_k».proof.Proof.MixfKernel
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.MixfKernel

open Cert.KernelMixfIdeal Cert.KernelMixfIdeal.Gen Cert.RealKit Cert.FwdMath Cert.MixfMath

variable {m : (ℓ : Loc nD τ sig) → Buf (Elt Ideal) ℓ} {c : Dev nD}
variable {Z : Fin 16384 → Fin 2560 → EReal} {v n b : Fin 256 → EReal} {W : Fin 4 → Fin 128 → Fin 128 → EReal} {B : Fin 4 → Fin 128 → EReal}
  {A : Fin 3 → Fin 256 → EReal} {C : Fin 31 → Fin 256 → EReal}
variable (h : Args m c Z v n b W B A C)
include h

omit h in
/-- The copies' cast adds a leading axis. -/
theorem lead {n : ℕ} {hc : (⟨2, ![n, 256]⟩ : Shape).ShapeCasts ⟨3, ![1, n, 256]⟩} (x : FVec Ideal ⟨2, ![n, 256]⟩ .f32) (i : Fin n) (j : Fin 256) :
    shapeCast (α := EReal) ⟨3, ![1, n, 256]⟩ x hc (ix3 0 i j) = x (ix2 i j) :=
  ValueIdx.shapeCast_ab_1ab_apply _ _ _ _ _

variable (m c) in
/-- The stores of the long convolution's argument with the rows before it. -/
def hparts (t : Fin cfg0.N) : List (View.Piece (Elt Ideal) S1056x256 .f32) :=
  [⟨Rect.unit (s := S1056x256) ![32, 0] ![1024, 256] inb_S1056x256_S1024x256_32_0,
      k0_pay54 (F := Ideal) (View.ld (iblk m c 0 t) (Rect.unit ![0, 2048] ![1024, 256] inb_S1024x2560_S1024x256_0_2048))
        (View.ld (iblk m c 0 t) (Rect.unit ![0, 2304] ![1024, 256] inb_S1024x2560_S1024x256_0_2304))⟩,
    ⟨Rect.unit (s := S1056x256) ![0, 0] ![32, 256] inb_S1056x256_S32x256_0_0,
      k0_pay53 (F := Ideal) (k0_pay2 (grid0.coords t)) (View.ld (iblk m c 1 t) (Rect.unit ![0, 2048] ![32, 256] inb_S32x2560_S32x256_0_2048))
        (View.ld (iblk m c 1 t) (Rect.unit ![0, 2304] ![32, 256] inb_S32x2560_S32x256_0_2304)) (FloatOps.ofBits .f32 0#32)⟩]

theorem hparts_at (t : Fin cfg0.N) (i : Fin 1056) (j : Fin 256) :
    View.canon (hparts m c t) (ix2 i j) = MixfMath.pad (hb Z) (t.val * 1024 + i.val) j :=
  two (pay54 (band0 h t 8 ![0, 2048] inb_S1024x2560_S1024x256_0_2048 rfl) (band0 h t 9 ![0, 2304] inb_S1024x2560_S1024x256_0_2304 rfl))
    (pay53 (band1 h t 8 ![0, 2048] inb_S32x2560_S32x256_0_2048 rfl) (band1 h t 9 ![0, 2304] inb_S32x2560_S32x256_0_2304 rfl)) i j

variable (m c) in
/-- The eight shifted copies' stores. -/
def copies (t : Fin cfg0.N) : List (View.Piece (Elt Ideal) S8x1048x256 .f32) := [
    ⟨Rect.unit (s := S8x1048x256) ![7, 0, 0] ![1, 1048, 256] inb_S8x1048x256_S1x1048x256_7_0_0, shapeCast S1x1048x256
      ((View.whole cc0_scratch1).readCov (hparts m c t) (Rect.unit (s := S1056x256) ![7, 0] ![1048, 256] inb_S1056x256_S1048x256_7_0).toLoadRect) shapeCasts_S1048x256_S1x1048x256⟩,
    ⟨Rect.unit (s := S8x1048x256) ![6, 0, 0] ![1, 1048, 256] inb_S8x1048x256_S1x1048x256_6_0_0, shapeCast S1x1048x256
      ((View.whole cc0_scratch1).readCov (hparts m c t) (Rect.unit (s := S1056x256) ![6, 0] ![1048, 256] inb_S1056x256_S1048x256_6_0).toLoadRect) shapeCasts_S1048x256_S1x1048x256⟩,
    ⟨Rect.unit (s := S8x1048x256) ![5, 0, 0] ![1, 1048, 256] inb_S8x1048x256_S1x1048x256_5_0_0, shapeCast S1x1048x256
      ((View.whole cc0_scratch1).readCov (hparts m c t) (Rect.unit (s := S1056x256) ![5, 0] ![1048, 256] inb_S1056x256_S1048x256_5_0).toLoadRect) shapeCasts_S1048x256_S1x1048x256⟩,
    ⟨Rect.unit (s := S8x1048x256) ![4, 0, 0] ![1, 1048, 256] inb_S8x1048x256_S1x1048x256_4_0_0, shapeCast S1x1048x256
      ((View.whole cc0_scratch1).readCov (hparts m c t) (Rect.unit (s := S1056x256) ![4, 0] ![1048, 256] inb_S1056x256_S1048x256_4_0).toLoadRect) shapeCasts_S1048x256_S1x1048x256⟩,
    ⟨Rect.unit (s := S8x1048x256) ![3, 0, 0] ![1, 1048, 256] inb_S8x1048x256_S1x1048x256_3_0_0, shapeCast S1x1048x256
      ((View.whole cc0_scratch1).readCov (hparts m c t) (Rect.unit (s := S1056x256) ![3, 0] ![1048, 256] inb_S1056x256_S1048x256_3_0).toLoadRect) shapeCasts_S1048x256_S1x1048x256⟩,
    ⟨Rect.unit (s := S8x1048x256) ![2, 0, 0] ![1, 1048, 256] inb_S8x1048x256_S1x1048x256_2_0_0, shapeCast S1x1048x256
      ((View.whole cc0_scratch1).readCov (hparts m c t) (Rect.unit (s := S1056x256) ![2, 0] ![1048, 256] inb_S1056x256_S1048x256_2_0).toLoadRect) shapeCasts_S1048x256_S1x1048x256⟩,
    ⟨Rect.unit (s := S8x1048x256) ![1, 0, 0] ![1, 1040, 256] inb_S8x1048x256_S1x1040x256_1_0_0, shapeCast S1x1040x256
      ((View.whole cc0_scratch1).readCov (hparts m c t) (Rect.unit (s := S1056x256) ![9, 0] ![1040, 256] inb_S1056x256_S1040x256_9_0).toLoadRect) shapeCasts_S1040x256_S1x1040x256⟩,
    ⟨Rect.unit (s := S8x1048x256) ![0, 0, 0] ![1, 1048, 256] inb_S8x1048x256_S1x1048x256_0_0_0, shapeCast S1x1048x256
      ((View.whole cc0_scratch1).readCov (hparts m c t) (Rect.unit (s := S1056x256) ![8, 0] ![1048, 256] inb_S1056x256_S1048x256_8_0).toLoadRect) shapeCasts_S1048x256_S1x1048x256⟩]

omit h in
/-- One copy, or the ones stored before it. -/
theorem copy_newest {q n : ℕ} {inb} {w : (⟨3, ![1, n, 256]⟩ : Shape).Idx → EReal} {L : List (View.Piece (Elt Ideal) S8x1048x256 .f32)}
    {r : Fin 8} {i : Fin 1048} {j : Fin 256} {y : EReal} (hn : r.val = q → i.val < n)
    (hit : r.val = q → ∀ x : Fin n, x.val = i.val → w (ix3 0 x j) = y) (miss : r.val ≠ q → View.canon L (ix3 r i j) = y) :
    View.canon ((⟨Rect.unit (s := S8x1048x256) ![q, 0, 0] ![1, n, 256] inb, w⟩ : View.Piece (Elt Ideal) S8x1048x256 .f32) :: L) (ix3 r i j) = y := by
  refine Cert.StoreKit.canon_newest _ (fun u hu => ?_) fun ⟨b, hb⟩ => ?_
  · have h0 : r.val = q + (u 0).val := hu 0
    have h1 : i.val = 0 + (u 1).val := hu 1
    have h2 : j.val = 0 + (u 2).val := hu 2
    have h3 : (u 0).val < 1 := (u 0).isLt
    rw [← hit (by omega) ⟨(u 1).val, (u 1).isLt⟩ (by show (u 1).val = _; omega)]
    refine congrArg w (funext fun a => ?_)
    fin_cases a
    · exact Fin.ext (by show (u 0).val = 0; omega)
    · rfl
    · exact Fin.ext (by show (u 2).val = j.val; omega)
  · refine miss fun e => ?_
    have h1 := hn e
    have hj := j.isLt
    fin_cases b
    · have : r.val < q ∨ q + 1 ≤ r.val := hb
      omega
    · have : i.val < 0 ∨ 0 + n ≤ i.val := hb
      omega
    · have : j.val < 0 ∨ 0 + 256 ≤ j.val := hb
      omega

/-- What the copies hold: copy `r` starts at the row its residue names. -/
theorem copies_at (t : Fin cfg0.N) (r : Fin 8) (i : Fin 1048) (j : Fin 256) (hi : r.val = 1 → i.val < 1040) :
    View.canon (copies m c t) (ix3 r i j) = MixfMath.pad (hb Z) (t.val * 1024 + ((r.val + 6) % 8 + 2 + i.val)) j := by
  have key : ∀ {n : ℕ} {o : ℕ} {inb} {hc} (x : Fin n), x.val = i.val → o = (r.val + 6) % 8 + 2 →
      shapeCast (α := EReal) ⟨3, ![1, n, 256]⟩ ((View.whole cc0_scratch1).readCov (hparts m c t) (Rect.unit (s := S1056x256) ![o, 0] ![n, 256] inb).toLoadRect) hc (ix3 0 x j)
        = MixfMath.pad (hb Z) (t.val * 1024 + ((r.val + 6) % 8 + 2 + i.val)) j := by
    intro n o inb hc x hx ho
    have hb : o + n ≤ 1056 := inb 0
    refine (lead (n := n) _ x j).trans ((cov_rows _ _ inb x j ⟨o + x.val, by omega⟩ rfl).trans ((hparts_at h t _ j).trans ?_))
    rw [← ho, ← hx]
  unfold copies
  refine copy_newest (by omega) (fun e x hx => key x hx (by omega)) fun h7 => ?_
  refine copy_newest (by omega) (fun e x hx => key x hx (by omega)) fun h6 => ?_
  refine copy_newest (by omega) (fun e x hx => key x hx (by omega)) fun h5 => ?_
  refine copy_newest (by omega) (fun e x hx => key x hx (by omega)) fun h4 => ?_
  refine copy_newest (by omega) (fun e x hx => key x hx (by omega)) fun h3 => ?_
  refine copy_newest (by omega) (fun e x hx => key x hx (by omega)) fun h2 => ?_
  refine copy_newest (by omega) (fun e x hx => key x hx (by omega)) fun h1 => ?_
  refine copy_newest (by omega) (fun e x hx => key x hx (by omega)) fun h0 => ?_
  exfalso; omega

/-- A load of a copy's rows. -/
theorem cp {t : Fin cfg0.N} {q o k : ℕ} {inb} {x : Fin 32} {j : Fin 256} (hq : q = 1 → o ≤ 1008)
    (hk : k = t.val * 1024 + ((q + 6) % 8 + 2 + (o + x.val))) :
    (View.whole cc0_scratch2).readCov (copies m c t) (Rect.unit (s := S8x1048x256) ![q, o, 0] ![1, 32, 256] inb).toLoadRect (ix3 0 x j) = MixfMath.pad (hb Z) k j := by
  have h0 : q + 1 ≤ 8 := inb 0
  have h1 : o + 32 ≤ 1048 := inb 1
  rw [cov_at (ix3 (⟨q, by omega⟩ : Fin 8) (⟨o + x.val, by omega⟩ : Fin 1048) j) fun b => ?_, copies_at h t, hk]
  · intro e; have := hq e; show o + x.val < 1040; omega
  · fin_cases b
    · rfl
    · rfl
    · exact (Nat.zero_add _).symm

/-- The long convolution's first taps. -/
def part (C : Fin 31 → Fin 256 → EReal) (f : Fin 16384 → Fin 256 → EReal) (r : Fin 16384) (j : Fin 256) : ℕ → EReal
  | 0 => 0
  | k + 1 => part C f r j k + (if hk : k < 31 then C ⟨k, hk⟩ j else 0) * MixfMath.pad f (k + r.val + 2) j

omit h in
theorem part_cc (r : Fin 16384) (j : Fin 256) : part C (hb Z) r j 31 = cc Z C r j := by
  have e : ∀ k, part C (hb Z) r j k = ∑ i ∈ Finset.range k, ((if hk : i < 31 then C ⟨i, hk⟩ j else 0) * MixfMath.pad (hb Z) (i + r.val + 2) j : EReal) := by
    intro k
    induction k with
    | zero => exact (Finset.sum_range_zero _).symm
    | succ k ih => rw [Finset.sum_range_succ, ← ih]; rfl
  unfold cc conv
  refine (e 31).trans ((Finset.sum_range _).trans ?_)
  refine Finset.sum_congr rfl fun i _ => ?_
  rw [dif_pos i.isLt]

omit h in
/-- One tap more. -/
theorem tap {acc : FVec Ideal S32x256 .f32} {w : Vec Ideal S1x256 .f32} {q : Vec Ideal S1x32x256 .f32} {h1 h2 h3} {x : Fin 32} {j : Fin 256}
    {f : Fin 16384 → Fin 256 → EReal} {r : Fin 16384} {k : ℕ} (hk : k < 31) (ha : acc (ix2 x j) = part C f r j k) (hw : w (ix2 0 j) = C ⟨k, hk⟩ j)
    (hq : q (ix3 0 x j) = MixfMath.pad f (k + r.val + 2) j) :
    addf (F := Ideal) acc (mulf (broadcastTo S32x256 (shapeCast S1x256 w h1) h2) (shapeCast S32x256 q h3)) (ix2 x j) = part C f r j (k + 1) := by
  pointwise
  rw [ha, hw, hq]
  simp only [part, dif_pos hk]

omit h in
theorem zero32 {x : Fin 32} {j : Fin 256} {f : Fin 16384 → Fin 256 → EReal} {r : Fin 16384} :
    broadcast (α := Ideal .f32) S32x256 (Scalar.ofBits .f32 0x00000000#32) (ix2 x j) = part C f r j 0 := by
  pointwise
  rfl

set_option maxHeartbeats 8000000 in
/-- The long convolution's block. -/
theorem out12 (t : Fin cfg0.N) (a : Fin 1024) (j : Fin 256) : (outsAt0 m c t).2.2.2 (ix2 a j) = cc Z C (row t a) j := by
  rw [← part_cc]
  unfold outsAt0
  frame_out
  have hr : (row t a).val = t.val * 1024 + a.val := rfl
  have ha : a.val < 992 + 32 := a.isLt
  iterate 32
    refine rows_down ha (fun x hx => ?_) fun hb => ?_
    · iterate 31 refine tap (by decide) ?_ (tapC h t ⟨_, _⟩ _ _ rfl 0 j) (cp h (by decide) (by omega))
      exact zero32 (x := x)
    clear ha
    have ha := hb
    clear hb
  exact absurd ha (Nat.not_lt_zero _)

end Cert.MixfKernel

end
-- ==== Proof.MixfNorm.lean ====
/- The mixing layer's normalised long convolution. -/
module

public import proofs.«01_k».proof.Proof.MixfConv
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.MixfKernel

open Cert.KernelMixfIdeal Cert.KernelMixfIdeal.Gen Cert.RealKit Cert.FwdMath Cert.MixfMath

variable {m : (ℓ : Loc nD τ sig) → Buf (Elt Ideal) ℓ} {c : Dev nD}
variable {Z : Fin 16384 → Fin 2560 → EReal} {v n b : Fin 256 → EReal} {W : Fin 4 → Fin 128 → Fin 128 → EReal} {B : Fin 4 → Fin 128 → EReal}
  {A : Fin 3 → Fin 256 → EReal} {C : Fin 31 → Fin 256 → EReal}
variable (h : Args m c Z v n b W B A C)
include h

omit h in
/-- A row less its mean. -/
theorem pay491 {y : Vec Ideal S1024x256 .f32} {t : Fin cfg0.N} (hy : ∀ a j, y (ix2 a j) = cc Z C (row t a) j) (a : Fin 1024) (j : Fin 256) :
    k0_pay491 (F := Ideal) y (ix2 a j) = cen (cc Z C (row t a)) j := by
  pointwise [k0_pay491]
  simp only [hy]
  rfl

omit h in
theorem pay492 {y : Vec Ideal S1024x256 .f32} {t : Fin cfg0.N} (hy : ∀ a j, y (ix2 a j) = cc Z C (row t a) j) (a : Fin 1024) (z : Fin 1) :
    k0_pay492 (F := Ideal) y (ix2 a z) = scale (Ideal.ofBits .f32 0x43800000#32) (cen (cc Z C (row t a))) := by
  pointwise [k0_pay492]
  simp only [pay491 hy]
  rfl

omit h in
/-- The layer norm. -/
theorem pay493 {x : FVec Ideal S1024x256 .f32} {s : FVec Ideal S1024x1 .f32} {p q : Vec Ideal S1x256 .f32} {t : Fin cfg0.N}
    (hx : ∀ a j, x (ix2 a j) = cen (cc Z C (row t a)) j) (hs : ∀ a z, s (ix2 a z) = scale (Ideal.ofBits .f32 0x43800000#32) (cen (cc Z C (row t a))))
    (hp : ∀ j, p (ix2 0 j) = n j) (hq : ∀ j, q (ix2 0 j) = b j) (a : Fin 1024) (j : Fin 256) :
    k0_pay493 (F := Ideal) x s p q (ix2 a j) = lnorm (cc Z C (row t a)) n b j := by
  pointwise [k0_pay493]
  simp only [hx, hs, hp, hq]
  rfl

omit h in
theorem pay494 {x : FVec Ideal S1024x256 .f32} {s : FVec Ideal S1024x1 .f32} {p q : Vec Ideal S1x256 .f32} {t : Fin cfg0.N}
    (hx : ∀ a j, x (ix2 a j) = cen (cc Z C (row t a)) j) (hs : ∀ a z, s (ix2 a z) = scale (Ideal.ofBits .f32 0x43800000#32) (cen (cc Z C (row t a))))
    (hp : ∀ j, p (ix2 0 j) = n j) (hq : ∀ j, q (ix2 0 j) = b j) (a : Fin 1024) (j : Fin 256) :
    k0_pay494 (F := Ideal) x s p q (ix2 a j) = one + Ideal.exp (-lnorm (cc Z C (row t a)) n b j) := by
  pointwise [k0_pay494]
  simp only [pay493 hx hs hp hq, zero_sub]
  rfl

omit h in
theorem pay1 {x y : FVec Ideal S1024x256 .f32} {t : Fin cfg0.N} (hx : ∀ a j, x (ix2 a j) = lnorm (cc Z C (row t a)) n b j)
    (hy : ∀ a j, y (ix2 a j) = one + Ideal.exp (-lnorm (cc Z C (row t a)) n b j)) (a : Fin 1024) (j : Fin 256) :
    k0_pay1 (F := Ideal) x y k0_pay495 (ix2 a j) = yd Z C n b (row t a) j := by
  pointwise [k0_pay1, k0_pay495]
  simp only [hx, hy]
  rfl

set_option maxHeartbeats 4000000 in
/-- The normalised block. -/
theorem out11 (t : Fin cfg0.N) (a : Fin 1024) (j : Fin 256) : (outsAt0 m c t).2.2.1 (ix2 a j) = yd Z C n b (row t a) j := by
  have hc : ∀ a j, (outsAt0 m c t).2.2.2 (ix2 a j) = cc Z C (row t a) j := out12 h t
  unfold outsAt0
  unfold outsAt0 at hc
  frame_out
  frame_out at hc
  refine pay1 (pay493 (pay491 ?_) (pay492 ?_) (blk7 h t 0) (blk8 h t 0)) (pay494 (pay491 ?_) (pay492 ?_) (blk7 h t 0) (blk8 h t 0)) a j
  all_goals
    exact fun a j => (cov_at (ix2 a j) (by intro b; fin_cases b <;> exact (Nat.zero_add _).symm)).trans (hc a j)

end Cert.MixfKernel

end
-- ==== Proof.MixfOut.lean ====
/- The mixing layer's forward kernel's four result arrays. -/
module

public import proofs.«01_k».proof.Proof.MixfGate
public import proofs.«01_k».proof.Proof.MixfNorm

@[expose] public section

set_option maxRecDepth 16384

noncomputable section

open Idealize.ShloMosaic Idealize.ShloMosaic.TcCoe Idealize.SL.Sem
open Idealize.ShloMosaic.Pipeline (Dat)

namespace Cert.MixfKernel

open Cert.KernelMixfIdeal Cert.KernelMixfIdeal.Gen Cert.RealKit Cert.FwdMath Cert.MixfMath

variable {m : (ℓ : Loc nD τ sig) → Buf (Elt Ideal) ℓ} {c : Dev nD}
variable {Z : Fin 16384 → Fin 2560 → EReal} {v n b : Fin 256 → EReal} {W : Fin 4 → Fin 128 → Fin 128 → EReal} {B : Fin 4 → Fin 128 → EReal}
  {A : Fin 3 → Fin 256 → EReal} {C : Fin 31 → Fin 256 → EReal}
variable (h : Args m c Z v n b W B A C)
include h

/-- The gating unit's array. -/
theorem final9 : (dats m 0 c).arrAt 9 (cfgs 0).N = fun i => ya Z v W B (i 0) (i 1) := by
  refine (dats m 0 c).arrAt_eq_of_covers 9 _ (by decide +kernel) fun t _ y => ?_
  blk_simp
  rw [after0_9]
  idx_vars y
  rw [out9 h t y0 y1, show (((View.whole main_v12_0).slice (win0_9.rect t)).emb (ix2 y0 y1) : S16384x256.Idx) = ix2 (row t y0) y1 by
    blk_ext [idx t, row]]
  rfl

/-- The short convolution's array. -/
theorem final10 : (dats m 0 c).arrAt 10 (cfgs 0).N = fun i => yb Z A (i 0) (i 1) := by
  refine (dats m 0 c).arrAt_eq_of_covers 10 _ (by decide +kernel) fun t _ y => ?_
  blk_simp
  rw [after0_10]
  idx_vars y
  rw [out10 h t y0 y1, show (((View.whole main_v12_1).slice (win0_10.rect t)).emb (ix2 y0 y1) : S16384x256.Idx) = ix2 (row t y0) y1 by
    blk_ext [idx t, row]]
  rfl

/-- The normalised long convolution's array. -/
theorem final11 : (dats m 0 c).arrAt 11 (cfgs 0).N = fun i => yd Z C n b (i 0) (i 1) := by
  refine (dats m 0 c).arrAt_eq_of_covers 11 _ (by decide +kernel) fun t _ y => ?_
  blk_simp
  rw [after0_11]
  idx_vars y
  rw [out11 h t y0 y1, show (((View.whole main_v12_2).slice (win0_11.rect t)).emb (ix2 y0 y1) : S16384x256.Idx) = ix2 (row t y0) y1 by
    blk_ext [idx t, row]]
  rfl

/-- The long convolution's array. -/
theorem final12 : (dats m 0 c).arrAt 12 (cfgs 0).N = fun i => cc Z C (i 0) (i 1) := by
  refine (dats m 0 c).arrAt_eq_of_covers 12 _ (by decide +kernel) fun t _ y => ?_
  blk_simp
  rw [after0_12]
  idx_vars y
  rw [out12 h t y0 y1, show (((View.whole main_v12_3).slice (win0_12.rect t)).emb (ix2 y0 y1) : S16384x256.Idx) = ix2 (row t y0) y1 by
    blk_ext [idx t, row]]
  rfl

end Cert.MixfKernel

end
-- ==== Proof.MixfRef.lean ====
/- What the mixers' forward reference computes, read operation by operation. -/
module

public import proofs.«01_k».proof.Proof.MixfMath
public import proofs.«01_k».proof.Proof.Gen.ReferenceMixfIdeal.Read
public import Idealize.ShloMosaic.Lib.Claim

@[expose] public section

set_option maxRecDepth 16384

noncomputable section

open Idealize.ShloMosaic Idealize.SL.Sem

namespace Cert.MixfRef

open Cert.ReferenceMixfIdeal Cert.ReferenceMixfIdeal.Gen Cert.ReferenceMixfIdeal.Read Cert.RealKit Cert.MixfMath Cert.FwdMath

variable {x0 : (⟨S16384x2560, .f32⟩ : BufTy).Contents (Elt Ideal)} {x1 x6 x7 : (⟨S256, .f32⟩ : BufTy).Contents (Elt Ideal)}
variable {x2 : (⟨S4x128x128, .f32⟩ : BufTy).Contents (Elt Ideal)} {x3 : (⟨S4x128, .f32⟩ : BufTy).Contents (Elt Ideal)}
variable {x4 : (⟨S3x256, .f32⟩ : BufTy).Contents (Elt Ideal)} {x5 : (⟨S31x256, .f32⟩ : BufTy).Contents (Elt Ideal)}
variable {Z : Fin 16384 → Fin 2560 → EReal} {v n b : Fin 256 → EReal} {B : Fin 4 → Fin 128 → EReal}
  {A : Fin 3 → Fin 256 → EReal} {C : Fin 31 → Fin 256 → EReal}
variable (hZ : ∀ i, x0 i = Z (i 0) (i 1)) (hv : ∀ i, x1 i = v (i 0)) (hB : ∀ i, x3 i = B (i 0) (i 1))
  (hA : ∀ i, x4 i = A (i 0) (i 1)) (hC : ∀ i, x5 i = C (i 0) (i 1)) (hn : ∀ i, x6 i = n (i 0)) (hb' : ∀ i, x7 i = b (i 0))

include hZ in
theorem v49 (i) : val_main_v49 (F := Ideal) x0 i = pb Z (i 0) (i 1) := by
  pointwise [val_main_v49, val_main_v48, val_main_v47, val_main_v1]
  simp only [hZ]
  unfold pb
  congr 2
  · exact Fin.ext (by show 512 + (256 + (i 1).val) = 3 * 256 + (i 1).val; omega)
  · exact Fin.ext (by show 512 + (512 + (i 1).val) = 4 * 256 + (i 1).val; omega)

include hZ in
theorem v51 (i) : val_main_v51 (F := Ideal) x0 i = pad (pb Z) ((i 0).val + 30) (i 1) := by
  pointwise [val_main_v51, val_main_v50, val_main_cst_7]
  simp only [v49 hZ]
  have hi : (i 0).val < 16386 := (i 0).isLt
  by_cases h : (i 0).val < 2
  · exact (dif_pos h).trans (pad_lt _ (by omega) _).symm
  · refine (dif_neg h).trans (pad_at _ ⟨(i 0).val - 2, by omega⟩ ?_ _).symm
    show (i 0).val + 30 = (i 0).val - 2 + 32
    omega

include hZ hA in
/-- The short convolution. -/
theorem v72 (i) : val_main_v72 (F := Ideal) x0 x4 i = yb Z A (i 0) (i 1) := by
  pointwise [val_main_v52, val_main_v53, val_main_v54, val_main_v55, val_main_v56, val_main_v57, val_main_v58, val_main_v59, val_main_v60, val_main_v61,
    val_main_v62, val_main_v63, val_main_v64, val_main_v65, val_main_v66, val_main_v67, val_main_v68, val_main_v69, val_main_v70, val_main_v71,
    val_main_v72, val_main_v46, val_main_v1]
  simp only [v51 hZ, hZ, hA]
  unfold yb conv
  simp only [Fin.sum_univ_castSucc, Fin.sum_univ_zero, Fin.val_castSucc, Fin.val_last, zero_add]
  refine congrArg₂ (· * ·) (congrArg (Z (i 0)) ?_) rfl
  exact Fin.ext (by show 512 + (i 1).val = 2 * 256 + (i 1).val; omega)

include hZ in
theorem v81 (i) : val_main_v81 (F := Ideal) x0 i = hb Z (i 0) (i 1) := by
  pointwise [val_main_v73, val_main_v74, val_main_v75, val_main_v76, val_main_cst_8, val_main_v77, val_main_v78, val_main_cst_9, val_main_v79, val_main_v80,
    val_main_v81, val_main_v3]
  simp only [hZ]
  unfold hb
  refine congrArg₂ (· * ·) (congrArg (Z (i 0)) ?_) (congrArg sigm (congrArg (Z (i 0)) ?_))
  · exact Fin.ext (by show 2048 + (i 1).val = 8 * 256 + (i 1).val; omega)
  · exact Fin.ext (by show 2048 + (256 + (i 1).val) = 9 * 256 + (i 1).val; omega)

include hZ in
theorem v83 (i) : val_main_v83 (F := Ideal) x0 i = pad (hb Z) ((i 0).val + 2) (i 1) := by
  pointwise [val_main_v83, val_main_v82, val_main_cst_10]
  simp only [v81 hZ]
  have hi : (i 0).val < 16414 := (i 0).isLt
  by_cases h : (i 0).val < 30
  · exact (dif_pos h).trans (pad_lt _ (by omega) _).symm
  · refine (dif_neg h).trans (pad_at _ ⟨(i 0).val - 30, by omega⟩ ?_ _).symm
    show (i 0).val + 2 = (i 0).val - 30 + 32
    omega

include hZ hC in
/-- The long convolution. -/
theorem v299 (i) : val_main_v299 (F := Ideal) x0 x5 i = cc Z C (i 0) (i 1) := by
  pointwise [val_main_v84, val_main_v85, val_main_v86, val_main_v87, val_main_v88, val_main_v89, val_main_v90, val_main_v91, val_main_v92, val_main_v93,
    val_main_v94, val_main_v95, val_main_v96, val_main_v97, val_main_v98, val_main_v99, val_main_v100, val_main_v101, val_main_v102, val_main_v103,
    val_main_v104, val_main_v105, val_main_v106, val_main_v107, val_main_v108, val_main_v109, val_main_v110, val_main_v111, val_main_v112, val_main_v113,
    val_main_v114, val_main_v115, val_main_v116, val_main_v117, val_main_v118, val_main_v119, val_main_v120, val_main_v121, val_main_v122, val_main_v123,
    val_main_v124, val_main_v125, val_main_v126, val_main_v127, val_main_v128, val_main_v129, val_main_v130, val_main_v131, val_main_v132, val_main_v133,
    val_main_v134, val_main_v135, val_main_v136, val_main_v137, val_main_v138, val_main_v139, val_main_v140, val_main_v141, val_main_v142, val_main_v143,
    val_main_v144, val_main_v145, val_main_v146, val_main_v147, val_main_v148, val_main_v149, val_main_v150, val_main_v151, val_main_v152, val_main_v153,
    val_main_v154, val_main_v155, val_main_v156, val_main_v157, val_main_v158, val_main_v159, val_main_v160, val_main_v161, val_main_v162, val_main_v163,
    val_main_v164, val_main_v165, val_main_v166, val_main_v167, val_main_v168, val_main_v169, val_main_v170, val_main_v171, val_main_v172, val_main_v173,
    val_main_v174, val_main_v175, val_main_v176, val_main_v177, val_main_v178, val_main_v179, val_main_v180, val_main_v181, val_main_v182, val_main_v183,
    val_main_v184, val_main_v185, val_main_v186, val_main_v187, val_main_v188, val_main_v189, val_main_v190, val_main_v191, val_main_v192, val_main_v193,
    val_main_v194, val_main_v195, val_main_v196, val_main_v197, val_main_v198, val_main_v199, val_main_v200, val_main_v201, val_main_v202, val_main_v203,
    val_main_v204, val_main_v205, val_main_v206, val_main_v207, val_main_v208, val_main_v209, val_main_v210, val_main_v211, val_main_v212, val_main_v213,
    val_main_v214, val_main_v215, val_main_v216, val_main_v217, val_main_v218, val_main_v219, val_main_v220, val_main_v221, val_main_v222, val_main_v223,
    val_main_v224, val_main_v225, val_main_v226, val_main_v227, val_main_v228, val_main_v229, val_main_v230, val_main_v231, val_main_v232, val_main_v233,
    val_main_v234, val_main_v235, val_main_v236, val_main_v237, val_main_v238, val_main_v239, val_main_v240, val_main_v241, val_main_v242, val_main_v243,
    val_main_v244, val_main_v245, val_main_v246, val_main_v247, val_main_v248, val_main_v249, val_main_v250, val_main_v251, val_main_v252, val_main_v253,
    val_main_v254, val_main_v255, val_main_v256, val_main_v257, val_main_v258, val_main_v259, val_main_v260, val_main_v261, val_main_v262, val_main_v263,
    val_main_v264, val_main_v265, val_main_v266, val_main_v267, val_main_v268, val_main_v269, val_main_v270, val_main_v271, val_main_v272, val_main_v273,
    val_main_v274, val_main_v275, val_main_v276, val_main_v277, val_main_v278, val_main_v279, val_main_v280, val_main_v281, val_main_v282, val_main_v283,
    val_main_v284, val_main_v285, val_main_v286, val_main_v287, val_main_v288, val_main_v289, val_main_v290, val_main_v291, val_main_v292, val_main_v293,
    val_main_v294, val_main_v295, val_main_v296, val_main_v297, val_main_v298, val_main_v299]
  simp only [v83 hZ, hC]
  unfold cc conv
  simp only [Fin.sum_univ_castSucc, Fin.sum_univ_zero, Fin.val_castSucc, Fin.val_last, zero_add]
  rfl

theorem e549 : @val_main_v549 Ideal _ = val_main_v299 := rfl

include hZ hC hn hb' in
/-- The conformer's result. -/
theorem v322 (i) : val_main_v322 (F := Ideal) x0 x5 x6 x7 i = yd Z C n b (i 0) (i 1) := by
  pointwise [val_main_cst_11, val_main_v300, val_main_v301, val_main_cst_12, val_main_v302, val_main_v303, val_main_v304, val_main_v305, val_main_v306,
    val_main_cst_13, val_main_v307, val_main_v308, val_main_cst_14, val_main_v309, val_main_v310, val_main_cst_15, val_main_v311, val_main_v312,
    val_main_v313, val_main_v314, val_main_v315, val_main_v316, val_main_v317, val_main_v318, val_main_v319, val_main_v320, val_main_v321,
    val_main_call2_v0, val_main_call2_v1, val_main_call2_cst, val_main_call2_v2, val_main_call2_v3, val_main_call2_cst_0, val_main_call2_v4,
    val_main_call2_v5, val_main_v322]
  simp only [v299 hZ hC, hn, hb']
  rfl

include hZ in
theorem v16 (i) : val_main_v16 (F := Ideal) x0 i = gelu (Z (i 0) (Fin.castLE (by decide) (i 1))) := by
  pointwise [val_main_v4, val_main_v5, val_main_cst, val_main_v6, val_main_v7, val_main_v8, val_main_cst_0, val_main_v9, val_main_v10, val_main_v11,
    val_main_cst_1, val_main_v12, val_main_v13, val_main_cst_2, val_main_v14, val_main_v15, val_main_v16, val_main_v0]
  simp only [hZ]
  rfl

include hZ hv in
theorem v31 (i) : val_main_v31 (F := Ideal) x0 x1 i = vn Z v (i 0) (i 1) := by
  pointwise [val_main_v18, val_main_v19, val_main_cst_3, val_main_v20, val_main_v21, val_main_cst_4, val_main_v22, val_main_v23, val_main_cst_5, val_main_v24,
    val_main_v25, val_main_v26, val_main_v27, val_main_v28, val_main_v29, val_main_v30, val_main_v31]
  simp only [v16 hZ, hv]
  have e (r : Fin 16384) (j : Fin 256) (h : 256 + j.val < 2560) :
      Z r ⟨256 + j.val, h⟩ = Z r (band 1 j) := congrArg (Z r) (Fin.ext (by show 256 + j.val = 1 * 256 + j.val; omega))
  unfold vn scale
  exact congrArg₂ (fun a (c : Fin 256 → EReal) => gelu a * Ideal.rsqrt (Ideal.div (∑ k, gelu (c k) * gelu (c k))
    (Ideal.ofBits FTy.f32 1132462080#32) + Ideal.ofBits FTy.f32 897988541#32) * v (i 1)) (e _ _ _) (funext fun k => e _ _ _)

include hZ hv hB in
/-- The gating unit's result. -/
theorem v45 (i) : val_main_v45 (F := Ideal) x0 x1 x2 x3 i
    = ya Z v (fun h t s => val_main_v36 (F := Ideal) x2 (ix3 h t s)) B (i 0) (i 1) := by
  pointwise [val_main_v37, val_main_v38, val_main_v39, val_main_v40, val_main_v41, val_main_v42, val_main_v43, val_main_v44, val_main_v45, val_main_v32,
    val_main_v17]
  simp only [v16 hZ, v31 hZ hv, hB]
  unfold ya
  refine congrArg₂ (· * ·) (congrArg gelu (congrArg (Z (i 0)) (Fin.ext ?_))) (congrArg (· + B (hd (i 1)) (place (i 0))) (Fintype.sum_congr _ _ fun s => mul_comm _ _))
  show (i 1).val = 0 * 256 + (i 1).val
  omega

end Cert.MixfRef
-- ==== Proof.MixfClaim.lean ====
/- The mixing layer's forward claims: both programs' frames, and that the kernel's four results are the reference's. -/
module

public import proofs.«01_k».proof.Defs
public import proofs.«01_k».proof.Proof.MixfOut
public import proofs.«01_k».proof.Proof.MixfRef
public import proofs.«01_k».proof.Proof.Gen.ReferenceMixfIdeal.Run
public import proofs.«01_k».proof.Proof.Gen.KernelMixf.Frame

@[expose] public section

set_option maxRecDepth 16384

noncomputable section

open Idealize.ShloMosaic Idealize.ShloMosaic.TcCoe Idealize.SL.Sem

namespace Cert.MixfClaim

theorem kernel : quiescent_KernelMixf := fun m g _ => Cert.KernelMixf.Gen.frame m g
theorem kernelIdeal : quiescent_KernelMixfIdeal := fun m g _ => Cert.KernelMixfIdeal.Gen.frame m g
theorem reference : quiescent_ReferenceMixfIdeal := fun m g _ =>
  (θ_run Cert.ReferenceMixfIdeal.defs _ _).mono (fun r h => ⟨fun c => (h c).2.2.2.2, sem_eq_zero_of_no_sems rfl _⟩)
    (Cert.ReferenceMixfIdeal.Value.run m g)

/-- The argument arrays, entry by entry; the mixing weights as the reference keeps them. -/
theorem args (m : (ℓ : Loc Cert.KernelMixfIdeal.nD Cert.KernelMixfIdeal.τ Cert.KernelMixfIdeal.sig) → Buf (Elt Ideal) ℓ)
    (c : Dev Cert.KernelMixfIdeal.nD) : ∃ (Z : Fin 16384 → Fin 2560 → EReal) (v n b : Fin 256 → EReal) (B : Fin 4 → Fin 128 → EReal)
      (A : Fin 3 → Fin 256 → EReal) (C : Fin 31 → Fin 256 → EReal), Cert.MixfKernel.Args m c Z v n b (fun h i s =>
        Cert.ReferenceMixfIdeal.Read.val_main_v36 (F := Ideal) (m ((c : Thread Cert.KernelMixfIdeal.nD Cert.KernelMixfIdeal.τ).loc Cert.KernelMixfIdeal.main_arg2)) (ix3 h i s)) B A C :=
  ⟨_, _, _, _, _, _, _, fun _ _ => rfl, fun _ => rfl, fun _ _ _ => rfl, fun _ _ => rfl, fun _ _ => rfl, fun _ _ => rfl, fun _ => rfl, fun _ => rfl⟩

theorem algebraic : algebraic_KernelMixfIdeal_ReferenceMixfIdeal := by
  intro m g m' g' _ hagree
  refine ⟨_, _, _, _, Cert.KernelMixfIdeal.Value.run_blocks m g,
    (θ_run Cert.ReferenceMixfIdeal.defs _ _).mono (fun r h c => ?_) (Cert.ReferenceMixfIdeal.Value.run m' g')⟩
  obtain ⟨Z, v, n, b, B, A, C, ha⟩ := args m c
  obtain ⟨e0, e1, e2, e3, e4, e5, e6, e7⟩ := hagree c
  have f0 : StableHlo.launchContents m' c (Proc.tc.devRef Cert.ReferenceMixfIdeal.main_arg0) = m (c, Proc.tc.devRef Cert.KernelMixfIdeal.main_arg0) := e0
  have f1 : StableHlo.launchContents m' c (Proc.tc.devRef Cert.ReferenceMixfIdeal.main_arg1) = m (c, Proc.tc.devRef Cert.KernelMixfIdeal.main_arg1) := e1
  have f2 : StableHlo.launchContents m' c (Proc.tc.devRef Cert.ReferenceMixfIdeal.main_arg2) = m (c, Proc.tc.devRef Cert.KernelMixfIdeal.main_arg2) := e2
  have f3 : StableHlo.launchContents m' c (Proc.tc.devRef Cert.ReferenceMixfIdeal.main_arg3) = m (c, Proc.tc.devRef Cert.KernelMixfIdeal.main_arg3) := e3
  have f4 : StableHlo.launchContents m' c (Proc.tc.devRef Cert.ReferenceMixfIdeal.main_arg4) = m (c, Proc.tc.devRef Cert.KernelMixfIdeal.main_arg4) := e4
  have f5 : StableHlo.launchContents m' c (Proc.tc.devRef Cert.ReferenceMixfIdeal.main_arg5) = m (c, Proc.tc.devRef Cert.KernelMixfIdeal.main_arg5) := e5
  have f6 : StableHlo.launchContents m' c (Proc.tc.devRef Cert.ReferenceMixfIdeal.main_arg6) = m (c, Proc.tc.devRef Cert.KernelMixfIdeal.main_arg6) := e6
  have f7 : StableHlo.launchContents m' c (Proc.tc.devRef Cert.ReferenceMixfIdeal.main_arg7) = m (c, Proc.tc.devRef Cert.KernelMixfIdeal.main_arg7) := e7
  have hZ : ∀ i, m (c, Proc.tc.devRef Cert.KernelMixfIdeal.main_arg0) i = Z (i 0) (i 1) := fun i => by idx_vars i; exact ha.z _ _
  have hv : ∀ i, m (c, Proc.tc.devRef Cert.KernelMixfIdeal.main_arg1) i = v (i 0) := fun i => by idx_vars i; exact ha.v _
  have hB : ∀ i, m (c, Proc.tc.devRef Cert.KernelMixfIdeal.main_arg3) i = B (i 0) (i 1) := fun i => by idx_vars i; exact ha.bs _ _
  have hA : ∀ i, m (c, Proc.tc.devRef Cert.KernelMixfIdeal.main_arg4) i = A (i 0) (i 1) := fun i => by idx_vars i; exact ha.a _ _
  have hC : ∀ i, m (c, Proc.tc.devRef Cert.KernelMixfIdeal.main_arg5) i = C (i 0) (i 1) := fun i => by idx_vars i; exact ha.cv _ _
  have hn : ∀ i, m (c, Proc.tc.devRef Cert.KernelMixfIdeal.main_arg6) i = n (i 0) := fun i => by idx_vars i; exact ha.n _
  have hb : ∀ i, m (c, Proc.tc.devRef Cert.KernelMixfIdeal.main_arg7) i = b (i 0) := fun i => by idx_vars i; exact ha.lb _
  refine ⟨(h c).1.trans ?_, (h c).2.1.trans ?_, (h c).2.2.1.trans ?_, (h c).2.2.2.1.trans ?_, (h c).2.2.2.2⟩
  · rw [Cert.ReferenceMixfIdeal.Read.val_main_v45_eq, f0, f1, f2, f3]
    refine Eq.trans ?_ (Cert.MixfKernel.final9 ha).symm
    funext i
    exact Cert.MixfRef.v45 hZ hv hB _
  · rw [Cert.ReferenceMixfIdeal.Read.val_main_v72_eq, f0, f4]
    refine Eq.trans ?_ (Cert.MixfKernel.final10 ha).symm
    funext i
    exact Cert.MixfRef.v72 hZ hA _
  · rw [Cert.ReferenceMixfIdeal.Read.val_main_v322_eq, f0, f5, f6, f7]
    refine Eq.trans ?_ (Cert.MixfKernel.final11 ha).symm
    funext i
    exact Cert.MixfRef.v322 hZ hC hn hb _
  · rw [Cert.ReferenceMixfIdeal.Read.val_main_v549_eq, f0, f5]
    refine Eq.trans ?_ (Cert.MixfKernel.final12 ha).symm
    funext i
    exact Cert.MixfRef.v299 hZ hC _

end Cert.MixfClaim

end
-- ==== Proof.lean ====
/- The claims of this directory, each proved in the module of its call. -/
module

public import proofs.«01_k».proof.Defs
public import proofs.«01_k».proof.Proof.LossClaim
public import proofs.«01_k».proof.Proof.InpClaim
public import proofs.«01_k».proof.Proof.FfnClaim
public import proofs.«01_k».proof.Proof.OutClaim
public import proofs.«01_k».proof.Proof.AttnClaim
public import proofs.«01_k».proof.Proof.AttnfClaim
public import proofs.«01_k».proof.Proof.InpfClaim
public import proofs.«01_k».proof.Proof.OutfClaim
public import proofs.«01_k».proof.Proof.FfnfClaim
public import proofs.«01_k».proof.Proof.MixfClaim

@[expose] public section

namespace Cert.Proof

theorem claim : Cert.Claim :=
  ⟨Cert.KernelLoss.Gen.facts,
    Cert.KernelLossIdeal.Gen.facts,
    Cert.ReferenceLossIdeal.Gen.facts,
    Cert.KernelInp.Gen.facts,
    Cert.KernelInpIdeal.Gen.facts,
    Cert.ReferenceInpIdeal.Gen.facts,
    Cert.KernelFfn.Gen.facts,
    Cert.KernelFfnIdeal.Gen.facts,
    Cert.ReferenceFfnIdeal.Gen.facts,
    Cert.KernelOut.Gen.facts,
    Cert.KernelOutIdeal.Gen.facts,
    Cert.ReferenceOutIdeal.Gen.facts,
    Cert.KernelAttn.Gen.facts,
    Cert.KernelAttnIdeal.Gen.facts,
    Cert.ReferenceAttnIdeal.Gen.facts,
    Cert.KernelAttnf.Gen.facts,
    Cert.KernelAttnfIdeal.Gen.facts,
    Cert.ReferenceAttnfIdeal.Gen.facts,
    Cert.KernelInpf.Gen.facts,
    Cert.KernelInpfIdeal.Gen.facts,
    Cert.ReferenceInpfIdeal.Gen.facts,
    Cert.KernelOutf.Gen.facts,
    Cert.KernelOutfIdeal.Gen.facts,
    Cert.ReferenceOutfIdeal.Gen.facts,
    Cert.KernelFfnf.Gen.facts,
    Cert.KernelFfnfIdeal.Gen.facts,
    Cert.ReferenceFfnfIdeal.Gen.facts,
    Cert.KernelMixf.Gen.facts,
    Cert.KernelMixfIdeal.Gen.facts,
    Cert.ReferenceMixfIdeal.Gen.facts,
    Cert.Pre_finite_loss.Gen.facts,
    Cert.Pre_finite_inp.Gen.facts,
    Cert.Pre_finite_ffn.Gen.facts,
    Cert.Pre_finite_out.Gen.facts,
    Cert.Pre_finite_attn.Gen.facts,
    Cert.Pre_finite_attnf.Gen.facts,
    Cert.LossClaim.kernel,
    Cert.LossClaim.kernelIdeal,
    Cert.LossClaim.kernelIdeal_pre,
    Cert.LossClaim.reference,
    Cert.LossClaim.reference_pre,
    Cert.InpClaim.kernel,
    Cert.InpClaim.kernelIdeal,
    Cert.InpClaim.kernelIdeal_pre,
    Cert.InpClaim.reference,
    Cert.InpClaim.reference_pre,
    Cert.FfnClaim.kernel,
    Cert.FfnClaim.kernelIdeal,
    Cert.FfnClaim.kernelIdeal_pre,
    Cert.FfnClaim.reference,
    Cert.FfnClaim.reference_pre,
    Cert.OutClaim.kernel,
    Cert.OutClaim.kernelIdeal,
    Cert.OutClaim.kernelIdeal_pre,
    Cert.OutClaim.reference,
    Cert.OutClaim.reference_pre,
    Cert.AttnClaim.kernel,
    Cert.AttnClaim.kernelIdeal,
    Cert.AttnClaim.kernelIdeal_pre,
    Cert.AttnClaim.reference,
    Cert.AttnClaim.reference_pre,
    Cert.AttnfClaim.kernel,
    Cert.AttnfClaim.kernelIdeal,
    Cert.AttnfClaim.kernelIdeal_pre,
    Cert.AttnfClaim.reference,
    Cert.AttnfClaim.reference_pre,
    Cert.InpfClaim.kernel,
    Cert.InpfClaim.kernelIdeal,
    Cert.InpfClaim.reference,
    Cert.OutfClaim.kernel,
    Cert.OutfClaim.kernelIdeal,
    Cert.OutfClaim.reference,
    Cert.FfnfClaim.kernel,
    Cert.FfnfClaim.kernelIdeal,
    Cert.FfnfClaim.reference,
    Cert.MixfClaim.kernel,
    Cert.MixfClaim.kernelIdeal,
    Cert.MixfClaim.reference,
    trivial,
    Cert.LossClaim.algebraic,
    trivial,
    Cert.InpClaim.algebraic,
    trivial,
    Cert.FfnClaim.algebraic,
    trivial,
    Cert.OutClaim.algebraic,
    Cert.AttnClaim.preserves,
    Cert.AttnClaim.algebraic,
    Cert.AttnfClaim.preserves,
    Cert.AttnfClaim.algebraic,
    trivial,
    Cert.InpfClaim.algebraic,
    trivial,
    Cert.OutfClaim.algebraic,
    trivial,
    Cert.FfnfClaim.algebraic,
    trivial,
    Cert.MixfClaim.algebraic⟩

end Cert.Proof

end
